-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite [hPre_finite : Cert.Pre_finite.Facts] (m : (ℓ : Loc Cert.FfnIdeal.nD Cert.FfnIdeal.τ Cert.FfnIdeal.sig) → Buf (Elt Ideal) ℓ) : Prop :=
  ∀ c : Dev Cert.FfnIdeal.nD,
    (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite [hPre_finite : Cert.Pre_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2 = (fun _ => 1#1)

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguIdeal_finite_sgu [hPre_finite_sgu : Cert.Pre_finite_sgu.Facts] (m : (ℓ : Loc Cert.SguIdeal.nD Cert.SguIdeal.τ Cert.SguIdeal.sig) → Buf (Elt Ideal) ℓ) : Prop :=
  ∀ c : Dev Cert.SguIdeal.nD,
    (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6)) (m ((c.tc : Thread Cert.SguIdeal.nD Cert.SguIdeal.τ).loc Cert.SguIdeal.main_arg7)) (m ((c.tc : Thread Cert.SguIdeal.nD Cert.SguIdeal.τ).loc Cert.SguIdeal.main_arg8)) (m ((c.tc : Thread Cert.SguIdeal.nD Cert.SguIdeal.τ).loc Cert.SguIdeal.main_arg9)) (m ((c.tc : Thread Cert.SguIdeal.nD Cert.SguIdeal.τ).loc Cert.SguIdeal.main_arg10)) (m ((c.tc : Thread Cert.SguIdeal.nD Cert.SguIdeal.τ).loc Cert.SguIdeal.main_arg11)) (m ((c.tc : Thread Cert.SguIdeal.nD Cert.SguIdeal.τ).loc Cert.SguIdeal.main_arg12)) (m ((c.tc : Thread Cert.SguIdeal.nD Cert.SguIdeal.τ).loc Cert.SguIdeal.main_arg13))).1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6)) (m ((c.tc : Thread Cert.SguIdeal.nD Cert.SguIdeal.τ).loc Cert.SguIdeal.main_arg7)) (m ((c.tc : Thread Cert.SguIdeal.nD Cert.SguIdeal.τ).loc Cert.SguIdeal.main_arg8)) (m ((c.tc : Thread Cert.SguIdeal.nD Cert.SguIdeal.τ).loc Cert.SguIdeal.main_arg9)) (m ((c.tc : Thread Cert.SguIdeal.nD Cert.SguIdeal.τ).loc Cert.SguIdeal.main_arg10)) (m ((c.tc : Thread Cert.SguIdeal.nD Cert.SguIdeal.τ).loc Cert.SguIdeal.main_arg11)) (m ((c.tc : Thread Cert.SguIdeal.nD Cert.SguIdeal.τ).loc Cert.SguIdeal.main_arg12)) (m ((c.tc : Thread Cert.SguIdeal.nD Cert.SguIdeal.τ).loc Cert.SguIdeal.main_arg13))).2.1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6)) (m ((c.tc : Thread Cert.SguIdeal.nD Cert.SguIdeal.τ).loc Cert.SguIdeal.main_arg7)) (m ((c.tc : Thread Cert.SguIdeal.nD Cert.SguIdeal.τ).loc Cert.SguIdeal.main_arg8)) (m ((c.tc : Thread Cert.SguIdeal.nD Cert.SguIdeal.τ).loc Cert.SguIdeal.main_arg9)) (m ((c.tc : Thread Cert.SguIdeal.nD Cert.SguIdeal.τ).loc Cert.SguIdeal.main_arg10)) (m ((c.tc : Thread Cert.SguIdeal.nD Cert.SguIdeal.τ).loc Cert.SguIdeal.main_arg11)) (m ((c.tc : Thread Cert.SguIdeal.nD Cert.SguIdeal.τ).loc Cert.SguIdeal.main_arg12)) (m ((c.tc : Thread Cert.SguIdeal.nD Cert.SguIdeal.τ).loc Cert.SguIdeal.main_arg13))).2.2.1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6)) (m ((c.tc : Thread Cert.SguIdeal.nD Cert.SguIdeal.τ).loc Cert.SguIdeal.main_arg7)) (m ((c.tc : Thread Cert.SguIdeal.nD Cert.SguIdeal.τ).loc Cert.SguIdeal.main_arg8)) (m ((c.tc : Thread Cert.SguIdeal.nD Cert.SguIdeal.τ).loc Cert.SguIdeal.main_arg9)) (m ((c.tc : Thread Cert.SguIdeal.nD Cert.SguIdeal.τ).loc Cert.SguIdeal.main_arg10)) (m ((c.tc : Thread Cert.SguIdeal.nD Cert.SguIdeal.τ).loc Cert.SguIdeal.main_arg11)) (m ((c.tc : Thread Cert.SguIdeal.nD Cert.SguIdeal.τ).loc Cert.SguIdeal.main_arg12)) (m ((c.tc : Thread Cert.SguIdeal.nD Cert.SguIdeal.τ).loc Cert.SguIdeal.main_arg13))).2.2.2.1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6)) (m ((c.tc : Thread Cert.SguIdeal.nD Cert.SguIdeal.τ).loc Cert.SguIdeal.main_arg7)) (m ((c.tc : Thread Cert.SguIdeal.nD Cert.SguIdeal.τ).loc Cert.SguIdeal.main_arg8)) (m ((c.tc : Thread Cert.SguIdeal.nD Cert.SguIdeal.τ).loc Cert.SguIdeal.main_arg9)) (m ((c.tc : Thread Cert.SguIdeal.nD Cert.SguIdeal.τ).loc Cert.SguIdeal.main_arg10)) (m ((c.tc : Thread Cert.SguIdeal.nD Cert.SguIdeal.τ).loc Cert.SguIdeal.main_arg11)) (m ((c.tc : Thread Cert.SguIdeal.nD Cert.SguIdeal.τ).loc Cert.SguIdeal.main_arg12)) (m ((c.tc : Thread Cert.SguIdeal.nD Cert.SguIdeal.τ).loc Cert.SguIdeal.main_arg13))).2.2.2.2.1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6)) (m ((c.tc : Thread Cert.SguIdeal.nD Cert.SguIdeal.τ).loc Cert.SguIdeal.main_arg7)) (m ((c.tc : Thread Cert.SguIdeal.nD Cert.SguIdeal.τ).loc Cert.SguIdeal.main_arg8)) (m ((c.tc : Thread Cert.SguIdeal.nD Cert.SguIdeal.τ).loc Cert.SguIdeal.main_arg9)) (m ((c.tc : Thread Cert.SguIdeal.nD Cert.SguIdeal.τ).loc Cert.SguIdeal.main_arg10)) (m ((c.tc : Thread Cert.SguIdeal.nD Cert.SguIdeal.τ).loc Cert.SguIdeal.main_arg11)) (m ((c.tc : Thread Cert.SguIdeal.nD Cert.SguIdeal.τ).loc Cert.SguIdeal.main_arg12)) (m ((c.tc : Thread Cert.SguIdeal.nD Cert.SguIdeal.τ).loc Cert.SguIdeal.main_arg13))).2.2.2.2.2.1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6)) (m ((c.tc : Thread Cert.SguIdeal.nD Cert.SguIdeal.τ).loc Cert.SguIdeal.main_arg7)) (m ((c.tc : Thread Cert.SguIdeal.nD Cert.SguIdeal.τ).loc Cert.SguIdeal.main_arg8)) (m ((c.tc : Thread Cert.SguIdeal.nD Cert.SguIdeal.τ).loc Cert.SguIdeal.main_arg9)) (m ((c.tc : Thread Cert.SguIdeal.nD Cert.SguIdeal.τ).loc Cert.SguIdeal.main_arg10)) (m ((c.tc : Thread Cert.SguIdeal.nD Cert.SguIdeal.τ).loc Cert.SguIdeal.main_arg11)) (m ((c.tc : Thread Cert.SguIdeal.nD Cert.SguIdeal.τ).loc Cert.SguIdeal.main_arg12)) (m ((c.tc : Thread Cert.SguIdeal.nD Cert.SguIdeal.τ).loc Cert.SguIdeal.main_arg13))).2.2.2.2.2.2.1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6)) (m ((c.tc : Thread Cert.SguIdeal.nD Cert.SguIdeal.τ).loc Cert.SguIdeal.main_arg7)) (m ((c.tc : Thread Cert.SguIdeal.nD Cert.SguIdeal.τ).loc Cert.SguIdeal.main_arg8)) (m ((c.tc : Thread Cert.SguIdeal.nD Cert.SguIdeal.τ).loc Cert.SguIdeal.main_arg9)) (m ((c.tc : Thread Cert.SguIdeal.nD Cert.SguIdeal.τ).loc Cert.SguIdeal.main_arg10)) (m ((c.tc : Thread Cert.SguIdeal.nD Cert.SguIdeal.τ).loc Cert.SguIdeal.main_arg11)) (m ((c.tc : Thread Cert.SguIdeal.nD Cert.SguIdeal.τ).loc Cert.SguIdeal.main_arg12)) (m ((c.tc : Thread Cert.SguIdeal.nD Cert.SguIdeal.τ).loc Cert.SguIdeal.main_arg13))).2.2.2.2.2.2.2.1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6)) (m ((c.tc : Thread Cert.SguIdeal.nD Cert.SguIdeal.τ).loc Cert.SguIdeal.main_arg7)) (m ((c.tc : Thread Cert.SguIdeal.nD Cert.SguIdeal.τ).loc Cert.SguIdeal.main_arg8)) (m ((c.tc : Thread Cert.SguIdeal.nD Cert.SguIdeal.τ).loc Cert.SguIdeal.main_arg9)) (m ((c.tc : Thread Cert.SguIdeal.nD Cert.SguIdeal.τ).loc Cert.SguIdeal.main_arg10)) (m ((c.tc : Thread Cert.SguIdeal.nD Cert.SguIdeal.τ).loc Cert.SguIdeal.main_arg11)) (m ((c.tc : Thread Cert.SguIdeal.nD Cert.SguIdeal.τ).loc Cert.SguIdeal.main_arg12)) (m ((c.tc : Thread Cert.SguIdeal.nD Cert.SguIdeal.τ).loc Cert.SguIdeal.main_arg13))).2.2.2.2.2.2.2.2.1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6)) (m ((c.tc : Thread Cert.SguIdeal.nD Cert.SguIdeal.τ).loc Cert.SguIdeal.main_arg7)) (m ((c.tc : Thread Cert.SguIdeal.nD Cert.SguIdeal.τ).loc Cert.SguIdeal.main_arg8)) (m ((c.tc : Thread Cert.SguIdeal.nD Cert.SguIdeal.τ).loc Cert.SguIdeal.main_arg9)) (m ((c.tc : Thread Cert.SguIdeal.nD Cert.SguIdeal.τ).loc Cert.SguIdeal.main_arg10)) (m ((c.tc : Thread Cert.SguIdeal.nD Cert.SguIdeal.τ).loc Cert.SguIdeal.main_arg11)) (m ((c.tc : Thread Cert.SguIdeal.nD Cert.SguIdeal.τ).loc Cert.SguIdeal.main_arg12)) (m ((c.tc : Thread Cert.SguIdeal.nD Cert.SguIdeal.τ).loc Cert.SguIdeal.main_arg13))).2.2.2.2.2.2.2.2.2.1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6)) (m ((c.tc : Thread Cert.SguIdeal.nD Cert.SguIdeal.τ).loc Cert.SguIdeal.main_arg7)) (m ((c.tc : Thread Cert.SguIdeal.nD Cert.SguIdeal.τ).loc Cert.SguIdeal.main_arg8)) (m ((c.tc : Thread Cert.SguIdeal.nD Cert.SguIdeal.τ).loc Cert.SguIdeal.main_arg9)) (m ((c.tc : Thread Cert.SguIdeal.nD Cert.SguIdeal.τ).loc Cert.SguIdeal.main_arg10)) (m ((c.tc : Thread Cert.SguIdeal.nD Cert.SguIdeal.τ).loc Cert.SguIdeal.main_arg11)) (m ((c.tc : Thread Cert.SguIdeal.nD Cert.SguIdeal.τ).loc Cert.SguIdeal.main_arg12)) (m ((c.tc : Thread Cert.SguIdeal.nD Cert.SguIdeal.τ).loc Cert.SguIdeal.main_arg13))).2.2.2.2.2.2.2.2.2.2.1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6)) (m ((c.tc : Thread Cert.SguIdeal.nD Cert.SguIdeal.τ).loc Cert.SguIdeal.main_arg7)) (m ((c.tc : Thread Cert.SguIdeal.nD Cert.SguIdeal.τ).loc Cert.SguIdeal.main_arg8)) (m ((c.tc : Thread Cert.SguIdeal.nD Cert.SguIdeal.τ).loc Cert.SguIdeal.main_arg9)) (m ((c.tc : Thread Cert.SguIdeal.nD Cert.SguIdeal.τ).loc Cert.SguIdeal.main_arg10)) (m ((c.tc : Thread Cert.SguIdeal.nD Cert.SguIdeal.τ).loc Cert.SguIdeal.main_arg11)) (m ((c.tc : Thread Cert.SguIdeal.nD Cert.SguIdeal.τ).loc Cert.SguIdeal.main_arg12)) (m ((c.tc : Thread Cert.SguIdeal.nD Cert.SguIdeal.τ).loc Cert.SguIdeal.main_arg13))).2.2.2.2.2.2.2.2.2.2.2.1 = (fun _ => 1#1)
    ∧ (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6)) (m ((c.tc : Thread Cert.SguIdeal.nD Cert.SguIdeal.τ).loc Cert.SguIdeal.main_arg7)) (m ((c.tc : Thread Cert.SguIdeal.nD Cert.SguIdeal.τ).loc Cert.SguIdeal.main_arg8)) (m ((c.tc : Thread Cert.SguIdeal.nD Cert.SguIdeal.τ).loc Cert.SguIdeal.main_arg9)) (m ((c.tc : Thread Cert.SguIdeal.nD Cert.SguIdeal.τ).loc Cert.SguIdeal.main_arg10)) (m ((c.tc : Thread Cert.SguIdeal.nD Cert.SguIdeal.τ).loc Cert.SguIdeal.main_arg11)) (m ((c.tc : Thread Cert.SguIdeal.nD Cert.SguIdeal.τ).loc Cert.SguIdeal.main_arg12)) (m ((c.tc : Thread Cert.SguIdeal.nD Cert.SguIdeal.τ).loc Cert.SguIdeal.main_arg13))).2.2.2.2.2.2.2.2.2.2.2.2 = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_finite_sgu [hPre_finite_sgu : Cert.Pre_finite_sgu.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6)) (m ((c.tc : Thread Cert.SguRefIdeal.nD Cert.SguRefIdeal.τ).loc Cert.SguRefIdeal.main_arg7)) (m ((c.tc : Thread Cert.SguRefIdeal.nD Cert.SguRefIdeal.τ).loc Cert.SguRefIdeal.main_arg8)) (m ((c.tc : Thread Cert.SguRefIdeal.nD Cert.SguRefIdeal.τ).loc Cert.SguRefIdeal.main_arg9)) (m ((c.tc : Thread Cert.SguRefIdeal.nD Cert.SguRefIdeal.τ).loc Cert.SguRefIdeal.main_arg10)) (m ((c.tc : Thread Cert.SguRefIdeal.nD Cert.SguRefIdeal.τ).loc Cert.SguRefIdeal.main_arg11)) (m ((c.tc : Thread Cert.SguRefIdeal.nD Cert.SguRefIdeal.τ).loc Cert.SguRefIdeal.main_arg12)) (m ((c.tc : Thread Cert.SguRefIdeal.nD Cert.SguRefIdeal.τ).loc Cert.SguRefIdeal.main_arg13))).1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6)) (m ((c.tc : Thread Cert.SguRefIdeal.nD Cert.SguRefIdeal.τ).loc Cert.SguRefIdeal.main_arg7)) (m ((c.tc : Thread Cert.SguRefIdeal.nD Cert.SguRefIdeal.τ).loc Cert.SguRefIdeal.main_arg8)) (m ((c.tc : Thread Cert.SguRefIdeal.nD Cert.SguRefIdeal.τ).loc Cert.SguRefIdeal.main_arg9)) (m ((c.tc : Thread Cert.SguRefIdeal.nD Cert.SguRefIdeal.τ).loc Cert.SguRefIdeal.main_arg10)) (m ((c.tc : Thread Cert.SguRefIdeal.nD Cert.SguRefIdeal.τ).loc Cert.SguRefIdeal.main_arg11)) (m ((c.tc : Thread Cert.SguRefIdeal.nD Cert.SguRefIdeal.τ).loc Cert.SguRefIdeal.main_arg12)) (m ((c.tc : Thread Cert.SguRefIdeal.nD Cert.SguRefIdeal.τ).loc Cert.SguRefIdeal.main_arg13))).2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6)) (m ((c.tc : Thread Cert.SguRefIdeal.nD Cert.SguRefIdeal.τ).loc Cert.SguRefIdeal.main_arg7)) (m ((c.tc : Thread Cert.SguRefIdeal.nD Cert.SguRefIdeal.τ).loc Cert.SguRefIdeal.main_arg8)) (m ((c.tc : Thread Cert.SguRefIdeal.nD Cert.SguRefIdeal.τ).loc Cert.SguRefIdeal.main_arg9)) (m ((c.tc : Thread Cert.SguRefIdeal.nD Cert.SguRefIdeal.τ).loc Cert.SguRefIdeal.main_arg10)) (m ((c.tc : Thread Cert.SguRefIdeal.nD Cert.SguRefIdeal.τ).loc Cert.SguRefIdeal.main_arg11)) (m ((c.tc : Thread Cert.SguRefIdeal.nD Cert.SguRefIdeal.τ).loc Cert.SguRefIdeal.main_arg12)) (m ((c.tc : Thread Cert.SguRefIdeal.nD Cert.SguRefIdeal.τ).loc Cert.SguRefIdeal.main_arg13))).2.2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6)) (m ((c.tc : Thread Cert.SguRefIdeal.nD Cert.SguRefIdeal.τ).loc Cert.SguRefIdeal.main_arg7)) (m ((c.tc : Thread Cert.SguRefIdeal.nD Cert.SguRefIdeal.τ).loc Cert.SguRefIdeal.main_arg8)) (m ((c.tc : Thread Cert.SguRefIdeal.nD Cert.SguRefIdeal.τ).loc Cert.SguRefIdeal.main_arg9)) (m ((c.tc : Thread Cert.SguRefIdeal.nD Cert.SguRefIdeal.τ).loc Cert.SguRefIdeal.main_arg10)) (m ((c.tc : Thread Cert.SguRefIdeal.nD Cert.SguRefIdeal.τ).loc Cert.SguRefIdeal.main_arg11)) (m ((c.tc : Thread Cert.SguRefIdeal.nD Cert.SguRefIdeal.τ).loc Cert.SguRefIdeal.main_arg12)) (m ((c.tc : Thread Cert.SguRefIdeal.nD Cert.SguRefIdeal.τ).loc Cert.SguRefIdeal.main_arg13))).2.2.2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6)) (m ((c.tc : Thread Cert.SguRefIdeal.nD Cert.SguRefIdeal.τ).loc Cert.SguRefIdeal.main_arg7)) (m ((c.tc : Thread Cert.SguRefIdeal.nD Cert.SguRefIdeal.τ).loc Cert.SguRefIdeal.main_arg8)) (m ((c.tc : Thread Cert.SguRefIdeal.nD Cert.SguRefIdeal.τ).loc Cert.SguRefIdeal.main_arg9)) (m ((c.tc : Thread Cert.SguRefIdeal.nD Cert.SguRefIdeal.τ).loc Cert.SguRefIdeal.main_arg10)) (m ((c.tc : Thread Cert.SguRefIdeal.nD Cert.SguRefIdeal.τ).loc Cert.SguRefIdeal.main_arg11)) (m ((c.tc : Thread Cert.SguRefIdeal.nD Cert.SguRefIdeal.τ).loc Cert.SguRefIdeal.main_arg12)) (m ((c.tc : Thread Cert.SguRefIdeal.nD Cert.SguRefIdeal.τ).loc Cert.SguRefIdeal.main_arg13))).2.2.2.2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6)) (m ((c.tc : Thread Cert.SguRefIdeal.nD Cert.SguRefIdeal.τ).loc Cert.SguRefIdeal.main_arg7)) (m ((c.tc : Thread Cert.SguRefIdeal.nD Cert.SguRefIdeal.τ).loc Cert.SguRefIdeal.main_arg8)) (m ((c.tc : Thread Cert.SguRefIdeal.nD Cert.SguRefIdeal.τ).loc Cert.SguRefIdeal.main_arg9)) (m ((c.tc : Thread Cert.SguRefIdeal.nD Cert.SguRefIdeal.τ).loc Cert.SguRefIdeal.main_arg10)) (m ((c.tc : Thread Cert.SguRefIdeal.nD Cert.SguRefIdeal.τ).loc Cert.SguRefIdeal.main_arg11)) (m ((c.tc : Thread Cert.SguRefIdeal.nD Cert.SguRefIdeal.τ).loc Cert.SguRefIdeal.main_arg12)) (m ((c.tc : Thread Cert.SguRefIdeal.nD Cert.SguRefIdeal.τ).loc Cert.SguRefIdeal.main_arg13))).2.2.2.2.2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6)) (m ((c.tc : Thread Cert.SguRefIdeal.nD Cert.SguRefIdeal.τ).loc Cert.SguRefIdeal.main_arg7)) (m ((c.tc : Thread Cert.SguRefIdeal.nD Cert.SguRefIdeal.τ).loc Cert.SguRefIdeal.main_arg8)) (m ((c.tc : Thread Cert.SguRefIdeal.nD Cert.SguRefIdeal.τ).loc Cert.SguRefIdeal.main_arg9)) (m ((c.tc : Thread Cert.SguRefIdeal.nD Cert.SguRefIdeal.τ).loc Cert.SguRefIdeal.main_arg10)) (m ((c.tc : Thread Cert.SguRefIdeal.nD Cert.SguRefIdeal.τ).loc Cert.SguRefIdeal.main_arg11)) (m ((c.tc : Thread Cert.SguRefIdeal.nD Cert.SguRefIdeal.τ).loc Cert.SguRefIdeal.main_arg12)) (m ((c.tc : Thread Cert.SguRefIdeal.nD Cert.SguRefIdeal.τ).loc Cert.SguRefIdeal.main_arg13))).2.2.2.2.2.2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6)) (m ((c.tc : Thread Cert.SguRefIdeal.nD Cert.SguRefIdeal.τ).loc Cert.SguRefIdeal.main_arg7)) (m ((c.tc : Thread Cert.SguRefIdeal.nD Cert.SguRefIdeal.τ).loc Cert.SguRefIdeal.main_arg8)) (m ((c.tc : Thread Cert.SguRefIdeal.nD Cert.SguRefIdeal.τ).loc Cert.SguRefIdeal.main_arg9)) (m ((c.tc : Thread Cert.SguRefIdeal.nD Cert.SguRefIdeal.τ).loc Cert.SguRefIdeal.main_arg10)) (m ((c.tc : Thread Cert.SguRefIdeal.nD Cert.SguRefIdeal.τ).loc Cert.SguRefIdeal.main_arg11)) (m ((c.tc : Thread Cert.SguRefIdeal.nD Cert.SguRefIdeal.τ).loc Cert.SguRefIdeal.main_arg12)) (m ((c.tc : Thread Cert.SguRefIdeal.nD Cert.SguRefIdeal.τ).loc Cert.SguRefIdeal.main_arg13))).2.2.2.2.2.2.2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6)) (m ((c.tc : Thread Cert.SguRefIdeal.nD Cert.SguRefIdeal.τ).loc Cert.SguRefIdeal.main_arg7)) (m ((c.tc : Thread Cert.SguRefIdeal.nD Cert.SguRefIdeal.τ).loc Cert.SguRefIdeal.main_arg8)) (m ((c.tc : Thread Cert.SguRefIdeal.nD Cert.SguRefIdeal.τ).loc Cert.SguRefIdeal.main_arg9)) (m ((c.tc : Thread Cert.SguRefIdeal.nD Cert.SguRefIdeal.τ).loc Cert.SguRefIdeal.main_arg10)) (m ((c.tc : Thread Cert.SguRefIdeal.nD Cert.SguRefIdeal.τ).loc Cert.SguRefIdeal.main_arg11)) (m ((c.tc : Thread Cert.SguRefIdeal.nD Cert.SguRefIdeal.τ).loc Cert.SguRefIdeal.main_arg12)) (m ((c.tc : Thread Cert.SguRefIdeal.nD Cert.SguRefIdeal.τ).loc Cert.SguRefIdeal.main_arg13))).2.2.2.2.2.2.2.2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6)) (m ((c.tc : Thread Cert.SguRefIdeal.nD Cert.SguRefIdeal.τ).loc Cert.SguRefIdeal.main_arg7)) (m ((c.tc : Thread Cert.SguRefIdeal.nD Cert.SguRefIdeal.τ).loc Cert.SguRefIdeal.main_arg8)) (m ((c.tc : Thread Cert.SguRefIdeal.nD Cert.SguRefIdeal.τ).loc Cert.SguRefIdeal.main_arg9)) (m ((c.tc : Thread Cert.SguRefIdeal.nD Cert.SguRefIdeal.τ).loc Cert.SguRefIdeal.main_arg10)) (m ((c.tc : Thread Cert.SguRefIdeal.nD Cert.SguRefIdeal.τ).loc Cert.SguRefIdeal.main_arg11)) (m ((c.tc : Thread Cert.SguRefIdeal.nD Cert.SguRefIdeal.τ).loc Cert.SguRefIdeal.main_arg12)) (m ((c.tc : Thread Cert.SguRefIdeal.nD Cert.SguRefIdeal.τ).loc Cert.SguRefIdeal.main_arg13))).2.2.2.2.2.2.2.2.2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6)) (m ((c.tc : Thread Cert.SguRefIdeal.nD Cert.SguRefIdeal.τ).loc Cert.SguRefIdeal.main_arg7)) (m ((c.tc : Thread Cert.SguRefIdeal.nD Cert.SguRefIdeal.τ).loc Cert.SguRefIdeal.main_arg8)) (m ((c.tc : Thread Cert.SguRefIdeal.nD Cert.SguRefIdeal.τ).loc Cert.SguRefIdeal.main_arg9)) (m ((c.tc : Thread Cert.SguRefIdeal.nD Cert.SguRefIdeal.τ).loc Cert.SguRefIdeal.main_arg10)) (m ((c.tc : Thread Cert.SguRefIdeal.nD Cert.SguRefIdeal.τ).loc Cert.SguRefIdeal.main_arg11)) (m ((c.tc : Thread Cert.SguRefIdeal.nD Cert.SguRefIdeal.τ).loc Cert.SguRefIdeal.main_arg12)) (m ((c.tc : Thread Cert.SguRefIdeal.nD Cert.SguRefIdeal.τ).loc Cert.SguRefIdeal.main_arg13))).2.2.2.2.2.2.2.2.2.2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6)) (m ((c.tc : Thread Cert.SguRefIdeal.nD Cert.SguRefIdeal.τ).loc Cert.SguRefIdeal.main_arg7)) (m ((c.tc : Thread Cert.SguRefIdeal.nD Cert.SguRefIdeal.τ).loc Cert.SguRefIdeal.main_arg8)) (m ((c.tc : Thread Cert.SguRefIdeal.nD Cert.SguRefIdeal.τ).loc Cert.SguRefIdeal.main_arg9)) (m ((c.tc : Thread Cert.SguRefIdeal.nD Cert.SguRefIdeal.τ).loc Cert.SguRefIdeal.main_arg10)) (m ((c.tc : Thread Cert.SguRefIdeal.nD Cert.SguRefIdeal.τ).loc Cert.SguRefIdeal.main_arg11)) (m ((c.tc : Thread Cert.SguRefIdeal.nD Cert.SguRefIdeal.τ).loc Cert.SguRefIdeal.main_arg12)) (m ((c.tc : Thread Cert.SguRefIdeal.nD Cert.SguRefIdeal.τ).loc Cert.SguRefIdeal.main_arg13))).2.2.2.2.2.2.2.2.2.2.2.1 = (fun _ => 1#1)
    ∧ (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6)) (m ((c.tc : Thread Cert.SguRefIdeal.nD Cert.SguRefIdeal.τ).loc Cert.SguRefIdeal.main_arg7)) (m ((c.tc : Thread Cert.SguRefIdeal.nD Cert.SguRefIdeal.τ).loc Cert.SguRefIdeal.main_arg8)) (m ((c.tc : Thread Cert.SguRefIdeal.nD Cert.SguRefIdeal.τ).loc Cert.SguRefIdeal.main_arg9)) (m ((c.tc : Thread Cert.SguRefIdeal.nD Cert.SguRefIdeal.τ).loc Cert.SguRefIdeal.main_arg10)) (m ((c.tc : Thread Cert.SguRefIdeal.nD Cert.SguRefIdeal.τ).loc Cert.SguRefIdeal.main_arg11)) (m ((c.tc : Thread Cert.SguRefIdeal.nD Cert.SguRefIdeal.τ).loc Cert.SguRefIdeal.main_arg12)) (m ((c.tc : Thread Cert.SguRefIdeal.nD Cert.SguRefIdeal.τ).loc Cert.SguRefIdeal.main_arg13))).2.2.2.2.2.2.2.2.2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_merge [hPre_finite_merge : Cert.Pre_finite_merge.Facts] (m : (ℓ : Loc Cert.MergeIdeal.nD Cert.MergeIdeal.τ Cert.MergeIdeal.sig) → Buf (Elt Ideal) ℓ) : Prop :=
  ∀ c : Dev Cert.MergeIdeal.nD,
    (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.2.2.2.2.2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_merge [hPre_finite_merge : Cert.Pre_finite_merge.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8))).1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8))).2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8))).2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8))).2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8))).2.2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8))).2.2.2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8))).2.2.2.2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8))).2.2.2.2.2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8))).2.2.2.2.2.2.2.2 = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite [hFfnIdeal : Cert.FfnIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite [hFfnRefIdeal : Cert.FfnRefIdeal.Facts] [hPre_finite : Cert.Pre_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6)
      ∧ r.2.mem ((c.tc : Thread Cert.Sgu.nD Cert.Sgu.τ).loc Cert.Sgu.main_arg7) = m ((c.tc : Thread Cert.Sgu.nD Cert.Sgu.τ).loc Cert.Sgu.main_arg7)
      ∧ r.2.mem ((c.tc : Thread Cert.Sgu.nD Cert.Sgu.τ).loc Cert.Sgu.main_arg8) = m ((c.tc : Thread Cert.Sgu.nD Cert.Sgu.τ).loc Cert.Sgu.main_arg8)
      ∧ r.2.mem ((c.tc : Thread Cert.Sgu.nD Cert.Sgu.τ).loc Cert.Sgu.main_arg9) = m ((c.tc : Thread Cert.Sgu.nD Cert.Sgu.τ).loc Cert.Sgu.main_arg9)
      ∧ r.2.mem ((c.tc : Thread Cert.Sgu.nD Cert.Sgu.τ).loc Cert.Sgu.main_arg10) = m ((c.tc : Thread Cert.Sgu.nD Cert.Sgu.τ).loc Cert.Sgu.main_arg10)
      ∧ r.2.mem ((c.tc : Thread Cert.Sgu.nD Cert.Sgu.τ).loc Cert.Sgu.main_arg11) = m ((c.tc : Thread Cert.Sgu.nD Cert.Sgu.τ).loc Cert.Sgu.main_arg11)
      ∧ r.2.mem ((c.tc : Thread Cert.Sgu.nD Cert.Sgu.τ).loc Cert.Sgu.main_arg12) = m ((c.tc : Thread Cert.Sgu.nD Cert.Sgu.τ).loc Cert.Sgu.main_arg12)
      ∧ r.2.mem ((c.tc : Thread Cert.Sgu.nD Cert.Sgu.τ).loc Cert.Sgu.main_arg13) = m ((c.tc : Thread Cert.Sgu.nD Cert.Sgu.τ).loc Cert.Sgu.main_arg13))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
      ∧ r.2.mem ((c.tc : Thread Cert.SguIdeal.nD Cert.SguIdeal.τ).loc Cert.SguIdeal.main_arg7) = m ((c.tc : Thread Cert.SguIdeal.nD Cert.SguIdeal.τ).loc Cert.SguIdeal.main_arg7)
      ∧ r.2.mem ((c.tc : Thread Cert.SguIdeal.nD Cert.SguIdeal.τ).loc Cert.SguIdeal.main_arg8) = m ((c.tc : Thread Cert.SguIdeal.nD Cert.SguIdeal.τ).loc Cert.SguIdeal.main_arg8)
      ∧ r.2.mem ((c.tc : Thread Cert.SguIdeal.nD Cert.SguIdeal.τ).loc Cert.SguIdeal.main_arg9) = m ((c.tc : Thread Cert.SguIdeal.nD Cert.SguIdeal.τ).loc Cert.SguIdeal.main_arg9)
      ∧ r.2.mem ((c.tc : Thread Cert.SguIdeal.nD Cert.SguIdeal.τ).loc Cert.SguIdeal.main_arg10) = m ((c.tc : Thread Cert.SguIdeal.nD Cert.SguIdeal.τ).loc Cert.SguIdeal.main_arg10)
      ∧ r.2.mem ((c.tc : Thread Cert.SguIdeal.nD Cert.SguIdeal.τ).loc Cert.SguIdeal.main_arg11) = m ((c.tc : Thread Cert.SguIdeal.nD Cert.SguIdeal.τ).loc Cert.SguIdeal.main_arg11)
      ∧ r.2.mem ((c.tc : Thread Cert.SguIdeal.nD Cert.SguIdeal.τ).loc Cert.SguIdeal.main_arg12) = m ((c.tc : Thread Cert.SguIdeal.nD Cert.SguIdeal.τ).loc Cert.SguIdeal.main_arg12)
      ∧ r.2.mem ((c.tc : Thread Cert.SguIdeal.nD Cert.SguIdeal.τ).loc Cert.SguIdeal.main_arg13) = m ((c.tc : Thread Cert.SguIdeal.nD Cert.SguIdeal.τ).loc Cert.SguIdeal.main_arg13))
      ∧ r.2.sem = fun _ => 0)

def quiescent_SguIdeal_pre_finite_sgu [hSguIdeal : Cert.SguIdeal.Facts] [hPre_finite_sgu : Cert.Pre_finite_sgu.Facts] : Prop :=
  ∀ (m : (ℓ : Loc Cert.SguIdeal.nD Cert.SguIdeal.τ Cert.SguIdeal.sig) → Buf (Elt Ideal) ℓ) (g : Dev Cert.SguIdeal.nD → PrngReg), Pre_SguIdeal_finite_sgu m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
      ∧ r.2.mem ((c.tc : Thread Cert.SguIdeal.nD Cert.SguIdeal.τ).loc Cert.SguIdeal.main_arg7) = m ((c.tc : Thread Cert.SguIdeal.nD Cert.SguIdeal.τ).loc Cert.SguIdeal.main_arg7)
      ∧ r.2.mem ((c.tc : Thread Cert.SguIdeal.nD Cert.SguIdeal.τ).loc Cert.SguIdeal.main_arg8) = m ((c.tc : Thread Cert.SguIdeal.nD Cert.SguIdeal.τ).loc Cert.SguIdeal.main_arg8)
      ∧ r.2.mem ((c.tc : Thread Cert.SguIdeal.nD Cert.SguIdeal.τ).loc Cert.SguIdeal.main_arg9) = m ((c.tc : Thread Cert.SguIdeal.nD Cert.SguIdeal.τ).loc Cert.SguIdeal.main_arg9)
      ∧ r.2.mem ((c.tc : Thread Cert.SguIdeal.nD Cert.SguIdeal.τ).loc Cert.SguIdeal.main_arg10) = m ((c.tc : Thread Cert.SguIdeal.nD Cert.SguIdeal.τ).loc Cert.SguIdeal.main_arg10)
      ∧ r.2.mem ((c.tc : Thread Cert.SguIdeal.nD Cert.SguIdeal.τ).loc Cert.SguIdeal.main_arg11) = m ((c.tc : Thread Cert.SguIdeal.nD Cert.SguIdeal.τ).loc Cert.SguIdeal.main_arg11)
      ∧ r.2.mem ((c.tc : Thread Cert.SguIdeal.nD Cert.SguIdeal.τ).loc Cert.SguIdeal.main_arg12) = m ((c.tc : Thread Cert.SguIdeal.nD Cert.SguIdeal.τ).loc Cert.SguIdeal.main_arg12)
      ∧ r.2.mem ((c.tc : Thread Cert.SguIdeal.nD Cert.SguIdeal.τ).loc Cert.SguIdeal.main_arg13) = m ((c.tc : Thread Cert.SguIdeal.nD Cert.SguIdeal.τ).loc Cert.SguIdeal.main_arg13))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6)
      ∧ r.2.mem ((c.tc : Thread Cert.SguRefIdeal.nD Cert.SguRefIdeal.τ).loc Cert.SguRefIdeal.main_arg7) = m ((c.tc : Thread Cert.SguRefIdeal.nD Cert.SguRefIdeal.τ).loc Cert.SguRefIdeal.main_arg7)
      ∧ r.2.mem ((c.tc : Thread Cert.SguRefIdeal.nD Cert.SguRefIdeal.τ).loc Cert.SguRefIdeal.main_arg8) = m ((c.tc : Thread Cert.SguRefIdeal.nD Cert.SguRefIdeal.τ).loc Cert.SguRefIdeal.main_arg8)
      ∧ r.2.mem ((c.tc : Thread Cert.SguRefIdeal.nD Cert.SguRefIdeal.τ).loc Cert.SguRefIdeal.main_arg9) = m ((c.tc : Thread Cert.SguRefIdeal.nD Cert.SguRefIdeal.τ).loc Cert.SguRefIdeal.main_arg9)
      ∧ r.2.mem ((c.tc : Thread Cert.SguRefIdeal.nD Cert.SguRefIdeal.τ).loc Cert.SguRefIdeal.main_arg10) = m ((c.tc : Thread Cert.SguRefIdeal.nD Cert.SguRefIdeal.τ).loc Cert.SguRefIdeal.main_arg10)
      ∧ r.2.mem ((c.tc : Thread Cert.SguRefIdeal.nD Cert.SguRefIdeal.τ).loc Cert.SguRefIdeal.main_arg11) = m ((c.tc : Thread Cert.SguRefIdeal.nD Cert.SguRefIdeal.τ).loc Cert.SguRefIdeal.main_arg11)
      ∧ r.2.mem ((c.tc : Thread Cert.SguRefIdeal.nD Cert.SguRefIdeal.τ).loc Cert.SguRefIdeal.main_arg12) = m ((c.tc : Thread Cert.SguRefIdeal.nD Cert.SguRefIdeal.τ).loc Cert.SguRefIdeal.main_arg12)
      ∧ r.2.mem ((c.tc : Thread Cert.SguRefIdeal.nD Cert.SguRefIdeal.τ).loc Cert.SguRefIdeal.main_arg13) = m ((c.tc : Thread Cert.SguRefIdeal.nD Cert.SguRefIdeal.τ).loc Cert.SguRefIdeal.main_arg13))
      ∧ r.2.sem = fun _ => 0)

def quiescent_SguRefIdeal_pre_finite_sgu [hSguRefIdeal : Cert.SguRefIdeal.Facts] [hPre_finite_sgu : Cert.Pre_finite_sgu.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_finite_sgu m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6)
      ∧ r.2.mem ((c.tc : Thread Cert.SguRefIdeal.nD Cert.SguRefIdeal.τ).loc Cert.SguRefIdeal.main_arg7) = m ((c.tc : Thread Cert.SguRefIdeal.nD Cert.SguRefIdeal.τ).loc Cert.SguRefIdeal.main_arg7)
      ∧ r.2.mem ((c.tc : Thread Cert.SguRefIdeal.nD Cert.SguRefIdeal.τ).loc Cert.SguRefIdeal.main_arg8) = m ((c.tc : Thread Cert.SguRefIdeal.nD Cert.SguRefIdeal.τ).loc Cert.SguRefIdeal.main_arg8)
      ∧ r.2.mem ((c.tc : Thread Cert.SguRefIdeal.nD Cert.SguRefIdeal.τ).loc Cert.SguRefIdeal.main_arg9) = m ((c.tc : Thread Cert.SguRefIdeal.nD Cert.SguRefIdeal.τ).loc Cert.SguRefIdeal.main_arg9)
      ∧ r.2.mem ((c.tc : Thread Cert.SguRefIdeal.nD Cert.SguRefIdeal.τ).loc Cert.SguRefIdeal.main_arg10) = m ((c.tc : Thread Cert.SguRefIdeal.nD Cert.SguRefIdeal.τ).loc Cert.SguRefIdeal.main_arg10)
      ∧ r.2.mem ((c.tc : Thread Cert.SguRefIdeal.nD Cert.SguRefIdeal.τ).loc Cert.SguRefIdeal.main_arg11) = m ((c.tc : Thread Cert.SguRefIdeal.nD Cert.SguRefIdeal.τ).loc Cert.SguRefIdeal.main_arg11)
      ∧ r.2.mem ((c.tc : Thread Cert.SguRefIdeal.nD Cert.SguRefIdeal.τ).loc Cert.SguRefIdeal.main_arg12) = m ((c.tc : Thread Cert.SguRefIdeal.nD Cert.SguRefIdeal.τ).loc Cert.SguRefIdeal.main_arg12)
      ∧ r.2.mem ((c.tc : Thread Cert.SguRefIdeal.nD Cert.SguRefIdeal.τ).loc Cert.SguRefIdeal.main_arg13) = m ((c.tc : Thread Cert.SguRefIdeal.nD Cert.SguRefIdeal.τ).loc Cert.SguRefIdeal.main_arg13))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeIdeal_pre_finite_merge [hMergeIdeal : Cert.MergeIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_merge m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_MergeRefIdeal_pre_finite_merge [hMergeRefIdeal : Cert.MergeRefIdeal.Facts] [hPre_finite_merge : Cert.Pre_finite_merge.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_merge m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def preserves_Ffn_FfnIdeal : Prop :=
  True

def algebraic_FfnIdeal_FfnRefIdeal_pre_finite [hFfnIdeal : Cert.FfnIdeal.Facts] [hFfnRefIdeal : Cert.FfnRefIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v2_0)) (v1 : (c : Dev Cert.FfnIdeal.nD) → Buf (Elt Ideal) ((c.tc : Thread Cert.FfnIdeal.nD Cert.FfnIdeal.τ).loc Cert.FfnIdeal.main_v2_1)) (v2 : (c : Dev Cert.FfnIdeal.nD) → Buf (Elt Ideal) ((c.tc : Thread Cert.FfnIdeal.nD Cert.FfnIdeal.τ).loc Cert.FfnIdeal.main_v2_2)) (v3 : (c : Dev Cert.FfnIdeal.nD) → Buf (Elt Ideal) ((c.tc : Thread Cert.FfnIdeal.nD Cert.FfnIdeal.τ).loc Cert.FfnIdeal.main_v2_3)) (v4 : (c : Dev Cert.FfnIdeal.nD) → Buf (Elt Ideal) ((c.tc : Thread Cert.FfnIdeal.nD Cert.FfnIdeal.τ).loc Cert.FfnIdeal.main_v2_4)) (v5 : (c : Dev Cert.FfnIdeal.nD) → Buf (Elt Ideal) ((c.tc : Thread Cert.FfnIdeal.nD Cert.FfnIdeal.τ).loc Cert.FfnIdeal.main_v2_5)) (v6 : (c : Dev Cert.FfnIdeal.nD) → Buf (Elt Ideal) ((c.tc : Thread Cert.FfnIdeal.nD Cert.FfnIdeal.τ).loc Cert.FfnIdeal.main_v2_6)) (v7 : (c : Dev Cert.FfnIdeal.nD) → Buf (Elt Ideal) ((c.tc : Thread Cert.FfnIdeal.nD Cert.FfnIdeal.τ).loc Cert.FfnIdeal.main_v2_7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2_0) = v0 c
          ∧ r.2.mem ((c.tc : Thread Cert.FfnIdeal.nD Cert.FfnIdeal.τ).loc Cert.FfnIdeal.main_v2_1) = v1 c
          ∧ r.2.mem ((c.tc : Thread Cert.FfnIdeal.nD Cert.FfnIdeal.τ).loc Cert.FfnIdeal.main_v2_2) = v2 c
          ∧ r.2.mem ((c.tc : Thread Cert.FfnIdeal.nD Cert.FfnIdeal.τ).loc Cert.FfnIdeal.main_v2_3) = v3 c
          ∧ r.2.mem ((c.tc : Thread Cert.FfnIdeal.nD Cert.FfnIdeal.τ).loc Cert.FfnIdeal.main_v2_4) = v4 c
          ∧ r.2.mem ((c.tc : Thread Cert.FfnIdeal.nD Cert.FfnIdeal.τ).loc Cert.FfnIdeal.main_v2_5) = v5 c
          ∧ r.2.mem ((c.tc : Thread Cert.FfnIdeal.nD Cert.FfnIdeal.τ).loc Cert.FfnIdeal.main_v2_6) = v6 c
          ∧ r.2.mem ((c.tc : Thread Cert.FfnIdeal.nD Cert.FfnIdeal.τ).loc Cert.FfnIdeal.main_v2_7) = v7 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v136) = v0 c
          ∧ r.2.mem ((c.tc : Thread Cert.FfnRefIdeal.nD Cert.FfnRefIdeal.τ).loc Cert.FfnRefIdeal.main_v137) = v1 c
          ∧ r.2.mem ((c.tc : Thread Cert.FfnRefIdeal.nD Cert.FfnRefIdeal.τ).loc Cert.FfnRefIdeal.main_v138) = v2 c
          ∧ r.2.mem ((c.tc : Thread Cert.FfnRefIdeal.nD Cert.FfnRefIdeal.τ).loc Cert.FfnRefIdeal.main_v139) = v3 c
          ∧ r.2.mem ((c.tc : Thread Cert.FfnRefIdeal.nD Cert.FfnRefIdeal.τ).loc Cert.FfnRefIdeal.main_v102) = v4 c
          ∧ r.2.mem ((c.tc : Thread Cert.FfnRefIdeal.nD Cert.FfnRefIdeal.τ).loc Cert.FfnRefIdeal.main_v135) = v5 c
          ∧ r.2.mem ((c.tc : Thread Cert.FfnRefIdeal.nD Cert.FfnRefIdeal.τ).loc Cert.FfnRefIdeal.main_v85) = v6 c
          ∧ r.2.mem ((c.tc : Thread Cert.FfnRefIdeal.nD Cert.FfnRefIdeal.τ).loc Cert.FfnRefIdeal.main_v61) = v7 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Attn_AttnIdeal : Prop :=
  IdealRules.named_const.Statement Cert.AttnIdeal.κ "mask" .f32 0xF149F2CA#32 ⊥

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v104_0)) (v1 : (c : Dev Cert.AttnIdeal.nD) → Buf (Elt Ideal) ((c.tc : Thread Cert.AttnIdeal.nD Cert.AttnIdeal.τ).loc Cert.AttnIdeal.main_v104_1)) (v2 : (c : Dev Cert.AttnIdeal.nD) → Buf (Elt Ideal) ((c.tc : Thread Cert.AttnIdeal.nD Cert.AttnIdeal.τ).loc Cert.AttnIdeal.main_v104_2)) (v3 : (c : Dev Cert.AttnIdeal.nD) → Buf (Elt Ideal) ((c.tc : Thread Cert.AttnIdeal.nD Cert.AttnIdeal.τ).loc Cert.AttnIdeal.main_v104_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v104_0) = v0 c
          ∧ r.2.mem ((c.tc : Thread Cert.AttnIdeal.nD Cert.AttnIdeal.τ).loc Cert.AttnIdeal.main_v104_1) = v1 c
          ∧ r.2.mem ((c.tc : Thread Cert.AttnIdeal.nD Cert.AttnIdeal.τ).loc Cert.AttnIdeal.main_v104_2) = v2 c
          ∧ r.2.mem ((c.tc : Thread Cert.AttnIdeal.nD Cert.AttnIdeal.τ).loc Cert.AttnIdeal.main_v104_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v269) = v0 c
          ∧ r.2.mem ((c.tc : Thread Cert.AttnRefIdeal.nD Cert.AttnRefIdeal.τ).loc Cert.AttnRefIdeal.main_v270) = v1 c
          ∧ r.2.mem ((c.tc : Thread Cert.AttnRefIdeal.nD Cert.AttnRefIdeal.τ).loc Cert.AttnRefIdeal.main_v271) = v2 c
          ∧ r.2.mem ((c.tc : Thread Cert.AttnRefIdeal.nD Cert.AttnRefIdeal.τ).loc Cert.AttnRefIdeal.main_v273) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Sgu_SguIdeal : Prop :=
  IdealRules.named_const.Statement Cert.SguIdeal.κ "gelu_cube" .f32 0x3D122279#32 ((80338380498831 / 2251799813685248 : ℝ) : EReal)
  ∧ IdealRules.named_const.Statement Cert.SguIdeal.κ "gelu_slope" .f32 0x3DDB33B6#32 ((241015141496493 / 2251799813685248 : ℝ) : EReal)

def algebraic_SguIdeal_SguRefIdeal_pre_finite_sgu [hSguIdeal : Cert.SguIdeal.Facts] [hSguRefIdeal : Cert.SguRefIdeal.Facts] [hPre_finite_sgu : Cert.Pre_finite_sgu.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal_finite_sgu m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)
      ∧ m' ((c.tc : Thread Cert.SguRefIdeal.nD Cert.SguRefIdeal.τ).loc Cert.SguRefIdeal.main_arg6) = m ((c.tc : Thread Cert.SguIdeal.nD Cert.SguIdeal.τ).loc Cert.SguIdeal.main_arg6)
      ∧ m' ((c.tc : Thread Cert.SguRefIdeal.nD Cert.SguRefIdeal.τ).loc Cert.SguRefIdeal.main_arg7) = m ((c.tc : Thread Cert.SguIdeal.nD Cert.SguIdeal.τ).loc Cert.SguIdeal.main_arg7)
      ∧ m' ((c.tc : Thread Cert.SguRefIdeal.nD Cert.SguRefIdeal.τ).loc Cert.SguRefIdeal.main_arg8) = m ((c.tc : Thread Cert.SguIdeal.nD Cert.SguIdeal.τ).loc Cert.SguIdeal.main_arg8)
      ∧ m' ((c.tc : Thread Cert.SguRefIdeal.nD Cert.SguRefIdeal.τ).loc Cert.SguRefIdeal.main_arg9) = m ((c.tc : Thread Cert.SguIdeal.nD Cert.SguIdeal.τ).loc Cert.SguIdeal.main_arg9)
      ∧ m' ((c.tc : Thread Cert.SguRefIdeal.nD Cert.SguRefIdeal.τ).loc Cert.SguRefIdeal.main_arg10) = m ((c.tc : Thread Cert.SguIdeal.nD Cert.SguIdeal.τ).loc Cert.SguIdeal.main_arg10)
      ∧ m' ((c.tc : Thread Cert.SguRefIdeal.nD Cert.SguRefIdeal.τ).loc Cert.SguRefIdeal.main_arg11) = m ((c.tc : Thread Cert.SguIdeal.nD Cert.SguIdeal.τ).loc Cert.SguIdeal.main_arg11)
      ∧ m' ((c.tc : Thread Cert.SguRefIdeal.nD Cert.SguRefIdeal.τ).loc Cert.SguRefIdeal.main_arg12) = m ((c.tc : Thread Cert.SguIdeal.nD Cert.SguIdeal.τ).loc Cert.SguIdeal.main_arg12)
      ∧ m' ((c.tc : Thread Cert.SguRefIdeal.nD Cert.SguRefIdeal.τ).loc Cert.SguRefIdeal.main_arg13) = m ((c.tc : Thread Cert.SguIdeal.nD Cert.SguIdeal.τ).loc Cert.SguIdeal.main_arg13)) →
    ∃ (v0 : (c : Dev Cert.SguIdeal.nD) → Buf (Elt Ideal) ((c.tc : Thread Cert.SguIdeal.nD Cert.SguIdeal.τ).loc Cert.SguIdeal.main_v27_0)) (v1 : (c : Dev Cert.SguIdeal.nD) → Buf (Elt Ideal) ((c.tc : Thread Cert.SguIdeal.nD Cert.SguIdeal.τ).loc Cert.SguIdeal.main_v27_1)) (v2 : (c : Dev Cert.SguIdeal.nD) → Buf (Elt Ideal) ((c.tc : Thread Cert.SguIdeal.nD Cert.SguIdeal.τ).loc Cert.SguIdeal.main_v27_2)) (v3 : (c : Dev Cert.SguIdeal.nD) → Buf (Elt Ideal) ((c.tc : Thread Cert.SguIdeal.nD Cert.SguIdeal.τ).loc Cert.SguIdeal.main_v27_3)) (v4 : (c : Dev Cert.SguIdeal.nD) → Buf (Elt Ideal) ((c.tc : Thread Cert.SguIdeal.nD Cert.SguIdeal.τ).loc Cert.SguIdeal.main_v27_4)) (v5 : (c : Dev Cert.SguIdeal.nD) → Buf (Elt Ideal) ((c.tc : Thread Cert.SguIdeal.nD Cert.SguIdeal.τ).loc Cert.SguIdeal.main_v27_5)) (v6 : (c : Dev Cert.SguIdeal.nD) → Buf (Elt Ideal) ((c.tc : Thread Cert.SguIdeal.nD Cert.SguIdeal.τ).loc Cert.SguIdeal.main_v27_6)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v27_0) = v0 c
          ∧ r.2.mem ((c.tc : Thread Cert.SguIdeal.nD Cert.SguIdeal.τ).loc Cert.SguIdeal.main_v27_1) = v1 c
          ∧ r.2.mem ((c.tc : Thread Cert.SguIdeal.nD Cert.SguIdeal.τ).loc Cert.SguIdeal.main_v27_2) = v2 c
          ∧ r.2.mem ((c.tc : Thread Cert.SguIdeal.nD Cert.SguIdeal.τ).loc Cert.SguIdeal.main_v27_3) = v3 c
          ∧ r.2.mem ((c.tc : Thread Cert.SguIdeal.nD Cert.SguIdeal.τ).loc Cert.SguIdeal.main_v27_4) = v4 c
          ∧ r.2.mem ((c.tc : Thread Cert.SguIdeal.nD Cert.SguIdeal.τ).loc Cert.SguIdeal.main_v27_5) = v5 c
          ∧ r.2.mem ((c.tc : Thread Cert.SguIdeal.nD Cert.SguIdeal.τ).loc Cert.SguIdeal.main_v27_6) = v6 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
          ∧ r.2.mem ((c.tc : Thread Cert.SguIdeal.nD Cert.SguIdeal.τ).loc Cert.SguIdeal.main_arg7) = m ((c.tc : Thread Cert.SguIdeal.nD Cert.SguIdeal.τ).loc Cert.SguIdeal.main_arg7)
          ∧ r.2.mem ((c.tc : Thread Cert.SguIdeal.nD Cert.SguIdeal.τ).loc Cert.SguIdeal.main_arg8) = m ((c.tc : Thread Cert.SguIdeal.nD Cert.SguIdeal.τ).loc Cert.SguIdeal.main_arg8)
          ∧ r.2.mem ((c.tc : Thread Cert.SguIdeal.nD Cert.SguIdeal.τ).loc Cert.SguIdeal.main_arg9) = m ((c.tc : Thread Cert.SguIdeal.nD Cert.SguIdeal.τ).loc Cert.SguIdeal.main_arg9)
          ∧ r.2.mem ((c.tc : Thread Cert.SguIdeal.nD Cert.SguIdeal.τ).loc Cert.SguIdeal.main_arg10) = m ((c.tc : Thread Cert.SguIdeal.nD Cert.SguIdeal.τ).loc Cert.SguIdeal.main_arg10)
          ∧ r.2.mem ((c.tc : Thread Cert.SguIdeal.nD Cert.SguIdeal.τ).loc Cert.SguIdeal.main_arg11) = m ((c.tc : Thread Cert.SguIdeal.nD Cert.SguIdeal.τ).loc Cert.SguIdeal.main_arg11)
          ∧ r.2.mem ((c.tc : Thread Cert.SguIdeal.nD Cert.SguIdeal.τ).loc Cert.SguIdeal.main_arg12) = m ((c.tc : Thread Cert.SguIdeal.nD Cert.SguIdeal.τ).loc Cert.SguIdeal.main_arg12)
          ∧ r.2.mem ((c.tc : Thread Cert.SguIdeal.nD Cert.SguIdeal.τ).loc Cert.SguIdeal.main_arg13) = m ((c.tc : Thread Cert.SguIdeal.nD Cert.SguIdeal.τ).loc Cert.SguIdeal.main_arg13))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v197) = v0 c
          ∧ r.2.mem ((c.tc : Thread Cert.SguRefIdeal.nD Cert.SguRefIdeal.τ).loc Cert.SguRefIdeal.main_v198) = v1 c
          ∧ r.2.mem ((c.tc : Thread Cert.SguRefIdeal.nD Cert.SguRefIdeal.τ).loc Cert.SguRefIdeal.main_v180) = v2 c
          ∧ r.2.mem ((c.tc : Thread Cert.SguRefIdeal.nD Cert.SguRefIdeal.τ).loc Cert.SguRefIdeal.main_v119) = v3 c
          ∧ r.2.mem ((c.tc : Thread Cert.SguRefIdeal.nD Cert.SguRefIdeal.τ).loc Cert.SguRefIdeal.main_v114) = v4 c
          ∧ r.2.mem ((c.tc : Thread Cert.SguRefIdeal.nD Cert.SguRefIdeal.τ).loc Cert.SguRefIdeal.main_v125) = v5 c
          ∧ r.2.mem ((c.tc : Thread Cert.SguRefIdeal.nD Cert.SguRefIdeal.τ).loc Cert.SguRefIdeal.main_v122) = v6 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6)
          ∧ r.2.mem ((c.tc : Thread Cert.SguRefIdeal.nD Cert.SguRefIdeal.τ).loc Cert.SguRefIdeal.main_arg7) = m' ((c.tc : Thread Cert.SguRefIdeal.nD Cert.SguRefIdeal.τ).loc Cert.SguRefIdeal.main_arg7)
          ∧ r.2.mem ((c.tc : Thread Cert.SguRefIdeal.nD Cert.SguRefIdeal.τ).loc Cert.SguRefIdeal.main_arg8) = m' ((c.tc : Thread Cert.SguRefIdeal.nD Cert.SguRefIdeal.τ).loc Cert.SguRefIdeal.main_arg8)
          ∧ r.2.mem ((c.tc : Thread Cert.SguRefIdeal.nD Cert.SguRefIdeal.τ).loc Cert.SguRefIdeal.main_arg9) = m' ((c.tc : Thread Cert.SguRefIdeal.nD Cert.SguRefIdeal.τ).loc Cert.SguRefIdeal.main_arg9)
          ∧ r.2.mem ((c.tc : Thread Cert.SguRefIdeal.nD Cert.SguRefIdeal.τ).loc Cert.SguRefIdeal.main_arg10) = m' ((c.tc : Thread Cert.SguRefIdeal.nD Cert.SguRefIdeal.τ).loc Cert.SguRefIdeal.main_arg10)
          ∧ r.2.mem ((c.tc : Thread Cert.SguRefIdeal.nD Cert.SguRefIdeal.τ).loc Cert.SguRefIdeal.main_arg11) = m' ((c.tc : Thread Cert.SguRefIdeal.nD Cert.SguRefIdeal.τ).loc Cert.SguRefIdeal.main_arg11)
          ∧ r.2.mem ((c.tc : Thread Cert.SguRefIdeal.nD Cert.SguRefIdeal.τ).loc Cert.SguRefIdeal.main_arg12) = m' ((c.tc : Thread Cert.SguRefIdeal.nD Cert.SguRefIdeal.τ).loc Cert.SguRefIdeal.main_arg12)
          ∧ r.2.mem ((c.tc : Thread Cert.SguRefIdeal.nD Cert.SguRefIdeal.τ).loc Cert.SguRefIdeal.main_arg13) = m' ((c.tc : Thread Cert.SguRefIdeal.nD Cert.SguRefIdeal.τ).loc Cert.SguRefIdeal.main_arg13))

def preserves_Merge_MergeIdeal : Prop :=
  True

def algebraic_MergeIdeal_MergeRefIdeal_pre_finite_merge [hMergeIdeal : Cert.MergeIdeal.Facts] [hMergeRefIdeal : Cert.MergeRefIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_merge m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v29_0)) (v1 : (c : Dev Cert.MergeIdeal.nD) → Buf (Elt Ideal) ((c.tc : Thread Cert.MergeIdeal.nD Cert.MergeIdeal.τ).loc Cert.MergeIdeal.main_v29_1)) (v2 : (c : Dev Cert.MergeIdeal.nD) → Buf (Elt Ideal) ((c.tc : Thread Cert.MergeIdeal.nD Cert.MergeIdeal.τ).loc Cert.MergeIdeal.main_v29_2)) (v3 : (c : Dev Cert.MergeIdeal.nD) → Buf (Elt Ideal) ((c.tc : Thread Cert.MergeIdeal.nD Cert.MergeIdeal.τ).loc Cert.MergeIdeal.main_v29_3)) (v4 : (c : Dev Cert.MergeIdeal.nD) → Buf (Elt Ideal) ((c.tc : Thread Cert.MergeIdeal.nD Cert.MergeIdeal.τ).loc Cert.MergeIdeal.main_v29_4)) (v5 : (c : Dev Cert.MergeIdeal.nD) → Buf (Elt Ideal) ((c.tc : Thread Cert.MergeIdeal.nD Cert.MergeIdeal.τ).loc Cert.MergeIdeal.main_v29_5)) (v6 : (c : Dev Cert.MergeIdeal.nD) → Buf (Elt Ideal) ((c.tc : Thread Cert.MergeIdeal.nD Cert.MergeIdeal.τ).loc Cert.MergeIdeal.main_v29_6)) (v7 : (c : Dev Cert.MergeIdeal.nD) → Buf (Elt Ideal) ((c.tc : Thread Cert.MergeIdeal.nD Cert.MergeIdeal.τ).loc Cert.MergeIdeal.main_v29_7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v29_0) = v0 c
          ∧ r.2.mem ((c.tc : Thread Cert.MergeIdeal.nD Cert.MergeIdeal.τ).loc Cert.MergeIdeal.main_v29_1) = v1 c
          ∧ r.2.mem ((c.tc : Thread Cert.MergeIdeal.nD Cert.MergeIdeal.τ).loc Cert.MergeIdeal.main_v29_2) = v2 c
          ∧ r.2.mem ((c.tc : Thread Cert.MergeIdeal.nD Cert.MergeIdeal.τ).loc Cert.MergeIdeal.main_v29_3) = v3 c
          ∧ r.2.mem ((c.tc : Thread Cert.MergeIdeal.nD Cert.MergeIdeal.τ).loc Cert.MergeIdeal.main_v29_4) = v4 c
          ∧ r.2.mem ((c.tc : Thread Cert.MergeIdeal.nD Cert.MergeIdeal.τ).loc Cert.MergeIdeal.main_v29_5) = v5 c
          ∧ r.2.mem ((c.tc : Thread Cert.MergeIdeal.nD Cert.MergeIdeal.τ).loc Cert.MergeIdeal.main_v29_6) = v6 c
          ∧ r.2.mem ((c.tc : Thread Cert.MergeIdeal.nD Cert.MergeIdeal.τ).loc Cert.MergeIdeal.main_v29_7) = v7 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v73) = v0 c
          ∧ r.2.mem ((c.tc : Thread Cert.MergeRefIdeal.nD Cert.MergeRefIdeal.τ).loc Cert.MergeRefIdeal.main_v74) = v1 c
          ∧ r.2.mem ((c.tc : Thread Cert.MergeRefIdeal.nD Cert.MergeRefIdeal.τ).loc Cert.MergeRefIdeal.main_v71) = v2 c
          ∧ r.2.mem ((c.tc : Thread Cert.MergeRefIdeal.nD Cert.MergeRefIdeal.τ).loc Cert.MergeRefIdeal.main_v75) = v3 c
          ∧ r.2.mem ((c.tc : Thread Cert.MergeRefIdeal.nD Cert.MergeRefIdeal.τ).loc Cert.MergeRefIdeal.main_v41) = v4 c
          ∧ r.2.mem ((c.tc : Thread Cert.MergeRefIdeal.nD Cert.MergeRefIdeal.τ).loc Cert.MergeRefIdeal.main_v70) = v5 c
          ∧ r.2.mem ((c.tc : Thread Cert.MergeRefIdeal.nD Cert.MergeRefIdeal.τ).loc Cert.MergeRefIdeal.main_v64) = v6 c
          ∧ r.2.mem ((c.tc : Thread Cert.MergeRefIdeal.nD Cert.MergeRefIdeal.τ).loc Cert.MergeRefIdeal.main_v59) = v7 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def Claim : Prop :=
  ∃ (hFfn : Cert.Ffn.Facts) (hFfnIdeal : Cert.FfnIdeal.Facts) (hFfnRefIdeal : Cert.FfnRefIdeal.Facts) (hAttn : Cert.Attn.Facts) (hAttnIdeal : Cert.AttnIdeal.Facts) (hAttnRefIdeal : Cert.AttnRefIdeal.Facts) (hSgu : Cert.Sgu.Facts) (hSguIdeal : Cert.SguIdeal.Facts) (hSguRefIdeal : Cert.SguRefIdeal.Facts) (hMerge : Cert.Merge.Facts) (hMergeIdeal : Cert.MergeIdeal.Facts) (hMergeRefIdeal : Cert.MergeRefIdeal.Facts) (hPre_finite : Cert.Pre_finite.Facts) (hPre_finite_attn : Cert.Pre_finite_attn.Facts) (hPre_finite_sgu : Cert.Pre_finite_sgu.Facts) (hPre_finite_merge : Cert.Pre_finite_merge.Facts),
    quiescent_Ffn (hFfn := hFfn)
    ∧ quiescent_FfnIdeal (hFfnIdeal := hFfnIdeal)
    ∧ quiescent_FfnIdeal_pre_finite (hFfnIdeal := hFfnIdeal) (hPre_finite := hPre_finite)
    ∧ quiescent_FfnRefIdeal (hFfnRefIdeal := hFfnRefIdeal)
    ∧ quiescent_FfnRefIdeal_pre_finite (hFfnRefIdeal := hFfnRefIdeal) (hPre_finite := hPre_finite)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Sgu (hSgu := hSgu)
    ∧ quiescent_SguIdeal (hSguIdeal := hSguIdeal)
    ∧ quiescent_SguIdeal_pre_finite_sgu (hSguIdeal := hSguIdeal) (hPre_finite_sgu := hPre_finite_sgu)
    ∧ quiescent_SguRefIdeal (hSguRefIdeal := hSguRefIdeal)
    ∧ quiescent_SguRefIdeal_pre_finite_sgu (hSguRefIdeal := hSguRefIdeal) (hPre_finite_sgu := hPre_finite_sgu)
    ∧ quiescent_Merge (hMerge := hMerge)
    ∧ quiescent_MergeIdeal (hMergeIdeal := hMergeIdeal)
    ∧ quiescent_MergeIdeal_pre_finite_merge (hMergeIdeal := hMergeIdeal) (hPre_finite_merge := hPre_finite_merge)
    ∧ quiescent_MergeRefIdeal (hMergeRefIdeal := hMergeRefIdeal)
    ∧ quiescent_MergeRefIdeal_pre_finite_merge (hMergeRefIdeal := hMergeRefIdeal) (hPre_finite_merge := hPre_finite_merge)
    ∧ preserves_Ffn_FfnIdeal
    ∧ algebraic_FfnIdeal_FfnRefIdeal_pre_finite (hFfnIdeal := hFfnIdeal) (hFfnRefIdeal := hFfnRefIdeal) (hPre_finite := hPre_finite)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Sgu_SguIdeal
    ∧ algebraic_SguIdeal_SguRefIdeal_pre_finite_sgu (hSguIdeal := hSguIdeal) (hSguRefIdeal := hSguRefIdeal) (hPre_finite_sgu := hPre_finite_sgu)
    ∧ preserves_Merge_MergeIdeal
    ∧ algebraic_MergeIdeal_MergeRefIdeal_pre_finite_merge (hMergeIdeal := hMergeIdeal) (hMergeRefIdeal := hMergeRefIdeal) (hPre_finite_merge := hPre_finite_merge)
-- ==== Pre_finite.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .f32) (main_arg2 : FVec F S1024x4096 .f32) (main_arg3 : FVec F S4096x1024 .f32) (main_arg4 : FVec F S1x1024 .f32) (main_arg5 : FVec F S1x1024 .f32) : IVec S8192x1024 1 × IVec S8192x1024 1 × IVec S1024x4096 1 × IVec S4096x1024 1 × IVec S1x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_finite_attn.lean ====
abbrev S8192x1024 : Shape := ⟨2, ![8192, 1024]⟩
abbrev S8192x256 : Shape := ⟨2, ![8192, 256]⟩
abbrev S16 : Shape := ⟨1, ![16]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)
  bcast_S_S16 : S_.BroadcastsInDim S16 (![] : Fin 0 → Fin S16.rank)

variable [Facts]

def fn {F : FTy → Type} [FloatOps F] (main_arg0 : FVec F S8192x1024 .f32) (main_arg1 : FVec F S8192x256 .f32) (main_arg2 : FVec F S8192x256 .f32) (main_arg3 : FVec F S16 .f32) (main_arg4 : IVec S8192 32) (main_arg5 : FVec F S8192x1024 .f32) : IVec S8192x1024 1 × IVec S8192x256 1 × IVec S8192x256 1 × IVec S16 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S8192x1024 .f32 := Host.absf main_arg5
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite_merge.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn_part1 {F : FTy → Type} [FloatOps F] (main_arg6 : FVec F S1024x1024 .f32) (main_arg7 : FVec F S1x1024 .f32) (main_arg8 : FVec F S8192x1024 .f32) (main_v2 : IVec S8192x1024 1) (main_v5 : IVec S8192x1024 1) (main_v8 : IVec S8192x1024 1) (main_v11 : IVec S8192x1024 1) (main_v14 : IVec S1024x1024 1) (main_v17 : IVec S1024x1024 1) : IVec S8192x1024 1 × IVec S8192x1024 1 × IVec S8192x1024 1 × IVec S8192x1024 1 × IVec S1024x1024 1 × IVec S1024x1024 1 × IVec S1024x1024 1 × IVec S1x1024 1 × IVec S8192x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S8192x1024 .f32 := Host.absf main_arg8
  let main_cst_7 : FVec F S_ .f32 := constant S_ .f32 0x7F800000#32
  let main_v25 : FVec F S8192x1024 .f32 := broadcastInDim S8192x1024 ![] bcast_S_S8192x1024 main_cst_7
  let main_v26 : IVec S8192x1024 1 := cmpf .olt main_v24 main_v25
  (main_v2, main_v5, main_v8, main_v11, main_v14, main_v17, main_v20, main_v23, main_v26)

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S1024x1024 .f32) (main_arg5 : FVec F S1024x1024 .f32) (main_arg6 : FVec F S1024x1024 .f32) (main_arg7 : FVec F S1x1024 .f32) (main_arg8 : FVec F S8192x1024 .f32) : IVec S8192x1024 1 × IVec S8192x1024 1 × IVec S8192x1024 1 × IVec S8192x1024 1 × IVec S1024x1024 1 × IVec S1024x1024 1 × IVec S1024x1024 1 × IVec S1x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_arg7 main_arg8 main_v2 main_v5 main_v8 main_v11 main_v14 main_v17
-- ==== Pre_finite_sgu.lean ====
abbrev S8192x1024 : Shape := ⟨2, ![8192, 1024]⟩
abbrev S1x1024 : Shape := ⟨2, ![1, 1024]⟩
abbrev S1024x5632 : Shape := ⟨2, ![1024, 5632]⟩
abbrev S8x128x128 : Shape := ⟨3, ![8, 128, 128]⟩
abbrev S8x128 : Shape := ⟨2, ![8, 128]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S8192x256 : S_.BroadcastsInDim S8192x256 (![] : Fin 0 → Fin S8192x256.rank)

variable [Facts]

def fn_part2 {F : FTy → Type} [FloatOps F] (main_arg13 : FVec F S8192x1024 .f32) (main_v2 : IVec S8192x1024 1) (main_v5 : IVec S1x1024 1) (main_v8 : IVec S1024x5632 1) (main_v11 : IVec S1x1024 1) (main_v14 : IVec S1x1024 1) (main_v17 : IVec S8x128x128 1) (main_v20 : IVec S8x128 1) (main_v23 : IVec S8192x1024 1) (main_v26 : IVec S8192x1024 1) (main_v29 : IVec S8192x256 1) (main_v32 : IVec S8192x256 1) (main_v35 : IVec S8192x1024 1) : IVec S8192x1024 1 × IVec S1x1024 1 × IVec S1024x5632 1 × IVec S1x1024 1 × IVec S1x1024 1 × IVec S8x128x128 1 × IVec S8x128 1 × IVec S8192x1024 1 × IVec S8192x1024 1 × IVec S8192x256 1 × IVec S8192x256 1 × IVec S8192x1024 1 × IVec S8192x1024 1 :=
  let main_v36 : FVec F S8192x1024 .f32 := Host.absf main_arg13
  let main_cst_11 : FVec F S_ .f32 := constant S_ .f32 0x7F800000#32
  let main_v37 : FVec F S8192x1024 .f32 := broadcastInDim S8192x1024 ![] bcast_S_S8192x1024 main_cst_11
  let main_v38 : IVec S8192x1024 1 := cmpf .olt main_v36 main_v37
  (main_v2, main_v5, main_v8, main_v11, main_v14, main_v17, main_v20, main_v23, main_v26, main_v29, main_v32, main_v35, main_v38)

def fn_part1 {F : FTy → Type} [FloatOps F] (main_arg6 : FVec F S8x128 .f32) (main_arg8 : FVec F S8192x1024 .f32) (main_arg9 : FVec F S8192x1024 .f32) (main_arg10 : FVec F S8192x256 .f32) (main_arg11 : FVec F S8192x256 .f32) (main_arg12 : FVec F S8192x1024 .f32) (main_arg13 : FVec F S8192x1024 .f32) (main_v2 : IVec S8192x1024 1) (main_v5 : IVec S1x1024 1) (main_v8 : IVec S1024x5632 1) (main_v11 : IVec S1x1024 1) (main_v14 : IVec S1x1024 1) (main_v17 : IVec S8x128x128 1) : IVec S8192x1024 1 × IVec S1x1024 1 × IVec S1024x5632 1 × IVec S1x1024 1 × IVec S1x1024 1 × IVec S8x128x128 1 × IVec S8x128 1 × IVec S8192x1024 1 × IVec S8192x1024 1 × IVec S8192x256 1 × IVec S8192x256 1 × IVec S8192x1024 1 × IVec S8192x1024 1 :=
  let main_v18 : FVec F S8x128 .f32 := Host.absf main_arg6
  let main_cst_5 : FVec F S_ .f32 := constant S_ .f32 0x7F800000#32
  let main_v19 : FVec F S8x128 .f32 := broadcastInDim S8x128 ![] bcast_S_S8x128 main_cst_5
  let main_v20 : IVec S8x128 1 := cmpf .olt main_v18 main_v19
  let main_v21 : FVec F S8192x1024 .f32 := Host.absf main_arg8
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  let main_v24 : FVec F S8192x1024 .f32 := Host.absf main_arg9
  let main_cst_7 : FVec F S_ .f32 := constant S_ .f32 0x7F800000#32
  let main_v25 : FVec F S8192x1024 .f32 := broadcastInDim S8192x1024 ![] bcast_S_S8192x1024 main_cst_7
  let main_v26 : IVec S8192x1024 1 := cmpf .olt main_v24 main_v25
  let main_v27 : FVec F S8192x256 .f32 := Host.absf main_arg10
  let main_cst_8 : FVec F S_ .f32 := constant S_ .f32 0x7F800000#32
  let main_v28 : FVec F S8192x256 .f32 := broadcastInDim S8192x256 ![] bcast_S_S8192x256 main_cst_8
  let main_v29 : IVec S8192x256 1 := cmpf .olt main_v27 main_v28
  let main_v30 : FVec F S8192x256 .f32 := Host.absf main_arg11
  let main_cst_9 : FVec F S_ .f32 := constant S_ .f32 0x7F800000#32
  let main_v31 : FVec F S8192x256 .f32 := broadcastInDim S8192x256 ![] bcast_S_S8192x256 main_cst_9
  let main_v32 : IVec S8192x256 1 := cmpf .olt main_v30 main_v31
  let main_v33 : FVec F S8192x1024 .f32 := Host.absf main_arg12
  let main_cst_10 : FVec F S_ .f32 := constant S_ .f32 0x7F800000#32
  let main_v34 : FVec F S8192x1024 .f32 := broadcastInDim S8192x1024 ![] bcast_S_S8192x1024 main_cst_10
  let main_v35 : IVec S8192x1024 1 := cmpf .olt main_v33 main_v34
  fn_part2 (F := F) main_arg13 main_v2 main_v5 main_v8 main_v11 main_v14 main_v17 main_v20 main_v23 main_v26 main_v29 main_v32 main_v35

def fn {F : FTy → Type} [FloatOps F] (main_arg0 : FVec F S8192x1024 .f32) (main_arg1 : FVec F S1x1024 .f32) (main_arg2 : FVec F S1024x5632 .f32) (main_arg3 : FVec F S1x1024 .f32) (main_arg4 : FVec F S1x1024 .f32) (main_arg5 : FVec F S8x128x128 .f32) (main_arg6 : FVec F S8x128 .f32) (main_arg7 : FVec F S8192x1024 .f32) (main_arg8 : FVec F S8192x1024 .f32) (main_arg9 : FVec F S8192x1024 .f32) (main_arg10 : FVec F S8192x256 .f32) (main_arg11 : FVec F S8192x256 .f32) (main_arg12 : FVec F S8192x1024 .f32) (main_arg13 : FVec F S8192x1024 .f32) : IVec S8192x1024 1 × IVec S1x1024 1 × IVec S1024x5632 1 × IVec S1x1024 1 × IVec S1x1024 1 × IVec S8x128x128 1 × IVec S8x128 1 × IVec S8192x1024 1 × IVec S8192x1024 1 × IVec S8192x256 1 × IVec S8192x256 1 × IVec S8192x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S8x128x128 .f32 := Host.absf main_arg5
  let main_cst_4 : FVec F S_ .f32 := constant S_ .f32 0x7F800000#32
  let main_v16 : FVec F S8x128x128 .f32 := broadcastInDim S8x128x128 ![] bcast_S_S8x128x128 main_cst_4
  let main_v17 : IVec S8x128x128 1 := cmpf .olt main_v15 main_v16
  fn_part1 (F := F) main_arg6 main_arg8 main_arg9 main_arg10 main_arg11 main_arg12 main_arg13 main_v2 main_v5 main_v8 main_v11 main_v14 main_v17
-- ==== Ffn.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024 : Shape := ⟨1, ![1024]⟩

abbrev nBuf : Space → Nat
  | .hbm => 16
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S8192x1024, .bf16⟩
  | .hbm, ⟨9, _⟩ => ⟨S8192x4096, .bf16⟩
  | .hbm, ⟨10, _⟩ => ⟨S8192x1024, .bf16⟩
  | .hbm, ⟨11, _⟩ => ⟨S8192x4096, .bf16⟩
  | .hbm, ⟨12, _⟩ => ⟨S8192x1024, .f32⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x4096, .bf16⟩
  | .local _ .vmem, ⟨5, _⟩ => ⟨S4096x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x4096, .bf16⟩
  | .local _ .vmem, ⟨11, _⟩ => ⟨S512x4096, .bf16⟩
  | .local _ .vmem, ⟨12, _⟩ => ⟨S512x1024, .bf16⟩
  | .local _ .vmem, ⟨13, _⟩ => ⟨S512x1024, .bf16⟩
  | .local _ .vmem, ⟨14, _⟩ => ⟨S512x4096, .bf16⟩
  | .local _ .vmem, ⟨15, _⟩ => ⟨S512x4096, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v2_6 : Ref sig .tc := ⟨.hbm, 14, rfl⟩
abbrev main_v2_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnRefIdeal.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1024 : Shape := ⟨1, ![1024]⟩

abbrev nBuf : Space → Nat
  | .hbm => 187
  | .vmem => 0
  | .smem => 0
  | _ => 0

abbrev hbmTy0_0 (i : Nat) : BufTy := match i % 128 with
  | 0 => ⟨S8192x1024, .f32⟩
  | 1 => ⟨S8192x1024, .f32⟩
  | 2 => ⟨S1024x4096, .f32⟩
  | 3 => ⟨S4096x1024, .f32⟩
  | 4 => ⟨S1x1024, .f32⟩
  | 5 => ⟨S1x1024, .f32⟩
  | 6 => ⟨S_, .f32⟩
  | 7 => ⟨S8192x4096, .f32⟩
  | 8 => ⟨S_, .f32⟩
  | 9 => ⟨S8192x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S8192x1024, .f32⟩
  | 28 => ⟨S8192x1024, .f32⟩
  | 29 => ⟨S8192x4096, .f32⟩
  | 30 => ⟨S8192x4096, .f32⟩
  | 31 => ⟨S_, .f32⟩
  | 32 => ⟨S8192x4096, .f32⟩
  | 33 => ⟨S8192x4096, .f32⟩
  | 34 => ⟨S_, .f32⟩
  | 35 => ⟨S8192x4096, .f32⟩
  | 36 => ⟨S8192x4096, .i1⟩
  | 37 => ⟨S_, .f32⟩
  | 38 => ⟨S8192x4096, .f32⟩
  | 39 => ⟨S8192x4096, .f32⟩
  | 40 => ⟨S_, .f32⟩
  | 41 => ⟨S8192x4096, .f32⟩
  | 42 => ⟨S8192x4096, .f32⟩
  | 43 => ⟨S8192x1024, .f32⟩
  | 44 => ⟨S8192x1024, .f32⟩
  | 45 => ⟨S8192x1024, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192, .f32⟩
  | 72 => ⟨S_, .f32⟩
  | 73 => ⟨S8192, .f32⟩
  | 74 => ⟨S8192, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S8192, .f32⟩
  | 83 => ⟨S_, .f32⟩
  | 84 => ⟨S8192, .f32⟩
  | 85 => ⟨S8192, .f32⟩
  | 86 => ⟨S8192x1024, .f32⟩
  | 87 => ⟨S8192x1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S8192x1024, .f32⟩
  | 95 => ⟨S_, .f32⟩
  | 96 => ⟨S8192, .f32⟩
  | 97 => ⟨S8192x1, .f32⟩
  | 98 => ⟨S8192x1024, .f32⟩
  | 99 => ⟨S8192x1024, .f32⟩
  | 100 => ⟨S8192x1, .f32⟩
  | 101 => ⟨S_, .f32⟩
  | 102 => ⟨S8192x1, .f32⟩
  | 103 => ⟨S8192x1, .f32⟩
  | 104 => ⟨S_, .f32⟩
  | 105 => ⟨S8192, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x4096, .f32⟩
  | 112 => ⟨S8192x4096, .f32⟩
  | 113 => ⟨S_, .f32⟩
  | 114 => ⟨S8192x4096, .f32⟩
  | 115 => ⟨S8192x4096, .f32⟩
  | 116 => ⟨S8192x1024, .f32⟩
  | 117 => ⟨S8192x1024, .f32⟩
  | 118 => ⟨S_, .f32⟩
  | 119 => ⟨S1024, .f32⟩
  | 120 => ⟨S1x1024, .f32⟩
  | 121 => ⟨S8192x1024, .f32⟩
  | 122 => ⟨S8192x1024, .f32⟩
  | 123 => ⟨S8192x1024, .f32⟩
  | 124 => ⟨S_, .f32⟩
  | 125 => ⟨S8192, .f32⟩
  | 126 => ⟨S8192x1, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1, .f32⟩
  | 3 => ⟨S_, .f32⟩
  | 4 => ⟨S8192x1, .f32⟩
  | 5 => ⟨S8192x1, .f32⟩
  | 6 => ⟨S_, .f32⟩
  | 7 => ⟨S8192, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1024, .f32⟩
  | 25 => ⟨S8192x1024, .f32⟩
  | 26 => ⟨S8192x1024, .f32⟩
  | 27 => ⟨S8192x1024, .f32⟩
  | 28 => ⟨S8192x4096, .f32⟩
  | 29 => ⟨S_, .f32⟩
  | 30 => ⟨S8192x4096, .f32⟩
  | 31 => ⟨S8192x4096, .f32⟩
  | 32 => ⟨S8192x4096, .f32⟩
  | 33 => ⟨S8192x1024, .f32⟩
  | 34 => ⟨S8192x1024, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x1, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S_, .f32⟩
  | 53 => ⟨S1024, .f32⟩
  | 54 => ⟨S1x1024, .f32⟩
  | 55 => ⟨S8192x1024, .bf16⟩
  | 56 => ⟨S8192x4096, .bf16⟩
  | 57 => ⟨S8192x1024, .bf16⟩
  | 58 => ⟨S8192x4096, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_cst_14 : Ref sig .tc := ⟨.hbm, 72, rfl⟩
abbrev main_v49 : Ref sig .tc := ⟨.hbm, 73, rfl⟩
abbrev main_v50 : Ref sig .tc := ⟨.hbm, 74, rfl⟩
abbrev main_cst_15 : Ref sig .tc := ⟨.hbm, 75, rfl⟩
abbrev main_v51 : Ref sig .tc := ⟨.hbm, 76, rfl⟩
abbrev main_cst_16 : Ref sig .tc := ⟨.hbm, 77, rfl⟩
abbrev main_v52 : Ref sig .tc := ⟨.hbm, 78, rfl⟩
abbrev main_cst_17 : Ref sig .tc := ⟨.hbm, 79, rfl⟩
abbrev main_cst_18 : Ref sig .tc := ⟨.hbm, 80, rfl⟩
abbrev main_v53 : Ref sig .tc := ⟨.hbm, 81, rfl⟩
abbrev main_v54 : Ref sig .tc := ⟨.hbm, 82, rfl⟩
abbrev main_cst_19 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_20 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_21 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_22 : Ref sig .tc := ⟨.hbm, 101, rfl⟩
abbrev main_v70 : Ref sig .tc := ⟨.hbm, 102, rfl⟩
abbrev main_v71 : Ref sig .tc := ⟨.hbm, 103, rfl⟩
abbrev main_cst_23 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_24 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_25 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_26 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_27 : Ref sig .tc := ⟨.hbm, 131, rfl⟩
abbrev main_v95 : Ref sig .tc := ⟨.hbm, 132, rfl⟩
abbrev main_v96 : Ref sig .tc := ⟨.hbm, 133, rfl⟩
abbrev main_cst_28 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_29 : Ref sig .tc := ⟨.hbm, 142, rfl⟩
abbrev main_v104 : Ref sig .tc := ⟨.hbm, 143, rfl⟩
abbrev main_v105 : Ref sig .tc := ⟨.hbm, 144, rfl⟩
abbrev main_cst_30 : Ref sig .tc := ⟨.hbm, 145, rfl⟩
abbrev main_v106 : Ref sig .tc := ⟨.hbm, 146, rfl⟩
abbrev main_v107 : Ref sig .tc := ⟨.hbm, 147, rfl⟩
abbrev main_cst_31 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_call1_cst : Ref sig .tc := ⟨.hbm, 157, rfl⟩
abbrev main_call1_v0 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_32 : Ref sig .tc := ⟨.hbm, 163, rfl⟩
abbrev main_v120 : Ref sig .tc := ⟨.hbm, 164, rfl⟩
abbrev main_v121 : Ref sig .tc := ⟨.hbm, 165, rfl⟩
abbrev main_cst_33 : Ref sig .tc := ⟨.hbm, 166, rfl⟩
abbrev main_v122 : Ref sig .tc := ⟨.hbm, 167, rfl⟩
abbrev main_v123 : Ref sig .tc := ⟨.hbm, 168, rfl⟩
abbrev main_cst_34 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_cst_35 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩

abbrev nD : Nat := 1
abbrev τ : Topo := Topo.v7x

variable {F : FTy → Type} [FloatOps F]
-- ==== Attn.lean ====
abbrev S8192x1024 : Shape := ⟨2, ![8192, 1024]⟩
abbrev S8192x256 : Shape := ⟨2, ![8192, 256]⟩
abbrev S16 : Shape := ⟨1, ![16]⟩
abbrev S8192 : Shape := ⟨1, ![8192]⟩
abbrev S8192x16x64 : Shape := ⟨3, ![8192, 16, 64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S8192x16x8 : Shape := ⟨3, ![8192, 16, 8]⟩
abbrev S8192x16x48 : Shape := ⟨3, ![8192, 16, 48]⟩
abbrev S8192x4x64 : Shape := ⟨3, ![8192, 4, 64]⟩
abbrev S8192x4x8 : Shape := ⟨3, ![8192, 4, 8]⟩
abbrev S8192x4x48 : Shape := ⟨3, ![8192, 4, 48]⟩
abbrev S8192x48 : Shape := ⟨2, ![8192, 48]⟩
abbrev S8192x128 : Shape := ⟨2, ![8192, 128]⟩
abbrev S1x128 : Shape := ⟨2, ![1, 128]⟩
abbrev S128x1024 : Shape := ⟨2, ![128, 1024]⟩
abbrev S128x256 : Shape := ⟨2, ![128, 256]⟩
abbrev S128x128 : Shape := ⟨2, ![128, 128]⟩
abbrev S128x512 : Shape := ⟨2, ![128, 512]⟩
abbrev S256x128 : Shape := ⟨2, ![256, 128]⟩
abbrev S512x128 : Shape := ⟨2, ![512, 128]⟩
abbrev S1 : Shape := ⟨1, ![1]⟩
abbrev S128 : Shape := ⟨1, ![128]⟩
abbrev S128x1 : Shape := ⟨2, ![128, 1]⟩
abbrev S1x1 : Shape := ⟨2, ![1, 1]⟩
abbrev S64x256 : Shape := ⟨2, ![64, 256]⟩
abbrev S256x256 : Shape := ⟨2, ![256, 256]⟩

abbrev nBuf : Space → Nat
  | .hbm => 130
  | .vmem => 33
  | .smem => 1
  | _ => 0

abbrev hbmTy0_0 (i : Nat) : BufTy := match i % 128 with
  | 0 => ⟨S8192x1024, .f32⟩
  | 1 => ⟨S8192x256, .f32⟩
  | 2 => ⟨S8192x256, .f32⟩
  | 3 => ⟨S16, .f32⟩
  | 4 => ⟨S8192, .i32⟩
  | 5 => ⟨S8192x1024, .f32⟩
  | 6 => ⟨S8192x16x64, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S8192, .f32⟩
  | 22 => ⟨S8192x1, .f32⟩
  | 23 => ⟨S1x8, .f32⟩
  | 24 => ⟨S8192x8, .f32⟩
  | 25 => ⟨S8192x8, .f32⟩
  | 26 => ⟨S8192x8, .f32⟩
  | 27 => ⟨S8192x8, .f32⟩
  | 28 => ⟨S8192x1x8, .f32⟩
  | 29 => ⟨S8192x8, .f32⟩
  | 30 => ⟨S8192x1x8, .f32⟩
  | 31 => ⟨S8192x16x8, .f32⟩
  | 32 => ⟨S8192x16x8, .f32⟩
  | 33 => ⟨S8192x16x8, .f32⟩
  | 34 => ⟨S8192x16x8, .f32⟩
  | 35 => ⟨S8192x16x8, .f32⟩
  | 36 => ⟨S8192x16x8, .f32⟩
  | 37 => ⟨S8192x16x8, .f32⟩
  | 38 => ⟨S8192x16x8, .f32⟩
  | 39 => ⟨S8192x16x8, .f32⟩
  | 40 => ⟨S8192x16x8, .f32⟩
  | 41 => ⟨S8192x16x8, .f32⟩
  | 42 => ⟨S8192x16x8, .f32⟩
  | 43 => ⟨S8192x16x48, .f32⟩
  | 44 => ⟨S8192x16x64, .f32⟩
  | 45 => ⟨S8192x1024, .f32⟩
  | 46 => ⟨S_, .f32⟩
  | 47 => ⟨S8192x1024, .f32⟩
  | 48 => ⟨S8192x1024, .f32⟩
  | 49 => ⟨S8192x4x64, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S8192, .f32⟩
  | 65 => ⟨S8192x1, .f32⟩
  | 66 => ⟨S1x8, .f32⟩
  | 67 => ⟨S8192x8, .f32⟩
  | 68 => ⟨S8192x8, .f32⟩
  | 69 => ⟨S8192x8, .f32⟩
  | 70 => ⟨S8192x8, .f32⟩
  | 71 => ⟨S8192x1x8, .f32⟩
  | 72 => ⟨S8192x8, .f32⟩
  | 73 => ⟨S8192x1x8, .f32⟩
  | 74 => ⟨S8192x4x8, .f32⟩
  | 75 => ⟨S8192x4x8, .f32⟩
  | 76 => ⟨S8192x4x8, .f32⟩
  | 77 => ⟨S8192x4x8, .f32⟩
  | 78 => ⟨S8192x4x8, .f32⟩
  | 79 => ⟨S8192x4x8, .f32⟩
  | 80 => ⟨S8192x4x8, .f32⟩
  | 81 => ⟨S8192x4x8, .f32⟩
  | 82 => ⟨S8192x4x8, .f32⟩
  | 83 => ⟨S8192x4x8, .f32⟩
  | 84 => ⟨S8192x4x8, .f32⟩
  | 85 => ⟨S8192x4x8, .f32⟩
  | 86 => ⟨S8192x4x48, .f32⟩
  | 87 => ⟨S8192x4x64, .f32⟩
  | 88 => ⟨S8192x256, .f32⟩
  | 89 => ⟨S8, .f32⟩
  | 90 => ⟨S_, .f32⟩
  | 91 => ⟨S8, .f32⟩
  | 92 => ⟨S8, .f32⟩
  | 93 => ⟨S_, .f32⟩
  | 94 => ⟨S8, .f32⟩
  | 95 => ⟨S8, .f32⟩
  | 96 => ⟨S8, .f32⟩
  | 97 => ⟨S_, .f32⟩
  | 98 => ⟨S8, .f32⟩
  | 99 => ⟨S8, .f32⟩
  | 100 => ⟨S_, .f32⟩
  | 101 => ⟨S8, .f32⟩
  | 102 => ⟨S8, .f32⟩
  | 103 => ⟨S8192, .f32⟩
  | 104 => ⟨S8192x1, .f32⟩
  | 105 => ⟨S1x8, .f32⟩
  | 106 => ⟨S8192x8, .f32⟩
  | 107 => ⟨S8192x8, .f32⟩
  | 108 => ⟨S8192x8, .f32⟩
  | 109 => ⟨S8192x8, .f32⟩
  | 110 => ⟨S8192x8, .f32⟩
  | 111 => ⟨S_, .f32⟩
  | 112 => ⟨S8192x8, .f32⟩
  | 113 => ⟨S_, .f32⟩
  | 114 => ⟨S8192x48, .f32⟩
  | 115 => ⟨S_, .f32⟩
  | 116 => ⟨S8192x48, .f32⟩
  | 117 => ⟨S8192x48, .f32⟩
  | 118 => ⟨S8192x128, .f32⟩
  | 119 => ⟨S8192x8, .f32⟩
  | 120 => ⟨S8192x128, .f32⟩
  | 121 => ⟨S8192x128, .f32⟩
  | 122 => ⟨S8192x1024, .bf16⟩
  | 123 => ⟨S8192x256, .bf16⟩
  | 124 => ⟨S8192x256, .bf16⟩
  | 125 => ⟨S8192x1024, .bf16⟩
  | 126 => ⟨S8192x1024, .bf16⟩
  | 127 => ⟨S8192x256, .bf16⟩
  | _ => ⟨S8192x1024, .f32⟩

abbrev hbmTy0_1 (i : Nat) : BufTy := match i % 128 with
  | 0 => ⟨S8192x256, .bf16⟩
  | 1 => ⟨S1x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x1024, .bf16⟩
  | .local _ .vmem, ⟨11, _⟩ => ⟨S128x1024, .bf16⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x1024, .bf16⟩
  | .local _ .vmem, ⟨25, _⟩ => ⟨S128x1024, .bf16⟩
  | .local _ .vmem, ⟨26, _⟩ => ⟨S128x256, .bf16⟩
  | .local _ .vmem, ⟨27, _⟩ => ⟨S128x256, .bf16⟩
  | .local _ .vmem, ⟨28, _⟩ => ⟨S128x256, .bf16⟩
  | .local _ .vmem, ⟨29, _⟩ => ⟨S128x256, .bf16⟩
  | .local _ .vmem, ⟨30, _⟩ => ⟨S1x128, .f32⟩
  | .local _ .vmem, ⟨31, _⟩ => ⟨S128x256, .f32⟩
  | .local _ .vmem, ⟨32, _⟩ => ⟨S128x256, .f32⟩
  | .local _ .smem, ⟨0, _⟩ => ⟨S16, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_8 : Ref sig .tc := ⟨.hbm, 90, rfl⟩
abbrev main_v75 : Ref sig .tc := ⟨.hbm, 91, rfl⟩
abbrev main_v76 : Ref sig .tc := ⟨.hbm, 92, rfl⟩
abbrev main_cst_9 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_10 : Ref sig .tc := ⟨.hbm, 97, rfl⟩
abbrev main_v80 : Ref sig .tc := ⟨.hbm, 98, rfl⟩
abbrev main_v81 : Ref sig .tc := ⟨.hbm, 99, rfl⟩
abbrev main_cst_11 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_12 : Ref sig .tc := ⟨.hbm, 111, rfl⟩
abbrev main_v92 : Ref sig .tc := ⟨.hbm, 112, rfl⟩
abbrev main_cst_13 : Ref sig .tc := ⟨.hbm, 113, rfl⟩
abbrev main_v93 : Ref sig .tc := ⟨.hbm, 114, rfl⟩
abbrev main_cst_14 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104_0 : Ref sig .tc := ⟨.hbm, 126, rfl⟩
abbrev main_v104_1 : Ref sig .tc := ⟨.hbm, 127, rfl⟩
abbrev main_v104_2 : Ref sig .tc := ⟨.hbm, 128, rfl⟩
abbrev main_v104_3 : Ref sig .tc := ⟨.hbm, 129, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_scratch0 : Ref sig .tc := ⟨.vmem, 31, rfl⟩
abbrev cc0_scratch1 : Ref sig .tc := ⟨.vmem, 32, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v3 : BitVec 1 := Scalar.cmpi .slt arg0 c64_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c64_i32_2 : BitVec 32 := 64#32
  let v6 : BitVec 1 := Scalar.cmpi .eq arg0 c64_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== AttnIdeal.lean ====
variable {F : FTy → Type} [FloatOps F] [Named F]
def κ : String → Option EReal := fun
  | "mask" => some ⊥
  | _ => none
-- ==== AttnRefIdeal.lean ====
abbrev S8192x1024 : Shape := ⟨2, ![8192, 1024]⟩
abbrev S8192x256 : Shape := ⟨2, ![8192, 256]⟩
abbrev S16 : Shape := ⟨1, ![16]⟩
abbrev S8192 : Shape := ⟨1, ![8192]⟩
abbrev S8192x16x64 : Shape := ⟨3, ![8192, 16, 64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S8192x16x8 : Shape := ⟨3, ![8192, 16, 8]⟩
abbrev S8192x16x48 : Shape := ⟨3, ![8192, 16, 48]⟩
abbrev S8192x4x64 : Shape := ⟨3, ![8192, 4, 64]⟩
abbrev S8192x4x8 : Shape := ⟨3, ![8192, 4, 8]⟩
abbrev S8192x4x48 : Shape := ⟨3, ![8192, 4, 48]⟩
abbrev S64x128x4x4x64 : Shape := ⟨5, ![64, 128, 4, 4, 64]⟩
abbrev S64x128x4x64 : Shape := ⟨4, ![64, 128, 4, 64]⟩
abbrev S1x128x4x64 : Shape := ⟨4, ![1, 128, 4, 64]⟩
abbrev S63x128x4x64 : Shape := ⟨4, ![63, 128, 4, 64]⟩
abbrev S64x256x4x64 : Shape := ⟨4, ![64, 256, 4, 64]⟩
abbrev S64x4x256x128x4 : Shape := ⟨5, ![64, 4, 256, 128, 4]⟩
abbrev S64x4x4x128x256 : Shape := ⟨5, ![64, 4, 4, 128, 256]⟩
abbrev S64 : Shape := ⟨1, ![64]⟩
abbrev S64x1 : Shape := ⟨2, ![64, 1]⟩
abbrev S128 : Shape := ⟨1, ![128]⟩
abbrev S1x128 : Shape := ⟨2, ![1, 128]⟩
abbrev S64x128 : Shape := ⟨2, ![64, 128]⟩
abbrev S256 : Shape := ⟨1, ![256]⟩
abbrev S1x256 : Shape := ⟨2, ![1, 256]⟩
abbrev S64x256 : Shape := ⟨2, ![64, 256]⟩
abbrev S64x128x1 : Shape := ⟨3, ![64, 128, 1]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S4x4 : Shape := ⟨2, ![4, 4]⟩
abbrev S1x4x4x1x1 : Shape := ⟨5, ![1, 4, 4, 1, 1]⟩
abbrev S64x4x4x128 : Shape := ⟨4, ![64, 4, 4, 128]⟩
abbrev S64x4x4x128x1 : Shape := ⟨5, ![64, 4, 4, 128, 1]⟩
abbrev S64x4x64x4x128 : Shape := ⟨5, ![64, 4, 64, 4, 128]⟩
abbrev S64x4x64x256 : Shape := ⟨4, ![64, 4, 64, 256]⟩
abbrev S4x4x1 : Shape := ⟨3, ![4, 4, 1]⟩
abbrev S64x4x128x4x64 : Shape := ⟨5, ![64, 4, 128, 4, 64]⟩
abbrev S64x4x256x64 : Shape := ⟨4, ![64, 4, 256, 64]⟩

abbrev nBuf : Space → Nat
  | .hbm => 333
  | .vmem => 0
  | .smem => 0
  | _ => 0

abbrev hbmTy0_0 (i : Nat) : BufTy := match i % 128 with
  | 0 => ⟨S8192x1024, .f32⟩
  | 1 => ⟨S8192x256, .f32⟩
  | 2 => ⟨S8192x256, .f32⟩
  | 3 => ⟨S16, .f32⟩
  | 4 => ⟨S8192, .i32⟩
  | 5 => ⟨S8192x1024, .f32⟩
  | 6 => ⟨S8192x16x64, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S8192, .f32⟩
  | 22 => ⟨S8192x1, .f32⟩
  | 23 => ⟨S1x8, .f32⟩
  | 24 => ⟨S8192x8, .f32⟩
  | 25 => ⟨S8192x8, .f32⟩
  | 26 => ⟨S8192x8, .f32⟩
  | 27 => ⟨S8192x8, .f32⟩
  | 28 => ⟨S8192x1x8, .f32⟩
  | 29 => ⟨S8192x8, .f32⟩
  | 30 => ⟨S8192x1x8, .f32⟩
  | 31 => ⟨S8192x16x8, .f32⟩
  | 32 => ⟨S8192x16x8, .f32⟩
  | 33 => ⟨S8192x16x8, .f32⟩
  | 34 => ⟨S8192x16x8, .f32⟩
  | 35 => ⟨S8192x16x8, .f32⟩
  | 36 => ⟨S8192x16x8, .f32⟩
  | 37 => ⟨S8192x16x8, .f32⟩
  | 38 => ⟨S8192x16x8, .f32⟩
  | 39 => ⟨S8192x16x8, .f32⟩
  | 40 => ⟨S8192x16x8, .f32⟩
  | 41 => ⟨S8192x16x8, .f32⟩
  | 42 => ⟨S8192x16x8, .f32⟩
  | 43 => ⟨S8192x16x48, .f32⟩
  | 44 => ⟨S8192x16x64, .f32⟩
  | 45 => ⟨S8192x4x64, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S8, .f32⟩
  | 54 => ⟨S_, .f32⟩
  | 55 => ⟨S8, .f32⟩
  | 56 => ⟨S8, .f32⟩
  | 57 => ⟨S_, .f32⟩
  | 58 => ⟨S8, .f32⟩
  | 59 => ⟨S8, .f32⟩
  | 60 => ⟨S8192, .f32⟩
  | 61 => ⟨S8192x1, .f32⟩
  | 62 => ⟨S1x8, .f32⟩
  | 63 => ⟨S8192x8, .f32⟩
  | 64 => ⟨S8192x8, .f32⟩
  | 65 => ⟨S8192x8, .f32⟩
  | 66 => ⟨S8192x8, .f32⟩
  | 67 => ⟨S8192x1x8, .f32⟩
  | 68 => ⟨S8192x8, .f32⟩
  | 69 => ⟨S8192x1x8, .f32⟩
  | 70 => ⟨S8192x4x8, .f32⟩
  | 71 => ⟨S8192x4x8, .f32⟩
  | 72 => ⟨S8192x4x8, .f32⟩
  | 73 => ⟨S8192x4x8, .f32⟩
  | 74 => ⟨S8192x4x8, .f32⟩
  | 75 => ⟨S8192x4x8, .f32⟩
  | 76 => ⟨S8192x4x8, .f32⟩
  | 77 => ⟨S8192x4x8, .f32⟩
  | 78 => ⟨S8192x4x8, .f32⟩
  | 79 => ⟨S8192x4x8, .f32⟩
  | 80 => ⟨S8192x4x8, .f32⟩
  | 81 => ⟨S8192x4x8, .f32⟩
  | 82 => ⟨S8192x4x48, .f32⟩
  | 83 => ⟨S8192x4x64, .f32⟩
  | 84 => ⟨S8192x4x64, .f32⟩
  | 85 => ⟨S64x128x4x4x64, .f32⟩
  | 86 => ⟨S64x128x4x64, .f32⟩
  | 87 => ⟨S64x128x4x64, .f32⟩
  | 88 => ⟨S_, .f32⟩
  | 89 => ⟨S1x128x4x64, .f32⟩
  | 90 => ⟨S63x128x4x64, .f32⟩
  | 91 => ⟨S64x128x4x64, .f32⟩
  | 92 => ⟨S_, .f32⟩
  | 93 => ⟨S1x128x4x64, .f32⟩
  | 94 => ⟨S64x256x4x64, .f32⟩
  | 95 => ⟨S63x128x4x64, .f32⟩
  | 96 => ⟨S64x128x4x64, .f32⟩
  | 97 => ⟨S_, .f32⟩
  | 98 => ⟨S1x128x4x64, .f32⟩
  | 99 => ⟨S64x256x4x64, .f32⟩
  | 100 => ⟨S64x4x256x128x4, .f32⟩
  | 101 => ⟨S64x4x4x128x256, .f32⟩
  | 102 => ⟨S_, .f32⟩
  | 103 => ⟨S64x4x4x128x256, .f32⟩
  | 104 => ⟨S64x4x4x128x256, .f32⟩
  | 105 => ⟨S64, .i32⟩
  | 106 => ⟨S64x1, .i32⟩
  | 107 => ⟨S_, .i32⟩
  | 108 => ⟨S64x1, .i32⟩
  | 109 => ⟨S64x1, .i32⟩
  | 110 => ⟨S128, .i32⟩
  | 111 => ⟨S1x128, .i32⟩
  | 112 => ⟨S64x128, .i32⟩
  | 113 => ⟨S64x128, .i32⟩
  | 114 => ⟨S64x128, .i32⟩
  | 115 => ⟨S_, .i32⟩
  | 116 => ⟨S64x1, .i32⟩
  | 117 => ⟨S64x1, .i32⟩
  | 118 => ⟨S_, .i32⟩
  | 119 => ⟨S64x1, .i32⟩
  | 120 => ⟨S64x1, .i32⟩
  | 121 => ⟨S256, .i32⟩
  | 122 => ⟨S1x256, .i32⟩
  | 123 => ⟨S64x256, .i32⟩
  | 124 => ⟨S64x256, .i32⟩
  | 125 => ⟨S64x256, .i32⟩
  | 126 => ⟨S64x128x1, .i32⟩
  | 127 => ⟨S64x1x256, .i32⟩
  | _ => ⟨S8192x1024, .f32⟩

abbrev hbmTy0_1 (i : Nat) : BufTy := match i % 128 with
  | 0 => ⟨S64x128x256, .i32⟩
  | 1 => ⟨S64x128x256, .i32⟩
  | 2 => ⟨S64x128x256, .i32⟩
  | 3 => ⟨S_, .i32⟩
  | 4 => ⟨S64x128x256, .i32⟩
  | 5 => ⟨S64x128x256, .i1⟩
  | 6 => ⟨S_, .i32⟩
  | 7 => ⟨S64x128x256, .i32⟩
  | 8 => ⟨S64x128x256, .i1⟩
  | 9 => ⟨S64x128x256, .i1⟩
  | 10 => ⟨S64x1x256, .i32⟩
  | 11 => ⟨S_, .i32⟩
  | 12 => ⟨S64x1x256, .i32⟩
  | 13 => ⟨S64x1x256, .i1⟩
  | 14 => ⟨S64x128x256, .i1⟩
  | 15 => ⟨S64x128x256, .i1⟩
  | 16 => ⟨S64x1x1x128x256, .i1⟩
  | 17 => ⟨S_, .f32⟩
  | 18 => ⟨S64x4x4x128x256, .i1⟩
  | 19 => ⟨S64x4x4x128x256, .f32⟩
  | 20 => ⟨S64x4x4x128x256, .f32⟩
  | 21 => ⟨S_, .f32⟩
  | 22 => ⟨S64x4x4x128x256, .f32⟩
  | 23 => ⟨S4x4, .f32⟩
  | 24 => ⟨S1x4x4x1x1, .f32⟩
  | 25 => ⟨S_, .f32⟩
  | 26 => ⟨S64x4x4x128, .f32⟩
  | 27 => ⟨S64x4x4x128x1, .f32⟩
  | 28 => ⟨S64x4x4x128x256, .f32⟩
  | 29 => ⟨S64x4x4x128x256, .i1⟩
  | 30 => ⟨S64x4x4x128x256, .f32⟩
  | 31 => ⟨S_, .f32⟩
  | 32 => ⟨S64x4x4x128, .f32⟩
  | 33 => ⟨S64x4x4x128x1, .f32⟩
  | 34 => ⟨S64x4x4x128x1, .f32⟩
  | 35 => ⟨S64x4x4x128x1, .f32⟩
  | 36 => ⟨S64x4x4x128x1, .f32⟩
  | 37 => ⟨S64x4x4x128x1, .i1⟩
  | 38 => ⟨S64x4x4x128x1, .f32⟩
  | 39 => ⟨S64x4x4x128x1, .i1⟩
  | 40 => ⟨S_, .f32⟩
  | 41 => ⟨S64x4x4x128x1, .f32⟩
  | 42 => ⟨S_, .f32⟩
  | 43 => ⟨S64x4x4x128x1, .f32⟩
  | 44 => ⟨S_, .f32⟩
  | 45 => ⟨S64x4x4x128x1, .f32⟩
  | 46 => ⟨S64x4x4x128x1, .f32⟩
  | 47 => ⟨S64x4x4x128x1, .f32⟩
  | 48 => ⟨S64x4x4x128x1, .f32⟩
  | 49 => ⟨S64x4x4x128x1, .i1⟩
  | 50 => ⟨S64x4x4x128x1, .f32⟩
  | 51 => ⟨S64x4x4x128x1, .i1⟩
  | 52 => ⟨S_, .f32⟩
  | 53 => ⟨S64x4x4x128x1, .f32⟩
  | 54 => ⟨S_, .f32⟩
  | 55 => ⟨S64x4x4x128x1, .f32⟩
  | 56 => ⟨S_, .f32⟩
  | 57 => ⟨S64x4x4x128x1, .f32⟩
  | 58 => ⟨S64x4x4x128x1, .f32⟩
  | 59 => ⟨S64x4x4x128x1, .f32⟩
  | 60 => ⟨S64x4x4x128x256, .f32⟩
  | 61 => ⟨S64x4x4x128x256, .f32⟩
  | 62 => ⟨S64x4x4x128x256, .f32⟩
  | 63 => ⟨S_, .f32⟩
  | 64 => ⟨S64x4x4x128, .f32⟩
  | 65 => ⟨S64x4x4x128x1, .f32⟩
  | 66 => ⟨S64x4x4x128x1, .f32⟩
  | 67 => ⟨S64x4x4x128x1, .f32⟩
  | 68 => ⟨S64x4x4x128x1, .f32⟩
  | 69 => ⟨S64x4x4x128x1, .f32⟩
  | 70 => ⟨S64x4x4x128x256, .f32⟩
  | 71 => ⟨S64x4x4x128x256, .f32⟩
  | 72 => ⟨S64x4x4x128x1, .f32⟩
  | 73 => ⟨S_, .f32⟩
  | 74 => ⟨S64x4x4x128x1, .f32⟩
  | 75 => ⟨S64x4x4x128x1, .f32⟩
  | 76 => ⟨S64x4x64x4x128, .f32⟩
  | 77 => ⟨S64x128x4x4x64, .f32⟩
  | 78 => ⟨S8192x1024, .f32⟩
  | 79 => ⟨S64x128x4x4x64, .f32⟩
  | 80 => ⟨S64x4x64x4x128, .f32⟩
  | 81 => ⟨S64x4x4x128x256, .f32⟩
  | 82 => ⟨S64x4x64x256, .f32⟩
  | 83 => ⟨S64x256x4x64, .f32⟩
  | 84 => ⟨S64x4x4x128x256, .f32⟩
  | 85 => ⟨S64x4x4x128x256, .f32⟩
  | 86 => ⟨S64x4x4x128x256, .f32⟩
  | 87 => ⟨S_, .f32⟩
  | 88 => ⟨S64x4x4x128, .f32⟩
  | 89 => ⟨S64x4x4x128x1, .f32⟩
  | 90 => ⟨S64x4x4x128x1, .f32⟩
  | 91 => ⟨S64x4x4x128x256, .f32⟩
  | 92 => ⟨S64x4x4x128x256, .f32⟩
  | 93 => ⟨S64x4x4x128x1, .f32⟩
  | 94 => ⟨S_, .f32⟩
  | 95 => ⟨S4x4x1, .f32⟩
  | 96 => ⟨S1x4x4x1x1, .f32⟩
  | 97 => ⟨S64x4x4x128x1, .f32⟩
  | 98 => ⟨S_, .f32⟩
  | 99 => ⟨S64x4x4x128, .f32⟩
  | 100 => ⟨S64x4x4x128x256, .f32⟩
  | 101 => ⟨S64x4x4x128x256, .f32⟩
  | 102 => ⟨S64x4x4x128x256, .f32⟩
  | 103 => ⟨S64x4x4x128x256, .f32⟩
  | 104 => ⟨S_, .f32⟩
  | 105 => ⟨S64x4x4x128, .f32⟩
  | 106 => ⟨S64x4x4x128x1, .f32⟩
  | 107 => ⟨S64x4x4x128x1, .f32⟩
  | 108 => ⟨S64x4x4x128x1, .f32⟩
  | 109 => ⟨S_, .f32⟩
  | 110 => ⟨S4x4x1, .f32⟩
  | 111 => ⟨S1x4x4x1x1, .f32⟩
  | 112 => ⟨S1x4x4x1x1, .f32⟩
  | 113 => ⟨S64x4x4x128x1, .f32⟩
  | 114 => ⟨S_, .f32⟩
  | 115 => ⟨S64x4x4x128, .f32⟩
  | 116 => ⟨S64x4x4x128, .f32⟩
  | 117 => ⟨S64x4x4x128x256, .f32⟩
  | 118 => ⟨S64x4x4x128x256, .f32⟩
  | 119 => ⟨S64x4x4x128x256, .f32⟩
  | 120 => ⟨S_, .f32⟩
  | 121 => ⟨S4x4, .f32⟩
  | 122 => ⟨S16, .f32⟩
  | 123 => ⟨S_, .f32⟩
  | 124 => ⟨S64x4x4x128x256, .f32⟩
  | 125 => ⟨S64x4x4x128x256, .f32⟩
  | 126 => ⟨S_, .f32⟩
  | 127 => ⟨S64x4x4x128x256, .f32⟩
  | _ => ⟨S8192x1024, .f32⟩

abbrev hbmTy0_2 (i : Nat) : BufTy := match i % 128 with
  | 0 => ⟨S64x4x4x128x256, .f32⟩
  | 1 => ⟨S64x4x256x128x4, .f32⟩
  | 2 => ⟨S64x4x128x4x64, .f32⟩
  | 3 => ⟨S64x128x4x4x64, .f32⟩
  | 4 => ⟨S64x4x256x64, .f32⟩
  | 5 => ⟨S64x256x4x64, .f32⟩
  | 6 => ⟨S64x128x4x64, .f32⟩
  | 7 => ⟨S64x128x4x64, .f32⟩
  | 8 => ⟨S1x128x4x64, .f32⟩
  | 9 => ⟨S63x128x4x64, .f32⟩
  | 10 => ⟨S_, .f32⟩
  | 11 => ⟨S64x128x4x64, .f32⟩
  | 12 => ⟨S64x128x4x64, .f32⟩
  | 13 => ⟨S64x128x4x64, .f32⟩
  | 14 => ⟨S64x128x4x64, .f32⟩
  | 15 => ⟨S1x128x4x64, .f32⟩
  | 16 => ⟨S63x128x4x64, .f32⟩
  | 17 => ⟨S_, .f32⟩
  | 18 => ⟨S64x128x4x64, .f32⟩
  | 19 => ⟨S64x128x4x64, .f32⟩
  | 20 => ⟨S8192x4x64, .f32⟩
  | 21 => ⟨S8192x4x64, .f32⟩
  | 22 => ⟨S8192x16x64, .f32⟩
  | 23 => ⟨S8192x256, .f32⟩
  | 24 => ⟨S8192x4x8, .f32⟩
  | 25 => ⟨S8192x4x8, .f32⟩
  | 26 => ⟨S8192x4x48, .f32⟩
  | 27 => ⟨S_, .f32⟩
  | 28 => ⟨S8192x4x64, .f32⟩
  | 29 => ⟨S8192x4x8, .f32⟩
  | 30 => ⟨S8192x4x8, .f32⟩
  | 31 => ⟨S8192x4x8, .f32⟩
  | 32 => ⟨S8192x4x8, .f32⟩
  | 33 => ⟨S8192x4x8, .f32⟩
  | 34 => ⟨S8192x4x8, .f32⟩
  | 35 => ⟨S8192x4x8, .f32⟩
  | 36 => ⟨S8192x4x8, .f32⟩
  | 37 => ⟨S8192x4x8, .f32⟩
  | 38 => ⟨S8192x4x8, .f32⟩
  | 39 => ⟨S8192x4x8, .f32⟩
  | 40 => ⟨S_, .f32⟩
  | 41 => ⟨S8192x4x64, .f32⟩
  | 42 => ⟨S8192x4x64, .f32⟩
  | 43 => ⟨S_, .f32⟩
  | 44 => ⟨S8192x4x64, .f32⟩
  | 45 => ⟨S8192x4x64, .f32⟩
  | 46 => ⟨S8192x256, .f32⟩
  | 47 => ⟨S8192x16x8, .f32⟩
  | 48 => ⟨S8192x16x8, .f32⟩
  | 49 => ⟨S8192x16x48, .f32⟩
  | 50 => ⟨S_, .f32⟩
  | 51 => ⟨S8192x16x64, .f32⟩
  | 52 => ⟨S8192x16x8, .f32⟩
  | 53 => ⟨S8192x16x8, .f32⟩
  | 54 => ⟨S8192x16x8, .f32⟩
  | 55 => ⟨S8192x16x8, .f32⟩
  | 56 => ⟨S8192x16x8, .f32⟩
  | 57 => ⟨S8192x16x8, .f32⟩
  | 58 => ⟨S8192x16x8, .f32⟩
  | 59 => ⟨S8192x16x8, .f32⟩
  | 60 => ⟨S8192x16x8, .f32⟩
  | 61 => ⟨S8192x16x8, .f32⟩
  | 62 => ⟨S8192x16x8, .f32⟩
  | 63 => ⟨S_, .f32⟩
  | 64 => ⟨S8192x16x64, .f32⟩
  | 65 => ⟨S8192x16x64, .f32⟩
  | 66 => ⟨S_, .f32⟩
  | 67 => ⟨S8192x16x64, .f32⟩
  | 68 => ⟨S8192x16x64, .f32⟩
  | 69 => ⟨S8192x1024, .f32⟩
  | 70 => ⟨S8192x1024, .bf16⟩
  | 71 => ⟨S8192x256, .bf16⟩
  | 72 => ⟨S8192x256, .bf16⟩
  | 73 => ⟨S_, .i32⟩
  | 74 => ⟨S_, .f32⟩
  | 75 => ⟨S128, .f32⟩
  | 76 => ⟨S1x128, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_7 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_8 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_9 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_10 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_c : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_c_11 : Ref sig .tc := ⟨.hbm, 115, rfl⟩
abbrev main_v96 : Ref sig .tc := ⟨.hbm, 116, rfl⟩
abbrev main_v97 : Ref sig .tc := ⟨.hbm, 117, rfl⟩
abbrev main_c_12 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_c_13 : Ref sig .tc := ⟨.hbm, 131, rfl⟩
abbrev main_v110 : Ref sig .tc := ⟨.hbm, 132, rfl⟩
abbrev main_v111 : Ref sig .tc := ⟨.hbm, 133, rfl⟩
abbrev main_c_14 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_c_15 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_cst_16 : Ref sig .tc := ⟨.hbm, 145, rfl⟩
abbrev main_v121_1 : Ref sig .tc := ⟨.hbm, 146, rfl⟩
abbrev main_call0_v1 : Ref sig .tc := ⟨.hbm, 147, rfl⟩
abbrev main_v121_0 : Ref sig .tc := ⟨.hbm, 148, rfl⟩
abbrev main_call0_cst : Ref sig .tc := ⟨.hbm, 149, rfl⟩
abbrev main_v121_2 : Ref sig .tc := ⟨.hbm, 150, rfl⟩
abbrev main_v122 : Ref sig .tc := ⟨.hbm, 151, rfl⟩
abbrev main_v123 : Ref sig .tc := ⟨.hbm, 152, rfl⟩
abbrev main_cst_17 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_cst_18 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_cst_19 : Ref sig .tc := ⟨.hbm, 168, rfl⟩
abbrev main_v137 : Ref sig .tc := ⟨.hbm, 169, rfl⟩
abbrev main_cst_20 : Ref sig .tc := ⟨.hbm, 170, rfl⟩
abbrev main_v138 : Ref sig .tc := ⟨.hbm, 171, rfl⟩
abbrev main_cst_21 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_cst_22 : Ref sig .tc := ⟨.hbm, 180, rfl⟩
abbrev main_v146 : Ref sig .tc := ⟨.hbm, 181, rfl⟩
abbrev main_cst_23 : Ref sig .tc := ⟨.hbm, 182, rfl⟩
abbrev main_v147 : Ref sig .tc := ⟨.hbm, 183, rfl⟩
abbrev main_cst_24 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_cst_25 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_cst_26 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_cst_27 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_cst_28 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_cst_29 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_cst_30 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_cst_31 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_cst_32 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_cst_33 : Ref sig .tc := ⟨.hbm, 248, rfl⟩
abbrev main_v203 : Ref sig .tc := ⟨.hbm, 249, rfl⟩
abbrev main_v204 : Ref sig .tc := ⟨.hbm, 250, rfl⟩
abbrev main_call1_cst : Ref sig .tc := ⟨.hbm, 251, rfl⟩
abbrev main_call1_v0 : Ref sig .tc := ⟨.hbm, 252, rfl⟩
abbrev main_v205 : Ref sig .tc := ⟨.hbm, 253, rfl⟩
abbrev main_cst_34 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_cst_35 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_cst_36 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_cst_37 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_cst_38 : Ref sig .tc := ⟨.hbm, 296, rfl⟩
abbrev main_v244 : Ref sig .tc := ⟨.hbm, 297, rfl⟩
abbrev main_v245 : Ref sig .tc := ⟨.hbm, 298, rfl⟩
abbrev main_cst_39 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_cst_40 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_cst_41 : Ref sig .tc := ⟨.hbm, 319, rfl⟩
abbrev main_v264 : Ref sig .tc := ⟨.hbm, 320, rfl⟩
abbrev main_v265 : Ref sig .tc := ⟨.hbm, 321, rfl⟩
abbrev main_cst_42 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_c_43 : Ref sig .tc := ⟨.hbm, 329, rfl⟩
abbrev main_call2_v0 : Ref sig .tc := ⟨.hbm, 330, rfl⟩
abbrev main_v272 : Ref sig .tc := ⟨.hbm, 331, rfl⟩
abbrev main_v273 : Ref sig .tc := ⟨.hbm, 332, rfl⟩

abbrev nD : Nat := 1
abbrev τ : Topo := Topo.v7x

variable {F : FTy → Type} [FloatOps F]

def κ : String → Option EReal := fun
  | "mask" => some ⊥
  | _ => none
-- ==== Sgu.lean ====
abbrev S8192x1024 : Shape := ⟨2, ![8192, 1024]⟩
abbrev S1x1024 : Shape := ⟨2, ![1, 1024]⟩
abbrev S1024x5632 : Shape := ⟨2, ![1024, 5632]⟩
abbrev S8x128x128 : Shape := ⟨3, ![8, 128, 128]⟩
abbrev S8x128 : Shape := ⟨2, ![8, 128]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024x2048 : Shape := ⟨2, ![1024, 2048]⟩
abbrev S8192x2048 : Shape := ⟨2, ![8192, 2048]⟩
abbrev S128x8 : Shape := ⟨2, ![128, 8]⟩
abbrev S128x8x128 : Shape := ⟨3, ![128, 8, 128]⟩
abbrev S128x1024 : Shape := ⟨2, ![128, 1024]⟩
abbrev S8192x5632 : Shape := ⟨2, ![8192, 5632]⟩
abbrev S512x1024 : Shape := ⟨2, ![512, 1024]⟩
abbrev S512x256 : Shape := ⟨2, ![512, 256]⟩
abbrev S512x5632 : Shape := ⟨2, ![512, 5632]⟩
abbrev S512x1792 : Shape := ⟨2, ![512, 1792]⟩
abbrev S1024x1792 : Shape := ⟨2, ![1024, 1792]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x512 : Shape := ⟨2, ![128, 512]⟩
abbrev S1024x1024 : Shape := ⟨2, ![1024, 1024]⟩
abbrev S1024 : Shape := ⟨1, ![1024]⟩
abbrev S128 : Shape := ⟨1, ![128]⟩
abbrev S1x128 : Shape := ⟨2, ![1, 128]⟩

abbrev nBuf : Space → Nat
  | .hbm => 51
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S1x1024, .f32⟩
  | .hbm, ⟨4, _⟩ => ⟨S1x1024, .f32⟩
  | .hbm, ⟨5, _⟩ => ⟨S8x128x128, .f32⟩
  | .hbm, ⟨6, _⟩ => ⟨S8x128, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x256, .f32⟩
  | .hbm, ⟨11, _⟩ => ⟨S8192x256, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1024x2048, .f32⟩
  | .hbm, ⟨30, _⟩ => ⟨S8192x2048, .f32⟩
  | .hbm, ⟨31, _⟩ => ⟨S128x8, .f32⟩
  | .hbm, ⟨32, _⟩ => ⟨S128x8x128, .f32⟩
  | .hbm, ⟨33, _⟩ => ⟨S128x1024, .f32⟩
  | .hbm, ⟨34, _⟩ => ⟨S8192x1024, .f32⟩
  | .hbm, ⟨35, _⟩ => ⟨S8192x1024, .bf16⟩
  | .hbm, ⟨36, _⟩ => ⟨S8192x1024, .f32⟩
  | .hbm, ⟨37, _⟩ => ⟨S8192x1024, .bf16⟩
  | .hbm, ⟨38, _⟩ => ⟨S8192x1024, .bf16⟩
  | .hbm, ⟨39, _⟩ => ⟨S8192x256, .bf16⟩
  | .hbm, ⟨40, _⟩ => ⟨S8192x256, .bf16⟩
  | .hbm, ⟨41, _⟩ => ⟨S8192x1024, .bf16⟩
  | .hbm, ⟨42, _⟩ => ⟨S8192x1024, .bf16⟩
  | .hbm, ⟨43, _⟩ => ⟨S1024x5632, .bf16⟩
  | .hbm, ⟨44, _⟩ => ⟨S8192x1024, .f32⟩
  | .hbm, ⟨45, _⟩ => ⟨S8192x5632, .bf16⟩
  | .hbm, ⟨46, _⟩ => ⟨S1x1024, .f32⟩
  | .hbm, ⟨47, _⟩ => ⟨S8x128x128, .f32⟩
  | .hbm, ⟨48, _⟩ => ⟨S8x128, .f32⟩
  | .hbm, ⟨49, _⟩ => ⟨S1x1024, .f32⟩
  | .hbm, ⟨50, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x1024, .f32⟩
  | .local _ .vmem, ⟨10, _⟩ => ⟨S512x1024, .bf16⟩
  | .local _ .vmem, ⟨11, _⟩ => ⟨S512x1024, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S1024x5632, .bf16⟩
  | .local _ .vmem, ⟨26, _⟩ => ⟨S512x1024, .f32⟩
  | .local _ .vmem, ⟨27, _⟩ => ⟨S512x1024, .f32⟩
  | .local _ .vmem, ⟨28, _⟩ => ⟨S512x5632, .bf16⟩
  | .local _ .vmem, ⟨29, _⟩ => ⟨S512x5632, .bf16⟩
  | .local _ .vmem, ⟨30, _⟩ => ⟨S1x1024, .f32⟩
  | .local _ .vmem, ⟨31, _⟩ => ⟨S8x128x128, .f32⟩
  | .local _ .vmem, ⟨32, _⟩ => ⟨S8x128, .f32⟩
  | .local _ .vmem, ⟨33, _⟩ => ⟨S1x1024, .f32⟩
  | .local _ .vmem, ⟨34, _⟩ => ⟨S1x1024, .f32⟩
  | .local _ .vmem, ⟨35, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_v27_2 : Ref sig .tc := ⟨.hbm, 46, rfl⟩
abbrev main_v27_3 : Ref sig .tc := ⟨.hbm, 47, rfl⟩
abbrev main_v27_4 : Ref sig .tc := ⟨.hbm, 48, rfl⟩
abbrev main_v27_5 : Ref sig .tc := ⟨.hbm, 49, rfl⟩
abbrev main_v27_6 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem19_0 : DmaSem sig := 31
abbrev cc0_sem20_0 : DmaSem sig := 32
abbrev cc0_sem21_0 : DmaSem sig := 33
abbrev cc0_sem22_0 : DmaSem sig := 34

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v601 : BitVec 1 := Scalar.cmpi .eq arg0 c15_i32
  let v602 : BitVec 32 := Scalar.extui v601
  let c0_i32_223 : BitVec 32 := 0#32
  let v603 : BitVec 1 := Scalar.cmpi .ne v602 c0_i32_223
  v603

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x5632 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== SguIdeal.lean ====
variable {F : FTy → Type} [FloatOps F] [Named F]
def κ : String → Option EReal := fun
  | "gelu_cube" => some ((80338380498831 / 2251799813685248 : ℝ) : EReal)
  | "gelu_slope" => some ((241015141496493 / 2251799813685248 : ℝ) : EReal)
  | _ => none
-- ==== SguRefIdeal.lean ====
abbrev S8192x1024 : Shape := ⟨2, ![8192, 1024]⟩
abbrev S1x1024 : Shape := ⟨2, ![1, 1024]⟩
abbrev S1024x5632 : Shape := ⟨2, ![1024, 5632]⟩
abbrev S8x128x128 : Shape := ⟨3, ![8, 128, 128]⟩
abbrev S8x128 : Shape := ⟨2, ![8, 128]⟩
abbrev S8192x256 : Shape := ⟨2, ![8192, 256]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S1x128x8x1 : Shape := ⟨4, ![1, 128, 8, 1]⟩
abbrev S1024 : Shape := ⟨1, ![1024]⟩

abbrev nBuf : Space → Nat
  | .hbm => 275
  | .vmem => 0
  | .smem => 0
  | _ => 0

abbrev hbmTy0_0 (i : Nat) : BufTy := match i % 128 with
  | 0 => ⟨S8192x1024, .f32⟩
  | 1 => ⟨S1x1024, .f32⟩
  | 2 => ⟨S1024x5632, .f32⟩
  | 3 => ⟨S1x1024, .f32⟩
  | 4 => ⟨S1x1024, .f32⟩
  | 5 => ⟨S8x128x128, .f32⟩
  | 6 => ⟨S8x128, .f32⟩
  | 7 => ⟨S8192x1024, .f32⟩
  | 8 => ⟨S8192x1024, .f32⟩
  | 9 => ⟨S8192x1024, .f32⟩
  | 10 => ⟨S8192x256, .f32⟩
  | 11 => ⟨S8192x256, .f32⟩
  | 12 => ⟨S8192x1024, .f32⟩
  | 13 => ⟨S8192x1024, .f32⟩
  | 14 => ⟨S_, .f32⟩
  | 15 => ⟨S8192x5632, .f32⟩
  | 16 => ⟨S8192x1024, .f32⟩
  | 17 => ⟨S_, .f32⟩
  | 18 => ⟨S8192, .f32⟩
  | 19 => ⟨S8192x1, .f32⟩
  | 20 => ⟨S_, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1024, .f32⟩
  | 32 => ⟨S8192x1024, .f32⟩
  | 33 => ⟨S8192x1024, .f32⟩
  | 34 => ⟨S8192x1024, .f32⟩
  | 35 => ⟨S8192x5632, .f32⟩
  | 36 => ⟨S8192x5632, .f32⟩
  | 37 => ⟨S8192x1024, .f32⟩
  | 38 => ⟨S8192x1024, .f32⟩
  | 39 => ⟨S8192x1024, .f32⟩
  | 40 => ⟨S8192x256, .f32⟩
  | 41 => ⟨S8192x256, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S8192x1024, .f32⟩
  | 58 => ⟨S_, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S_, .f32⟩
  | 76 => ⟨S8192x1024, .f32⟩
  | 77 => ⟨S8192x1024, .f32⟩
  | 78 => ⟨S_, .f32⟩
  | 79 => ⟨S8192x1024, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S_, .f32⟩
  | 90 => ⟨S8192x1024, .f32⟩
  | 91 => ⟨S8192x1024, .f32⟩
  | 92 => ⟨S8192x1024, .f32⟩
  | 93 => ⟨S_, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S8192x1024, .f32⟩
  | 100 => ⟨S_, .f32⟩
  | 101 => ⟨S8192, .f32⟩
  | 102 => ⟨S8192x1, .f32⟩
  | 103 => ⟨S_, .f32⟩
  | 104 => ⟨S8192x1, .f32⟩
  | 105 => ⟨S8192x1, .f32⟩
  | 106 => ⟨S8192x1024, .f32⟩
  | 107 => ⟨S8192x1024, .f32⟩
  | 108 => ⟨S8192x1024, .f32⟩
  | 109 => ⟨S_, .f32⟩
  | 110 => ⟨S8192x1024, .f32⟩
  | 111 => ⟨S8192x1024, .f32⟩
  | 112 => ⟨S_, .f32⟩
  | 113 => ⟨S8192, .f32⟩
  | 114 => ⟨S8192x1, .f32⟩
  | 115 => ⟨S_, .f32⟩
  | 116 => ⟨S8192x1, .f32⟩
  | 117 => ⟨S8192x1, .f32⟩
  | 118 => ⟨S8192x1024, .f32⟩
  | 119 => ⟨S8192x1024, .f32⟩
  | 120 => ⟨S_, .f32⟩
  | 121 => ⟨S8192x1, .f32⟩
  | 122 => ⟨S8192x1, .f32⟩
  | 123 => ⟨S8192x1, .f32⟩
  | 124 => ⟨S8192x1, .f32⟩
  | 125 => ⟨S_, .f32⟩
  | 126 => ⟨S8192x1, .f32⟩
  | 127 => ⟨S8192x1, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S64x128x8x128, .f32⟩
  | 7 => ⟨S_, .i1⟩
  | 8 => ⟨S128x128, .i1⟩
  | 9 => ⟨S128x128, .i32⟩
  | 10 => ⟨S_, .i32⟩
  | 11 => ⟨S128x128, .i32⟩
  | 12 => ⟨S128x128, .i32⟩
  | 13 => ⟨S128x128, .i32⟩
  | 14 => ⟨S128x128, .i1⟩
  | 15 => ⟨S_, .i1⟩
  | 16 => ⟨S128x128, .i1⟩
  | 17 => ⟨S128x128, .i1⟩
  | 18 => ⟨S1x128x128, .i1⟩
  | 19 => ⟨S_, .f32⟩
  | 20 => ⟨S8x128x128, .f32⟩
  | 21 => ⟨S8x128x128, .i1⟩
  | 22 => ⟨S8x128x128, .f32⟩
  | 23 => ⟨S_, .f32⟩
  | 24 => ⟨S8x128x128, .f32⟩
  | 25 => ⟨S8x64x128x128, .f32⟩
  | 26 => ⟨S64x128x8x128, .f32⟩
  | 27 => ⟨S128x8, .f32⟩
  | 28 => ⟨S1x128x8x1, .f32⟩
  | 29 => ⟨S64x128x8x128, .f32⟩
  | 30 => ⟨S64x128x8x128, .f32⟩
  | 31 => ⟨S8192x1024, .f32⟩
  | 32 => ⟨S8192x1024, .f32⟩
  | 33 => ⟨S8192x1024, .f32⟩
  | 34 => ⟨S8192x1024, .f32⟩
  | 35 => ⟨S64x128x8x128, .f32⟩
  | 36 => ⟨S_, .f32⟩
  | 37 => ⟨S128x8, .f32⟩
  | 38 => ⟨S1x128x8x1, .f32⟩
  | 39 => ⟨S_, .f32⟩
  | 40 => ⟨S128x8, .f32⟩
  | 41 => ⟨S8x128, .f32⟩
  | 42 => ⟨S8x64x128x128, .f32⟩
  | 43 => ⟨S8x128x128, .f32⟩
  | 44 => ⟨S8x64x128x128, .f32⟩
  | 45 => ⟨S64x128x8x128, .f32⟩
  | 46 => ⟨S_, .f32⟩
  | 47 => ⟨S8x128x128, .f32⟩
  | 48 => ⟨S8x128x128, .f32⟩
  | 49 => ⟨S8192x1024, .f32⟩
  | 50 => ⟨S_, .f32⟩
  | 51 => ⟨S1024, .f32⟩
  | 52 => ⟨S1x1024, .f32⟩
  | 53 => ⟨S8192x1024, .f32⟩
  | 54 => ⟨S_, .f32⟩
  | 55 => ⟨S1024, .f32⟩
  | 56 => ⟨S1x1024, .f32⟩
  | 57 => ⟨S8192x1024, .f32⟩
  | 58 => ⟨S8192x1024, .f32⟩
  | 59 => ⟨S8192x1024, .f32⟩
  | 60 => ⟨S_, .f32⟩
  | 61 => ⟨S8192, .f32⟩
  | 62 => ⟨S8192x1, .f32⟩
  | 63 => ⟨S8192x1024, .f32⟩
  | 64 => ⟨S8192x1024, .f32⟩
  | 65 => ⟨S8192x1, .f32⟩
  | 66 => ⟨S8192x1024, .f32⟩
  | 67 => ⟨S_, .f32⟩
  | 68 => ⟨S8192, .f32⟩
  | 69 => ⟨S8192x1, .f32⟩
  | 70 => ⟨S_, .f32⟩
  | 71 => ⟨S8192x1, .f32⟩
  | 72 => ⟨S8192x1, .f32⟩
  | 73 => ⟨S_, .f32⟩
  | 74 => ⟨S8192, .f32⟩
  | 75 => ⟨S8192x1024, .f32⟩
  | 76 => ⟨S8192x1024, .f32⟩
  | 77 => ⟨S8192x1024, .f32⟩
  | 78 => ⟨S_, .f32⟩
  | 79 => ⟨S8192, .f32⟩
  | 80 => ⟨S8192x1, .f32⟩
  | 81 => ⟨S8192x1024, .f32⟩
  | 82 => ⟨S8192x1, .f32⟩
  | 83 => ⟨S_, .f32⟩
  | 84 => ⟨S8192x1, .f32⟩
  | 85 => ⟨S8192x1, .f32⟩
  | 86 => ⟨S_, .f32⟩
  | 87 => ⟨S8192, .f32⟩
  | 88 => ⟨S8192x1024, .f32⟩
  | 89 => ⟨S8192x1024, .f32⟩
  | 90 => ⟨S8192x1024, .f32⟩
  | 91 => ⟨S8192x1024, .f32⟩
  | 92 => ⟨S_, .f32⟩
  | 93 => ⟨S8192x1024, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S_, .f32⟩
  | 108 => ⟨S8192x1024, .f32⟩
  | 109 => ⟨S8192x1024, .f32⟩
  | 110 => ⟨S8192x1024, .f32⟩
  | 111 => ⟨S_, .f32⟩
  | 112 => ⟨S8192x1024, .f32⟩
  | 113 => ⟨S8192x1024, .f32⟩
  | 114 => ⟨S8192x1024, .f32⟩
  | 115 => ⟨S_, .f32⟩
  | 116 => ⟨S8192x1024, .f32⟩
  | 117 => ⟨S8192x1024, .f32⟩
  | 118 => ⟨S8192x1024, .f32⟩
  | 119 => ⟨S8192x1024, .f32⟩
  | 120 => ⟨S8192x5632, .f32⟩
  | 121 => ⟨S8192x1024, .f32⟩
  | 122 => ⟨S8192x1024, .f32⟩
  | 123 => ⟨S_, .f32⟩
  | 124 => ⟨S1024, .f32⟩
  | 125 => ⟨S1x1024, .f32⟩
  | 126 => ⟨S8192x1024, .f32⟩
  | 127 => ⟨S8192x1024, .f32⟩
  | _ => ⟨S8192x1024, .f32⟩

abbrev hbmTy0_2 (i : Nat) : BufTy := match i % 128 with
  | 0 => ⟨S8192x1024, .f32⟩
  | 1 => ⟨S_, .f32⟩
  | 2 => ⟨S8192, .f32⟩
  | 3 => ⟨S8192x1, .f32⟩
  | 4 => ⟨S8192x1024, .f32⟩
  | 5 => ⟨S8192x1024, .f32⟩
  | 6 => ⟨S8192x1024, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S8192x5632, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_13 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_14 : Ref sig .tc := ⟨.hbm, 86, rfl⟩
abbrev main_v57 : Ref sig .tc := ⟨.hbm, 87, rfl⟩
abbrev main_v58 : Ref sig .tc := ⟨.hbm, 88, rfl⟩
abbrev main_cst_15 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_16 : Ref sig .tc := ⟨.hbm, 93, rfl⟩
abbrev main_v62 : Ref sig .tc := ⟨.hbm, 94, rfl⟩
abbrev main_v63 : Ref sig .tc := ⟨.hbm, 95, rfl⟩
abbrev main_cst_17 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_18 : Ref sig .tc := ⟨.hbm, 100, rfl⟩
abbrev main_v67 : Ref sig .tc := ⟨.hbm, 101, rfl⟩
abbrev main_v68 : Ref sig .tc := ⟨.hbm, 102, rfl⟩
abbrev main_cst_19 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_20 : Ref sig .tc := ⟨.hbm, 109, rfl⟩
abbrev main_v74 : Ref sig .tc := ⟨.hbm, 110, rfl⟩
abbrev main_v75 : Ref sig .tc := ⟨.hbm, 111, rfl⟩
abbrev main_cst_21 : Ref sig .tc := ⟨.hbm, 112, rfl⟩
abbrev main_v76 : Ref sig .tc := ⟨.hbm, 113, rfl⟩
abbrev main_v77 : Ref sig .tc := ⟨.hbm, 114, rfl⟩
abbrev main_cst_22 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_23 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_24 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c : Ref sig .tc := ⟨.hbm, 135, rfl⟩
abbrev main_v95 : Ref sig .tc := ⟨.hbm, 136, rfl⟩
abbrev main_call0_v0 : Ref sig .tc := ⟨.hbm, 137, rfl⟩
abbrev main_call0_c : Ref sig .tc := ⟨.hbm, 138, rfl⟩
abbrev main_call0_v1 : Ref sig .tc := ⟨.hbm, 139, rfl⟩
abbrev main_call0_v2 : Ref sig .tc := ⟨.hbm, 140, rfl⟩
abbrev main_call0_v3 : Ref sig .tc := ⟨.hbm, 141, rfl⟩
abbrev main_call0_v4 : Ref sig .tc := ⟨.hbm, 142, rfl⟩
abbrev main_call0_c_0 : Ref sig .tc := ⟨.hbm, 143, rfl⟩
abbrev main_call0_v5 : Ref sig .tc := ⟨.hbm, 144, rfl⟩
abbrev main_v96 : Ref sig .tc := ⟨.hbm, 145, rfl⟩
abbrev main_v97 : Ref sig .tc := ⟨.hbm, 146, rfl⟩
abbrev main_cst_25 : Ref sig .tc := ⟨.hbm, 147, rfl⟩
abbrev main_v98 : Ref sig .tc := ⟨.hbm, 148, rfl⟩
abbrev main_v99_1 : Ref sig .tc := ⟨.hbm, 149, rfl⟩
abbrev main_v99_0 : Ref sig .tc := ⟨.hbm, 150, rfl⟩
abbrev main_call1_cst : Ref sig .tc := ⟨.hbm, 151, rfl⟩
abbrev main_v99_2 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_cst_26 : Ref sig .tc := ⟨.hbm, 164, rfl⟩
abbrev main_v111 : Ref sig .tc := ⟨.hbm, 165, rfl⟩
abbrev main_v112 : Ref sig .tc := ⟨.hbm, 166, rfl⟩
abbrev main_cst_27 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_call2_cst : Ref sig .tc := ⟨.hbm, 174, rfl⟩
abbrev main_call2_v0 : Ref sig .tc := ⟨.hbm, 175, rfl⟩
abbrev main_v119 : Ref sig .tc := ⟨.hbm, 176, rfl⟩
abbrev main_v120 : Ref sig .tc := ⟨.hbm, 177, rfl⟩
abbrev main_cst_28 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_29 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_cst_30 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_31 : Ref sig .tc := ⟨.hbm, 195, rfl⟩
abbrev main_v135 : Ref sig .tc := ⟨.hbm, 196, rfl⟩
abbrev main_v136 : Ref sig .tc := ⟨.hbm, 197, rfl⟩
abbrev main_cst_32 : Ref sig .tc := ⟨.hbm, 198, rfl⟩
abbrev main_v137 : Ref sig .tc := ⟨.hbm, 199, rfl⟩
abbrev main_v138 : Ref sig .tc := ⟨.hbm, 200, rfl⟩
abbrev main_cst_33 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_cst_34 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_cst_35 : Ref sig .tc := ⟨.hbm, 211, rfl⟩
abbrev main_v147 : Ref sig .tc := ⟨.hbm, 212, rfl⟩
abbrev main_v148 : Ref sig .tc := ⟨.hbm, 213, rfl⟩
abbrev main_cst_36 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_cst_37 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_cst_38 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_cst_39 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_cst_40 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_cst_41 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_cst_42 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_cst_43 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_cst_44 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_cst_45 : Ref sig .tc := ⟨.hbm, 264, rfl⟩
abbrev main_v190 : Ref sig .tc := ⟨.hbm, 265, rfl⟩
abbrev main_v191 : Ref sig .tc := ⟨.hbm, 266, rfl⟩
abbrev main_cst_46 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩

abbrev nD : Nat := 1
abbrev τ : Topo := Topo.v7x

variable {F : FTy → Type} [FloatOps F]

def κ : String → Option EReal := fun
  | "gelu_cube" => some ((80338380498831 / 2251799813685248 : ℝ) : EReal)
  | "gelu_slope" => some ((241015141496493 / 2251799813685248 : ℝ) : EReal)
  | _ => none
-- ==== Merge.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192x2048 : Shape := ⟨2, ![8192, 2048]⟩
abbrev S512x1024 : Shape := ⟨2, ![512, 1024]⟩
abbrev S512x2048 : Shape := ⟨2, ![512, 2048]⟩
abbrev S3x1024x1024 : Shape := ⟨3, ![3, 1024, 1024]⟩
abbrev S3 : Shape := ⟨1, ![3]⟩
abbrev S512 : Shape := ⟨1, ![512]⟩
abbrev S512x1 : Shape := ⟨2, ![512, 1]⟩
abbrev S1024 : Shape := ⟨1, ![1024]⟩
abbrev S1x1024x1024 : Shape := ⟨3, ![1, 1024, 1024]⟩
abbrev S1 : Shape := ⟨1, ![1]⟩

abbrev nBuf : Space → Nat
  | .hbm => 50
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S8192x1024, .bf16⟩
  | .hbm, ⟨33, _⟩ => ⟨S8192x2048, .bf16⟩
  | .hbm, ⟨34, _⟩ => ⟨S8192x1024, .bf16⟩
  | .hbm, ⟨35, _⟩ => ⟨S8192x1024, .bf16⟩
  | .hbm, ⟨36, _⟩ => ⟨S8192x1024, .bf16⟩
  | .hbm, ⟨37, _⟩ => ⟨S8192x1024, .bf16⟩
  | .hbm, ⟨38, _⟩ => ⟨S8192x1024, .bf16⟩
  | .hbm, ⟨39, _⟩ => ⟨S1024x1024, .bf16⟩
  | .hbm, ⟨40, _⟩ => ⟨S1024x1024, .bf16⟩
  | .hbm, ⟨41, _⟩ => ⟨S1024x1024, .bf16⟩
  | .hbm, ⟨42, _⟩ => ⟨S8192x1024, .bf16⟩
  | .hbm, ⟨43, _⟩ => ⟨S8192x1024, .bf16⟩
  | .hbm, ⟨44, _⟩ => ⟨S8192x1024, .f32⟩
  | .hbm, ⟨45, _⟩ => ⟨S8192x1024, .bf16⟩
  | .hbm, ⟨46, _⟩ => ⟨S1x1024, .f32⟩
  | .hbm, ⟨47, _⟩ => ⟨S1024x1024, .f32⟩
  | .hbm, ⟨48, _⟩ => ⟨S1024x1024, .f32⟩
  | .hbm, ⟨49, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S1x1024, .f32⟩
  | .local _ .vmem, ⟨27, _⟩ => ⟨S3x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev main_v29_3 : Ref sig .tc := ⟨.hbm, 45, rfl⟩
abbrev main_v29_4 : Ref sig .tc := ⟨.hbm, 46, rfl⟩
abbrev main_v29_5 : Ref sig .tc := ⟨.hbm, 47, rfl⟩
abbrev main_v29_6 : Ref sig .tc := ⟨.hbm, 48, rfl⟩
abbrev main_v29_7 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MergeRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S1024x1024, .f32⟩
  | .hbm, ⟨82, _⟩ => ⟨S1024x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S1024x1024, .f32⟩
  | .hbm, ⟨87, _⟩ => ⟨S1024x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S1024x1024, .f32⟩
  | .hbm, ⟨93, _⟩ => ⟨S1024x1024, .f32⟩
  | .hbm, ⟨94, _⟩ => ⟨S8192x1024, .f32⟩
  | .hbm, ⟨95, _⟩ => ⟨S8192x1024, .f32⟩
  | .hbm, ⟨96, _⟩ => ⟨S8192x1024, .bf16⟩
  | .hbm, ⟨97, _⟩ => ⟨S8192x1024, .bf16⟩
  | .hbm, ⟨98, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Proof.Reals.lean ====
/- The real numbers behind the extended ones: at finite arguments every operation of the two programs
   yields a real number, and the lemmas here say which. -/
module

public import Idealize.ShloMosaic.PureOps.Ideal
public import Idealize.ShloMosaic.Lib.ValueIdx
public import Idealize.ShloMosaic.Lib.IdealHost
public import Idealize.ShloMosaic.Lib.Pointwise

@[expose] public section

noncomputable section

namespace Cert.Step

open Idealize.ShloMosaic

/-- A sum of reals, each read as an extended real, is the real sum. -/
theorem sum_real {ι : Type} [Fintype ι] (f : ι → ℝ) : (∑ i, (f i : EReal)) = ((∑ i, f i : ℝ) : EReal) :=
  (map_sum (⟨⟨(↑), EReal.coe_zero⟩, EReal.coe_add⟩ : ℝ →+ EReal) f Finset.univ).symm

/-- The larger of two reals. -/
theorem max_real (a b : ℝ) : max (a : EReal) (b : EReal) = ((max a b : ℝ) : EReal) :=
  (EReal.coe_strictMono.monotone.map_max).symm

/-- The larger of a real and zero. -/
theorem max_zero_real (a : ℝ) : max (a : EReal) 0 = ((max a 0 : ℝ) : EReal) := max_real a 0

/-- A quotient of reals by a nonzero real. -/
theorem div_real {a b : ℝ} (h : b ≠ 0) : Ideal.div (a : EReal) (b : EReal) = ((a / b : ℝ) : EReal) := by
  rw [Ideal.div_coe h, ← EReal.coe_mul, mul_one_div]

/-- The reciprocal root of a positive real. -/
theorem rsqrt_real {a : ℝ} (h : 0 < a) : Ideal.rsqrt (a : EReal) = (((Real.sqrt a)⁻¹ : ℝ) : EReal) := by
  rw [Ideal.rsqrt_coe, if_neg h.le.not_gt, if_neg h.ne']

/-- The number the programs add under a root: the word nearest a millionth. -/
def eps : ℝ := 8796093 / 8796093022208

theorem eps_pos : 0 < eps := by unfold eps; norm_num

theorem word_eps : Ideal.ofBits .f32 0x358637BD#32 = (eps : EReal) := by
  simp [Ideal.ofBits, Ideal.ieee, eps, -EReal.coe_mul]; norm_num

theorem word_1024 : Ideal.ofBits .f32 0x44800000#32 = ((1024 : ℝ) : EReal) := by
  simp [Ideal.ofBits, Ideal.ieee, -EReal.coe_mul]; norm_num

theorem word_inv_1024 : Ideal.ofBits .f32 0x3A800000#32 = ((1 / 1024 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem div_1024 (a : ℝ) : Ideal.div (a : EReal) (Ideal.ofBits .f32 0x44800000#32) = ((a / 1024 : ℝ) : EReal) := by
  rw [word_1024, div_real (by norm_num)]

/-! ## Root-mean-square normalisation of one row, and its gradient -/

/-- The mean square of a row, with the added number. -/
def meanSq (x : Fin 1024 → ℝ) : ℝ := (∑ k, x k * x k) / 1024 + eps

theorem meanSq_pos (x : Fin 1024 → ℝ) : 0 < meanSq x :=
  add_pos_of_nonneg_of_pos (div_nonneg (Finset.sum_nonneg fun k _ => mul_self_nonneg _) (by norm_num)) eps_pos

/-- What a row is multiplied by. -/
def rinv (x : Fin 1024 → ℝ) : ℝ := (Real.sqrt (meanSq x))⁻¹

theorem rsqrt_row (x : Fin 1024 → ℝ) : Ideal.rsqrt (((∑ k, x k * x k) / 1024 + eps : ℝ) : EReal) = (rinv x : EReal) :=
  rsqrt_real (meanSq_pos x)

theorem rinv_div (x : Fin 1024 → ℝ) : rinv x / meanSq x = rinv x * rinv x * rinv x := by
  have h : rinv x * rinv x = (meanSq x)⁻¹ := by
    unfold rinv; rw [← mul_inv, Real.mul_self_sqrt (meanSq_pos x).le]
  rw [mul_assoc, h, div_eq_mul_inv]

/-- The gradient of a normalised row at the cotangent `y` of the row before its scale. -/
def normBack (x y : Fin 1024 → ℝ) (d : Fin 1024) : ℝ :=
  rinv x * (y d - x d * rinv x * ((∑ k, y k * (x k * rinv x)) / 1024))

/-- The factor with which the mean square's own gradient reaches the row. -/
def meanBack (x y : Fin 1024 → ℝ) : ℝ := (∑ k, x k * y k) * (-(1 / 2) * (rinv x / meanSq x)) / 1024

/-- The gradient as it falls out of differentiating the product `x · (mean square)^(-1/2)`. -/
theorem normBack_eq (x y : Fin 1024 → ℝ) (d : Fin 1024) :
    y d * rinv x + x d * meanBack x y + meanBack x y * x d = normBack x y d := by
  have h : (∑ k, y k * (x k * rinv x)) = (∑ k, x k * y k) * rinv x := by
    rw [Finset.sum_mul]; exact Finset.sum_congr rfl fun k _ => by ring
  unfold normBack meanBack; rw [h, rinv_div]; ring

/-- An index of a matrix is a row and a column. -/
theorem forall_ix2 {a b : ℕ} {P : (⟨2, ![a, b]⟩ : Shape).Idx → Prop} (h : ∀ r k, P (ix2 r k))
    (y : (⟨2, ![a, b]⟩ : Shape).Idx) : P y := by
  rw [eq_ix2 y]; exact h _ _

end Cert.Step

end
-- ==== Proof.FfnRow.lean ====
/- One token's feed-forward block, over the reals: forward, loss and gradients. `x` is the token's row, `g3`/`g4` the
   two norms' scales, `w1`/`w2` the weights, `t` the token's target. -/
module

public import proofs.«01_k».proof.Proof.Reals

@[expose] public section

noncomputable section

namespace Cert.Step.Ffn

variable (x g3 : Fin 1024 → ℝ) (w1 : Fin 1024 → Fin 4096 → ℝ) (w2 : Fin 4096 → Fin 1024 → ℝ) (g4 t : Fin 1024 → ℝ)

/-- The normalised row before its scale. -/
def hat (k : Fin 1024) : ℝ := x k * rinv x
/-- The normalised row. -/
def h (k : Fin 1024) : ℝ := hat x k * g3 k
/-- The pre-activation. -/
def z (j : Fin 4096) : ℝ := ∑ k, h x g3 k * w1 k j
/-- Its rectification. -/
def f (j : Fin 4096) : ℝ := max (z x g3 w1 j) 0
/-- The squared rectification. -/
def f2 (j : Fin 4096) : ℝ := f x g3 w1 j * f x g3 w1 j
/-- The block's output before its norm. -/
def ff (d : Fin 1024) : ℝ := ∑ j, f2 x g3 w1 j * w2 j d
/-- That output normalised, before its scale. -/
def fhat (d : Fin 1024) : ℝ := ff x g3 w1 w2 d * rinv (ff x g3 w1 w2)
/-- The token's error. -/
def err (d : Fin 1024) : ℝ := x d + fhat x g3 w1 w2 d * g4 d - t d
/-- The loss's gradient at the token's output. -/
def dy (d : Fin 1024) : ℝ := err x g3 w1 w2 g4 t d * (1 / 1024)
/-- … at the block's output before its norm. -/
def dff (d : Fin 1024) : ℝ := normBack (ff x g3 w1 w2) (fun k => dy x g3 w1 w2 g4 t k * g4 k) d
/-- … at the pre-activation. -/
def dz (j : Fin 4096) : ℝ := (∑ d, dff x g3 w1 w2 g4 t d * w2 j d) * (2 * f x g3 w1 j)
/-- … at the normalised row. -/
def dh (k : Fin 1024) : ℝ := ∑ j, dz x g3 w1 w2 g4 t j * w1 k j
/-- … at the token's row. -/
def dx (d : Fin 1024) : ℝ := dy x g3 w1 w2 g4 t d + normBack x (fun k => dh x g3 w1 w2 g4 t k * g3 k) d

end Cert.Step.Ffn

end
-- ==== Proof.FfnKernel.lean ====
/- What the kernel's block computation yields at one token of the block, at finite blocks: the row functions of FfnRow. -/
module

public import proofs.«01_k».proof.Proof.Gen.FfnIdeal.Skeleton
public import proofs.«01_k».proof.Proof.FfnRow
public import Idealize.ShloMosaic.Lib.Pipeline.ValueKit
public import Idealize.ShloMosaic.Lib.Pointwise

@[expose] public section

set_option maxRecDepth 16384

noncomputable section

namespace Cert.FfnIdeal.Block

open Cert.FfnIdeal Cert.FfnIdeal.Gen Cert.Step Idealize.ShloMosaic Idealize.ShloMosaic.TcCoe Idealize.SL.Sem

variable {x0 x1 : Vec Ideal S512x1024 .f32} {u1 : Vec Ideal S1024x4096 .bf16} {u2 : Vec Ideal S4096x1024 .bf16}
  {s3 s4 : Vec Ideal S1x1024 .f32}
  {X T : Fin 512 → Fin 1024 → ℝ} {W1 : Fin 1024 → Fin 4096 → ℝ} {W2 : Fin 4096 → Fin 1024 → ℝ} {G3 G4 : Fin 1024 → ℝ}

theorem pay4_real (hx : ∀ r k, x0 (ix2 r k) = (X r k : EReal)) (r : Fin 512) (o) :
    k0_pay4 x0 (ix2 r o) = (rinv (X r) : EReal) := by
  pointwise [k0_pay4]
  simp only [hx, ← EReal.coe_mul, sum_real, div_1024, word_eps, ← EReal.coe_add, rsqrt_row]

theorem pay5_real (hx : ∀ r k, x0 (ix2 r k) = (X r k : EReal)) (r : Fin 512) (k : Fin 1024) :
    k0_pay5 x0 (ix2 r k) = (Ffn.hat (X r) k : EReal) := by
  pointwise [k0_pay5]
  simp only [pay4_real hx, hx, ← EReal.coe_mul, Ffn.hat]

theorem pay6_real (hx : ∀ r k, x0 (ix2 r k) = (X r k : EReal)) (hg : ∀ o k, s3 (ix2 o k) = (G3 k : EReal))
    (r : Fin 512) (k : Fin 1024) : k0_pay6 x0 s3 (ix2 r k) = (Ffn.h (X r) G3 k : EReal) := by
  pointwise [k0_pay6]
  simp only [pay5_real hx, hg, ← EReal.coe_mul, Ffn.h]

theorem pay7_real (hx : ∀ r k, x0 (ix2 r k) = (X r k : EReal)) (hg : ∀ o k, s3 (ix2 o k) = (G3 k : EReal))
    (h1 : ∀ k j, u1 (ix2 k j) = (W1 k j : EReal)) (r : Fin 512) (j : Fin 4096) :
    k0_pay7 x0 s3 u1 (ix2 r j) = (Ffn.f (X r) G3 W1 j : EReal) := by
  pointwise [k0_pay7]
  simp only [pay6_real hx hg, h1, ← EReal.coe_mul, sum_real, max_zero_real, Ffn.f, Ffn.z]

theorem pay8_real (hx : ∀ r k, x0 (ix2 r k) = (X r k : EReal)) (hg : ∀ o k, s3 (ix2 o k) = (G3 k : EReal))
    (h1 : ∀ k j, u1 (ix2 k j) = (W1 k j : EReal)) (r : Fin 512) (j : Fin 4096) :
    k0_pay8 x0 s3 u1 (ix2 r j) = (Ffn.f2 (X r) G3 W1 j : EReal) := by
  pointwise [k0_pay8]
  simp only [pay7_real hx hg h1, ← EReal.coe_mul, Ffn.f2]

theorem pay9_real (hx : ∀ r k, x0 (ix2 r k) = (X r k : EReal)) (hg : ∀ o k, s3 (ix2 o k) = (G3 k : EReal))
    (h1 : ∀ k j, u1 (ix2 k j) = (W1 k j : EReal)) (h2 : ∀ j d, u2 (ix2 j d) = (W2 j d : EReal))
    (r : Fin 512) (d : Fin 1024) : k0_pay9 x0 s3 u1 u2 (ix2 r d) = (Ffn.ff (X r) G3 W1 W2 d : EReal) := by
  pointwise [k0_pay9]
  simp only [pay8_real hx hg h1, h2, ← EReal.coe_mul, sum_real, Ffn.ff]

theorem pay10_real (hx : ∀ r k, x0 (ix2 r k) = (X r k : EReal)) (hg : ∀ o k, s3 (ix2 o k) = (G3 k : EReal))
    (h1 : ∀ k j, u1 (ix2 k j) = (W1 k j : EReal)) (h2 : ∀ j d, u2 (ix2 j d) = (W2 j d : EReal)) (r : Fin 512) :
    k0_pay10 x0 s3 u1 u2 (ix1 r)
      = ((∑ k, Ffn.ff (X r) G3 W1 W2 k * Ffn.ff (X r) G3 W1 W2 k : ℝ) : EReal) := by
  pointwise [k0_pay10]
  simp only [pay9_real hx hg h1 h2, ← EReal.coe_mul, sum_real]

/-! From here on the block's feed-forward rows `y` and their squares' sums `q` are values already computed. -/

variable {y : FVec Ideal S512x1024 .f32} {q : FVec Ideal S512 .f32} {Y : Fin 512 → Fin 1024 → ℝ}

theorem pay11_real (hq : ∀ r, q (ix1 r) = ((∑ k, Y r k * Y r k : ℝ) : EReal)) (r : Fin 512) (o) :
    k0_pay11 q (ix2 r o) = (rinv (Y r) : EReal) := by
  pointwise [k0_pay11]
  simp only [hq, div_1024, word_eps, ← EReal.coe_add, rsqrt_row]

theorem pay12_real (hy : ∀ r d, y (ix2 r d) = (Y r d : EReal)) (hq : ∀ r, q (ix1 r) = ((∑ k, Y r k * Y r k : ℝ) : EReal))
    (r : Fin 512) (d : Fin 1024) : k0_pay12 y q (ix2 r d) = ((Y r d * rinv (Y r) : ℝ) : EReal) := by
  pointwise [k0_pay12]
  simp only [pay11_real hq, hy, ← EReal.coe_mul]

/-- The error of a token whose feed-forward row is `y`. -/
theorem pay13_real (hx : ∀ r k, x0 (ix2 r k) = (X r k : EReal)) (hg : ∀ o k, s4 (ix2 o k) = (G4 k : EReal))
    (ht : ∀ r k, x1 (ix2 r k) = (T r k : EReal))
    (hy : ∀ r d, y (ix2 r d) = (Y r d : EReal)) (hq : ∀ r, q (ix1 r) = ((∑ k, Y r k * Y r k : ℝ) : EReal))
    (r : Fin 512) (d : Fin 1024) :
    k0_pay13 x0 s4 y q x1 (ix2 r d) = ((X r d + Y r d * rinv (Y r) * G4 d - T r d : ℝ) : EReal) := by
  pointwise [k0_pay13]
  simp only [pay12_real hy hq, hx, hg, ht, ← EReal.coe_mul, ← EReal.coe_add, ← EReal.coe_sub]

theorem pay15_real (hx : ∀ r k, x0 (ix2 r k) = (X r k : EReal)) (hg : ∀ o k, s4 (ix2 o k) = (G4 k : EReal))
    (ht : ∀ r k, x1 (ix2 r k) = (T r k : EReal))
    (hy : ∀ r d, y (ix2 r d) = (Y r d : EReal)) (hq : ∀ r, q (ix1 r) = ((∑ k, Y r k * Y r k : ℝ) : EReal))
    (r : Fin 512) (d : Fin 1024) :
    k0_pay15 x0 s4 y q x1 (ix2 r d) = (((X r d + Y r d * rinv (Y r) * G4 d - T r d) * (1 / 1024) : ℝ) : EReal) := by
  pointwise [k0_pay15]
  simp only [pay13_real hx hg ht hy hq, word_inv_1024, ← EReal.coe_mul]

theorem pay16_real (hx : ∀ r k, x0 (ix2 r k) = (X r k : EReal)) (hg : ∀ o k, s4 (ix2 o k) = (G4 k : EReal))
    (ht : ∀ r k, x1 (ix2 r k) = (T r k : EReal))
    (hy : ∀ r d, y (ix2 r d) = (Y r d : EReal)) (hq : ∀ r, q (ix1 r) = ((∑ k, Y r k * Y r k : ℝ) : EReal))
    (r : Fin 512) (d : Fin 1024) :
    k0_pay16 x0 s4 y q x1 (ix2 r d)
      = (normBack (Y r) (fun k => (X r k + Y r k * rinv (Y r) * G4 k - T r k) * (1 / 1024) * G4 k) d : EReal) := by
  pointwise [k0_pay16]
  simp only [pay15_real hx hg ht hy hq, pay12_real hy hq, pay11_real hq, hg, ← EReal.coe_mul, sum_real, div_1024,
    ← EReal.coe_sub, normBack]

/-- The squared errors added to what the block of loss terms already holds. -/
theorem pay14_real (hx : ∀ r k, x0 (ix2 r k) = (X r k : EReal)) (hg : ∀ o k, s4 (ix2 o k) = (G4 k : EReal))
    (ht : ∀ r k, x1 (ix2 r k) = (T r k : EReal))
    (hy : ∀ r d, y (ix2 r d) = (Y r d : EReal)) (hq : ∀ r, q (ix1 r) = ((∑ k, Y r k * Y r k : ℝ) : EReal))
    (acc : Vec Ideal S1x1024 .f32) (o : Fin 1) (d : Fin 1024) :
    k0_pay14 x0 s4 y q x1 acc (ix2 o d) = acc (ix2 o d)
      + ((∑ r, (X r d + Y r d * rinv (Y r) * G4 d - T r d) * (X r d + Y r d * rinv (Y r) * G4 d - T r d) : ℝ) : EReal) := by
  pointwise [k0_pay14]
  simp only [pay13_real hx hg ht hy hq, ← EReal.coe_mul, sum_real]

theorem pay17_real (hx : ∀ r k, x0 (ix2 r k) = (X r k : EReal)) (hg : ∀ o k, s4 (ix2 o k) = (G4 k : EReal))
    (ht : ∀ r k, x1 (ix2 r k) = (T r k : EReal))
    (hy : ∀ r d, y (ix2 r d) = (Y r d : EReal)) (hq : ∀ r, q (ix1 r) = ((∑ k, Y r k * Y r k : ℝ) : EReal))
    (acc : Vec Ideal S1x1024 .f32) (o : Fin 1) (d : Fin 1024) :
    k0_pay17 x0 s4 y q x1 acc (ix2 o d) = acc (ix2 o d)
      + ((∑ r, (X r d + Y r d * rinv (Y r) * G4 d - T r d) * (1 / 1024) * (Y r d * rinv (Y r)) : ℝ) : EReal) := by
  pointwise [k0_pay17]
  simp only [pay15_real hx hg ht hy hq, pay12_real hy hq, ← EReal.coe_mul, sum_real]

/-! The gradient `e` at the feed-forward rows and the rectified pre-activations `p` are values already computed. -/

variable {p : FVec Ideal S512x4096 .f32} {e : FVec Ideal S512x1024 .f32} {P : Fin 512 → Fin 4096 → ℝ}
  {E : Fin 512 → Fin 1024 → ℝ}

theorem pay18_real (he : ∀ r d, e (ix2 r d) = (E r d : EReal)) (r : Fin 512) (d : Fin 1024) :
    k0_pay18 e (ix2 r d) = (E r d : EReal) := by
  pointwise [k0_pay18]
  exact he r d

theorem pay19_real (hp : ∀ r j, p (ix2 r j) = (P r j : EReal)) (he : ∀ r d, e (ix2 r d) = (E r d : EReal))
    (h2 : ∀ j d, u2 (ix2 j d) = (W2 j d : EReal)) (r : Fin 512) (j : Fin 4096) :
    k0_pay19 p e u2 (ix2 r j) = (((∑ d, E r d * W2 j d) * (2 * P r j) : ℝ) : EReal) := by
  pointwise [k0_pay19]
  simp only [pay18_real he, hp, h2, word_two, ← EReal.coe_mul, sum_real]

theorem pay20_real (hp : ∀ r j, p (ix2 r j) = (P r j : EReal)) (he : ∀ r d, e (ix2 r d) = (E r d : EReal))
    (h2 : ∀ j d, u2 (ix2 j d) = (W2 j d : EReal)) (h1 : ∀ k j, u1 (ix2 k j) = (W1 k j : EReal))
    (r : Fin 512) (k : Fin 1024) :
    k0_pay20 p e u2 u1 (ix2 r k) = ((∑ j, (∑ d, E r d * W2 j d) * (2 * P r j) * W1 k j : ℝ) : EReal) := by
  pointwise [k0_pay20]
  simp only [pay19_real hp he h2, h1, ← EReal.coe_mul, sum_real]

variable {xh : FVec Ideal S512x1024 .f32} {ri : FVec Ideal S512x1 .f32} {dl : FVec Ideal S512x1024 .f32}
  {DL : Fin 512 → Fin 1024 → ℝ}

theorem pay21_real (hp : ∀ r j, p (ix2 r j) = (P r j : EReal)) (he : ∀ r d, e (ix2 r d) = (E r d : EReal))
    (h2 : ∀ j d, u2 (ix2 j d) = (W2 j d : EReal)) (h1 : ∀ k j, u1 (ix2 k j) = (W1 k j : EReal))
    (hh : ∀ r k, xh (ix2 r k) = ((X r k * rinv (X r) : ℝ) : EReal))
    (acc : Vec Ideal S1x1024 .f32) (o : Fin 1) (k : Fin 1024) :
    k0_pay21 xh p e u2 u1 acc (ix2 o k) = acc (ix2 o k)
      + ((∑ r, (∑ j, (∑ d, E r d * W2 j d) * (2 * P r j) * W1 k j) * (X r k * rinv (X r)) : ℝ) : EReal) := by
  pointwise [k0_pay21]
  simp only [pay20_real hp he h2 h1, hh, ← EReal.coe_mul, sum_real]

theorem pay22_real (hp : ∀ r j, p (ix2 r j) = (P r j : EReal)) (he : ∀ r d, e (ix2 r d) = (E r d : EReal))
    (h2 : ∀ j d, u2 (ix2 j d) = (W2 j d : EReal)) (h1 : ∀ k j, u1 (ix2 k j) = (W1 k j : EReal))
    (hg : ∀ o k, s3 (ix2 o k) = (G3 k : EReal)) (hr : ∀ r o, ri (ix2 r o) = (rinv (X r) : EReal))
    (hh : ∀ r k, xh (ix2 r k) = ((X r k * rinv (X r) : ℝ) : EReal)) (hl : ∀ r k, dl (ix2 r k) = (DL r k : EReal))
    (r : Fin 512) (k : Fin 1024) :
    k0_pay22 s3 ri xh p dl e u2 u1 (ix2 r k)
      = ((DL r k + normBack (X r) (fun k => (∑ j, (∑ d, E r d * W2 j d) * (2 * P r j) * W1 k j) * G3 k) k : ℝ) : EReal) := by
  pointwise [k0_pay22]
  simp only [pay20_real hp he h2 h1, hg, hr, hh, hl, ← EReal.coe_mul, sum_real, div_1024, ← EReal.coe_sub,
    ← EReal.coe_add, normBack]

end Cert.FfnIdeal.Block

end
-- ==== Proof.FfnFinal.lean ====
/- What the kernel's result arrays hold after its run, at finite arguments: the row functions of FfnRow, token by
   token, and their sums over all tokens. -/
module

public import proofs.«01_k».proof.Proof.Gen.FfnIdeal.Value
public import proofs.«01_k».proof.Proof.FfnKernel
public import Idealize.ShloMosaic.Lib.Pipeline.ValueKit
public import Idealize.ShloMosaic.Lib.Pointwise

@[expose] public section

set_option maxRecDepth 16384

noncomputable section

namespace Cert.FfnIdeal.Final

open Cert.FfnIdeal Cert.FfnIdeal.Gen Cert.FfnIdeal.Block Cert.Step Idealize.ShloMosaic Idealize.ShloMosaic.TcCoe
  Idealize.SL.Sem

/-- The launched arguments are the given real arrays. -/
structure Reads (m : (ℓ : Loc nD τ sig) → Buf (Elt Ideal) ℓ) (c : Dev nD) (X T : Fin 8192 → Fin 1024 → ℝ)
    (W1 : Fin 1024 → Fin 4096 → ℝ) (W2 : Fin 4096 → Fin 1024 → ℝ) (G3 G4 : Fin 1024 → ℝ) : Prop where
  x : ∀ r k, m ((c : Thread nD τ).loc main_arg0) (ix2 r k) = (X r k : EReal)
  t : ∀ r k, m ((c : Thread nD τ).loc main_arg1) (ix2 r k) = (T r k : EReal)
  w1 : ∀ k j, m ((c : Thread nD τ).loc main_arg2) (ix2 k j) = (W1 k j : EReal)
  w2 : ∀ j d, m ((c : Thread nD τ).loc main_arg3) (ix2 j d) = (W2 j d : EReal)
  g3 : ∀ o k, m ((c : Thread nD τ).loc main_arg4) (ix2 o k) = (G3 k : EReal)
  g4 : ∀ o k, m ((c : Thread nD τ).loc main_arg5) (ix2 o k) = (G4 k : EReal)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0]
    ∧ win0_10.index t = ![t.val, 0] :=
  (by decide +kernel : ∀ t : Fin grid0.N, _)

/-- The token of row `r` of grid point `t`. -/
def row (t : Fin cfg0.N) (r : Fin 512) : Fin 8192 := ⟨t.val * 512 + r.val, by have := lt_of_lt_of_eq t.isLt N_0; omega⟩

variable {m : (ℓ : Loc nD τ sig) → Buf (Elt Ideal) ℓ} {c : Dev nD} {X T : Fin 8192 → Fin 1024 → ℝ}
  {W1 : Fin 1024 → Fin 4096 → ℝ} {W2 : Fin 4096 → Fin 1024 → ℝ} {G3 G4 : Fin 1024 → ℝ}
  (H : Reads m c X T W1 W2 G3 G4)
include H

theorem blk_x (t : Fin cfg0.N) (r : Fin 512) (k : Fin 1024) : iblk m c 0 t (ix2 r k) = (X (row t r) k : EReal) := by
  rw [← H.x]
  blk_point [iblk, V, idx t, row]

theorem blk_t (t : Fin cfg0.N) (r : Fin 512) (k : Fin 1024) : iblk m c 1 t (ix2 r k) = (T (row t r) k : EReal) := by
  rw [← H.t]
  blk_point [iblk, V, idx t, row]

theorem blk_w1 (t : Fin cfg0.N) (k : Fin 1024) (j : Fin 4096) : iblk m c 2 t (ix2 k j) = (W1 k j : EReal) := by
  rw [← H.w1]
  blk_point [iblk, V, idx t]

theorem blk_w2 (t : Fin cfg0.N) (j : Fin 4096) (d : Fin 1024) : iblk m c 3 t (ix2 j d) = (W2 j d : EReal) := by
  rw [← H.w2]
  blk_point [iblk, V, idx t]

theorem blk_g3 (t : Fin cfg0.N) (o) (k : Fin 1024) : iblk m c 4 t (ix2 o k) = (G3 k : EReal) := by
  rw [← H.g3 o]
  blk_point [iblk, V, idx t]

theorem blk_g4 (t : Fin cfg0.N) (o) (k : Fin 1024) : iblk m c 5 t (ix2 o k) = (G4 k : EReal) := by
  rw [← H.g4 o]
  blk_point [iblk, V, idx t]

/-! ## The arrays two payloads of a grid point are made of -/

/-- The feed-forward rows of grid point `t`. -/
abbrev rowsY (m : (ℓ : Loc nD τ sig) → Buf (Elt Ideal) ℓ) (c : Dev nD) (t : Fin cfg0.N) : Vec Ideal S512x1024 .f32 :=
  k0_pay9 (iblk m c 0 t) (iblk m c 4 t) (iblk m c 2 t) (iblk m c 3 t)

/-- Their sums of squares. -/
abbrev rowsQ (m : (ℓ : Loc nD τ sig) → Buf (Elt Ideal) ℓ) (c : Dev nD) (t : Fin cfg0.N) : Vec Ideal S512 .f32 :=
  k0_pay10 (iblk m c 0 t) (iblk m c 4 t) (iblk m c 2 t) (iblk m c 3 t)

theorem rows_y (t : Fin cfg0.N) (r : Fin 512) (d : Fin 1024) :
    rowsY m c t (ix2 r d) = (Ffn.ff (X (row t r)) G3 W1 W2 d : EReal) :=
  pay9_real (blk_x H t) (blk_g3 H t) (blk_w1 H t) (blk_w2 H t) r d

theorem rows_q (t : Fin cfg0.N) (r : Fin 512) : rowsQ m c t (ix1 r)
    = ((∑ k, Ffn.ff (X (row t r)) G3 W1 W2 k * Ffn.ff (X (row t r)) G3 W1 W2 k : ℝ) : EReal) :=
  pay10_real (blk_x H t) (blk_g3 H t) (blk_w1 H t) (blk_w2 H t) r

/-- The rectified pre-activations. -/
theorem rows_p (t : Fin cfg0.N) (r : Fin 512) (j : Fin 4096) :
    k0_pay7 (iblk m c 0 t) (iblk m c 4 t) (iblk m c 2 t) (ix2 r j) = (Ffn.f (X (row t r)) G3 W1 j : EReal) :=
  pay7_real (blk_x H t) (blk_g3 H t) (blk_w1 H t) r j

/-- The loss's gradient at the outputs. -/
theorem rows_dy (t : Fin cfg0.N) (r : Fin 512) (d : Fin 1024) :
    k0_pay15 (iblk m c 0 t) (iblk m c 5 t) (rowsY m c t) (rowsQ m c t) (iblk m c 1 t) (ix2 r d)
      = (Ffn.dy (X (row t r)) G3 W1 W2 G4 (T (row t r)) d : EReal) :=
  pay15_real (blk_x H t) (blk_g4 H t) (blk_t H t) (rows_y H t) (rows_q H t) r d

/-- The gradient at the feed-forward rows. -/
theorem rows_dff (t : Fin cfg0.N) (r : Fin 512) (d : Fin 1024) :
    k0_pay16 (iblk m c 0 t) (iblk m c 5 t) (rowsY m c t) (rowsQ m c t) (iblk m c 1 t) (ix2 r d)
      = (Ffn.dff (X (row t r)) G3 W1 W2 G4 (T (row t r)) d : EReal) :=
  pay16_real (blk_x H t) (blk_g4 H t) (blk_t H t) (rows_y H t) (rows_q H t) r d

/-! ## The arrays written tile by tile -/

theorem at6 (t : Fin cfg0.N) (r : Fin 512) (k : Fin 1024) :
    (outsAt0 m c t.val t.isLt).1 (ix2 r k) = (Ffn.h (X (row t r)) G3 k : EReal) := by
  by_cases h : t.val % 16 = 0
  · rw [outsAt0_A m c t h]; frame_out
    exact pay6_real (blk_x H t) (blk_g3 H t) r k
  · rw [outsAt0_B m c t h]; frame_out
    exact pay6_real (blk_x H t) (blk_g3 H t) r k

omit H in
theorem emb6 (t : Fin cfg0.N) (r : Fin 512) (k : Fin 1024) :
    (win0_6.blk t).view.emb (ix2 r k) = (ix2 (row t r) k : S8192x1024.Idx) := by
  funext a
  apply Fin.ext
  fin_cases a <;> blk_simp [idx t, row] <;> rfl

theorem final6 : (dats m 0 c).arrAt 6 (cfgs 0).N
    = fun i => (Ffn.h (X (i 0)) G3 (i 1) : EReal) := by
  refine (dats m 0 c).arrAt_eq_of_covers 6 _ (by decide +kernel) fun t _ y => ?_
  have h : ∀ y : S512x1024.Idx, (outsAt0 m c t.val t.isLt).1 y
      = (fun i : S8192x1024.Idx => (Ffn.h (X (i 0)) G3 (i 1) : EReal)) ((win0_6.blk t).view.emb y) :=
    forall_ix2 fun r k => by rw [at6 H, emb6]; rfl
  blk_simp
  rw [after0_6]
  exact h y

theorem at7 (t : Fin cfg0.N) (r : Fin 512) (j : Fin 4096) :
    (outsAt0 m c t.val t.isLt).2.1 (ix2 r j) = (Ffn.f2 (X (row t r)) G3 W1 j : EReal) := by
  by_cases h : t.val % 16 = 0
  · rw [outsAt0_A m c t h]; frame_out
    exact pay8_real (blk_x H t) (blk_g3 H t) (blk_w1 H t) r j
  · rw [outsAt0_B m c t h]; frame_out
    exact pay8_real (blk_x H t) (blk_g3 H t) (blk_w1 H t) r j

omit H in
theorem emb7 (t : Fin cfg0.N) (r : Fin 512) (j : Fin 4096) :
    (win0_7.blk t).view.emb (ix2 r j) = (ix2 (row t r) j : S8192x4096.Idx) := by
  funext a
  apply Fin.ext
  fin_cases a <;> blk_simp [idx t, row] <;> rfl

theorem final7 : (dats m 0 c).arrAt 7 (cfgs 0).N
    = fun i => (Ffn.f2 (X (i 0)) G3 W1 (i 1) : EReal) := by
  refine (dats m 0 c).arrAt_eq_of_covers 7 _ (by decide +kernel) fun t _ y => ?_
  have h : ∀ y : S512x4096.Idx, (outsAt0 m c t.val t.isLt).2.1 y
      = (fun i : S8192x4096.Idx => (Ffn.f2 (X (i 0)) G3 W1 (i 1) : EReal)) ((win0_7.blk t).view.emb y) :=
    forall_ix2 fun r k => by rw [at7 H, emb7]; rfl
  blk_simp
  rw [after0_7]
  exact h y

theorem at8 (t : Fin cfg0.N) (r : Fin 512) (d : Fin 1024) :
    (outsAt0 m c t.val t.isLt).2.2.1 (ix2 r d) = (Ffn.dff (X (row t r)) G3 W1 W2 G4 (T (row t r)) d : EReal) := by
  by_cases h : t.val % 16 = 0
  · rw [outsAt0_A m c t h]; frame_out
    exact (pay18_real (rows_dff H t) r d)
  · rw [outsAt0_B m c t h]; frame_out
    exact (pay18_real (rows_dff H t) r d)

omit H in
theorem emb8 (t : Fin cfg0.N) (r : Fin 512) (d : Fin 1024) :
    (win0_8.blk t).view.emb (ix2 r d) = (ix2 (row t r) d : S8192x1024.Idx) := by
  funext a
  apply Fin.ext
  fin_cases a <;> blk_simp [idx t, row] <;> rfl

theorem final8 : (dats m 0 c).arrAt 8 (cfgs 0).N
    = fun i => (Ffn.dff (X (i 0)) G3 W1 W2 G4 (T (i 0)) (i 1) : EReal) := by
  refine (dats m 0 c).arrAt_eq_of_covers 8 _ (by decide +kernel) fun t _ y => ?_
  have h : ∀ y : S512x1024.Idx, (outsAt0 m c t.val t.isLt).2.2.1 y
      = (fun i : S8192x1024.Idx => (Ffn.dff (X (i 0)) G3 W1 W2 G4 (T (i 0)) (i 1) : EReal)) ((win0_8.blk t).view.emb y) :=
    forall_ix2 fun r k => by rw [at8 H, emb8]; rfl
  blk_simp
  rw [after0_8]
  exact h y

theorem at9 (t : Fin cfg0.N) (r : Fin 512) (j : Fin 4096) :
    (outsAt0 m c t.val t.isLt).2.2.2.1 (ix2 r j) = (Ffn.dz (X (row t r)) G3 W1 W2 G4 (T (row t r)) j : EReal) := by
  by_cases h : t.val % 16 = 0
  · rw [outsAt0_A m c t h]; frame_out
    exact pay19_real (rows_p H t) (rows_dff H t) (blk_w2 H t) r j
  · rw [outsAt0_B m c t h]; frame_out
    exact pay19_real (rows_p H t) (rows_dff H t) (blk_w2 H t) r j

omit H in
theorem emb9 (t : Fin cfg0.N) (r : Fin 512) (j : Fin 4096) :
    (win0_9.blk t).view.emb (ix2 r j) = (ix2 (row t r) j : S8192x4096.Idx) := by
  funext a
  apply Fin.ext
  fin_cases a <;> blk_simp [idx t, row] <;> rfl

theorem final9 : (dats m 0 c).arrAt 9 (cfgs 0).N
    = fun i => (Ffn.dz (X (i 0)) G3 W1 W2 G4 (T (i 0)) (i 1) : EReal) := by
  refine (dats m 0 c).arrAt_eq_of_covers 9 _ (by decide +kernel) fun t _ y => ?_
  have h : ∀ y : S512x4096.Idx, (outsAt0 m c t.val t.isLt).2.2.2.1 y
      = (fun i : S8192x4096.Idx => (Ffn.dz (X (i 0)) G3 W1 W2 G4 (T (i 0)) (i 1) : EReal)) ((win0_9.blk t).view.emb y) :=
    forall_ix2 fun r k => by rw [at9 H, emb9]; rfl
  blk_simp
  rw [after0_9]
  exact h y

theorem at10 (t : Fin cfg0.N) (r : Fin 512) (k : Fin 1024) :
    (outsAt0 m c t.val t.isLt).2.2.2.2.1 (ix2 r k) = (Ffn.dx (X (row t r)) G3 W1 W2 G4 (T (row t r)) k : EReal) := by
  by_cases h : t.val % 16 = 0
  · rw [outsAt0_A m c t h]; frame_out
    exact pay22_real (rows_p H t) (rows_dff H t) (blk_w2 H t) (blk_w1 H t) (blk_g3 H t) (pay4_real (blk_x H t))
        (pay5_real (blk_x H t)) (rows_dy H t) r k
  · rw [outsAt0_B m c t h]; frame_out
    exact pay22_real (rows_p H t) (rows_dff H t) (blk_w2 H t) (blk_w1 H t) (blk_g3 H t) (pay4_real (blk_x H t))
        (pay5_real (blk_x H t)) (rows_dy H t) r k

omit H in
theorem emb10 (t : Fin cfg0.N) (r : Fin 512) (k : Fin 1024) :
    (win0_10.blk t).view.emb (ix2 r k) = (ix2 (row t r) k : S8192x1024.Idx) := by
  funext a
  apply Fin.ext
  fin_cases a <;> blk_simp [idx t, row] <;> rfl

theorem final10 : (dats m 0 c).arrAt 10 (cfgs 0).N
    = fun i => (Ffn.dx (X (i 0)) G3 W1 W2 G4 (T (i 0)) (i 1) : EReal) := by
  refine (dats m 0 c).arrAt_eq_of_covers 10 _ (by decide +kernel) fun t _ y => ?_
  have h : ∀ y : S512x1024.Idx, (outsAt0 m c t.val t.isLt).2.2.2.2.1 y
      = (fun i : S8192x1024.Idx => (Ffn.dx (X (i 0)) G3 W1 W2 G4 (T (i 0)) (i 1) : EReal)) ((win0_10.blk t).view.emb y) :=
    forall_ix2 fun r k => by rw [at10 H, emb10]; rfl
  blk_simp
  rw [after0_10]
  exact h y

/-! ## The three arrays that collect a sum over all grid points -/

omit H in
/-- A sum over the grid points and the rows of each is the sum over the tokens. -/
theorem sum_rows (f : Fin 8192 → ℝ) :
    ∑ p : Fin cfg0.N, ((∑ r : Fin 512, f (row p r) : ℝ) : EReal) = ((∑ r, f r : ℝ) : EReal) := by
  rw [sum_real]
  congr 1
  exact Fin.sum_mul_add_congr fun p r hl => rfl

theorem final11 : (dats m 0 c).arrAt 11 (cfgs 0).N
    = fun i => ((∑ r, Ffn.err (X r) G3 W1 W2 G4 (T r) (i 1) * Ffn.err (X r) G3 W1 W2 G4 (T r) (i 1) : ℝ) : EReal) := by
  refine (dats m 0 c).arrAt_eq_of_after_last 11 t0_15 (by decide +kernel) _ fun y => ?_
  blk_simp
  obtain ⟨o, d, rfl⟩ : ∃ (o : Fin 1) (d : Fin 1024), y = ix2 o d := ⟨y 0, y 1, eq_ix2 y⟩
  rw [after0_11]
  refine (Pipeline.eq_sum_fin_of_reset_step_apply_last (ι := Fin 1 × Fin 1024)
    (fun n h q => (outsAt0 m c n h).2.2.2.2.2.1 (ix2 q.1 q.2)) 16 (fun _ => 0)
    (fun t q => ((∑ r : Fin 512, Ffn.err (X (row t r)) G3 W1 W2 G4 (T (row t r)) q.2 * Ffn.err (X (row t r)) G3 W1 W2 G4 (T (row t r)) q.2 : ℝ) : EReal))
    (fun t h q => ?_) (fun t h q => ?_) (le_of_eq N_0) t0_15 rfl (o, d)).trans ?_
  · rw [outsAt0_A m c t h]; frame_out
    refine (pay14_real (blk_x H t) (blk_g4 H t) (blk_t H t) (rows_y H t) (rows_q H t) _ q.1 q.2).trans (congrArg (· + _) ?_)
    pointwise [k0_pay1]
  · rw [outsAt0_B m c t h]; frame_out
    exact pay14_real (blk_x H t) (blk_g4 H t) (blk_t H t) (rows_y H t) (rows_q H t) _ q.1 q.2
  · rw [zero_add]; exact sum_rows fun r => Ffn.err (X r) G3 W1 W2 G4 (T r) d * Ffn.err (X r) G3 W1 W2 G4 (T r) d

theorem final12 : (dats m 0 c).arrAt 12 (cfgs 0).N
    = fun i => ((∑ r, Ffn.dh (X r) G3 W1 W2 G4 (T r) (i 1) * Ffn.hat (X r) (i 1) : ℝ) : EReal) := by
  refine (dats m 0 c).arrAt_eq_of_after_last 12 t0_15 (by decide +kernel) _ fun y => ?_
  blk_simp
  obtain ⟨o, d, rfl⟩ : ∃ (o : Fin 1) (d : Fin 1024), y = ix2 o d := ⟨y 0, y 1, eq_ix2 y⟩
  rw [after0_12]
  refine (Pipeline.eq_sum_fin_of_reset_step_apply_last (ι := Fin 1 × Fin 1024)
    (fun n h q => (outsAt0 m c n h).2.2.2.2.2.2.1 (ix2 q.1 q.2)) 16 (fun _ => 0)
    (fun t q => ((∑ r : Fin 512, Ffn.dh (X (row t r)) G3 W1 W2 G4 (T (row t r)) q.2 * Ffn.hat (X (row t r)) q.2 : ℝ) : EReal))
    (fun t h q => ?_) (fun t h q => ?_) (le_of_eq N_0) t0_15 rfl (o, d)).trans ?_
  · rw [outsAt0_A m c t h]; frame_out
    refine (pay21_real (rows_p H t) (rows_dff H t) (blk_w2 H t) (blk_w1 H t) (pay5_real (blk_x H t)) _ q.1 q.2).trans (congrArg (· + _) ?_)
    pointwise [k0_pay2]
  · rw [outsAt0_B m c t h]; frame_out
    exact pay21_real (rows_p H t) (rows_dff H t) (blk_w2 H t) (blk_w1 H t) (pay5_real (blk_x H t)) _ q.1 q.2
  · rw [zero_add]; exact sum_rows fun r => Ffn.dh (X r) G3 W1 W2 G4 (T r) d * Ffn.hat (X r) d

theorem final13 : (dats m 0 c).arrAt 13 (cfgs 0).N
    = fun i => ((∑ r, Ffn.dy (X r) G3 W1 W2 G4 (T r) (i 1) * Ffn.fhat (X r) G3 W1 W2 (i 1) : ℝ) : EReal) := by
  refine (dats m 0 c).arrAt_eq_of_after_last 13 t0_15 (by decide +kernel) _ fun y => ?_
  blk_simp
  obtain ⟨o, d, rfl⟩ : ∃ (o : Fin 1) (d : Fin 1024), y = ix2 o d := ⟨y 0, y 1, eq_ix2 y⟩
  rw [after0_13]
  refine (Pipeline.eq_sum_fin_of_reset_step_apply_last (ι := Fin 1 × Fin 1024)
    (fun n h q => (outsAt0 m c n h).2.2.2.2.2.2.2 (ix2 q.1 q.2)) 16 (fun _ => 0)
    (fun t q => ((∑ r : Fin 512, Ffn.dy (X (row t r)) G3 W1 W2 G4 (T (row t r)) q.2 * Ffn.fhat (X (row t r)) G3 W1 W2 q.2 : ℝ) : EReal))
    (fun t h q => ?_) (fun t h q => ?_) (le_of_eq N_0) t0_15 rfl (o, d)).trans ?_
  · rw [outsAt0_A m c t h]; frame_out
    refine (pay17_real (blk_x H t) (blk_g4 H t) (blk_t H t) (rows_y H t) (rows_q H t) _ q.1 q.2).trans (congrArg (· + _) ?_)
    pointwise [k0_pay3]
  · rw [outsAt0_B m c t h]; frame_out
    exact pay17_real (blk_x H t) (blk_g4 H t) (blk_t H t) (rows_y H t) (rows_q H t) _ q.1 q.2
  · rw [zero_add]; exact sum_rows fun r => Ffn.dy (X r) G3 W1 W2 G4 (T r) d * Ffn.fhat (X r) G3 W1 W2 d

end Cert.FfnIdeal.Final

end
-- ==== Proof.FfnRef.lean ====
/- What the reference's arrays hold at one token, at finite arguments: the row functions of FfnRow. -/
module

public import proofs.«01_k».proof.Proof.Gen.FfnRefIdeal.Read
public import proofs.«01_k».proof.Proof.FfnRow
public import Idealize.ShloMosaic.Lib.Pipeline.ValueKit
public import Idealize.ShloMosaic.Lib.Pointwise

@[expose] public section

set_option maxRecDepth 16384

noncomputable section

namespace Cert.FfnRefIdeal.Row

open Cert.FfnRefIdeal Cert.FfnRefIdeal.Gen Cert.FfnRefIdeal.Read Cert.Step Idealize.ShloMosaic Idealize.ShloMosaic.TcCoe
  Idealize.SL.Sem

variable {x t : Vec Ideal S8192x1024 .f32} {u1 : Vec Ideal S1024x4096 .f32} {u2 : Vec Ideal S4096x1024 .f32}
  {s3 s4 : Vec Ideal S1x1024 .f32}
  {X T : Fin 8192 → Fin 1024 → ℝ} {W1 : Fin 1024 → Fin 4096 → ℝ} {W2 : Fin 4096 → Fin 1024 → ℝ} {G3 G4 : Fin 1024 → ℝ}

section Forward
variable (hx : ∀ r k, x (ix2 r k) = (X r k : EReal)) (h3 : ∀ o k, s3 (ix2 o k) = (G3 k : EReal))
  (h1 : ∀ k j, u1 (ix2 k j) = (W1 k j : EReal)) (h2 : ∀ j d, u2 (ix2 j d) = (W2 j d : EReal))
include hx

theorem v8_real (r : Fin 8192) (o) : val_main_v8 x (ix2 r o) = (meanSq (X r) : EReal) := by
  pointwise [val_main_v8, val_main_v6, val_main_v4, val_main_v3, val_main_v2, val_main_v5, val_main_v7, val_main_cst_1,
    val_main_cst_2, val_main_cst_3]
  simp only [hx, ← EReal.coe_mul, sum_real, div_1024, word_eps, ← EReal.coe_add, meanSq]

theorem v9_real (r : Fin 8192) (o) : val_main_v9 x (ix2 r o) = (rinv (X r) : EReal) := by
  pointwise [val_main_v9]
  rw [v8_real hx, rsqrt_real (meanSq_pos _), rinv]

theorem v12_real (r : Fin 8192) (o) :
    val_main_v12 x (ix2 r o) = ((-(1 / 2) * (rinv (X r) / meanSq (X r)) : ℝ) : EReal) := by
  pointwise [val_main_v12, val_main_v11, val_main_cst_4, val_main_v10]
  rw [v8_real hx, v9_real hx, div_real (meanSq_pos _).ne', word_neg_half, ← EReal.coe_mul]

theorem v14_real (r : Fin 8192) (k : Fin 1024) : val_main_v14 x (ix2 r k) = (Ffn.hat (X r) k : EReal) := by
  pointwise [val_main_v14, val_main_v13]
  rw [v9_real hx, hx, ← EReal.coe_mul, Ffn.hat]

include h3
theorem v16_real (r : Fin 8192) (k : Fin 1024) : val_main_v16 x s3 (ix2 r k) = (Ffn.h (X r) G3 k : EReal) := by
  pointwise [val_main_v16, val_main_v15]
  rw [v14_real hx, h3, ← EReal.coe_mul, Ffn.h]

include h1
theorem v18_real (r : Fin 8192) (j : Fin 4096) : val_main_v18 x u1 s3 (ix2 r j) = (Ffn.z (X r) G3 W1 j : EReal) := by
  pointwise [val_main_v18, val_main_v17, val_main_v0, val_main_cst]
  simp only [v16_real hx h3, h1, ← EReal.coe_mul, sum_real, Ffn.z]

theorem v19_real (r : Fin 8192) (j : Fin 4096) : val_main_v19 x u1 s3 (ix2 r j) = (Ffn.f (X r) G3 W1 j : EReal) := by
  pointwise [val_main_v19, val_main_call0_v0, val_main_call0_cst]
  simp only [v18_real hx h3 h1, max_zero_real, Ffn.f]

theorem v23_real (r : Fin 8192) (j : Fin 4096) : val_main_v23 x u1 s3 (ix2 r j) = (Ffn.f2 (X r) G3 W1 j : EReal) := by
  pointwise [val_main_v23]
  simp only [v19_real hx h3 h1, ← EReal.coe_mul, Ffn.f2]

include h2
theorem v27_real (r : Fin 8192) (d : Fin 1024) :
    val_main_v27 x u1 u2 s3 (ix2 r d) = (Ffn.ff (X r) G3 W1 W2 d : EReal) := by
  pointwise [val_main_v27, val_main_v26, val_main_v1, val_main_cst_0]
  simp only [v23_real hx h3 h1, h2, ← EReal.coe_mul, sum_real, Ffn.ff]

theorem v34_real (r : Fin 8192) (o) :
    val_main_v34 x u1 u2 s3 (ix2 r o) = (meanSq (Ffn.ff (X r) G3 W1 W2) : EReal) := by
  pointwise [val_main_v34, val_main_v32, val_main_v30, val_main_v29, val_main_v28, val_main_v31, val_main_v33,
    val_main_cst_8, val_main_cst_9, val_main_cst_10]
  simp only [v27_real hx h3 h1 h2, ← EReal.coe_mul, sum_real, div_1024, word_eps, ← EReal.coe_add, meanSq]

theorem v35_real (r : Fin 8192) (o) :
    val_main_v35 x u1 u2 s3 (ix2 r o) = (rinv (Ffn.ff (X r) G3 W1 W2) : EReal) := by
  pointwise [val_main_v35]
  rw [v34_real hx h3 h1 h2, rsqrt_real (meanSq_pos _), rinv]

theorem v38_real (r : Fin 8192) (o) : val_main_v38 x u1 u2 s3 (ix2 r o)
    = ((-(1 / 2) * (rinv (Ffn.ff (X r) G3 W1 W2) / meanSq (Ffn.ff (X r) G3 W1 W2)) : ℝ) : EReal) := by
  pointwise [val_main_v38, val_main_v37, val_main_cst_11, val_main_v36]
  rw [v34_real hx h3 h1 h2, v35_real hx h3 h1 h2, div_real (meanSq_pos _).ne', word_neg_half, ← EReal.coe_mul]

theorem v40_real (r : Fin 8192) (d : Fin 1024) :
    val_main_v40 x u1 u2 s3 (ix2 r d) = (Ffn.fhat (X r) G3 W1 W2 d : EReal) := by
  pointwise [val_main_v40, val_main_v39]
  rw [v35_real hx h3 h1 h2, v27_real hx h3 h1 h2, ← EReal.coe_mul, Ffn.fhat]

end Forward

section Loss
variable (hx : ∀ r k, x (ix2 r k) = (X r k : EReal)) (ht : ∀ r k, t (ix2 r k) = (T r k : EReal))
  (h1 : ∀ k j, u1 (ix2 k j) = (W1 k j : EReal)) (h2 : ∀ j d, u2 (ix2 j d) = (W2 j d : EReal))
  (h3 : ∀ o k, s3 (ix2 o k) = (G3 k : EReal)) (h4 : ∀ o k, s4 (ix2 o k) = (G4 k : EReal))
include hx ht h1 h2 h3 h4

theorem v44_real (r : Fin 8192) (d : Fin 1024) :
    val_main_v44 x t u1 u2 s3 s4 (ix2 r d) = (Ffn.err (X r) G3 W1 W2 G4 (T r) d : EReal) := by
  pointwise [val_main_v44, val_main_v43, val_main_v42, val_main_v41]
  simp only [v40_real hx h3 h1 h2, hx, h4, ht, ← EReal.coe_mul, ← EReal.coe_add, ← EReal.coe_sub, Ffn.err]

theorem v58_real (r : Fin 8192) (d : Fin 1024) :
    val_main_v58 x t u1 u2 s3 s4 (ix2 r d) = (Ffn.dy (X r) G3 W1 W2 G4 (T r) d : EReal) := by
  pointwise [val_main_v58, val_main_v57, val_main_v56, val_main_v54, val_main_v53, val_main_cst_17, val_main_cst_18,
    val_main_v55, val_main_cst_19, val_main_v47, val_main_v46, val_main_cst_12]
  simp only [v44_real hx ht h1 h2 h3 h4, word_half, div_1024, word_two, ← EReal.coe_mul, Ffn.dy]
  congr 1; ring

theorem v63_real (r : Fin 8192) (d : Fin 1024) :
    val_main_v63 x t u1 u2 s3 s4 (ix2 r d) = ((Ffn.dy (X r) G3 W1 W2 G4 (T r) d * G4 d : ℝ) : EReal) := by
  pointwise [val_main_v63, val_main_v62]
  rw [v58_real hx ht h1 h2 h3 h4, h4, ← EReal.coe_mul]

theorem v73_real (r : Fin 8192) (d : Fin 1024) : val_main_v73 x t u1 u2 s3 s4 (ix2 r d)
    = (meanBack (Ffn.ff (X r) G3 W1 W2) (fun k => Ffn.dy (X r) G3 W1 W2 G4 (T r) k * G4 k) : EReal) := by
  pointwise [val_main_v73, val_main_v72, val_main_v71, val_main_v69, val_main_v66, val_main_v65, val_main_v64,
    val_main_v70, val_main_cst_21, val_main_cst_22, val_main_cst_23]
  simp only [v63_real hx ht h1 h2 h3 h4, v27_real hx h3 h1 h2, v38_real hx h3 h1 h2, ← EReal.coe_mul, sum_real,
    div_1024, Fin.sum_univ_one, meanBack]

theorem v77_real (r : Fin 8192) (d : Fin 1024) :
    val_main_v77 x t u1 u2 s3 s4 (ix2 r d) = (Ffn.dff (X r) G3 W1 W2 G4 (T r) d : EReal) := by
  pointwise [val_main_v77, val_main_v76, val_main_v75, val_main_v74, val_main_v68, val_main_v67]
  simp only [v73_real hx ht h1 h2 h3 h4, v63_real hx ht h1 h2 h3 h4, v27_real hx h3 h1 h2, v35_real hx h3 h1 h2,
    ← EReal.coe_mul, ← EReal.coe_add, Ffn.dff]
  exact congrArg _ (normBack_eq _ (fun k => Ffn.dy (X r) G3 W1 W2 G4 (T r) k * G4 k) d)

theorem v81_real (r : Fin 8192) (j : Fin 4096) :
    val_main_v81 x t u1 u2 s3 s4 (ix2 r j) = (Ffn.dz (X r) G3 W1 W2 G4 (T r) j : EReal) := by
  pointwise [val_main_v81, val_main_v80, val_main_cst_24, val_main_v79, val_main_v78, val_main_v25, val_main_v24,
    val_main_cst_7, val_main_v21, val_main_v20, val_main_cst_5]
  simp only [v77_real hx ht h1 h2 h3 h4, v19_real hx h3 h1, v18_real hx h3 h1, h2, word_two, ← EReal.coe_mul, sum_real,
    Ffn.dz]
  rcases lt_or_ge 0 (Ffn.z (X r) G3 W1 j) with hz | hz
  · rw [if_pos (by exact_mod_cast hz)]
  · rw [if_neg (by exact_mod_cast not_lt.mpr hz), Ffn.f, max_eq_right hz, mul_zero, mul_zero, EReal.coe_zero]

theorem v82_real (r : Fin 8192) (k : Fin 1024) :
    val_main_v82 x t u1 u2 s3 s4 (ix2 r k) = (Ffn.dh (X r) G3 W1 W2 G4 (T r) k : EReal) := by
  pointwise [val_main_v82]
  simp only [v81_real hx ht h1 h2 h3 h4, h1, ← EReal.coe_mul, sum_real, Ffn.dh]

theorem v87_real (r : Fin 8192) (k : Fin 1024) :
    val_main_v87 x t u1 u2 s3 s4 (ix2 r k) = ((Ffn.dh (X r) G3 W1 W2 G4 (T r) k * G3 k : ℝ) : EReal) := by
  pointwise [val_main_v87, val_main_v86]
  rw [v82_real hx ht h1 h2 h3 h4, h3, ← EReal.coe_mul]

theorem v98_real (r : Fin 8192) (k : Fin 1024) : val_main_v98 x t u1 u2 s3 s4 (ix2 r k)
    = (meanBack (X r) (fun k => Ffn.dh (X r) G3 W1 W2 G4 (T r) k * G3 k) : EReal) := by
  pointwise [val_main_v98, val_main_v97, val_main_v96, val_main_v94, val_main_v90, val_main_v89, val_main_v88,
    val_main_v95, val_main_cst_26, val_main_cst_27, val_main_cst_28]
  simp only [v87_real hx ht h1 h2 h3 h4, hx, v12_real hx, ← EReal.coe_mul, sum_real, div_1024, Fin.sum_univ_one,
    meanBack]

theorem v102_real (r : Fin 8192) (k : Fin 1024) :
    val_main_v102 x t u1 u2 s3 s4 (ix2 r k) = (Ffn.dx (X r) G3 W1 W2 G4 (T r) k : EReal) := by
  pointwise [val_main_v102, val_main_v101, val_main_v100, val_main_v99, val_main_v93, val_main_v92, val_main_v91]
  simp only [v98_real hx ht h1 h2 h3 h4, v87_real hx ht h1 h2 h3 h4, v58_real hx ht h1 h2 h3 h4, v9_real hx, hx,
    ← EReal.coe_mul, ← EReal.coe_add, Ffn.dx]
  rw [← normBack_eq _ (fun k => Ffn.dh (X r) G3 W1 W2 G4 (T r) k * G3 k) k]
  congr 1; ring

/-! The three sums over all tokens. -/

theorem v61_real (o : Fin 1) (d : Fin 1024) : val_main_v61 x t u1 u2 s3 s4 (ix2 o d)
    = ((∑ r, Ffn.dy (X r) G3 W1 W2 G4 (T r) d * Ffn.fhat (X r) G3 W1 W2 d : ℝ) : EReal) := by
  pointwise [val_main_v61, val_main_v60, val_main_v59, val_main_cst_20]
  simp only [v58_real hx ht h1 h2 h3 h4, v40_real hx h3 h1 h2, ← EReal.coe_mul, sum_real, mul_comm]

theorem v85_real (o : Fin 1) (k : Fin 1024) : val_main_v85 x t u1 u2 s3 s4 (ix2 o k)
    = ((∑ r, Ffn.dh (X r) G3 W1 W2 G4 (T r) k * Ffn.hat (X r) k : ℝ) : EReal) := by
  pointwise [val_main_v85, val_main_v84, val_main_v83, val_main_cst_25]
  simp only [v82_real hx ht h1 h2 h3 h4, v14_real hx, ← EReal.coe_mul, sum_real, mul_comm]

/-! The results of the forward pass, which the reference computes a second time. -/

theorem v114_real (r : Fin 8192) (k : Fin 1024) : val_main_v114 x s3 (ix2 r k) = (Ffn.h (X r) G3 k : EReal) :=
  v16_real hx h3 r k

theorem v117_real (r : Fin 8192) (j : Fin 4096) : val_main_v117 x u1 s3 (ix2 r j) = (Ffn.f2 (X r) G3 W1 j : EReal) := by
  pointwise [val_main_v117, val_main_v116, val_main_v115, val_main_call1_v0, val_main_call1_cst]
  simp only [v114_real hx ht h1 h2 h3 h4, h1, ← EReal.coe_mul, sum_real, max_zero_real, Ffn.f2, Ffn.f, Ffn.z]

theorem v118_real (r : Fin 8192) (d : Fin 1024) :
    val_main_v118 x u1 u2 s3 (ix2 r d) = (Ffn.ff (X r) G3 W1 W2 d : EReal) := by
  pointwise [val_main_v118]
  simp only [v117_real hx ht h1 h2 h3 h4, h2, ← EReal.coe_mul, sum_real, Ffn.ff]

theorem v126_real (r : Fin 8192) (o) :
    val_main_v126 x u1 u2 s3 (ix2 r o) = (rinv (Ffn.ff (X r) G3 W1 W2) : EReal) := by
  have h : val_main_v125 x u1 u2 s3 (ix2 r o) = (meanSq (Ffn.ff (X r) G3 W1 W2) : EReal) := by
    pointwise [val_main_v125, val_main_v123, val_main_v121, val_main_v120, val_main_v119, val_main_v122,
      val_main_v124, val_main_cst_32, val_main_cst_33, val_main_cst_34]
    simp only [v118_real hx ht h1 h2 h3 h4, ← EReal.coe_mul, sum_real, div_1024, word_eps, ← EReal.coe_add, meanSq]
  pointwise [val_main_v126]
  rw [h, rsqrt_real (meanSq_pos _), rinv]

theorem v135_real (o : Fin 1) (d : Fin 1024) : val_main_v135 x t u1 u2 s3 s4 (ix2 o d)
    = ((∑ r, Ffn.err (X r) G3 W1 W2 G4 (T r) d * Ffn.err (X r) G3 W1 W2 G4 (T r) d : ℝ) : EReal) := by
  pointwise [val_main_v135, val_main_v134, val_main_v133, val_main_v132, val_main_v131, val_main_v130, val_main_v129,
    val_main_v128, val_main_v127, val_main_cst_35]
  simp only [v126_real hx ht h1 h2 h3 h4, v118_real hx ht h1 h2 h3 h4, hx, h4, ht, ← EReal.coe_mul, ← EReal.coe_add,
    ← EReal.coe_sub, sum_real, Ffn.err, Ffn.fhat]

end Loss

end Cert.FfnRefIdeal.Row

end
-- ==== Proof.Finite.lean ====
/- The precondition read as mathematics: an array whose entries all have a finite absolute value is an array of reals. -/
module

public import proofs.«01_k».proof.Proof.Reals
public import Idealize.ShloMosaic.Lib.Pipeline.ValueKit
public import Idealize.ShloMosaic.Lib.StableHlo
public import Idealize.ShloMosaic.Lib.Pointwise

@[expose] public section

noncomputable section

namespace Cert.Step

open Idealize.ShloMosaic

theorem word_top : Ideal.ofBits .f32 2139095040#32 = ⊤ := by
  simp [Ideal.ofBits, Ideal.ieee]

/-- The entries' absolute values lie below positive infinity: the entries are reals. -/
theorem real_of_finite {S : Shape} {S0 : Shape} (x : FVec Ideal S .f32) (d) (h : S0.BroadcastsInDim S d)
    (hx : cmpf (F := Ideal) .olt (Host.absf x) (broadcastInDim S d h (constant S0 .f32 0x7F800000#32)) = fun _ => 1#1)
    (i : S.Idx) : x i = ((x i).toReal : EReal) := by
  have hi := congrFun hx i
  pointwise at hi
  have hlt : max (x i) (-x i) < ⊤ := by
    by_contra hn
    rw [← word_top] at hn
    rw [decide_eq_false (by exact hn)] at hi
    exact absurd hi (by decide)
  exact (EReal.coe_toReal (fun h => by simp [h] at hlt) (fun h => by simp [h] at hlt)).symm

/-- A matrix with finite entries, as a real matrix. -/
theorem matrix_real {a b : ℕ} {S0 : Shape} (x : FVec Ideal ⟨2, ![a, b]⟩ .f32) (d)
    (h : S0.BroadcastsInDim ⟨2, ![a, b]⟩ d)
    (hx : cmpf (F := Ideal) .olt (Host.absf x) (broadcastInDim _ d h (constant S0 .f32 0x7F800000#32)) = fun _ => 1#1) :
    ∃ X : Fin a → Fin b → ℝ, ∀ r k, x (ix2 r k) = (X r k : EReal) :=
  ⟨fun r k => (x (ix2 r k)).toReal, fun r k => real_of_finite x d h hx _⟩

/-- A matrix of one row with finite entries, as a real row. -/
theorem row_real {b : ℕ} {S0 : Shape} (x : FVec Ideal ⟨2, ![1, b]⟩ .f32) (d)
    (h : S0.BroadcastsInDim ⟨2, ![1, b]⟩ d)
    (hx : cmpf (F := Ideal) .olt (Host.absf x) (broadcastInDim _ d h (constant S0 .f32 0x7F800000#32)) = fun _ => 1#1) :
    ∃ X : Fin b → ℝ, ∀ o k, x (ix2 o k) = (X k : EReal) :=
  ⟨fun k => (x (ix2 0 k)).toReal, fun o k => by rw [Subsingleton.elim o 0]; exact real_of_finite x d h hx _⟩

end Cert.Step

end
-- ==== Proof.FfnClaim.lean ====
/- The feed-forward block with the loss, forward and backward: the claims about its kernel and its reference. -/
module

public import proofs.«01_k».proof.Defs
public import proofs.«01_k».proof.Proof.Gen.Ffn.Frame
public import proofs.«01_k».proof.Proof.FfnFinal
public import proofs.«01_k».proof.Proof.FfnRef
public import proofs.«01_k».proof.Proof.Finite
public import Idealize.ShloMosaic.Lib.Claim

@[expose] public section

set_option maxRecDepth 16384

noncomputable section

namespace Cert.Proof.Ffn

open Idealize.ShloMosaic Idealize.SL.Sem Cert.Step

instance facts_pre : Cert.Pre_finite.Facts := by
  constructor <;> decide

theorem frame_kernel : Cert.quiescent_Ffn := fun m ρ _ => Cert.Ffn.Gen.frame m ρ

theorem frame_ideal : Cert.quiescent_FfnIdeal := fun m ρ _ => Cert.FfnIdeal.Gen.frame m ρ

theorem frame_ideal_pre : Cert.quiescent_FfnIdeal_pre_finite := fun m ρ _ => Cert.FfnIdeal.Gen.frame m ρ

theorem frame_ref : Cert.quiescent_FfnRefIdeal := fun m g _ =>
  (θ_run Cert.FfnRefIdeal.defs _ _).mono
    (fun r h => ⟨fun c => (h c).2.2.2.2.2.2.2.2, sem_eq_zero_of_no_sems (by decide) r.2⟩)
    (Cert.FfnRefIdeal.Value.run m g)

theorem frame_ref_pre : Cert.quiescent_FfnRefIdeal_pre_finite := fun m g _ => frame_ref m g trivial

/-- Under the precondition the kernel's arguments are arrays of reals. -/
theorem reads (m : (ℓ : Loc Cert.FfnIdeal.nD Cert.FfnIdeal.τ Cert.FfnIdeal.sig) → Buf (Elt Ideal) ℓ)
    (hpre : Cert.Pre_FfnIdeal_finite m) (c : Dev Cert.FfnIdeal.nD) :
    ∃ X T W1 W2 G3 G4, Cert.FfnIdeal.Final.Reads m c X T W1 W2 G3 G4 := by
  obtain ⟨h0, h1, h2, h3, h4, h5⟩ := hpre c
  obtain ⟨X, hx⟩ := matrix_real _ _ _ h0
  obtain ⟨T, ht⟩ := matrix_real _ _ _ h1
  obtain ⟨W1, h1'⟩ := matrix_real _ _ _ h2
  obtain ⟨W2, h2'⟩ := matrix_real _ _ _ h3
  obtain ⟨G3, h3'⟩ := row_real _ _ _ h4
  obtain ⟨G4, h4'⟩ := row_real _ _ _ h5
  exact ⟨X, T, W1, W2, G3, G4, hx, ht, h1', h2', h3', h4'⟩

set_option maxHeartbeats 1600000 in
open Cert.FfnIdeal.Final Cert.FfnRefIdeal.Read in
theorem algebraic : Cert.algebraic_FfnIdeal_FfnRefIdeal_pre_finite := by
  pair_intro
  · run_from Cert.FfnIdeal.Gen.run_main m g
  · refine (θ_run Cert.FfnRefIdeal.defs _ _).mono (fun r h c => ?_) (Cert.FfnRefIdeal.Value.run m' g')
    obtain ⟨X, T, W1, W2, G3, G4, H⟩ := reads m hpre c
    obtain ⟨e0, e1, e2, e3, e4, e5⟩ := hagree c
    obtain ⟨q0, q1, q2, q3, q4, q5, q6, q7, hargs⟩ := h c
    have hx := fun r k => (congrFun e0 (ix2 r k)).trans (H.x r k)
    have ht := fun r k => (congrFun e1 (ix2 r k)).trans (H.t r k)
    have h1 := fun r k => (congrFun e2 (ix2 r k)).trans (H.w1 r k)
    have h2 := fun r k => (congrFun e3 (ix2 r k)).trans (H.w2 r k)
    have h3 := fun r k => (congrFun e4 (ix2 r k)).trans (H.g3 r k)
    have h4 := fun r k => (congrFun e5 (ix2 r k)).trans (H.g4 r k)
    refine ⟨?_, ?_, ?_, ?_, ?_, ?_, ?_, ?_, hargs⟩
    · rw [final6 H]
      exact (q0.trans (val_main_v136_eq _)).trans (funext (forall_ix2 fun r k =>
        Cert.FfnRefIdeal.Row.v114_real hx ht h1 h2 h3 h4 r k))
    · rw [final7 H]
      exact (q1.trans (val_main_v137_eq _)).trans (funext (forall_ix2 fun r k =>
        Cert.FfnRefIdeal.Row.v117_real hx ht h1 h2 h3 h4 r k))
    · rw [final8 H]
      exact (q2.trans (val_main_v138_eq _)).trans (funext (forall_ix2 fun r k =>
        Cert.FfnRefIdeal.Row.v77_real hx ht h1 h2 h3 h4 r k))
    · rw [final9 H]
      exact (q3.trans (val_main_v139_eq _)).trans (funext (forall_ix2 fun r k =>
        Cert.FfnRefIdeal.Row.v81_real hx ht h1 h2 h3 h4 r k))
    · rw [final10 H]
      exact (q4.trans (val_main_v102_eq _)).trans (funext (forall_ix2 fun r k =>
        Cert.FfnRefIdeal.Row.v102_real hx ht h1 h2 h3 h4 r k))
    · rw [final11 H]
      exact (q5.trans (val_main_v135_eq _)).trans (funext (forall_ix2 fun r k =>
        Cert.FfnRefIdeal.Row.v135_real hx ht h1 h2 h3 h4 r k))
    · rw [final12 H]
      exact (q6.trans (val_main_v85_eq _)).trans (funext (forall_ix2 fun r k =>
        Cert.FfnRefIdeal.Row.v85_real hx ht h1 h2 h3 h4 r k))
    · rw [final13 H]
      exact (q7.trans (val_main_v61_eq _)).trans (funext (forall_ix2 fun r k =>
        Cert.FfnRefIdeal.Row.v61_real hx ht h1 h2 h3 h4 r k))

end Cert.Proof.Ffn

end
-- ==== Proof.AttnBody.lean ====
/- What one grid point of the attention call computes, as functions of what its buffers hold: a pair of heads is one
   computation, applied eight times. -/
module

public import proofs.«01_k».proof.Proof.Gen.AttnIdeal.Skeleton
public import Idealize.ShloMosaic.Lib.Pipeline.FrameBody
public import Idealize.ShloMosaic.Lib.VecWindow
public import Idealize.ShloMosaic.Lib.Pointwise

@[expose] public section

set_option maxRecDepth 16384

noncomputable section

namespace Cert.AttnIdeal.Body

open Cert.AttnIdeal Cert.AttnIdeal.Gen
open Idealize.ShloMosaic Idealize.ShloMosaic.TcCoe Idealize.ShloMosaic.Tactic

variable {F : FTy → Type} [FloatOps F] [Named F]

/-! ## The band of keys (or values) of one group of heads, laid out for a pair of heads -/

/-- A whole block, as the body loads it. -/
def blk (x : Vec F S128x256 .bf16) : FVec F S128x256 .bf16 :=
  shapeCast S128x256 (View.ld x (Rect.unit (s := S128x256) ![0, 0] S128x256.size inb_S128x256_S128x256_0_0)) shapeCasts_S128x256_S128x256

/-- The previous and the current block's columns of groups 0 and 1. -/
def band0 (a b : Vec F S128x256 .bf16) : FVec F S256x128 .f32 :=
  extf .f32 (concatenate S256x128 0
    [⟨S128x128, extractStridedSlice S128x128 ![0, 0] (blk a) slices_S128x256_o0_0_S128x128⟩,
     ⟨S128x128, extractStridedSlice S128x128 ![0, 0] (blk b) slices_S128x256_o0_0_S128x128⟩]
    concatenates_S128x128_S128x128_S256x128_d0) bitsLt_bf16_f32

/-- The same of groups 2 and 3. -/
def band1 (a b : Vec F S128x256 .bf16) : FVec F S256x128 .f32 :=
  extf .f32 (concatenate S256x128 0
    [⟨S128x128, extractStridedSlice S128x128 ![0, 128] (blk a) slices_S128x256_o0_128_S128x128⟩,
     ⟨S128x128, extractStridedSlice S128x128 ![0, 128] (blk b) slices_S128x256_o0_128_S128x128⟩]
    concatenates_S128x128_S128x128_S256x128_d0) bitsLt_bf16_f32

/-- The first 64 lanes. -/
def low : IVec S256x128 1 := cmpi .slt (iota .tc S256x128 32 [1] iota_S256x128_d1_w32) (broadcast S256x128 64#32)

def zeros256 : FVec F S256x128 .f32 := broadcast S256x128 (Scalar.ofBits .f32 0x00000000#32)

/-- One group's band twice: in the first 64 lanes for the even head, in the last 64 for the odd one; here the group
    sits in the first 64 lanes. -/
def layFirst (x : FVec F S256x128 .f32) : FVec F S512x128 .bf16 :=
  truncf .bf16 (concatenate S512x128 0 [⟨S256x128, select low x zeros256⟩,
    ⟨S256x128, select low zeros256 (dynamicRotate 1 64#32 none x rotates_S256x128_d1)⟩]
    concatenates_S256x128_S256x128_S512x128_d0) bitsLt_bf16_f32

/-- The same where the group sits in the last 64 lanes. -/
def layLast (x : FVec F S256x128 .f32) : FVec F S512x128 .bf16 :=
  truncf .bf16 (concatenate S512x128 0 [⟨S256x128, select low (dynamicRotate 1 64#32 none x rotates_S256x128_d1) zeros256⟩,
    ⟨S256x128, select low zeros256 x⟩]
    concatenates_S256x128_S256x128_S512x128_d0) bitsLt_bf16_f32

/-- The layout of group `g`. -/
def lay (a b : Vec F S128x256 .bf16) : Fin 4 → FVec F S512x128 .bf16 :=
  ![layFirst (band0 a b), layLast (band0 a b), layFirst (band1 a b), layLast (band1 a b)]

/-! ## One head of a pair: its half of the scores -/

section Head
variable (s dp : FVec F S128x256 .f32) (k : F .f32)

def headMax : FVec F S128x1 .f32 :=
  maximumf (shapeCast S128x1 (multiReduction .maximumf [1] S128 s 0xFF800000#32 reduces_S128x256_S128 (.inl rfl) rfl) shapeCasts_S128_S128x1)
    (broadcast S128x1 k)

def headExp : FVec F S128x256 .f32 := exp (subf s (broadcastTo S128x256 (headMax s k) broadcasts_S128x1_S128x256))

def headSinkExp : FVec F S128x1 .f32 := exp (subf (broadcast S128x1 k) (headMax s k))

def headInv : FVec F S128x1 .f32 :=
  divf (broadcast S128x1 (Scalar.ofBits .f32 0x3F800000#32))
    (addf (shapeCast S128x1 (multiReduction .add [1] S128 (headExp s k) 0x00000000#32 reduces_S128x256_S128 (.inl rfl) rfl)
      shapeCasts_S128_S128x1) (headSinkExp s k))

/-- The probabilities of the band's keys. -/
def headP : FVec F S128x256 .f32 := mulf (headExp s k) (broadcastTo S128x256 (headInv s k) broadcasts_S128x1_S128x256)

/-- The probability of the sink. -/
def headSink : FVec F S128x1 .f32 := mulf (headSinkExp s k) (headInv s k)

def headDelta : FVec F S128x1 .f32 :=
  shapeCast S128x1 (multiReduction .add [1] S128 (mulf (headP s k) dp) 0x00000000#32 reduces_S128x256_S128 (.inl rfl) rfl)
    shapeCasts_S128_S128x1

/-- The gradient at the scores. -/
def headDs : FVec F S128x256 .f32 :=
  mulf (headP s k) (subf dp (broadcastTo S128x256 (headDelta s dp k) broadcasts_S128x1_S128x256))

/-- The block's share of the gradient at the sink. -/
def headDk : FVec F S1x1 .f32 :=
  subf (broadcast S1x1 (Scalar.ofBits .f32 0x00000000#32))
    (shapeCast S1x1 (multiReduction .add [0] S1 (mulf (headSink s k) (headDelta s dp k)) 0x00000000#32 reduces_S128x1_S1 (.inl rfl) rfl)
      shapeCasts_S1_S1x1)

end Head

/-- A number placed at lane `n`. -/
def laneAt (n : BitVec 32) (x : FVec F S1x1 .f32) : FVec F S1x128 .f32 :=
  select (cmpi .eq (iota .tc S1x128 32 [1] iota_S1x128_d1_w32) (broadcast S1x128 n))
    (broadcastTo S1x128 (shapeCast S1x1 x shapeCasts_S1x1_S1x1) broadcasts_S1x1_S1x128)
    (broadcast S1x128 (Scalar.ofBits .f32 0x00000000#32))

def left (s : FVec F S128x512 .f32) : FVec F S128x256 .f32 := extractStridedSlice S128x256 ![0, 0] s slices_S128x512_o0_0_S128x256
def right (s : FVec F S128x512 .f32) : FVec F S128x256 .f32 := extractStridedSlice S128x256 ![0, 256] s slices_S128x512_o0_256_S128x256

/-! ## A pair of heads -/

section Pair
variable (mask : IVec S128x512 1) (q d : FVec F S128x128 .bf16) (kk vv : FVec F S512x128 .bf16) (k0 k1 : F .f32)

def scores : FVec F S128x512 .f32 :=
  select mask (matmul dot_S128x128_S512x128_S128x512_1_1_0_0_n_n none q kk (constant S128x512 .f32 0x00000000#32))
    (broadcast S128x512 (Named.named κ "mask" 0xF149F2CA#32))

def back : FVec F S128x512 .f32 :=
  matmul dot_S128x128_S512x128_S128x512_1_1_0_0_n_n none d vv (constant S128x512 .f32 0x00000000#32)

def pairDs : FVec F S128x512 .bf16 :=
  truncf .bf16 (concatenate S128x512 1
    [⟨S128x256, headDs (left (scores mask q kk)) (left (back d vv)) k0⟩,
     ⟨S128x256, headDs (right (scores mask q kk)) (right (back d vv)) k1⟩] concatenates_S128x256_S128x256_S128x512_d1) bitsLt_bf16_f32

def pairP : FVec F S128x512 .bf16 :=
  truncf .bf16 (concatenate S128x512 1
    [⟨S128x256, headP (left (scores mask q kk)) k0⟩, ⟨S128x256, headP (right (scores mask q kk)) k1⟩]
    concatenates_S128x256_S128x256_S128x512_d1) bitsLt_bf16_f32

/-- The rotation's transpose. -/
def unrotate (x c s1 s2 : FVec F S128x128 .f32) : FVec F S128x128 .f32 :=
  addf (addf (mulf x c) (dynamicRotate 1 8#32 none (mulf x s1) rotates_S128x128_d1))
    (dynamicRotate 1 120#32 none (mulf x s2) rotates_S128x128_d1)

def pairDq (c s1 s2 : FVec F S128x128 .f32) : FVec F S128x128 .f32 :=
  mulf (unrotate (matmul dot_S128x512_S512x128_S128x128_1_0_0_1_n_n none (pairDs mask q d kk vv k0 k1) kk
    (constant S128x128 .f32 0x00000000#32)) c s1 s2) (broadcast S128x128 (Scalar.ofBits .f32 0x3E000000#32))

def pairDk : FVec F S128x512 .f32 :=
  matmul dot_S128x128_S128x512_S128x512_0_0_1_1_n_n none q (pairDs mask q d kk vv k0 k1) (constant S128x512 .f32 0x00000000#32)

def pairDv : FVec F S128x512 .f32 :=
  matmul dot_S128x128_S128x512_S128x512_0_0_1_1_n_n none d (pairP mask q kk k0 k1) (constant S128x512 .f32 0x00000000#32)

end Pair

/-- The two heads' halves of two pairs' gradients, summed: one group's rows. -/
def fold (a b : FVec F S128x512 .f32) : FVec F S64x256 .f32 :=
  addf (extractStridedSlice S64x256 ![0, 0] (addf a b) slices_S128x512_o0_0_S64x256)
    (extractStridedSlice S64x256 ![64, 256] (addf a b) slices_S128x512_o64_256_S64x256)

/-- The four groups' rows side by side, tokens down. -/
def folds (a b c d : FVec F S64x256 .f32) : FVec F S256x256 .f32 :=
  transpose S256x256 [1, 0] (concatenate S256x256 0 [⟨S64x256, a⟩, ⟨S64x256, b⟩, ⟨S64x256, c⟩, ⟨S64x256, d⟩]
    concatenates_S64x256_S64x256_S64x256_S64x256_S256x256_d0) transposes_S256x256_p1_0_S256x256

/-! ## A grid point's blocks -/

/-- The 128 columns of pair `p`. -/
def cols (x : Vec F S128x1024 .bf16) (p : Fin 8) : FVec F S128x128 .bf16 :=
  shapeCast S128x128 (View.ld x (Rect.unit (s := S128x1024) ![0, 128 * p.val] S128x128.size (by
    intro a; have := p.isLt; fin_cases a <;> simp; omega))) shapeCasts_S128x128_S128x128

/-- A whole table, as the body loads it. -/
def tab (x : Vec F S128x128 .f32) : FVec F S128x128 .f32 :=
  shapeCast S128x128 (View.ld x (Rect.unit (s := S128x128) ![0, 0] S128x128.size inb_S128x128_S128x128_0_0)) shapeCasts_S128x128_S128x128

section Point
variable (i : grid0.Coords) (x0 : Vec F S16 .f32) (x1 : Vec F S128x1024 .bf16) (x2 x3 x4 x5 : Vec F S128x256 .bf16)
  (x6 : Vec F S128x1024 .bf16) (x7 x8 x9 : Vec F S128x128 .f32)

def msk : IVec S128x512 1 := k0_pay9 (BitVec.ofNat 32 (i 0).val)

def grp (p : Fin 8) : Fin 4 := ⟨p.val / 2, by omega⟩

/-- The sink of head `h`. -/
def sinkOf (h : Fin 16) : F .f32 :=
  View.ld x0 (Rect.unit (s := S16) ![h.val] S1.size (by
    intro a; fin_cases a; show h.val + 1 ≤ 16; omega)) (Shape.Idx.first (show 0 < S1.numel by decide))

def ptDq (p : Fin 8) : FVec F S128x128 .f32 :=
  pairDq (msk i) (cols x1 p) (cols x6 p) (lay x2 x3 (grp p)) (lay x4 x5 (grp p)) (sinkOf x0 ⟨2 * p.val, by omega⟩)
    (sinkOf x0 ⟨2 * p.val + 1, by omega⟩) (tab x7) (tab x8) (tab x9)

def ptDk (p : Fin 8) : FVec F S128x512 .f32 :=
  pairDk (msk i) (cols x1 p) (cols x6 p) (lay x2 x3 (grp p)) (lay x4 x5 (grp p)) (sinkOf x0 ⟨2 * p.val, by omega⟩)
    (sinkOf x0 ⟨2 * p.val + 1, by omega⟩)

def ptDv (p : Fin 8) : FVec F S128x512 .f32 :=
  pairDv (msk i) (cols x1 p) (cols x6 p) (lay x2 x3 (grp p)) (sinkOf x0 ⟨2 * p.val, by omega⟩)
    (sinkOf x0 ⟨2 * p.val + 1, by omega⟩)

/-- The even and the odd head's share of the gradient at the sinks. -/
def ptEven (p : Fin 8) : FVec F S1x1 .f32 :=
  headDk (left (scores (msk i) (cols x1 p) (lay x2 x3 (grp p)))) (left (back (cols x6 p) (lay x4 x5 (grp p))))
    (sinkOf x0 ⟨2 * p.val, by omega⟩)

def ptOdd (p : Fin 8) : FVec F S1x1 .f32 :=
  headDk (right (scores (msk i) (cols x1 p) (lay x2 x3 (grp p)))) (right (back (cols x6 p) (lay x4 x5 (grp p))))
    (sinkOf x0 ⟨2 * p.val + 1, by omega⟩)

/-- The gradient at the queries. -/
def dqBlk : FVec F S128x1024 .bf16 :=
  truncf .bf16 (concatenate S128x1024 1 [⟨S128x128, ptDq i x0 x1 x2 x3 x4 x5 x6 x7 x8 x9 0⟩,
    ⟨S128x128, ptDq i x0 x1 x2 x3 x4 x5 x6 x7 x8 x9 1⟩, ⟨S128x128, ptDq i x0 x1 x2 x3 x4 x5 x6 x7 x8 x9 2⟩,
    ⟨S128x128, ptDq i x0 x1 x2 x3 x4 x5 x6 x7 x8 x9 3⟩, ⟨S128x128, ptDq i x0 x1 x2 x3 x4 x5 x6 x7 x8 x9 4⟩,
    ⟨S128x128, ptDq i x0 x1 x2 x3 x4 x5 x6 x7 x8 x9 5⟩, ⟨S128x128, ptDq i x0 x1 x2 x3 x4 x5 x6 x7 x8 x9 6⟩,
    ⟨S128x128, ptDq i x0 x1 x2 x3 x4 x5 x6 x7 x8 x9 7⟩]
    concatenates_S128x128_S128x128_S128x128_S128x128_S128x128_S128x128_S128x128_S128x128_S128x1024_d1) bitsLt_bf16_f32

/-- The gradients at the band's keys and values, before the rotation. -/
def dkBand : FVec F S256x256 .f32 :=
  folds (fold (ptDk i x0 x1 x2 x3 x4 x5 x6 0) (ptDk i x0 x1 x2 x3 x4 x5 x6 1))
    (fold (ptDk i x0 x1 x2 x3 x4 x5 x6 2) (ptDk i x0 x1 x2 x3 x4 x5 x6 3))
    (fold (ptDk i x0 x1 x2 x3 x4 x5 x6 4) (ptDk i x0 x1 x2 x3 x4 x5 x6 5))
    (fold (ptDk i x0 x1 x2 x3 x4 x5 x6 6) (ptDk i x0 x1 x2 x3 x4 x5 x6 7))

def dvBand : FVec F S256x256 .f32 :=
  folds (fold (ptDv i x0 x1 x2 x3 x6 0) (ptDv i x0 x1 x2 x3 x6 1)) (fold (ptDv i x0 x1 x2 x3 x6 2) (ptDv i x0 x1 x2 x3 x6 3))
    (fold (ptDv i x0 x1 x2 x3 x6 4) (ptDv i x0 x1 x2 x3 x6 5)) (fold (ptDv i x0 x1 x2 x3 x6 6) (ptDv i x0 x1 x2 x3 x6 7))

/-- The block's share of the gradient at the sinks, head `h` at lane `h`. -/
def dsRow : ℕ → FVec F S1x128 .f32
  | 0 => broadcast S1x128 (Scalar.ofBits .f32 0x00000000#32)
  | n + 1 => if h : n < 8 then
      addf (addf (dsRow n) (laneAt (BitVec.ofNat 32 (2 * n)) (ptEven i x0 x1 x2 x3 x4 x5 x6 ⟨n, h⟩)))
        (laneAt (BitVec.ofNat 32 (2 * n + 1)) (ptOdd i x0 x1 x2 x3 x4 x5 x6 ⟨n, h⟩))
    else dsRow n

/-- The sinks' gradient, added to what is there. -/
def dsAdd (l : Vec F S1x128 .f32) : FVec F S1x128 .f32 :=
  addf (shapeCast S1x128 l shapeCasts_S1x128_S1x128) (dsRow i x0 x1 x2 x3 x4 x5 x6 8)

def dsBlk (xd : Vec F S1x128 .f32) : FVec F S1x128 .f32 :=
  dsAdd i x0 x1 x2 x3 x4 x5 x6 (View.ld xd (Rect.unit (s := S1x128) ![0, 0] S1x128.size inb_S1x128_S1x128_0_0))

end Point

/-! ## What a point writes of the previous block, and what it keeps of its own -/

def upper (x : FVec F S256x256 .f32) : FVec F S128x256 .f32 := extractStridedSlice S128x256 ![0, 0] x slices_S256x256_o0_0_S128x256

def keep (x : FVec F S256x256 .f32) : FVec F S128x256 .f32 :=
  shapeCast S128x256 (extractStridedSlice S128x256 ![128, 0] x slices_S256x256_o128_0_S128x256) shapeCasts_S128x256_S128x256

def ldLeft (x : Vec F S128x256 .f32) : Vec F S128x128 .f32 :=
  View.ld x (Rect.unit (s := S128x256) ![0, 0] S128x128.size inb_S128x256_S128x128_0_0)

def ldRight (x : Vec F S128x256 .f32) : Vec F S128x128 .f32 :=
  View.ld x (Rect.unit (s := S128x256) ![0, 128] S128x128.size inb_S128x256_S128x128_0_128)

/-- Two halves of a block, as two stores leave them. -/
def halves (a b : Vec F S128x128 .bf16) : Vec F S128x256 .bf16 :=
  View.canon [⟨Rect.unit (s := S128x256) ![0, 128] S128x128.size inb_S128x256_S128x128_0_128, b⟩,
    ⟨Rect.unit (s := S128x256) ![0, 0] S128x128.size inb_S128x256_S128x128_0_0, a⟩]

/-- The gradient at the previous block's keys: what was kept, in two halves, and the present band's share, rotated
    back. -/
def dkOf (l r : Vec F S128x128 .f32) (u : Vec F S128x256 .f32) (x10 x11 x12 : Vec F S128x128 .f32) : Vec F S128x256 .bf16 :=
  halves
    (truncf .bf16 (unrotate (addf l (extractStridedSlice S128x128 ![0, 0] u slices_S128x256_o0_0_S128x128))
      (tab x10) (tab x11) (tab x12)) bitsLt_bf16_f32)
    (truncf .bf16 (unrotate (addf r (extractStridedSlice S128x128 ![0, 128] u slices_S128x256_o0_128_S128x128))
      (tab x10) (tab x11) (tab x12)) bitsLt_bf16_f32)

/-- The gradient at the previous block's values. -/
def dvOf (l r : Vec F S128x128 .f32) (u : Vec F S128x256 .f32) : Vec F S128x256 .bf16 :=
  halves (truncf .bf16 (addf l (extractStridedSlice S128x128 ![0, 0] u slices_S128x256_o0_0_S128x128)) bitsLt_bf16_f32)
    (truncf .bf16 (addf r (extractStridedSlice S128x128 ![0, 128] u slices_S128x256_o0_128_S128x128)) bitsLt_bf16_f32)

def dkBlk (xk u : Vec F S128x256 .f32) (x10 x11 x12 : Vec F S128x128 .f32) : Vec F S128x256 .bf16 :=
  dkOf (ldLeft xk) (ldRight xk) u x10 x11 x12

def dvBlk (xv u : Vec F S128x256 .f32) : Vec F S128x256 .bf16 := dvOf (ldLeft xv) (ldRight xv) u

def zeroBlk : FVec F S128x256 .f32 := broadcast S128x256 (Scalar.ofBits .f32 0x00000000#32)

def zeroRow : FVec F S1x128 .f32 := broadcast S1x128 (Scalar.ofBits .f32 0x00000000#32)

def zeroKeep : FVec F S128x256 .f32 := shapeCast S128x256 zeroBlk shapeCasts_S128x256_S128x256

/-! ## Reading what the stores left -/

/-- Two stores that fill a block's halves leave `halves`. -/
theorem read_halves {κ : Kind} {sp : Space} (v : View sig κ sp S128x256 .bf16) (f : v.ty.Contents (Elt F)) (a b : Vec F S128x128 .bf16) :
    v.read (Elt F) (v.writes (Elt F) f [⟨Rect.unit (s := S128x256) ![0, 128] S128x128.size inb_S128x256_S128x128_0_128, b⟩,
      ⟨Rect.unit (s := S128x256) ![0, 0] S128x128.size inb_S128x256_S128x128_0_0, a⟩]) = halves a b := by
  refine View.read_writes_eq_canon v f _ fun y => ?_
  have h0 := (y 0).isLt
  have h1 := (y 1).isLt
  change (y 0).val < 128 at h0
  change (y 1).val < 256 at h1
  rcases Nat.lt_or_ge (y 1).val 128 with h | h
  · have hm : y ∈ (Rect.unit (s := S128x256) ![0, 0] S128x128.size inb_S128x256_S128x128_0_0).set := by
      rw [Rect.mem_set_unit]
      intro a
      fin_cases a
      · exact ⟨Nat.zero_le _, h0⟩
      · exact ⟨Nat.zero_le _, h⟩
    exact ⟨_, .tail _ (.head _), hm⟩
  · have hm : y ∈ (Rect.unit (s := S128x256) ![0, 128] S128x128.size inb_S128x256_S128x128_0_128).set := by
      rw [Rect.mem_set_unit]
      intro a
      fin_cases a
      · exact ⟨Nat.zero_le _, h0⟩
      · exact ⟨h, h1⟩
    exact ⟨_, .head _, hm⟩

/-- A load after a store of the whole reads the payload. -/
theorem load_stored {κ : Kind} {sp : Space} {s : Shape} {e : EltTy} (v : View sig κ sp s e) {off : Fin s.rank → ℕ}
    (inb : ∀ a, off a + s.size a ≤ s.size a) (w : s.Idx → Elt F e) (r : Rect s) :
    v.readCov (Val := Elt F) [⟨Rect.unit off s.size inb, w⟩] r = View.ld w r :=
  congrArg (fun x => View.ld x r) (View.read_writes_full v _ inb w [])

end Cert.AttnIdeal.Body

end
-- ==== Proof.AttnRun.lean ====
/- The three runs of the attention body: the first grid point, the points between, and the last. -/
module

public import proofs.«01_k».proof.Proof.Gen.AttnIdeal.Launch
public import proofs.«01_k».proof.Proof.Gen.AttnIdeal.Skeleton
public import proofs.«01_k».proof.Proof.Gen.AttnIdeal.Points
public import proofs.«01_k».proof.Proof.AttnBody
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The thirteen arrays a point reads, in its buffers. -/
def heldIn (c : Dev nD) (arg1 : Memref sig .tc .smem S16 .f32) (arg2 : Memref sig .tc .vmem S128x1024 .bf16) (arg3 : Memref sig .tc .vmem S128x256 .bf16) (arg4 : Memref sig .tc .vmem S128x256 .bf16) (arg5 : Memref sig .tc .vmem S128x256 .bf16) (arg6 : Memref sig .tc .vmem S128x256 .bf16) (arg7 : Memref sig .tc .vmem S128x1024 .bf16) (arg8 : Memref sig .tc .vmem S128x128 .f32) (arg9 : Memref sig .tc .vmem S128x128 .f32) (arg10 : Memref sig .tc .vmem S128x128 .f32) (arg11 : Memref sig .tc .vmem S128x128 .f32) (arg12 : Memref sig .tc .vmem S128x128 .f32) (arg13 : Memref sig .tc .vmem S128x128 .f32)
    (x0 : Vec F S16 .f32) (x1 : Vec F S128x1024 .bf16) (x2 : Vec F S128x256 .bf16) (x3 : Vec F S128x256 .bf16) (x4 : Vec F S128x256 .bf16) (x5 : Vec F S128x256 .bf16) (x6 : Vec F S128x1024 .bf16) (x7 : Vec F S128x128 .f32) (x8 : Vec F S128x128 .f32) (x9 : Vec F S128x128 .f32) (x10 : Vec F S128x128 .f32) (x11 : Vec F S128x128 .f32) (x12 : Vec F S128x128 .f32) : sProp 𝕄 :=
  iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ owns (c : Thread nD τ) arg8 fullShare x7
    ∗ owns (c : Thread nD τ) arg9 fullShare x8
    ∗ owns (c : Thread nD τ) arg10 fullShare x9
    ∗ owns (c : Thread nD τ) arg11 fullShare x10
    ∗ owns (c : Thread nD τ) arg12 fullShare x11
    ∗ owns (c : Thread nD τ) arg13 fullShare x12)

variable (c : Dev nD) (i : grid0.Coords)
  (arg1 : Memref sig .tc .smem S16 .f32) (harg1 : arg1.IsWhole)
  (arg2 : Memref sig .tc .vmem S128x1024 .bf16) (harg2 : arg2.IsWhole)
  (arg3 : Memref sig .tc .vmem S128x256 .bf16) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x256 .bf16) (harg6 : arg6.IsWhole)
  (arg7 : Memref sig .tc .vmem S128x1024 .bf16) (harg7 : arg7.IsWhole)
  (arg8 : Memref sig .tc .vmem S128x128 .f32) (harg8 : arg8.IsWhole)
  (arg9 : Memref sig .tc .vmem S128x128 .f32) (harg9 : arg9.IsWhole)
  (arg10 : Memref sig .tc .vmem S128x128 .f32) (harg10 : arg10.IsWhole)
  (arg11 : Memref sig .tc .vmem S128x128 .f32) (harg11 : arg11.IsWhole)
  (arg12 : Memref sig .tc .vmem S128x128 .f32) (harg12 : arg12.IsWhole)
  (arg13 : Memref sig .tc .vmem S128x128 .f32) (harg13 : arg13.IsWhole)
  (arg14 : Memref sig .tc .vmem S128x1024 .bf16) (harg14 : arg14.IsWhole)
  (arg15 : Memref sig .tc .vmem S128x256 .bf16) (harg15 : arg15.IsWhole)
  (arg16 : Memref sig .tc .vmem S128x256 .bf16) (harg16 : arg16.IsWhole)
  (arg17 : Memref sig .tc .vmem S1x128 .f32) (harg17 : arg17.IsWhole)
  (arg18 : Memref sig .tc .vmem S128x256 .f32) (harg18 : arg18.IsWhole)
  (arg19 : Memref sig .tc .vmem S128x256 .f32) (harg19 : arg19.IsWhole)

set_option maxHeartbeats 4000000 in
/-- The first point: the sums start at zero. -/
theorem run_first (h1 : k0_cond1 i = 1#1) (h2 : k0_cond2 i = 1#1) (h3 : ¬ k0_cond3 i = 1#1)
    (x0 : Vec F S16 .f32) (x1 : Vec F S128x1024 .bf16) (x2 : Vec F S128x256 .bf16) (x3 : Vec F S128x256 .bf16) (x4 : Vec F S128x256 .bf16) (x5 : Vec F S128x256 .bf16) (x6 : Vec F S128x1024 .bf16) (x7 : Vec F S128x128 .f32) (x8 : Vec F S128x128 .f32) (x9 : Vec F S128x128 .f32) (x10 : Vec F S128x128 .f32) (x11 : Vec F S128x128 .f32) (x12 : Vec F S128x128 .f32)  (E : Set ℕ) (K : PUnit → sProp 𝕄) :
    iprop(heldIn c arg1 arg2 arg3 arg4 arg5 arg6 arg7 arg8 arg9 arg10 arg11 arg12 arg13 x0 x1 x2 x3 x4 x5 x6 x7 x8 x9 x10 x11 x12
        ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(heldIn c arg1 arg2 arg3 arg4 arg5 arg6 arg7 arg8 arg9 arg10 arg11 arg12 arg13 x0 x1 x2 x3 x4 x5 x6 x7 x8 x9 x10 x11 x12
            ∗ owns (c : Thread nD τ) arg14 fullShare (dqBlk i x0 x1 x2 x3 x4 x5 x6 x7 x8 x9) ∗ owns (c : Thread nD τ) arg15 fullShare (dkBlk zeroKeep (upper (dkBand i x0 x1 x2 x3 x4 x5 x6)) x10 x11 x12) ∗ owns (c : Thread nD τ) arg16 fullShare (dvBlk zeroKeep (upper (dvBand i x0 x1 x2 x3 x6))) ∗ owns (c : Thread nD τ) arg17 fullShare (dsBlk i x0 x1 x2 x3 x4 x5 x6 zeroRow) ∗ owns (c : Thread nD τ) arg18 fullShare (keep (dkBand i x0 x1 x2 x3 x4 x5 x6)) ∗ owns (c : Thread nD τ) arg19 fullShare (keep (dvBand i x0 x1 x2 x3 x6))) -∗ K ⟨⟩))
      ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold heldIn owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf1 hf2 hf3 hf4 hf5 hf6 hf7 hf8 hf9 hf10 hf11 hf12 hf13
  sl_exec (disch := first | sl_exact h1 | sl_exact h2 | sl_exact h3)
  sl_step
  iapply Hk
  isplitl [H1 H2 H3 H4 H5 H6 H7 H8 H9 H10 H11 H12 H13]
  · isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; · ipureintro; rfl
      iexact H12
    · iexists _; isplitr; · ipureintro; rfl
      iexact H13
  isplitl [H14]
  · iexists _; isplitr; swap; · iexact H14
    ipureintro; exact View.read_writes_full _ _ _ _ _
  isplitl [H15]
  · iexists _; isplitr; swap; · iexact H15
    ipureintro; exact (read_halves _ _ _ _).trans (congrArg₂ (fun l r => dkOf l r (upper (dkBand i (arg1.view.read (Elt F) f1) (arg2.view.read (Elt F) f2) (arg3.view.read (Elt F) f3) (arg4.view.read (Elt F) f4) (arg5.view.read (Elt F) f5) (arg6.view.read (Elt F) f6) (arg7.view.read (Elt F) f7))) (arg11.view.read (Elt F) f11) (arg12.view.read (Elt F) f12) (arg13.view.read (Elt F) f13)) (load_stored _ _ _ _) (load_stored _ _ _ _))
  isplitl [H16]
  · iexists _; isplitr; swap; · iexact H16
    ipureintro; exact (read_halves _ _ _ _).trans (congrArg₂ (fun l r => dvOf l r (upper (dvBand i (arg1.view.read (Elt F) f1) (arg2.view.read (Elt F) f2) (arg3.view.read (Elt F) f3) (arg4.view.read (Elt F) f4) (arg7.view.read (Elt F) f7)))) (load_stored _ _ _ _) (load_stored _ _ _ _))
  isplitl [H17]
  · iexists _; isplitr; swap; · iexact H17
    ipureintro; exact (View.read_writes_full _ _ _ _ _).trans (congrArg (dsAdd i (arg1.view.read (Elt F) f1) (arg2.view.read (Elt F) f2) (arg3.view.read (Elt F) f3) (arg4.view.read (Elt F) f4) (arg5.view.read (Elt F) f5) (arg6.view.read (Elt F) f6) (arg7.view.read (Elt F) f7)) (load_stored _ _ _ _))
  isplitl [H18]
  · iexists _; isplitr; swap; · iexact H18
    ipureintro; exact View.read_writes_full _ _ _ _ _
  · iexists _; isplitr; swap; · iexact H19
    ipureintro; exact View.read_writes_full _ _ _ _ _

set_option maxHeartbeats 4000000 in
/-- A point between: everything is written. -/
theorem run_mid (h1 : ¬ k0_cond1 i = 1#1) (h2 : k0_cond2 i = 1#1) (h3 : ¬ k0_cond3 i = 1#1)
    (x0 : Vec F S16 .f32) (x1 : Vec F S128x1024 .bf16) (x2 : Vec F S128x256 .bf16) (x3 : Vec F S128x256 .bf16) (x4 : Vec F S128x256 .bf16) (x5 : Vec F S128x256 .bf16) (x6 : Vec F S128x1024 .bf16) (x7 : Vec F S128x128 .f32) (x8 : Vec F S128x128 .f32) (x9 : Vec F S128x128 .f32) (x10 : Vec F S128x128 .f32) (x11 : Vec F S128x128 .f32) (x12 : Vec F S128x128 .f32) (xd : Vec F S1x128 .f32) (xk xv : Vec F S128x256 .f32) (E : Set ℕ) (K : PUnit → sProp 𝕄) :
    iprop(heldIn c arg1 arg2 arg3 arg4 arg5 arg6 arg7 arg8 arg9 arg10 arg11 arg12 arg13 x0 x1 x2 x3 x4 x5 x6 x7 x8 x9 x10 x11 x12
        ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xd ∗ owns (c : Thread nD τ) arg18 fullShare xk ∗ owns (c : Thread nD τ) arg19 fullShare xv
        ∗ (iprop(heldIn c arg1 arg2 arg3 arg4 arg5 arg6 arg7 arg8 arg9 arg10 arg11 arg12 arg13 x0 x1 x2 x3 x4 x5 x6 x7 x8 x9 x10 x11 x12
            ∗ owns (c : Thread nD τ) arg14 fullShare (dqBlk i x0 x1 x2 x3 x4 x5 x6 x7 x8 x9) ∗ owns (c : Thread nD τ) arg15 fullShare (dkBlk xk (upper (dkBand i x0 x1 x2 x3 x4 x5 x6)) x10 x11 x12) ∗ owns (c : Thread nD τ) arg16 fullShare (dvBlk xv (upper (dvBand i x0 x1 x2 x3 x6))) ∗ owns (c : Thread nD τ) arg17 fullShare (dsBlk i x0 x1 x2 x3 x4 x5 x6 xd) ∗ owns (c : Thread nD τ) arg18 fullShare (keep (dkBand i x0 x1 x2 x3 x4 x5 x6)) ∗ owns (c : Thread nD τ) arg19 fullShare (keep (dvBand i x0 x1 x2 x3 x6))) -∗ K ⟨⟩))
      ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold heldIn owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%d14, %f14, -, H14⟩, ⟨%d15, %f15, -, H15⟩, ⟨%d16, %f16, -, H16⟩, ⟨%f17, %hf17, H17⟩, ⟨%f18, %hf18, H18⟩, ⟨%f19, %hf19, H19⟩, Hk⟩
  subst hf1 hf2 hf3 hf4 hf5 hf6 hf7 hf8 hf9 hf10 hf11 hf12 hf13 hf17 hf18 hf19
  sl_exec (disch := first | sl_exact h1 | sl_exact h2 | sl_exact h3)
  sl_step
  iapply Hk
  isplitl [H1 H2 H3 H4 H5 H6 H7 H8 H9 H10 H11 H12 H13]
  · isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; · ipureintro; rfl
      iexact H12
    · iexists _; isplitr; · ipureintro; rfl
      iexact H13
  isplitl [H14]
  · iexists _; isplitr; swap; · iexact H14
    ipureintro; exact View.read_writes_full _ _ _ _ _
  isplitl [H15]
  · iexists _; isplitr; swap; · iexact H15
    ipureintro; exact read_halves _ _ _ _
  isplitl [H16]
  · iexists _; isplitr; swap; · iexact H16
    ipureintro; exact read_halves _ _ _ _
  isplitl [H17]
  · iexists _; isplitr; swap; · iexact H17
    ipureintro; exact View.read_writes_full _ _ _ _ _
  isplitl [H18]
  · iexists _; isplitr; swap; · iexact H18
    ipureintro; exact View.read_writes_full _ _ _ _ _
  · iexists _; isplitr; swap; · iexact H19
    ipureintro; exact View.read_writes_full _ _ _ _ _

set_option maxHeartbeats 4000000 in
/-- The last point: the last block's keys and values. -/
theorem run_last (h1 : ¬ k0_cond1 i = 1#1) (h2 : ¬ k0_cond2 i = 1#1) (h3 : k0_cond3 i = 1#1)
    (x0 : Vec F S16 .f32) (x1 : Vec F S128x1024 .bf16) (x2 : Vec F S128x256 .bf16) (x3 : Vec F S128x256 .bf16) (x4 : Vec F S128x256 .bf16) (x5 : Vec F S128x256 .bf16) (x6 : Vec F S128x1024 .bf16) (x7 : Vec F S128x128 .f32) (x8 : Vec F S128x128 .f32) (x9 : Vec F S128x128 .f32) (x10 : Vec F S128x128 .f32) (x11 : Vec F S128x128 .f32) (x12 : Vec F S128x128 .f32) (xq : Vec F S128x1024 .bf16) (xd : Vec F S1x128 .f32) (xk xv : Vec F S128x256 .f32) (E : Set ℕ) (K : PUnit → sProp 𝕄) :
    iprop(heldIn c arg1 arg2 arg3 arg4 arg5 arg6 arg7 arg8 arg9 arg10 arg11 arg12 arg13 x0 x1 x2 x3 x4 x5 x6 x7 x8 x9 x10 x11 x12
        ∗ owns (c : Thread nD τ) arg14 fullShare xq ∗ (∃ d, owns (c : Thread nD τ) arg15 fullShare d) ∗ (∃ d, owns (c : Thread nD τ) arg16 fullShare d) ∗ owns (c : Thread nD τ) arg17 fullShare xd ∗ owns (c : Thread nD τ) arg18 fullShare xk ∗ owns (c : Thread nD τ) arg19 fullShare xv
        ∗ (iprop(heldIn c arg1 arg2 arg3 arg4 arg5 arg6 arg7 arg8 arg9 arg10 arg11 arg12 arg13 x0 x1 x2 x3 x4 x5 x6 x7 x8 x9 x10 x11 x12
            ∗ owns (c : Thread nD τ) arg14 fullShare xq ∗ owns (c : Thread nD τ) arg15 fullShare (dkBlk xk zeroBlk x10 x11 x12) ∗ owns (c : Thread nD τ) arg16 fullShare (dvBlk xv zeroBlk) ∗ owns (c : Thread nD τ) arg17 fullShare xd ∗ owns (c : Thread nD τ) arg18 fullShare xk ∗ owns (c : Thread nD τ) arg19 fullShare xv) -∗ K ⟨⟩))
      ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold heldIn owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%f14, %hf14, H14⟩, ⟨%d15, %f15, -, H15⟩, ⟨%d16, %f16, -, H16⟩, ⟨%f17, %hf17, H17⟩, ⟨%f18, %hf18, H18⟩, ⟨%f19, %hf19, H19⟩, Hk⟩
  subst hf1 hf2 hf3 hf4 hf5 hf6 hf7 hf8 hf9 hf10 hf11 hf12 hf13 hf14 hf17 hf18 hf19
  sl_exec (disch := first | sl_exact h1 | sl_exact h2 | sl_exact h3)
  sl_step
  iapply Hk
  isplitl [H1 H2 H3 H4 H5 H6 H7 H8 H9 H10 H11 H12 H13]
  · isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; · ipureintro; rfl
      iexact H12
    · iexists _; isplitr; · ipureintro; rfl
      iexact H13
  isplitl [H14]
  · iexists _; isplitr; · ipureintro; rfl
    iexact H14
  isplitl [H15]
  · iexists _; isplitr; swap; · iexact H15
    ipureintro; exact read_halves _ _ _ _
  isplitl [H16]
  · iexists _; isplitr; swap; · iexact H16
    ipureintro; exact read_halves _ _ _ _
  isplitl [H17]
  · iexists _; isplitr; · ipureintro; rfl
    iexact H17
  isplitl [H18]
  · iexists _; isplitr; · ipureintro; rfl
    iexact H18
  · iexists _; isplitr; · ipureintro; rfl
    iexact H19

end Cert.AttnIdeal.Body

end
-- ==== Proof.AttnFrame.lean ====
/- The attention call's frame: what each grid point leaves, the body's triple at every point, and the launch. -/
module

public import proofs.«01_k».proof.Proof.Gen.AttnIdeal.Frame
public import proofs.«01_k».proof.Proof.AttnRun
public import Idealize.ShloMosaic.Lib.Pipeline.FrameBody
public import Idealize.ShloMosaic.Lib.Tactic
public import Idealize.ShloMosaic.Lib.WordCmp
public import Idealize.ShloMosaic.Lib.Claim

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## Which point is which -/

theorem first_iff : ∀ t : Fin cfg0.N, k0_cond1 (grid0.coords t) = 1#1 ↔ t.val = 0 :=
  (fun t => by
    have ht : t.val < 65 := Nat.lt_of_lt_of_eq t.isLt N_0
    have e0 : (grid0.coords t 0).val = t.val / 1 % 65 := Pipeline.Grid.coords_val t 0 (by decide) rfl
    simp only [k0_cond1, e0]
    word_cmp
   : ∀ t : Fin grid0.N, k0_cond1 (grid0.coords t) = 1#1 ↔ t.val = 0)

theorem inner_iff : ∀ t : Fin cfg0.N, k0_cond2 (grid0.coords t) = 1#1 ↔ t.val < 64 :=
  (fun t => by
    have ht : t.val < 65 := Nat.lt_of_lt_of_eq t.isLt N_0
    have e0 : (grid0.coords t 0).val = t.val / 1 % 65 := Pipeline.Grid.coords_val t 0 (by decide) rfl
    simp only [k0_cond2, e0]
    word_cmp
   : ∀ t : Fin grid0.N, k0_cond2 (grid0.coords t) = 1#1 ↔ t.val < 64)

theorem last_iff : ∀ t : Fin cfg0.N, k0_cond3 (grid0.coords t) = 1#1 ↔ t.val = 64 :=
  (fun t => by
    have ht : t.val < 65 := Nat.lt_of_lt_of_eq t.isLt N_0
    have e0 : (grid0.coords t 0).val = t.val / 1 % 65 := Pipeline.Grid.coords_val t 0 (by decide) rfl
    simp only [k0_cond3, e0]
    word_cmp
   : ∀ t : Fin grid0.N, k0_cond3 (grid0.coords t) = 1#1 ↔ t.val = 64)

/-! ## The buffers of a point -/

abbrev ms0 (t : Fin cfg0.N) : Memref sig .tc .smem S16 .f32 := win0_0.stage (cfg0.slots t 0)
abbrev ms1 (t : Fin cfg0.N) : Memref sig .tc .vmem S128x1024 .bf16 := win0_1.stage (cfg0.slots t 1)
abbrev ms2 (t : Fin cfg0.N) : Memref sig .tc .vmem S128x256 .bf16 := win0_2.stage (cfg0.slots t 2)
abbrev ms3 (t : Fin cfg0.N) : Memref sig .tc .vmem S128x256 .bf16 := win0_3.stage (cfg0.slots t 3)
abbrev ms4 (t : Fin cfg0.N) : Memref sig .tc .vmem S128x256 .bf16 := win0_4.stage (cfg0.slots t 4)
abbrev ms5 (t : Fin cfg0.N) : Memref sig .tc .vmem S128x256 .bf16 := win0_5.stage (cfg0.slots t 5)
abbrev ms6 (t : Fin cfg0.N) : Memref sig .tc .vmem S128x1024 .bf16 := win0_6.stage (cfg0.slots t 6)
abbrev ms7 (t : Fin cfg0.N) : Memref sig .tc .vmem S128x128 .f32 := win0_7.stage (cfg0.slots t 7)
abbrev ms8 (t : Fin cfg0.N) : Memref sig .tc .vmem S128x128 .f32 := win0_8.stage (cfg0.slots t 8)
abbrev ms9 (t : Fin cfg0.N) : Memref sig .tc .vmem S128x128 .f32 := win0_9.stage (cfg0.slots t 9)
abbrev ms10 (t : Fin cfg0.N) : Memref sig .tc .vmem S128x128 .f32 := win0_10.stage (cfg0.slots t 10)
abbrev ms11 (t : Fin cfg0.N) : Memref sig .tc .vmem S128x128 .f32 := win0_11.stage (cfg0.slots t 11)
abbrev ms12 (t : Fin cfg0.N) : Memref sig .tc .vmem S128x128 .f32 := win0_12.stage (cfg0.slots t 12)
abbrev ms13 (t : Fin cfg0.N) : Memref sig .tc .vmem S128x1024 .bf16 := win0_13.stage (cfg0.slots t 13)
abbrev ms14 (t : Fin cfg0.N) : Memref sig .tc .vmem S128x256 .bf16 := win0_14.stage (cfg0.slots t 14)
abbrev ms15 (t : Fin cfg0.N) : Memref sig .tc .vmem S128x256 .bf16 := win0_15.stage (cfg0.slots t 15)
abbrev ms16 (t : Fin cfg0.N) : Memref sig .tc .vmem S1x128 .f32 := win0_16.stage (cfg0.slots t 16)
abbrev scK : Memref sig .tc .vmem S128x256 .f32 := Memref.whole cc0_scratch0
abbrev scV : Memref sig .tc .vmem S128x256 .f32 := Memref.whole cc0_scratch1

variable (m : (ℓ : Loc nD τ sig) → Buf (Elt F) ℓ) (ρ : Dev nD → PrngReg)

/-! ## What each point leaves -/

/-- The band's gradients at point `t`. -/
def bandK (c : Dev nD) (t : Fin cfg0.N) : FVec F S256x256 .f32 :=
  dkBand (grid0.coords t) (iblk m c 0 t) (iblk m c 1 t) (iblk m c 2 t) (iblk m c 3 t) (iblk m c 4 t) (iblk m c 5 t) (iblk m c 6 t)

def bandV (c : Dev nD) (t : Fin cfg0.N) : FVec F S256x256 .f32 :=
  dvBand (grid0.coords t) (iblk m c 0 t) (iblk m c 1 t) (iblk m c 2 t) (iblk m c 3 t) (iblk m c 6 t)

/-- The point before `t`. -/
abbrev prev (t : Fin cfg0.N) : Fin cfg0.N := ⟨t.val - 1, Nat.lt_of_le_of_lt (Nat.sub_le _ _) t.isLt⟩

/-- The lower half of the band at a point, which the next point finds. -/
def kept (c : Dev nD) (t : Fin cfg0.N) : FVec F S128x256 .f32 := if t.val < 64 then keep (bandK m c t) else keep (bandK m c (prev t))

def keptV (c : Dev nD) (t : Fin cfg0.N) : FVec F S128x256 .f32 := if t.val < 64 then keep (bandV m c t) else keep (bandV m c (prev t))

def dqAt (c : Dev nD) (t : Fin cfg0.N) : FVec F S128x1024 .bf16 :=
  dqBlk (grid0.coords t) (iblk m c 0 t) (iblk m c 1 t) (iblk m c 2 t) (iblk m c 3 t) (iblk m c 4 t) (iblk m c 5 t) (iblk m c 6 t) (iblk m c 7 t) (iblk m c 8 t) (iblk m c 9 t)

def leftQ (c : Dev nD) (t : Fin cfg0.N) : FVec F S128x1024 .bf16 := if t.val < 64 then dqAt m c t else dqAt m c (prev t)

def leftK (c : Dev nD) (t : Fin cfg0.N) : Vec F S128x256 .bf16 :=
  dkBlk (if t.val = 0 then zeroKeep else keep (bandK m c (prev t))) (if t.val < 64 then upper (bandK m c t) else zeroBlk)
    (iblk m c 10 t) (iblk m c 11 t) (iblk m c 12 t)

def leftV (c : Dev nD) (t : Fin cfg0.N) : Vec F S128x256 .bf16 :=
  dvBlk (if t.val = 0 then zeroKeep else keep (bandV m c (prev t))) (if t.val < 64 then upper (bandV m c t) else zeroBlk)

/-- The running sum of the gradient at the sinks. -/
def sumAt (c : Dev nD) : (n : ℕ) → n < cfg0.N → FVec F S1x128 .f32
  | 0, h => dsBlk (grid0.coords ⟨0, h⟩) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) zeroRow
  | n + 1, h => if n + 1 < 64 then dsBlk (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (sumAt c n (Nat.lt_of_succ_lt h))
      else sumAt c n (Nat.lt_of_succ_lt h)

def leftS (c : Dev nD) (t : Fin cfg0.N) : FVec F S1x128 .f32 := sumAt m c t.val t.isLt

section Cases

/-! ## The same, case by case -/

variable (c : Dev nD) (t : Fin cfg0.N)

theorem leftQ_inner (h : t.val < 64) : leftQ m c t = dqAt m c t := if_pos h
theorem leftQ_last (h : ¬ t.val < 64) : leftQ m c t = leftQ m c (prev t) := by
  have hN : t.val < 65 := lt_of_lt_of_eq t.isLt (show cfg0.N = 65 from N_0)
  rw [leftQ_inner m c (prev t) (by show t.val - 1 < 64; omega)]; exact if_neg h
theorem kept_inner (h : t.val < 64) : kept m c t = keep (bandK m c t) := if_pos h
theorem kept_last (h : ¬ t.val < 64) : kept m c t = kept m c (prev t) := by
  have hN : t.val < 65 := lt_of_lt_of_eq t.isLt (show cfg0.N = 65 from N_0)
  rw [kept_inner m c (prev t) (by show t.val - 1 < 64; omega)]; exact if_neg h
theorem keptV_inner (h : t.val < 64) : keptV m c t = keep (bandV m c t) := if_pos h
theorem keptV_last (h : ¬ t.val < 64) : keptV m c t = keptV m c (prev t) := by
  have hN : t.val < 65 := lt_of_lt_of_eq t.isLt (show cfg0.N = 65 from N_0)
  rw [keptV_inner m c (prev t) (by show t.val - 1 < 64; omega)]; exact if_neg h
theorem leftK_first (h : t.val = 0) : leftK m c t = dkBlk zeroKeep (upper (bandK m c t)) (iblk m c 10 t) (iblk m c 11 t) (iblk m c 12 t) := by
  unfold leftK; rw [if_pos h, if_pos (by omega)]
theorem leftK_mid (h : t.val ≠ 0) (h' : t.val < 64) : leftK m c t = dkBlk (keep (bandK m c (prev t))) (upper (bandK m c t)) (iblk m c 10 t) (iblk m c 11 t) (iblk m c 12 t) := by
  unfold leftK; rw [if_neg h, if_pos h']
theorem leftK_last (h : ¬ t.val < 64) : leftK m c t = dkBlk (kept m c (prev t)) zeroBlk (iblk m c 10 t) (iblk m c 11 t) (iblk m c 12 t) := by
  have hN : t.val < 65 := lt_of_lt_of_eq t.isLt (show cfg0.N = 65 from N_0)
  rw [kept_inner m c (prev t) (by show t.val - 1 < 64; omega)]
  unfold leftK; rw [if_neg (by omega), if_neg h]
theorem leftV_first (h : t.val = 0) : leftV m c t = dvBlk zeroKeep (upper (bandV m c t)) := by
  unfold leftV; rw [if_pos h, if_pos (by omega)]
theorem leftV_mid (h : t.val ≠ 0) (h' : t.val < 64) : leftV m c t = dvBlk (keep (bandV m c (prev t))) (upper (bandV m c t)) := by
  unfold leftV; rw [if_neg h, if_pos h']
theorem leftV_last (h : ¬ t.val < 64) : leftV m c t = dvBlk (keptV m c (prev t)) zeroBlk := by
  have hN : t.val < 65 := lt_of_lt_of_eq t.isLt (show cfg0.N = 65 from N_0)
  rw [keptV_inner m c (prev t) (by show t.val - 1 < 64; omega)]
  unfold leftV; rw [if_neg (by omega), if_neg h]
theorem leftS_first (h : t.val = 0) : leftS m c t = dsBlk (grid0.coords t) (iblk m c 0 t) (iblk m c 1 t) (iblk m c 2 t) (iblk m c 3 t) (iblk m c 4 t) (iblk m c 5 t) (iblk m c 6 t) zeroRow := by
  obtain ⟨n, hn⟩ := t
  cases n with
  | zero => rfl
  | succ n => exact absurd h (Nat.succ_ne_zero n)
theorem leftS_mid (h : t.val ≠ 0) (h' : t.val < 64) : leftS m c t = dsBlk (grid0.coords t) (iblk m c 0 t) (iblk m c 1 t) (iblk m c 2 t) (iblk m c 3 t) (iblk m c 4 t) (iblk m c 5 t) (iblk m c 6 t) (leftS m c (prev t)) := by
  obtain ⟨n, hn⟩ := t
  cases n with
  | zero => exact absurd rfl h
  | succ n => exact if_pos h'
theorem leftS_last (h : ¬ t.val < 64) : leftS m c t = leftS m c (prev t) := by
  obtain ⟨n, hn⟩ := t
  cases n with
  | zero => exact absurd (show 0 < 64 by decide) h
  | succ n => exact if_neg h

end Cases

/-! ## The scratch between points -/

def PhiS (c : Dev nD) : (n : ℕ) → n ≤ cfg0.N → sProp 𝕄
  | 0, _ => Pipeline.ΦA spec0 c
  | n + 1, h => iprop(owns (c : Thread nD τ) scK fullShare (kept m c ⟨n, h⟩) ∗ owns (c : Thread nD τ) scV fullShare (keptV m c ⟨n, h⟩)
      ∗ (∃ r, prngReg c r))

theorem launched (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

theorem PhiS_pos (c : Dev nD) (t : Fin cfg0.N) (h : t.val ≠ 0) :
    PhiS m c t.val (Nat.le_of_lt t.isLt) = iprop(owns (c : Thread nD τ) scK fullShare (kept m c (prev t))
      ∗ owns (c : Thread nD τ) scV fullShare (keptV m c (prev t)) ∗ (∃ r, prngReg c r)) := by
  obtain ⟨n, hn⟩ := t
  cases n with
  | zero => exact absurd rfl h
  | succ n => rfl

theorem PhiS_first (c : Dev nD) (t : Fin cfg0.N) (h : t.val = 0) :
    PhiS m c t.val (Nat.le_of_lt t.isLt) = Pipeline.ΦA spec0 c := by
  obtain ⟨n, hn⟩ := t
  cases n with
  | zero => rfl
  | succ n => exact absurd h (Nat.succ_ne_zero n)

/-- The proof data: an input's buffer keeps its block, an output's is left as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => leftQ m c t
    | ⟨14, _⟩ => leftK m c t
    | ⟨15, _⟩ => leftV m c t
    | ⟨16, _⟩ => leftS m c t
    | ⟨_ + 17, h⟩ => absurd h (Nat.not_lt.2 (Nat.le_add_left _ _))
  Φ t := PhiS m c t.val (Nat.le_of_lt_succ t.isLt)
  q w := Pipeline.shareOf spec0 w
  owed _ := 0

theorem A_eq (c : Dev nD) (w) : (dats m 0 c).A w = V m c (Pipeline.arrRef spec0 w) := by dsimp only [dats]

theorem before0 (c : Dev nD) (t : Fin cfg0.N) (d) : (dats m 0 c).before 0 t d = iblk m c 0 t :=
  before0_0_of m (dats m 0 c) (A_eq m c 0) (fun _ => by dsimp only [dats]) t d

theorem before1 (c : Dev nD) (t : Fin cfg0.N) (d) : (dats m 0 c).before 1 t d = iblk m c 1 t :=
  before0_1_of m (dats m 0 c) (A_eq m c 1) (fun _ => by dsimp only [dats]) t d

theorem before2 (c : Dev nD) (t : Fin cfg0.N) (d) : (dats m 0 c).before 2 t d = iblk m c 2 t :=
  before0_2_of m (dats m 0 c) (A_eq m c 2) (fun _ => by dsimp only [dats]) t d

theorem before3 (c : Dev nD) (t : Fin cfg0.N) (d) : (dats m 0 c).before 3 t d = iblk m c 3 t :=
  before0_3_of m (dats m 0 c) (A_eq m c 3) (fun _ => by dsimp only [dats]) t d

theorem before4 (c : Dev nD) (t : Fin cfg0.N) (d) : (dats m 0 c).before 4 t d = iblk m c 4 t :=
  before0_4_of m (dats m 0 c) (A_eq m c 4) (fun _ => by dsimp only [dats]) t d

theorem before5 (c : Dev nD) (t : Fin cfg0.N) (d) : (dats m 0 c).before 5 t d = iblk m c 5 t :=
  before0_5_of m (dats m 0 c) (A_eq m c 5) (fun _ => by dsimp only [dats]) t d

theorem before6 (c : Dev nD) (t : Fin cfg0.N) (d) : (dats m 0 c).before 6 t d = iblk m c 6 t :=
  before0_6_of m (dats m 0 c) (A_eq m c 6) (fun _ => by dsimp only [dats]) t d

theorem before7 (c : Dev nD) (t : Fin cfg0.N) (d) : (dats m 0 c).before 7 t d = iblk m c 7 t :=
  before0_7_of m (dats m 0 c) (A_eq m c 7) (fun _ => by dsimp only [dats]) t d

theorem before8 (c : Dev nD) (t : Fin cfg0.N) (d) : (dats m 0 c).before 8 t d = iblk m c 8 t :=
  before0_8_of m (dats m 0 c) (A_eq m c 8) (fun _ => by dsimp only [dats]) t d

theorem before9 (c : Dev nD) (t : Fin cfg0.N) (d) : (dats m 0 c).before 9 t d = iblk m c 9 t :=
  before0_9_of m (dats m 0 c) (A_eq m c 9) (fun _ => by dsimp only [dats]) t d

theorem before10 (c : Dev nD) (t : Fin cfg0.N) (d) : (dats m 0 c).before 10 t d = iblk m c 10 t :=
  before0_10_of m (dats m 0 c) (A_eq m c 10) (fun _ => by dsimp only [dats]) t d

theorem before11 (c : Dev nD) (t : Fin cfg0.N) (d) : (dats m 0 c).before 11 t d = iblk m c 11 t :=
  before0_11_of m (dats m 0 c) (A_eq m c 11) (fun _ => by dsimp only [dats]) t d

theorem before12 (c : Dev nD) (t : Fin cfg0.N) (d) : (dats m 0 c).before 12 t d = iblk m c 12 t :=
  before0_12_of m (dats m 0 c) (A_eq m c 12) (fun _ => by dsimp only [dats]) t d

/-- An output's buffer, not written back at the point before and written by the body there, is found as left. -/
theorem found_as_left (c : Dev nD) (w : Fin cfg0.W) (hw : (cfg0.win w).isOut = true) (t : Fin cfg0.N) (ht : t.val ≠ 0)
    (hf : (cfg0.win w).flush (prev t) = false) (hl : cfg0.idle w (cfg0.grid.coords (prev t)) = false)
    (hc : ∀ (i : cfg0.grid.Coords) a, (cfg0.win w).clip i a = none) (d) :
    (dats m 0 c).before w t d = (dats m 0 c).after w (prev t) := by
  rw [(dats m 0 c).before_of_pos w t ht ((cfg0.win w).fetch_out hw t), hf, if_neg Bool.false_ne_true]
  unfold Dat.left; rw [hl]
  show (dats m 0 c).kept w (prev t) d = _
  unfold Dat.kept
  rw [Pipeline.fill_of_clip_none w _ (hc _) d ((dats m 0 c).after w (prev t)), Window.fill_cut]

/-- Where the body writes a buffer, or the point writes it back, it is left as `after` says. -/
theorem leaves_after (c : Dev nD) (w : Fin cfg0.W) (t : Fin cfg0.N)
    (h : cfg0.idle w (cfg0.grid.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · rw [h]; cases cfg0.idle w (cfg0.grid.coords t) <;> rfl

theorem idle13 (t : Fin cfg0.N) (h : t.val < 64) : cfg0.idle 13 (cfg0.grid.coords t) = false := by
  show (!(k0_cond2 (grid0.coords t) == 1#1)) = false
  rw [(inner_iff t).mpr h]; rfl

theorem idle14 (t : Fin cfg0.N) : cfg0.idle 14 (cfg0.grid.coords t) = false := by
  have hN : t.val < 65 := lt_of_lt_of_eq t.isLt (show cfg0.N = 65 from N_0)
  show (!(k0_cond2 (grid0.coords t) == 1#1) && !(k0_cond3 (grid0.coords t) == 1#1)) = false
  by_cases h : t.val < 64
  · rw [(inner_iff t).mpr h]; rfl
  · rw [(last_iff t).mpr (by omega), Bool.and_eq_false_iff]; exact .inr rfl

theorem idle16 (t : Fin cfg0.N) (h : t.val < 64) : cfg0.idle 16 (cfg0.grid.coords t) = false := by
  show (!(k0_cond1 (grid0.coords t) == 1#1) && !(k0_cond2 (grid0.coords t) == 1#1)) = false
  rw [(inner_iff t).mpr h, Bool.and_eq_false_iff]; exact .inr rfl

theorem at_last (t : Fin cfg0.N) (h : t.val = 64) : t = ⟨64, by decide⟩ := Fin.ext h

theorem flushed13 : (cfg0.win 13).flush ⟨64, by decide⟩ = true := by decide +kernel

theorem not_flushed13 : (cfg0.win 13).flush ⟨63, by decide⟩ = false := by decide +kernel

theorem live13 (t : Fin cfg0.N) : cfg0.idle 13 (cfg0.grid.coords t) = false ∨ (cfg0.win 13).flush t = true := by
  have hN : t.val < 65 := lt_of_lt_of_eq t.isLt (show cfg0.N = 65 from N_0)
  by_cases h : t.val < 64
  · exact .inl (idle13 t h)
  · exact .inr ((congrArg (cfg0.win 13).flush (at_last t (by omega))).trans flushed13)

theorem live16 (t : Fin cfg0.N) : cfg0.idle 16 (cfg0.grid.coords t) = false ∨ (cfg0.win 16).flush t = true := by
  have hN : t.val < 65 := lt_of_lt_of_eq t.isLt (show cfg0.N = 65 from N_0)
  by_cases h : t.val < 64
  · exact .inl (idle16 t h)
  · exact .inr ((flush0_16 _).mpr (by omega))

theorem before13 (c : Dev nD) (t : Fin cfg0.N) (ht : t.val = 64) (d) : (dats m 0 c).before 13 t d = leftQ m c (prev t) := by
  have e : prev t = ⟨63, by decide⟩ := Fin.ext (by show t.val - 1 = 63; omega)
  rw [found_as_left m c 13 rfl t (by omega) ((congrArg (cfg0.win 13).flush e).trans not_flushed13)
    (idle13 _ (by show t.val - 1 < 64; omega)) (fun _ _ => rfl)]
  dsimp only [dats]

theorem before16 (c : Dev nD) (t : Fin cfg0.N) (ht : t.val ≠ 0) (d) : (dats m 0 c).before 16 t d = leftS m c (prev t) := by
  have hN : t.val < 65 := lt_of_lt_of_eq t.isLt (show cfg0.N = 65 from N_0)
  rw [found_as_left m c 16 rfl t ht (Bool.eq_false_iff.mpr fun h => by
      have := (flush0_16 _).mp h; dsimp only [prev] at this; omega)
    (idle16 _ (by show t.val - 1 < 64; omega)) (fun _ _ => rfl)]
  dsimp only [dats]

/-! ## The body's triple at a point -/

def ins (c : Dev nD) (t : Fin cfg0.N) : sProp 𝕄 :=
  heldIn c (ms0 t) (ms1 t) (ms2 t) (ms3 t) (ms4 t) (ms5 t) (ms6 t) (ms7 t) (ms8 t) (ms9 t) (ms10 t) (ms11 t) (ms12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d)))

def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

/-- Before the body the inputs' buffers hold their blocks. -/
theorem pre_enter (c : Dev nD) (t : Fin cfg0.N) :
    pre m c t ⊢ iprop(ins m c t ∗ PhiS m c t.val (Nat.le_of_lt t.isLt) ∗ (dats m 0 c).owesAt () t.castSucc
      ∗ (∃ d, owns (c : Thread nD τ) (ms13 t) fullShare ((dats m 0 c).before 13 t d))
      ∗ (∃ d, owns (c : Thread nD τ) (ms14 t) fullShare ((dats m 0 c).before 14 t d))
      ∗ (∃ d, owns (c : Thread nD τ) (ms15 t) fullShare ((dats m 0 c).before 15 t d))
      ∗ (∃ d, owns (c : Thread nD τ) (ms16 t) fullShare ((dats m 0 c).before 16 t d))) := by
  unfold pre ins heldIn
  rw [show (dats m 0 c).Φ t.castSucc = PhiS m c t.val (Nat.le_of_lt t.isLt) from by dsimp only [dats]; exact Dat.Φ_castSucc (PhiS m c) t]
  simp only [before0, before1, before2, before3, before4, before5, before6, before7, before8, before9, before10, before11, before12]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14, H15, H16⟩
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [HP]; · iexact HP
  isplitl [Ho]; · iexact Ho
  isplitl [H13]; · iexact H13
  isplitl [H14]; · iexact H14
  isplitl [H15]; · iexact H15
  iexact H16

set_option maxHeartbeats 1600000 in
/-- What the body leaves gives the postcondition. -/
theorem post_leave (c : Dev nD) (t : Fin cfg0.N) :
    iprop(ins m c t ∗ owns (c : Thread nD τ) (ms13 t) fullShare (leftQ m c t) ∗ owns (c : Thread nD τ) (ms14 t) fullShare (leftK m c t)
      ∗ owns (c : Thread nD τ) (ms15 t) fullShare (leftV m c t) ∗ owns (c : Thread nD τ) (ms16 t) fullShare (leftS m c t)
      ∗ owns (c : Thread nD τ) scK fullShare (kept m c t) ∗ owns (c : Thread nD τ) scV fullShare (keptV m c t) ∗ (∃ r, prngReg c r)
      ∗ (dats m 0 c).owesAt () t.castSucc) ⊢ post m c t := by
  unfold post ins heldIn
  rw [show (dats m 0 c).owesAt () t.succ = (dats m 0 c).owesAt () t.castSucc from rfl,
    show (dats m 0 c).Φ t.succ = iprop(owns (c : Thread nD τ) scK fullShare (kept m c t) ∗ owns (c : Thread nD τ) scV fullShare (keptV m c t)
      ∗ (∃ r, prngReg c r)) from rfl]
  rw [leaves_after m c 0 t (.inl rfl), show (dats m 0 c).after 0 t = (iblk m c 0 t) from by dsimp only [dats]]
  rw [leaves_after m c 1 t (.inl rfl), show (dats m 0 c).after 1 t = (iblk m c 1 t) from by dsimp only [dats]]
  rw [leaves_after m c 2 t (.inl rfl), show (dats m 0 c).after 2 t = (iblk m c 2 t) from by dsimp only [dats]]
  rw [leaves_after m c 3 t (.inl rfl), show (dats m 0 c).after 3 t = (iblk m c 3 t) from by dsimp only [dats]]
  rw [leaves_after m c 4 t (.inl rfl), show (dats m 0 c).after 4 t = (iblk m c 4 t) from by dsimp only [dats]]
  rw [leaves_after m c 5 t (.inl rfl), show (dats m 0 c).after 5 t = (iblk m c 5 t) from by dsimp only [dats]]
  rw [leaves_after m c 6 t (.inl rfl), show (dats m 0 c).after 6 t = (iblk m c 6 t) from by dsimp only [dats]]
  rw [leaves_after m c 7 t (.inl rfl), show (dats m 0 c).after 7 t = (iblk m c 7 t) from by dsimp only [dats]]
  rw [leaves_after m c 8 t (.inl rfl), show (dats m 0 c).after 8 t = (iblk m c 8 t) from by dsimp only [dats]]
  rw [leaves_after m c 9 t (.inl rfl), show (dats m 0 c).after 9 t = (iblk m c 9 t) from by dsimp only [dats]]
  rw [leaves_after m c 10 t (.inl rfl), show (dats m 0 c).after 10 t = (iblk m c 10 t) from by dsimp only [dats]]
  rw [leaves_after m c 11 t (.inl rfl), show (dats m 0 c).after 11 t = (iblk m c 11 t) from by dsimp only [dats]]
  rw [leaves_after m c 12 t (.inl rfl), show (dats m 0 c).after 12 t = (iblk m c 12 t) from by dsimp only [dats]]
  rw [leaves_after m c 13 t (live13 t), show (dats m 0 c).after 13 t = (leftQ m c t) from by dsimp only [dats]]
  rw [leaves_after m c 14 t (.inl (idle14 t)), show (dats m 0 c).after 14 t = (leftK m c t) from by dsimp only [dats]]
  rw [leaves_after m c 15 t (.inl (idle14 t)), show (dats m 0 c).after 15 t = (leftV m c t) from by dsimp only [dats]]
  rw [leaves_after m c 16 t (live16 t), show (dats m 0 c).after 16 t = (leftS m c t) from by dsimp only [dats]]
  iintro ⟨⟨H0, H1, H2, H3, H4, H5, H6, H7, H8, H9, H10, H11, H12⟩, H13, H14, H15, H16, HK, HV, Hg, Ho⟩
  isplitl [HK HV Hg]
  · isplitl [HK]; · iexact HK
    isplitl [HV]; · iexact HV
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 4000000 in
/-- The body, at any point. -/
theorem body_triple (c : Dev nD) (t : Fin cfg0.N) :
    pre m c t ⊢ wp frame (wpE (defs₀ (F := F)) Variants.none c none) Set.univ (bodyAt0 t) (fun _ => post m c t) := by
  refine (pre_enter m c t).trans ?_
  unfold ins
  have hN : t.val < 65 := lt_of_lt_of_eq t.isLt (show cfg0.N = 65 from N_0)
  unfold bodyAt0
  by_cases h0 : t.val = 0
  · rw [PhiS_first m c t h0, launched]
    iintro ⟨HI, ⟨⟨HK, HV⟩, Hg⟩, Ho, ⟨%d13, H13⟩, ⟨%d14, H14⟩, ⟨%d15, H15⟩, ⟨%d16, H16⟩⟩
    iapply (run_first c (grid0.coords t) _ _ _ _ _ _ _ _ _ _ _ _ _ _ _ _ _ _ _ _ _ _ _ _ _ _ _ _ _ _ _ _ _ _ _ _ _ _ ((first_iff t).mpr h0) ((inner_iff t).mpr (by omega)) (fun h => by have := (last_iff t).mp h; omega)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
    isplitl [HI]; · iexact HI
    isplitl [H13]; · iexists _; iexact H13
    isplitl [H14]; · iexists _; iexact H14
    isplitl [H15]; · iexists _; iexact H15
    isplitl [H16]; · iexists _; iexact H16
    isplitl [HK]; · iexact HK
    isplitl [HV]; · iexact HV
    iintro ⟨HI, H13, H14, H15, H16, HK, HV⟩
    iapply (post_leave m c t)
    unfold ins
    rw [leftQ_inner m c t (by omega), leftK_first m c t h0, leftV_first m c t h0, leftS_first m c t h0, kept_inner m c t (by omega), keptV_inner m c t (by omega)]
    isplitl [HI]; · iexact HI
    isplitl [H13]; · iexact H13
    isplitl [H14]; · iexact H14
    isplitl [H15]; · iexact H15
    isplitl [H16]; · iexact H16
    isplitl [HK]; · iexact HK
    isplitl [HV]; · iexact HV
    isplitl [Hg]; · iexact Hg
    iexact Ho
  · rw [PhiS_pos m c t h0]
    simp only [before16 m c t h0]
    by_cases h1 : t.val < 64
    · rw [kept_inner m c (prev t) (by show t.val - 1 < 64; omega), keptV_inner m c (prev t) (by show t.val - 1 < 64; omega)]
      iintro ⟨HI, ⟨HK, HV, Hg⟩, Ho, ⟨%d13, H13⟩, ⟨%d14, H14⟩, ⟨%d15, H15⟩, ⟨%d16, H16⟩⟩
      iapply (run_mid c (grid0.coords t) _ _ _ _ _ _ _ _ _ _ _ _ _ _ _ _ _ _ _ _ _ _ _ _ _ _ _ _ _ _ _ _ _ _ _ _ _ _ (fun h => h0 ((first_iff t).mp h)) ((inner_iff t).mpr h1) (fun h => by have := (last_iff t).mp h; omega)
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (leftS m c (prev t)) (keep (bandK m c (prev t))) (keep (bandV m c (prev t))) Set.univ _)
      isplitl [HI]; · iexact HI
      isplitl [H13]; · iexists _; iexact H13
      isplitl [H14]; · iexists _; iexact H14
      isplitl [H15]; · iexists _; iexact H15
      isplitl [H16]; · iexact H16
      isplitl [HK]; · iexact HK
      isplitl [HV]; · iexact HV
      iintro ⟨HI, H13, H14, H15, H16, HK, HV⟩
      iapply (post_leave m c t)
      unfold ins
      rw [leftQ_inner m c t h1, leftK_mid m c t h0 h1, leftV_mid m c t h0 h1, leftS_mid m c t h0 h1, kept_inner m c t h1, keptV_inner m c t h1]
      isplitl [HI]; · iexact HI
      isplitl [H13]; · iexact H13
      isplitl [H14]; · iexact H14
      isplitl [H15]; · iexact H15
      isplitl [H16]; · iexact H16
      isplitl [HK]; · iexact HK
      isplitl [HV]; · iexact HV
      isplitl [Hg]; · iexact Hg
      iexact Ho
    · simp only [before13 m c t (by omega)]
      iintro ⟨HI, ⟨HK, HV, Hg⟩, Ho, ⟨%d13, H13⟩, ⟨%d14, H14⟩, ⟨%d15, H15⟩, ⟨%d16, H16⟩⟩
      iapply (run_last c (grid0.coords t) _ _ _ _ _ _ _ _ _ _ _ _ _ _ _ _ _ _ _ _ _ _ _ _ _ _ _ _ _ _ _ _ _ _ _ _ _ _ (fun h => h0 ((first_iff t).mp h)) (fun h => h1 ((inner_iff t).mp h)) ((last_iff t).mpr (by omega))
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (leftQ m c (prev t)) (leftS m c (prev t)) (kept m c (prev t)) (keptV m c (prev t)) Set.univ _)
      isplitl [HI]; · iexact HI
      isplitl [H13]; · iexact H13
      isplitl [H14]; · iexists _; iexact H14
      isplitl [H15]; · iexists _; iexact H15
      isplitl [H16]; · iexact H16
      isplitl [HK]; · iexact HK
      isplitl [HV]; · iexact HV
      iintro ⟨HI, H13, H14, H15, H16, HK, HV⟩
      iapply (post_leave m c t)
      unfold ins
      rw [leftQ_last m c t h1, leftK_last m c t h1, leftV_last m c t h1, leftS_last m c t h1, kept_last m c t h1, keptV_last m c t h1]
      isplitl [HI]; · iexact HI
      isplitl [H13]; · iexact H13
      isplitl [H14]; · iexact H14
      isplitl [H15]; · iexact H15
      isplitl [H16]; · iexact H16
      isplitl [HK]; · iexact HK
      isplitl [HV]; · iexact HV
      isplitl [Hg]; · iexact Hg
      iexact Ho

/-! ## The launch -/

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_triple m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = iprop(owns (c : Thread nD τ) scK fullShare (kept m c ⟨64, by decide⟩)
    ∗ owns (c : Thread nD τ) scV fullShare (keptV m c ⟨64, by decide⟩) ∗ (∃ r, prngReg c r)) from rfl, launched]
  iintro ⟨HK, HV, Hg⟩
  isplitl [HK HV]
  · isplitl [HK]
    · iexists _; iexact HK
    iexists _; iexact HV
  iexact Hg

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The argument arrays end unchanged, and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  θ_run_and (frame_of m ρ (dats m) (A_eq m) (run_main m ρ)) ((θ_run defs _ _).mono (fun _ h => h.2) (run_quiescent m ρ))

end Cert.AttnIdeal.Body

end
-- ==== Proof.AttnRow.lean ====
/- One row of attention with a sink over the reals, and its gradients: what both programs' shifted forms come to. -/
module

public import proofs.«01_k».proof.Proof.Reals

@[expose] public section

set_option maxRecDepth 16384

noncomputable section

namespace Cert.Step.Attn

open Idealize.ShloMosaic

/-! ## The row -/

section Row
variable {n : ℕ} (s dp : Fin n → ℝ) (ok : Fin n → Prop) [DecidablePred ok] (k : ℝ)

def ex (j : Fin n) : ℝ := if ok j then Real.exp (s j) else 0

def den : ℝ := (∑ j, ex s ok j) + Real.exp k

/-- The probability of a key. -/
def prob (j : Fin n) : ℝ := ex s ok j / den s ok k

/-- The probability of the sink. -/
def sinkProb : ℝ := Real.exp k / den s ok k

def delta : ℝ := ∑ j, prob s ok k j * dp j

/-- The gradient at a score. -/
def dsc (j : Fin n) : ℝ := prob s ok k j * (dp j - delta s dp ok k)

theorem ex_nonneg (j : Fin n) : 0 ≤ ex s ok j := by
  unfold ex
  split
  · exact (Real.exp_pos _).le
  · exact le_rfl

theorem den_pos : 0 < den s ok k := add_pos_of_nonneg_of_pos (Finset.sum_nonneg fun j _ => ex_nonneg s ok j) (Real.exp_pos k)

theorem prob_masked {j : Fin n} (h : ¬ ok j) : prob s ok k j = 0 := by
  rw [prob, ex, if_neg h, zero_div]

theorem dsc_masked {j : Fin n} (h : ¬ ok j) : dsc s dp ok k j = 0 := by
  rw [dsc, prob_masked s ok k h, zero_mul]

theorem prob_total : (∑ j, prob s ok k j) + sinkProb s ok k = 1 := by
  simp only [prob, sinkProb]
  rw [← Finset.sum_div, ← add_div]
  exact div_self (den_pos s ok k).ne'

theorem dsc_total : ∑ j, dsc s dp ok k j = sinkProb s ok k * delta s dp ok k := by
  have h := prob_total s ok k
  have : ∑ j, dsc s dp ok k j = delta s dp ok k - (∑ j, prob s ok k j) * delta s dp ok k := by
    simp only [dsc, mul_sub, Finset.sum_sub_distrib, Finset.sum_mul]
    rfl
  rw [this, show ∑ j, prob s ok k j = 1 - sinkProb s ok k by linarith]
  ring

/-! ## The row depends on its unmasked entries alone -/

variable {s dp} {s' dp' : Fin n → ℝ}

theorem ex_congr (hs : ∀ j, ok j → s j = s' j) : ex s ok = ex s' ok := by
  funext j
  unfold ex
  split
  · next h => rw [hs j h]
  · rfl

theorem prob_congr (hs : ∀ j, ok j → s j = s' j) : prob s ok k = prob s' ok k := by
  funext j
  simp only [prob, den, ex_congr ok hs]

theorem delta_congr (hs : ∀ j, ok j → s j = s' j) (hd : ∀ j, ok j → dp j = dp' j) : delta s dp ok k = delta s' dp' ok k := by
  unfold delta
  refine Finset.sum_congr rfl fun j _ => ?_
  rw [prob_congr ok k hs]
  by_cases h : ok j
  · rw [hd j h]
  · rw [prob_masked s' ok k h, zero_mul, zero_mul]

theorem dsc_congr (hs : ∀ j, ok j → s j = s' j) (hd : ∀ j, ok j → dp j = dp' j) : dsc s dp ok k = dsc s' dp' ok k := by
  funext j
  by_cases h : ok j
  · rw [dsc, dsc, prob_congr ok k hs, delta_congr ok k hs hd, hd j h]
  · rw [dsc_masked s dp ok k h, dsc_masked s' dp' ok k h]

theorem sinkProb_congr (hs : ∀ j, ok j → s j = s' j) : sinkProb s ok k = sinkProb s' ok k := by
  simp only [sinkProb, den, ex_congr ok hs]

end Row

/-! ## The same with every exponent shifted -/

section Shift
variable {n : ℕ} (s dp : Fin n → ℝ) (ok : Fin n → Prop) [DecidablePred ok] (k t : ℝ)

/-- An exponential less the shift. -/
def exs (j : Fin n) : ℝ := if ok j then Real.exp (s j - t) else 0

def dens : ℝ := (∑ j, exs s ok t j) + Real.exp (k - t)

theorem exs_eq (j : Fin n) : exs s ok t j = ex s ok j * Real.exp (-t) := by
  unfold exs ex
  split
  · rw [sub_eq_add_neg, Real.exp_add]
  · rw [zero_mul]

theorem exp_shift : Real.exp (k - t) = Real.exp k * Real.exp (-t) := by rw [sub_eq_add_neg, Real.exp_add]

theorem dens_eq : dens s ok k t = den s ok k * Real.exp (-t) := by
  simp only [dens, den, exs_eq, exp_shift, ← Finset.sum_mul, add_mul]

theorem dens_pos : 0 < dens s ok k t := by
  rw [dens_eq]
  exact mul_pos (den_pos s ok k) (Real.exp_pos _)

theorem prob_shift (j : Fin n) : exs s ok t j * (1 / dens s ok k t) = prob s ok k j := by
  rw [dens_eq, exs_eq, prob]
  have := (den_pos s ok k).ne'
  have := (Real.exp_pos (-t)).ne'
  field_simp

theorem sinkProb_shift : Real.exp (k - t) * (1 / dens s ok k t) = sinkProb s ok k := by
  rw [dens_eq, exp_shift, sinkProb]
  have := (den_pos s ok k).ne'
  have := (Real.exp_pos (-t)).ne'
  field_simp

/-- The quotient rule's second term. -/
theorem quot_shift : ∑ j, dp j * (1 / (dens s ok k t * dens s ok k t)) * exs s ok t j = delta s dp ok k * (1 / dens s ok k t) := by
  simp only [delta, ← prob_shift s ok k t, Finset.sum_mul]
  refine Finset.sum_congr rfl fun j _ => ?_
  have := (dens_pos s ok k t).ne'
  field_simp

theorem dsc_shift (j : Fin n) :
    (dp j * (1 / dens s ok k t) + -(∑ i, dp i * (1 / (dens s ok k t * dens s ok k t)) * exs s ok t i)) * exs s ok t j
      = dsc s dp ok k j := by
  rw [quot_shift, dsc, ← prob_shift s ok k t j]
  ring

theorem sink_shift : -(∑ i, dp i * (1 / (dens s ok k t * dens s ok k t)) * exs s ok t i) * Real.exp (k - t)
      = -(sinkProb s ok k * delta s dp ok k) := by
  rw [quot_shift, ← sinkProb_shift s ok k t]
  ring

end Shift

/-! ## The masked row of extended reals -/

section Masked
variable {n : ℕ} (s : Fin n → ℝ) (ok : Fin n → Prop) [DecidablePred ok] (k t : ℝ)

/-- A score, or minus infinity where it is masked. -/
def masked (j : Fin n) : EReal := if ok j then (s j : EReal) else ⊥

theorem exp_masked (j : Fin n) : Ideal.exp (masked s ok j - (t : EReal)) = (exs s ok t j : EReal) := by
  unfold masked exs
  split
  · rw [← EReal.coe_sub, Ideal.exp_coe]
  · rw [EReal.bot_sub, Ideal.exp_bot]
    rfl

/-- The largest of the scores and the sink is real. -/
theorem top_real : ∃ t : ℝ, max (Finset.univ.fold max (⊥ : EReal) (masked s ok)) (k : EReal) = (t : EReal) := by
  have h : Finset.univ.fold max (⊥ : EReal) (masked s ok) ≠ ⊤ := by
    have : ∀ u : Finset (Fin n), u.fold max (⊥ : EReal) (masked s ok) < ⊤ := by
      intro u
      rw [Finset.fold_max_lt]
      refine ⟨bot_lt_top, fun j _ => ?_⟩
      unfold masked
      split
      · exact EReal.coe_lt_top _
      · exact bot_lt_top
    exact (this _).ne
  induction hx : Finset.univ.fold max (⊥ : EReal) (masked s ok) with
  | bot => exact ⟨k, max_eq_right bot_le⟩
  | top => exact absurd hx h
  | coe r => exact ⟨max r k, (EReal.coe_strictMono.monotone.map_max).symm⟩

end Masked

end Cert.Step.Attn

end
-- ==== Proof.AttnSpec.lean ====
/- The attention's gradients over the reals, block by block of 128 tokens. -/
module

public import proofs.«01_k».proof.Proof.AttnRow

@[expose] public section

set_option maxRecDepth 16384

noncomputable section

namespace Cert.Step.Attn

/-- Lane `e` of a head or a group. -/
theorem head_lt (h : Fin 16) (e : Fin 64) : 64 * h.val + e.val < 1024 := by omega
theorem group_lt (g : Fin 4) (e : Fin 64) : 64 * g.val + e.val < 256 := by omega

/-! ## The rotation's transpose on 64 lanes -/

def cosAt (f : Fin 8 → ℝ) (e : ℕ) : ℝ := if e < 16 then f ⟨e % 8, Nat.mod_lt _ (by omega)⟩ else 1

def downAt (f : Fin 8 → ℝ) (e : ℕ) : ℝ := if e < 8 then -f ⟨e % 8, Nat.mod_lt _ (by omega)⟩ else 0

def upAt (f : Fin 8 → ℝ) (e : ℕ) : ℝ := if 8 ≤ e ∧ e < 16 then f ⟨e % 8, Nat.mod_lt _ (by omega)⟩ else 0

def unrot (x : Fin 64 → ℝ) (c s : Fin 8 → ℝ) (e : Fin 64) : ℝ :=
  x e * cosAt c e + x ⟨(e.val + 56) % 64, Nat.mod_lt _ (by omega)⟩ * downAt s ((e.val + 56) % 64)
    + x ⟨(e.val + 8) % 64, Nat.mod_lt _ (by omega)⟩ * upAt s ((e.val + 8) % 64)

/-- The band of one group: the previous block's tokens, then the block's own. -/
def bandOf (a b : Fin 128 → Fin 4 → Fin 64 → ℝ) (g : Fin 4) (j : Fin 256) (e : Fin 64) : ℝ :=
  if h : j.val < 128 then a ⟨j.val, h⟩ g e else b ⟨j.val - 128, by omega⟩ g e

/-- The keys a query may see: the 128 last ones, and none before the first token. -/
def seen (n : ℕ) (r : Fin 128) (j : Fin 256) : Prop := r.val < j.val ∧ j.val ≤ r.val + 128 ∧ (128 ≤ j.val ∨ 0 < n)

instance (n : ℕ) (r : Fin 128) : DecidablePred (seen n r) := fun j => by unfold seen; infer_instance

/-- The group of a head. -/
def groupOf (h : Fin 16) : Fin 4 := ⟨h.val / 4, by omega⟩

/-! ## A head of a block -/

/-- Rows against a band. -/
def against (a : Fin 128 → Fin 64 → ℝ) (b : Fin 256 → Fin 64 → ℝ) (r : Fin 128) (j : Fin 256) : ℝ := ∑ e, a r e * b j e

/-- The gradient at a head's scores, from its rows and the bands. -/
def headGrad (ok : Fin 128 → Fin 256 → Prop) [∀ r, DecidablePred (ok r)] (q d : Fin 128 → Fin 64 → ℝ) (kb vb : Fin 256 → Fin 64 → ℝ) (k : ℝ)
    (r : Fin 128) (j : Fin 256) : ℝ := dsc (against q kb r) (against d vb r) (ok r) k j

/-- A head's probabilities. -/
def headProb (ok : Fin 128 → Fin 256 → Prop) [∀ r, DecidablePred (ok r)] (q : Fin 128 → Fin 64 → ℝ) (kb : Fin 256 → Fin 64 → ℝ) (k : ℝ)
    (r : Fin 128) (j : Fin 256) : ℝ := prob (against q kb r) (ok r) k j

/-- A head's share of the gradient at its sink. -/
def headSinkGrad (ok : Fin 128 → Fin 256 → Prop) [∀ r, DecidablePred (ok r)] (q d : Fin 128 → Fin 64 → ℝ) (kb vb : Fin 256 → Fin 64 → ℝ)
    (k : ℝ) : ℝ := -(∑ r, sinkProb (against q kb r) (ok r) k * delta (against q kb r) (against d vb r) (ok r) k)

/-- Head `4 g + a`. -/
def headOf (g a : Fin 4) : Fin 16 := ⟨4 * g.val + a.val, by omega⟩

/-- The gradient at the scores of head `h` of block `n`. -/
def gradAt (n : ℕ) (S : Fin 16 → ℝ) (q d : Fin 16 → Fin 128 → Fin 64 → ℝ) (ka kb va vb : Fin 128 → Fin 4 → Fin 64 → ℝ) (h : Fin 16) :
    Fin 128 → Fin 256 → ℝ := headGrad (seen n) (q h) (d h) (bandOf ka kb (groupOf h)) (bandOf va vb (groupOf h)) (S h)

def probAt (n : ℕ) (S : Fin 16 → ℝ) (q : Fin 16 → Fin 128 → Fin 64 → ℝ) (ka kb : Fin 128 → Fin 4 → Fin 64 → ℝ) (h : Fin 16) :
    Fin 128 → Fin 256 → ℝ := headProb (seen n) (q h) (bandOf ka kb (groupOf h)) (S h)

def sinkAt (n : ℕ) (S : Fin 16 → ℝ) (q d : Fin 16 → Fin 128 → Fin 64 → ℝ) (ka kb va vb : Fin 128 → Fin 4 → Fin 64 → ℝ) (h : Fin 16) : ℝ :=
  headSinkGrad (seen n) (q h) (d h) (bandOf ka kb (groupOf h)) (bandOf va vb (groupOf h)) (S h)

/-! ## The whole -/

/-- The reals the programs compute from: the rotated queries and keys, the values, the result's cotangent, the sinks, and
    the rotation's cosines and sines. -/
structure Inputs where
  Q : Fin 64 → Fin 16 → Fin 128 → Fin 64 → ℝ
  D : Fin 64 → Fin 16 → Fin 128 → Fin 64 → ℝ
  K : Fin 64 → Fin 128 → Fin 4 → Fin 64 → ℝ
  V : Fin 64 → Fin 128 → Fin 4 → Fin 64 → ℝ
  S : Fin 16 → ℝ
  C : Fin 64 → Fin 128 → Fin 8 → ℝ
  N : Fin 64 → Fin 128 → Fin 8 → ℝ

/-- The block before, zeros before the first. -/
def before (X : Fin 64 → Fin 128 → Fin 4 → Fin 64 → ℝ) (n : Fin 64) : Fin 128 → Fin 4 → Fin 64 → ℝ :=
  if n.val = 0 then fun _ _ _ => 0 else X ⟨n.val - 1, by omega⟩

/-- Token `r` of block `n`. -/
def tok (n : Fin 64) (r : Fin 128) : Fin 8192 := ⟨n.val * 128 + r.val, by omega⟩

namespace Inputs
variable (I : Inputs)

def q (n : Fin 64) (h : Fin 16) (r : Fin 128) (e : Fin 64) : ℝ := I.Q n h r e * (1 / 8)

def kb (n : Fin 64) : Fin 4 → Fin 256 → Fin 64 → ℝ := bandOf (before I.K n) (I.K n)

def grad (n : Fin 64) (h : Fin 16) : Fin 128 → Fin 256 → ℝ :=
  gradAt n.val I.S (I.q n) (I.D n) (before I.K n) (I.K n) (before I.V n) (I.V n) h

def pr (n : Fin 64) (h : Fin 16) : Fin 128 → Fin 256 → ℝ := probAt n.val I.S (I.q n) (before I.K n) (I.K n) h

def sk (n : Fin 64) (h : Fin 16) : ℝ :=
  sinkAt n.val I.S (I.q n) (I.D n) (before I.K n) (I.K n) (before I.V n) (I.V n) h

def rawQ (n : Fin 64) (h : Fin 16) (r : Fin 128) (e : Fin 64) : ℝ := ∑ j, I.grad n h r j * I.kb n (groupOf h) j e

/-- The gradient at the queries. -/
def dQ (n : Fin 64) (h : Fin 16) (r : Fin 128) (e : Fin 64) : ℝ := unrot (I.rawQ n h r) (I.C n r) (I.N n r) e * (1 / 8)

def bandK (n : Fin 64) (j : Fin 256) (g : Fin 4) (e : Fin 64) : ℝ := ∑ a, ∑ r, I.q n (headOf g a) r e * I.grad n (headOf g a) r j

def bandV (n : Fin 64) (j : Fin 256) (g : Fin 4) (e : Fin 64) : ℝ := ∑ a, ∑ r, I.D n (headOf g a) r e * I.pr n (headOf g a) r j

/-- What the next block's band gives to a block's tokens. -/
def next (X : Fin 64 → Fin 256 → Fin 4 → Fin 64 → ℝ) (n : Fin 64) (r : Fin 128) (g : Fin 4) (e : Fin 64) : ℝ :=
  if h : n.val < 63 then X ⟨n.val + 1, by omega⟩ ⟨r.val, by omega⟩ g e else 0

def rawK (n : Fin 64) (r : Fin 128) (g : Fin 4) (e : Fin 64) : ℝ := I.bandK n ⟨128 + r.val, by omega⟩ g e + next I.bandK n r g e

/-- The gradient at the keys. -/
def dK (n : Fin 64) (r : Fin 128) (g : Fin 4) (e : Fin 64) : ℝ := unrot (I.rawK n r g) (I.C n r) (I.N n r) e

/-- The gradient at the values. -/
def dV (n : Fin 64) (r : Fin 128) (g : Fin 4) (e : Fin 64) : ℝ := I.bandV n ⟨128 + r.val, by omega⟩ g e + next I.bandV n r g e

/-- The gradient at the sinks. -/
def dS (h : Fin 16) : ℝ := ∑ n, I.sk n h

end Inputs

/-! ## The first block's band before it is never seen -/

section First
variable {S : Fin 16 → ℝ} {q d : Fin 16 → Fin 128 → Fin 64 → ℝ} {ka ka' kb va va' vb : Fin 128 → Fin 4 → Fin 64 → ℝ} (h : Fin 16)

theorem against_first (x : Fin 128 → Fin 64 → ℝ) (g : Fin 4) (r : Fin 128) (j : Fin 256) (hj : seen 0 r j) :
    against x (bandOf ka kb g) r j = against x (bandOf ka' kb g) r j := by
  have h128 : ¬ j.val < 128 := by
    obtain ⟨_, _, h | h⟩ := hj
    · omega
    · omega
  refine Finset.sum_congr rfl fun e _ => ?_
  rw [bandOf, bandOf, dif_neg h128, dif_neg h128]

theorem grad_first : gradAt 0 S q d ka kb va vb h = gradAt 0 S q d ka' kb va' vb h := by
  funext r j
  unfold gradAt headGrad
  rw [dsc_congr (seen 0 r) (S h) (against_first (ka' := ka') (q h) (groupOf h) r) (against_first (ka' := va') (d h) (groupOf h) r)]

theorem prob_first : probAt 0 S q ka kb h = probAt 0 S q ka' kb h := by
  funext r j
  unfold probAt headProb
  rw [prob_congr (seen 0 r) (S h) (against_first (ka' := ka') (q h) (groupOf h) r)]

theorem sink_first : sinkAt 0 S q d ka kb va vb h = sinkAt 0 S q d ka' kb va' vb h := by
  unfold sinkAt headSinkGrad
  refine congrArg Neg.neg (Finset.sum_congr rfl fun r _ => ?_)
  rw [sinkProb_congr (seen 0 r) (S h) (against_first (ka' := ka') (q h) (groupOf h) r),
    delta_congr (seen 0 r) (S h) (against_first (ka' := ka') (q h) (groupOf h) r) (against_first (ka' := va') (d h) (groupOf h) r)]

theorem raw_first (r : Fin 128) (e : Fin 64) :
    ∑ j, gradAt 0 S q d ka kb va vb h r j * bandOf ka kb (groupOf h) j e
      = ∑ j, gradAt 0 S q d ka' kb va' vb h r j * bandOf ka' kb (groupOf h) j e := by
  refine Finset.sum_congr rfl fun j _ => ?_
  rw [grad_first (ka' := ka') (va' := va') h]
  by_cases hj : j.val < 128
  · have : gradAt 0 S q d ka' kb va' vb h r j = 0 := dsc_masked _ _ _ _ fun hs => by
      obtain ⟨_, _, h | h⟩ := hs
      · omega
      · omega
    rw [this, zero_mul, zero_mul]
  · rw [bandOf, bandOf, dif_neg hj, dif_neg hj]

end First

end Cert.Step.Attn

end
-- ==== Proof.AttnHead.lean ====
/- One pair of heads of the attention call over the reals. -/
module

public import proofs.«01_k».proof.Proof.AttnSpec
public import proofs.«01_k».proof.Proof.AttnBody

@[expose] public section

set_option maxRecDepth 16384

noncomputable section

namespace Cert.AttnIdeal.Body

open Cert.AttnIdeal Cert.AttnIdeal.Gen Cert.Step Cert.Step.Attn
open Idealize.ShloMosaic Idealize.ShloMosaic.TcCoe Idealize.ShloMosaic.Tactic

theorem named_mask : (Named.named κ "mask" 0xF149F2CA#32 : Ideal .f32) = (⊥ : EReal) := rfl

theorem zero_real_add (x : EReal) : (0 : EReal) + x = x := zero_add x

/-! ## A head -/

section Head
variable {s dp : FVec Ideal S128x256 .f32} {sr dr : Fin 128 → Fin 256 → ℝ} {ok : Fin 128 → Fin 256 → Prop}
  [∀ r, DecidablePred (ok r)] {k : Ideal .f32} {kr : ℝ}

variable (hs : ∀ r j, s (ix2 r j) = masked (sr r) (ok r) j) (hd : ∀ r j, dp (ix2 r j) = (dr r j : EReal)) (hk : k = (kr : EReal))

include hs hk in
theorem headMax_real (r : Fin 128) : ∃ t : ℝ, headMax s k (ix2 r 0) = (t : EReal) := by
  obtain ⟨t, ht⟩ := top_real (sr r) (ok r) kr
  refine ⟨t, ?_⟩
  rw [← ht, hk]
  pointwise [headMax]
  simp only [hs]
  rfl

include hs hk in
theorem headExp_real (r : Fin 128) {t : ℝ} (ht : headMax s k (ix2 r 0) = (t : EReal)) (j : Fin 256) :
    headExp s k (ix2 r j) = (exs (sr r) (ok r) t j : EReal) := by
  pointwise [headExp]
  rw [ht, hs, exp_masked]

include hk in
theorem headSinkExp_real (r : Fin 128) {t : ℝ} (ht : headMax s k (ix2 r 0) = (t : EReal)) :
    headSinkExp s k (ix2 r 0) = (Real.exp (kr - t) : EReal) := by
  pointwise [headSinkExp]
  rw [ht, hk, ← EReal.coe_sub, Ideal.exp_coe]

include hs hk in
theorem headInv_real (r : Fin 128) {t : ℝ} (ht : headMax s k (ix2 r 0) = (t : EReal)) :
    headInv s k (ix2 r 0) = ((1 / dens (sr r) (ok r) kr t : ℝ) : EReal) := by
  pointwise [headInv]
  simp only [headExp_real hs hk r ht, headSinkExp_real hk r ht, sum_real, ← EReal.coe_add]
  exact div_real (dens_pos (sr r) (ok r) kr t).ne'

include hs hk in
theorem headP_real (r : Fin 128) (j : Fin 256) : headP s k (ix2 r j) = (prob (sr r) (ok r) kr j : EReal) := by
  obtain ⟨t, ht⟩ := headMax_real hs hk r
  pointwise [headP]
  rw [headExp_real hs hk r ht, headInv_real hs hk r ht, ← EReal.coe_mul, prob_shift]

include hs hk in
theorem headSink_real (r : Fin 128) : headSink s k (ix2 r 0) = (sinkProb (sr r) (ok r) kr : EReal) := by
  obtain ⟨t, ht⟩ := headMax_real hs hk r
  pointwise [headSink]
  rw [headSinkExp_real hk r ht, headInv_real hs hk r ht, ← EReal.coe_mul, sinkProb_shift]

include hs hd hk in
theorem headDelta_real (r : Fin 128) : headDelta s dp k (ix2 r 0) = (delta (sr r) (dr r) (ok r) kr : EReal) := by
  pointwise [headDelta]
  simp only [headP_real hs hk, hd, ← EReal.coe_mul, sum_real]
  rfl

include hs hd hk in
theorem headDs_real (r : Fin 128) (j : Fin 256) : headDs s dp k (ix2 r j) = (dsc (sr r) (dr r) (ok r) kr j : EReal) := by
  pointwise [headDs]
  rw [headP_real hs hk, headDelta_real hs hd hk, hd, ← EReal.coe_sub, ← EReal.coe_mul]
  rfl

include hs hd hk in
theorem headDk_real : headDk s dp k (ix2 0 0)
    = ((-(∑ r, sinkProb (sr r) (ok r) kr * delta (sr r) (dr r) (ok r) kr) : ℝ) : EReal) := by
  pointwise [headDk]
  simp only [headSink_real hs hk, headDelta_real hs hd hk, ← EReal.coe_mul, sum_real]
  rw [zero_sub, ← EReal.coe_neg]

end Head

/-! ## A pair -/

/-- A group's band in the layout for a pair: twice, in the lanes of the even and of the odd head. -/
structure Laid (x : FVec Ideal S512x128 .bf16) (b : Fin 256 → Fin 64 → ℝ) : Prop where
  evenLow : ∀ (j : Fin 256) (d : Fin 64), x (ix2 ⟨j.val, by omega⟩ ⟨d.val, by omega⟩) = (b j d : EReal)
  evenHigh : ∀ (j : Fin 256) (d : Fin 64), x (ix2 ⟨j.val, by omega⟩ ⟨64 + d.val, by omega⟩) = 0
  oddLow : ∀ (j : Fin 256) (d : Fin 64), x (ix2 ⟨256 + j.val, by omega⟩ ⟨d.val, by omega⟩) = 0
  oddHigh : ∀ (j : Fin 256) (d : Fin 64), x (ix2 ⟨256 + j.val, by omega⟩ ⟨64 + d.val, by omega⟩) = (b j d : EReal)

/-- A pair's two heads side by side. -/
structure Paired (x : FVec Ideal S128x128 .bf16) (a b : Fin 128 → Fin 64 → ℝ) : Prop where
  low : ∀ (r : Fin 128) (d : Fin 64), x (ix2 r ⟨d.val, by omega⟩) = (a r d : EReal)
  high : ∀ (r : Fin 128) (d : Fin 64), x (ix2 r ⟨64 + d.val, by omega⟩) = (b r d : EReal)

/-- The mask of both halves. -/
structure Masks (x : IVec S128x512 1) (ok : Fin 128 → Fin 256 → Prop) [∀ r, DecidablePred (ok r)] : Prop where
  low : ∀ (r : Fin 128) (j : Fin 256), x (ix2 r ⟨j.val, by omega⟩) = if ok r j then 1#1 else 0#1
  high : ∀ (r : Fin 128) (j : Fin 256), x (ix2 r ⟨256 + j.val, by omega⟩) = if ok r j then 1#1 else 0#1

section Pair
variable {mask : IVec S128x512 1} {q d : FVec Ideal S128x128 .bf16} {kk vv : FVec Ideal S512x128 .bf16} {k0 k1 : Ideal .f32}
  {ok : Fin 128 → Fin 256 → Prop} [∀ r, DecidablePred (ok r)] {qa qb da db : Fin 128 → Fin 64 → ℝ} {kb vb : Fin 256 → Fin 64 → ℝ}
  {ka kc : ℝ}

variable (hm : Masks mask ok) (hq : Paired q qa qb) (hd : Paired d da db) (hkk : Laid kk kb) (hvv : Laid vv vb)
  (h0 : k0 = (ka : EReal)) (h1 : k1 = (kc : EReal))

include hd hvv in
theorem back_left (r : Fin 128) (j : Fin 256) : left (back d vv) (ix2 r j) = (against da vb r j : EReal) := by
  pointwise [left, back]
  rw [Fin.sum_univ_two_halves 64 64 rfl]
  simp only [hd.low, hd.high, hvv.evenLow, hvv.evenHigh, mul_zero, Finset.sum_const_zero, add_zero, ← EReal.coe_mul, sum_real]
  rfl

include hd hvv in
theorem back_right (r : Fin 128) (j : Fin 256) : right (back d vv) (ix2 r j) = (against db vb r j : EReal) := by
  pointwise [right, back]
  rw [Fin.sum_univ_two_halves 64 64 rfl]
  simp only [hd.low, hd.high, hvv.oddLow, hvv.oddHigh, mul_zero, Finset.sum_const_zero, zero_add, ← EReal.coe_mul, sum_real]
  rfl

theorem select_masked {p : Prop} [Decidable p] (x : EReal) :
    Scalar.select (if p then 1#1 else 0#1) x ⊥ = if p then x else ⊥ := by
  by_cases h : p
  · simp [h, Scalar.select]
  · simp [h, Scalar.select]

include hm hq hkk in
theorem scores_left (r : Fin 128) (j : Fin 256) : left (scores mask q kk) (ix2 r j) = masked (against qa kb r) (ok r) j := by
  pointwise [left, scores]
  rw [Fin.sum_univ_two_halves 64 64 rfl]
  simp only [hq.low, hq.high, hkk.evenLow, hkk.evenHigh, mul_zero, Finset.sum_const_zero, add_zero, ← EReal.coe_mul, sum_real]
  rw [hm.low, named_mask]
  exact select_masked _

include hm hq hkk in
theorem scores_right (r : Fin 128) (j : Fin 256) : right (scores mask q kk) (ix2 r j) = masked (against qb kb r) (ok r) j := by
  pointwise [right, scores]
  rw [Fin.sum_univ_two_halves 64 64 rfl]
  simp only [hq.low, hq.high, hkk.oddLow, hkk.oddHigh, mul_zero, Finset.sum_const_zero, zero_add, ← EReal.coe_mul, sum_real]
  rw [hm.high, named_mask]
  exact select_masked _

include hm hq hd hkk hvv h0 in
theorem pairDs_low (r : Fin 128) (j : Fin 256) :
    pairDs mask q d kk vv k0 k1 (ix2 r ⟨j.val, by omega⟩) = (headGrad ok qa da kb vb ka r j : EReal) := by
  pointwise [pairDs]
  exact headDs_real (scores_left hm hq hkk) (back_left hd hvv) h0 r j

include hm hq hd hkk hvv h1 in
theorem pairDs_high (r : Fin 128) (j : Fin 256) :
    pairDs mask q d kk vv k0 k1 (ix2 r ⟨256 + j.val, by omega⟩) = (headGrad ok qb db kb vb kc r j : EReal) := by
  pointwise [pairDs]
  exact headDs_real (scores_right hm hq hkk) (back_right hd hvv) h1 r j

include hm hq hkk h0 in
theorem pairP_low (r : Fin 128) (j : Fin 256) :
    pairP mask q kk k0 k1 (ix2 r ⟨j.val, by omega⟩) = (headProb ok qa kb ka r j : EReal) := by
  pointwise [pairP]
  exact headP_real (scores_left hm hq hkk) h0 r j

include hm hq hkk h1 in
theorem pairP_high (r : Fin 128) (j : Fin 256) :
    pairP mask q kk k0 k1 (ix2 r ⟨256 + j.val, by omega⟩) = (headProb ok qb kb kc r j : EReal) := by
  pointwise [pairP]
  exact headP_real (scores_right hm hq hkk) h1 r j

include hm hq hd hkk hvv h0 in
theorem pairDk_low (e : Fin 64) (j : Fin 256) :
    pairDk mask q d kk vv k0 k1 (ix2 ⟨e.val, by omega⟩ ⟨j.val, by omega⟩)
      = ((∑ r, qa r e * headGrad ok qa da kb vb ka r j : ℝ) : EReal) := by
  unfold pairDk
  generalize hx : pairDs mask q d kk vv k0 k1 = x
  pointwise []
  subst hx
  simp only [hq.low, pairDs_low hm hq hd hkk hvv h0, ← EReal.coe_mul, sum_real]

include hm hq hd hkk hvv h1 in
theorem pairDk_high (e : Fin 64) (j : Fin 256) :
    pairDk mask q d kk vv k0 k1 (ix2 ⟨64 + e.val, by omega⟩ ⟨256 + j.val, by omega⟩)
      = ((∑ r, qb r e * headGrad ok qb db kb vb kc r j : ℝ) : EReal) := by
  unfold pairDk
  generalize hx : pairDs mask q d kk vv k0 k1 = x
  pointwise []
  subst hx
  simp only [hq.high, pairDs_high hm hq hd hkk hvv h1, ← EReal.coe_mul, sum_real]

include hm hq hd hkk h0 in
theorem pairDv_low (e : Fin 64) (j : Fin 256) :
    pairDv mask q d kk k0 k1 (ix2 ⟨e.val, by omega⟩ ⟨j.val, by omega⟩)
      = ((∑ r, da r e * headProb ok qa kb ka r j : ℝ) : EReal) := by
  unfold pairDv
  generalize hx : pairP mask q kk k0 k1 = x
  pointwise []
  subst hx
  simp only [hd.low, pairP_low hm hq hkk h0, ← EReal.coe_mul, sum_real]

include hm hq hd hkk h1 in
theorem pairDv_high (e : Fin 64) (j : Fin 256) :
    pairDv mask q d kk k0 k1 (ix2 ⟨64 + e.val, by omega⟩ ⟨256 + j.val, by omega⟩)
      = ((∑ r, db r e * headProb ok qb kb kc r j : ℝ) : EReal) := by
  unfold pairDv
  generalize hx : pairP mask q kk k0 k1 = x
  pointwise []
  subst hx
  simp only [hd.high, pairP_high hm hq hkk h1, ← EReal.coe_mul, sum_real]

/-- What the queries' gradient is before the rotation, at the pair's lanes. -/
def rawDq : FVec Ideal S128x128 .f32 :=
  matmul dot_S128x512_S512x128_S128x128_1_0_0_1_n_n none (pairDs mask q d kk vv k0 k1) kk (constant S128x128 .f32 0x00000000#32)

include hm hq hd hkk hvv h0 h1 in
theorem rawDq_low (r : Fin 128) (e : Fin 64) :
    rawDq (mask := mask) (q := q) (d := d) (kk := kk) (vv := vv) (k0 := k0) (k1 := k1) (ix2 r ⟨e.val, by omega⟩)
      = ((∑ j, headGrad ok qa da kb vb ka r j * kb j e : ℝ) : EReal) := by
  unfold rawDq
  generalize hx : pairDs mask q d kk vv k0 k1 = x
  pointwise []
  subst hx
  rw [Fin.sum_univ_two_halves 256 256 rfl]
  simp only [pairDs_low hm hq hd hkk hvv h0, pairDs_high hm hq hd hkk hvv h1, hkk.evenLow, hkk.oddLow, mul_zero, Finset.sum_const_zero,
    add_zero, ← EReal.coe_mul, sum_real]

include hm hq hd hkk hvv h0 h1 in
theorem rawDq_high (r : Fin 128) (e : Fin 64) :
    rawDq (mask := mask) (q := q) (d := d) (kk := kk) (vv := vv) (k0 := k0) (k1 := k1) (ix2 r ⟨64 + e.val, by omega⟩)
      = ((∑ j, headGrad ok qb db kb vb kc r j * kb j e : ℝ) : EReal) := by
  unfold rawDq
  generalize hx : pairDs mask q d kk vv k0 k1 = x
  pointwise []
  subst hx
  rw [Fin.sum_univ_two_halves 256 256 rfl]
  simp only [pairDs_low hm hq hd hkk hvv h0, pairDs_high hm hq hd hkk hvv h1, hkk.evenHigh, hkk.oddHigh, mul_zero, Finset.sum_const_zero,
    zero_add, ← EReal.coe_mul, sum_real]

end Pair

end Cert.AttnIdeal.Body

end
-- ==== Proof.AttnPoint.lean ====
/- A grid point of the attention call over the reals: what its blocks are, from what its windows hold. -/
module

public import proofs.«01_k».proof.Proof.AttnHead
public import Idealize.ShloMosaic.Lib.WordCmp

@[expose] public section

set_option maxRecDepth 16384

noncomputable section

namespace Cert.AttnIdeal.Body

open Cert.AttnIdeal Cert.AttnIdeal.Gen Cert.Step Cert.Step.Attn
open Idealize.ShloMosaic Idealize.ShloMosaic.TcCoe Idealize.ShloMosaic.Tactic Idealize.ShloMosaic.WordCmp

/-! ## The tables and the rotation -/

structure Tables (c s1 s2 : FVec Ideal S128x128 .f32) (cs sn : Fin 128 → Fin 8 → ℝ) : Prop where
  c : ∀ r (l : Fin 128), c (ix2 r l) = (cosAt (cs r) (l.val % 64) : EReal)
  s1 : ∀ r (l : Fin 128), s1 (ix2 r l) = (downAt (sn r) (l.val % 64) : EReal)
  s2 : ∀ r (l : Fin 128), s2 (ix2 r l) = (upAt (sn r) (l.val % 64) : EReal)

section Rotation
variable {x c s1 s2 : FVec Ideal S128x128 .f32} {cs sn : Fin 128 → Fin 8 → ℝ} {a b : Fin 128 → Fin 64 → ℝ}

/-- Two heads' lanes. -/
def lanes (a b : Fin 128 → Fin 64 → ℝ) (r : Fin 128) (l : Fin 128) : ℝ :=
  if h : l.val < 64 then a r ⟨l.val, h⟩ else b r ⟨l.val - 64, by omega⟩

theorem unrotate_lanes (T : Tables c s1 s2 cs sn) (hx : ∀ r l, x (ix2 r l) = (lanes a b r l : EReal)) (r l : Fin 128) :
    unrotate x c s1 s2 (ix2 r l) = ((lanes a b r l * cosAt (cs r) (l.val % 64)
      + lanes a b r ⟨(l.val + 120) % 128, Nat.mod_lt _ (by omega)⟩ * downAt (sn r) ((l.val + 120) % 128 % 64)
      + lanes a b r ⟨(l.val + 8) % 128, Nat.mod_lt _ (by omega)⟩ * upAt (sn r) ((l.val + 8) % 128 % 64) : ℝ) : EReal) := by
  pointwise [unrotate]
  simp only [hx, T.c, T.s1, T.s2, ← EReal.coe_mul, ← EReal.coe_add]
  have h1 : (l.val + 128 - 8) % 128 = (l.val + 120) % 128 := by omega
  have h2 : (l.val + 128 - 120) % 128 = (l.val + 8) % 128 := by omega
  simp only [h1, h2]

theorem downAt_zero (f : Fin 8 → ℝ) {e : ℕ} (h : 8 ≤ e) : downAt f e = 0 := if_neg (by omega)
theorem upAt_zero (f : Fin 8 → ℝ) {e : ℕ} (h : e < 8 ∨ 16 ≤ e) : upAt f e = 0 := if_neg (by omega)

theorem unrotate_low (T : Tables c s1 s2 cs sn) (hx : ∀ r l, x (ix2 r l) = (lanes a b r l : EReal)) (r : Fin 128) (e : Fin 64) :
    unrotate x c s1 s2 (ix2 r ⟨e.val, by omega⟩) = (unrot (a r) (cs r) (sn r) e : EReal) := by
  rw [unrotate_lanes T hx]
  congr 1
  have he := e.isLt
  unfold unrot
  congr 1
  · congr 1
    · rw [lanes, dif_pos (by simpa using he)]
      simp only [Nat.mod_eq_of_lt he]
    · by_cases h : e.val < 8
      · rw [downAt_zero _ (by simp only; omega), downAt_zero _ (by omega), mul_zero, mul_zero]
      · have hm : (e.val + 120) % 128 = e.val - 8 := by omega
        have hn : (e.val + 56) % 64 = e.val - 8 := by omega
        have ho : (e.val - 8) % 64 = e.val - 8 := by omega
        simp only [hm, hn, ho]
        rw [lanes, dif_pos (by simp only; omega)]
  · by_cases h : e.val < 56
    · have hm : (e.val + 8) % 128 = e.val + 8 := by omega
      have hn : (e.val + 8) % 64 = e.val + 8 := by omega
      simp only [hm, hn]
      rw [lanes, dif_pos (by simp only; omega)]
    · rw [upAt_zero _ (by simp only; omega), upAt_zero _ (by omega), mul_zero, mul_zero]

theorem unrotate_high (T : Tables c s1 s2 cs sn) (hx : ∀ r l, x (ix2 r l) = (lanes a b r l : EReal)) (r : Fin 128) (e : Fin 64) :
    unrotate x c s1 s2 (ix2 r ⟨64 + e.val, by omega⟩) = (unrot (b r) (cs r) (sn r) e : EReal) := by
  rw [unrotate_lanes T hx]
  congr 1
  have he := e.isLt
  unfold unrot
  have h64 : (64 + e.val) % 64 = e.val := by omega
  congr 1
  · congr 1
    · rw [lanes, dif_neg (by simp only; omega)]
      simp only [h64, Nat.add_sub_cancel_left]
    · by_cases h : e.val < 8
      · rw [downAt_zero _ (by simp only; omega), downAt_zero _ (by omega), mul_zero, mul_zero]
      · have hm : (64 + e.val + 120) % 128 = 64 + (e.val - 8) := by omega
        have hn : (e.val + 56) % 64 = e.val - 8 := by omega
        have ho : (64 + (e.val - 8)) % 64 = e.val - 8 := by omega
        simp only [hm, hn, ho]
        rw [lanes, dif_neg (by simp only; omega)]
        simp only [Nat.add_sub_cancel_left]
  · by_cases h : e.val < 56
    · have hm : (64 + e.val + 8) % 128 = 64 + (e.val + 8) := by omega
      have hn : (e.val + 8) % 64 = e.val + 8 := by omega
      have ho : (64 + (e.val + 8)) % 64 = e.val + 8 := by omega
      simp only [hm, hn, ho]
      rw [lanes, dif_neg (by simp only; omega)]
      simp only [Nat.add_sub_cancel_left]
    · rw [upAt_zero _ (by simp only; omega), upAt_zero _ (by omega), mul_zero, mul_zero]

end Rotation

/-! ## The layouts -/

theorem select_low {e : ℕ} (h : e < 64) (x y : EReal) :
    Scalar.select (IntOp.cmpi .slt (BitVec.ofNat 32 e) 64#32) x y = x := by
  have : IntOp.cmpi .slt (BitVec.ofNat 32 e) 64#32 = 1#1 := (cmpi_slt_ofNat_eq_one_iff (by omega) (by omega)).2 h
  rw [this]
  rfl

theorem select_high {e : ℕ} (h : 64 ≤ e) (he : e < 128) (x y : EReal) :
    Scalar.select (IntOp.cmpi .slt (BitVec.ofNat 32 e) 64#32) x y = y := by
  have : IntOp.cmpi .slt (BitVec.ofNat 32 e) 64#32 = 0#1 := (cmpi_slt_ofNat_eq_zero_iff (by omega) (by omega)).2 (by omega)
  rw [this]
  rfl

section Layout
variable {x : FVec Ideal S256x128 .f32} {b : Fin 256 → Fin 64 → ℝ}

theorem layFirst_laid (hx : ∀ (j : Fin 256) (e : Fin 64), x (ix2 j ⟨e.val, by omega⟩) = (b j e : EReal)) : Laid (layFirst x) b := by
  constructor <;> intro j e <;> have he := e.isLt <;> pointwise [layFirst, low, zeros256]
  · rw [select_low (by omega)]
    exact hx j e
  · rw [select_high (by omega) (by omega)]
  · rw [select_low (by omega)]
  · rw [select_high (by omega) (by omega), ← hx j e]
    refine congrArg x (congrArg (ix2 j) (Fin.ext ?_))
    simp only
    omega

theorem layLast_laid (hx : ∀ (j : Fin 256) (e : Fin 64), x (ix2 j ⟨64 + e.val, by omega⟩) = (b j e : EReal)) : Laid (layLast x) b := by
  constructor <;> intro j e <;> have he := e.isLt <;> pointwise [layLast, low, zeros256]
  · rw [select_low (by omega), ← hx j e]
    refine congrArg x (congrArg (ix2 j) (Fin.ext ?_))
    simp only
    omega
  · rw [select_high (by omega) (by omega)]
  · rw [select_low (by omega)]
  · rw [select_high (by omega) (by omega)]
    exact hx j e

end Layout

section Band
variable {x y : Vec Ideal S128x256 .bf16} {a b : Fin 128 → Fin 4 → Fin 64 → ℝ}
  (hx : ∀ r (g : Fin 4) (e : Fin 64), x (ix2 r ⟨64 * g.val + e.val, by omega⟩) = (a r g e : EReal))
  (hy : ∀ r (g : Fin 4) (e : Fin 64), y (ix2 r ⟨64 * g.val + e.val, by omega⟩) = (b r g e : EReal))

include hx hy in
theorem band0_at (g : Fin 4) (hg : g.val < 2) (j : Fin 256) (e : Fin 64) :
    band0 x y (ix2 j ⟨64 * g.val + e.val, by omega⟩) = (bandOf a b g j e : EReal) := by
  pointwise [band0, blk]
  unfold bandOf
  by_cases h : j.val < 128
  · rw [dif_pos h, dif_pos h]
    exact hx _ g e
  · rw [dif_neg h, dif_neg h]
    exact hy _ g e

include hx hy in
theorem band1_at (g : Fin 4) (hg : 2 ≤ g.val) (j : Fin 256) (e : Fin 64) :
    band1 x y (ix2 j ⟨64 * (g.val - 2) + e.val, by omega⟩) = (bandOf a b g j e : EReal) := by
  pointwise [band1, blk]
  unfold bandOf
  have hc : 128 + (64 * (g.val - 2) + e.val) = 64 * g.val + e.val := by omega
  by_cases h : j.val < 128
  · rw [dif_pos h, dif_pos h]
    simp only [hc]
    exact hx _ g e
  · rw [dif_neg h, dif_neg h]
    simp only [hc]
    exact hy _ g e

include hx hy in
theorem lay_laid (g : Fin 4) : Laid (lay x y g) (bandOf a b g) := by
  fin_cases g
  · refine layFirst_laid fun j e => Eq.trans ?_ (band0_at hx hy 0 (by decide) j e)
    refine congrArg _ (congrArg (ix2 j) (Fin.ext ?_))
    show e.val = 64 * 0 + e.val
    omega
  · exact layLast_laid fun j e => band0_at hx hy 1 (by decide) j e
  · refine layFirst_laid fun j e => Eq.trans ?_ (band1_at hx hy 2 (by decide) j e)
    refine congrArg _ (congrArg (ix2 j) (Fin.ext ?_))
    show e.val = 64 * 0 + e.val
    omega
  · exact layLast_laid fun j e => band1_at hx hy 3 (by decide) j e

end Band

theorem seen_word (i : grid0.Coords) (r : Fin 128) (j : Fin 256) :
    IntOp.andi
      (IntOp.andi (IntOp.cmpi CmpIPredicate.sgt (BitVec.ofNat 32 j.val) (BitVec.ofNat 32 r.val))
        (IntOp.cmpi CmpIPredicate.sle (BitVec.ofNat 32 j.val) (IntOp.addi (BitVec.ofNat 32 r.val) 128#32)))
      (IntOp.ori (IntOp.cmpi CmpIPredicate.sge (BitVec.ofNat 32 j.val) 128#32)
        (Scalar.cmpi CmpIPredicate.sgt (BitVec.ofNat 32 (i 0).val) 0#32)) = if seen (i 0).val r j then 1#1 else 0#1 := by
  have hr := r.isLt
  have hj := j.isLt
  have hi : (i 0).val < 65 := (i 0).isLt
  show IntOp.andi
      (IntOp.andi (IntOp.cmpi CmpIPredicate.sgt (BitVec.ofNat 32 j.val) (BitVec.ofNat 32 r.val))
        (IntOp.cmpi CmpIPredicate.sle (BitVec.ofNat 32 j.val) (IntOp.addi (BitVec.ofNat 32 r.val) (BitVec.ofNat 32 128))))
      (IntOp.ori (IntOp.cmpi CmpIPredicate.sge (BitVec.ofNat 32 j.val) (BitVec.ofNat 32 128))
        (IntOp.cmpi CmpIPredicate.sgt (BitVec.ofNat 32 (i 0).val) (BitVec.ofNat 32 0))) = _
  rw [addi_ofNat, cmpi_sgt_ofNat (by omega) (by omega), cmpi_sle_ofNat (by omega) (by omega), cmpi_sge_ofNat (by omega) (by omega),
    cmpi_sgt_ofNat (by omega) (by omega)]
  by_cases h1 : r.val < j.val <;> by_cases h2 : j.val ≤ r.val + 128 <;> by_cases h3 : 128 ≤ j.val <;> by_cases h4 : 0 < (i 0).val <;>
    simp [seen, h1, h2, h3, h4, IntOp.andi, IntOp.ori]

theorem msk_masks (i : grid0.Coords) : Masks (msk i) (seen (i 0).val) := by
  constructor <;> intro r j <;> pointwise [msk, k0_pay9] <;> exact seen_word i r j

theorem cols_at (x : Vec Ideal S128x1024 .bf16) (p : Fin 8) (r l : Fin 128) :
    cols x p (ix2 r l) = x (ix2 r ⟨128 * p.val + l.val, by omega⟩) := by
  pointwise [cols]

theorem sinkOf_at (x : Vec Ideal S16 .f32) (h : Fin 16) : sinkOf x h = x (ix1 h) := by
  unfold sinkOf
  pointwise []

/-! ## The point -/

/-- What a point's windows hold. -/
structure PointReads (i : grid0.Coords) (x0 : Vec Ideal S16 .f32) (x1 : Vec Ideal S128x1024 .bf16) (x2 x3 x4 x5 : Vec Ideal S128x256 .bf16)
    (x6 : Vec Ideal S128x1024 .bf16) (S : Fin 16 → ℝ) (q d : Fin 16 → Fin 128 → Fin 64 → ℝ)
    (ka kb va vb : Fin 128 → Fin 4 → Fin 64 → ℝ) : Prop where
  x0 : ∀ h : Fin 16, x0 (ix1 h) = (S h : EReal)
  x1 : ∀ r (h : Fin 16) (e : Fin 64), x1 (ix2 r ⟨64 * h.val + e.val, head_lt h e⟩) = (q h r e : EReal)
  x2 : ∀ r (g : Fin 4) (e : Fin 64), x2 (ix2 r ⟨64 * g.val + e.val, group_lt g e⟩) = (ka r g e : EReal)
  x3 : ∀ r (g : Fin 4) (e : Fin 64), x3 (ix2 r ⟨64 * g.val + e.val, group_lt g e⟩) = (kb r g e : EReal)
  x4 : ∀ r (g : Fin 4) (e : Fin 64), x4 (ix2 r ⟨64 * g.val + e.val, group_lt g e⟩) = (va r g e : EReal)
  x5 : ∀ r (g : Fin 4) (e : Fin 64), x5 (ix2 r ⟨64 * g.val + e.val, group_lt g e⟩) = (vb r g e : EReal)
  x6 : ∀ r (h : Fin 16) (e : Fin 64), x6 (ix2 r ⟨64 * h.val + e.val, head_lt h e⟩) = (d h r e : EReal)

section Point
variable {i : grid0.Coords} {x0 : Vec Ideal S16 .f32} {x1 : Vec Ideal S128x1024 .bf16} {x2 x3 x4 x5 : Vec Ideal S128x256 .bf16}
  {x6 : Vec Ideal S128x1024 .bf16} {x7 x8 x9 : Vec Ideal S128x128 .f32} {S : Fin 16 → ℝ} {q d : Fin 16 → Fin 128 → Fin 64 → ℝ}
  {ka kb va vb : Fin 128 → Fin 4 → Fin 64 → ℝ} {cs sn : Fin 128 → Fin 8 → ℝ}

/-- The even and the odd head of a pair. -/
def evenOf (p : Fin 8) : Fin 16 := ⟨2 * p.val, by omega⟩
def oddOf (p : Fin 8) : Fin 16 := ⟨2 * p.val + 1, by omega⟩

theorem group_even (p : Fin 8) : groupOf (evenOf p) = grp p := Fin.ext (by show 2 * p.val / 4 = p.val / 2; omega)
theorem group_odd (p : Fin 8) : groupOf (oddOf p) = grp p := Fin.ext (by show (2 * p.val + 1) / 4 = p.val / 2; omega)

theorem cols_paired {x : Vec Ideal S128x1024 .bf16} {q : Fin 16 → Fin 128 → Fin 64 → ℝ}
    (hx : ∀ r (h : Fin 16) (e : Fin 64), x (ix2 r ⟨64 * h.val + e.val, by omega⟩) = (q h r e : EReal)) (p : Fin 8) :
    Paired (cols x p) (q (evenOf p)) (q (oddOf p)) := by
  constructor <;> intro r e <;> rw [cols_at]
  · rw [← hx r (evenOf p) e]
    refine congrArg x (congrArg (ix2 r) (Fin.ext ?_))
    show 128 * p.val + e.val = 64 * (2 * p.val) + e.val
    omega
  · rw [← hx r (oddOf p) e]
    refine congrArg x (congrArg (ix2 r) (Fin.ext ?_))
    show 128 * p.val + (64 + e.val) = 64 * (2 * p.val + 1) + e.val
    omega

variable (H : PointReads i x0 x1 x2 x3 x4 x5 x6 S q d ka kb va vb)
include H

theorem sink_even (p : Fin 8) : sinkOf x0 ⟨2 * p.val, by omega⟩ = (S (evenOf p) : EReal) := (sinkOf_at _ _).trans (H.x0 _)
theorem sink_odd (p : Fin 8) : sinkOf x0 ⟨2 * p.val + 1, by omega⟩ = (S (oddOf p) : EReal) := (sinkOf_at _ _).trans (H.x0 _)

theorem raw_lanes (p : Fin 8) (r l : Fin 128) :
    rawDq (mask := msk i) (q := cols x1 p) (d := cols x6 p) (kk := lay x2 x3 (grp p)) (vv := lay x4 x5 (grp p))
      (k0 := sinkOf x0 ⟨2 * p.val, by omega⟩) (k1 := sinkOf x0 ⟨2 * p.val + 1, by omega⟩) (ix2 r l)
      = (lanes (fun r e => ∑ j, gradAt (i 0).val S q d ka kb va vb (evenOf p) r j * bandOf ka kb (groupOf (evenOf p)) j e)
          (fun r e => ∑ j, gradAt (i 0).val S q d ka kb va vb (oddOf p) r j * bandOf ka kb (groupOf (oddOf p)) j e) r l : EReal) := by
  have hl := l.isLt
  unfold lanes gradAt
  rw [group_even, group_odd]
  by_cases h : l.val < 64
  · rw [dif_pos h]
    exact rawDq_low (msk_masks i) (cols_paired H.x1 p) (cols_paired H.x6 p) (lay_laid H.x2 H.x3 _) (lay_laid H.x4 H.x5 _)
      (sink_even H p) (sink_odd H p) r ⟨l.val, h⟩
  · rw [dif_neg h]
    refine Eq.trans ?_ (rawDq_high (msk_masks i) (cols_paired H.x1 p) (cols_paired H.x6 p) (lay_laid H.x2 H.x3 _) (lay_laid H.x4 H.x5 _)
      (sink_even H p) (sink_odd H p) r ⟨l.val - 64, by omega⟩)
    refine congrArg _ (congrArg (ix2 r) (Fin.ext ?_))
    show l.val = 64 + (l.val - 64)
    omega

omit H in
theorem word_eighth : Ideal.ofBits .f32 0x3E000000#32 = ((1 / 8 : ℝ) : EReal) := by
  simp [Ideal.ofBits, Ideal.ieee, -EReal.coe_mul]; norm_num

theorem ptDq_even (T : Tables (tab x7) (tab x8) (tab x9) cs sn) (p : Fin 8) (r : Fin 128) (e : Fin 64) :
    ptDq i x0 x1 x2 x3 x4 x5 x6 x7 x8 x9 p (ix2 r ⟨e.val, by omega⟩)
      = ((unrot (fun e => ∑ j, gradAt (i 0).val S q d ka kb va vb (evenOf p) r j * bandOf ka kb (groupOf (evenOf p)) j e) (cs r) (sn r) e
          * (1 / 8) : ℝ) : EReal) := by
  have h := unrotate_low T (raw_lanes H p) r e
  unfold ptDq pairDq
  rw [EReal.coe_mul, ← h, ← word_eighth]
  rfl

theorem ptDq_odd (T : Tables (tab x7) (tab x8) (tab x9) cs sn) (p : Fin 8) (r : Fin 128) (e : Fin 64) :
    ptDq i x0 x1 x2 x3 x4 x5 x6 x7 x8 x9 p (ix2 r ⟨64 + e.val, by omega⟩)
      = ((unrot (fun e => ∑ j, gradAt (i 0).val S q d ka kb va vb (oddOf p) r j * bandOf ka kb (groupOf (oddOf p)) j e) (cs r) (sn r) e
          * (1 / 8) : ℝ) : EReal) := by
  have h := unrotate_high T (raw_lanes H p) r e
  unfold ptDq pairDq
  rw [EReal.coe_mul, ← h, ← word_eighth]
  rfl

omit H in
theorem dqBlk_at (p : Fin 8) (r l : Fin 128) :
    dqBlk i x0 x1 x2 x3 x4 x5 x6 x7 x8 x9 (ix2 r ⟨128 * p.val + l.val, by omega⟩) = ptDq i x0 x1 x2 x3 x4 x5 x6 x7 x8 x9 p (ix2 r l) := by
  have hl := l.isLt
  fin_cases p <;> pointwise [dqBlk]
  all_goals
    repeat rw [dif_neg (by omega)]
    try rw [dif_pos (by omega)]
    refine congrArg _ (congrArg (ix2 r) (Fin.ext ?_))
    simp only
    omega

theorem dqBlk_real (T : Tables (tab x7) (tab x8) (tab x9) cs sn) (h : Fin 16) (r : Fin 128) (e : Fin 64) :
    dqBlk i x0 x1 x2 x3 x4 x5 x6 x7 x8 x9 (ix2 r ⟨64 * h.val + e.val, by omega⟩)
      = ((unrot (fun e => ∑ j, gradAt (i 0).val S q d ka kb va vb h r j * bandOf ka kb (groupOf h) j e) (cs r) (sn r) e
          * (1 / 8) : ℝ) : EReal) := by
  rcases Nat.even_or_odd' h.val with ⟨p, hp | hp⟩
  · have hh : h = evenOf ⟨p, by omega⟩ := Fin.ext hp
    rw [hh, ← ptDq_even H T, ← dqBlk_at]
    refine congrArg _ (congrArg (ix2 r) (Fin.ext ?_))
    show 64 * (2 * p) + e.val = 128 * p + e.val
    omega
  · have hh : h = oddOf ⟨p, by omega⟩ := Fin.ext hp
    rw [hh, ← ptDq_odd H T, ← dqBlk_at]
    refine congrArg _ (congrArg (ix2 r) (Fin.ext ?_))
    show 64 * (2 * p + 1) + e.val = 128 * p + (64 + e.val)
    omega

/-! ### The keys' and values' gradients -/

omit H in
theorem folds_at (a : Fin 4 → FVec Ideal S64x256 .f32) (j : Fin 256) (g : Fin 4) (e : Fin 64) :
    folds (a 0) (a 1) (a 2) (a 3) (ix2 j ⟨64 * g.val + e.val, by omega⟩) = a g (ix2 e j) := by
  have he := e.isLt
  fin_cases g <;> pointwise [folds]
  all_goals
    repeat rw [dif_neg (by omega)]
    try rw [dif_pos (by omega)]
    refine congrArg _ (congrArg (fun u => ix2 u j) (Fin.ext ?_))
    simp only
    omega

theorem ptDk_even (p : Fin 8) (e : Fin 64) (j : Fin 256) :
    ptDk i x0 x1 x2 x3 x4 x5 x6 p (ix2 ⟨e.val, by omega⟩ ⟨j.val, by omega⟩)
      = ((∑ r, q (evenOf p) r e * gradAt (i 0).val S q d ka kb va vb (evenOf p) r j : ℝ) : EReal) := by
  unfold gradAt
  rw [group_even]
  exact pairDk_low (msk_masks i) (cols_paired H.x1 p) (cols_paired H.x6 p) (lay_laid H.x2 H.x3 _) (lay_laid H.x4 H.x5 _) (sink_even H p) e j

theorem ptDk_odd (p : Fin 8) (e : Fin 64) (j : Fin 256) :
    ptDk i x0 x1 x2 x3 x4 x5 x6 p (ix2 ⟨64 + e.val, by omega⟩ ⟨256 + j.val, by omega⟩)
      = ((∑ r, q (oddOf p) r e * gradAt (i 0).val S q d ka kb va vb (oddOf p) r j : ℝ) : EReal) := by
  unfold gradAt
  rw [group_odd]
  exact pairDk_high (msk_masks i) (cols_paired H.x1 p) (cols_paired H.x6 p) (lay_laid H.x2 H.x3 _) (lay_laid H.x4 H.x5 _) (sink_odd H p) e j

theorem ptDv_even (p : Fin 8) (e : Fin 64) (j : Fin 256) :
    ptDv i x0 x1 x2 x3 x6 p (ix2 ⟨e.val, by omega⟩ ⟨j.val, by omega⟩)
      = ((∑ r, d (evenOf p) r e * probAt (i 0).val S q ka kb (evenOf p) r j : ℝ) : EReal) := by
  unfold probAt
  rw [group_even]
  exact pairDv_low (msk_masks i) (cols_paired H.x1 p) (cols_paired H.x6 p) (lay_laid H.x2 H.x3 _) (sink_even H p) e j

theorem ptDv_odd (p : Fin 8) (e : Fin 64) (j : Fin 256) :
    ptDv i x0 x1 x2 x3 x6 p (ix2 ⟨64 + e.val, by omega⟩ ⟨256 + j.val, by omega⟩)
      = ((∑ r, d (oddOf p) r e * probAt (i 0).val S q ka kb (oddOf p) r j : ℝ) : EReal) := by
  unfold probAt
  rw [group_odd]
  exact pairDv_high (msk_masks i) (cols_paired H.x1 p) (cols_paired H.x6 p) (lay_laid H.x2 H.x3 _) (sink_odd H p) e j

omit H in
/-- Two pairs folded: the four heads of a group. -/
theorem fold_real (t : Fin 8 → FVec Ideal S128x512 .f32) (f : Fin 16 → ℝ) (e : Fin 64) (j : Fin 256)
    (h0 : ∀ p, t p (ix2 ⟨e.val, by omega⟩ ⟨j.val, by omega⟩) = (f (evenOf p) : EReal))
    (h1 : ∀ p, t p (ix2 ⟨64 + e.val, by omega⟩ ⟨256 + j.val, by omega⟩) = (f (oddOf p) : EReal)) (g : Fin 4) :
    fold (t ⟨2 * g.val, by omega⟩) (t ⟨2 * g.val + 1, by omega⟩) (ix2 e j) = ((∑ a, f (headOf g a) : ℝ) : EReal) := by
  pointwise [fold]
  rw [h0, h0, h1, h1, ← EReal.coe_add, ← EReal.coe_add, ← EReal.coe_add, Fin.sum_univ_four]
  have e0 : evenOf ⟨2 * g.val, by omega⟩ = headOf g 0 := Fin.ext (by show 2 * (2 * g.val) = 4 * g.val + 0; omega)
  have e1 : oddOf ⟨2 * g.val, by omega⟩ = headOf g 1 := Fin.ext (by show 2 * (2 * g.val) + 1 = 4 * g.val + 1; omega)
  have e2 : evenOf ⟨2 * g.val + 1, by omega⟩ = headOf g 2 := Fin.ext (by show 2 * (2 * g.val + 1) = 4 * g.val + 2; omega)
  have e3 : oddOf ⟨2 * g.val + 1, by omega⟩ = headOf g 3 := Fin.ext (by show 2 * (2 * g.val + 1) + 1 = 4 * g.val + 3; omega)
  rw [e0, e1, e2, e3]
  congr 1
  ring

theorem dkBand_real (j : Fin 256) (g : Fin 4) (e : Fin 64) :
    dkBand i x0 x1 x2 x3 x4 x5 x6 (ix2 j ⟨64 * g.val + e.val, group_lt g e⟩)
      = ((∑ a, ∑ r, q (headOf g a) r e * gradAt (i 0).val S q d ka kb va vb (headOf g a) r j : ℝ) : EReal) :=
  (folds_at (fun g => fold (ptDk i x0 x1 x2 x3 x4 x5 x6 ⟨2 * g.val, by omega⟩) (ptDk i x0 x1 x2 x3 x4 x5 x6 ⟨2 * g.val + 1, by omega⟩)) j g e).trans
    (fold_real (ptDk i x0 x1 x2 x3 x4 x5 x6) (fun h => ∑ r, q h r e * gradAt (i 0).val S q d ka kb va vb h r j) e j
      (fun p => ptDk_even H p e j) (fun p => ptDk_odd H p e j) g)

theorem dvBand_real (j : Fin 256) (g : Fin 4) (e : Fin 64) :
    dvBand i x0 x1 x2 x3 x6 (ix2 j ⟨64 * g.val + e.val, group_lt g e⟩)
      = ((∑ a, ∑ r, d (headOf g a) r e * probAt (i 0).val S q ka kb (headOf g a) r j : ℝ) : EReal) :=
  (folds_at (fun g => fold (ptDv i x0 x1 x2 x3 x6 ⟨2 * g.val, by omega⟩) (ptDv i x0 x1 x2 x3 x6 ⟨2 * g.val + 1, by omega⟩)) j g e).trans
    (fold_real (ptDv i x0 x1 x2 x3 x6) (fun h => ∑ r, d h r e * probAt (i 0).val S q ka kb h r j) e j
      (fun p => ptDv_even H p e j) (fun p => ptDv_odd H p e j) g)

/-! ### The sinks' gradient -/

theorem ptEven_real (p : Fin 8) : ptEven i x0 x1 x2 x3 x4 x5 x6 p (ix2 0 0) = (sinkAt (i 0).val S q d ka kb va vb (evenOf p) : EReal) := by
  unfold sinkAt
  rw [group_even]
  exact headDk_real (scores_left (msk_masks i) (cols_paired H.x1 p) (lay_laid H.x2 H.x3 _))
    (back_left (cols_paired H.x6 p) (lay_laid H.x4 H.x5 _)) (sink_even H p)

theorem ptOdd_real (p : Fin 8) : ptOdd i x0 x1 x2 x3 x4 x5 x6 p (ix2 0 0) = (sinkAt (i 0).val S q d ka kb va vb (oddOf p) : EReal) := by
  unfold sinkAt
  rw [group_odd]
  exact headDk_real (scores_right (msk_masks i) (cols_paired H.x1 p) (lay_laid H.x2 H.x3 _))
    (back_right (cols_paired H.x6 p) (lay_laid H.x4 H.x5 _)) (sink_odd H p)

omit H in
theorem laneAt_at (n : ℕ) (hn : n < 16) (x : FVec Ideal S1x1 .f32) (l : Fin 128) :
    laneAt (BitVec.ofNat 32 n) x (ix2 0 l) = if l.val = n then x (ix2 0 0) else (0 : EReal) := by
  have hl := l.isLt
  pointwise [laneAt]
  rw [cmpi_eq_ofNat (by omega) (by omega)]
  by_cases h : l.val = n
  · simp [h, Scalar.select]
  · simp [h, Scalar.select]

omit H in
/-- Sixteen numbers at the first sixteen lanes. -/
def rowOf (f : Fin 16 → ℝ) (n : ℕ) (l : Fin 128) : ℝ := if h : l.val < 16 then (if l.val < n then f ⟨l.val, h⟩ else 0) else 0

theorem dsRow_real (n : ℕ) (hn : n ≤ 8) (l : Fin 128) :
    dsRow i x0 x1 x2 x3 x4 x5 x6 n (ix2 0 l) = (rowOf (sinkAt (i 0).val S q d ka kb va vb) (2 * n) l : EReal) := by
  induction n with
  | zero =>
    unfold dsRow rowOf
    pointwise []
    simp
  | succ n ih =>
    unfold dsRow
    rw [dif_pos (by omega)]
    pointwise []
    rw [ih (by omega), laneAt_at _ (by omega), laneAt_at _ (by omega), ptEven_real H, ptOdd_real H]
    unfold rowOf
    by_cases h : l.val < 16
    · simp only [dif_pos h]
      rcases Nat.lt_trichotomy l.val (2 * n) with h1 | h1 | h1
      · rw [if_pos h1, if_neg (by omega), if_neg (by omega), if_pos (by omega), add_zero, add_zero]
      · rw [if_neg (by omega), if_pos h1, if_neg (by omega), if_pos (by omega), EReal.coe_zero, zero_add, add_zero]
        exact congrArg (fun u => (sinkAt (i 0).val S q d ka kb va vb u : EReal)) (Fin.ext h1.symm)
      · by_cases h2 : l.val = 2 * n + 1
        · rw [if_neg (by omega), if_neg (by omega), if_pos h2, if_pos (by omega), EReal.coe_zero, zero_add, zero_add]
          exact congrArg (fun u => (sinkAt (i 0).val S q d ka kb va vb u : EReal)) (Fin.ext h2.symm)
        · rw [if_neg (by omega), if_neg (by omega), if_neg h2, if_neg (by omega), EReal.coe_zero, zero_add, zero_add]
    · simp only [dif_neg h]
      rw [if_neg (by omega), if_neg (by omega), EReal.coe_zero, add_zero, add_zero]

end Point

end Cert.AttnIdeal.Body

end
-- ==== Proof.AttnData.lean ====
/- The reals behind the attention's arguments, when those are finite. -/
module

public import proofs.«01_k».proof.Proof.AttnSpec
public import proofs.«01_k».proof.Proof.Gen.AttnRefIdeal.Read

@[expose] public section

set_option maxRecDepth 16384

noncomputable section

namespace Cert.AttnRefIdeal.Data

open Cert.AttnRefIdeal Cert.AttnRefIdeal.Read Cert.Step Cert.Step.Attn
open Idealize.ShloMosaic Idealize.ShloMosaic.TcCoe Idealize.ShloMosaic.StableHlo

section
variable (x0 x5 : FVec Ideal S8192x1024 .f32) (x1 x2 : FVec Ideal S8192x256 .f32) (x3 : FVec Ideal S16 .f32) (x4 : IVec S8192 32)

/-- The arguments and their rotations at the reals. -/
structure Holds (I : Inputs) : Prop where
  q : ∀ n h r e, val_main_v34 (F := Ideal) x0 x4 (ix3 (tok n r) h e) = (I.Q n h r e : EReal)
  k : ∀ n r g e, val_main_v69 (F := Ideal) x1 x4 (ix3 (tok n r) g e) = (I.K n r g e : EReal)
  v : ∀ n r (g : Fin 4) (e : Fin 64), x2 (ix2 (tok n r) ⟨64 * g.val + e.val, by omega⟩) = (I.V n r g e : EReal)
  d : ∀ n (h : Fin 16) r (e : Fin 64), x5 (ix2 (tok n r) ⟨64 * h.val + e.val, by omega⟩) = (I.D n h r e : EReal)
  s : ∀ h, x3 (ix1 h) = (I.S h : EReal)
  c : ∀ n r i, val_main_v17 (F := Ideal) x4 (ix2 (tok n r) i) = (I.C n r i : EReal)
  n : ∀ n r i, val_main_v19 (F := Ideal) x4 (ix2 (tok n r) i) = (I.N n r i : EReal)

theorem angle_real (t : Fin 8192) (i : Fin 8) : ∃ y : ℝ, val_main_v16 (F := Ideal) x4 (ix2 t i) = (y : EReal) := by
  pointwise [val_main_v16, val_main_v15, val_main_v14, val_main_v13, val_main_v12, val_main_v11, val_main_v10, val_main_v9, val_main_v8,
    val_main_v7, val_main_v6, val_main_v5, val_main_v4, val_main_v3, val_main_v2, val_main_v1, val_main_cst, val_main_cst_0, val_main_cst_1,
    val_main_cst_2]
  have hz : Ideal.ofBits .f32 1223959552#32 = ((500000 : ℝ) : EReal) := by
    simp [Ideal.ofBits, Ideal.ieee, -EReal.coe_mul]; norm_num
  have hd : Ideal.ofBits .f32 1098907648#32 = ((16 : ℝ) : EReal) := by
    simp [Ideal.ofBits, Ideal.ieee, -EReal.coe_mul]; norm_num
  have hi : ∀ b : BitVec 32, (FloatOps.sitofp FTy.f32 b : Ideal .f32) = ((b.toInt : ℝ) : EReal) := fun _ => rfl
  have h2 : Ideal.ofBits .f32 1073741824#32 = ((2 : ℝ) : EReal) := word_two
  rw [hz, hd, h2, hi, hi, ← EReal.coe_mul, ← EReal.coe_neg, div_real (by norm_num), Ideal.pow_coe_coe, ← EReal.coe_mul]
  exact ⟨_, rfl⟩

theorem cos_real (t : Fin 8192) (i : Fin 8) : ∃ y : ℝ, val_main_v17 (F := Ideal) x4 (ix2 t i) = (y : EReal) := by
  obtain ⟨y, hy⟩ := angle_real x4 t i
  refine ⟨Real.cos y, ?_⟩
  show Ideal.cos (val_main_v16 (F := Ideal) x4 (ix2 t i)) = _
  rw [hy, Ideal.cos_coe]

theorem sin_real (t : Fin 8192) (i : Fin 8) : ∃ y : ℝ, val_main_v19 (F := Ideal) x4 (ix2 t i) = (y : EReal) := by
  obtain ⟨y, hy⟩ := angle_real x4 t i
  refine ⟨Real.sin y, ?_⟩
  show Ideal.sin (val_main_v16 (F := Ideal) x4 (ix2 t i)) = _
  rw [hy, Ideal.sin_coe]

variable {x0 x1 x2 x3 x5}

theorem q_real (h0 : ∀ i, ∃ y : ℝ, x0 i = (y : EReal)) (t : Fin 8192) (h : Fin 16) (e : Fin 64) :
    ∃ y : ℝ, val_main_v34 (F := Ideal) x0 x4 (ix3 t h e) = (y : EReal) := by
  choose X hX using h0
  choose C hC using cos_real x4
  choose N hN using sin_real x4
  pointwise [val_main_v34, val_main_v33, val_main_v32, val_main_v31, val_main_v30, val_main_v29, val_main_v28, val_main_v27, val_main_v26,
    val_main_v25, val_main_v24, val_main_v23, val_main_v22, val_main_v21, val_main_v20, val_main_v18, val_main_v0]
  simp only [hX, hC, hN, ← EReal.coe_mul, ← EReal.coe_add, ← EReal.coe_sub]
  split_ifs <;> exact ⟨_, rfl⟩

theorem k_real (h1 : ∀ i, ∃ y : ℝ, x1 i = (y : EReal)) (t : Fin 8192) (g : Fin 4) (e : Fin 64) :
    ∃ y : ℝ, val_main_v69 (F := Ideal) x1 x4 (ix3 t g e) = (y : EReal) := by
  choose X hX using h1
  choose C hC using (show ∀ t i, ∃ y : ℝ, val_main_v52 (F := Ideal) x4 (ix2 t i) = (y : EReal) from cos_real x4)
  choose N hN using (show ∀ t i, ∃ y : ℝ, val_main_v54 (F := Ideal) x4 (ix2 t i) = (y : EReal) from sin_real x4)
  pointwise [val_main_v69, val_main_v68, val_main_v67, val_main_v66, val_main_v65, val_main_v64, val_main_v63, val_main_v62, val_main_v61,
    val_main_v60, val_main_v59, val_main_v58, val_main_v57, val_main_v56, val_main_v55, val_main_v53, val_main_v35]
  simp only [hX, hC, hN, ← EReal.coe_mul, ← EReal.coe_add, ← EReal.coe_sub]
  split_ifs <;> exact ⟨_, rfl⟩

theorem holds_of_real (h0 : ∀ i, ∃ y : ℝ, x0 i = (y : EReal)) (h1 : ∀ i, ∃ y : ℝ, x1 i = (y : EReal))
    (h2 : ∀ i, ∃ y : ℝ, x2 i = (y : EReal)) (h3 : ∀ i, ∃ y : ℝ, x3 i = (y : EReal)) (h5 : ∀ i, ∃ y : ℝ, x5 i = (y : EReal)) :
    ∃ I : Inputs, Holds x0 x5 x1 x2 x3 x4 I := by
  choose Q hQ using q_real x4 h0
  choose K hK using k_real x4 h1
  choose V hV using h2
  choose S hS using h3
  choose D hD using h5
  choose C hC using cos_real x4
  choose N hN using sin_real x4
  exact ⟨⟨fun n h r e => Q (tok n r) h e, fun n h r e => D (ix2 (tok n r) ⟨64 * h.val + e.val, by omega⟩), fun n r g e => K (tok n r) g e,
    fun n r g e => V (ix2 (tok n r) ⟨64 * g.val + e.val, by omega⟩), fun h => S (ix1 h), fun n r i => C (tok n r) i, fun n r i => N (tok n r) i⟩,
    ⟨fun _ _ _ _ => hQ _ _ _, fun _ _ _ _ => hK _ _ _, fun _ _ _ _ => hV _, fun _ _ _ _ => hD _, fun _ => hS _, fun _ _ _ => hC _ _,
      fun _ _ _ => hN _ _⟩⟩

end

end Cert.AttnRefIdeal.Data

end
-- ==== Proof.AttnHost.lean ====
/- What the attention call's windows find at a grid point, from the reals behind the arguments. -/
module

public import proofs.«01_k».proof.Proof.AttnFrame
public import proofs.«01_k».proof.Proof.AttnPoint
public import proofs.«01_k».proof.Proof.AttnData
public import Idealize.ShloMosaic.Lib.StableHlo.RunRead
public import Idealize.ShloMosaic.Lib.StableHlo.ReadAt
public import Idealize.ShloMosaic.Lib.Pipeline.ValueKit

@[expose] public section

set_option maxRecDepth 16384

noncomputable section

namespace Cert.AttnIdeal.Body

open Cert.AttnIdeal Cert.AttnIdeal.Gen Cert.Step Cert.Step.Attn Cert.AttnRefIdeal.Read Cert.AttnRefIdeal.Data
open Idealize.ShloMosaic Idealize.ShloMosaic.TcCoe Idealize.ShloMosaic.Tactic Idealize.ShloMosaic.StableHlo Idealize.SL.Sem

/-! ## The tables of the rotation -/

/-- Two copies of 8, 8 and 48 lanes. -/
def table (a b : FVec Ideal S8192x8 .f32) (r : FVec Ideal S8192x48 .f32) : FVec Ideal S8192x128 .f32 :=
  concatenate S8192x128 1 [⟨S8192x8, a⟩, ⟨S8192x8, b⟩, ⟨S8192x48, r⟩, ⟨S8192x8, a⟩, ⟨S8192x8, b⟩, ⟨S8192x48, r⟩]
    concatenates_S8192x8_S8192x8_S8192x48_S8192x8_S8192x8_S8192x48_S8192x128_d1

theorem table_at (a b : FVec Ideal S8192x8 .f32) (r : FVec Ideal S8192x48 .f32) (x y z : ℕ → ℝ) (t : Fin 8192)
    (ha : ∀ i : Fin 8, a (ix2 t i) = (x i.val : EReal)) (hb : ∀ i : Fin 8, b (ix2 t i) = (y i.val : EReal))
    (hr : ∀ i : Fin 48, r (ix2 t i) = (z i.val : EReal)) (l : Fin 128) :
    table a b r (ix2 t l) = ((if l.val % 64 < 8 then x (l.val % 64) else if l.val % 64 < 16 then y (l.val % 64 - 8)
      else z (l.val % 64 - 16) : ℝ) : EReal) := by
  have hl := l.isLt
  pointwise [table]
  simp only [ha, hb, hr]
  split_ifs <;> first | omega | (refine congrArg (fun v : ℝ => (v : EReal)) (congrArg _ ?_); omega)

variable (m : (ℓ : Loc nD τ sig) → Buf (Elt Ideal) ℓ) (c : Dev nD)

abbrev argQ : FVec Ideal S8192x1024 .f32 := m ((c : Thread nD τ).loc main_arg0)
abbrev argK : FVec Ideal S8192x256 .f32 := m ((c : Thread nD τ).loc main_arg1)
abbrev argV : FVec Ideal S8192x256 .f32 := m ((c : Thread nD τ).loc main_arg2)
abbrev argS : FVec Ideal S16 .f32 := m ((c : Thread nD τ).loc main_arg3)
abbrev argP : IVec S8192 32 := m ((c : Thread nD τ).loc main_arg4)
abbrev argD : FVec Ideal S8192x1024 .f32 := m ((c : Thread nD τ).loc main_arg5)

def zero8 : FVec Ideal S8192x8 .f32 := broadcastInDim S8192x8 ![] bcast_S_S8192x8 (constant S_ .f32 0x00000000#32)
def zero48 : FVec Ideal S8192x48 .f32 := broadcastInDim S8192x48 ![] bcast_S_S8192x48 (constant S_ .f32 0x00000000#32)
def one48 : FVec Ideal S8192x48 .f32 := addf zero48 (broadcastInDim S8192x48 ![] bcast_S_S8192x48 (constant S_ .f32 0x3F800000#32))

theorem found_q : V m c main_v100 = (truncf .bf16 (mulf (shapeCast S8192x1024 (val_main_v34 (F := Ideal) (argQ m c) (argP m c)) (by decide))
    (broadcastInDim S8192x1024 ![] bcast_S_S8192x1024 (constant S_ .f32 0x3E000000#32))) bitsLt_bf16_f32 : FVec Ideal S8192x1024 .bf16) := by
  show StableHlo.after _ _ (Proc.devRef .tc main_v100) = _
  after_reads_simp
  rfl

theorem found_k : V m c main_v101 = (truncf .bf16 (shapeCast S8192x256 (val_main_v69 (F := Ideal) (argK m c) (argP m c)) (by decide))
    bitsLt_bf16_f32 : FVec Ideal S8192x256 .bf16) := by
  show StableHlo.after _ _ (Proc.devRef .tc main_v101) = _
  after_reads_simp
  rfl

theorem found_v : V m c main_v102 = (truncf .bf16 (argV m c) bitsLt_bf16_f32 : FVec Ideal S8192x256 .bf16) := by
  show StableHlo.after _ _ (Proc.devRef .tc main_v102) = _
  after_reads_simp

theorem found_d : V m c main_v103 = (truncf .bf16 (argD m c) bitsLt_bf16_f32 : FVec Ideal S8192x1024 .bf16) := by
  show StableHlo.after _ _ (Proc.devRef .tc main_v103) = _
  after_reads_simp

theorem found_s : V m c main_arg3 = argS m c := by
  show StableHlo.after _ _ (Proc.devRef .tc main_arg3) = _
  after_reads_simp

theorem found_c : V m c main_v96 = (table (val_main_v17 (F := Ideal) (argP m c)) (val_main_v17 (F := Ideal) (argP m c)) one48
    : FVec Ideal S8192x128 .f32) := by
  show StableHlo.after _ _ (Proc.devRef .tc main_v96) = _
  after_reads_simp
  rfl

theorem found_s1 : V m c main_v98 = (table (Host.negf (val_main_v19 (F := Ideal) (argP m c))) zero8 zero48 : FVec Ideal S8192x128 .f32) := by
  show StableHlo.after _ _ (Proc.devRef .tc main_v98) = _
  after_reads_simp
  rfl

theorem found_s2 : V m c main_v99 = (table zero8 (val_main_v19 (F := Ideal) (argP m c)) zero48 : FVec Ideal S8192x128 .f32) := by
  show StableHlo.after _ _ (Proc.devRef .tc main_v99) = _
  after_reads_simp
  rfl

/-! ## Read at a token -/

variable {m c} {I : Inputs} (H : Holds (argQ m c) (argD m c) (argK m c) (argV m c) (argS m c) (argP m c) I)
include H

theorem host_q (n : Fin 64) (h : Fin 16) (r : Fin 128) (e : Fin 64) :
    V m c main_v100 (ix2 (tok n r) ⟨64 * h.val + e.val, by omega⟩) = (I.q n h r e : EReal) := by
  rw [found_q]
  have hq := H.q n h r e
  generalize val_main_v34 (F := Ideal) (argQ m c) (argP m c) = x at hq ⊢
  pointwise []
  have h1 : (64 * h.val + e.val) / 64 = h.val := by omega
  have h2 : (64 * h.val + e.val) % 64 = e.val := by omega
  simp only [h1, h2, Fin.eta, hq, word_eighth, ← EReal.coe_mul]
  rfl

theorem host_k (n : Fin 64) (r : Fin 128) (g : Fin 4) (e : Fin 64) :
    V m c main_v101 (ix2 (tok n r) ⟨64 * g.val + e.val, by omega⟩) = (I.K n r g e : EReal) := by
  rw [found_k]
  have hk := H.k n r g e
  generalize val_main_v69 (F := Ideal) (argK m c) (argP m c) = x at hk ⊢
  pointwise []
  have h1 : (64 * g.val + e.val) / 64 = g.val := by omega
  have h2 : (64 * g.val + e.val) % 64 = e.val := by omega
  simp only [h1, h2, Fin.eta, hk]

theorem host_v (n : Fin 64) (r : Fin 128) (g : Fin 4) (e : Fin 64) :
    V m c main_v102 (ix2 (tok n r) ⟨64 * g.val + e.val, by omega⟩) = (I.V n r g e : EReal) := by
  rw [found_v]
  exact H.v n r g e

theorem host_d (n : Fin 64) (h : Fin 16) (r : Fin 128) (e : Fin 64) :
    V m c main_v103 (ix2 (tok n r) ⟨64 * h.val + e.val, by omega⟩) = (I.D n h r e : EReal) := by
  rw [found_d]
  exact H.d n h r e

omit H in
theorem zero8_at (t : Fin 8192) (i : Fin 8) : zero8 (ix2 t i) = ((0 : ℝ) : EReal) := by
  pointwise [zero8]
  rfl
omit H in
theorem zero48_at (t : Fin 8192) (i : Fin 48) : zero48 (ix2 t i) = ((0 : ℝ) : EReal) := by
  pointwise [zero48]
  rfl
omit H in
theorem one48_at (t : Fin 8192) (i : Fin 48) : one48 (ix2 t i) = ((1 : ℝ) : EReal) := by
  pointwise [one48, zero48]
  rfl

/-- A row of eight as a function of the lane's number. -/
def eight (f : Fin 8 → ℝ) (k : ℕ) : ℝ := f ⟨k % 8, Nat.mod_lt _ (by omega)⟩

omit H in
theorem eight_val (f : Fin 8 → ℝ) (i : Fin 8) : eight f i.val = f i := by
  unfold eight; congr 1; exact Fin.ext (Nat.mod_eq_of_lt i.isLt)

theorem host_c (n : Fin 64) (r : Fin 128) (l : Fin 128) :
    V m c main_v96 (ix2 (tok n r) l) = (cosAt (I.C n r) (l.val % 64) : EReal) := by
  rw [found_c, table_at _ _ _ (eight (I.C n r)) (eight (I.C n r)) (fun _ => 1) _ (fun i => by rw [H.c, eight_val])
    (fun i => by rw [H.c, eight_val]) (fun i => one48_at _ _)]
  unfold cosAt eight
  congr 1
  split_ifs <;> first | omega | rfl | (congr 2; omega)

theorem host_s1 (n : Fin 64) (r : Fin 128) (l : Fin 128) :
    V m c main_v98 (ix2 (tok n r) l) = (downAt (I.N n r) (l.val % 64) : EReal) := by
  rw [found_s1, table_at _ _ _ (fun k => -eight (I.N n r) k) (fun _ => 0) (fun _ => 0) _ (fun i => by
      show -(val_main_v19 (F := Ideal) (argP m c) (ix2 (tok n r) i)) = _
      rw [H.n, eight_val, EReal.coe_neg]) (fun i => zero8_at _ _) (fun i => zero48_at _ _)]
  unfold downAt eight
  congr 1
  split_ifs <;> first | omega | rfl

theorem host_s2 (n : Fin 64) (r : Fin 128) (l : Fin 128) :
    V m c main_v99 (ix2 (tok n r) l) = (upAt (I.N n r) (l.val % 64) : EReal) := by
  rw [found_s2, table_at _ _ _ (fun _ => 0) (eight (I.N n r)) (fun _ => 0) _ (fun i => zero8_at _ _)
      (fun i => by rw [H.n, eight_val]) (fun i => zero48_at _ _)]
  unfold upAt eight
  congr 1
  split_ifs <;> first | omega | rfl | (congr 2; omega)

/-! ## The windows' blocks -/

omit H in
theorem idx : ∀ t : Fin cfg0.N, win0_0.index t = ![0] ∧ win0_1.index t = ![min t.val 63, 0] ∧ win0_2.index t = ![min t.val 64 - 1, 0]
    ∧ win0_3.index t = ![min t.val 63, 0] ∧ win0_4.index t = ![min t.val 64 - 1, 0] ∧ win0_5.index t = ![min t.val 63, 0]
    ∧ win0_6.index t = ![min t.val 63, 0] ∧ win0_7.index t = ![min t.val 63, 0] ∧ win0_8.index t = ![min t.val 63, 0]
    ∧ win0_9.index t = ![min t.val 63, 0] ∧ win0_10.index t = ![t.val - 1, 0] ∧ win0_11.index t = ![t.val - 1, 0]
    ∧ win0_12.index t = ![t.val - 1, 0] ∧ win0_13.index t = ![min t.val 63, 0] ∧ win0_14.index t = ![t.val - 1, 0]
    ∧ win0_15.index t = ![t.val - 1, 0] ∧ win0_16.index t = ![0, 0] :=
  (by decide +kernel : ∀ t : Fin grid0.N, _)

/-- The grid point of block `n`, and the block before it. -/
def pt (n : Fin 64) : Fin cfg0.N := ⟨n.val, lt_of_lt_of_eq (by omega) (show cfg0.N = 65 from N_0).symm⟩
def older (n : Fin 64) : Fin 64 := ⟨n.val - 1, by omega⟩

omit H in
theorem own (n : Fin 64) : min (pt n).val 63 = n.val := by show min n.val 63 = n.val; omega
omit H in
theorem prior (n : Fin 64) : min (pt n).val 64 - 1 = (older n).val := by show min n.val 64 - 1 = n.val - 1; omega

theorem blk_q (n : Fin 64) (h : Fin 16) (r : Fin 128) (e : Fin 64) :
    iblk m c 1 (pt n) (ix2 r ⟨64 * h.val + e.val, by omega⟩) = (I.q n h r e : EReal) := by
  rw [← host_q H]
  blk_point [iblk, idx (pt n), own n, tok]

theorem blk_d (n : Fin 64) (h : Fin 16) (r : Fin 128) (e : Fin 64) :
    iblk m c 6 (pt n) (ix2 r ⟨64 * h.val + e.val, by omega⟩) = (I.D n h r e : EReal) := by
  rw [← host_d H]
  blk_point [iblk, idx (pt n), own n, tok]

theorem blk_ka (n : Fin 64) (r : Fin 128) (g : Fin 4) (e : Fin 64) :
    iblk m c 2 (pt n) (ix2 r ⟨64 * g.val + e.val, by omega⟩) = (I.K (older n) r g e : EReal) := by
  rw [← host_k H]
  blk_point [iblk, idx (pt n), prior n, tok]

theorem blk_kb (n : Fin 64) (r : Fin 128) (g : Fin 4) (e : Fin 64) :
    iblk m c 3 (pt n) (ix2 r ⟨64 * g.val + e.val, by omega⟩) = (I.K n r g e : EReal) := by
  rw [← host_k H]
  blk_point [iblk, idx (pt n), own n, tok]

theorem blk_va (n : Fin 64) (r : Fin 128) (g : Fin 4) (e : Fin 64) :
    iblk m c 4 (pt n) (ix2 r ⟨64 * g.val + e.val, by omega⟩) = (I.V (older n) r g e : EReal) := by
  rw [← host_v H]
  blk_point [iblk, idx (pt n), prior n, tok]

theorem blk_vb (n : Fin 64) (r : Fin 128) (g : Fin 4) (e : Fin 64) :
    iblk m c 5 (pt n) (ix2 r ⟨64 * g.val + e.val, by omega⟩) = (I.V n r g e : EReal) := by
  rw [← host_v H]
  blk_point [iblk, idx (pt n), own n, tok]

theorem blk_s (n : Fin 64) (h : Fin 16) : iblk m c 0 (pt n) (ix1 h) = (I.S h : EReal) := by
  rw [← H.s h]
  show _ = argS m c (ix1 h)
  rw [← found_s m c]
  blk_point [iblk, idx (pt n)]

theorem blk_c (n : Fin 64) (r l : Fin 128) : iblk m c 7 (pt n) (ix2 r l) = (cosAt (I.C n r) (l.val % 64) : EReal) := by
  rw [← host_c H]
  blk_point [iblk, idx (pt n), own n, tok]

theorem blk_s1 (n : Fin 64) (r l : Fin 128) : iblk m c 8 (pt n) (ix2 r l) = (downAt (I.N n r) (l.val % 64) : EReal) := by
  rw [← host_s1 H]
  blk_point [iblk, idx (pt n), own n, tok]

theorem blk_s2 (n : Fin 64) (r l : Fin 128) : iblk m c 9 (pt n) (ix2 r l) = (upAt (I.N n r) (l.val % 64) : EReal) := by
  rw [← host_s2 H]
  blk_point [iblk, idx (pt n), own n, tok]

/-- The grid point after block `n`'s, which writes its keys' and values' gradients. -/
def after (n : Fin 64) : Fin cfg0.N := ⟨n.val + 1, lt_of_lt_of_eq (by omega) (show cfg0.N = 65 from N_0).symm⟩

omit H in
theorem written (n : Fin 64) : (after n).val - 1 = n.val := by show n.val + 1 - 1 = n.val; omega

theorem tab_c (n : Fin 64) (r l : Fin 128) : iblk m c 10 (after n) (ix2 r l) = (cosAt (I.C n r) (l.val % 64) : EReal) := by
  rw [← host_c H]
  blk_point [iblk, idx (after n), written n, tok]

theorem tab_s1 (n : Fin 64) (r l : Fin 128) : iblk m c 11 (after n) (ix2 r l) = (downAt (I.N n r) (l.val % 64) : EReal) := by
  rw [← host_s1 H]
  blk_point [iblk, idx (after n), written n, tok]

theorem tab_s2 (n : Fin 64) (r l : Fin 128) : iblk m c 12 (after n) (ix2 r l) = (upAt (I.N n r) (l.val % 64) : EReal) := by
  rw [← host_s2 H]
  blk_point [iblk, idx (after n), written n, tok]

end Cert.AttnIdeal.Body

end
-- ==== Proof.AttnWrite.lean ====
/- What a point writes of the previous block's gradients, over the reals. -/
module

public import proofs.«01_k».proof.Proof.AttnPoint
public import Idealize.ShloMosaic.Lib.Pipeline.ValueKit

@[expose] public section

set_option maxRecDepth 16384

noncomputable section

namespace Cert.AttnIdeal.Body

open Cert.AttnIdeal Cert.AttnIdeal.Gen Cert.Step Cert.Step.Attn
open Idealize.ShloMosaic Idealize.ShloMosaic.TcCoe Idealize.ShloMosaic.Tactic

theorem halves_low (a b : Vec Ideal S128x128 .bf16) (r l : Fin 128) : halves a b (ix2 r ⟨l.val, by omega⟩) = a (ix2 r l) := by
  unfold halves
  rw [View.canon_cons_of_not_mem]
  · have he : (ix2 r ⟨l.val, by omega⟩ : S128x256.Idx)
        = (Rect.unit (s := S128x256) ![0, 0] S128x128.size inb_S128x256_S128x128_0_0).emb (ix2 r l) := by
      funext i; apply Fin.ext; fin_cases i <;> simp [Rect.unit, Rect.emb, ix2]
    rw [he]
    exact View.canon_cons_emb _ _ _ _
  · intro h
    have h1 : 128 ≤ l.val := ((Rect.mem_set_unit (inb := inb_S128x256_S128x128_0_128)).mp h 1).1
    have := l.isLt
    omega

theorem halves_high (a b : Vec Ideal S128x128 .bf16) (r l : Fin 128) : halves a b (ix2 r ⟨128 + l.val, by omega⟩) = b (ix2 r l) := by
  unfold halves
  have he : (ix2 r ⟨128 + l.val, by omega⟩ : S128x256.Idx)
      = (Rect.unit (s := S128x256) ![0, 128] S128x128.size inb_S128x256_S128x128_0_128).emb (ix2 r l) := by
    funext i; apply Fin.ext; fin_cases i <;> simp [Rect.unit, Rect.emb, ix2]
  rw [he]
  exact View.canon_cons_emb _ _ _ _

theorem tab_at (x : Vec Ideal S128x128 .f32) (r l : Fin 128) : tab x (ix2 r l) = x (ix2 r l) := by pointwise [tab]

theorem upper_at (x : FVec Ideal S256x256 .f32) (r : Fin 128) (l : Fin 256) : upper x (ix2 r l) = x (ix2 ⟨r.val, by omega⟩ l) := by
  pointwise [upper]

theorem keep_at (x : FVec Ideal S256x256 .f32) (r : Fin 128) (l : Fin 256) : keep x (ix2 r l) = x (ix2 ⟨128 + r.val, by omega⟩ l) := by
  pointwise [keep]

theorem zeroBlk_at (r : Fin 128) (l : Fin 256) : zeroBlk (F := Ideal) (ix2 r l) = ((0 : ℝ) : EReal) := by
  pointwise [zeroBlk]
  rfl

section
variable {x u : Vec Ideal S128x256 .f32} {x10 x11 x12 : Vec Ideal S128x128 .f32} {A B : Fin 128 → Fin 4 → Fin 64 → ℝ} {cs sn : Fin 128 → Fin 8 → ℝ}
  (hx : ∀ r (g : Fin 4) (e : Fin 64), x (ix2 r ⟨64 * g.val + e.val, group_lt g e⟩) = (A r g e : EReal))
  (hu : ∀ r (g : Fin 4) (e : Fin 64), u (ix2 r ⟨64 * g.val + e.val, group_lt g e⟩) = (B r g e : EReal))
include hx

theorem all_lanes (r : Fin 128) (l : Fin 256) : x (ix2 r l) = (A r ⟨l.val / 64, by omega⟩ ⟨l.val % 64, Nat.mod_lt _ (by omega)⟩ : EReal) := by
  rw [← hx]
  congr 2
  exact Fin.ext (show l.val = 64 * (l.val / 64) + l.val % 64 by omega)

include hu

theorem left_lanes (r l : Fin 128) : addf (ldLeft x) (extractStridedSlice S128x128 ![0, 0] u slices_S128x256_o0_0_S128x128) (ix2 r l)
    = (lanes (fun r e => A r 0 e + B r 0 e) (fun r e => A r 1 e + B r 1 e) r l : EReal) := by
  have hl := l.isLt
  pointwise [ldLeft]
  rw [all_lanes hx, all_lanes hu, ← EReal.coe_add]
  congr 1
  unfold lanes
  split_ifs with h
  · have h1 : l.val / 64 = 0 := by omega
    have h2 : l.val % 64 = l.val := by omega
    simp only [h1, h2]
    rfl
  · have h1 : l.val / 64 = 1 := by omega
    have h2 : l.val % 64 = l.val - 64 := by omega
    simp only [h1, h2]
    rfl

theorem right_lanes (r l : Fin 128) : addf (ldRight x) (extractStridedSlice S128x128 ![0, 128] u slices_S128x256_o0_128_S128x128) (ix2 r l)
    = (lanes (fun r e => A r 2 e + B r 2 e) (fun r e => A r 3 e + B r 3 e) r l : EReal) := by
  have hl := l.isLt
  pointwise [ldRight]
  rw [all_lanes hx, all_lanes hu, ← EReal.coe_add]
  congr 1
  unfold lanes
  split_ifs with h
  · have h1 : (128 + l.val) / 64 = 2 := by omega
    have h2 : (128 + l.val) % 64 = l.val := by omega
    simp only [h1, h2]
    rfl
  · have h1 : (128 + l.val) / 64 = 3 := by omega
    have h2 : (128 + l.val) % 64 = l.val - 64 := by omega
    simp only [h1, h2]
    rfl

theorem dkBlk_real (T : Tables (tab x10) (tab x11) (tab x12) cs sn) (r : Fin 128) (g : Fin 4) (e : Fin 64) :
    dkBlk x u x10 x11 x12 (ix2 r ⟨64 * g.val + e.val, by omega⟩) = (unrot (fun e => A r g e + B r g e) (cs r) (sn r) e : EReal) := by
  unfold dkBlk dkOf
  have e0 : (⟨64 * (0 : Fin 4).val + e.val, by omega⟩ : Fin 256) = ⟨(⟨e.val, by omega⟩ : Fin 128).val, by omega⟩ := Fin.ext (by simp)
  have e1 : (⟨64 * (1 : Fin 4).val + e.val, by omega⟩ : Fin 256) = ⟨(⟨64 + e.val, by omega⟩ : Fin 128).val, by omega⟩ := Fin.ext (by simp)
  have e2 : (⟨64 * (2 : Fin 4).val + e.val, by omega⟩ : Fin 256) = ⟨128 + (⟨e.val, by omega⟩ : Fin 128).val, by omega⟩ := Fin.ext (by simp)
  have e3 : (⟨64 * (3 : Fin 4).val + e.val, by omega⟩ : Fin 256) = ⟨128 + (⟨64 + e.val, by omega⟩ : Fin 128).val, by omega⟩ := Fin.ext (by simp; omega)
  have hg : g = 0 ∨ g = 1 ∨ g = 2 ∨ g = 3 := by omega
  rcases hg with rfl | rfl | rfl | rfl
  · rw [e0, halves_low]
    exact unrotate_low T (left_lanes hx hu) r e
  · rw [e1, halves_low]
    exact unrotate_high T (left_lanes hx hu) r e
  · rw [e2, halves_high]
    exact unrotate_low T (right_lanes hx hu) r e
  · rw [e3, halves_high]
    exact unrotate_high T (right_lanes hx hu) r e

omit hx hu in
theorem lanes_low (a b : Fin 128 → Fin 64 → ℝ) (r : Fin 128) (e : Fin 64) : lanes a b r ⟨e.val, by omega⟩ = a r e := by
  unfold lanes; rw [dif_pos e.isLt]

omit hx hu in
theorem lanes_high (a b : Fin 128 → Fin 64 → ℝ) (r : Fin 128) (e : Fin 64) : lanes a b r ⟨64 + e.val, by omega⟩ = b r e := by
  unfold lanes; rw [dif_neg (by simp)]; congr 1; exact Fin.ext (by simp)

theorem dvBlk_real (r : Fin 128) (g : Fin 4) (e : Fin 64) :
    dvBlk x u (ix2 r ⟨64 * g.val + e.val, by omega⟩) = (A r g e + B r g e : ℝ) := by
  unfold dvBlk dvOf
  have e0 : (⟨64 * (0 : Fin 4).val + e.val, by omega⟩ : Fin 256) = ⟨(⟨e.val, by omega⟩ : Fin 128).val, by omega⟩ := Fin.ext (by simp)
  have e1 : (⟨64 * (1 : Fin 4).val + e.val, by omega⟩ : Fin 256) = ⟨(⟨64 + e.val, by omega⟩ : Fin 128).val, by omega⟩ := Fin.ext (by simp)
  have e2 : (⟨64 * (2 : Fin 4).val + e.val, by omega⟩ : Fin 256) = ⟨128 + (⟨e.val, by omega⟩ : Fin 128).val, by omega⟩ := Fin.ext (by simp)
  have e3 : (⟨64 * (3 : Fin 4).val + e.val, by omega⟩ : Fin 256) = ⟨128 + (⟨64 + e.val, by omega⟩ : Fin 128).val, by omega⟩ := Fin.ext (by simp; omega)
  have hg : g = 0 ∨ g = 1 ∨ g = 2 ∨ g = 3 := by omega
  rcases hg with rfl | rfl | rfl | rfl
  · rw [e0, halves_low]
    exact (left_lanes hx hu r _).trans (congrArg _ (lanes_low _ _ r e))
  · rw [e1, halves_low]
    exact (left_lanes hx hu r _).trans (congrArg _ (lanes_high _ _ r e))
  · rw [e2, halves_high]
    exact (right_lanes hx hu r _).trans (congrArg _ (lanes_low _ _ r e))
  · rw [e3, halves_high]
    exact (right_lanes hx hu r _).trans (congrArg _ (lanes_high _ _ r e))

end

end Cert.AttnIdeal.Body

end
-- ==== Proof.AttnRef.lean ====
/- What the attention's reference computes, row by row: the scores and the probabilities. -/
module

public import proofs.«01_k».proof.Proof.AttnData
public import proofs.«01_k».proof.Proof.Finite
public import Idealize.ShloMosaic.Lib.WordCmp

@[expose] public section

set_option maxRecDepth 16384

noncomputable section

namespace Cert.AttnRefIdeal.Data

open Cert.AttnRefIdeal Cert.AttnRefIdeal.Read Cert.Step Cert.Step.Attn
open Idealize.ShloMosaic Idealize.ShloMosaic.TcCoe Idealize.ShloMosaic.StableHlo Idealize.ShloMosaic.WordCmp

theorem group_head (g a : Fin 4) : groupOf (headOf g a) = g := Fin.ext (by show (4 * g.val + a.val) / 4 = g.val; omega)

theorem word_bot : Ideal.ofBits .f32 4286578688#32 = ⊥ := by
  simp [Ideal.ofBits, Ideal.ieee]

theorem word_eighth : Ideal.ofBits .f32 0x3E000000#32 = ((1 / 8 : ℝ) : EReal) := by
  simp [Ideal.ofBits, Ideal.ieee, -EReal.coe_mul]; norm_num

/-- A key's place before the query, as the words compute it. -/
theorem word_gap (n r j : ℕ) (hn : n < 64) (hr : r < 128) (hj : j < 256) :
    (IntOp.subi (IntOp.addi (IntOp.muli (BitVec.ofNat 32 n) 128#32) (BitVec.ofNat 32 r))
      (IntOp.addi (IntOp.muli (IntOp.subi (BitVec.ofNat 32 n) 1#32) 128#32) (BitVec.ofNat 32 j))).toInt = (r : ℤ) + 128 - j := by
  simp only [IntOp.subi, IntOp.addi, IntOp.muli, BitVec.toInt_eq_toNat_cond, BitVec.toNat_sub, BitVec.toNat_add, BitVec.toNat_mul,
    BitVec.toNat_ofNat]
  split <;> omega

/-- A key's place among the tokens, as the words compute it. -/
theorem word_place (n j : ℕ) (hn : n < 64) (hj : j < 256) :
    (IntOp.addi (IntOp.muli (IntOp.subi (BitVec.ofNat 32 n) 1#32) 128#32) (BitVec.ofNat 32 j)).toInt = 128 * (n : ℤ) - 128 + j := by
  simp only [IntOp.subi, IntOp.addi, IntOp.muli, BitVec.toInt_eq_toNat_cond, BitVec.toNat_sub, BitVec.toNat_add, BitVec.toNat_mul,
    BitVec.toNat_ofNat]
  split <;> omega

section
variable {x0 x5 : FVec Ideal S8192x1024 .f32} {x1 x2 : FVec Ideal S8192x256 .f32} {x3 : FVec Ideal S16 .f32} {x4 : IVec S8192 32}
  {I : Inputs} (H : Holds x0 x5 x1 x2 x3 x4 I) (n : Fin 64) (g a : Fin 4) (r : Fin 128) (j : Fin 256) (e : Fin 64)

/-! ## The band and the scores -/

theorem band_cases (X : Fin 64 → Fin 128 → Fin 4 → Fin 64 → ℝ) :
    bandOf (before X n) (X n) g j e
      = if h : j.val < 128 then (if h0 : n.val < 1 then 0 else X ⟨n.val - 1, by omega⟩ ⟨j.val, h⟩ g e) else X n ⟨j.val - 128, by omega⟩ g e := by
  unfold bandOf before
  split
  · split
    · next h => rw [dif_pos (by omega)]
    · next h => rw [dif_neg (by omega)]
  · rfl

include H in
theorem kband : val_main_v78 (F := Ideal) x1 x4 (ix4 n j g e) = (I.kb n g j e : EReal) := by
  have hk : ∀ (t : Fin 8192), val_main_v69 (F := Ideal) x1 x4 (ix3 t g e)
      = (I.K ⟨t.val / 128, by omega⟩ ⟨t.val % 128, by omega⟩ g e : EReal) := fun t => by
    rw [← H.k]
    refine congrArg _ (congrArg (fun t => ix3 t g e) (Fin.ext ?_))
    show t.val = t.val / 128 * 128 + t.val % 128
    omega
  unfold val_main_v78 val_main_v76 val_main_v75 val_main_v72
  generalize val_main_v69 (F := Ideal) x1 x4 = x at hk ⊢
  pointwise [val_main_v74, val_main_cst_7]
  rw [Inputs.kb, band_cases]
  have hK : ∀ (m m' : Fin 64) (r r' : Fin 128), m = m' → r = r' → (I.K m r g e : EReal) = (I.K m' r' g e : EReal) := by
    rintro m _ r _ rfl rfl; rfl
  simp only [hk]
  split
  · split
    · rfl
    · exact hK _ _ _ _ (Fin.ext (by dsimp only; omega)) (Fin.ext (by dsimp only; omega))
  · exact hK _ _ _ _ (Fin.ext (by dsimp only; omega)) (Fin.ext (by dsimp only; omega))

include H in
theorem score : val_main_v86 (F := Ideal) x0 x1 x4 (ix5 n g a r j) = (against (I.q n (headOf g a)) (I.kb n g) r j : EReal) := by
  have hq : ∀ e h, val_main_v34 (F := Ideal) x0 x4 (ix3 ⟨n.val * 128 + r.val, h⟩ ⟨g.val * 4 + a.val, by omega⟩ e) = (I.Q n (headOf g a) r e : EReal) := fun e h => by
    rw [← H.q]
    refine congrArg _ (congrArg (fun h => ix3 (tok n r) h e) (Fin.ext ?_))
    show g.val * 4 + a.val = 4 * g.val + a.val
    omega
  have hk := fun e => kband H n g j e
  unfold val_main_v86 val_main_v85 val_main_v84 val_main_v83 val_main_v71
  generalize val_main_v34 (F := Ideal) x0 x4 = x at hq ⊢
  generalize val_main_v78 (F := Ideal) x1 x4 = y at hk ⊢
  pointwise [val_main_cst_10]
  simp only [hk, hq, word_eighth, ← EReal.coe_mul, sum_real]
  refine congrArg _ ?_
  rw [against, Finset.sum_mul]
  refine Finset.sum_congr rfl fun e _ => ?_
  rw [Inputs.q]
  ring

theorem allow : val_main_v121_1 (F := Ideal) (ix5 n g a r j) = BitVec.ofBool (decide (seen n.val r j)) := by
  pointwise [val_main_v121_1, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_c, val_main_c_11, val_main_c_12, val_main_c_13, val_main_c_14, val_main_c_15]
  rw [cmpi_sge_eq, cmpi_slt_eq, cmpi_sge_eq, word_gap _ _ _ n.isLt r.isLt j.isLt, word_place _ _ n.isLt j.isLt, andi_ofBool, andi_ofBool,
    ← Bool.decide_and, ← Bool.decide_and]
  refine congrArg _ (decide_eq_decide.mpr ?_)
  rw [seen, show (0#32).toInt = 0 by decide, show (128#32).toInt = 128 by decide]
  omega

include H in
theorem sink : val_main_v123 (F := Ideal) x3 (ix5 0 g a 0 0) = (I.S (headOf g a) : EReal) := by
  pointwise [val_main_v123, val_main_v122]
  rw [← H.s]
  refine congrArg _ (congrArg ix1 (Fin.ext ?_))
  show g.val * 4 + a.val = 4 * g.val + a.val
  omega

include H in
theorem masked_at : val_main_v121_0 (F := Ideal) x0 x1 x4 (ix5 n g a r j) = masked (against (I.q n (headOf g a)) (I.kb n g) r) (seen n.val r) j := by
  have hs := score H n g a r j
  have ha := allow n g a r j
  unfold val_main_v121_0
  generalize val_main_v86 (F := Ideal) x0 x1 x4 = x at hs ⊢
  generalize val_main_v121_1 (F := Ideal) = y at ha ⊢
  pointwise [val_main_call0_v1, val_main_cst_16]
  rw [hs, ha, word_bot]
  unfold masked
  by_cases h : seen n.val r j
  · rw [if_pos h, decide_eq_true h]; rfl
  · rw [if_neg h, decide_eq_false h]; rfl

end
end Cert.AttnRefIdeal.Data

end
-- ==== Proof.AttnRefRow.lean ====
/- What the attention's reference computes, row by row: the probabilities and the gradients at the scores. -/
module

public import proofs.«01_k».proof.Proof.AttnRef

@[expose] public section

set_option maxRecDepth 16384

noncomputable section

namespace Cert.AttnRefIdeal.Data

open Cert.AttnRefIdeal Cert.AttnRefIdeal.Read Cert.Step Cert.Step.Attn
open Idealize.ShloMosaic Idealize.ShloMosaic.TcCoe Idealize.ShloMosaic.StableHlo Idealize.ShloMosaic.WordCmp

/-- A head's scores and its rows of the cotangent against the values. -/
def _root_.Cert.Step.Attn.Inputs.sc (I : Inputs) (n : Fin 64) (g a : Fin 4) (r : Fin 128) : Fin 256 → ℝ := against (I.q n (headOf g a)) (I.kb n g) r

def _root_.Cert.Step.Attn.Inputs.dp (I : Inputs) (n : Fin 64) (g a : Fin 4) (r : Fin 128) : Fin 256 → ℝ :=
  against (I.D n (headOf g a)) (bandOf (before I.V n) (I.V n) g) r

section
variable {x0 x5 : FVec Ideal S8192x1024 .f32} {x1 x2 : FVec Ideal S8192x256 .f32} {x3 : FVec Ideal S16 .f32} {x4 : IVec S8192 32}
  {I : Inputs} (H : Holds x0 x5 x1 x2 x3 x4 I) (n : Fin 64) (g a : Fin 4) (r : Fin 128) (j : Fin 256) (e : Fin 64)

theorem grad_row : I.grad n (headOf g a) r = dsc (I.sc n g a r) (I.dp n g a r) (seen n.val r) (I.S (headOf g a)) := by
  funext j
  rw [Inputs.grad, gradAt, headGrad, group_head]
  rfl

theorem pr_row : I.pr n (headOf g a) r = prob (I.sc n g a r) (seen n.val r) (I.S (headOf g a)) := by
  funext j
  rw [Inputs.pr, probAt, headProb, group_head]
  rfl

theorem sk_row : I.sk n (headOf g a) = -(∑ r, sinkProb (I.sc n g a r) (seen n.val r) (I.S (headOf g a))
    * delta (I.sc n g a r) (I.dp n g a r) (seen n.val r) (I.S (headOf g a))) := by
  rw [Inputs.sk, sinkAt, headSinkGrad, group_head]
  rfl

/-! ## A row's exponentials -/

theorem read_v130 : val_main_v130 (F := Ideal) x0 x1 x4 (ix5 n g a r 0) = val_main_v124 (F := Ideal) x0 x1 x4 (ix4 n g a r) := by
  unfold val_main_v130
  generalize val_main_v124 (F := Ideal) x0 x1 x4 = x
  pointwise []

theorem read_v131 : val_main_v131 (F := Ideal) x3 (ix5 n g a r 0) = val_main_v123 (F := Ideal) x3 (ix5 0 g a 0 0) := by
  unfold val_main_v131
  generalize val_main_v123 (F := Ideal) x3 = x
  pointwise []

include H in
/-- What a row's exponents are less of. -/
theorem top : ∃ t : ℝ, val_main_v132 (F := Ideal) x0 x1 x3 x4 (ix5 n g a r 0) = (t : EReal) := by
  have hm := fun j => masked_at H n g a r j
  have e : val_main_v124 (F := Ideal) x0 x1 x4 (ix4 n g a r) = Finset.univ.fold max ⊥ (masked (I.sc n g a r) (seen n.val r)) := by
    unfold val_main_v124
    generalize val_main_v121_0 (F := Ideal) x0 x1 x4 = x at hm ⊢
    pointwise [val_main_cst_17]
    simp only [hm]
    rw [word_bot]
    rfl
  rw [val_main_v132_apply, read_v130, read_v131, sink H, e]
  exact top_real _ _ _

variable {t : ℝ} (ht : val_main_v132 (F := Ideal) x0 x1 x3 x4 (ix5 n g a r 0) = (t : EReal))

theorem read_v151 : val_main_v151 (F := Ideal) x0 x1 x3 x4 (ix5 n g a r j) = val_main_v132 (F := Ideal) x0 x1 x3 x4 (ix5 n g a r 0) := by
  unfold val_main_v151
  generalize val_main_v132 (F := Ideal) x0 x1 x3 x4 = x
  pointwise []

include H ht in
theorem exp_at : val_main_v153 (F := Ideal) x0 x1 x3 x4 (ix5 n g a r j) = (exs (I.sc n g a r) (seen n.val r) t j : EReal) := by
  rw [val_main_v153_apply, val_main_v152_apply, read_v151, ht, masked_at H]
  exact exp_masked _ _ _ _

include H ht in
theorem sinkexp_at : val_main_v158 (F := Ideal) x0 x1 x3 x4 (ix5 n g a r 0) = ((Real.exp (I.S (headOf g a) - t) : ℝ) : EReal) := by
  rw [val_main_v158_apply, val_main_v157_apply, show val_main_v156 (F := Ideal) x3 (ix5 n g a r 0) = _ from read_v131 n g a r, ht, sink H]
  show Ideal.exp ((I.S (headOf g a) : EReal) - (t : EReal)) = _
  rw [← EReal.coe_sub, Ideal.exp_coe]

include H ht in
theorem den_at : val_main_v159 (F := Ideal) x0 x1 x3 x4 (ix5 n g a r 0) = (dens (I.sc n g a r) (seen n.val r) (I.S (headOf g a)) t : EReal) := by
  have hx := fun j => exp_at H n g a r j ht
  have e : val_main_v155 (F := Ideal) x0 x1 x3 x4 (ix5 n g a r 0) = ((∑ j, exs (I.sc n g a r) (seen n.val r) t j : ℝ) : EReal) := by
    unfold val_main_v155 val_main_v154
    generalize val_main_v153 (F := Ideal) x0 x1 x3 x4 = x at hx ⊢
    pointwise [val_main_cst_25]
    simp only [hx, sum_real]
  rw [val_main_v159_apply, e, sinkexp_at H n g a r ht]
  exact (EReal.coe_add _ _).symm

theorem read_v160 : val_main_v160 (F := Ideal) x0 x1 x3 x4 (ix5 n g a r j) = val_main_v159 (F := Ideal) x0 x1 x3 x4 (ix5 n g a r 0) := by
  unfold val_main_v160
  generalize val_main_v159 (F := Ideal) x0 x1 x3 x4 = x
  pointwise []

include H in
theorem prob_at : val_main_v161 (F := Ideal) x0 x1 x3 x4 (ix5 n g a r j) = (I.pr n (headOf g a) r j : EReal) := by
  obtain ⟨t, ht⟩ := top H n g a r
  rw [val_main_v161_apply, read_v160, exp_at H n g a r j ht, den_at H n g a r ht, pr_row]
  show Ideal.div _ _ = _
  rw [Ideal.div_coe (dens_pos _ _ _ _).ne', ← EReal.coe_mul, prob_shift]

/-! ## The cotangent against the values -/

include H in
theorem vband : val_main_v82 (F := Ideal) x2 (ix4 n j g e) = (bandOf (before I.V n) (I.V n) g j e : EReal) := by
  have hv : ∀ (t : Fin 8192) (i : Fin 256), i.val = 64 * g.val + e.val → x2 (ix2 t i)
      = (I.V ⟨t.val / 128, by omega⟩ ⟨t.val % 128, by omega⟩ g e : EReal) := fun t i hi => by
    rw [← H.v]
    refine congrArg _ (congrArg₂ ix2 (Fin.ext ?_) (Fin.ext hi))
    show t.val = t.val / 128 * 128 + t.val % 128
    omega
  pointwise [val_main_v82, val_main_v80, val_main_v79, val_main_v73, val_main_v70, val_main_v74, val_main_cst_7]
  rw [band_cases]
  have hV : ∀ (m m' : Fin 64) (r r' : Fin 128), m = m' → r = r' → (I.V m r g e : EReal) = (I.V m' r' g e : EReal) := by
    rintro m _ r _ rfl rfl; rfl
  split
  · split
    · rfl
    · rw [hv _ _ (by dsimp only; omega)]
      exact hV _ _ _ _ (Fin.ext (by dsimp only; omega)) (Fin.ext (by dsimp only; omega))
  · rw [hv _ _ (by dsimp only; omega)]
    exact hV _ _ _ _ (Fin.ext (by dsimp only; omega)) (Fin.ext (by dsimp only; omega))

include H in
theorem dp_at : val_main_v170 (F := Ideal) x2 x5 (ix5 n g a r j) = (I.dp n g a r j : EReal) := by
  have hv := fun e => vband H n g j e
  have hd : ∀ e (t : Fin 8192) (i : Fin 1024), t.val = n.val * 128 + r.val → i.val = 64 * (4 * g.val + a.val) + e.val →
      x5 (ix2 t i) = (I.D n (headOf g a) r e : EReal) := fun e t i h1 h2 => by
    rw [← H.d]
    exact congrArg _ (congrArg₂ ix2 (Fin.ext h1) (Fin.ext h2))
  unfold val_main_v170 val_main_v169 val_main_v168
  generalize val_main_v82 (F := Ideal) x2 = x at hv ⊢
  pointwise []
  simp only [hv]
  rw [Inputs.dp, against, ← sum_real]
  refine Finset.sum_congr rfl fun e _ => ?_
  rw [hd e _ _ rfl (by dsimp only; omega), EReal.coe_mul]

/-! ## The gradients at the scores -/

theorem read_v179 : val_main_v179 (F := Ideal) x0 x1 x3 x4 (ix5 n g a r j) = val_main_v159 (F := Ideal) x0 x1 x3 x4 (ix5 n g a r 0) := by
  unfold val_main_v179
  generalize val_main_v159 (F := Ideal) x0 x1 x3 x4 = x
  pointwise []

theorem read_v173 : val_main_v173 (F := Ideal) x0 x1 x3 x4 (ix5 n g a r j) = val_main_v164 (F := Ideal) x0 x1 x3 x4 (ix5 n g a r 0) := by
  unfold val_main_v173
  generalize val_main_v164 (F := Ideal) x0 x1 x3 x4 = x
  pointwise []

theorem read_v163 : val_main_v163 (F := Ideal) (ix5 n g a r 0) = ((1 : ℝ) : EReal) := by
  pointwise [val_main_v163, val_main_cst_26]
  rfl

include H ht in
theorem neg_at : val_main_v178 (F := Ideal) x0 x1 x2 x3 x4 x5 (ix5 n g a r 0)
    = ((-(∑ j, I.dp n g a r j * (1 / (dens (I.sc n g a r) (seen n.val r) (I.S (headOf g a)) t * dens (I.sc n g a r) (seen n.val r) (I.S (headOf g a)) t))
        * exs (I.sc n g a r) (seen n.val r) t j) : ℝ) : EReal) := by
  have hq : val_main_v164 (F := Ideal) x0 x1 x3 x4 (ix5 n g a r 0)
      = ((1 / (dens (I.sc n g a r) (seen n.val r) (I.S (headOf g a)) t * dens (I.sc n g a r) (seen n.val r) (I.S (headOf g a)) t) : ℝ) : EReal) := by
    rw [val_main_v164_apply, val_main_v162_apply, den_at H n g a r ht, read_v163]
    show Ideal.div _ ((_ : EReal) * (_ : EReal)) = _
    rw [← EReal.coe_mul, div_real (mul_pos (dens_pos _ _ _ _) (dens_pos _ _ _ _)).ne']
  have hx : ∀ j, val_main_v175 (F := Ideal) x0 x1 x2 x3 x4 x5 (ix5 n g a r j)
      = ((I.dp n g a r j * (1 / (dens (I.sc n g a r) (seen n.val r) (I.S (headOf g a)) t * dens (I.sc n g a r) (seen n.val r) (I.S (headOf g a)) t))
        * exs (I.sc n g a r) (seen n.val r) t j : ℝ) : EReal) := fun j => by
    rw [val_main_v175_apply, val_main_v174_apply, read_v173, hq, dp_at H, exp_at H n g a r j ht]
    show (_ : EReal) * (_ : EReal) * (_ : EReal) = _
    rw [← EReal.coe_mul, ← EReal.coe_mul]
  have e : val_main_v177 (F := Ideal) x0 x1 x2 x3 x4 x5 (ix5 n g a r 0)
      = ((∑ j, I.dp n g a r j * (1 / (dens (I.sc n g a r) (seen n.val r) (I.S (headOf g a)) t * dens (I.sc n g a r) (seen n.val r) (I.S (headOf g a)) t))
        * exs (I.sc n g a r) (seen n.val r) t j : ℝ) : EReal) := by
    unfold val_main_v177 val_main_v176
    generalize val_main_v175 (F := Ideal) x0 x1 x2 x3 x4 x5 = x at hx ⊢
    pointwise [val_main_cst_27]
    simp only [hx, sum_real]
  rw [val_main_v178_apply, e]
  exact (EReal.coe_neg _).symm

include H in
/-- A row's part of the gradient at its sink. -/
theorem sinkrow_at : val_main_v181 (F := Ideal) x0 x1 x2 x3 x4 x5 (ix5 n g a r 0)
    = ((-(sinkProb (I.sc n g a r) (seen n.val r) (I.S (headOf g a)) * delta (I.sc n g a r) (I.dp n g a r) (seen n.val r) (I.S (headOf g a))) : ℝ) : EReal) := by
  obtain ⟨t, ht⟩ := top H n g a r
  rw [val_main_v181_apply, neg_at H n g a r ht, sinkexp_at H n g a r ht]
  show (_ : EReal) * (_ : EReal) = _
  rw [← EReal.coe_mul, sink_shift]

include H in
theorem ds_at : val_main_v188 (F := Ideal) x0 x1 x2 x3 x4 x5 (ix5 n g a r j) = (I.grad n (headOf g a) r j : EReal) := by
  obtain ⟨t, ht⟩ := top H n g a r
  have hn := neg_at H n g a r ht
  have e : val_main_v186 (F := Ideal) x0 x1 x2 x3 x4 x5 (ix5 n g a r j) = val_main_v178 (F := Ideal) x0 x1 x2 x3 x4 x5 (ix5 n g a r 0) := by
    unfold val_main_v186 val_main_v185
    generalize val_main_v178 (F := Ideal) x0 x1 x2 x3 x4 x5 = x
    pointwise [val_main_cst_29]
    exact Fintype.sum_unique _
  rw [val_main_v188_apply, val_main_v187_apply, val_main_v180_apply, read_v179, e, hn, dp_at H, exp_at H n g a r j ht, den_at H n g a r ht, grad_row]
  show (Ideal.div (_ : EReal) (_ : EReal) + (_ : EReal)) * (_ : EReal) = _
  rw [Ideal.div_coe (dens_pos _ _ _ _).ne', ← EReal.coe_mul, ← EReal.coe_add, ← EReal.coe_mul, dsc_shift]

include H in
/-- A row's gradients at its scores and its sink sum to zero. -/
theorem zero_at : val_main_v192 (F := Ideal) x0 x1 x2 x3 x4 x5 (ix5 n g a r 0) = 0 := by
  have hd := fun j => ds_at H n g a r j
  have e : val_main_v191 (F := Ideal) x0 x1 x2 x3 x4 x5 (ix5 n g a r 0) = ((-(∑ j, I.grad n (headOf g a) r j) : ℝ) : EReal) := by
    unfold val_main_v191 val_main_v190 val_main_v189
    generalize val_main_v188 (F := Ideal) x0 x1 x2 x3 x4 x5 = x at hd ⊢
    pointwise [val_main_cst_30]
    simp only [hd, ← EReal.coe_neg, sum_real, Finset.sum_neg_distrib]
  rw [val_main_v192_apply, val_main_v184_apply, e, sinkrow_at H, grad_row, dsc_total]
  show -(_ : EReal) + (_ : EReal) = 0
  rw [← EReal.coe_neg, ← EReal.coe_add, neg_neg, add_neg_cancel, EReal.coe_zero]

end
end Cert.AttnRefIdeal.Data

end
-- ==== Proof.AttnRefGrad.lean ====
/- What the attention's reference computes: its gradients. -/
module

public import proofs.«01_k».proof.Proof.AttnRefRow

@[expose] public section

set_option maxRecDepth 16384

noncomputable section

namespace Cert.AttnRefIdeal.Data

open Cert.AttnRefIdeal Cert.AttnRefIdeal.Read Cert.Step Cert.Step.Attn
open Idealize.ShloMosaic Idealize.ShloMosaic.TcCoe Idealize.ShloMosaic.StableHlo Idealize.ShloMosaic.WordCmp

section
variable {x0 x5 : FVec Ideal S8192x1024 .f32} {x1 x2 : FVec Ideal S8192x256 .f32} {x3 : FVec Ideal S16 .f32} {x4 : IVec S8192 32}
  {I : Inputs} (H : Holds x0 x5 x1 x2 x3 x4 I) (n : Fin 64) (g a : Fin 4) (r : Fin 128) (j : Fin 256) (e : Fin 64)

/-! ## The shares of the ties, all zero -/

theorem read_v200 : val_main_v200 (F := Ideal) x0 x1 x2 x3 x4 x5 (ix5 n g a r j) = val_main_v199 (F := Ideal) x0 x1 x2 x3 x4 x5 (ix4 n g a r) := by
  unfold val_main_v200
  generalize val_main_v199 (F := Ideal) x0 x1 x2 x3 x4 x5 = x
  pointwise []

/-- A quotient of zero times a part of its divisor. -/
theorem zero_share {m : ℕ} (f : Fin m → ℝ) (hf : ∀ i, 0 ≤ f i) (i : Fin m) : Ideal.div 0 (∑ j, (f j : EReal)) * (f i : EReal) = 0 := by
  rw [sum_real]
  by_cases h : ∑ j, f j = 0
  · rw [(Finset.sum_eq_zero_iff_of_nonneg fun i _ => hf i).mp h i (Finset.mem_univ i), EReal.coe_zero, mul_zero]
  · rw [← EReal.coe_zero, div_real h, zero_div, EReal.coe_zero, zero_mul]

include H in
theorem tie_at : val_main_v201 (F := Ideal) x0 x1 x2 x3 x4 x5 (ix5 n g a r j) = 0 := by
  have hz : val_main_v197 (F := Ideal) x0 x1 x2 x3 x4 x5 (ix5 n g a r 0) = 0 := by
    rw [val_main_v197_apply, zero_at H]
    exact zero_mul _
  have hs : val_main_v198 (F := Ideal) x0 x1 x2 x3 x4 x5 (ix4 n g a r) = 0 := by
    unfold val_main_v198
    generalize val_main_v197 (F := Ideal) x0 x1 x2 x3 x4 x5 = x at hz ⊢
    pointwise [val_main_cst_32]
    exact (Fintype.sum_unique _).trans hz
  have hc : ∀ j, val_main_v128 (F := Ideal) x0 x1 x4 (ix5 n g a r j) = (((val_main_v127 (F := Ideal) x0 x1 x4 (ix5 n g a r j)).toNat : ℝ) : EReal) :=
    fun j => val_main_v128_apply _ _ _ _
  have hn : val_main_v129 (F := Ideal) x0 x1 x4 (ix4 n g a r) = ∑ j, val_main_v128 (F := Ideal) x0 x1 x4 (ix5 n g a r j) := by
    unfold val_main_v129
    generalize val_main_v128 (F := Ideal) x0 x1 x4 = x
    pointwise [val_main_cst_18]
  simp only [hc] at hn
  rw [val_main_v201_apply, read_v200, val_main_v199_apply, hs, hn, hc]
  exact zero_share _ (fun i => Nat.cast_nonneg _) j

theorem read_call1 : val_main_call1_v0 (F := Ideal) (ix5 n g a r j) = 0 := by
  pointwise [val_main_call1_v0, val_main_call1_cst]

theorem read_v206 : val_main_v206 (F := Ideal) (ix5 n g a r j) = ((1 / 8 : ℝ) : EReal) := by
  pointwise [val_main_v206, val_main_cst_34]
  exact word_eighth

include H in
theorem dsc_at : val_main_v207 (F := Ideal) x0 x1 x2 x3 x4 x5 (ix5 n g a r j) = ((I.grad n (headOf g a) r j * (1 / 8) : ℝ) : EReal) := by
  rw [val_main_v207_apply, val_main_v205_apply, val_main_v202_apply, ds_at H, tie_at H, allow, read_call1, read_v206]
  by_cases h : seen n.val r j
  · rw [decide_eq_true h]
    show ((_ : EReal) + 0) * (_ : EReal) = _
    rw [add_zero, ← EReal.coe_mul]
  · rw [decide_eq_false h, grad_row, dsc_masked _ _ _ _ h]
    show (0 : EReal) * (_ : EReal) = _
    rw [zero_mul, zero_mul, EReal.coe_zero]

/-! ## Before the rotation's transpose -/

include H in
theorem rawq_at (h : Fin 16) : val_main_v227 (F := Ideal) x0 x1 x2 x3 x4 x5 (ix3 (tok n r) h e) = ((I.rawQ n h r e * (1 / 8) : ℝ) : EReal) := by
  have hd : ∀ (m : Fin 64) (g a : Fin 4) (r' : Fin 128) j, m = n → headOf g a = h → r' = r → val_main_v207 (F := Ideal) x0 x1 x2 x3 x4 x5 (ix5 m g a r' j)
      = ((I.grad n h r j * (1 / 8) : ℝ) : EReal) := by
    rintro _ g a _ j rfl rfl rfl; exact dsc_at H _ g a _ j
  have hk : ∀ (m : Fin 64) g j, m = n → g = groupOf h → val_main_v78 (F := Ideal) x1 x4 (ix4 m j g e) = (I.kb n (groupOf h) j e : EReal) := by
    rintro _ _ j rfl rfl; exact kband H _ _ j e
  unfold val_main_v227 val_main_v210 val_main_v209 val_main_v208
  generalize val_main_v207 (F := Ideal) x0 x1 x2 x3 x4 x5 = x at hd ⊢
  generalize val_main_v78 (F := Ideal) x1 x4 = y at hk ⊢
  pointwise []
  have e1 : (tok n r).val = n.val * 128 + r.val := rfl
  rw [Inputs.rawQ, Finset.sum_mul, ← sum_real]
  refine Finset.sum_congr rfl fun j _ => ?_
  rw [hd _ _ _ _ _ (Fin.ext (by dsimp only; omega)) (Fin.ext (by show 4 * (h.val / 4) + h.val % 4 = h.val; omega)) (Fin.ext (by dsimp only; omega)),
    hk _ ⟨h.val / 4, by omega⟩ _ (Fin.ext (by dsimp only; omega)) rfl, ← EReal.coe_mul]
  refine congrArg _ ?_
  ring

include H in
theorem bandk_at : val_main_v212 (F := Ideal) x0 x1 x2 x3 x4 x5 (ix4 n j g e) = (I.bandK n j g e : EReal) := by
  have hd := fun a r => dsc_at H n g a r j
  have hq : ∀ r a (t : Fin 8192) h, t = tok n r → h = headOf g a → val_main_v34 (F := Ideal) x0 x4 (ix3 t h e) = (I.Q n (headOf g a) r e : EReal) := by
    rintro r a _ _ rfl rfl; exact H.q _ _ _ _
  unfold val_main_v212 val_main_v211 val_main_v208 val_main_v71
  generalize val_main_v207 (F := Ideal) x0 x1 x2 x3 x4 x5 = x at hd ⊢
  generalize val_main_v34 (F := Ideal) x0 x4 = y at hq ⊢
  pointwise []
  rw [Inputs.bandK, Finset.sum_comm, ← sum_real]
  refine Finset.sum_congr rfl fun a _ => ?_
  rw [← sum_real]
  refine Finset.sum_congr rfl fun r _ => ?_
  rw [hd, hq r a ⟨n.val * 128 + r.val, by omega⟩ ⟨g.val * 4 + a.val, by omega⟩ rfl (Fin.ext (by show g.val * 4 + a.val = 4 * g.val + a.val; omega)), ← EReal.coe_mul, Inputs.q]
  refine congrArg _ ?_
  ring

include H in
theorem bandv_at : val_main_v172 (F := Ideal) x0 x1 x3 x4 x5 (ix4 n j g e) = (I.bandV n j g e : EReal) := by
  have hp := fun a r => prob_at H n g a r j
  have hd : ∀ a r (t : Fin 8192) (i : Fin 1024), t.val = n.val * 128 + r.val → i.val = 64 * (4 * g.val + a.val) + e.val →
      x5 (ix2 t i) = (I.D n (headOf g a) r e : EReal) := fun a r t i h1 h2 => by
    rw [← H.d]
    exact congrArg _ (congrArg₂ ix2 (Fin.ext h1) (Fin.ext h2))
  unfold val_main_v172 val_main_v171 val_main_v169 val_main_v168
  generalize val_main_v161 (F := Ideal) x0 x1 x3 x4 = x at hp ⊢
  pointwise []
  rw [Inputs.bandV, ← sum_real]
  refine Finset.sum_congr rfl fun a _ => ?_
  rw [← sum_real]
  refine Finset.sum_congr rfl fun r _ => ?_
  rw [hp, hd a r _ _ rfl (by dsimp only; omega), ← EReal.coe_mul]

/-! ## The results -/

/-- A block's own part of its band, and the next block's part of the next band. -/
theorem band_read (x : FVec Ideal S64x256x4x64 .f32) (X : Fin 64 → Fin 256 → Fin 4 → Fin 64 → ℝ)
    (hx : ∀ n j g e, x (ix4 n j g e) = (X n j g e : EReal)) (t : Fin 8192) (ht : t = tok n r) :
    x (ix4 ⟨t.val / 128, by omega⟩ ⟨128 + t.val % 128, by omega⟩ g e)
      + (if h : t.val / 128 < 63 ∧ t.val % 128 < 128 then x (ix4 ⟨1 + t.val / 128, by omega⟩ ⟨t.val % 128, by omega⟩ g e) else 0)
      = ((X n ⟨128 + r.val, by omega⟩ g e + Inputs.next X n r g e : ℝ) : EReal) := by
  subst ht
  have e1 : (tok n r).val = n.val * 128 + r.val := rfl
  have hX : ∀ (m m' : Fin 64) (j j' : Fin 256), m = m' → j = j' → (X m j g e : EReal) = (X m' j' g e : EReal) := by
    rintro m _ r _ rfl rfl; rfl
  rw [hx, EReal.coe_add]
  refine congrArg₂ (· + ·) (hX _ _ _ _ (Fin.ext (by dsimp only; omega)) (Fin.ext (by dsimp only; omega))) ?_
  unfold Inputs.next
  by_cases h : n.val < 63
  · rw [dif_pos (by omega), dif_pos h, hx]
    exact hX _ _ _ _ (Fin.ext (by dsimp only; omega)) (Fin.ext (by dsimp only; omega))
  · rw [dif_neg (by omega), dif_neg h, EReal.coe_zero]

/-- The rotation's transpose, as the padded slices add up to it. -/
theorem unrot_read (X : Fin 64 → ℝ) (c s : Fin 8 → ℝ) :
    ((if h : 16 ≤ e.val ∧ e.val - 16 < 48 then (X ⟨16 + (e.val - 16), by omega⟩ : EReal) else 0)
      + (if h : 8 ≤ e.val ∧ e.val - 8 < 8 then (X ⟨8 + (e.val - 8), by omega⟩ : EReal) * (c ⟨e.val - 8, by omega⟩ : EReal)
          + -(X ⟨e.val - 8, by omega⟩ : EReal) * (s ⟨e.val - 8, by omega⟩ : EReal) else 0))
      + (if h : e.val < 8 then (X ⟨8 + e.val, by omega⟩ : EReal) * (s ⟨e.val, h⟩ : EReal) + (X e : EReal) * (c ⟨e.val, h⟩ : EReal) else 0)
      = (unrot X c s e : EReal) := by
  have hX : ∀ i (hi : i < 64) (i' : Fin 64), i = i'.val → X i' = X ⟨i, hi⟩ := by rintro _ _ i' rfl; rfl
  have hf : ∀ (f : Fin 8 → ℝ) i i' (hi : i < 8) (hi' : i' < 8), i = i' → f ⟨i, hi⟩ = f ⟨i', hi'⟩ := by rintro f i _ _ _ rfl; rfl
  unfold unrot cosAt downAt upAt
  rcases Nat.lt_or_ge e.val 8 with h | h
  · rw [dif_neg (by omega), dif_neg (by omega), dif_pos h, if_pos (by omega), if_neg (by omega), if_pos (by omega), ← EReal.coe_mul, ← EReal.coe_mul,
      ← EReal.coe_add, zero_add, zero_add, hX (8 + e.val) (by omega) ⟨(e.val + 8) % 64, _⟩ (by dsimp only; omega),
      hf c (e.val % 8) e.val _ h (by omega), hf s ((e.val + 8) % 64 % 8) e.val _ h (by omega)]
    refine congrArg _ ?_
    ring
  rcases Nat.lt_or_ge e.val 16 with h' | h'
  · rw [dif_neg (by omega), dif_pos (by omega), dif_neg (by omega), if_pos (by omega), if_pos (by omega), if_neg (by omega), ← EReal.coe_neg,
      ← EReal.coe_mul, ← EReal.coe_mul, ← EReal.coe_add, zero_add, add_zero, hX (e.val - 8) (by omega) ⟨(e.val + 56) % 64, _⟩ (by dsimp only; omega),
      hX (8 + (e.val - 8)) (by omega) e (by omega), hf c (e.val % 8) (e.val - 8) _ (by omega) (by omega),
      hf s ((e.val + 56) % 64 % 8) (e.val - 8) _ (by omega) (by omega)]
    refine congrArg _ ?_
    ring
  · rw [dif_pos (by omega), dif_neg (by omega), dif_neg (by omega), if_neg (by omega), if_neg (by omega), if_neg (by omega), add_zero, add_zero,
      hX (16 + (e.val - 16)) (by omega) e (by omega)]
    refine congrArg _ ?_
    ring

theorem unrot_mul (X : Fin 64 → ℝ) (c s : Fin 8 → ℝ) (k : ℝ) : unrot (fun e => X e * k) c s e = unrot X c s e * k := by
  unfold unrot
  ring

include H in
theorem rawk_at : val_main_v226 (F := Ideal) x0 x1 x2 x3 x4 x5 (ix3 (tok n r) g e) = (I.rawK n r g e : EReal) := by
  have hb := fun n j g e => bandk_at H n g j e
  unfold val_main_v226 val_main_v224 val_main_v223 val_main_v222 val_main_v220 val_main_v219
  generalize val_main_v212 (F := Ideal) x0 x1 x2 x3 x4 x5 = x at hb ⊢
  pointwise [val_main_cst_36]
  exact band_read n g r e x I.bandK hb _ rfl

include H in
theorem dv_at : val_main_v271 (F := Ideal) x0 x1 x3 x4 x5 (ix2 (tok n r) ⟨64 * g.val + e.val, by omega⟩) = (I.dV n r g e : EReal) := by
  have hb := fun n j g e => bandv_at H n g j e
  unfold val_main_v271 val_main_v228 val_main_v225 val_main_v218 val_main_v217 val_main_v216 val_main_v214 val_main_v213
  generalize val_main_v172 (F := Ideal) x0 x1 x3 x4 x5 = x at hb ⊢
  pointwise [val_main_cst_35]
  exact band_read n g r e x I.bandV hb _ rfl

include H in
theorem dq_at (h : Fin 16) : val_main_v269 (F := Ideal) x0 x1 x2 x3 x4 x5 (ix2 (tok n r) ⟨64 * h.val + e.val, by omega⟩) = (I.dQ n h r e : EReal) := by
  have hb := fun n r h e => rawq_at H n r e h
  have hc := H.c
  have hn := H.n
  unfold val_main_v269 val_main_v268 val_main_v267 val_main_v266 val_main_v265 val_main_v264 val_main_v263 val_main_v262 val_main_v261 val_main_v260
    val_main_v259 val_main_v258 val_main_v257 val_main_v256 val_main_v255 val_main_v254 val_main_v253 val_main_v252 val_main_v251 val_main_v250
    val_main_v249 val_main_v20 val_main_v18
  generalize val_main_v227 (F := Ideal) x0 x1 x2 x3 x4 x5 = x at hb ⊢
  generalize val_main_v17 (F := Ideal) x4 = y at hc ⊢
  generalize val_main_v19 (F := Ideal) x4 = z at hn ⊢
  pointwise [val_main_cst_40, val_main_cst_41, val_main_cst_42]
  simp only [hb, hc, hn]
  exact (unrot_read e (fun e => I.rawQ n h r e * (1 / 8)) _ _).trans (congrArg _ (unrot_mul e _ _ _ _))

include H in
theorem dk_at : val_main_v270 (F := Ideal) x0 x1 x2 x3 x4 x5 (ix2 (tok n r) ⟨64 * g.val + e.val, by omega⟩) = (I.dK n r g e : EReal) := by
  have hb := fun n r g e => rawk_at H n g r e
  have hc : ∀ n r i, val_main_v52 (F := Ideal) x4 (ix2 (tok n r) i) = (I.C n r i : EReal) := H.c
  have hn : ∀ n r i, val_main_v54 (F := Ideal) x4 (ix2 (tok n r) i) = (I.N n r i : EReal) := H.n
  unfold val_main_v270 val_main_v248 val_main_v247 val_main_v246 val_main_v245 val_main_v244 val_main_v243 val_main_v242 val_main_v241 val_main_v240
    val_main_v239 val_main_v238 val_main_v237 val_main_v236 val_main_v235 val_main_v234 val_main_v233 val_main_v232 val_main_v231 val_main_v230
    val_main_v229 val_main_v53 val_main_v55
  generalize val_main_v226 (F := Ideal) x0 x1 x2 x3 x4 x5 = x at hb ⊢
  generalize val_main_v52 (F := Ideal) x4 = y at hc ⊢
  generalize val_main_v54 (F := Ideal) x4 = z at hn ⊢
  pointwise [val_main_cst_37, val_main_cst_38, val_main_cst_39]
  simp only [hb, hc, hn]
  exact unrot_read e (fun e => I.rawK n r g e) _ _

/-! ## The gradient at the sinks -/

theorem sum_rows (x : FVec Ideal S64x4x4x128x1 .f32) :
    Host.reduceAdd x (constant S_ FTy.f32 0#32) Gen.reducesTo_S64x4x4x128x1_S4x4x1_d0_3 Gen.h_S_ (ix3 g a 0) = ∑ n, ∑ r, x (ix5 n g a r 0) := by
  show Ideal.ofBits .f32 0#32 + ∑ i ∈ Finset.univ.filter (fun i => Gen.reducesTo_S64x4x4x128x1_S4x4x1_d0_3.drop i = ix3 g a 0), x i = _
  rw [Finset.sum_filter_eq_sum_of_fiber (fun i => Gen.reducesTo_S64x4x4x128x1_S4x4x1_d0_3.drop i = ix3 g a 0)
    (fun k : Fin 64 × Fin 128 => ix5 k.1 g a k.2 0) ?_ ?_, Fintype.sum_prod_type]
  · simp [Ideal.ofBits, Ideal.ieee]
  · intro k k' h
    exact Prod.ext (congrFun h 0) (congrFun h 3)
  · intro i
    constructor
    · intro h
      refine ⟨(i 0, i 3), ?_⟩
      funext b
      apply Fin.ext
      match b with
      | ⟨0, _⟩ => rfl
      | ⟨1, _⟩ => exact (congrArg Fin.val (congrFun h ⟨0, by decide⟩)).symm
      | ⟨2, _⟩ => exact (congrArg Fin.val (congrFun h ⟨1, by decide⟩)).symm
      | ⟨3, _⟩ => rfl
      | ⟨4, _⟩ => exact (congrArg Fin.val (congrFun h ⟨2, by decide⟩)).symm
    · rintro ⟨k, rfl⟩
      funext b
      apply Fin.ext
      match b with
      | ⟨0, _⟩ => rfl
      | ⟨1, _⟩ => rfl
      | ⟨2, _⟩ => rfl

theorem sum_one (x : FVec Ideal S1x4x4x1x1 .f32) :
    Host.reduceAdd x (constant S_ FTy.f32 0#32) Gen.reducesTo_S1x4x4x1x1_S4x4_d0_3_4 Gen.h_S_ (ix2 g a) = x (ix5 0 g a 0 0) := by
  show Ideal.ofBits .f32 0#32 + ∑ i ∈ Finset.univ.filter (fun i => Gen.reducesTo_S1x4x4x1x1_S4x4_d0_3_4.drop i = ix2 g a), x i = _
  rw [Finset.sum_filter_eq_sum_of_fiber (fun i => Gen.reducesTo_S1x4x4x1x1_S4x4_d0_3_4.drop i = ix2 g a) (fun _ : Unit => ix5 0 g a 0 0) ?_ ?_]
  · simp [Ideal.ofBits, Ideal.ieee]
  · intro k k' _
    rfl
  · intro i
    constructor
    · intro h
      refine ⟨(), ?_⟩
      funext b
      apply Fin.ext
      match b with
      | ⟨0, _⟩ => exact (Nat.lt_one_iff.mp (i 0).isLt).symm
      | ⟨1, _⟩ => exact (congrArg Fin.val (congrFun h ⟨0, by decide⟩)).symm
      | ⟨2, _⟩ => exact (congrArg Fin.val (congrFun h ⟨1, by decide⟩)).symm
      | ⟨3, _⟩ => exact (Nat.lt_one_iff.mp (i 3).isLt).symm
      | ⟨4, _⟩ => exact (Nat.lt_one_iff.mp (i 4).isLt).symm
    · rintro ⟨k, rfl⟩
      funext b
      apply Fin.ext
      match b with
      | ⟨0, _⟩ => rfl
      | ⟨1, _⟩ => rfl

include H in
theorem sinks_at : val_main_v196 (F := Ideal) x0 x1 x2 x3 x4 x5 (ix5 0 g a 0 0) = (I.dS (headOf g a) : EReal) := by
  have hs := fun n r => sinkrow_at H n g a r
  have h1 : val_main_v183 (F := Ideal) x0 x1 x2 x3 x4 x5 (ix5 0 g a 0 0) = (I.dS (headOf g a) : EReal) := by
    have e : val_main_v182 (F := Ideal) x0 x1 x2 x3 x4 x5 (ix3 g a 0) = (I.dS (headOf g a) : EReal) := by
      unfold val_main_v182 val_main_cst_28
      rw [sum_rows]
      simp only [hs, sum_real, Finset.sum_neg_distrib, Inputs.dS, sk_row]
    unfold val_main_v183
    generalize val_main_v182 (F := Ideal) x0 x1 x2 x3 x4 x5 = x at e ⊢
    pointwise []
    exact e
  have h2 : val_main_v195 (F := Ideal) x0 x1 x2 x3 x4 x5 (ix5 0 g a 0 0) = 0 := by
    have hz : ∀ n r, val_main_v193 (F := Ideal) x0 x1 x2 x3 x4 x5 (ix5 n g a r 0) = 0 := fun n r => by
      rw [val_main_v193_apply, zero_at H]
      exact zero_mul _
    have e : val_main_v194 (F := Ideal) x0 x1 x2 x3 x4 x5 (ix3 g a 0) = 0 := by
      unfold val_main_v194 val_main_cst_31
      rw [sum_rows]
      simp only [hz, Finset.sum_const_zero]
    unfold val_main_v195
    generalize val_main_v194 (F := Ideal) x0 x1 x2 x3 x4 x5 = x at e ⊢
    pointwise []
    exact e
  rw [val_main_v196_apply, h1, h2]
  exact add_zero _

include H in
theorem ds_out (l : Fin 128) : val_main_v273 (F := Ideal) x0 x1 x2 x3 x4 x5 (ix2 0 l) = ((if h : l.val < 16 then I.dS ⟨l.val, h⟩ else 0 : ℝ) : EReal) := by
  have e : ∀ h : Fin 16, val_main_v204 (F := Ideal) x0 x1 x2 x3 x4 x5 (ix1 h) = (I.dS h : EReal) := fun h => by
    have e : val_main_v203 (F := Ideal) x0 x1 x2 x3 x4 x5 (ix2 ⟨h.val / 4, by omega⟩ ⟨h.val % 4, by omega⟩) = (I.dS h : EReal) := by
      unfold val_main_v203 val_main_cst_33
      rw [sum_one, sinks_at H]
      refine congrArg _ (congrArg I.dS (Fin.ext ?_))
      show 4 * (h.val / 4) + h.val % 4 = h.val
      omega
    unfold val_main_v204
    generalize val_main_v203 (F := Ideal) x0 x1 x2 x3 x4 x5 = x at e ⊢
    pointwise []
    exact e
  unfold val_main_v273 val_main_v272
  generalize val_main_v204 (F := Ideal) x0 x1 x2 x3 x4 x5 = x at e ⊢
  pointwise [val_main_call2_v0, val_main_c_43]
  by_cases h : l.val < 16
  · rw [dif_pos h, dif_pos h]
    exact e _
  · rw [dif_neg h, dif_neg h]
    show (((0 : ℤ) : ℝ) : EReal) = ((0 : ℝ) : EReal)
    rw [Int.cast_zero]
end
end Cert.AttnRefIdeal.Data

end
-- ==== Proof.AttnFinal.lean ====
/- What the attention call's result arrays hold after its run: the reference's results. -/
module

public import proofs.«01_k».proof.Proof.AttnHost
public import proofs.«01_k».proof.Proof.AttnWrite
public import proofs.«01_k».proof.Proof.AttnRefGrad

@[expose] public section

set_option maxRecDepth 16384

noncomputable section

namespace Cert.AttnIdeal.Body

open Cert.AttnIdeal Cert.AttnIdeal.Gen Cert.Step Cert.Step.Attn Cert.AttnRefIdeal.Read Cert.AttnRefIdeal.Data
open Idealize.ShloMosaic Idealize.ShloMosaic.TcCoe Idealize.ShloMosaic.Tactic Idealize.ShloMosaic.StableHlo Idealize.SL.Sem

variable {m : (ℓ : Loc nD τ sig) → Buf (Elt Ideal) ℓ} {c : Dev nD}

theorem coord_pt (n : Fin 64) : (grid0.coords (pt n) 0).val = n.val := by
  have e0 : (grid0.coords (pt n) 0).val = n.val / 1 % 65 := Pipeline.Grid.coords_val (pt n) 0 (by decide) rfl
  omega

variable {I : Inputs} (H : Holds (argQ m c) (argD m c) (argK m c) (argV m c) (argS m c) (argP m c) I)
include H

theorem reads (n : Fin 64) : PointReads (grid0.coords (pt n)) (iblk m c 0 (pt n)) (iblk m c 1 (pt n)) (iblk m c 2 (pt n)) (iblk m c 3 (pt n))
    (iblk m c 4 (pt n)) (iblk m c 5 (pt n)) (iblk m c 6 (pt n)) I.S (I.q n) (I.D n) (I.K (older n)) (I.K n) (I.V (older n)) (I.V n) where
  x0 h := blk_s H n h
  x1 r h e := blk_q H n h r e
  x2 r g e := blk_ka H n r g e
  x3 r g e := blk_kb H n r g e
  x4 r g e := blk_va H n r g e
  x5 r g e := blk_vb H n r g e
  x6 r h e := blk_d H n h r e

theorem tables (n : Fin 64) : Tables (tab (iblk m c 7 (pt n))) (tab (iblk m c 8 (pt n))) (tab (iblk m c 9 (pt n))) (I.C n) (I.N n) where
  c r l := (tab_at _ r l).trans (blk_c H n r l)
  s1 r l := (tab_at _ r l).trans (blk_s1 H n r l)
  s2 r l := (tab_at _ r l).trans (blk_s2 H n r l)

theorem tables_after (n : Fin 64) :
    Tables (tab (iblk m c 10 (after n))) (tab (iblk m c 11 (after n))) (tab (iblk m c 12 (after n))) (I.C n) (I.N n) where
  c r l := (tab_at _ r l).trans (tab_c H n r l)
  s1 r l := (tab_at _ r l).trans (tab_s1 H n r l)
  s2 r l := (tab_at _ r l).trans (tab_s2 H n r l)

omit H in
theorem before_pos (X : Fin 64 → Fin 128 → Fin 4 → Fin 64 → ℝ) (n : Fin 64) (h : n.val ≠ 0) : before X n = X (older n) := if_neg h

omit H in
theorem grad_own (I : Inputs) (n : Fin 64) (h : Fin 16) :
    gradAt n.val I.S (I.q n) (I.D n) (I.K (older n)) (I.K n) (I.V (older n)) (I.V n) h = I.grad n h := by
  unfold Inputs.grad
  by_cases hn : n.val = 0
  · rw [hn]; exact grad_first h
  · rw [before_pos _ n hn, before_pos _ n hn]

omit H in
theorem prob_own (I : Inputs) (n : Fin 64) (h : Fin 16) : probAt n.val I.S (I.q n) (I.K (older n)) (I.K n) h = I.pr n h := by
  unfold Inputs.pr
  by_cases hn : n.val = 0
  · rw [hn]; exact prob_first h
  · rw [before_pos _ n hn]

omit H in
theorem sink_own (I : Inputs) (n : Fin 64) (h : Fin 16) :
    sinkAt n.val I.S (I.q n) (I.D n) (I.K (older n)) (I.K n) (I.V (older n)) (I.V n) h = I.sk n h := by
  unfold Inputs.sk
  by_cases hn : n.val = 0
  · rw [hn]; exact sink_first h
  · rw [before_pos _ n hn, before_pos _ n hn]

omit H in
theorem raw_own (I : Inputs) (n : Fin 64) (h : Fin 16) :
    (fun r e => ∑ j, gradAt n.val I.S (I.q n) (I.D n) (I.K (older n)) (I.K n) (I.V (older n)) (I.V n) h r j
      * bandOf (I.K (older n)) (I.K n) (groupOf h) j e) = I.rawQ n h := by
  funext r e
  unfold Inputs.rawQ Inputs.grad Inputs.kb
  by_cases hn : n.val = 0
  · rw [hn]; exact raw_first h r e
  · rw [before_pos _ n hn, before_pos _ n hn]

/-! ## The points -/

theorem dq_point (n : Fin 64) (r : Fin 128) (h : Fin 16) (e : Fin 64) :
    dqAt m c (pt n) (ix2 r ⟨64 * h.val + e.val, by omega⟩) = (I.dQ n h r e : EReal) := by
  refine (dqBlk_real (reads H n) (tables H n) h r e).trans ?_
  rw [coord_pt]
  unfold Inputs.dQ
  rw [← raw_own]

theorem bandK_point (n : Fin 64) (j : Fin 256) (g : Fin 4) (e : Fin 64) :
    bandK m c (pt n) (ix2 j ⟨64 * g.val + e.val, by omega⟩) = (I.bandK n j g e : EReal) := by
  refine (dkBand_real (reads H n) j g e).trans ?_
  rw [coord_pt]
  unfold Inputs.bandK
  simp only [grad_own]

theorem bandV_point (n : Fin 64) (j : Fin 256) (g : Fin 4) (e : Fin 64) :
    bandV m c (pt n) (ix2 j ⟨64 * g.val + e.val, by omega⟩) = (I.bandV n j g e : EReal) := by
  refine (dvBand_real (reads H n) j g e).trans ?_
  rw [coord_pt]
  unfold Inputs.bandV
  simp only [prob_own]

theorem dk_point (n : Fin 64) (r : Fin 128) (g : Fin 4) (e : Fin 64) :
    leftK m c (after n) (ix2 r ⟨64 * g.val + e.val, by omega⟩) = (I.dK n r g e : EReal) := by
  have hp : prev (after n) = pt n := Fin.ext (written n)
  have hk : ∀ r (g : Fin 4) (e : Fin 64), keep (bandK m c (pt n)) (ix2 r ⟨64 * g.val + e.val, by omega⟩)
      = (I.bandK n ⟨128 + r.val, by omega⟩ g e : EReal) := fun r g e => (keep_at _ _ _).trans (bandK_point H n _ g e)
  by_cases hn : n.val < 63
  · have hs : after n = pt ⟨n.val + 1, by omega⟩ := rfl
    rw [leftK_mid m c _ (Nat.succ_ne_zero _) (show n.val + 1 < 64 by omega), hp]
    refine (dkBlk_real hk (B := Inputs.next I.bandK n) (fun r g e => (upper_at _ _ _).trans ?_) (tables_after H n) r g e).trans rfl
    rw [hs, bandK_point H]
    unfold Inputs.next
    rw [dif_pos hn]
  · rw [leftK_last m c _ (show ¬ n.val + 1 < 64 by omega), hp, kept_inner m c _ n.isLt]
    refine (dkBlk_real hk (B := Inputs.next I.bandK n) (fun r g e => (zeroBlk_at _ _).trans ?_) (tables_after H n) r g e).trans rfl
    unfold Inputs.next
    rw [dif_neg hn]

theorem dv_point (n : Fin 64) (r : Fin 128) (g : Fin 4) (e : Fin 64) :
    leftV m c (after n) (ix2 r ⟨64 * g.val + e.val, by omega⟩) = (I.dV n r g e : EReal) := by
  have hp : prev (after n) = pt n := Fin.ext (written n)
  have hk : ∀ r (g : Fin 4) (e : Fin 64), keep (bandV m c (pt n)) (ix2 r ⟨64 * g.val + e.val, by omega⟩)
      = (I.bandV n ⟨128 + r.val, by omega⟩ g e : EReal) := fun r g e => (keep_at _ _ _).trans (bandV_point H n _ g e)
  by_cases hn : n.val < 63
  · have hs : after n = pt ⟨n.val + 1, by omega⟩ := rfl
    rw [leftV_mid m c _ (Nat.succ_ne_zero _) (show n.val + 1 < 64 by omega), hp]
    refine (dvBlk_real hk (B := Inputs.next I.bandV n) (fun r g e => (upper_at _ _ _).trans ?_) r g e).trans rfl
    rw [hs, bandV_point H]
    unfold Inputs.next
    rw [dif_pos hn]
  · rw [leftV_last m c _ (show ¬ n.val + 1 < 64 by omega), hp, keptV_inner m c _ n.isLt]
    refine (dvBlk_real hk (B := Inputs.next I.bandV n) (fun r g e => (zeroBlk_at _ _).trans ?_) r g e).trans rfl
    unfold Inputs.next
    rw [dif_neg hn]

/-! ## The sinks' running sum -/

/-- A block's share at a lane. -/
def share (I : Inputs) (k : ℕ) (l : Fin 128) : ℝ := if h : k < 64 then rowOf (I.sk ⟨k, h⟩) 16 l else 0

omit H in
theorem dsBlk_at (i : grid0.Coords) (x0 : Vec Ideal S16 .f32) (x1 : Vec Ideal S128x1024 .bf16) (x2 x3 x4 x5 : Vec Ideal S128x256 .bf16)
    (x6 : Vec Ideal S128x1024 .bf16) (xd : Vec Ideal S1x128 .f32) (l : Fin 128) :
    dsBlk i x0 x1 x2 x3 x4 x5 x6 xd (ix2 0 l) = xd (ix2 0 l) + dsRow i x0 x1 x2 x3 x4 x5 x6 8 (ix2 0 l) := by
  unfold dsBlk dsAdd
  generalize dsRow i x0 x1 x2 x3 x4 x5 x6 8 = y
  pointwise []

theorem step (n : Fin 64) (xd : Vec Ideal S1x128 .f32) (a : ℝ) (l : Fin 128) (hd : xd (ix2 0 l) = (a : EReal)) :
    dsBlk (grid0.coords (pt n)) (iblk m c 0 (pt n)) (iblk m c 1 (pt n)) (iblk m c 2 (pt n)) (iblk m c 3 (pt n)) (iblk m c 4 (pt n))
      (iblk m c 5 (pt n)) (iblk m c 6 (pt n)) xd (ix2 0 l) = ((a + share I n.val l : ℝ) : EReal) := by
  rw [dsBlk_at, hd, dsRow_real (reads H n) 8 (le_refl 8), coord_pt, ← EReal.coe_add]
  unfold share
  rw [dif_pos n.isLt]
  congr 3
  funext h
  exact sink_own I n h

theorem sum_point (l : Fin 128) : ∀ (k : ℕ) (h : k < cfg0.N), sumAt m c k h (ix2 0 l) = ((∑ p ∈ Finset.range (k + 1), share I p l : ℝ) : EReal)
  | 0, h => by
    refine (step H ⟨0, by omega⟩ (zeroRow (F := Ideal)) 0 l (by pointwise [zeroRow]; rfl)).trans ?_
    rw [zero_add, zero_add, Finset.sum_range_one]
  | k + 1, h => by
    have ih := sum_point l k (Nat.lt_of_succ_lt h)
    unfold sumAt
    rw [Finset.sum_range_succ _ (k + 1)]
    by_cases hk : k + 1 < 64
    · rw [if_pos hk]
      exact step H ⟨k + 1, hk⟩ _ _ l ih
    · rw [if_neg hk, ih]
      unfold share
      rw [dif_neg hk, add_zero]

theorem ds_point (l : Fin 128) : leftS m c ⟨64, by decide⟩ (ix2 0 l) = ((if h : l.val < 16 then I.dS ⟨l.val, h⟩ else 0 : ℝ) : EReal) := by
  refine (sum_point H l 64 (by decide)).trans ?_
  congr 1
  rw [Finset.sum_range_succ, show share I 64 l = 0 from dif_neg (by omega), add_zero, Finset.sum_range]
  by_cases hl : l.val < 16
  · rw [dif_pos hl]
    refine Finset.sum_congr rfl fun n _ => ?_
    unfold share rowOf
    rw [dif_pos n.isLt, dif_pos hl, if_pos hl]
  · rw [dif_neg hl]
    refine Finset.sum_eq_zero fun n _ => ?_
    unfold share rowOf
    rw [dif_pos n.isLt, dif_neg hl]

/-! ## The arrays -/

/-- The block that lies in the first result's window at a point. -/
def at13 (t : Fin cfg0.N) : Fin 64 := ⟨min t.val 63, by omega⟩

omit H in
theorem leftQ_eq (t : Fin cfg0.N) : leftQ m c t = dqAt m c (pt (at13 t)) := by
  have hN : t.val < 65 := lt_of_lt_of_eq t.isLt (show cfg0.N = 65 from N_0)
  by_cases h : t.val < 64
  · rw [leftQ_inner m c t h]
    congr 1
    exact Fin.ext (show t.val = min t.val 63 by omega)
  · rw [leftQ_last m c t h, leftQ_inner m c _ (show t.val - 1 < 64 by omega)]
    congr 1
    exact Fin.ext (show t.val - 1 = min t.val 63 by omega)

omit H in
theorem emb13 (t : Fin cfg0.N) (r : Fin 128) (l : Fin 1024) :
    (win0_13.blk t).view.emb (ix2 r l) = (ix2 (tok (at13 t) r) l : S8192x1024.Idx) := by
  funext a
  apply Fin.ext
  fin_cases a <;> blk_simp [idx t, tok, at13] <;> rfl

theorem final13 : (dats m 0 c).arrAt 13 (cfgs 0).N
    = val_main_v269 (F := Ideal) (argQ m c) (argK m c) (argV m c) (argS m c) (argP m c) (argD m c) := by
  refine (dats m 0 c).arrAt_eq_of_covers 13 _ (by decide +kernel) fun t _ y => ?_
  have h : ∀ y : S128x1024.Idx, leftQ m c t y
      = val_main_v269 (F := Ideal) (argQ m c) (argK m c) (argV m c) (argS m c) (argP m c) (argD m c) ((win0_13.blk t).view.emb y) :=
    forall_ix2 fun r l => by
      rw [leftQ_eq, emb13]
      have hl : l = ⟨64 * (⟨l.val / 64, by omega⟩ : Fin 16).val + (⟨l.val % 64, by omega⟩ : Fin 64).val, by
        show 64 * (l.val / 64) + l.val % 64 < 1024; omega⟩ := Fin.ext (show l.val = 64 * (l.val / 64) + l.val % 64 by omega)
      rw [hl, dq_point H, dq_at H]
  blk_simp
  exact h y

omit H in
/-- A point that writes the keys' and values' gradients back comes after a block's. -/
theorem flushed (t : Fin cfg0.N) (w : Fin cfg0.W) (hw : w = 14 ∨ w = 15) (h : (cfg0.win w).flush t = true) : ∃ n, t = after n := by
  have h0 : t.val ≠ 0 := fun h0 => by
    have e : t = ⟨0, by decide⟩ := Fin.ext h0
    rcases hw with rfl | rfl
    · rw [e] at h; exact absurd h (by decide +kernel)
    · rw [e] at h; exact absurd h (by decide +kernel)
  have hN : t.val < 65 := lt_of_lt_of_eq t.isLt (show cfg0.N = 65 from N_0)
  exact ⟨⟨t.val - 1, by omega⟩, Fin.ext (show t.val = t.val - 1 + 1 by omega)⟩

omit H in
theorem emb14 (n : Fin 64) (r : Fin 128) (l : Fin 256) :
    (win0_14.blk (after n)).view.emb (ix2 r l) = (ix2 (tok n r) l : S8192x256.Idx) := by
  funext a
  apply Fin.ext
  fin_cases a <;> blk_simp [idx (after n), tok, written] <;> rfl

omit H in
theorem emb15 (n : Fin 64) (r : Fin 128) (l : Fin 256) :
    (win0_15.blk (after n)).view.emb (ix2 r l) = (ix2 (tok n r) l : S8192x256.Idx) := by
  funext a
  apply Fin.ext
  fin_cases a <;> blk_simp [idx (after n), tok, written] <;> rfl

omit H in
theorem split (l : Fin 256) : l = ⟨64 * (⟨l.val / 64, by omega⟩ : Fin 4).val + (⟨l.val % 64, by omega⟩ : Fin 64).val, by
    show 64 * (l.val / 64) + l.val % 64 < 256; omega⟩ := Fin.ext (show l.val = 64 * (l.val / 64) + l.val % 64 by omega)

theorem final14 : (dats m 0 c).arrAt 14 (cfgs 0).N
    = val_main_v270 (F := Ideal) (argQ m c) (argK m c) (argV m c) (argS m c) (argP m c) (argD m c) := by
  refine (dats m 0 c).arrAt_eq_of_covers 14 _ (by decide +kernel) fun t ht y => ?_
  obtain ⟨n, rfl⟩ := flushed t 14 (.inl rfl) ht
  have h : ∀ y : S128x256.Idx, leftK m c (after n) y
      = val_main_v270 (F := Ideal) (argQ m c) (argK m c) (argV m c) (argS m c) (argP m c) (argD m c) ((win0_14.blk (after n)).view.emb y) :=
    forall_ix2 fun r l => by
      rw [emb14, split l, dk_point H, dk_at H]
  blk_simp
  exact h y

theorem final15 : (dats m 0 c).arrAt 15 (cfgs 0).N
    = val_main_v271 (F := Ideal) (argQ m c) (argK m c) (argS m c) (argP m c) (argD m c) := by
  refine (dats m 0 c).arrAt_eq_of_covers 15 _ (by decide +kernel) fun t ht y => ?_
  obtain ⟨n, rfl⟩ := flushed t 15 (.inr rfl) ht
  have h : ∀ y : S128x256.Idx, leftV m c (after n) y
      = val_main_v271 (F := Ideal) (argQ m c) (argK m c) (argS m c) (argP m c) (argD m c) ((win0_15.blk (after n)).view.emb y) :=
    forall_ix2 fun r l => by
      rw [emb15, split l, dv_point H, dv_at H]
  blk_simp
  exact h y

theorem final16 : (dats m 0 c).arrAt 16 (cfgs 0).N
    = val_main_v273 (F := Ideal) (argQ m c) (argK m c) (argV m c) (argS m c) (argP m c) (argD m c) := by
  refine (dats m 0 c).arrAt_eq_of_after_last 16 ⟨64, by decide⟩ (by decide +kernel) _ fun y => ?_
  have h : ∀ y : S1x128.Idx, leftS m c ⟨64, by decide⟩ y
      = val_main_v273 (F := Ideal) (argQ m c) (argK m c) (argV m c) (argS m c) (argP m c) (argD m c) y :=
    forall_ix2 fun o l => by
      rw [Subsingleton.elim o 0, ds_point H, ds_out H]
  blk_simp
  exact h y

end Cert.AttnIdeal.Body

end
-- ==== Proof.AttnClaim.lean ====
/- The attention's gradients: the claims about the backward kernel and its reference. -/
module

public import proofs.«01_k».proof.Defs
public import proofs.«01_k».proof.Proof.Gen.Attn.Skeleton
public import proofs.«01_k».proof.Proof.AttnFinal
public import proofs.«01_k».proof.Proof.Finite
public import Idealize.ShloMosaic.Lib.Claim
public import Idealize.ShloMosaic.Lib.Tactic

@[expose] public section

set_option maxRecDepth 16384

noncomputable section

namespace Cert.Proof.Attn

open Idealize.ShloMosaic Idealize.ShloMosaic.Tactic Idealize.SL.Sem Cert.Step

instance facts_pre : Cert.Pre_finite_attn.Facts := by
  constructor <;> decide

/-- At the machine's numbers a named constant is its word. -/
local instance named_bits : Named Bits where
  named _ _ w := Scalar.ofBits w

theorem frame_ideal : Cert.quiescent_AttnIdeal := fun m ρ _ => Cert.AttnIdeal.Body.frame_all m ρ

theorem frame_ideal_pre : Cert.quiescent_AttnIdeal_pre_finite_attn := fun m ρ _ => Cert.AttnIdeal.Body.frame_all m ρ

theorem frame_kernel : Cert.quiescent_Attn := by
  intro m ρ _
  have h := Cert.AttnIdeal.Body.frame_all (F := Bits) m ρ
  exact cast (by sl_kernel_rfl) h

theorem frame_ref : Cert.quiescent_AttnRefIdeal := fun m g _ =>
  (θ_run Cert.AttnRefIdeal.defs _ _).mono
    (fun r h => ⟨fun c => (h c).2.2.2.2, sem_eq_zero_of_no_sems (by decide) r.2⟩)
    (Cert.AttnRefIdeal.Value.run m g)

theorem frame_ref_pre : Cert.quiescent_AttnRefIdeal_pre_finite_attn := fun m g _ => frame_ref m g trivial

/-- The mask's word stands for negative infinity. -/
theorem preserves : Cert.preserves_Attn_AttnIdeal :=
  IdealRules.named_const.statement Cert.AttnIdeal.κ "mask" .f32 0xF149F2CA#32 ⊥ rfl

open Cert.AttnIdeal.Body Cert.AttnRefIdeal.Data in
/-- Under the precondition the arguments' reals are given. -/
theorem holds (m : (ℓ : Loc Cert.AttnIdeal.nD Cert.AttnIdeal.τ Cert.AttnIdeal.sig) → Buf (Elt Ideal) ℓ)
    (hpre : Cert.Pre_AttnIdeal_finite_attn m) (c : Dev Cert.AttnIdeal.nD) :
    ∃ I : Step.Attn.Inputs, Holds (argQ m c) (argD m c) (argK m c) (argV m c) (argS m c) (argP m c) I := by
  obtain ⟨h0, h1, h2, h3, h5⟩ := hpre c
  exact holds_of_real (argP m c) (fun i => ⟨_, real_of_finite _ _ _ h0 i⟩) (fun i => ⟨_, real_of_finite _ _ _ h1 i⟩)
    (fun i => ⟨_, real_of_finite _ _ _ h2 i⟩) (fun i => ⟨_, real_of_finite _ _ _ h3 i⟩) (fun i => ⟨_, real_of_finite _ _ _ h5 i⟩)

set_option maxHeartbeats 1600000 in
open Cert.AttnIdeal Cert.AttnIdeal.Gen Cert.AttnIdeal.Body in
/-- The idealized kernel's run: each result holds its window's final array, and the arguments what they held. -/
theorem results (m : (ℓ : Loc Cert.AttnIdeal.nD Cert.AttnIdeal.τ Cert.AttnIdeal.sig) → Buf (Elt Ideal) ℓ)
    (ρ : Dev Cert.AttnIdeal.nD → PrngReg) :
    θ_run (Cert.AttnIdeal.defs (F := Ideal)) (onTc (τ := Cert.AttnIdeal.τ) (Cert.AttnIdeal.main (F := Ideal))) ⟨m, fun _ => 0, ρ⟩
      (fun r => ∀ c : Dev Cert.AttnIdeal.nD,
        (r.2.mem ((c.tc : Thread Cert.AttnIdeal.nD Cert.AttnIdeal.τ).loc main_v104_0) = (dats m 0 c).arrAt 13 (cfgs 0).N
        ∧ r.2.mem ((c.tc : Thread Cert.AttnIdeal.nD Cert.AttnIdeal.τ).loc main_v104_1) = (dats m 0 c).arrAt 14 (cfgs 0).N
        ∧ r.2.mem ((c.tc : Thread Cert.AttnIdeal.nD Cert.AttnIdeal.τ).loc main_v104_2) = (dats m 0 c).arrAt 15 (cfgs 0).N
        ∧ r.2.mem ((c.tc : Thread Cert.AttnIdeal.nD Cert.AttnIdeal.τ).loc main_v104_3) = (dats m 0 c).arrAt 16 (cfgs 0).N)) :=
  (θ_run _ _ _).mono (fun r h c => ⟨(h c).1 13, (h c).1 14, (h c).1 15, (h c).1 16⟩) (run_main m ρ)

set_option maxHeartbeats 1600000 in
open Cert.AttnIdeal.Body Cert.AttnRefIdeal.Read in
theorem algebraic : Cert.algebraic_AttnIdeal_AttnRefIdeal_pre_finite_attn := by
  intro m g m' g' hpre hagree
  refine ⟨fun c => (dats m 0 c).arrAt 13 (Cert.AttnIdeal.cfgs 0).N, fun c => (dats m 0 c).arrAt 14 (Cert.AttnIdeal.cfgs 0).N,
    fun c => (dats m 0 c).arrAt 15 (Cert.AttnIdeal.cfgs 0).N, fun c => (dats m 0 c).arrAt 16 (Cert.AttnIdeal.cfgs 0).N, ?_, ?_⟩
  · exact θ_run_mono (θ_run_and (results m g) (Cert.AttnIdeal.Body.frame_all m g))
      (fun r h c => ⟨(h.1 c).1, (h.1 c).2.1, (h.1 c).2.2.1, (h.1 c).2.2.2, h.2.1 c⟩)
  · refine (θ_run Cert.AttnRefIdeal.defs _ _).mono (fun r h c => ?_) (Cert.AttnRefIdeal.Value.run m' g')
    obtain ⟨I, H⟩ := holds m hpre c
    obtain ⟨e0, e1, e2, e3, e4, e5⟩ := hagree c
    obtain ⟨q0, q1, q2, q3, hargs⟩ := h c
    have e : ∀ {α : Sort 1} (f : _ → _ → _ → _ → _ → _ → α), f (m' ((c.tc : Thread Cert.AttnRefIdeal.nD Cert.AttnRefIdeal.τ).loc Cert.AttnRefIdeal.main_arg0)) (m' ((c.tc : Thread Cert.AttnRefIdeal.nD Cert.AttnRefIdeal.τ).loc Cert.AttnRefIdeal.main_arg1))
        (m' ((c.tc : Thread Cert.AttnRefIdeal.nD Cert.AttnRefIdeal.τ).loc Cert.AttnRefIdeal.main_arg2)) (m' ((c.tc : Thread Cert.AttnRefIdeal.nD Cert.AttnRefIdeal.τ).loc Cert.AttnRefIdeal.main_arg3))
        (m' ((c.tc : Thread Cert.AttnRefIdeal.nD Cert.AttnRefIdeal.τ).loc Cert.AttnRefIdeal.main_arg4)) (m' ((c.tc : Thread Cert.AttnRefIdeal.nD Cert.AttnRefIdeal.τ).loc Cert.AttnRefIdeal.main_arg5))
        = f (argQ m c) (argK m c) (argV m c) (argS m c) (argP m c) (argD m c) := fun f => by rw [e0, e1, e2, e3, e4, e5]
    exact ⟨((q0.trans (val_main_v269_eq _)).trans (e (val_main_v269 (F := Ideal)))).trans (final13 H).symm,
      ((q1.trans (val_main_v270_eq _)).trans (e (val_main_v270 (F := Ideal)))).trans (final14 H).symm,
      ((q2.trans (val_main_v271_eq _)).trans (e fun q k _ => val_main_v271 (F := Ideal) q k)).trans (final15 H).symm,
      ((q3.trans (val_main_v273_eq _)).trans (e (val_main_v273 (F := Ideal)))).trans (final16 H).symm, hargs⟩

end Cert.Proof.Attn

end
-- ==== Proof.SguRun.lean ====
/- The three runs of the gated unit's backward body: the first grid point, the points between, and the last. -/
module

public import proofs.«01_k».proof.Proof.Gen.SguIdeal.Frame.Runs
public import proofs.«01_k».proof.Proof.Gen.SguIdeal.Skeleton
public import Idealize.ShloMosaic.Lib.Pipeline.FrameBody
public import Idealize.ShloMosaic.Lib.VecWindow
public import Idealize.ShloMosaic.Lib.Tactic

@[expose] public section

set_option maxRecDepth 16384

noncomputable section

namespace Cert.SguIdeal.Body

open Cert.SguIdeal Cert.SguIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What a point leaves: the two blocks it writes back, the four sums so far, and the bias sums in the scratch. -/
structure Left (F : FTy → Type) where
  dx : Vec F S512x1024 .f32
  dproj : Vec F S512x5632 .bf16
  dg : Vec F S1x1024 .f32
  dws : Vec F S8x128x128 .f32
  dlg : Vec F S1x1024 .f32
  dlb : Vec F S1x1024 .f32
  db : Vec F S128x1024 .f32

/-- The stores into each of those seven buffers, the last one first. -/
structure Stores (F : FTy → Type) where
  dx : List (View.Piece (Elt F) S512x1024 .f32)
  dproj : List (View.Piece (Elt F) S512x5632 .bf16)
  dg : List (View.Piece (Elt F) S1x1024 .f32)
  dws : List (View.Piece (Elt F) S8x128x128 .f32)
  dlg : List (View.Piece (Elt F) S1x1024 .f32)
  dlb : List (View.Piece (Elt F) S1x1024 .f32)
  db : List (View.Piece (Elt F) S128x1024 .f32)

/-- The sixteen arrays a point reads, in its buffers. -/
def heldIn (c : Dev nD) (arg1 : Memref sig .tc .vmem S512x1024 .bf16) (arg2 : Memref sig .tc .vmem S512x1024 .bf16) (arg3 : Memref sig .tc .vmem S512x1024 .f32) (arg4 : Memref sig .tc .vmem S1x1024 .f32) (arg5 : Memref sig .tc .vmem S1x1024 .f32) (arg6 : Memref sig .tc .vmem S8x128x128 .f32) (arg7 : Memref sig .tc .vmem S128x1024 .f32) (arg8 : Memref sig .tc .vmem S512x1024 .bf16) (arg9 : Memref sig .tc .vmem S512x256 .bf16) (arg10 : Memref sig .tc .vmem S512x256 .bf16) (arg11 : Memref sig .tc .vmem S512x1024 .bf16) (arg12 : Memref sig .tc .vmem S512x1024 .bf16) (arg13 : Memref sig .tc .vmem S512x1024 .f32) (arg14 : Memref sig .tc .vmem S512x1024 .f32) (arg15 : Memref sig .tc .vmem S1x1024 .f32) (arg16 : Memref sig .tc .vmem S1024x5632 .bf16)
    (x0 : Vec F S512x1024 .bf16) (x1 : Vec F S512x1024 .bf16) (x2 : Vec F S512x1024 .f32) (x3 : Vec F S1x1024 .f32) (x4 : Vec F S1x1024 .f32) (x5 : Vec F S8x128x128 .f32) (x6 : Vec F S128x1024 .f32) (x7 : Vec F S512x1024 .bf16) (x8 : Vec F S512x256 .bf16) (x9 : Vec F S512x256 .bf16) (x10 : Vec F S512x1024 .bf16) (x11 : Vec F S512x1024 .bf16) (x12 : Vec F S512x1024 .f32) (x13 : Vec F S512x1024 .f32) (x14 : Vec F S1x1024 .f32) (x15 : Vec F S1024x5632 .bf16) : sProp 𝕄 :=
  iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ owns (c : Thread nD τ) arg8 fullShare x7
    ∗ owns (c : Thread nD τ) arg9 fullShare x8
    ∗ owns (c : Thread nD τ) arg10 fullShare x9
    ∗ owns (c : Thread nD τ) arg11 fullShare x10
    ∗ owns (c : Thread nD τ) arg12 fullShare x11
    ∗ owns (c : Thread nD τ) arg13 fullShare x12
    ∗ owns (c : Thread nD τ) arg14 fullShare x13
    ∗ owns (c : Thread nD τ) arg15 fullShare x14
    ∗ owns (c : Thread nD τ) arg16 fullShare x15)

/-- What a point leaves, in its buffers. -/
def heldOut (c : Dev nD) (arg17 : Memref sig .tc .vmem S512x1024 .f32) (arg18 : Memref sig .tc .vmem S512x5632 .bf16) (arg19 : Memref sig .tc .vmem S1x1024 .f32) (arg20 : Memref sig .tc .vmem S8x128x128 .f32) (arg22 : Memref sig .tc .vmem S1x1024 .f32) (arg23 : Memref sig .tc .vmem S1x1024 .f32) (arg24 : Memref sig .tc .vmem S128x1024 .f32) (l : Left F) : sProp 𝕄 :=
  iprop(owns (c : Thread nD τ) arg17 fullShare l.dx
    ∗ owns (c : Thread nD τ) arg18 fullShare l.dproj
    ∗ owns (c : Thread nD τ) arg19 fullShare l.dg
    ∗ owns (c : Thread nD τ) arg20 fullShare l.dws
    ∗ owns (c : Thread nD τ) arg22 fullShare l.dlg
    ∗ owns (c : Thread nD τ) arg23 fullShare l.dlb
    ∗ owns (c : Thread nD τ) arg24 fullShare l.db)

/-- A buffer some stores were made into. -/
def stored (c : Dev nD) {s : Shape} {e : EltTy} (a : Memref sig .tc .vmem s e) (L : List (View.Piece (Elt F) s e)) : sProp 𝕄 :=
  iprop(∃ f, a.view.loc (c : Thread nD τ) ↦[a.view.set]{fullShare} a.view.writes (Elt F) f L)

/-- Stores that cover the buffer settle what it holds. -/
theorem settled (c : Dev nD) {s : Shape} {e : EltTy} (a : Memref sig .tc .vmem s e) (L : List (View.Piece (Elt F) s e))
    (h : ∀ y : s.Idx, ∃ p ∈ L, y ∈ p.1.set) : stored c a L ⊢ owns (c : Thread nD τ) a fullShare (View.canon L) := by
  unfold stored owns
  iintro ⟨%f, H⟩
  iexists _; isplitr
  swap; · iexact H
  ipureintro; exact View.read_writes_eq_canon _ _ _ h

def Stores.left (P : Stores F) : Left F :=
  ⟨View.canon P.dx, View.canon P.dproj, View.canon P.dg, View.canon P.dws, View.canon P.dlg, View.canon P.dlb, View.canon P.db⟩

/-- The stores cover each buffer. -/
structure Stores.Whole (P : Stores F) : Prop where
  dx : ∀ y, ∃ p ∈ P.dx, y ∈ p.1.set
  dproj : ∀ y, ∃ p ∈ P.dproj, y ∈ p.1.set
  dg : ∀ y, ∃ p ∈ P.dg, y ∈ p.1.set
  dws : ∀ y, ∃ p ∈ P.dws, y ∈ p.1.set
  dlg : ∀ y, ∃ p ∈ P.dlg, y ∈ p.1.set
  dlb : ∀ y, ∃ p ∈ P.dlb, y ∈ p.1.set
  db : ∀ y, ∃ p ∈ P.db, y ∈ p.1.set

def storedOut (c : Dev nD) (arg17 : Memref sig .tc .vmem S512x1024 .f32) (arg18 : Memref sig .tc .vmem S512x5632 .bf16) (arg19 : Memref sig .tc .vmem S1x1024 .f32) (arg20 : Memref sig .tc .vmem S8x128x128 .f32) (arg22 : Memref sig .tc .vmem S1x1024 .f32) (arg23 : Memref sig .tc .vmem S1x1024 .f32) (arg24 : Memref sig .tc .vmem S128x1024 .f32) (P : Stores F) : sProp 𝕄 :=
  iprop(stored c arg17 P.dx
    ∗ stored c arg18 P.dproj
    ∗ stored c arg19 P.dg
    ∗ stored c arg20 P.dws
    ∗ stored c arg22 P.dlg
    ∗ stored c arg23 P.dlb
    ∗ stored c arg24 P.db)

theorem settledOut (c : Dev nD) (arg17 : Memref sig .tc .vmem S512x1024 .f32) (arg18 : Memref sig .tc .vmem S512x5632 .bf16) (arg19 : Memref sig .tc .vmem S1x1024 .f32) (arg20 : Memref sig .tc .vmem S8x128x128 .f32) (arg22 : Memref sig .tc .vmem S1x1024 .f32) (arg23 : Memref sig .tc .vmem S1x1024 .f32) (arg24 : Memref sig .tc .vmem S128x1024 .f32) (P : Stores F) (h : P.Whole) :
    storedOut c arg17 arg18 arg19 arg20 arg22 arg23 arg24 P ⊢ heldOut c arg17 arg18 arg19 arg20 arg22 arg23 arg24 P.left :=
  (BIClass.sep_mono (settled c _ _ h.dx) (BIClass.sep_mono (settled c _ _ h.dproj) (BIClass.sep_mono (settled c _ _ h.dg) (BIClass.sep_mono (settled c _ _ h.dws) (BIClass.sep_mono (settled c _ _ h.dlg) (BIClass.sep_mono (settled c _ _ h.dlb) (settled c _ _ h.db)))))))

variable (c : Dev nD) (i : grid0.Coords)
  (arg1 : Memref sig .tc .vmem S512x1024 .bf16) (harg1 : arg1.IsWhole)
  (arg2 : Memref sig .tc .vmem S512x1024 .bf16) (harg2 : arg2.IsWhole)
  (arg3 : Memref sig .tc .vmem S512x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S8x128x128 .f32) (harg6 : arg6.IsWhole)
  (arg7 : Memref sig .tc .vmem S128x1024 .f32) (harg7 : arg7.IsWhole)
  (arg8 : Memref sig .tc .vmem S512x1024 .bf16) (harg8 : arg8.IsWhole)
  (arg9 : Memref sig .tc .vmem S512x256 .bf16) (harg9 : arg9.IsWhole)
  (arg10 : Memref sig .tc .vmem S512x256 .bf16) (harg10 : arg10.IsWhole)
  (arg11 : Memref sig .tc .vmem S512x1024 .bf16) (harg11 : arg11.IsWhole)
  (arg12 : Memref sig .tc .vmem S512x1024 .bf16) (harg12 : arg12.IsWhole)
  (arg13 : Memref sig .tc .vmem S512x1024 .f32) (harg13 : arg13.IsWhole)
  (arg14 : Memref sig .tc .vmem S512x1024 .f32) (harg14 : arg14.IsWhole)
  (arg15 : Memref sig .tc .vmem S1x1024 .f32) (harg15 : arg15.IsWhole)
  (arg16 : Memref sig .tc .vmem S1024x5632 .bf16) (harg16 : arg16.IsWhole)
  (arg17 : Memref sig .tc .vmem S512x1024 .f32) (harg17 : arg17.IsWhole)
  (arg18 : Memref sig .tc .vmem S512x5632 .bf16) (harg18 : arg18.IsWhole)
  (arg19 : Memref sig .tc .vmem S1x1024 .f32) (harg19 : arg19.IsWhole)
  (arg20 : Memref sig .tc .vmem S8x128x128 .f32) (harg20 : arg20.IsWhole)
  (arg21 : Memref sig .tc .vmem S8x128 .f32) (harg21 : arg21.IsWhole)
  (arg22 : Memref sig .tc .vmem S1x1024 .f32) (harg22 : arg22.IsWhole)
  (arg23 : Memref sig .tc .vmem S1x1024 .f32) (harg23 : arg23.IsWhole)
  (arg24 : Memref sig .tc .vmem S128x1024 .f32) (harg24 : arg24.IsWhole)

set_option maxHeartbeats 8000000 in
/-- The first point: the sums start at zero. -/
def runFirst (h0 : cond0_0 i) (h1 : ¬ cond0_1 i)
    (x0 : Vec F S512x1024 .bf16) (x1 : Vec F S512x1024 .bf16) (x2 : Vec F S512x1024 .f32) (x3 : Vec F S1x1024 .f32) (x4 : Vec F S1x1024 .f32) (x5 : Vec F S8x128x128 .f32) (x6 : Vec F S128x1024 .f32) (x7 : Vec F S512x1024 .bf16) (x8 : Vec F S512x256 .bf16) (x9 : Vec F S512x256 .bf16) (x10 : Vec F S512x1024 .bf16) (x11 : Vec F S512x1024 .bf16) (x12 : Vec F S512x1024 .f32) (x13 : Vec F S512x1024 .f32) (x14 : Vec F S1x1024 .f32) (x15 : Vec F S1024x5632 .bf16) :
    { L : Stores F // ∀ (b : Vec F S8x128 .f32) (E : Set ℕ) (K : PUnit → sProp 𝕄),
      iprop(heldIn c arg1 arg2 arg3 arg4 arg5 arg6 arg7 arg8 arg9 arg10 arg11 arg12 arg13 arg14 arg15 arg16 x0 x1 x2 x3 x4 x5 x6 x7 x8 x9 x10 x11 x12 x13 x14 x15
        ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare b ∗ (∃ d, owns (c : Thread nD τ) arg22 fullShare d) ∗ (∃ d, owns (c : Thread nD τ) arg23 fullShare d) ∗ (∃ d, owns (c : Thread nD τ) arg24 fullShare d)
        ∗ (iprop(heldIn c arg1 arg2 arg3 arg4 arg5 arg6 arg7 arg8 arg9 arg10 arg11 arg12 arg13 arg14 arg15 arg16 x0 x1 x2 x3 x4 x5 x6 x7 x8 x9 x10 x11 x12 x13 x14 x15 ∗ storedOut c arg17 arg18 arg19 arg20 arg22 arg23 arg24 L
            ∗ owns (c : Thread nD τ) arg21 fullShare b) -∗ K .unit))
      ⊢ wp frame (wpE (defs₀ (F := F)) Variants.none c none) E (cc0_sgu_inproj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨⟨?_, ?_, ?_, ?_, ?_, ?_, ?_⟩, fun b E K => ?run⟩
  case run =>
    simp only [cc0_sgu_inproj_bwd_eq_skeleton]; unfold cc0_sgu_inproj_bwd_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold heldIn storedOut stored owns
    dsimp only
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩, ⟨%d17, %f17, -, H17⟩, ⟨%d18, %f18, -, H18⟩, ⟨%d19, %f19, -, H19⟩, ⟨%d20, %f20, -, H20⟩, ⟨%f21, %e21, H21⟩, ⟨%d22, %f22, -, H22⟩, ⟨%d23, %f23, -, H23⟩, ⟨%d24, %f24, -, H24⟩, Hk⟩
    obtain rfl := harg1.eq_unread e1; obtain rfl := harg2.eq_unread e2; obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10; obtain rfl := harg11.eq_unread e11; obtain rfl := harg12.eq_unread e12; obtain rfl := harg13.eq_unread e13; obtain rfl := harg14.eq_unread e14; obtain rfl := harg15.eq_unread e15; obtain rfl := harg16.eq_unread e16; obtain rfl := harg21.eq_unread e21
    sl_exec (disch := first | sl_exact h0 | sl_exact h1)
    sl_step
    iapply Hk
    isplitl [H1 H2 H3 H4 H5 H6 H7 H8 H9 H10 H11 H12 H13 H14 H15 H16]
    · isplitl [H1]
      · iexists _; isplitr; · ipureintro; exact harg1.read_unread _
        iexact H1
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _; isplitr; · ipureintro; exact harg11.read_unread _
        iexact H11
      isplitl [H12]
      · iexists _; isplitr; · ipureintro; exact harg12.read_unread _
        iexact H12
      isplitl [H13]
      · iexists _; isplitr; · ipureintro; exact harg13.read_unread _
        iexact H13
      isplitl [H14]
      · iexists _; isplitr; · ipureintro; exact harg14.read_unread _
        iexact H14
      isplitl [H15]
      · iexists _; isplitr; · ipureintro; exact harg15.read_unread _
        iexact H15
      iexists _; isplitr; · ipureintro; exact harg16.read_unread _
      iexact H16
    isplitl [H17 H18 H19 H20 H22 H23 H24]
    · isplitl [H17]
      · iexists _; iexact H17
      isplitl [H18]
      · iexists _; iexact H18
      isplitl [H19]
      · iexists _; iexact H19
      isplitl [H20]
      · iexists _; iexact H20
      isplitl [H22]
      · iexists _; iexact H22
      isplitl [H23]
      · iexists _; iexact H23
      iexists _; iexact H24
    iexists _; isplitr; · ipureintro; exact harg21.read_unread _
    iexact H21

set_option maxHeartbeats 8000000 in
/-- The points between: each sum goes on from what the point before left. -/
def runMid (h0 : ¬ cond0_0 i) (h1 : ¬ cond0_1 i)
    (x0 : Vec F S512x1024 .bf16) (x1 : Vec F S512x1024 .bf16) (x2 : Vec F S512x1024 .f32) (x3 : Vec F S1x1024 .f32) (x4 : Vec F S1x1024 .f32) (x5 : Vec F S8x128x128 .f32) (x6 : Vec F S128x1024 .f32) (x7 : Vec F S512x1024 .bf16) (x8 : Vec F S512x256 .bf16) (x9 : Vec F S512x256 .bf16) (x10 : Vec F S512x1024 .bf16) (x11 : Vec F S512x1024 .bf16) (x12 : Vec F S512x1024 .f32) (x13 : Vec F S512x1024 .f32) (x14 : Vec F S1x1024 .f32) (x15 : Vec F S1024x5632 .bf16)
    (l : Left F) :
    { L : Stores F // ∀ (b : Vec F S8x128 .f32) (E : Set ℕ) (K : PUnit → sProp 𝕄),
      iprop(heldIn c arg1 arg2 arg3 arg4 arg5 arg6 arg7 arg8 arg9 arg10 arg11 arg12 arg13 arg14 arg15 arg16 x0 x1 x2 x3 x4 x5 x6 x7 x8 x9 x10 x11 x12 x13 x14 x15
        ∗ (∃ d, owns (c : Thread nD τ) arg17 fullShare d) ∗ (∃ d, owns (c : Thread nD τ) arg18 fullShare d) ∗ owns (c : Thread nD τ) arg19 fullShare l.dg ∗ owns (c : Thread nD τ) arg20 fullShare l.dws ∗ owns (c : Thread nD τ) arg21 fullShare b ∗ owns (c : Thread nD τ) arg22 fullShare l.dlg ∗ owns (c : Thread nD τ) arg23 fullShare l.dlb ∗ owns (c : Thread nD τ) arg24 fullShare l.db
        ∗ (iprop(heldIn c arg1 arg2 arg3 arg4 arg5 arg6 arg7 arg8 arg9 arg10 arg11 arg12 arg13 arg14 arg15 arg16 x0 x1 x2 x3 x4 x5 x6 x7 x8 x9 x10 x11 x12 x13 x14 x15 ∗ storedOut c arg17 arg18 arg19 arg20 arg22 arg23 arg24 L
            ∗ owns (c : Thread nD τ) arg21 fullShare b) -∗ K .unit))
      ⊢ wp frame (wpE (defs₀ (F := F)) Variants.none c none) E (cc0_sgu_inproj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨⟨?_, ?_, ?_, ?_, ?_, ?_, ?_⟩, fun b E K => ?run⟩
  case run =>
    simp only [cc0_sgu_inproj_bwd_eq_skeleton]; unfold cc0_sgu_inproj_bwd_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold heldIn storedOut stored owns
    dsimp only
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩, ⟨%d17, %f17, -, H17⟩, ⟨%d18, %f18, -, H18⟩, ⟨%f19, %e19, H19⟩, ⟨%f20, %e20, H20⟩, ⟨%f21, %e21, H21⟩, ⟨%f22, %e22, H22⟩, ⟨%f23, %e23, H23⟩, ⟨%f24, %e24, H24⟩, Hk⟩
    obtain rfl := harg1.eq_unread e1; obtain rfl := harg2.eq_unread e2; obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10; obtain rfl := harg11.eq_unread e11; obtain rfl := harg12.eq_unread e12; obtain rfl := harg13.eq_unread e13; obtain rfl := harg14.eq_unread e14; obtain rfl := harg15.eq_unread e15; obtain rfl := harg16.eq_unread e16; obtain rfl := harg19.eq_unread e19; obtain rfl := harg20.eq_unread e20; obtain rfl := harg21.eq_unread e21; obtain rfl := harg22.eq_unread e22; obtain rfl := harg23.eq_unread e23; obtain rfl := harg24.eq_unread e24
    sl_exec (disch := first | sl_exact h0 | sl_exact h1)
    sl_step
    iapply Hk
    isplitl [H1 H2 H3 H4 H5 H6 H7 H8 H9 H10 H11 H12 H13 H14 H15 H16]
    · isplitl [H1]
      · iexists _; isplitr; · ipureintro; exact harg1.read_unread _
        iexact H1
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _; isplitr; · ipureintro; exact harg11.read_unread _
        iexact H11
      isplitl [H12]
      · iexists _; isplitr; · ipureintro; exact harg12.read_unread _
        iexact H12
      isplitl [H13]
      · iexists _; isplitr; · ipureintro; exact harg13.read_unread _
        iexact H13
      isplitl [H14]
      · iexists _; isplitr; · ipureintro; exact harg14.read_unread _
        iexact H14
      isplitl [H15]
      · iexists _; isplitr; · ipureintro; exact harg15.read_unread _
        iexact H15
      iexists _; isplitr; · ipureintro; exact harg16.read_unread _
      iexact H16
    isplitl [H17 H18 H19 H20 H22 H23 H24]
    · isplitl [H17]
      · iexists _; iexact H17
      isplitl [H18]
      · iexists _; iexact H18
      isplitl [H19]
      · iexists _; iexact H19
      isplitl [H20]
      · iexists _; iexact H20
      isplitl [H22]
      · iexists _; iexact H22
      isplitl [H23]
      · iexists _; iexact H23
      iexists _; iexact H24
    iexists _; isplitr; · ipureintro; exact harg21.read_unread _
    iexact H21

set_option maxHeartbeats 8000000 in
/-- The last point: the sums are completed, and the bias gradient is stored. -/
def runLast (h0 : ¬ cond0_0 i) (h1 : cond0_1 i)
    (x0 : Vec F S512x1024 .bf16) (x1 : Vec F S512x1024 .bf16) (x2 : Vec F S512x1024 .f32) (x3 : Vec F S1x1024 .f32) (x4 : Vec F S1x1024 .f32) (x5 : Vec F S8x128x128 .f32) (x6 : Vec F S128x1024 .f32) (x7 : Vec F S512x1024 .bf16) (x8 : Vec F S512x256 .bf16) (x9 : Vec F S512x256 .bf16) (x10 : Vec F S512x1024 .bf16) (x11 : Vec F S512x1024 .bf16) (x12 : Vec F S512x1024 .f32) (x13 : Vec F S512x1024 .f32) (x14 : Vec F S1x1024 .f32) (x15 : Vec F S1024x5632 .bf16)
    (l : Left F) :
    { L : Stores F × List (View.Piece (Elt F) S8x128 .f32) // ∀ (E : Set ℕ) (K : PUnit → sProp 𝕄),
      iprop(heldIn c arg1 arg2 arg3 arg4 arg5 arg6 arg7 arg8 arg9 arg10 arg11 arg12 arg13 arg14 arg15 arg16 x0 x1 x2 x3 x4 x5 x6 x7 x8 x9 x10 x11 x12 x13 x14 x15
        ∗ (∃ d, owns (c : Thread nD τ) arg17 fullShare d) ∗ (∃ d, owns (c : Thread nD τ) arg18 fullShare d) ∗ owns (c : Thread nD τ) arg19 fullShare l.dg ∗ owns (c : Thread nD τ) arg20 fullShare l.dws ∗ (∃ d, owns (c : Thread nD τ) arg21 fullShare d) ∗ owns (c : Thread nD τ) arg22 fullShare l.dlg ∗ owns (c : Thread nD τ) arg23 fullShare l.dlb ∗ owns (c : Thread nD τ) arg24 fullShare l.db
        ∗ (iprop(heldIn c arg1 arg2 arg3 arg4 arg5 arg6 arg7 arg8 arg9 arg10 arg11 arg12 arg13 arg14 arg15 arg16 x0 x1 x2 x3 x4 x5 x6 x7 x8 x9 x10 x11 x12 x13 x14 x15 ∗ storedOut c arg17 arg18 arg19 arg20 arg22 arg23 arg24 L.1
            ∗ stored c arg21 L.2) -∗ K .unit))
      ⊢ wp frame (wpE (defs₀ (F := F)) Variants.none c none) E (cc0_sgu_inproj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨⟨⟨?_, ?_, ?_, ?_, ?_, ?_, ?_⟩, ?_⟩, fun E K => ?run⟩
  case run =>
    simp only [cc0_sgu_inproj_bwd_eq_skeleton]; unfold cc0_sgu_inproj_bwd_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold heldIn storedOut stored owns
    dsimp only
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩, ⟨%d17, %f17, -, H17⟩, ⟨%d18, %f18, -, H18⟩, ⟨%f19, %e19, H19⟩, ⟨%f20, %e20, H20⟩, ⟨%d21, %f21, -, H21⟩, ⟨%f22, %e22, H22⟩, ⟨%f23, %e23, H23⟩, ⟨%f24, %e24, H24⟩, Hk⟩
    obtain rfl := harg1.eq_unread e1; obtain rfl := harg2.eq_unread e2; obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10; obtain rfl := harg11.eq_unread e11; obtain rfl := harg12.eq_unread e12; obtain rfl := harg13.eq_unread e13; obtain rfl := harg14.eq_unread e14; obtain rfl := harg15.eq_unread e15; obtain rfl := harg16.eq_unread e16; obtain rfl := harg19.eq_unread e19; obtain rfl := harg20.eq_unread e20; obtain rfl := harg22.eq_unread e22; obtain rfl := harg23.eq_unread e23; obtain rfl := harg24.eq_unread e24
    sl_exec (disch := first | sl_exact h0 | sl_exact h1)
    sl_step
    iapply Hk
    isplitl [H1 H2 H3 H4 H5 H6 H7 H8 H9 H10 H11 H12 H13 H14 H15 H16]
    · isplitl [H1]
      · iexists _; isplitr; · ipureintro; exact harg1.read_unread _
        iexact H1
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _; isplitr; · ipureintro; exact harg11.read_unread _
        iexact H11
      isplitl [H12]
      · iexists _; isplitr; · ipureintro; exact harg12.read_unread _
        iexact H12
      isplitl [H13]
      · iexists _; isplitr; · ipureintro; exact harg13.read_unread _
        iexact H13
      isplitl [H14]
      · iexists _; isplitr; · ipureintro; exact harg14.read_unread _
        iexact H14
      isplitl [H15]
      · iexists _; isplitr; · ipureintro; exact harg15.read_unread _
        iexact H15
      iexists _; isplitr; · ipureintro; exact harg16.read_unread _
      iexact H16
    isplitl [H17 H18 H19 H20 H22 H23 H24]
    · isplitl [H17]
      · iexists _; iexact H17
      isplitl [H18]
      · iexists _; iexact H18
      isplitl [H19]
      · iexists _; iexact H19
      isplitl [H20]
      · iexists _; iexact H20
      isplitl [H22]
      · iexists _; iexact H22
      isplitl [H23]
      · iexists _; iexact H23
      iexists _; iexact H24
    iexists _; iexact H21

end Cert.SguIdeal.Body

end
-- ==== Proof.SguBody.lean ====
/- What one grid point of the gated unit's backward call computes, as functions of what its buffers hold: a group of
   lanes and a chunk of tokens are one computation each, applied eight and four times. -/
module

public import proofs.«01_k».proof.Proof.Gen.SguIdeal.Skeleton
public import Idealize.ShloMosaic.Lib.Pipeline.FrameBody
public import Idealize.ShloMosaic.Lib.VecWindow
public import Idealize.ShloMosaic.Lib.Pointwise

@[expose] public section

set_option maxRecDepth 16384

noncomputable section

namespace Cert.SguIdeal.Body

open Cert.SguIdeal Cert.SguIdeal.Gen
open Idealize.ShloMosaic Idealize.ShloMosaic.TcCoe Idealize.ShloMosaic.Tactic

variable {F : FTy → Type} [FloatOps F] [Named F]

/-! ## Squares of 128 tokens by 128 lanes -/

theorem slices_square : ∀ (c : Fin 4) (g : Fin 8), S512x1024.Slices ![128 * c.val, 128 * g.val] S128x128 := by decide +kernel
theorem slices_beside : ∀ c : Fin 4, S128x512.Slices ![0, 128 * c.val] S128x128 := by decide +kernel
theorem slices_lanes : ∀ g : Fin 8, S128x1024.Slices ![0, 128 * g.val] S128x128 := by decide +kernel
theorem inb_group : ∀ (g : Fin 8) a, (![g.val, 0, 0] : Fin 3 → Nat) a + S1x128x128.size a ≤ S8x128x128.size a := by decide +kernel
theorem inb_lanes : ∀ (g : Fin 8) a, (![0, 128 * g.val] : Fin 2 → Nat) a + S128x128.size a ≤ S128x1024.size a := by decide +kernel
theorem inb_row : ∀ (g : Fin 8) a, (![g.val, 0] : Fin 2 → Nat) a + S1x128.size a ≤ S8x128.size a := by decide +kernel

/-- The square of chunk `c` and group `g`. -/
def square {φ : FTy} (x : FVec F S512x1024 φ) (c : Fin 4) (g : Fin 8) : FVec F S128x128 φ :=
  extractStridedSlice S128x128 ![128 * c.val, 128 * g.val] x (slices_square c g)

/-- Four squares side by side. -/
def beside {φ : FTy} (f : Fin 4 → FVec F S128x128 φ) : FVec F S128x512 φ :=
  concatenate S128x512 1 [⟨S128x128, f 0⟩, ⟨S128x128, f 1⟩, ⟨S128x128, f 2⟩, ⟨S128x128, f 3⟩]
    concatenates_S128x128_S128x128_S128x128_S128x128_S128x512_d1

/-- The square at place `c` of four. -/
def take (x : FVec F S128x512 .f32) (c : Fin 4) : FVec F S128x128 .f32 :=
  extractStridedSlice S128x128 ![0, 128 * c.val] x (slices_beside c)

/-- A block put together from its squares. -/
def whole (f : Fin 4 → Fin 8 → FVec F S128x128 .f32) : FVec F S512x1024 .f32 :=
  let row (c : Fin 4) : FVec F S128x1024 .f32 :=
    concatenate S128x1024 1 [⟨S128x128, f c 0⟩, ⟨S128x128, f c 1⟩, ⟨S128x128, f c 2⟩, ⟨S128x128, f c 3⟩,
      ⟨S128x128, f c 4⟩, ⟨S128x128, f c 5⟩, ⟨S128x128, f c 6⟩, ⟨S128x128, f c 7⟩]
      concatenates_S128x128_S128x128_S128x128_S128x128_S128x128_S128x128_S128x128_S128x128_S128x1024_d1
  concatenate S512x1024 0 [⟨S128x1024, row 0⟩, ⟨S128x1024, row 1⟩, ⟨S128x1024, row 2⟩, ⟨S128x1024, row 3⟩]
    concatenates_S128x1024_S128x1024_S128x1024_S128x1024_S512x1024_d0

/-! ## Loads -/

abbrev rBlock : Rect S512x1024 := Rect.unit (s := S512x1024) ![0, 0] S512x1024.size inb_S512x1024_S512x1024_0_0
abbrev rRow : Rect S1x1024 := Rect.unit (s := S1x1024) ![0, 0] S1x1024.size inb_S1x1024_S1x1024_0_0
abbrev rGroup (g : Fin 8) : Rect S8x128x128 := Rect.unit (s := S8x128x128) ![g.val, 0, 0] S1x128x128.size (inb_group g)
abbrev rLanes (g : Fin 8) : Rect S128x1024 := Rect.unit (s := S128x1024) ![0, 128 * g.val] S128x128.size (inb_lanes g)

/-- What the point loads from its sixteen input blocks. -/
structure Loads (F : FTy → Type) where
  u : Vec F S512x1024 .bf16
  v : Vec F S512x1024 .bf16
  da : Vec F S512x1024 .f32
  lg : Vec F S1x1024 .f32
  lb : Vec F S1x1024 .f32
  ws : Fin 8 → Vec F S1x128x128 .f32
  bs : Vec F S128x1024 .f32
  q : Vec F S512x1024 .bf16
  k : Vec F S512x256 .bf16
  w : Vec F S512x256 .bf16
  ga : Vec F S512x1024 .bf16
  gb : Vec F S512x1024 .bf16
  x : Vec F S512x1024 .f32
  dx : Vec F S512x1024 .f32
  g : Vec F S1x1024 .f32
  w0 : Vec F S1024x1024 .bf16
  w1 : Vec F S1024x1024 .bf16
  w2 : Vec F S1024x1792 .bf16
  w3 : Vec F S1024x1792 .bf16

def wide (x : Vec F S512x1024 .bf16) : FVec F S512x1024 .f32 :=
  extf .f32 (shapeCast S512x1024 x shapeCasts_S512x1024_S512x1024) bitsLt_bf16_f32

/-! ## The gelu and its slope -/

section Gelu
variable (u : FVec F S512x1024 .f32)

def sq : FVec F S512x1024 .f32 := mulf u u

def bendV : FVec F S512x1024 .f32 :=
  tanh (mulf u (addf (broadcast S512x1024 (Scalar.ofBits .f32 0x3F4C422A#32))
    (mulf (broadcast S512x1024 (Named.named κ "gelu_cube" 0x3D122279#32)) (sq u))))

def halfV : FVec F S512x1024 .f32 := mulf (broadcast S512x1024 (Scalar.ofBits .f32 0x3F000000#32)) u

def geluV : FVec F S512x1024 .f32 := addf (halfV u) (mulf (halfV u) (bendV u))

def slopeV : FVec F S512x1024 .f32 :=
  addf (addf (broadcast S512x1024 (Scalar.ofBits .f32 0x3F000000#32))
      (mulf (broadcast S512x1024 (Scalar.ofBits .f32 0x3F000000#32)) (bendV u)))
    (mulf (mulf (halfV u) (subf (broadcast S512x1024 (Scalar.ofBits .f32 0x3F800000#32)) (mulf (bendV u) (bendV u))))
      (addf (broadcast S512x1024 (Scalar.ofBits .f32 0x3F4C422A#32))
        (mulf (broadcast S512x1024 (Named.named κ "gelu_slope" 0x3DDB33B6#32)) (sq u))))

end Gelu

/-! ## Rows: their sums, means, and the normalisation -/

def sumRow (y : FVec F S512x1024 .f32) : FVec F S512x1 .f32 :=
  shapeCast S512x1 (multiReduction .add [1] S512 y 0x00000000#32 reduces_S512x1024_S512 (.inl rfl) rfl) shapeCasts_S512_S512x1

def meanRow (y : FVec F S512x1024 .f32) : FVec F S512x1 .f32 :=
  divf (sumRow y) (broadcast S512x1 (Scalar.ofBits .f32 0x44800000#32))

def spread (y : FVec F S512x1 .f32) : FVec F S512x1024 .f32 := broadcastTo S512x1024 y broadcasts_S512x1_S512x1024

def spreadDown (y : FVec F S1x1024 .f32) : FVec F S512x1024 .f32 := broadcastTo S512x1024 y broadcasts_S1x1024_S512x1024

def devV (y : FVec F S512x1024 .f32) : FVec F S512x1024 .f32 := subf y (spread (meanRow y))

def invV (y : FVec F S512x1024 .f32) : FVec F S512x1 .f32 :=
  rsqrt (addf (meanRow (mulf y y)) (broadcast S512x1 (Scalar.ofBits .f32 0x358637BD#32)))

def hatV (y : FVec F S512x1024 .f32) : FVec F S512x1024 .f32 := mulf y (spread (invV y))

def sumDown (y : FVec F S512x1024 .f32) : FVec F S1x1024 .f32 :=
  shapeCast S1x1024 (multiReduction .add [0] S1024 y 0x00000000#32 reduces_S512x1024_S1024 (.inl rfl) rfl) shapeCasts_S1024_S1x1024

/-- The gradient at a row of the normalisation, from the one at its result. -/
def normBackV (h : FVec F S512x1024 .f32) (r : FVec F S512x1 .f32) (y : FVec F S512x1024 .f32) : FVec F S512x1024 .f32 :=
  mulf (spread r) (subf y (mulf h (spread (meanRow (mulf y h)))))

def layerBackV (h : FVec F S512x1024 .f32) (r : FVec F S512x1 .f32) (y : FVec F S512x1024 .f32) : FVec F S512x1024 .f32 :=
  mulf (spread r) (subf (subf y (spread (meanRow y))) (mulf h (spread (meanRow (mulf y h)))))

/-! ## The causal weights -/

def tri : IVec S128x128 1 := cmpi .sge (iota .tc S128x128 32 [0] iota_S128x128_d0_w32) (iota .tc S128x128 32 [1] iota_S128x128_d1_w32)

def lower (x : Vec F S1x128x128 .f32) : FVec F S128x128 .f32 :=
  select tri (shapeCast S128x128 x shapeCasts_S1x128x128_S128x128) (broadcast S128x128 (Scalar.ofBits .f32 0x00000000#32))

/-! ## The unit, forward and backward -/

section Unit
variable (L : Loads F)

def wt (g : Fin 8) : FVec F S128x128 .bf16 := truncf .bf16 (lower (L.ws g)) bitsLt_bf16_f32

def hatOf : FVec F S512x1024 .f32 := hatV (devV (geluV (wide L.v)))

def normedV : FVec F S512x1024 .bf16 :=
  truncf .bf16 (addf (mulf (hatOf L) (spreadDown L.lg)) (spreadDown L.lb)) bitsLt_bf16_f32

/-- The four chunks of a group side by side. -/
def rowsV (g : Fin 8) : FVec F S128x512 .bf16 := beside (F := F) (φ := .bf16) fun c => square (F := F) (φ := .bf16) (normedV L) c g

def mixV (g : Fin 8) : FVec F S128x512 .f32 :=
  matmul dot_S128x128_S128x512_S128x512_1_0_0_1_n_n none (wt L g) (rowsV L g) (constant S128x512 .f32 0x00000000#32)

def biasV (g : Fin 8) : FVec F S128x128 .f32 :=
  extractStridedSlice S128x128 ![0, 128 * g.val]
    (shapeCast S128x1024 L.bs shapeCasts_S128x1024_S128x1024)
    (slices_lanes g)

def mixedV : FVec F S512x1024 .f32 := whole fun c g => addf (take (mixV L g) c) (biasV L g)

/-- The gradient at the first half of the projection. -/
def duV : FVec F S512x1024 .bf16 :=
  truncf .bf16 (mulf (mulf L.da (mixedV L)) (slopeV (wide L.u))) bitsLt_bf16_f32

def dmixV : FVec F S512x1024 .f32 := mulf L.da (geluV (wide L.u))

/-- The new sum over tokens of a group's gradients, a place at a time. -/
def dbV (g : Fin 8) (prev : Vec F S128x128 .f32) : FVec F S128x128 .f32 :=
  shapeCast S128x128 (addf prev (addf (addf (addf (square (F := F) (φ := .f32) (dmixV L) 0 g) (square (F := F) (φ := .f32) (dmixV L) 1 g))
    (square (F := F) (φ := .f32) (dmixV L) 2 g)) (square (F := F) (φ := .f32) (dmixV L) 3 g))) shapeCasts_S128x128_S128x128

def dmV (g : Fin 8) : FVec F S128x512 .bf16 :=
  truncf .bf16 (beside (F := F) (φ := .f32) fun c => square (F := F) (φ := .f32) (dmixV L) c g) bitsLt_bf16_f32

/-- The new sum of the gradients at a group's weights. -/
def dwsV (g : Fin 8) (prev : Vec F S1x128x128 .f32) : FVec F S1x128x128 .f32 :=
  shapeCast S1x128x128 (addf (shapeCast S128x128 prev shapeCasts_S1x128x128_S128x128)
    (matmul dot_S128x512_S128x512_S128x128_1_1_0_0_n_n none (dmV L g) (rowsV L g) (constant S128x128 .f32 0x00000000#32)))
    shapeCasts_S128x128_S1x128x128

def dcolV (g : Fin 8) : FVec F S128x512 .f32 :=
  matmul dot_S128x128_S128x512_S128x512_0_0_1_1_n_n none (wt L g) (dmV L g) (constant S128x512 .f32 0x00000000#32)

/-- The gradient at the normalised second half. -/
def dnormedV : FVec F S512x1024 .f32 := whole fun c g => take (dcolV L g) c

def dlgV (prev : Vec F S1x1024 .f32) : FVec F S1x1024 .f32 :=
  addf (shapeCast S1x1024 prev shapeCasts_S1x1024_S1x1024) (sumDown (mulf (dnormedV L) (hatOf L)))

def dlbV (prev : Vec F S1x1024 .f32) : FVec F S1x1024 .f32 :=
  addf (shapeCast S1x1024 prev shapeCasts_S1x1024_S1x1024) (sumDown (dnormedV L))

/-- The gradient at the second half of the projection. -/
def dvV : FVec F S512x1024 .bf16 :=
  truncf .bf16 (mulf (layerBackV (hatOf L) (invV (devV (geluV (wide L.v)))) (mulf (dnormedV L) (spreadDown L.lg)))
    (slopeV (wide L.v))) bitsLt_bf16_f32

/-! ## The input projection's norm -/

abbrev yFirst : Rect S512x5632 := Rect.unit (s := S512x5632) ![0, 0] S512x1024.size inb_S512x5632_S512x1024_0_0
abbrev ySecond : Rect S512x5632 := Rect.unit (s := S512x5632) ![0, 1024] S512x1024.size inb_S512x5632_S512x1024_0_1024
abbrev yThird : Rect S512x5632 := Rect.unit (s := S512x5632) ![0, 2048] S512x1792.size inb_S512x5632_S512x1792_0_2048
abbrev yFourth : Rect S512x5632 := Rect.unit (s := S512x5632) ![0, 3840] S512x1792.size inb_S512x5632_S512x1792_0_3840

/-- The gradient at the normalised rows, from the four parts of the projection's. -/
def dhV (p0 p1 : Vec F S512x1024 .bf16) (p2 p3 : Vec F S512x1792 .bf16) : FVec F S512x1024 .f32 :=
  addf
    (addf
      (matmul dot_S512x1792_S1024x1792_S512x1024_1_1_0_0_n_n none (shapeCast S512x1792 p2 shapeCasts_S512x1792_S512x1792)
        (shapeCast S1024x1792 L.w2
          shapeCasts_S1024x1792_S1024x1792) (constant S512x1024 .f32 0x00000000#32))
      (matmul dot_S512x1024_S1024x1024_S512x1024_1_1_0_0_n_n none (shapeCast S512x1024 p0 shapeCasts_S512x1024_S512x1024)
        (shapeCast S1024x1024 L.w0
          shapeCasts_S1024x1024_S1024x1024) (constant S512x1024 .f32 0x00000000#32)))
    (addf
      (matmul dot_S512x1792_S1024x1792_S512x1024_1_1_0_0_n_n none (shapeCast S512x1792 p3 shapeCasts_S512x1792_S512x1792)
        (shapeCast S1024x1792 L.w3
          shapeCasts_S1024x1792_S1024x1792) (constant S512x1024 .f32 0x00000000#32))
      (matmul dot_S512x1024_S1024x1024_S512x1024_1_1_0_0_n_n none (shapeCast S512x1024 p1 shapeCasts_S512x1024_S512x1024)
        (shapeCast S1024x1024 L.w1
          shapeCasts_S1024x1024_S1024x1024) (constant S512x1024 .f32 0x00000000#32)))

def dxV (dh : FVec F S512x1024 .f32) : FVec F S512x1024 .f32 :=
  addf L.dx (normBackV (hatV L.x) (invV L.x) (mulf dh (spreadDown L.g)))

def dgV (dh : FVec F S512x1024 .f32) (prev : Vec F S1x1024 .f32) : FVec F S1x1024 .f32 :=
  addf (shapeCast S1x1024 prev shapeCasts_S1x1024_S1x1024) (sumDown (mulf dh (hatV L.x)))

end Unit

end Cert.SguIdeal.Body

end
-- ==== Proof.SguStore.lean ====
/- The stores of the gated unit's backward body, as lists of blocks of named values. -/
module

public import proofs.«01_k».proof.Proof.SguRun
public import proofs.«01_k».proof.Proof.SguBody

@[expose] public section

set_option maxRecDepth 16384

noncomputable section

namespace Cert.SguIdeal.Body

open Cert.SguIdeal Cert.SguIdeal.Gen
open Idealize.ShloMosaic Idealize.ShloMosaic.TcCoe Idealize.ShloMosaic.Tactic

variable {F : FTy → Type} [FloatOps F] [Named F]

/-! ## The lists -/

section Lists
variable (L : Loads F)

/-- The five gradients that only pass through. -/
def passed : List (View.Piece (Elt F) S512x5632 .bf16) :=
  [⟨Rect.unit (s := S512x5632) ![0, 4608] S512x1024.size inb_S512x5632_S512x1024_0_4608, shapeCast S512x1024 L.gb shapeCasts_S512x1024_S512x1024⟩,
   ⟨Rect.unit (s := S512x5632) ![0, 3584] S512x1024.size inb_S512x5632_S512x1024_0_3584, shapeCast S512x1024 L.ga shapeCasts_S512x1024_S512x1024⟩,
   ⟨Rect.unit (s := S512x5632) ![0, 3328] S512x256.size inb_S512x5632_S512x256_0_3328, shapeCast S512x256 L.w shapeCasts_S512x256_S512x256⟩,
   ⟨Rect.unit (s := S512x5632) ![0, 3072] S512x256.size inb_S512x5632_S512x256_0_3072, shapeCast S512x256 L.k shapeCasts_S512x256_S512x256⟩,
   ⟨Rect.unit (s := S512x5632) ![0, 2048] S512x1024.size inb_S512x5632_S512x1024_0_2048, shapeCast S512x1024 L.q shapeCasts_S512x1024_S512x1024⟩]

def withFirst : List (View.Piece (Elt F) S512x5632 .bf16) := ⟨yFirst, duV L⟩ :: passed L

def withSecond : List (View.Piece (Elt F) S512x5632 .bf16) := ⟨ySecond, dvV L⟩ :: withFirst L

/-- The gradient at the normalised rows: each part of the projection's gradient is read back after its store. -/
def dhOf (y : Memref sig .tc .vmem S512x5632 .bf16) : FVec F S512x1024 .f32 :=
  dhV L (y.view.readCov (withFirst L) yFirst.toLoadRect) (y.view.readCov (withSecond L) ySecond.toLoadRect)
    (y.view.readCov (passed L) yThird.toLoadRect) (y.view.readCov (withFirst L) yFourth.toLoadRect)

/-- The eight groups' gradients at the weights, each added to what `prev` has of it. -/
def weightStores (prev : Fin 8 → Vec F S1x128x128 .f32) : List (View.Piece (Elt F) S8x128x128 .f32) :=
  [7, 6, 5, 4, 3, 2, 1, 0].map fun g => ⟨rGroup g, dwsV L g (prev g)⟩

def laneStores (prev : Fin 8 → Vec F S128x128 .f32) : List (View.Piece (Elt F) S128x1024 .f32) :=
  [7, 6, 5, 4, 3, 2, 1, 0].map fun g => ⟨rLanes g, dbV L g (prev g)⟩

def zeroRow : FVec F S1x1024 .f32 := broadcast S1x1024 (Scalar.ofBits .f32 0x00000000#32)
def zeroGroups : FVec F S8x128x128 .f32 := broadcast S8x128x128 (Scalar.ofBits .f32 0x00000000#32)
def zeroLanes : FVec F S128x1024 .f32 := shapeCast S128x1024 (broadcast S128x1024 (Scalar.ofBits .f32 0x00000000#32)) shapeCasts_S128x1024_S128x1024

def startGroups : List (View.Piece (Elt F) S8x128x128 .f32) :=
  [⟨Rect.unit (s := S8x128x128) ![0, 0, 0] S8x128x128.size inb_S8x128x128_S8x128x128_0_0_0, zeroGroups⟩]
def startLanes : List (View.Piece (Elt F) S128x1024 .f32) :=
  [⟨Rect.unit (s := S128x1024) ![0, 0] S128x1024.size inb_S128x1024_S128x1024_0_0, zeroLanes⟩]

/-- The first point's: what a group adds to is read back from the zeros and the groups before it. -/
def weightsFrom (b : Memref sig .tc .vmem S8x128x128 .f32) : List (View.Piece (Elt F) S8x128x128 .f32) :=
  ([0, 1, 2, 3, 4, 5, 6, 7] : List (Fin 8)).foldl (fun P g => ⟨rGroup g, dwsV L g (b.view.readCov P (rGroup g).toLoadRect)⟩ :: P) startGroups

def lanesFrom (b : Memref sig .tc .vmem S128x1024 .f32) : List (View.Piece (Elt F) S128x1024 .f32) :=
  ([0, 1, 2, 3, 4, 5, 6, 7] : List (Fin 8)).foldl (fun P g => ⟨rLanes g, dbV L g (b.view.readCov P (rLanes g).toLoadRect)⟩ :: P) startLanes

def rowFrom (b : Memref sig .tc .vmem S1x1024 .f32) (f : Vec F S1x1024 .f32 → FVec F S1x1024 .f32) : List (View.Piece (Elt F) S1x1024 .f32) :=
  [⟨rRow, f (b.view.readCov [⟨rRow, zeroRow⟩] rRow.toLoadRect)⟩, ⟨rRow, zeroRow⟩]

/-- The last point masks each group once more. -/
def maskGroup (x : Vec F S1x128x128 .f32) : FVec F S1x128x128 .f32 := shapeCast S1x128x128 (lower x) shapeCasts_S128x128_S1x128x128

def masked (b : Memref sig .tc .vmem S8x128x128 .f32) (P : List (View.Piece (Elt F) S8x128x128 .f32)) : List (View.Piece (Elt F) S8x128x128 .f32) :=
  ([0, 1, 2, 3, 4, 5, 6, 7] : List (Fin 8)).foldl (fun P g => ⟨rGroup g, maskGroup (b.view.readCov P (rGroup g).toLoadRect)⟩ :: P) P

/-- A group's row of the bias's gradient: its lanes summed. -/
def biasRow (x : Vec F S128x128 .f32) : FVec F S1x128 .f32 :=
  shapeCast S1x128 (multiReduction .add [0] S128 (transpose S128x128 [1, 0] x transposes_S128x128_p1_0_S128x128) 0x00000000#32
    reduces_S128x128_S128 (.inl rfl) rfl) shapeCasts_S128_S1x128

def biasStores (b : Memref sig .tc .vmem S128x1024 .f32) (P : List (View.Piece (Elt F) S128x1024 .f32)) : List (View.Piece (Elt F) S8x128 .f32) :=
  [7, 6, 5, 4, 3, 2, 1, 0].map fun g => ⟨Rect.unit (s := S8x128) ![g.val, 0] S1x128.size (inb_row g), biasRow (b.view.readCov P (rLanes g).toLoadRect)⟩

end Lists

/-! ## The runs' stores are those lists -/

variable (c : Dev nD) (i : grid0.Coords)
  (arg1 : Memref sig .tc .vmem S512x1024 .bf16) (harg1 : arg1.IsWhole)
  (arg2 : Memref sig .tc .vmem S512x1024 .bf16) (harg2 : arg2.IsWhole)
  (arg3 : Memref sig .tc .vmem S512x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S8x128x128 .f32) (harg6 : arg6.IsWhole)
  (arg7 : Memref sig .tc .vmem S128x1024 .f32) (harg7 : arg7.IsWhole)
  (arg8 : Memref sig .tc .vmem S512x1024 .bf16) (harg8 : arg8.IsWhole)
  (arg9 : Memref sig .tc .vmem S512x256 .bf16) (harg9 : arg9.IsWhole)
  (arg10 : Memref sig .tc .vmem S512x256 .bf16) (harg10 : arg10.IsWhole)
  (arg11 : Memref sig .tc .vmem S512x1024 .bf16) (harg11 : arg11.IsWhole)
  (arg12 : Memref sig .tc .vmem S512x1024 .bf16) (harg12 : arg12.IsWhole)
  (arg13 : Memref sig .tc .vmem S512x1024 .f32) (harg13 : arg13.IsWhole)
  (arg14 : Memref sig .tc .vmem S512x1024 .f32) (harg14 : arg14.IsWhole)
  (arg15 : Memref sig .tc .vmem S1x1024 .f32) (harg15 : arg15.IsWhole)
  (arg16 : Memref sig .tc .vmem S1024x5632 .bf16) (harg16 : arg16.IsWhole)
  (arg17 : Memref sig .tc .vmem S512x1024 .f32) (harg17 : arg17.IsWhole)
  (arg18 : Memref sig .tc .vmem S512x5632 .bf16) (harg18 : arg18.IsWhole)
  (arg19 : Memref sig .tc .vmem S1x1024 .f32) (harg19 : arg19.IsWhole)
  (arg20 : Memref sig .tc .vmem S8x128x128 .f32) (harg20 : arg20.IsWhole)
  (arg21 : Memref sig .tc .vmem S8x128 .f32) (harg21 : arg21.IsWhole)
  (arg22 : Memref sig .tc .vmem S1x1024 .f32) (harg22 : arg22.IsWhole)
  (arg23 : Memref sig .tc .vmem S1x1024 .f32) (harg23 : arg23.IsWhole)
  (arg24 : Memref sig .tc .vmem S128x1024 .f32) (harg24 : arg24.IsWhole)

/-- The loads, of what the buffers hold. -/
abbrev loads     (x0 : Vec F S512x1024 .bf16) (x1 : Vec F S512x1024 .bf16) (x2 : Vec F S512x1024 .f32) (x3 : Vec F S1x1024 .f32) (x4 : Vec F S1x1024 .f32) (x5 : Vec F S8x128x128 .f32) (x6 : Vec F S128x1024 .f32) (x7 : Vec F S512x1024 .bf16) (x8 : Vec F S512x256 .bf16) (x9 : Vec F S512x256 .bf16) (x10 : Vec F S512x1024 .bf16) (x11 : Vec F S512x1024 .bf16) (x12 : Vec F S512x1024 .f32) (x13 : Vec F S512x1024 .f32) (x14 : Vec F S1x1024 .f32) (x15 : Vec F S1024x5632 .bf16) : Loads F where
  u := View.readAt (Elt F) arg1.view rBlock.toLoadRect (harg1.unread x0)
  v := View.readAt (Elt F) arg2.view rBlock.toLoadRect (harg2.unread x1)
  da := View.readAt (Elt F) arg3.view rBlock.toLoadRect (harg3.unread x2)
  lg := View.readAt (Elt F) arg4.view rRow.toLoadRect (harg4.unread x3)
  lb := View.readAt (Elt F) arg5.view rRow.toLoadRect (harg5.unread x4)
  bs := View.readAt (Elt F) arg7.view (Rect.unit (s := S128x1024) ![0, 0] S128x1024.size inb_S128x1024_S128x1024_0_0).toLoadRect (harg7.unread x6)
  q := View.readAt (Elt F) arg8.view rBlock.toLoadRect (harg8.unread x7)
  k := View.readAt (Elt F) arg9.view (Rect.unit (s := S512x256) ![0, 0] S512x256.size inb_S512x256_S512x256_0_0).toLoadRect (harg9.unread x8)
  w := View.readAt (Elt F) arg10.view (Rect.unit (s := S512x256) ![0, 0] S512x256.size inb_S512x256_S512x256_0_0).toLoadRect (harg10.unread x9)
  ga := View.readAt (Elt F) arg11.view rBlock.toLoadRect (harg11.unread x10)
  gb := View.readAt (Elt F) arg12.view rBlock.toLoadRect (harg12.unread x11)
  x := View.readAt (Elt F) arg13.view rBlock.toLoadRect (harg13.unread x12)
  dx := View.readAt (Elt F) arg14.view rBlock.toLoadRect (harg14.unread x13)
  g := View.readAt (Elt F) arg15.view rRow.toLoadRect (harg15.unread x14)
  w0 := View.readAt (Elt F) arg16.view (Rect.unit (s := S1024x5632) ![0, 0] S1024x1024.size inb_S1024x5632_S1024x1024_0_0).toLoadRect (harg16.unread x15)
  w1 := View.readAt (Elt F) arg16.view (Rect.unit (s := S1024x5632) ![0, 1024] S1024x1024.size inb_S1024x5632_S1024x1024_0_1024).toLoadRect (harg16.unread x15)
  w2 := View.readAt (Elt F) arg16.view (Rect.unit (s := S1024x5632) ![0, 2048] S1024x1792.size inb_S1024x5632_S1024x1792_0_2048).toLoadRect (harg16.unread x15)
  w3 := View.readAt (Elt F) arg16.view (Rect.unit (s := S1024x5632) ![0, 3840] S1024x1792.size inb_S1024x5632_S1024x1792_0_3840).toLoadRect (harg16.unread x15)
  ws g := View.readAt (Elt F) arg6.view (rGroup g).toLoadRect (harg6.unread x5)

set_option maxHeartbeats 4000000 in
theorem storesFirst_eq (h0 : cond0_0 i) (h1 : ¬ cond0_1 i)
    (x0 : Vec F S512x1024 .bf16) (x1 : Vec F S512x1024 .bf16) (x2 : Vec F S512x1024 .f32) (x3 : Vec F S1x1024 .f32) (x4 : Vec F S1x1024 .f32) (x5 : Vec F S8x128x128 .f32) (x6 : Vec F S128x1024 .f32) (x7 : Vec F S512x1024 .bf16) (x8 : Vec F S512x256 .bf16) (x9 : Vec F S512x256 .bf16) (x10 : Vec F S512x1024 .bf16) (x11 : Vec F S512x1024 .bf16) (x12 : Vec F S512x1024 .f32) (x13 : Vec F S512x1024 .f32) (x14 : Vec F S1x1024 .f32) (x15 : Vec F S1024x5632 .bf16) :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h0 h1 x0 x1 x2 x3 x4 x5 x6 x7 x8 x9 x10 x11 x12 x13 x14 x15).1 = ⟨[⟨rBlock, dxV (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) (dhOf (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) arg18)⟩],
      withSecond (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15),
      rowFrom arg19 (dgV (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) (dhOf (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) arg18)),
      weightsFrom (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) arg20,
      rowFrom arg22 (dlgV (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15)),
      rowFrom arg23 (dlbV (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15)),
      lanesFrom (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) arg24⟩ := by
  sl_kernel_rfl

set_option maxHeartbeats 4000000 in
theorem storesMid_eq (h0 : ¬ cond0_0 i) (h1 : ¬ cond0_1 i)
    (x0 : Vec F S512x1024 .bf16) (x1 : Vec F S512x1024 .bf16) (x2 : Vec F S512x1024 .f32) (x3 : Vec F S1x1024 .f32) (x4 : Vec F S1x1024 .f32) (x5 : Vec F S8x128x128 .f32) (x6 : Vec F S128x1024 .f32) (x7 : Vec F S512x1024 .bf16) (x8 : Vec F S512x256 .bf16) (x9 : Vec F S512x256 .bf16) (x10 : Vec F S512x1024 .bf16) (x11 : Vec F S512x1024 .bf16) (x12 : Vec F S512x1024 .f32) (x13 : Vec F S512x1024 .f32) (x14 : Vec F S1x1024 .f32) (x15 : Vec F S1024x5632 .bf16) (l : Left F) :
    (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h0 h1 x0 x1 x2 x3 x4 x5 x6 x7 x8 x9 x10 x11 x12 x13 x14 x15 l).1 = ⟨[⟨rBlock, dxV (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) (dhOf (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) arg18)⟩],
      withSecond (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15),
      [⟨rRow, dgV (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) (dhOf (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) arg18) (View.readAt (Elt F) arg19.view rRow.toLoadRect (harg19.unread l.dg))⟩],
      weightStores (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) fun g => View.readAt (Elt F) arg20.view (rGroup g).toLoadRect (harg20.unread l.dws),
      [⟨rRow, dlgV (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) (View.readAt (Elt F) arg22.view rRow.toLoadRect (harg22.unread l.dlg))⟩],
      [⟨rRow, dlbV (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) (View.readAt (Elt F) arg23.view rRow.toLoadRect (harg23.unread l.dlb))⟩],
      laneStores (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) fun g => View.readAt (Elt F) arg24.view (rLanes g).toLoadRect (harg24.unread l.db)⟩ := by
  sl_kernel_rfl

set_option maxHeartbeats 4000000 in
theorem storesLast_eq (h0 : ¬ cond0_0 i) (h1 : cond0_1 i)
    (x0 : Vec F S512x1024 .bf16) (x1 : Vec F S512x1024 .bf16) (x2 : Vec F S512x1024 .f32) (x3 : Vec F S1x1024 .f32) (x4 : Vec F S1x1024 .f32) (x5 : Vec F S8x128x128 .f32) (x6 : Vec F S128x1024 .f32) (x7 : Vec F S512x1024 .bf16) (x8 : Vec F S512x256 .bf16) (x9 : Vec F S512x256 .bf16) (x10 : Vec F S512x1024 .bf16) (x11 : Vec F S512x1024 .bf16) (x12 : Vec F S512x1024 .f32) (x13 : Vec F S512x1024 .f32) (x14 : Vec F S1x1024 .f32) (x15 : Vec F S1024x5632 .bf16) (l : Left F) :
    (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h0 h1 x0 x1 x2 x3 x4 x5 x6 x7 x8 x9 x10 x11 x12 x13 x14 x15 l).1.1 = ⟨[⟨rBlock, dxV (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) (dhOf (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) arg18)⟩],
      withSecond (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15),
      [⟨rRow, dgV (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) (dhOf (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) arg18) (View.readAt (Elt F) arg19.view rRow.toLoadRect (harg19.unread l.dg))⟩],
      masked arg20 (weightStores (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) fun g => View.readAt (Elt F) arg20.view (rGroup g).toLoadRect (harg20.unread l.dws)),
      [⟨rRow, dlgV (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) (View.readAt (Elt F) arg22.view rRow.toLoadRect (harg22.unread l.dlg))⟩],
      [⟨rRow, dlbV (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) (View.readAt (Elt F) arg23.view rRow.toLoadRect (harg23.unread l.dlb))⟩],
      laneStores (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) fun g => View.readAt (Elt F) arg24.view (rLanes g).toLoadRect (harg24.unread l.db)⟩ := by
  sl_kernel_rfl

set_option maxHeartbeats 4000000 in
theorem storesBias_eq (h0 : ¬ cond0_0 i) (h1 : cond0_1 i)
    (x0 : Vec F S512x1024 .bf16) (x1 : Vec F S512x1024 .bf16) (x2 : Vec F S512x1024 .f32) (x3 : Vec F S1x1024 .f32) (x4 : Vec F S1x1024 .f32) (x5 : Vec F S8x128x128 .f32) (x6 : Vec F S128x1024 .f32) (x7 : Vec F S512x1024 .bf16) (x8 : Vec F S512x256 .bf16) (x9 : Vec F S512x256 .bf16) (x10 : Vec F S512x1024 .bf16) (x11 : Vec F S512x1024 .bf16) (x12 : Vec F S512x1024 .f32) (x13 : Vec F S512x1024 .f32) (x14 : Vec F S1x1024 .f32) (x15 : Vec F S1024x5632 .bf16) (l : Left F) :
    (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h0 h1 x0 x1 x2 x3 x4 x5 x6 x7 x8 x9 x10 x11 x12 x13 x14 x15 l).1.2 = biasStores arg24 (laneStores (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15) fun g => View.readAt (Elt F) arg24.view (rLanes g).toLoadRect (harg24.unread l.db)) := by
  sl_kernel_rfl

end Cert.SguIdeal.Body

end
-- ==== Proof.SguRow.lean ====
/- The spatial gating unit's gradients over the reals, chunk by chunk of 128 tokens and token by token. -/
module

public import proofs.«01_k».proof.Proof.Reals
public import Idealize.ShloMosaic.Lib.WordCmp

@[expose] public section

set_option maxRecDepth 16384

noncomputable section

namespace Cert.Step.Sgu

open Idealize.ShloMosaic

/-! ## The smooth rectification, by the hyperbolic tangent -/

/-- Its two numbers: the words nearest √(2/π) and 0.044715. -/
def c₀ : ℝ := 6693141 / 8388608
def c₁ : ℝ := 12003091 / 268435456

theorem word_c₀ : Ideal.ofBits .f32 0x3F4C422A#32 = (c₀ : EReal) := by
  simp [Ideal.ofBits, Ideal.ieee, c₀, -EReal.coe_mul]; norm_num
theorem word_c₁ : Ideal.ofBits .f32 0x3D372713#32 = (c₁ : EReal) := by
  simp [Ideal.ofBits, Ideal.ieee, c₁, -EReal.coe_mul]; norm_num
theorem word_three : Ideal.ofBits .f32 0x40400000#32 = ((3 : ℝ) : EReal) := by
  simp [Ideal.ofBits, Ideal.ieee, -EReal.coe_mul]; norm_num

def bend (u : ℝ) : ℝ := Real.tanh (c₀ * (u + c₁ * (u * u * u)))

def gelu (u : ℝ) : ℝ := u * (1 / 2 * (1 + bend u))

/-- Its derivative. -/
def slope (u : ℝ) : ℝ :=
  1 / 2 * (1 + bend u) + 1 / 2 * u * (1 - bend u * bend u) * (c₀ + 3 * (c₀ * c₁) * (u * u))

/-! ## Normalisation of one row by its mean and its spread, and its gradient -/

def mean (v : Fin 1024 → ℝ) : ℝ := (∑ k, v k) / 1024

def dev (v : Fin 1024 → ℝ) (k : Fin 1024) : ℝ := v k - mean v

/-- The mean square of the deviations, with the added number, is `meanSq (dev v)`; a normalised row is `hat v`. -/
def hat (v : Fin 1024 → ℝ) (k : Fin 1024) : ℝ := dev v k * rinv (dev v)

theorem sum_dev (v : Fin 1024 → ℝ) : ∑ k, dev v k = 0 := by
  simp only [dev, mean, Finset.sum_sub_distrib, Finset.sum_const, Finset.card_univ, Fintype.card_fin, nsmul_eq_mul]
  push_cast
  ring

/-- The gradient of a normalised row at the cotangent `y` of the row before its scale. -/
def back (v y : Fin 1024 → ℝ) (d : Fin 1024) : ℝ :=
  rinv (dev v) * (y d - (∑ k, y k) / 1024 - hat v d * ((∑ k, y k * hat v k) / 1024))

/-- The gradient as it falls out of differentiating `(v - mean) · (mean square)^(-1/2)`. -/
theorem back_eq (v y : Fin 1024 → ℝ) (d : Fin 1024) :
    y d * rinv (dev v) + meanBack (dev v) y * (2 * dev v d)
      + ((∑ k, -(y k * rinv (dev v))) + ∑ k, -(meanBack (dev v) y * (2 * dev v k))) / 1024 = back v y d := by
  have h : (∑ k, y k * (dev v k * rinv (dev v))) = (∑ k, dev v k * y k) * rinv (dev v) := by
    rw [Finset.sum_mul]; exact Finset.sum_congr rfl fun k _ => by ring
  have h0 : (∑ k, -(meanBack (dev v) y * (2 * dev v k))) = 0 := by
    rw [Finset.sum_neg_distrib, ← Finset.mul_sum, ← Finset.mul_sum, sum_dev, mul_zero, mul_zero, neg_zero]
  rw [h0, Finset.sum_neg_distrib, ← Finset.sum_mul]
  unfold back hat meanBack
  rw [h, rinv_div]
  ring

/-! ## The mask of the later tokens -/

theorem word_order (i s : Fin 128) :
    IntOp.cmpi .sge (BitVec.ofNat 32 i.val) (BitVec.ofNat 32 s.val) = if s.val ≤ i.val then 1#1 else 0#1 := by
  rw [WordCmp.cmpi_sge_ofNat (by omega) (by omega)]
  by_cases h : s.val ≤ i.val <;> simp [h]

theorem select_if {p : Prop} [Decidable p] (x y : EReal) : Scalar.select (if p then 1#1 else 0#1) x y = if p then x else y := by
  by_cases h : p
  · simp [h, Scalar.select]
  · simp [h, Scalar.select]

/-! ## One chunk: `u`, `v` its rows before the rectification, `da` the cotangent of its gated rows -/

/-- The group of a lane, and a lane of a group. -/
def group (d : Fin 1024) : Fin 8 := ⟨d.val / 128, by omega⟩
theorem lane_lt (g : Fin 8) (e : Fin 128) : 128 * g.val + e.val < 1024 := by omega
def lane (g : Fin 8) (e : Fin 128) : Fin 1024 := ⟨128 * g.val + e.val, lane_lt g e⟩
theorem group_lane (g : Fin 8) (e : Fin 128) : group (lane g e) = g :=
  Fin.ext (by show (128 * g.val + e.val) / 128 = g.val; omega)

section Chunk
variable (lg lb : Fin 1024 → ℝ) (ws : Fin 8 → Fin 128 → Fin 128 → ℝ) (bs : Fin 8 → Fin 128 → ℝ)
  (u v da : Fin 128 → Fin 1024 → ℝ)

/-- The weights a token mixes its chunk with: its own and the earlier tokens'. -/
def causal (g : Fin 8) (i s : Fin 128) : ℝ := if s.val ≤ i.val then ws g i s else 0

def normed (s : Fin 128) (d : Fin 1024) : ℝ := hat (fun k => gelu (v s k)) d * lg d + lb d

def mixed (i : Fin 128) (d : Fin 1024) : ℝ := (∑ s, causal ws (group d) i s * normed lg lb v s d) + bs (group d) i

/-- The gradient at the first half. -/
def du (i : Fin 128) (d : Fin 1024) : ℝ := da i d * mixed lg lb ws bs v i d * slope (u i d)

/-- The gradient at the mixed rows. -/
def dmix (i : Fin 128) (d : Fin 1024) : ℝ := da i d * gelu (u i d)

/-- The gradient at the normalised second half. -/
def dnormed (s : Fin 128) (d : Fin 1024) : ℝ := ∑ i, causal ws (group d) i s * dmix u da i d

/-- The gradient at the second half. -/
def dv (s : Fin 128) (d : Fin 1024) : ℝ :=
  back (fun k => gelu (v s k)) (fun k => dnormed ws u da s k * lg k) d * slope (v s d)

/-- The chunk's share of the mixing weights' gradient, before the later tokens are left out. -/
def dws (g : Fin 8) (i s : Fin 128) : ℝ := ∑ e, dmix u da i (lane g e) * normed lg lb v s (lane g e)

end Chunk

/-! ## The whole sequence -/

/-- Token `i` of chunk `n`. -/
theorem tok_lt (n : Fin 64) (i : Fin 128) : 128 * n.val + i.val < 8192 := by omega
def tok (n : Fin 64) (i : Fin 128) : Fin 8192 := ⟨128 * n.val + i.val, tok_lt n i⟩
def chunkOf (t : Fin 8192) : Fin 64 := ⟨t.val / 128, by omega⟩
def placeOf (t : Fin 8192) : Fin 128 := ⟨t.val % 128, by omega⟩
theorem lane_of (d : Fin 1024) : ∃ g e, lane g e = d :=
  ⟨group d, ⟨d.val % 128, by omega⟩, Fin.ext (by show 128 * (d.val / 128) + d.val % 128 = d.val; omega)⟩
theorem tok_of (t : Fin 8192) : tok (chunkOf t) (placeOf t) = t :=
  Fin.ext (by show 128 * (t.val / 128) + t.val % 128 = t.val; omega)
theorem chunkOf_tok (n : Fin 64) (i : Fin 128) : chunkOf (tok n i) = n :=
  Fin.ext (by show (128 * n.val + i.val) / 128 = n.val; omega)
theorem placeOf_tok (n : Fin 64) (i : Fin 128) : placeOf (tok n i) = i :=
  Fin.ext (by show (128 * n.val + i.val) % 128 = i.val; omega)

/-- The arguments, as reals. `P` is the gradient at the other five parts of the projection. -/
structure Inputs where
  X : Fin 8192 → Fin 1024 → ℝ
  G : Fin 1024 → ℝ
  W : Fin 1024 → Fin 5632 → ℝ
  lg : Fin 1024 → ℝ
  lb : Fin 1024 → ℝ
  ws : Fin 8 → Fin 128 → Fin 128 → ℝ
  bs : Fin 8 → Fin 128 → ℝ
  A : Fin 8192 → Fin 1024 → ℝ
  Q : Fin 8192 → Fin 1024 → ℝ
  K : Fin 8192 → Fin 256 → ℝ
  V : Fin 8192 → Fin 256 → ℝ
  GA : Fin 8192 → Fin 1024 → ℝ
  GB : Fin 8192 → Fin 1024 → ℝ

namespace Inputs
variable (I : Inputs)

/-- The projection's row. -/
def proj (t : Fin 8192) (j : Fin 5632) : ℝ := ∑ k, I.X t k * rinv (I.X t) * I.G k * I.W k j

theorem first_lt (d : Fin 1024) : d.val < 5632 := by omega
theorem second_lt (d : Fin 1024) : 1024 + d.val < 5632 := by omega
def first (t : Fin 8192) (d : Fin 1024) : ℝ := I.proj t ⟨d.val, first_lt d⟩
def second (t : Fin 8192) (d : Fin 1024) : ℝ := I.proj t ⟨1024 + d.val, second_lt d⟩

def u (n : Fin 64) (i : Fin 128) : Fin 1024 → ℝ := I.first (tok n i)
def v (n : Fin 64) (i : Fin 128) : Fin 1024 → ℝ := I.second (tok n i)
/-- The rectified second half of a token, the row the norm takes. -/
def lit (t : Fin 8192) (k : Fin 1024) : ℝ := gelu (I.second t k)
def da (n : Fin 64) (i : Fin 128) (d : Fin 1024) : ℝ := I.A (tok n i) d

def du (n : Fin 64) : Fin 128 → Fin 1024 → ℝ := Sgu.du I.lg I.lb I.ws I.bs (I.u n) (I.v n) (I.da n)
def dv (n : Fin 64) : Fin 128 → Fin 1024 → ℝ := Sgu.dv I.lg I.ws (I.u n) (I.v n) (I.da n)

/-- The gradient at the projection's row. -/
def dproj (n : Fin 64) (i : Fin 128) (j : Fin 5632) : ℝ :=
  if h : j.val < 1024 then I.du n i ⟨j.val, h⟩
  else if h : j.val < 2048 then I.dv n i ⟨j.val - 1024, by omega⟩
  else if h : j.val < 3072 then I.Q (tok n i) ⟨j.val - 2048, by omega⟩
  else if h : j.val < 3328 then I.K (tok n i) ⟨j.val - 3072, by omega⟩
  else if h : j.val < 3584 then I.V (tok n i) ⟨j.val - 3328, by omega⟩
  else if h : j.val < 4608 then I.GA (tok n i) ⟨j.val - 3584, by omega⟩
  else I.GB (tok n i) ⟨j.val - 4608, by omega⟩

/-- The gradient at the normalised row. -/
def dh (n : Fin 64) (i : Fin 128) (k : Fin 1024) : ℝ := ∑ j, I.dproj n i j * I.W k j

/-- The gradient at the row, through the norm. -/
def dx (n : Fin 64) (i : Fin 128) (k : Fin 1024) : ℝ := normBack (I.X (tok n i)) (fun k => I.dh n i k * I.G k) k

/-- The sums over all tokens. -/
def dg (k : Fin 1024) : ℝ := ∑ n, ∑ i, I.dh n i k * (I.X (tok n i) k * rinv (I.X (tok n i)))
def dws (g : Fin 8) (i s : Fin 128) : ℝ := if s.val ≤ i.val then ∑ n, Sgu.dws I.lg I.lb (I.u n) (I.v n) (I.da n) g i s else 0
def dbs (g : Fin 8) (i : Fin 128) : ℝ := ∑ n, ∑ e, dmix (I.u n) (I.da n) i (lane g e)
def dlg (d : Fin 1024) : ℝ := ∑ n, ∑ s, dnormed I.ws (I.u n) (I.da n) s d * hat (fun k => gelu (I.v n s k)) d
def dlb (d : Fin 1024) : ℝ := ∑ n, ∑ s, dnormed I.ws (I.u n) (I.da n) s d

end Inputs

/-- A sum over the tokens is a sum over the chunks and their tokens. -/
theorem sum_tokens (f : Fin 8192 → ℝ) : ∑ t, f t = ∑ n, ∑ i, f (tok n i) := by
  rw [← Fintype.sum_prod_type' (f := fun n i => f (tok n i))]
  refine (Fintype.sum_equiv (finProdFinEquiv (m := 64) (n := 128)) _ _ fun p => congrArg f (Fin.ext ?_)).symm
  show 128 * p.1.val + p.2.val = p.2.val + 128 * p.1.val
  omega

end Cert.Step.Sgu

end
-- ==== Proof.SguEval.lean ====
/- The gated unit's blocks over the reals: what a computation on a block of rows yields at one of them. -/
module

public import proofs.«01_k».proof.Proof.SguBody
public import proofs.«01_k».proof.Proof.SguRow
public import Idealize.ShloMosaic.Lib.Pipeline.ValueKit

@[expose] public section

set_option maxRecDepth 16384

noncomputable section

namespace Cert.SguIdeal.Body

open Cert.SguIdeal Cert.SguIdeal.Gen Cert.Step Cert.Step.Sgu
open Idealize.ShloMosaic Idealize.ShloMosaic.TcCoe Idealize.ShloMosaic.Tactic

theorem named_cube : (Named.named κ "gelu_cube" 0x3D122279#32 : Ideal .f32) = ((c₀ * c₁ : ℝ) : EReal) := by
  show ((_ : ℝ) : EReal) = _
  refine congrArg _ ?_
  norm_num [c₀, c₁]

theorem named_slope : (Named.named κ "gelu_slope" 0x3DDB33B6#32 : Ideal .f32) = ((3 * (c₀ * c₁) : ℝ) : EReal) := by
  show ((_ : ℝ) : EReal) = _
  refine congrArg _ ?_
  norm_num [c₀, c₁]

/-! ## Entries -/

section Entry
variable {x : FVec Ideal S512x1024 .f32} {r : Fin 512} {k : Fin 1024} {a : ℝ}

theorem wide_at {x : Vec Ideal S512x1024 .bf16} (hx : x (ix2 r k) = (a : EReal)) : wide x (ix2 r k) = (a : EReal) := by
  pointwise [wide]
  exact hx

theorem bendV_at (hx : x (ix2 r k) = (a : EReal)) : bendV x (ix2 r k) = (bend a : EReal) := by
  pointwise [bendV, sq]
  rw [hx, named_cube, word_c₀]
  simp only [← EReal.coe_mul, ← EReal.coe_add, Ideal.tanh_coe]
  refine congrArg _ ?_
  unfold bend
  congr 1
  ring

theorem halfV_at (hx : x (ix2 r k) = (a : EReal)) : halfV x (ix2 r k) = ((1 / 2 * a : ℝ) : EReal) := by
  pointwise [halfV]
  rw [hx, word_half, ← EReal.coe_mul]

theorem geluV_at (hx : x (ix2 r k) = (a : EReal)) : geluV x (ix2 r k) = (gelu a : EReal) := by
  pointwise [geluV]
  rw [halfV_at hx, bendV_at hx, ← EReal.coe_mul, ← EReal.coe_add]
  refine congrArg _ ?_
  unfold gelu
  ring

theorem slopeV_at (hx : x (ix2 r k) = (a : EReal)) : slopeV x (ix2 r k) = (Sgu.slope a : EReal) := by
  pointwise [slopeV, sq]
  rw [halfV_at hx, bendV_at hx, named_slope, word_c₀, word_half, hx, ← EReal.coe_one]
  simp only [← EReal.coe_mul, ← EReal.coe_add, ← EReal.coe_sub]
  refine congrArg _ ?_
  unfold Sgu.slope
  ring

end Entry

/-! ## Rows -/

section Rows
variable {y h : FVec Ideal S512x1024 .f32} {q : FVec Ideal S512x1 .f32} {r : Fin 512} {f e : Fin 1024 → ℝ} {p : ℝ}

theorem meanRow_at (hy : ∀ k, y (ix2 r k) = (f k : EReal)) (o : Fin 1) : meanRow y (ix2 r o) = ((∑ k, f k) / 1024 : ℝ) := by
  pointwise [meanRow, sumRow]
  simp only [hy, sum_real, div_1024]

theorem spread_at (q : FVec Ideal S512x1 .f32) (r : Fin 512) (k : Fin 1024) : spread q (ix2 r k) = q (ix2 r 0) := by
  pointwise [spread]

theorem spreadDown_at (q : FVec Ideal S1x1024 .f32) (r : Fin 512) (k : Fin 1024) : spreadDown q (ix2 r k) = q (ix2 0 k) := by
  pointwise [spreadDown]

theorem devV_at (hy : ∀ k, y (ix2 r k) = (f k : EReal)) (k : Fin 1024) : devV y (ix2 r k) = (dev f k : EReal) := by
  pointwise [devV]
  rw [spread_at, meanRow_at hy, hy, ← EReal.coe_sub]
  rfl

theorem invV_at (hy : ∀ k, y (ix2 r k) = (f k : EReal)) (o : Fin 1) : invV y (ix2 r o) = (rinv f : EReal) := by
  have hs : ∀ k, mulf y y (ix2 r k) = ((f k * f k : ℝ) : EReal) := fun k => by
    pointwise []
    rw [hy, ← EReal.coe_mul]
  unfold invV
  generalize mulf y y = s at hs
  pointwise []
  rw [meanRow_at hs, word_eps, ← EReal.coe_add, rsqrt_row]

theorem hatV_at (hy : ∀ k, y (ix2 r k) = (f k : EReal)) (k : Fin 1024) : hatV y (ix2 r k) = ((f k * rinv f : ℝ) : EReal) := by
  pointwise [hatV]
  rw [spread_at, invV_at hy, hy, ← EReal.coe_mul]

theorem corr_at (hh : ∀ k, h (ix2 r k) = (f k : EReal)) (hy : ∀ k, y (ix2 r k) = (e k : EReal)) (o : Fin 1) :
    meanRow (mulf y h) (ix2 r o) = (((∑ k, e k * f k) / 1024 : ℝ) : EReal) :=
  meanRow_at (fun k => by
    pointwise []
    rw [hh, hy, ← EReal.coe_mul]) o

theorem normBackV_at (hh : ∀ k, h (ix2 r k) = (f k : EReal)) (hq : q (ix2 r 0) = (p : EReal))
    (hy : ∀ k, y (ix2 r k) = (e k : EReal)) (k : Fin 1024) :
    normBackV h q y (ix2 r k) = ((p * (e k - f k * ((∑ k, e k * f k) / 1024)) : ℝ) : EReal) := by
  have hc := corr_at hh hy 0
  unfold normBackV
  generalize meanRow (mulf y h) = s at hc
  pointwise []
  rw [spread_at, spread_at, hc, hq, hh, hy]
  simp only [← EReal.coe_mul, ← EReal.coe_sub]

theorem layerBackV_at (hh : ∀ k, h (ix2 r k) = (f k : EReal)) (hq : q (ix2 r 0) = (p : EReal))
    (hy : ∀ k, y (ix2 r k) = (e k : EReal)) (k : Fin 1024) :
    layerBackV h q y (ix2 r k) = ((p * (e k - (∑ k, e k) / 1024 - f k * ((∑ k, e k * f k) / 1024)) : ℝ) : EReal) := by
  have hc := corr_at hh hy 0
  have hm := meanRow_at hy 0
  unfold layerBackV
  generalize meanRow (mulf y h) = s at hc
  generalize meanRow y = w at hm
  pointwise []
  rw [spread_at, spread_at, spread_at, hc, hm, hq, hh, hy]
  simp only [← EReal.coe_mul, ← EReal.coe_sub]

end Rows

/-! ## Squares -/

/-- Token `i` of the block's chunk `c`; also the place of a lane in four squares side by side. -/
theorem row_lt (c : Fin 4) (i : Fin 128) : 128 * c.val + i.val < 512 := by omega
def row (c : Fin 4) (i : Fin 128) : Fin 512 := ⟨128 * c.val + i.val, row_lt c i⟩

theorem row_of (r : Fin 512) : ∃ c i, row c i = r :=
  ⟨⟨r.val / 128, by omega⟩, ⟨r.val % 128, by omega⟩, Fin.ext (by show 128 * (r.val / 128) + r.val % 128 = r.val; omega)⟩

theorem sum_rows (f : Fin 512 → ℝ) : ∑ r, f r = ∑ c, ∑ i, f (row c i) := by
  rw [← Fintype.sum_prod_type' (f := fun c i => f (row c i))]
  refine (Fintype.sum_equiv (finProdFinEquiv (m := 4) (n := 128)) _ _ fun p => congrArg f (Fin.ext ?_)).symm
  show 128 * p.1.val + p.2.val = p.2.val + 128 * p.1.val
  omega

theorem square_at {φ : FTy} (x : FVec Ideal S512x1024 φ) (c : Fin 4) (g : Fin 8) (i e : Fin 128) :
    square (F := Ideal) (φ := φ) x c g (ix2 i e) = x (ix2 (row c i) (lane g e)) := by
  unfold square
  refine congrArg x ?_
  funext a; apply Fin.ext; fin_cases a <;> rfl

theorem take_at (x : FVec Ideal S128x512 .f32) (c : Fin 4) (i e : Fin 128) : take (F := Ideal) x c (ix2 i e) = x (ix2 i (row c e)) := by
  unfold take
  refine congrArg x ?_
  funext a; apply Fin.ext; fin_cases a
  · exact Nat.zero_add _
  · rfl

theorem beside_at {φ : FTy} (f : Fin 4 → FVec Ideal S128x128 φ) (i : Fin 128) (c : Fin 4) (e : Fin 128) :
    beside (F := Ideal) (φ := φ) f (ix2 i (row c e)) = f c (ix2 i e) := by
  have he := e.isLt
  fin_cases c <;> pointwise [beside, row] <;> split_ifs <;> first | (exfalso; omega) | (refine congrArg _ (congrArg _ (Fin.ext ?_)); simp only; omega)

set_option maxHeartbeats 3200000 in
theorem eight_at (f : Fin 8 → FVec Ideal S128x128 .f32) (i : Fin 128) (g : Fin 8) (e : Fin 128) :
    (concatenate S128x1024 1 [⟨S128x128, f 0⟩, ⟨S128x128, f 1⟩, ⟨S128x128, f 2⟩, ⟨S128x128, f 3⟩,
      ⟨S128x128, f 4⟩, ⟨S128x128, f 5⟩, ⟨S128x128, f 6⟩, ⟨S128x128, f 7⟩]
      concatenates_S128x128_S128x128_S128x128_S128x128_S128x128_S128x128_S128x128_S128x128_S128x1024_d1 : FVec Ideal S128x1024 .f32)
      (ix2 i (lane g e)) = f g (ix2 i e) := by
  have he := e.isLt
  fin_cases g <;> pointwise [lane] <;> split_ifs <;> first | (exfalso; omega) | (refine congrArg _ (congrArg _ (Fin.ext ?_)); simp only; omega)

theorem four_at (f : Fin 4 → FVec Ideal S128x1024 .f32) (c : Fin 4) (i : Fin 128) (k : Fin 1024) :
    (concatenate S512x1024 0 [⟨S128x1024, f 0⟩, ⟨S128x1024, f 1⟩, ⟨S128x1024, f 2⟩, ⟨S128x1024, f 3⟩]
      concatenates_S128x1024_S128x1024_S128x1024_S128x1024_S512x1024_d0 : FVec Ideal S512x1024 .f32)
      (ix2 (row c i) k) = f c (ix2 i k) := by
  have hi := i.isLt
  fin_cases c <;> pointwise [row] <;> split_ifs <;>
    first | (exfalso; omega) | (refine congrArg _ (congrArg (fun x => ix2 x k) (Fin.ext ?_)); simp only; omega)

theorem whole_at (f : Fin 4 → Fin 8 → FVec Ideal S128x128 .f32) (c : Fin 4) (i : Fin 128) (g : Fin 8) (e : Fin 128) :
    whole (F := Ideal) f (ix2 (row c i) (lane g e)) = f c g (ix2 i e) :=
  (four_at (fun c => concatenate S128x1024 1 [⟨S128x128, f c 0⟩, ⟨S128x128, f c 1⟩, ⟨S128x128, f c 2⟩, ⟨S128x128, f c 3⟩,
      ⟨S128x128, f c 4⟩, ⟨S128x128, f c 5⟩, ⟨S128x128, f c 6⟩, ⟨S128x128, f c 7⟩]
      concatenates_S128x128_S128x128_S128x128_S128x128_S128x128_S128x128_S128x128_S128x128_S128x1024_d1) c i (lane g e)).trans
    (eight_at (f c) i g e)

/-! ## The weights -/

theorem lower_at (x : Vec Ideal S1x128x128 .f32) (i s : Fin 128) :
    lower x (ix2 i s) = if s.val ≤ i.val then x (ix3 0 i s) else 0 := by
  pointwise [lower, tri]
  rw [word_order, select_if]

/-! ## The unit -/

theorem first_lt (j : Fin 1024) : j.val < 5632 := by omega
theorem second_lt (j : Fin 1024) : 1024 + j.val < 5632 := by omega
theorem third_lt (j : Fin 1792) : 2048 + j.val < 5632 := by omega
theorem fourth_lt (j : Fin 1792) : 3840 + j.val < 5632 := by omega

/-- What the point's loads hold, as reals: chunk `c` of the block is chunk `n c` of the sequence. -/
structure Point (L : Loads Ideal) (I : Inputs) (n : Fin 4 → Fin 64) : Prop where
  u : ∀ c i d, L.u (ix2 (row c i) d) = (I.u (n c) i d : EReal)
  v : ∀ c i d, L.v (ix2 (row c i) d) = (I.v (n c) i d : EReal)
  da : ∀ c i d, L.da (ix2 (row c i) d) = (I.da (n c) i d : EReal)
  lg : ∀ d, L.lg (ix2 0 d) = (I.lg d : EReal)
  lb : ∀ d, L.lb (ix2 0 d) = (I.lb d : EReal)
  ws : ∀ g i s, L.ws g (ix3 0 i s) = (I.ws g i s : EReal)
  bs : ∀ g i e, L.bs (ix2 i (lane g e)) = (I.bs g i : EReal)
  q : ∀ c i d, L.q (ix2 (row c i) d) = (I.Q (tok (n c) i) d : EReal)
  k : ∀ c i d, L.k (ix2 (row c i) d) = (I.K (tok (n c) i) d : EReal)
  w : ∀ c i d, L.w (ix2 (row c i) d) = (I.V (tok (n c) i) d : EReal)
  ga : ∀ c i d, L.ga (ix2 (row c i) d) = (I.GA (tok (n c) i) d : EReal)
  gb : ∀ c i d, L.gb (ix2 (row c i) d) = (I.GB (tok (n c) i) d : EReal)
  x : ∀ c i d, L.x (ix2 (row c i) d) = (I.X (tok (n c) i) d : EReal)
  g : ∀ d, L.g (ix2 0 d) = (I.G d : EReal)
  w0 : ∀ k (j : Fin 1024), L.w0 (ix2 k j) = (I.W k ⟨j.val, first_lt j⟩ : EReal)
  w1 : ∀ k (j : Fin 1024), L.w1 (ix2 k j) = (I.W k ⟨1024 + j.val, second_lt j⟩ : EReal)
  w2 : ∀ k (j : Fin 1792), L.w2 (ix2 k j) = (I.W k ⟨2048 + j.val, third_lt j⟩ : EReal)
  w3 : ∀ k (j : Fin 1792), L.w3 (ix2 k j) = (I.W k ⟨3840 + j.val, fourth_lt j⟩ : EReal)

variable {L : Loads Ideal} {I : Inputs} {n : Fin 4 → Fin 64} (H : Point L I n)
include H

theorem wt_at (g : Fin 8) (i s : Fin 128) : wt L g (ix2 i s) = (causal I.ws g i s : EReal) := by
  pointwise [wt]
  rw [lower_at, H.ws]
  unfold causal
  split_ifs <;> simp

theorem lit_at (c : Fin 4) (i : Fin 128) (k : Fin 1024) :
    geluV (wide L.v) (ix2 (row c i) k) = (gelu (I.v (n c) i k) : EReal) := geluV_at (wide_at (H.v c i k))

theorem hatOf_at (c : Fin 4) (i : Fin 128) (k : Fin 1024) :
    hatOf L (ix2 (row c i) k) = (hat (fun k => gelu (I.v (n c) i k)) k : EReal) :=
  hatV_at (devV_at (lit_at H c i)) k

theorem invOf_at (c : Fin 4) (i : Fin 128) :
    invV (devV (geluV (wide L.v))) (ix2 (row c i) 0) = (rinv (dev fun k => gelu (I.v (n c) i k)) : EReal) :=
  invV_at (devV_at (lit_at H c i)) 0

theorem normedV_at (c : Fin 4) (i : Fin 128) (k : Fin 1024) :
    normedV L (ix2 (row c i) k) = (normed I.lg I.lb (I.v (n c)) i k : EReal) := by
  pointwise [normedV]
  rw [spreadDown_at, spreadDown_at, hatOf_at H, H.lg, H.lb, ← EReal.coe_mul, ← EReal.coe_add]
  rfl

theorem rowsV_at (g : Fin 8) (c : Fin 4) (i e : Fin 128) :
    rowsV L g (ix2 i (row c e)) = (normed I.lg I.lb (I.v (n c)) i (lane g e) : EReal) := by
  unfold rowsV
  rw [beside_at, square_at, normedV_at H]

theorem mixV_at (g : Fin 8) (c : Fin 4) (i e : Fin 128) :
    mixV L g (ix2 i (row c e)) = ((∑ s, causal I.ws g i s * normed I.lg I.lb (I.v (n c)) s (lane g e) : ℝ) : EReal) := by
  pointwise [mixV]
  simp only [wt_at H, rowsV_at H, ← EReal.coe_mul, sum_real]

theorem mixedV_at (c : Fin 4) (i : Fin 128) (d : Fin 1024) :
    mixedV L (ix2 (row c i) d) = (mixed I.lg I.lb I.ws I.bs (I.v (n c)) i d : EReal) := by
  obtain ⟨g, e, rfl⟩ := lane_of d
  unfold mixedV
  rw [whole_at]
  have hb : biasV L g (ix2 i e) = (I.bs g i : EReal) := by
    rw [← H.bs g i e]
    pointwise [biasV]
    rfl
  pointwise []
  rw [take_at, mixV_at H, hb, ← EReal.coe_add]
  unfold mixed
  rw [group_lane]

theorem duV_at (c : Fin 4) (i : Fin 128) (d : Fin 1024) : duV L (ix2 (row c i) d) = (I.du (n c) i d : EReal) := by
  pointwise [duV]
  rw [mixedV_at H, slopeV_at (wide_at (H.u c i d)), H.da, ← EReal.coe_mul, ← EReal.coe_mul]
  rfl

theorem dmixV_at (c : Fin 4) (i : Fin 128) (d : Fin 1024) :
    dmixV L (ix2 (row c i) d) = (dmix (I.u (n c)) (I.da (n c)) i d : EReal) := by
  pointwise [dmixV]
  rw [geluV_at (wide_at (H.u c i d)), H.da, ← EReal.coe_mul]
  rfl

theorem dbV_at (g : Fin 8) (i e : Fin 128) {prev : Vec Ideal S128x128 .f32} {a : ℝ} (hp : prev (ix2 i e) = (a : EReal)) :
    dbV L g prev (ix2 i e) = ((a + ∑ c, dmix (I.u (n c)) (I.da (n c)) i (lane g e) : ℝ) : EReal) := by
  pointwise [dbV]
  rw [square_at, square_at, square_at, square_at, dmixV_at H, dmixV_at H, dmixV_at H, dmixV_at H, hp]
  simp only [← EReal.coe_add, Fin.sum_univ_four]

theorem dmV_at (g : Fin 8) (c : Fin 4) (i e : Fin 128) :
    dmV L g (ix2 i (row c e)) = (dmix (I.u (n c)) (I.da (n c)) i (lane g e) : EReal) := by
  have h : ∀ f : FVec Ideal S128x512 .f32, (truncf .bf16 f bitsLt_bf16_f32 : FVec Ideal S128x512 .bf16) (ix2 i (row c e)) = f (ix2 i (row c e)) :=
    fun f => by pointwise []
  unfold dmV
  rw [h, beside_at, square_at, dmixV_at H]

theorem dwsV_at (g : Fin 8) (i s : Fin 128) {prev : Vec Ideal S1x128x128 .f32} {a : ℝ} (hp : prev (ix3 0 i s) = (a : EReal)) :
    dwsV L g prev (ix3 0 i s) = ((a + ∑ c, Sgu.dws I.lg I.lb (I.u (n c)) (I.v (n c)) (I.da (n c)) g i s : ℝ) : EReal) := by
  have h : ∀ r : Fin 512, dmV L g (ix2 i r) * rowsV L g (ix2 s r)
      = ((fun r : Fin 512 => (dmV L g (ix2 i r) * rowsV L g (ix2 s r)).toReal) r : EReal) := fun r => by
    obtain ⟨c, e, rfl⟩ := row_of r
    simp only [dmV_at H, rowsV_at H, ← EReal.coe_mul, EReal.toReal_coe]
  pointwise [dwsV]
  rw [hp]
  rw [Finset.sum_congr rfl fun r _ => h r, sum_real, ← EReal.coe_add, sum_rows]
  simp only [dmV_at H, rowsV_at H, ← EReal.coe_mul, EReal.toReal_coe]
  rfl

theorem dcolV_at (g : Fin 8) (c : Fin 4) (s e : Fin 128) :
    dcolV L g (ix2 s (row c e)) = (dnormed I.ws (I.u (n c)) (I.da (n c)) s (lane g e) : EReal) := by
  pointwise [dcolV]
  simp only [wt_at H, dmV_at H, ← EReal.coe_mul, sum_real]
  unfold dnormed
  rw [group_lane]

theorem dnormedV_at (c : Fin 4) (s : Fin 128) (d : Fin 1024) :
    dnormedV L (ix2 (row c s) d) = (dnormed I.ws (I.u (n c)) (I.da (n c)) s d : EReal) := by
  obtain ⟨g, e, rfl⟩ := lane_of d
  unfold dnormedV
  rw [whole_at, take_at, dcolV_at H]

theorem dvV_at (c : Fin 4) (i : Fin 128) (d : Fin 1024) : dvV L (ix2 (row c i) d) = (I.dv (n c) i d : EReal) := by
  have hy : ∀ k, mulf (dnormedV L) (spreadDown L.lg) (ix2 (row c i) k)
      = ((dnormed I.ws (I.u (n c)) (I.da (n c)) i k * I.lg k : ℝ) : EReal) := fun k => by
    pointwise []
    rw [dnormedV_at H, spreadDown_at, H.lg, ← EReal.coe_mul]
  have hb := layerBackV_at (hatOf_at H c i) (invOf_at H c i) hy d
  unfold dvV
  generalize layerBackV (hatOf L) (invV (devV (geluV (wide L.v)))) (mulf (dnormedV L) (spreadDown L.lg)) = z at hb
  pointwise []
  rw [hb, slopeV_at (wide_at (H.v c i d)), ← EReal.coe_mul]
  rfl

omit H in
theorem sumDown_at {y : FVec Ideal S512x1024 .f32} {f : Fin 4 → Fin 128 → ℝ} {d : Fin 1024}
    (hy : ∀ c i, y (ix2 (row c i) d) = (f c i : EReal)) (o : Fin 1) : sumDown y (ix2 o d) = ((∑ c, ∑ i, f c i : ℝ) : EReal) := by
  have h : ∀ r : Fin 512, y (ix2 r d) = ((fun r : Fin 512 => (y (ix2 r d)).toReal) r : EReal) := fun r => by
    obtain ⟨c, e, rfl⟩ := row_of r
    simp only [hy, EReal.toReal_coe]
  pointwise [sumDown]
  rw [Finset.sum_congr rfl fun r _ => h r, sum_real, sum_rows]
  simp only [hy, EReal.toReal_coe]

theorem dlgV_at (d : Fin 1024) {prev : Vec Ideal S1x1024 .f32} {a : ℝ} (hp : prev (ix2 0 d) = (a : EReal)) :
    dlgV L prev (ix2 0 d)
      = ((a + ∑ c, ∑ s, dnormed I.ws (I.u (n c)) (I.da (n c)) s d * hat (fun k => gelu (I.v (n c) s k)) d : ℝ) : EReal) := by
  have hs := sumDown_at (y := mulf (dnormedV L) (hatOf L)) (d := d)
    (f := fun c s => dnormed I.ws (I.u (n c)) (I.da (n c)) s d * hat (fun k => gelu (I.v (n c) s k)) d) (fun c s => by
      pointwise []
      rw [dnormedV_at H, hatOf_at H, ← EReal.coe_mul]) 0
  unfold dlgV
  generalize sumDown (mulf (dnormedV L) (hatOf L)) = z at hs
  pointwise []
  rw [hs, hp, ← EReal.coe_add]

theorem dlbV_at (d : Fin 1024) {prev : Vec Ideal S1x1024 .f32} {a : ℝ} (hp : prev (ix2 0 d) = (a : EReal)) :
    dlbV L prev (ix2 0 d) = ((a + ∑ c, ∑ s, dnormed I.ws (I.u (n c)) (I.da (n c)) s d : ℝ) : EReal) := by
  have hs := sumDown_at (y := dnormedV L) (d := d) (fun c s => dnormedV_at H c s d) 0
  unfold dlbV
  generalize sumDown (dnormedV L) = z at hs
  pointwise []
  rw [hs, hp, ← EReal.coe_add]

/-! ## The input projection's norm -/

theorem dxV_at {dh : FVec Ideal S512x1024 .f32} {h : Fin 4 → Fin 128 → Fin 1024 → ℝ}
    (hd : ∀ c i k, dh (ix2 (row c i) k) = (h c i k : EReal)) (c : Fin 4) (i : Fin 128) (d : Fin 1024) :
    dxV L dh (ix2 (row c i) d)
      = L.dx (ix2 (row c i) d) + (normBack (I.X (tok (n c) i)) (fun k => h c i k * I.G k) d : EReal) := by
  have hy : ∀ k, mulf dh (spreadDown L.g) (ix2 (row c i) k) = ((h c i k * I.G k : ℝ) : EReal) := fun k => by
    pointwise []
    rw [hd, spreadDown_at, H.g, ← EReal.coe_mul]
  have hb := normBackV_at (hatV_at (H.x c i)) (invV_at (H.x c i) 0) hy d
  unfold dxV
  generalize normBackV (hatV L.x) (invV L.x) (mulf dh (spreadDown L.g)) = z at hb
  pointwise []
  rw [hb]
  rfl

theorem dgV_at {dh : FVec Ideal S512x1024 .f32} {h : Fin 4 → Fin 128 → Fin 1024 → ℝ}
    (hd : ∀ c i k, dh (ix2 (row c i) k) = (h c i k : EReal)) (d : Fin 1024) {prev : Vec Ideal S1x1024 .f32} {a : ℝ}
    (hp : prev (ix2 0 d) = (a : EReal)) :
    dgV L dh prev (ix2 0 d)
      = ((a + ∑ c, ∑ i, h c i d * (I.X (tok (n c) i) d * rinv (I.X (tok (n c) i))) : ℝ) : EReal) := by
  have hs := sumDown_at (y := mulf dh (hatV L.x)) (d := d)
    (f := fun c i => h c i d * (I.X (tok (n c) i) d * rinv (I.X (tok (n c) i)))) (fun c i => by
      pointwise []
      rw [hd, hatV_at (H.x c i), ← EReal.coe_mul]) 0
  unfold dgV
  generalize sumDown (mulf dh (hatV L.x)) = z at hs
  pointwise []
  rw [hs, hp, ← EReal.coe_add]

end Cert.SguIdeal.Body

end
-- ==== Proof.SguWrite.lean ====
/- What the gated unit's stores leave, over the reals: a block written piece by piece holds each piece's values. -/
module

public import proofs.«01_k».proof.Proof.SguStore
public import proofs.«01_k».proof.Proof.SguEval

@[expose] public section

set_option maxRecDepth 16384

noncomputable section

namespace Cert.SguIdeal.Body

open Cert.SguIdeal Cert.SguIdeal.Gen Cert.Step Cert.Step.Sgu
open Idealize.ShloMosaic Idealize.ShloMosaic.TcCoe Idealize.ShloMosaic.Tactic

/-! ## Eight pieces of one buffer -/

section Pieces
variable {s : Shape} {e : EltTy} (R : Fin 8 → Rect s) (apart : ∀ g g', g ≠ g' → ∀ x, (R g).emb x ∉ (R g').set)
include apart

theorem canon_map (w : ∀ g, (R g).shape.Idx → Elt Ideal e) (gs : List (Fin 8)) (g : Fin 8) (hg : g ∈ gs) (x : (R g).shape.Idx) :
    View.canon (gs.map fun g => (⟨R g, w g⟩ : View.Piece (Elt Ideal) s e)) ((R g).emb x) = w g x := by
  induction gs with
  | nil => exact absurd hg List.not_mem_nil
  | cons a gs ih =>
    by_cases h : g = a
    · subst h
      exact View.canon_cons_emb _ _ _ _
    · rw [List.map_cons, View.canon_cons_of_not_mem _ _ (apart g a h x)]
      exact ih ((List.mem_cons.mp hg).resolve_left h)

/-- Pieces stored one after the other, each from what its own place held before. -/
theorem canon_foldl (b : View sig .tc .vmem s e) (f : ∀ g, ((R g).shape.Idx → Elt Ideal e) → (R g).shape.Idx → Elt Ideal e)
    (gs : List (Fin 8)) (hn : gs.Nodup) (P : List (View.Piece (Elt Ideal) s e)) (g : Fin 8) (x : (R g).shape.Idx) :
    View.canon (gs.foldl (fun P g => (⟨R g, f g (b.readCov P (R g).toLoadRect)⟩ : View.Piece (Elt Ideal) s e) :: P) P) ((R g).emb x)
      = if g ∈ gs then f g (fun y => View.canon P ((R g).emb y)) x else View.canon P ((R g).emb x) := by
  induction gs generalizing P with
  | nil => simp
  | cons a gs ih =>
    rw [List.foldl_cons, ih (List.nodup_cons.mp hn).2]
    by_cases h : g = a
    · subst h
      rw [if_neg (List.nodup_cons.mp hn).1, if_pos List.mem_cons_self, View.canon_cons_emb]
      refine congrFun (congrArg (f g) ?_) x
      exact View.readCov_eq_canon' b P (R g).toLoadRect
    · have ho : ∀ y, View.canon ((⟨R a, f a (b.readCov P (R a).toLoadRect)⟩ : View.Piece (Elt Ideal) s e) :: P) ((R g).emb y)
          = View.canon P ((R g).emb y) := fun y => View.canon_cons_of_not_mem _ _ (apart g a h y)
      simp only [ho, List.mem_cons, h, false_or]

end Pieces

theorem group_emb (g : Fin 8) (i s : Fin 128) : (ix3 g i s : S8x128x128.Idx) = (rGroup g).emb (ix3 0 i s) := by
  funext a; apply Fin.ext; fin_cases a <;> simp [Rect.unit, Rect.emb, ix3]

theorem group_apart (g g' : Fin 8) (h : g ≠ g') (x : (rGroup g).shape.Idx) : (rGroup g).emb x ∉ (rGroup g').set := by
  intro hm
  have h0 := (Rect.mem_set_unit (inb := inb_group g')).mp hm 0
  have hx : (x 0).val < 1 := (x 0).isLt
  have hv : ((rGroup g).emb x 0).val = g.val + (x 0).val := by simp [Rect.unit, Rect.emb]
  have h1 : g'.val ≤ ((rGroup g).emb x 0).val := h0.1
  have h2 : ((rGroup g).emb x 0).val < g'.val + 1 := h0.2
  exact h (Fin.ext (by omega))

theorem lanes_emb (g : Fin 8) (i e : Fin 128) : (ix2 i (lane g e) : S128x1024.Idx) = (rLanes g).emb (ix2 i e) := by
  funext a; apply Fin.ext; fin_cases a <;> simp [Rect.unit, Rect.emb, ix2, lane]

theorem lanes_apart (g g' : Fin 8) (h : g ≠ g') (x : (rLanes g).shape.Idx) : (rLanes g).emb x ∉ (rLanes g').set := by
  intro hm
  have h0 := (Rect.mem_set_unit (inb := inb_lanes g')).mp hm 1
  have hx : (x 1).val < 128 := (x 1).isLt
  have hv : ((rLanes g).emb x 1).val = 128 * g.val + (x 1).val := by simp [Rect.unit, Rect.emb]
  have h1 : 128 * g'.val ≤ ((rLanes g).emb x 1).val := h0.1
  have h2 : ((rLanes g).emb x 1).val < 128 * g'.val + 128 := h0.2
  exact h (Fin.ext (by omega))

abbrev rBias (g : Fin 8) : Rect S8x128 := Rect.unit (s := S8x128) ![g.val, 0] S1x128.size (inb_row g)

theorem bias_emb (g : Fin 8) (i : Fin 128) : (ix2 g i : S8x128.Idx) = (rBias g).emb (ix2 0 i) := by
  funext a; apply Fin.ext; fin_cases a <;> simp [Rect.unit, Rect.emb, ix2]

theorem bias_apart (g g' : Fin 8) (h : g ≠ g') (x : (rBias g).shape.Idx) : (rBias g).emb x ∉ (rBias g').set := by
  intro hm
  have h0 := (Rect.mem_set_unit (inb := inb_row g')).mp hm 0
  have hx : (x 0).val < 1 := (x 0).isLt
  have hv : ((rBias g).emb x 0).val = g.val + (x 0).val := by simp [Rect.unit, Rect.emb]
  have h1 : g'.val ≤ ((rBias g).emb x 0).val := h0.1
  have h2 : ((rBias g).emb x 0).val < g'.val + 1 := h0.2
  exact h (Fin.ext (by omega))

theorem all_eight (g : Fin 8) : g ∈ ([7, 6, 5, 4, 3, 2, 1, 0] : List (Fin 8)) ∧ g ∈ ([0, 1, 2, 3, 4, 5, 6, 7] : List (Fin 8)) := by
  fin_cases g <;> decide

/-! ## Pieces of the projection's gradient -/

section Cols
variable {w o : ℕ} (inb : ∀ a, (![0, o] : Fin 2 → ℕ) a + (![512, w] : Fin 2 → ℕ) a ≤ S512x5632.size a)
  (f : (⟨2, ![512, w]⟩ : Shape).Idx → Elt Ideal .bf16) (P : List (View.Piece (Elt Ideal) S512x5632 .bf16)) (r : Fin 512) (j : Fin 5632)

theorem canon_cols (h : o ≤ j.val ∧ j.val < o + w) (hj : j.val - o < w) :
    View.canon ((⟨Rect.unit (s := S512x5632) ![0, o] ![512, w] inb, f⟩ : View.Piece (Elt Ideal) S512x5632 .bf16) :: P) (ix2 r j)
      = f (ix2 r ⟨j.val - o, hj⟩) := by
  have he : (ix2 r j : S512x5632.Idx)
      = (Rect.unit (s := S512x5632) ![0, o] ![512, w] inb).emb (ix2 r (⟨j.val - o, hj⟩ : Fin w)) := by
    funext a; apply Fin.ext; fin_cases a
    · simp [Rect.unit, Rect.emb, ix2]
    · simp [Rect.unit, Rect.emb, ix2]; omega
  rw [he]
  exact View.canon_cons_emb _ _ _ _

theorem canon_cols_off (h : j.val < o ∨ o + w ≤ j.val) :
    View.canon ((⟨Rect.unit (s := S512x5632) ![0, o] ![512, w] inb, f⟩ : View.Piece (Elt Ideal) S512x5632 .bf16) :: P) (ix2 r j)
      = View.canon P (ix2 r j) :=
  View.canon_cons_of_not_mem _ _ fun hm => by
    have h1 := (Rect.mem_set_unit (inb := inb)).mp hm 1
    have h2 : o ≤ j.val := h1.1
    have h3 : j.val < o + w := h1.2
    omega

end Cols

variable {L : Loads Ideal} {I : Inputs} {n : Fin 4 → Fin 64} (H : Point L I n)
include H

theorem passed_at (c : Fin 4) (i : Fin 128) (j : Fin 5632) (h : 2048 ≤ j.val) :
    View.canon (passed L) (ix2 (row c i) j) = (I.dproj (n c) i j : EReal) := by
  unfold passed Inputs.dproj
  rw [dif_neg (by omega), dif_neg (by omega)]
  by_cases h1 : 4608 ≤ j.val
  · rw [dif_neg (by omega), dif_neg (by omega), dif_neg (by omega), dif_neg (by omega)]
    refine (canon_cols _ _ _ _ _ ⟨h1, by have := j.isLt; omega⟩ (by have := j.isLt; omega)).trans ?_
    pointwise []
    exact H.gb c i _
  refine (canon_cols_off _ _ _ _ _ (by omega)).trans ?_
  by_cases h2 : 3584 ≤ j.val
  · rw [dif_neg (by omega), dif_neg (by omega), dif_neg (by omega), dif_pos (by omega)]
    refine (canon_cols _ _ _ _ _ ⟨h2, by omega⟩ (by omega)).trans ?_
    pointwise []
    exact H.ga c i _
  refine (canon_cols_off _ _ _ _ _ (by omega)).trans ?_
  by_cases h3 : 3328 ≤ j.val
  · rw [dif_neg (by omega), dif_neg (by omega), dif_pos (by omega)]
    refine (canon_cols _ _ _ _ _ ⟨h3, by omega⟩ (by omega)).trans ?_
    pointwise []
    exact H.w c i _
  refine (canon_cols_off _ _ _ _ _ (by omega)).trans ?_
  by_cases h4 : 3072 ≤ j.val
  · rw [dif_neg (by omega), dif_pos (by omega)]
    refine (canon_cols _ _ _ _ _ ⟨h4, by omega⟩ (by omega)).trans ?_
    pointwise []
    exact H.k c i _
  refine (canon_cols_off _ _ _ _ _ (by omega)).trans ?_
  rw [dif_pos (by omega)]
  refine (canon_cols _ _ _ _ _ ⟨h, by omega⟩ (by omega)).trans ?_
  pointwise []
  exact H.q c i _

theorem withFirst_at (c : Fin 4) (i : Fin 128) (j : Fin 5632) (h : j.val < 1024 ∨ 2048 ≤ j.val) :
    View.canon (withFirst L) (ix2 (row c i) j) = (I.dproj (n c) i j : EReal) := by
  unfold withFirst
  by_cases h1 : j.val < 1024
  · unfold Inputs.dproj
    rw [dif_pos h1]
    refine (canon_cols _ _ _ _ _ ⟨Nat.zero_le _, by omega⟩ (by omega)).trans ?_
    exact duV_at H c i _
  · exact (canon_cols_off _ _ _ _ _ (by omega)).trans (passed_at H c i j (by omega))

theorem withSecond_at (c : Fin 4) (i : Fin 128) (j : Fin 5632) :
    View.canon (withSecond L) (ix2 (row c i) j) = (I.dproj (n c) i j : EReal) := by
  unfold withSecond
  by_cases h1 : 1024 ≤ j.val ∧ j.val < 2048
  · unfold Inputs.dproj
    rw [dif_neg (by omega), dif_pos h1.2]
    refine (canon_cols _ _ _ _ _ ⟨h1.1, by omega⟩ (by omega)).trans ?_
    exact dvV_at H c i _
  · exact (canon_cols_off _ _ _ _ _ (by omega)).trans (withFirst_at H c i j (by omega))

/-! ## The gradient at the normalised rows -/

omit H in
theorem sum_parts (f : Fin 5632 → ℝ) :
    ∑ j, f j = (∑ j : Fin 1792, f ⟨2048 + j.val, third_lt j⟩ + ∑ j : Fin 1024, f ⟨j.val, first_lt j⟩)
      + (∑ j : Fin 1792, f ⟨3840 + j.val, fourth_lt j⟩ + ∑ j : Fin 1024, f ⟨1024 + j.val, second_lt j⟩) := by
  have h1 := Fin.sum_univ_add (a := 3840) (b := 1792) f
  have h2 := Fin.sum_univ_add (a := 2048) (b := 1792) (fun j => f (Fin.castAdd 1792 j))
  have h3 := Fin.sum_univ_add (a := 1024) (b := 1024) (fun j => f (Fin.castAdd 1792 (Fin.castAdd 1792 j)))
  refine h1.trans ?_
  rw [h2, h3]
  have e1 : ∀ j : Fin 1792, f (Fin.castAdd 1792 (Fin.natAdd 2048 j)) = f ⟨2048 + j.val, third_lt j⟩ := fun j => rfl
  have e2 : ∀ j : Fin 1792, f (Fin.natAdd 3840 j) = f ⟨3840 + j.val, fourth_lt j⟩ := fun j => rfl
  have e3 : ∀ j : Fin 1024, f (Fin.castAdd 1792 (Fin.castAdd 1792 (Fin.castAdd 1024 j))) = f ⟨j.val, first_lt j⟩ := fun j => rfl
  have e4 : ∀ j : Fin 1024, f (Fin.castAdd 1792 (Fin.castAdd 1792 (Fin.natAdd 1024 j))) = f ⟨1024 + j.val, second_lt j⟩ := fun j => rfl
  simp only [e1, e2, e3, e4]
  ring

theorem dhOf_at (y : Memref sig .tc .vmem S512x5632 .bf16) (c : Fin 4) (i : Fin 128) (k : Fin 1024) :
    dhOf L y (ix2 (row c i) k) = (I.dh (n c) i k : EReal) := by
  have h0 : ∀ j : Fin 1024, y.view.readCov (withFirst L) yFirst.toLoadRect (ix2 (row c i) j) = (I.dproj (n c) i ⟨j.val, first_lt j⟩ : EReal) := fun j => by
    rw [View.readCov_eq_canon', ← withFirst_at H c i _ (.inl j.isLt)]
    refine congrArg _ ?_
    funext a; apply Fin.ext; fin_cases a <;> simp [Rect.unit, ix2]
  have h1 : ∀ j : Fin 1024, y.view.readCov (withSecond L) ySecond.toLoadRect (ix2 (row c i) j) = (I.dproj (n c) i ⟨1024 + j.val, second_lt j⟩ : EReal) := fun j => by
    rw [View.readCov_eq_canon', ← withSecond_at H c i]
    refine congrArg _ ?_
    funext a; apply Fin.ext; fin_cases a <;> simp [Rect.unit, ix2]
  have h2 : ∀ j : Fin 1792, y.view.readCov (passed L) yThird.toLoadRect (ix2 (row c i) j) = (I.dproj (n c) i ⟨2048 + j.val, third_lt j⟩ : EReal) := fun j => by
    rw [View.readCov_eq_canon', ← passed_at H c i _ (Nat.le_add_right _ _)]
    refine congrArg _ ?_
    funext a; apply Fin.ext; fin_cases a <;> simp [Rect.unit, ix2]
  have h3 : ∀ j : Fin 1792, y.view.readCov (withFirst L) yFourth.toLoadRect (ix2 (row c i) j) = (I.dproj (n c) i ⟨3840 + j.val, fourth_lt j⟩ : EReal) := fun j => by
    rw [View.readCov_eq_canon', ← withFirst_at H c i _ (.inr (by show 2048 ≤ 3840 + j.val; omega))]
    refine congrArg _ ?_
    funext a; apply Fin.ext; fin_cases a <;> simp [Rect.unit, ix2]
  unfold dhOf
  generalize y.view.readCov (withFirst L) yFirst.toLoadRect = p0 at h0
  generalize y.view.readCov (withSecond L) ySecond.toLoadRect = p1 at h1
  generalize y.view.readCov (passed L) yThird.toLoadRect = p2 at h2
  generalize y.view.readCov (withFirst L) yFourth.toLoadRect = p3 at h3
  pointwise [dhV]
  simp only [h0, h1, h2, h3, H.w0, H.w1, H.w2, H.w3, ← EReal.coe_mul, sum_real, ← EReal.coe_add]
  unfold Inputs.dh
  rw [sum_parts]

end Cert.SguIdeal.Body

end
-- ==== Proof.SguFrame.lean ====
/- The gated unit's backward frame: what each grid point leaves, the body's triple at every point, and the launch. -/
module

public import proofs.«01_k».proof.Proof.SguRun
public import Idealize.ShloMosaic.Lib.Pipeline.FrameBody
public import Idealize.ShloMosaic.Lib.Tactic
public import Idealize.ShloMosaic.Lib.WordCmp
public import Idealize.ShloMosaic.Lib.Claim

@[expose] public section

set_option maxRecDepth 16384

noncomputable section

namespace Cert.SguIdeal.Body

open Cert.SguIdeal Cert.SguIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each point leaves -/

theorem whole_sc : scM0_0.IsWhole := Memref.isWhole_whole _

/-- The stores of the first point. -/
abbrev storesFirst (c : Dev nD) (t : Fin cfg0.N) (h0 : cond0_0 (grid0.coords t)) (h1 : ¬ cond0_1 (grid0.coords t)) :=
  runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 whole_sc h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The stores of a point between, from what the point before left. -/
abbrev storesMid (c : Dev nD) (t : Fin cfg0.N) (h0 : ¬ cond0_0 (grid0.coords t)) (h1 : ¬ cond0_1 (grid0.coords t)) (l : Left F) :=
  runMid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 whole_sc h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) l

/-- The stores of the last point. -/
abbrev storesLast (c : Dev nD) (t : Fin cfg0.N) (h0 : ¬ cond0_0 (grid0.coords t)) (h1 : cond0_1 (grid0.coords t)) (l : Left F) :=
  runLast c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 whole_sc h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) l

theorem wholeFirst (c : Dev nD) (t : Fin cfg0.N) (h0 : cond0_0 (grid0.coords t)) (h1 : ¬ cond0_1 (grid0.coords t)) :
    (storesFirst m c t h0 h1).1.Whole where
  dx := View.cover_of_tiledL _ S512x1024.size (by sl_kernel_rfl)
  dproj := View.cover_of_tiledBy _ ![512, 256] (by sl_kernel_rfl)
  dg := View.cover_of_tiledL _ S1x1024.size (by sl_kernel_rfl)
  dws := View.cover_of_tiledBy _ ![1, 128, 128] (by sl_kernel_rfl)
  dlg := View.cover_of_tiledL _ S1x1024.size (by sl_kernel_rfl)
  dlb := View.cover_of_tiledL _ S1x1024.size (by sl_kernel_rfl)
  db := View.cover_of_wholeMem _ (by sl_whole_mem)

theorem wholeMid (c : Dev nD) (t : Fin cfg0.N) (h0 : ¬ cond0_0 (grid0.coords t)) (h1 : ¬ cond0_1 (grid0.coords t)) (l : Left F) :
    (storesMid m c t h0 h1 l).1.Whole where
  dx := View.cover_of_tiledL _ S512x1024.size (by sl_kernel_rfl)
  dproj := View.cover_of_tiledBy _ ![512, 256] (by sl_kernel_rfl)
  dg := View.cover_of_tiledL _ S1x1024.size (by sl_kernel_rfl)
  dws := View.cover_of_tiledBy _ ![1, 128, 128] (by sl_kernel_rfl)
  dlg := View.cover_of_tiledL _ S1x1024.size (by sl_kernel_rfl)
  dlb := View.cover_of_tiledL _ S1x1024.size (by sl_kernel_rfl)
  db := View.cover_of_tiledBy _ ![128, 128] (by sl_kernel_rfl)

theorem wholeLast (c : Dev nD) (t : Fin cfg0.N) (h0 : ¬ cond0_0 (grid0.coords t)) (h1 : cond0_1 (grid0.coords t)) (l : Left F) :
    (storesLast m c t h0 h1 l).1.1.Whole where
  dx := View.cover_of_tiledL _ S512x1024.size (by sl_kernel_rfl)
  dproj := View.cover_of_tiledBy _ ![512, 256] (by sl_kernel_rfl)
  dg := View.cover_of_tiledL _ S1x1024.size (by sl_kernel_rfl)
  dws := View.cover_of_tiledBy _ ![1, 128, 128] (by sl_kernel_rfl)
  dlg := View.cover_of_tiledL _ S1x1024.size (by sl_kernel_rfl)
  dlb := View.cover_of_tiledL _ S1x1024.size (by sl_kernel_rfl)
  db := View.cover_of_tiledBy _ ![128, 128] (by sl_kernel_rfl)

/-- The bias gradient's stores at the last point cover it. -/
theorem wholeBias (c : Dev nD) (t : Fin cfg0.N) (h0 : ¬ cond0_0 (grid0.coords t)) (h1 : cond0_1 (grid0.coords t)) (l : Left F) :
    ∀ y, ∃ p ∈ (storesLast m c t h0 h1 l).1.2, y ∈ p.1.set :=
  View.cover_of_tiledL _ S1x128.size (by sl_kernel_rfl)

theorem later (n : ℕ) (h : n + 1 < cfg0.N) : ¬ cond0_0 (grid0.coords ⟨n + 1, h⟩) := fun e => by
  have hN : n + 1 < 16 := lt_of_lt_of_eq h (show cfg0.N = 16 from N_0)
  have := (hcond0_0 ⟨n + 1, h⟩).mp e
  dsimp only at this; omega

theorem at_start (h : 0 < cfg0.N) : cond0_0 (grid0.coords ⟨0, h⟩) ∧ ¬ cond0_1 (grid0.coords ⟨0, h⟩) :=
  ⟨(hcond0_0 ⟨0, h⟩).mpr rfl, fun e => absurd ((hcond0_1 ⟨0, h⟩).mp e) (show ¬ 0 % 16 = 15 by decide)⟩

/-- What point `n` leaves. -/
def leftAt (c : Dev nD) : (n : ℕ) → n < cfg0.N → Left F
  | 0, h => (storesFirst m c ⟨0, h⟩ (at_start h).1 (at_start h).2).1.left
  | n + 1, h =>
    if e : cond0_1 (grid0.coords ⟨n + 1, h⟩) then (storesLast m c ⟨n + 1, h⟩ (later n h) e (leftAt c n (Nat.lt_of_succ_lt h))).1.1.left
    else (storesMid m c ⟨n + 1, h⟩ (later n h) e (leftAt c n (Nat.lt_of_succ_lt h))).1.left

def left (c : Dev nD) (t : Fin cfg0.N) : Left F := leftAt m c t.val t.isLt

/-- The point before `t`. -/
abbrev prev (t : Fin cfg0.N) : Fin cfg0.N := ⟨t.val - 1, Nat.lt_of_le_of_lt (Nat.sub_le _ _) t.isLt⟩

/-- The bias gradient, stored at the last point. -/
def bias (c : Dev nD) (t : Fin cfg0.N) : Vec F S8x128 .f32 :=
  if e : ¬ cond0_0 (grid0.coords t) ∧ cond0_1 (grid0.coords t) then View.canon (storesLast m c t e.1 e.2 (left m c (prev t))).1.2
  else View.canon []

section Cases

variable (c : Dev nD) (t : Fin cfg0.N)

theorem left_first (h0 : cond0_0 (grid0.coords t)) (h1 : ¬ cond0_1 (grid0.coords t)) :
    left m c t = (storesFirst m c t h0 h1).1.left := by
  obtain ⟨n, hn⟩ := t
  cases n with
  | zero => rfl
  | succ n => exact absurd h0 (later n hn)

theorem left_mid (h0 : ¬ cond0_0 (grid0.coords t)) (h1 : ¬ cond0_1 (grid0.coords t)) :
    left m c t = (storesMid m c t h0 h1 (left m c (prev t))).1.left := by
  obtain ⟨n, hn⟩ := t
  cases n with
  | zero => exact absurd (at_start hn).1 h0
  | succ n => exact dif_neg h1

theorem left_last (h0 : ¬ cond0_0 (grid0.coords t)) (h1 : cond0_1 (grid0.coords t)) :
    left m c t = (storesLast m c t h0 h1 (left m c (prev t))).1.1.left := by
  obtain ⟨n, hn⟩ := t
  cases n with
  | zero => exact absurd (at_start hn).1 h0
  | succ n => exact dif_pos h1

theorem bias_last (h0 : ¬ cond0_0 (grid0.coords t)) (h1 : cond0_1 (grid0.coords t)) :
    bias m c t = View.canon (storesLast m c t h0 h1 (left m c (prev t))).1.2 := dif_pos ⟨h0, h1⟩

end Cases

/-! ## The scratch between points -/

def PhiS (c : Dev nD) : (n : ℕ) → n ≤ cfg0.N → sProp 𝕄
  | 0, _ => Pipeline.ΦA spec0 c
  | n + 1, h => iprop(owns (c : Thread nD τ) scM0_0 fullShare (left m c ⟨n, h⟩).db ∗ (∃ r, prngReg c r))

theorem PhiS_pos (c : Dev nD) (t : Fin cfg0.N) (h : t.val ≠ 0) :
    PhiS m c t.val (Nat.le_of_lt t.isLt) = iprop(owns (c : Thread nD τ) scM0_0 fullShare (left m c (prev t)).db ∗ (∃ r, prngReg c r)) := by
  obtain ⟨n, hn⟩ := t
  cases n with
  | zero => exact absurd rfl h
  | succ n => rfl

theorem PhiS_first (c : Dev nD) (t : Fin cfg0.N) (h : t.val = 0) :
    PhiS m c t.val (Nat.le_of_lt t.isLt) = Pipeline.ΦA spec0 c := by
  obtain ⟨n, hn⟩ := t
  cases n with
  | zero => rfl
  | succ n => exact absurd h (Nat.succ_ne_zero n)

/-- The proof data: an input's buffer keeps its block, an output's is left as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (left m c t).dx
    | ⟨17, _⟩ => (left m c t).dproj
    | ⟨18, _⟩ => (left m c t).dg
    | ⟨19, _⟩ => (left m c t).dws
    | ⟨20, _⟩ => bias m c t
    | ⟨21, _⟩ => (left m c t).dlg
    | ⟨22, _⟩ => (left m c t).dlb
    | ⟨_ + 23, h⟩ => absurd h (Nat.not_lt.2 (Nat.le_add_left _ _))
  Φ t := PhiS m c t.val (Nat.le_of_lt_succ t.isLt)
  q _ := fullShare
  owed _ := 0

theorem A_eq (c : Dev nD) (w) : (dats m 0 c).A w = V m c (Pipeline.arrRef spec0 w) := by dsimp only [dats]

theorem before0 (c : Dev nD) (t : Fin cfg0.N) (d) : (dats m 0 c).before 0 t d = iblk m c 0 t :=
  before0_0_of m (dats m 0 c) (A_eq m c 0) (fun _ => by dsimp only [dats]) t d

theorem before1 (c : Dev nD) (t : Fin cfg0.N) (d) : (dats m 0 c).before 1 t d = iblk m c 1 t :=
  before0_1_of m (dats m 0 c) (A_eq m c 1) (fun _ => by dsimp only [dats]) t d

theorem before2 (c : Dev nD) (t : Fin cfg0.N) (d) : (dats m 0 c).before 2 t d = iblk m c 2 t :=
  before0_2_of m (dats m 0 c) (A_eq m c 2) (fun _ => by dsimp only [dats]) t d

theorem before3 (c : Dev nD) (t : Fin cfg0.N) (d) : (dats m 0 c).before 3 t d = iblk m c 3 t :=
  before0_3_of m (dats m 0 c) (A_eq m c 3) (fun _ => by dsimp only [dats]) t d

theorem before4 (c : Dev nD) (t : Fin cfg0.N) (d) : (dats m 0 c).before 4 t d = iblk m c 4 t :=
  before0_4_of m (dats m 0 c) (A_eq m c 4) (fun _ => by dsimp only [dats]) t d

theorem before5 (c : Dev nD) (t : Fin cfg0.N) (d) : (dats m 0 c).before 5 t d = iblk m c 5 t :=
  before0_5_of m (dats m 0 c) (A_eq m c 5) (fun _ => by dsimp only [dats]) t d

theorem before6 (c : Dev nD) (t : Fin cfg0.N) (d) : (dats m 0 c).before 6 t d = iblk m c 6 t :=
  before0_6_of m (dats m 0 c) (A_eq m c 6) (fun _ => by dsimp only [dats]) t d

theorem before7 (c : Dev nD) (t : Fin cfg0.N) (d) : (dats m 0 c).before 7 t d = iblk m c 7 t :=
  before0_7_of m (dats m 0 c) (A_eq m c 7) (fun _ => by dsimp only [dats]) t d

theorem before8 (c : Dev nD) (t : Fin cfg0.N) (d) : (dats m 0 c).before 8 t d = iblk m c 8 t :=
  before0_8_of m (dats m 0 c) (A_eq m c 8) (fun _ => by dsimp only [dats]) t d

theorem before9 (c : Dev nD) (t : Fin cfg0.N) (d) : (dats m 0 c).before 9 t d = iblk m c 9 t :=
  before0_9_of m (dats m 0 c) (A_eq m c 9) (fun _ => by dsimp only [dats]) t d

theorem before10 (c : Dev nD) (t : Fin cfg0.N) (d) : (dats m 0 c).before 10 t d = iblk m c 10 t :=
  before0_10_of m (dats m 0 c) (A_eq m c 10) (fun _ => by dsimp only [dats]) t d

theorem before11 (c : Dev nD) (t : Fin cfg0.N) (d) : (dats m 0 c).before 11 t d = iblk m c 11 t :=
  before0_11_of m (dats m 0 c) (A_eq m c 11) (fun _ => by dsimp only [dats]) t d

theorem before12 (c : Dev nD) (t : Fin cfg0.N) (d) : (dats m 0 c).before 12 t d = iblk m c 12 t :=
  before0_12_of m (dats m 0 c) (A_eq m c 12) (fun _ => by dsimp only [dats]) t d

theorem before13 (c : Dev nD) (t : Fin cfg0.N) (d) : (dats m 0 c).before 13 t d = iblk m c 13 t :=
  before0_13_of m (dats m 0 c) (A_eq m c 13) (fun _ => by dsimp only [dats]) t d

theorem before14 (c : Dev nD) (t : Fin cfg0.N) (d) : (dats m 0 c).before 14 t d = iblk m c 14 t :=
  before0_14_of m (dats m 0 c) (A_eq m c 14) (fun _ => by dsimp only [dats]) t d

theorem before15 (c : Dev nD) (t : Fin cfg0.N) (d) : (dats m 0 c).before 15 t d = iblk m c 15 t :=
  before0_15_of m (dats m 0 c) (A_eq m c 15) (fun _ => by dsimp only [dats]) t d

/-- An output's buffer, not written back at the point before and written by the body there, is found as left. -/
theorem found_as_left (c : Dev nD) (w : Fin cfg0.W) (hw : (cfg0.win w).isOut = true) (t : Fin cfg0.N) (ht : t.val ≠ 0)
    (hf : (cfg0.win w).flush (prev t) = false) (hl : cfg0.idle w (cfg0.grid.coords (prev t)) = false)
    (hc : ∀ (i : cfg0.grid.Coords) a, (cfg0.win w).clip i a = none) (d) :
    (dats m 0 c).before w t d = (dats m 0 c).after w (prev t) := by
  rw [(dats m 0 c).before_of_pos w t ht ((cfg0.win w).fetch_out hw t), hf, if_neg Bool.false_ne_true]
  unfold Dat.left; rw [hl]
  show (dats m 0 c).kept w (prev t) d = _
  unfold Dat.kept
  rw [Pipeline.fill_of_clip_none w _ (hc _) d ((dats m 0 c).after w (prev t)), Window.fill_cut]

/-- Where the body writes a buffer it is left as `after` says. -/
theorem leaves_after (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact
  rw [h]

theorem before_last (t : Fin cfg0.N) (ht : t.val ≠ 0) : ¬ (prev t).val % 16 = 15 := by
  have hN : t.val < 16 := lt_of_lt_of_eq t.isLt (show cfg0.N = 16 from N_0)
  show ¬ (t.val - 1) % 16 = 15
  omega

theorem before18 (c : Dev nD) (t : Fin cfg0.N) (ht : t.val ≠ 0) (d) : (dats m 0 c).before 18 t d = (left m c (prev t)).dg := by
  rw [found_as_left m c 18 rfl t ht (Bool.eq_false_iff.mpr fun h => before_last t ht ((flush0_18 _).mp h)) (liveAt0_18 _) (fun _ _ => rfl)]
  dsimp only [dats]

theorem before19 (c : Dev nD) (t : Fin cfg0.N) (ht : t.val ≠ 0) (d) : (dats m 0 c).before 19 t d = (left m c (prev t)).dws := by
  rw [found_as_left m c 19 rfl t ht (Bool.eq_false_iff.mpr fun h => before_last t ht ((flush0_19 _).mp h)) (liveAt0_19 _) (fun _ _ => rfl)]
  dsimp only [dats]

theorem before21 (c : Dev nD) (t : Fin cfg0.N) (ht : t.val ≠ 0) (d) : (dats m 0 c).before 21 t d = (left m c (prev t)).dlg := by
  rw [found_as_left m c 21 rfl t ht (Bool.eq_false_iff.mpr fun h => before_last t ht ((flush0_21 _).mp h)) (liveAt0_21 _) (fun _ _ => rfl)]
  dsimp only [dats]

theorem before22 (c : Dev nD) (t : Fin cfg0.N) (ht : t.val ≠ 0) (d) : (dats m 0 c).before 22 t d = (left m c (prev t)).dlb := by
  rw [found_as_left m c 22 rfl t ht (Bool.eq_false_iff.mpr fun h => before_last t ht ((flush0_22 _).mp h)) (liveAt0_22 _) (fun _ _ => rfl)]
  dsimp only [dats]

/-! ## The body's triple at a point -/

def ins (c : Dev nD) (t : Fin cfg0.N) : sProp 𝕄 :=
  heldIn c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t)

/-- Before the body the inputs' buffers hold their blocks. -/
theorem pre_enter (c : Dev nD) (t : Fin cfg0.N) :
    pre m c t ⊢ iprop(ins m c t ∗ PhiS m c t.val (Nat.le_of_lt t.isLt) ∗ (dats m 0 c).owesAt () t.castSucc
      ∗ (∃ d, owns (c : Thread nD τ) (ms0_16 t) fullShare ((dats m 0 c).before 16 t d))
      ∗ (∃ d, owns (c : Thread nD τ) (ms0_17 t) fullShare ((dats m 0 c).before 17 t d))
      ∗ (∃ d, owns (c : Thread nD τ) (ms0_18 t) fullShare ((dats m 0 c).before 18 t d))
      ∗ (∃ d, owns (c : Thread nD τ) (ms0_19 t) fullShare ((dats m 0 c).before 19 t d))
      ∗ (∃ d, owns (c : Thread nD τ) (ms0_20 t) fullShare ((dats m 0 c).before 20 t d))
      ∗ (∃ d, owns (c : Thread nD τ) (ms0_21 t) fullShare ((dats m 0 c).before 21 t d))
      ∗ (∃ d, owns (c : Thread nD τ) (ms0_22 t) fullShare ((dats m 0 c).before 22 t d))) := by
  unfold pre ins heldIn
  rw [show (dats m 0 c).Φ t.castSucc = PhiS m c t.val (Nat.le_of_lt t.isLt) from by dsimp only [dats]; exact Dat.Φ_castSucc (PhiS m c) t]
  simp only [before0, before1, before2, before3, before4, before5, before6, before7, before8, before9, before10, before11, before12, before13, before14, before15]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, H16, H17, H18, H19, H20, H21, H22⟩
  isplitl [H0 H1 H2 H3 H4 H5 H6 H7 H8 H9 H10 H11 H12 H13 H14 H15]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  isplitl [HP]; · iexact HP
  isplitl [Ho]; · iexact Ho
  isplitl [H16]; · iexact H16
  isplitl [H17]; · iexact H17
  isplitl [H18]; · iexact H18
  isplitl [H19]; · iexact H19
  isplitl [H20]; · iexact H20
  isplitl [H21]; · iexact H21
  iexact H22

set_option maxHeartbeats 1600000 in
/-- What the body leaves gives the postcondition. -/
theorem post_leave (c : Dev nD) (t : Fin cfg0.N) :
    iprop(ins m c t ∗ heldOut c (ms0_16 t) (ms0_17 t) (ms0_18 t) (ms0_19 t) (ms0_21 t) (ms0_22 t) scM0_0 (left m c t) ∗ (dats m 0 c).leavesExact 20 t ∗ (∃ r, prngReg c r)
      ∗ (dats m 0 c).owesAt () t.castSucc) ⊢ post m c t := by
  unfold post ins heldIn heldOut
  rw [show (dats m 0 c).owesAt () t.succ = (dats m 0 c).owesAt () t.castSucc from rfl,
    show (dats m 0 c).Φ t.succ = iprop(owns (c : Thread nD τ) scM0_0 fullShare (left m c t).db ∗ (∃ r, prngReg c r)) from rfl]
  rw [leaves_after m c 0 t (liveAt0_0 t), show (dats m 0 c).after 0 t = (iblk m c 0 t) from by dsimp only [dats]]
  rw [leaves_after m c 1 t (liveAt0_1 t), show (dats m 0 c).after 1 t = (iblk m c 1 t) from by dsimp only [dats]]
  rw [leaves_after m c 2 t (liveAt0_2 t), show (dats m 0 c).after 2 t = (iblk m c 2 t) from by dsimp only [dats]]
  rw [leaves_after m c 3 t (liveAt0_3 t), show (dats m 0 c).after 3 t = (iblk m c 3 t) from by dsimp only [dats]]
  rw [leaves_after m c 4 t (liveAt0_4 t), show (dats m 0 c).after 4 t = (iblk m c 4 t) from by dsimp only [dats]]
  rw [leaves_after m c 5 t (liveAt0_5 t), show (dats m 0 c).after 5 t = (iblk m c 5 t) from by dsimp only [dats]]
  rw [leaves_after m c 6 t (liveAt0_6 t), show (dats m 0 c).after 6 t = (iblk m c 6 t) from by dsimp only [dats]]
  rw [leaves_after m c 7 t (liveAt0_7 t), show (dats m 0 c).after 7 t = (iblk m c 7 t) from by dsimp only [dats]]
  rw [leaves_after m c 8 t (liveAt0_8 t), show (dats m 0 c).after 8 t = (iblk m c 8 t) from by dsimp only [dats]]
  rw [leaves_after m c 9 t (liveAt0_9 t), show (dats m 0 c).after 9 t = (iblk m c 9 t) from by dsimp only [dats]]
  rw [leaves_after m c 10 t (liveAt0_10 t), show (dats m 0 c).after 10 t = (iblk m c 10 t) from by dsimp only [dats]]
  rw [leaves_after m c 11 t (liveAt0_11 t), show (dats m 0 c).after 11 t = (iblk m c 11 t) from by dsimp only [dats]]
  rw [leaves_after m c 12 t (liveAt0_12 t), show (dats m 0 c).after 12 t = (iblk m c 12 t) from by dsimp only [dats]]
  rw [leaves_after m c 13 t (liveAt0_13 t), show (dats m 0 c).after 13 t = (iblk m c 13 t) from by dsimp only [dats]]
  rw [leaves_after m c 14 t (liveAt0_14 t), show (dats m 0 c).after 14 t = (iblk m c 14 t) from by dsimp only [dats]]
  rw [leaves_after m c 15 t (liveAt0_15 t), show (dats m 0 c).after 15 t = (iblk m c 15 t) from by dsimp only [dats]]
  rw [leaves_after m c 16 t (liveAt0_16 t), show (dats m 0 c).after 16 t = ((left m c t).dx) from by dsimp only [dats]]
  rw [leaves_after m c 17 t (liveAt0_17 t), show (dats m 0 c).after 17 t = ((left m c t).dproj) from by dsimp only [dats]]
  rw [leaves_after m c 18 t (liveAt0_18 t), show (dats m 0 c).after 18 t = ((left m c t).dg) from by dsimp only [dats]]
  rw [leaves_after m c 19 t (liveAt0_19 t), show (dats m 0 c).after 19 t = ((left m c t).dws) from by dsimp only [dats]]
  rw [leaves_after m c 21 t (liveAt0_21 t), show (dats m 0 c).after 21 t = ((left m c t).dlg) from by dsimp only [dats]]
  rw [leaves_after m c 22 t (liveAt0_22 t), show (dats m 0 c).after 22 t = ((left m c t).dlb) from by dsimp only [dats]]
  iintro ⟨⟨H0, H1, H2, H3, H4, H5, H6, H7, H8, H9, H10, H11, H12, H13, H14, H15⟩, ⟨H16, H17, H18, H19, H21, H22, HS⟩, H20, Hg, Ho⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

set_option maxHeartbeats 4000000 in
/-- The body, at any point. -/
theorem body_triple (c : Dev nD) (t : Fin cfg0.N) :
    pre m c t ⊢ wp frame (wpE (defs₀ (F := F)) Variants.none c none) Set.univ (bodyAt0 t) (fun _ => post m c t) := by
  refine (pre_enter m c t).trans ?_
  unfold ins
  have hN : t.val < 16 := lt_of_lt_of_eq t.isLt (show cfg0.N = 16 from N_0)
  unfold bodyAt0
  by_cases h0 : cond0_0 (grid0.coords t)
  · have e0 := (hcond0_0 t).mp h0
    have h1 : ¬ cond0_1 (grid0.coords t) := fun e => by have := (hcond0_1 t).mp e; omega
    rw [PhiS_first m c t (by omega), PhiA0_eq]
    iintro ⟨HI, ⟨HS, Hg⟩, Ho, ⟨%d16, H16⟩, ⟨%d17, H17⟩, ⟨%d18, H18⟩, ⟨%d19, H19⟩, ⟨%d20, H20⟩, ⟨%d21, H21⟩, ⟨%d22, H22⟩⟩
    iapply ((storesFirst m c t h0 h1).2 _ Set.univ _)
    isplitl [HI]; · iexact HI
    isplitl [H16]; · iexists _; iexact H16
    isplitl [H17]; · iexists _; iexact H17
    isplitl [H18]; · iexists _; iexact H18
    isplitl [H19]; · iexists _; iexact H19
    isplitl [H20]; · iexact H20
    isplitl [H21]; · iexists _; iexact H21
    isplitl [H22]; · iexists _; iexact H22
    isplitl [HS]; · iexact HS
    iintro ⟨HI, HO, H20⟩
    iapply (post_leave m c t)
    rw [left_first m c t h0 h1]
    rw [Dat.leavesExact_idle (dats m 0 c) 20 t (idleAt0_20_A t h0 h1) (noFlush0_20_A t h0 h1)]
    isplitl [HI]; · unfold ins; iexact HI
    isplitl [HO]; · iapply (settledOut c _ _ _ _ _ _ _ _ (wholeFirst m c t h0 h1)); iexact HO
    isplitl [H20]; · iexists _; iexact H20
    isplitl [Hg]; · iexact Hg
    iexact Ho
  · have e0 := mt (hcond0_0 t).mpr h0
    have hz : t.val ≠ 0 := by omega
    rw [PhiS_pos m c t hz]
    simp only [before18 m c t hz, before19 m c t hz, before21 m c t hz, before22 m c t hz]
    by_cases h1 : cond0_1 (grid0.coords t)
    · iintro ⟨HI, ⟨HS, Hg⟩, Ho, ⟨%d16, H16⟩, ⟨%d17, H17⟩, ⟨%d18, H18⟩, ⟨%d19, H19⟩, ⟨%d20, H20⟩, ⟨%d21, H21⟩, ⟨%d22, H22⟩⟩
      iapply ((storesLast m c t h0 h1 (left m c (prev t))).2 Set.univ _)
      isplitl [HI]; · iexact HI
      isplitl [H16]; · iexists _; iexact H16
      isplitl [H17]; · iexists _; iexact H17
      isplitl [H18]; · iexact H18
      isplitl [H19]; · iexact H19
      isplitl [H20]; · iexists _; iexact H20
      isplitl [H21]; · iexact H21
      isplitl [H22]; · iexact H22
      isplitl [HS]; · iexact HS
      iintro ⟨HI, HO, H20⟩
      iapply (post_leave m c t)
      rw [left_last m c t h0 h1]
      rw [leaves_after m c 20 t (liveAt0_20_C t h0 h1), show (dats m 0 c).after 20 t = bias m c t from by dsimp only [dats], bias_last m c t h0 h1]
      isplitl [HI]; · unfold ins; iexact HI
      isplitl [HO]; · iapply (settledOut c _ _ _ _ _ _ _ _ (wholeLast m c t h0 h1 (left m c (prev t)))); iexact HO
      isplitl [H20]; · iapply (settled c _ _ (wholeBias m c t h0 h1 (left m c (prev t)))); iexact H20
      isplitl [Hg]; · iexact Hg
      iexact Ho
    · iintro ⟨HI, ⟨HS, Hg⟩, Ho, ⟨%d16, H16⟩, ⟨%d17, H17⟩, ⟨%d18, H18⟩, ⟨%d19, H19⟩, ⟨%d20, H20⟩, ⟨%d21, H21⟩, ⟨%d22, H22⟩⟩
      iapply ((storesMid m c t h0 h1 (left m c (prev t))).2 _ Set.univ _)
      isplitl [HI]; · iexact HI
      isplitl [H16]; · iexists _; iexact H16
      isplitl [H17]; · iexists _; iexact H17
      isplitl [H18]; · iexact H18
      isplitl [H19]; · iexact H19
      isplitl [H20]; · iexact H20
      isplitl [H21]; · iexact H21
      isplitl [H22]; · iexact H22
      isplitl [HS]; · iexact HS
      iintro ⟨HI, HO, H20⟩
      iapply (post_leave m c t)
      rw [left_mid m c t h0 h1]
      rw [Dat.leavesExact_idle (dats m 0 c) 20 t (idleAt0_20_B t h0 h1) (noFlush0_20_B t h0 h1)]
      isplitl [HI]; · unfold ins; iexact HI
      isplitl [HO]; · iapply (settledOut c _ _ _ _ _ _ _ _ (wholeMid m c t h0 h1 (left m c (prev t)))); iexact HO
      isplitl [H20]; · iexists _; iexact H20
      isplitl [Hg]; · iexact Hg
      iexact Ho

/-! ## The launch -/

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_triple m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = iprop(owns (c : Thread nD τ) scM0_0 fullShare (left m c ⟨15, by decide⟩).db
    ∗ (∃ r, prngReg c r)) from rfl, PhiA0_eq]
  iintro ⟨HS, Hg⟩
  isplitl [HS]
  · iexists _; iexact HS
  iexact Hg

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl) (howed := fun _ _ => rfl) (V := V m)
    (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The argument arrays end unchanged, and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
    ∧ r.2.sem = fun _ => 0) :=
  θ_run_and (frame_of m ρ (dats m) (A_eq m) (run_main m ρ)) ((θ_run defs _ _).mono (fun _ h => h.2) (run_quiescent m ρ))

end Cert.SguIdeal.Body

end
-- ==== Proof.SguSum.lean ====
/- The gated unit's sums along the grid, over the reals: after point `t` each holds the chunks up to `t`'s. -/
module

public import proofs.«01_k».proof.Proof.SguWrite
public import proofs.«01_k».proof.Proof.SguFrame
public import Idealize.ShloMosaic.Lib.WholeRead

@[expose] public section

set_option maxRecDepth 16384

noncomputable section

namespace Cert.SguIdeal.Body

open Cert.SguIdeal Cert.SguIdeal.Gen Cert.Step Cert.Step.Sgu
open Idealize.ShloMosaic Idealize.ShloMosaic.TcCoe Idealize.ShloMosaic.Tactic

/-! ## Sums over the chunks up to a point's -/

/-- Chunk `c` of point `t`. -/
theorem chunk_lt (t : ℕ) (c : Fin 4) : (4 * t + c.val) % 64 < 64 := Nat.mod_lt _ (by omega)
def chunk (t : ℕ) (c : Fin 4) : Fin 64 := ⟨(4 * t + c.val) % 64, chunk_lt t c⟩

def upTo (f : Fin 64 → ℝ) (t : ℕ) : ℝ := ∑ k ∈ Finset.range (t + 1), ∑ c, f (chunk k c)

theorem upTo_zero (f : Fin 64 → ℝ) : upTo f 0 = 0 + ∑ c, f (chunk 0 c) := by simp [upTo]
theorem upTo_succ (f : Fin 64 → ℝ) (t : ℕ) : upTo f (t + 1) = upTo f t + ∑ c, f (chunk (t + 1) c) := Finset.sum_range_succ _ _

theorem upTo_all (f : Fin 64 → ℝ) : upTo f 15 = ∑ n, f n := by
  unfold upTo
  rw [Finset.sum_range, ← Fintype.sum_prod_type' (f := fun (k : Fin 16) c => f (chunk k.val c))]
  refine Fintype.sum_equiv (finProdFinEquiv (m := 16) (n := 4)) _ _ fun p => congrArg f (Fin.ext ?_)
  show (4 * p.1.val + p.2.val) % 64 = p.2.val + 4 * p.1.val
  omega

variable (I : Inputs)

def dgOf (k : Fin 1024) (n : Fin 64) : ℝ := ∑ i, I.dh n i k * (I.X (tok n i) k * rinv (I.X (tok n i)))
def dwsOf (g : Fin 8) (i s : Fin 128) (n : Fin 64) : ℝ := Sgu.dws I.lg I.lb (I.u n) (I.v n) (I.da n) g i s
def dlgOf (d : Fin 1024) (n : Fin 64) : ℝ := ∑ s, dnormed I.ws (I.u n) (I.da n) s d * hat (fun k => gelu (I.v n s k)) d
def dlbOf (d : Fin 1024) (n : Fin 64) : ℝ := ∑ s, dnormed I.ws (I.u n) (I.da n) s d
def dbOf (g : Fin 8) (i e : Fin 128) (n : Fin 64) : ℝ := dmix (I.u n) (I.da n) i (lane g e)

/-- What a point leaves of the sums, the weights' apart. -/
structure Sums (l : Left Ideal) (t : ℕ) : Prop where
  dg : ∀ k, l.dg (ix2 0 k) = (upTo (dgOf I k) t : EReal)
  dlg : ∀ d, l.dlg (ix2 0 d) = (upTo (dlgOf I d) t : EReal)
  dlb : ∀ d, l.dlb (ix2 0 d) = (upTo (dlbOf I d) t : EReal)
  db : ∀ g i e, l.db (ix2 i (lane g e)) = (upTo (dbOf I g i e) t : EReal)

/-- And of the weights', the later tokens' still in it. -/
def Weights (l : Left Ideal) (t : ℕ) : Prop := ∀ g i s, l.dws (ix3 g i s) = (upTo (dwsOf I g i s) t : EReal)

/-! ## One block, whole -/

theorem canon_row (v : Vec Ideal S1x1024 .f32) (P : List (View.Piece (Elt Ideal) S1x1024 .f32)) : View.canon (⟨rRow, v⟩ :: P) = v :=
  View.canon_cons_unit_lit _ _ _ (by decide)
theorem canon_block (v : Vec Ideal S512x1024 .f32) : View.canon [(⟨rBlock, v⟩ : View.Piece (Elt Ideal) S512x1024 .f32)] = v :=
  View.canon_cons_unit_lit _ _ _ (by decide)

theorem rowFrom_eq (b : Memref sig .tc .vmem S1x1024 .f32) (f : Vec Ideal S1x1024 .f32 → FVec Ideal S1x1024 .f32) :
    View.canon (rowFrom b f) = f (zeroRow (F := Ideal)) := by
  unfold rowFrom
  rw [canon_row, View.readCov_unit_lit _ _ _ (by decide)]

theorem zeroRow_at (d : Fin 1024) : zeroRow (F := Ideal) (ix2 0 d) = ((0 : ℝ) : EReal) := by
  pointwise [zeroRow]
  rfl

theorem word_zero : Ideal.ofBits .f32 0x00000000#32 = ((0 : ℝ) : EReal) := by simp [Ideal.ofBits, Ideal.ieee]
theorem zeroGroups_at (x : S8x128x128.Idx) : zeroGroups (F := Ideal) x = ((0 : ℝ) : EReal) := word_zero
theorem zeroLanes_at (x : S128x1024.Idx) : zeroLanes (F := Ideal) x = ((0 : ℝ) : EReal) := word_zero

theorem readRow (b : Memref sig .tc .vmem S1x1024 .f32) (h : b.IsWhole) (X : Vec Ideal S1x1024 .f32) (d : Fin 1024) :
    View.readAt (Elt Ideal) b.view rRow.toLoadRect (h.unread X) (ix2 0 d) = X (ix2 0 d) := by
  rw [h.readAt_unread]
  refine congrArg X ?_
  funext a; apply Fin.ext; fin_cases a <;> simp [Rect.unit, ix2]

theorem readGroup (b : Memref sig .tc .vmem S8x128x128 .f32) (h : b.IsWhole) (X : Vec Ideal S8x128x128 .f32) (g : Fin 8) (i s : Fin 128) :
    View.readAt (Elt Ideal) b.view (rGroup g).toLoadRect (h.unread X) (ix3 0 i s) = X (ix3 g i s) := by
  rw [h.readAt_unread]
  refine congrArg X ?_
  funext a; apply Fin.ext; fin_cases a <;> simp [Rect.unit, ix3]

theorem readLanes (b : Memref sig .tc .vmem S128x1024 .f32) (h : b.IsWhole) (X : Vec Ideal S128x1024 .f32) (g : Fin 8) (i e : Fin 128) :
    View.readAt (Elt Ideal) b.view (rLanes g).toLoadRect (h.unread X) (ix2 i e) = X (ix2 i (lane g e)) := by
  rw [h.readAt_unread]
  refine congrArg X ?_
  funext a; apply Fin.ext; fin_cases a <;> simp [Rect.unit, ix2, lane]

/-! ## Eight blocks -/

section Eight
variable {I} {L : Loads Ideal} {n : Fin 4 → Fin 64} (H : Point L I n)
include H

theorem weightStores_at {prev : Fin 8 → Vec Ideal S1x128x128 .f32} {a : ℝ} (g : Fin 8) (i s : Fin 128) (hp : prev g (ix3 0 i s) = (a : EReal)) :
    View.canon (weightStores L prev) (ix3 g i s) = ((a + ∑ c, dwsOf I g i s (n c) : ℝ) : EReal) := by
  rw [group_emb]
  exact (canon_map (e := .f32) rGroup group_apart (fun g => dwsV L g (prev g)) _ g (all_eight g).1 _).trans (dwsV_at H g i s hp)

theorem weightsFrom_at (b : Memref sig .tc .vmem S8x128x128 .f32) (g : Fin 8) (i s : Fin 128) :
    View.canon (weightsFrom L b) (ix3 g i s) = ((0 + ∑ c, dwsOf I g i s (n c) : ℝ) : EReal) := by
  rw [group_emb]
  refine (canon_foldl rGroup group_apart b.view (fun g => dwsV L g) [0, 1, 2, 3, 4, 5, 6, 7] (by decide) startGroups g _).trans ?_
  rw [if_pos (all_eight g).2]
  refine dwsV_at H g i s ?_
  unfold startGroups
  rw [View.canon_cons_unit_lit _ _ _ (by decide)]
  exact zeroGroups_at _

theorem laneStores_at {prev : Fin 8 → Vec Ideal S128x128 .f32} {a : ℝ} (g : Fin 8) (i e : Fin 128) (hp : prev g (ix2 i e) = (a : EReal)) :
    View.canon (laneStores L prev) (ix2 i (lane g e)) = ((a + ∑ c, dbOf I g i e (n c) : ℝ) : EReal) := by
  rw [lanes_emb]
  exact (canon_map (e := .f32) rLanes lanes_apart (fun g => dbV L g (prev g)) _ g (all_eight g).1 _).trans (dbV_at H g i e hp)

theorem lanesFrom_at (b : Memref sig .tc .vmem S128x1024 .f32) (g : Fin 8) (i e : Fin 128) :
    View.canon (lanesFrom L b) (ix2 i (lane g e)) = ((0 + ∑ c, dbOf I g i e (n c) : ℝ) : EReal) := by
  rw [lanes_emb]
  refine (canon_foldl rLanes lanes_apart b.view (fun g => dbV L g) [0, 1, 2, 3, 4, 5, 6, 7] (by decide) startLanes g _).trans ?_
  rw [if_pos (all_eight g).2]
  refine dbV_at H g i e ?_
  unfold startLanes
  rw [View.canon_cons_unit_lit _ _ _ (by decide)]
  exact zeroLanes_at _

end Eight

theorem masked_at (b : Memref sig .tc .vmem S8x128x128 .f32) (P : List (View.Piece (Elt Ideal) S8x128x128 .f32)) (g : Fin 8) (i s : Fin 128) :
    View.canon (masked b P) (ix3 g i s) = if s.val ≤ i.val then View.canon P (ix3 g i s) else 0 := by
  rw [group_emb]
  refine (canon_foldl rGroup group_apart b.view (fun _ x => maskGroup x) [0, 1, 2, 3, 4, 5, 6, 7] (by decide) P g _).trans ?_
  rw [if_pos (all_eight g).2]
  pointwise [maskGroup]
  exact lower_at _ i s

theorem biasStores_at (b : Memref sig .tc .vmem S128x1024 .f32) (P : List (View.Piece (Elt Ideal) S128x1024 .f32)) (g : Fin 8) (i : Fin 128)
    {f : Fin 128 → ℝ} (h : ∀ e, View.canon P (ix2 i (lane g e)) = (f e : EReal)) :
    View.canon (biasStores b P) (ix2 g i) = ((∑ e, f e : ℝ) : EReal) := by
  rw [bias_emb]
  refine (canon_map (e := .f32) rBias bias_apart (fun g => biasRow (b.view.readCov P (rLanes g).toLoadRect)) _ g (all_eight g).1 _).trans ?_
  have hr : ∀ e, b.view.readCov P (rLanes g).toLoadRect (ix2 i e) = (f e : EReal) := fun e => by
    rw [View.readCov_eq_canon', ← h e, lanes_emb]
    rfl
  generalize b.view.readCov P (rLanes g).toLoadRect = z at hr
  pointwise [biasRow]
  simp only [hr, sum_real]

section Step
variable {I} {L : Loads Ideal} (y : Memref sig .tc .vmem S512x5632 .bf16)

/-- The first point's stores. -/
def startList (L : Loads Ideal) (y : Memref sig .tc .vmem S512x5632 .bf16) (b18 b21 b22 : Memref sig .tc .vmem S1x1024 .f32)
    (b19 : Memref sig .tc .vmem S8x128x128 .f32) (b24 : Memref sig .tc .vmem S128x1024 .f32) : Stores Ideal :=
  ⟨[⟨rBlock, dxV L (dhOf L y)⟩], withSecond L, rowFrom b18 (dgV L (dhOf L y)), weightsFrom L b19, rowFrom b21 (dlgV L), rowFrom b22 (dlbV L),
    lanesFrom L b24⟩

/-- A later point's, after a point that left `p`. -/
def nextList (L : Loads Ideal) (y : Memref sig .tc .vmem S512x5632 .bf16) (p : Left Ideal) (b18 b21 b22 : Memref sig .tc .vmem S1x1024 .f32)
    (h18 : b18.IsWhole) (h21 : b21.IsWhole) (h22 : b22.IsWhole) (b24 : Memref sig .tc .vmem S128x1024 .f32) (h24 : b24.IsWhole)
    (dw : List (View.Piece (Elt Ideal) S8x128x128 .f32)) : Stores Ideal :=
  ⟨[⟨rBlock, dxV L (dhOf L y)⟩], withSecond L,
    [⟨rRow, dgV L (dhOf L y) (View.readAt (Elt Ideal) b18.view rRow.toLoadRect (h18.unread p.dg))⟩], dw,
    [⟨rRow, dlgV L (View.readAt (Elt Ideal) b21.view rRow.toLoadRect (h21.unread p.dlg))⟩],
    [⟨rRow, dlbV L (View.readAt (Elt Ideal) b22.view rRow.toLoadRect (h22.unread p.dlb))⟩],
    laneStores L fun g => View.readAt (Elt Ideal) b24.view (rLanes g).toLoadRect (h24.unread p.db)⟩

/-- The groups' stores at the weights, after a point that left `p`. -/
def weightList (L : Loads Ideal) (p : Left Ideal) (b : Memref sig .tc .vmem S8x128x128 .f32) (h : b.IsWhole) :
    List (View.Piece (Elt Ideal) S8x128x128 .f32) :=
  weightStores L fun g => View.readAt (Elt Ideal) b.view (rGroup g).toLoadRect (h.unread p.dws)

def laneList (L : Loads Ideal) (p : Left Ideal) (b : Memref sig .tc .vmem S128x1024 .f32) (h : b.IsWhole) :
    List (View.Piece (Elt Ideal) S128x1024 .f32) :=
  laneStores L fun g => View.readAt (Elt Ideal) b.view (rLanes g).toLoadRect (h.unread p.db)

theorem left_dx (P : Stores Ideal) : P.left.dx = View.canon P.dx := rfl
theorem left_dproj (P : Stores Ideal) : P.left.dproj = View.canon P.dproj := rfl
theorem left_dg (P : Stores Ideal) : P.left.dg = View.canon P.dg := rfl
theorem left_dws (P : Stores Ideal) : P.left.dws = View.canon P.dws := rfl
theorem left_dlg (P : Stores Ideal) : P.left.dlg = View.canon P.dlg := rfl
theorem left_dlb (P : Stores Ideal) : P.left.dlb = View.canon P.dlb := rfl
theorem left_db (P : Stores Ideal) : P.left.db = View.canon P.db := rfl

theorem start_sums (H : Point L I (chunk 0)) (b18 b21 b22 : Memref sig .tc .vmem S1x1024 .f32) (b19 : Memref sig .tc .vmem S8x128x128 .f32)
    (b24 : Memref sig .tc .vmem S128x1024 .f32) (l : Left Ideal)
    (hl : l = (startList L y b18 b21 b22 b19 b24).left) : Sums I l 0 ∧ Weights I l 0 := by
  have hdg : l.dg = View.canon (rowFrom b18 (dgV L (dhOf L y))) := by
    rw [hl, left_dg]; unfold startList; dsimp only
  have hdws : l.dws = View.canon (weightsFrom L b19) := by
    rw [hl, left_dws]; unfold startList; dsimp only
  have hdlg : l.dlg = View.canon (rowFrom b21 (dlgV L)) := by
    rw [hl, left_dlg]; unfold startList; dsimp only
  have hdlb : l.dlb = View.canon (rowFrom b22 (dlbV L)) := by
    rw [hl, left_dlb]; unfold startList; dsimp only
  have hdb : l.db = View.canon (lanesFrom L b24) := by
    rw [hl, left_db]; unfold startList; dsimp only
  refine ⟨⟨fun k => ?_, fun d => ?_, fun d => ?_, fun g i e => ?_⟩, fun g i s => ?_⟩
  · rw [hdg, upTo_zero, rowFrom_eq]
    exact dgV_at H (dhOf_at H y) k (zeroRow_at k)
  · rw [hdlg, upTo_zero, rowFrom_eq]
    exact dlgV_at H d (zeroRow_at d)
  · rw [hdlb, upTo_zero, rowFrom_eq]
    exact dlbV_at H d (zeroRow_at d)
  · rw [hdb, upTo_zero]
    exact lanesFrom_at H b24 g i e
  · rw [hdws, upTo_zero]
    exact weightsFrom_at H b19 g i s

variable {t : ℕ} (H : Point L I (chunk (t + 1))) {p : Left Ideal} (S : Sums I p t) (b18 b21 b22 : Memref sig .tc .vmem S1x1024 .f32)
  (h18 : b18.IsWhole) (h21 : b21.IsWhole) (h22 : b22.IsWhole) (b24 : Memref sig .tc .vmem S128x1024 .f32) (h24 : b24.IsWhole)
include H S

theorem next_sums (dw : List (View.Piece (Elt Ideal) S8x128x128 .f32)) (l : Left Ideal)
    (hl : l = (nextList L y p b18 b21 b22 h18 h21 h22 b24 h24 dw).left) : Sums I l (t + 1) := by
  have hdg : l.dg = View.canon [⟨rRow, dgV L (dhOf L y) (View.readAt (Elt Ideal) b18.view rRow.toLoadRect (h18.unread p.dg))⟩] := by
    rw [hl, left_dg]; unfold nextList; dsimp only
  have hdlg : l.dlg = View.canon [⟨rRow, dlgV L (View.readAt (Elt Ideal) b21.view rRow.toLoadRect (h21.unread p.dlg))⟩] := by
    rw [hl, left_dlg]; unfold nextList; dsimp only
  have hdlb : l.dlb = View.canon [⟨rRow, dlbV L (View.readAt (Elt Ideal) b22.view rRow.toLoadRect (h22.unread p.dlb))⟩] := by
    rw [hl, left_dlb]; unfold nextList; dsimp only
  have hdb : l.db = View.canon (laneStores L fun g => View.readAt (Elt Ideal) b24.view (rLanes g).toLoadRect (h24.unread p.db)) := by
    rw [hl, left_db]; unfold nextList; dsimp only
  refine ⟨fun k => ?_, fun d => ?_, fun d => ?_, fun g i e => ?_⟩
  · rw [hdg, canon_row, upTo_succ]
    exact dgV_at H (dhOf_at H y) k ((readRow b18 h18 p.dg k).trans (S.dg k))
  · rw [hdlg, canon_row, upTo_succ]
    exact dlgV_at H d ((readRow b21 h21 p.dlg d).trans (S.dlg d))
  · rw [hdlb, canon_row, upTo_succ]
    exact dlbV_at H d ((readRow b22 h22 p.dlb d).trans (S.dlb d))
  · rw [hdb, upTo_succ]
    exact laneStores_at H g i e ((readLanes b24 h24 p.db g i e).trans (S.db g i e))

theorem next_bias (g : Fin 8) (i : Fin 128) :
    View.canon (biasStores b24 (laneList L p b24 h24)) (ix2 g i)
      = ((∑ e, upTo (dbOf I g i e) (t + 1) : ℝ) : EReal) := by
  refine biasStores_at _ _ g i fun e => ?_
  rw [upTo_succ]
  exact laneStores_at H g i e ((readLanes b24 h24 p.db g i e).trans (S.db g i e))

omit H S in
theorem dws_next (L : Loads Ideal) (p : Left Ideal) (dw : List (View.Piece (Elt Ideal) S8x128x128 .f32)) (l : Left Ideal)
    (hl : l = (nextList L y p b18 b21 b22 h18 h21 h22 b24 h24 dw).left) : l.dws = View.canon dw := by
  rw [hl, left_dws]; unfold nextList; dsimp only

omit S in
theorem next_weights (W : Weights I p t) (b : Memref sig .tc .vmem S8x128x128 .f32) (h : b.IsWhole) (g : Fin 8) (i s : Fin 128) :
    View.canon (weightList L p b h) (ix3 g i s)
      = (upTo (dwsOf I g i s) (t + 1) : EReal) := by
  rw [upTo_succ]
  exact weightStores_at H g i s ((readGroup b h p.dws g i s).trans (W g i s))

omit H S in
theorem rows_start {n : Fin 4 → Fin 64} (H : Point L I n) (b18 b21 b22 : Memref sig .tc .vmem S1x1024 .f32)
    (b19 : Memref sig .tc .vmem S8x128x128 .f32) (b24 : Memref sig .tc .vmem S128x1024 .f32) (q : Fin 4) (i : Fin 128) :
    (∀ d, (startList L y b18 b21 b22 b19 b24).left.dx (ix2 (row q i) d) = L.dx (ix2 (row q i) d) + (I.dx (n q) i d : EReal))
      ∧ ∀ j, (startList L y b18 b21 b22 b19 b24).left.dproj (ix2 (row q i) j) = (I.dproj (n q) i j : EReal) := by
  rw [left_dx, left_dproj]
  unfold startList
  dsimp only
  rw [canon_block]
  exact ⟨fun d => dxV_at H (dhOf_at H y) q i d, fun j => withSecond_at H q i j⟩

omit H S in
theorem rows_next {n : Fin 4 → Fin 64} (H : Point L I n) (p : Left Ideal) (b18 b21 b22 : Memref sig .tc .vmem S1x1024 .f32)
    (h18 : b18.IsWhole) (h21 : b21.IsWhole) (h22 : b22.IsWhole) (b24 : Memref sig .tc .vmem S128x1024 .f32) (h24 : b24.IsWhole)
    (dw : List (View.Piece (Elt Ideal) S8x128x128 .f32)) (q : Fin 4) (i : Fin 128) :
    (∀ d, (nextList L y p b18 b21 b22 h18 h21 h22 b24 h24 dw).left.dx (ix2 (row q i) d) = L.dx (ix2 (row q i) d) + (I.dx (n q) i d : EReal))
      ∧ ∀ j, (nextList L y p b18 b21 b22 h18 h21 h22 b24 h24 dw).left.dproj (ix2 (row q i) j) = (I.dproj (n q) i j : EReal) := by
  rw [left_dx, left_dproj]
  unfold nextList
  dsimp only
  rw [canon_block]
  exact ⟨fun d => dxV_at H (dhOf_at H y) q i d, fun j => withSecond_at H q i j⟩

end Step

/-! ## From point to point -/

variable (m : (ℓ : Loc nD τ sig) → Buf (Elt Ideal) ℓ) (c : Dev nD)

/-- What point `t` loads. -/
def held (t : Fin cfg0.N) : Loads Ideal :=
  loads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

section Lists
variable (t : Fin cfg0.N)

theorem first_eq (h0 : cond0_0 (grid0.coords t)) (h1 : ¬ cond0_1 (grid0.coords t)) :
    left m c t = (startList (held m c t) (ms0_17 t) (ms0_18 t) (ms0_21 t) (ms0_22 t) (ms0_19 t) scM0_0).left := by
  rw [left_first m c t h0 h1]
  exact congrArg _ (show _ = startList (held m c t) (ms0_17 t) (ms0_18 t) (ms0_21 t) (ms0_22 t) (ms0_19 t) scM0_0 from storesFirst_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 whole_sc h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))

theorem mid_eq (h0 : ¬ cond0_0 (grid0.coords t)) (h1 : ¬ cond0_1 (grid0.coords t)) (l : Left Ideal) (hl : left m c (prev t) = l) :
    left m c t = (nextList (held m c t) (ms0_17 t) l (ms0_18 t) (ms0_21 t) (ms0_22 t) (hs0_18 t) (hs0_21 t) (hs0_22 t) scM0_0 whole_sc (weightList (held m c t) l (ms0_19 t) (hs0_19 t))).left := by
  subst hl
  rw [left_mid m c t h0 h1]
  exact congrArg _ (show _ = nextList (held m c t) (ms0_17 t) (left m c (prev t)) (ms0_18 t) (ms0_21 t) (ms0_22 t) (hs0_18 t) (hs0_21 t) (hs0_22 t) scM0_0 whole_sc (weightList (held m c t) (left m c (prev t)) (ms0_19 t) (hs0_19 t)) from storesMid_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 whole_sc h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)

theorem last_eq (h0 : ¬ cond0_0 (grid0.coords t)) (h1 : cond0_1 (grid0.coords t)) (l : Left Ideal) (hl : left m c (prev t) = l) :
    left m c t = (nextList (held m c t) (ms0_17 t) l (ms0_18 t) (ms0_21 t) (ms0_22 t) (hs0_18 t) (hs0_21 t) (hs0_22 t) scM0_0 whole_sc (masked (ms0_19 t) (weightList (held m c t) l (ms0_19 t) (hs0_19 t)))).left := by
  subst hl
  rw [left_last m c t h0 h1]
  exact congrArg _ (show _ = nextList (held m c t) (ms0_17 t) (left m c (prev t)) (ms0_18 t) (ms0_21 t) (ms0_22 t) (hs0_18 t) (hs0_21 t) (hs0_22 t) scM0_0 whole_sc (masked (ms0_19 t) (weightList (held m c t) (left m c (prev t)) (ms0_19 t) (hs0_19 t))) from storesLast_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 whole_sc h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)

theorem bias_eq (h0 : ¬ cond0_0 (grid0.coords t)) (h1 : cond0_1 (grid0.coords t)) (l : Left Ideal) (hl : left m c (prev t) = l) :
    bias m c t = View.canon (biasStores scM0_0 (laneList (held m c t) l scM0_0 whole_sc)) := by
  subst hl
  exact (bias_last m c t h0 h1).trans (congrArg View.canon (storesBias_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 whole_sc h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _))

end Lists

variable {I} (hP : ∀ t : Fin cfg0.N, Point (held m c t) I (chunk t.val))
include hP

theorem sums_first (t : Fin cfg0.N) (ht : t.val = 0) : Sums I (left m c t) 0 ∧ Weights I (left m c t) 0 := by
  have h0 : cond0_0 (grid0.coords t) := (hcond0_0 t).mpr (by omega)
  have h1 : ¬ cond0_1 (grid0.coords t) := fun e => by have := (hcond0_1 t).mp e; omega
  have hL : Point (held m c t) I (chunk 0) := ht ▸ hP t
  have hl := first_eq m c t h0 h1
  exact start_sums _ hL _ _ _ _ _ _ hl

theorem sums_mid (t : Fin cfg0.N) (k : ℕ) (ht : t.val = k + 1) (hl : k + 1 < 15) (S : Sums I (left m c (prev t)) k) (W : Weights I (left m c (prev t)) k) :
    Sums I (left m c t) (k + 1) ∧ Weights I (left m c t) (k + 1) := by
  have h0 : ¬ cond0_0 (grid0.coords t) := fun e => by have := (hcond0_0 t).mp e; omega
  have h1 : ¬ cond0_1 (grid0.coords t) := fun e => by have := (hcond0_1 t).mp e; omega
  have hL : Point (held m c t) I (chunk (k + 1)) := ht ▸ hP t
  have hl := mid_eq m c t h0 h1 _ rfl
  generalize left m c (prev t) = p at S W hl
  exact ⟨next_sums _ hL S _ _ _ _ _ _ _ _ _ _ hl, fun g i s => by
    rw [hl]
    exact next_weights hL W _ _ g i s⟩

theorem sums_upTo (k : ℕ) (hk : k < 15) (hn : k < cfg0.N) : Sums I (left m c ⟨k, hn⟩) k ∧ Weights I (left m c ⟨k, hn⟩) k := by
  induction k with
  | zero => exact sums_first m c hP ⟨0, hn⟩ rfl
  | succ k ih =>
    obtain ⟨S, W⟩ := ih (by omega) (by omega)
    exact sums_mid m c hP ⟨k + 1, hn⟩ k rfl hk S W

/-- At the last point: the sums are whole, the later tokens are out of the weights', and the bias's are summed. -/
theorem sums_last (t : Fin cfg0.N) (ht : t.val = 15) :
    (∀ k, (left m c t).dg (ix2 0 k) = (I.dg k : EReal)) ∧ (∀ g i s, (left m c t).dws (ix3 g i s) = (I.dws g i s : EReal))
      ∧ (∀ g i, bias m c t (ix2 g i) = (I.dbs g i : EReal))
      ∧ (∀ d, (left m c t).dlg (ix2 0 d) = (I.dlg d : EReal)) ∧ ∀ d, (left m c t).dlb (ix2 0 d) = (I.dlb d : EReal) := by
  have h0 : ¬ cond0_0 (grid0.coords t) := fun e => by have := (hcond0_0 t).mp e; omega
  have h1 : cond0_1 (grid0.coords t) := (hcond0_1 t).mpr (by omega)
  have hL : Point (held m c t) I (chunk (14 + 1)) := (by omega : t.val = 14 + 1) ▸ hP t
  have hp : prev t = ⟨14, by have := t.isLt; omega⟩ := Fin.ext (by show t.val - 1 = 14; omega)
  obtain ⟨S, W⟩ := sums_upTo m c hP 14 (by omega) (by have := t.isLt; omega)
  rw [← hp] at S W
  have hl := last_eq m c t h0 h1 _ rfl
  have hb := bias_eq m c t h0 h1 _ rfl
  generalize left m c (prev t) = p at S W hl hb
  have N : Sums I (left m c t) (14 + 1) := next_sums _ hL S _ _ _ _ _ _ _ _ _ _ hl
  refine ⟨fun k => (N.dg k).trans (congrArg _ (upTo_all _)), fun g i s => ?_, fun g i => ?_,
    fun d => (N.dlg d).trans (congrArg _ (upTo_all _)), fun d => (N.dlb d).trans (congrArg _ (upTo_all _))⟩
  · rw [dws_next _ _ _ _ _ _ _ _ _ _ _ _ _ hl, masked_at, next_weights hL W, upTo_all]
    unfold Inputs.dws
    split_ifs
    · rfl
    · rfl
  · rw [hb, next_bias hL S]
    refine congrArg _ ?_
    exact (Finset.sum_congr rfl fun e _ => upTo_all (dbOf I g i e)).trans Finset.sum_comm

/-- At every point: the block of rows it writes. -/
theorem rows_at (t : Fin cfg0.N) (q : Fin 4) (i : Fin 128) :
    (∀ d, (left m c t).dx (ix2 (row q i) d) = (held m c t).dx (ix2 (row q i) d) + (I.dx (chunk t.val q) i d : EReal))
      ∧ ∀ j, (left m c t).dproj (ix2 (row q i) j) = (I.dproj (chunk t.val q) i j : EReal) := by
  have hL := hP t
  by_cases h0 : cond0_0 (grid0.coords t)
  · have h1 : ¬ cond0_1 (grid0.coords t) := fun e => by have := (hcond0_1 t).mp e; have := (hcond0_0 t).mp h0; omega
    rw [first_eq m c t h0 h1]
    exact rows_start _ hL _ _ _ _ _ q i
  · by_cases h1 : cond0_1 (grid0.coords t)
    · rw [last_eq m c t h0 h1 _ rfl]
      exact rows_next _ hL _ _ _ _ _ _ _ _ _ _ q i
    · rw [mid_eq m c t h0 h1 _ rfl]
      exact rows_next _ hL _ _ _ _ _ _ _ _ _ _ q i

end Cert.SguIdeal.Body

end
-- ==== Proof.SguRef.lean ====
/- What the gating unit's reference computes, token by token, at finite arguments: the functions of SguRow. -/
module

public import proofs.«01_k».proof.Proof.Gen.SguRefIdeal.Read
public import proofs.«01_k».proof.Proof.SguRow
public import Idealize.ShloMosaic.Lib.Pipeline.ValueKit
public import Idealize.ShloMosaic.Lib.Pointwise

@[expose] public section

set_option maxRecDepth 16384

noncomputable section

namespace Cert.Step.Sgu

open Idealize.ShloMosaic

/-- The arguments hold finite numbers, all but the direct gradient's, which is only added. -/
structure Holds (x0 x8 x9 x12 x13 : FVec Ideal ⟨2, ![8192, 1024]⟩ .f32) (x1 x3 x4 : FVec Ideal ⟨2, ![1, 1024]⟩ .f32) (x2 : FVec Ideal ⟨2, ![1024,
    5632]⟩ .f32)
    (x5 : FVec Ideal ⟨3, ![8, 128, 128]⟩ .f32) (x6 : FVec Ideal ⟨2, ![8, 128]⟩ .f32) (x10 x11 : FVec Ideal ⟨2, ![8192,
    256]⟩ .f32) (I : Inputs) : Prop where
  x : ∀ t k, x0 (ix2 t k) = (I.X t k : EReal)
  g : ∀ o k, x1 (ix2 o k) = (I.G k : EReal)
  w : ∀ k j, x2 (ix2 k j) = (I.W k j : EReal)
  lg : ∀ o k, x3 (ix2 o k) = (I.lg k : EReal)
  lb : ∀ o k, x4 (ix2 o k) = (I.lb k : EReal)
  ws : ∀ g i s, x5 (ix3 g i s) = (I.ws g i s : EReal)
  bs : ∀ g i, x6 (ix2 g i) = (I.bs g i : EReal)
  a : ∀ t k, x8 (ix2 t k) = (I.A t k : EReal)
  q : ∀ t k, x9 (ix2 t k) = (I.Q t k : EReal)
  k : ∀ t k, x10 (ix2 t k) = (I.K t k : EReal)
  v : ∀ t k, x11 (ix2 t k) = (I.V t k : EReal)
  ga : ∀ t k, x12 (ix2 t k) = (I.GA t k : EReal)
  gb : ∀ t k, x13 (ix2 t k) = (I.GB t k : EReal)

end Cert.Step.Sgu

namespace Cert.SguRefIdeal.Row

open Cert.SguRefIdeal Cert.SguRefIdeal.Gen Cert.SguRefIdeal.Read Cert.Step Cert.Step.Sgu Idealize.ShloMosaic Idealize.ShloMosaic.TcCoe
  Idealize.ShloMosaic.StableHlo

variable {x0 x7 x8 x9 x12 x13 : FVec Ideal S8192x1024 .f32} {x1 x3 x4 : FVec Ideal S1x1024 .f32} {x2 : FVec Ideal S1024x5632 .f32}
  {x5 : FVec Ideal S8x128x128 .f32} {x6 : FVec Ideal S8x128 .f32} {x10 x11 : FVec Ideal S8192x256 .f32}
  {I : Inputs} (H : Holds x0 x8 x9 x12 x13 x1 x3 x4 x2 x5 x6 x10 x11 I) (t : Fin 8192) (o : Fin 1) (d : Fin 1024)

include H

/-! ## The projection -/

theorem v7_at : val_main_v7 (F := Ideal) x0 (ix2 t o) = (meanSq (I.X t) : EReal) := by
  pointwise [val_main_v7, val_main_v6, val_main_v5, val_main_v4, val_main_v3, val_main_v2, val_main_v1, val_main_cst_0, val_main_cst_1,
    val_main_cst_2]
  simp only [H.x, ← EReal.coe_mul, sum_real, div_1024, word_eps, ← EReal.coe_add, meanSq]

theorem v8_at : val_main_v8 (F := Ideal) x0 (ix2 t o) = (rinv (I.X t) : EReal) := by
  pointwise [val_main_v8]
  rw [v7_at H, rsqrt_real (meanSq_pos _), rinv]

theorem v11_at : val_main_v11 (F := Ideal) x0 (ix2 t o) = ((-(1 / 2) * (rinv (I.X t) / meanSq (I.X t)) : ℝ) : EReal) := by
  pointwise [val_main_v11, val_main_v10, val_main_v9, val_main_cst_3]
  rw [v7_at H, v8_at H, div_real (meanSq_pos _).ne', word_neg_half, ← EReal.coe_mul]

theorem v13_at : val_main_v13 (F := Ideal) x0 (ix2 t d) = ((I.X t d * rinv (I.X t) : ℝ) : EReal) := by
  pointwise [val_main_v13, val_main_v12]
  rw [v8_at H, H.x, ← EReal.coe_mul]

theorem v15_at : val_main_v15 (F := Ideal) x0 x1 (ix2 t d) = ((I.X t d * rinv (I.X t) * I.G d : ℝ) : EReal) := by
  pointwise [val_main_v15, val_main_v14]
  rw [v13_at H, H.g, ← EReal.coe_mul]

theorem v17_at (j : Fin 5632) : val_main_v17 (F := Ideal) x0 x1 x2 (ix2 t j) = (I.proj t j : EReal) := by
  pointwise [val_main_v17, val_main_v16, val_main_v0, val_main_cst]
  simp only [v15_at H, H.w, ← EReal.coe_mul, sum_real, Inputs.proj]

theorem v18_at : val_main_v18 (F := Ideal) x0 x1 x2 (ix2 t d) = (I.first t d : EReal) := by
  pointwise [val_main_v18]
  exact v17_at H t _

theorem v19_at : val_main_v19 (F := Ideal) x0 x1 x2 (ix2 t d) = (I.second t d : EReal) := by
  pointwise [val_main_v19]
  exact v17_at H t _

/-! ## The two rectified halves -/

theorem v35_at : val_main_v35 (F := Ideal) x0 x1 x2 (ix2 t d) = (bend (I.first t d) : EReal) := by
  pointwise [val_main_v35, val_main_v34, val_main_v33, val_main_v32, val_main_v31, val_main_v30, val_main_v26, val_main_v25, val_main_cst_5,
    val_main_cst_6]
  simp only [v18_at H, word_c₀, word_c₁, ← EReal.coe_mul, ← EReal.coe_add, Ideal.tanh_coe, bend]

theorem v44_at : val_main_v44 (F := Ideal) x0 x1 x2 (ix2 t d) = ((1 / 2 * (1 + bend (I.first t d)) : ℝ) : EReal) := by
  pointwise [val_main_v44, val_main_v43, val_main_v42, val_main_v41, val_main_cst_9, val_main_cst_10]
  simp only [v35_at H, ← EReal.coe_one, word_half, ← EReal.coe_mul, ← EReal.coe_add]

theorem v45_at : val_main_v45 (F := Ideal) x0 x1 x2 (ix2 t d) = (gelu (I.first t d) : EReal) := by
  pointwise [val_main_v45]
  rw [v44_at H, v18_at H, ← EReal.coe_mul, gelu]

theorem v40_at : val_main_v40 (F := Ideal) x0 x1 x2 (ix2 t d) = (((1 + bend (I.first t d)) * (1 - bend (I.first t d)) : ℝ) : EReal) := by
  pointwise [val_main_v40, val_main_v39, val_main_v38, val_main_v37, val_main_v36, val_main_cst_7, val_main_cst_8]
  simp only [v35_at H, ← EReal.coe_one, ← EReal.coe_mul, ← EReal.coe_add, ← EReal.coe_sub]

theorem v29_at : val_main_v29 (F := Ideal) x0 x1 x2 (ix2 t d) = ((3 * (I.first t d * I.first t d) : ℝ) : EReal) := by
  pointwise [val_main_v29, val_main_v28, val_main_v27, val_main_cst_4]
  simp only [v18_at H, word_three, ← EReal.coe_mul]

theorem v56_at : val_main_v56 (F := Ideal) x0 x1 x2 (ix2 t d) = (bend (I.second t d) : EReal) := by
  pointwise [val_main_v56, val_main_v55, val_main_v54, val_main_v53, val_main_v52, val_main_v51, val_main_v47, val_main_v46, val_main_cst_12,
    val_main_cst_13]
  simp only [v19_at H, word_c₀, word_c₁, ← EReal.coe_mul, ← EReal.coe_add, Ideal.tanh_coe, bend]

theorem v65_at : val_main_v65 (F := Ideal) x0 x1 x2 (ix2 t d) = ((1 / 2 * (1 + bend (I.second t d)) : ℝ) : EReal) := by
  pointwise [val_main_v65, val_main_v64, val_main_v63, val_main_v62, val_main_cst_16, val_main_cst_17]
  simp only [v56_at H, ← EReal.coe_one, word_half, ← EReal.coe_mul, ← EReal.coe_add]

theorem v66_at : val_main_v66 (F := Ideal) x0 x1 x2 (ix2 t d) = (I.lit t d : EReal) := by
  pointwise [val_main_v66]
  rw [v65_at H, v19_at H, ← EReal.coe_mul, Inputs.lit, gelu]

theorem v61_at : val_main_v61 (F := Ideal) x0 x1 x2 (ix2 t d) = (((1 + bend (I.second t d)) * (1 - bend (I.second t d)) : ℝ) : EReal) := by
  pointwise [val_main_v61, val_main_v60, val_main_v59, val_main_v58, val_main_v57, val_main_cst_14, val_main_cst_15]
  simp only [v56_at H, ← EReal.coe_one, ← EReal.coe_mul, ← EReal.coe_add, ← EReal.coe_sub]

theorem v50_at : val_main_v50 (F := Ideal) x0 x1 x2 (ix2 t d) = ((3 * (I.second t d * I.second t d) : ℝ) : EReal) := by
  pointwise [val_main_v50, val_main_v49, val_main_v48, val_main_cst_11]
  simp only [v19_at H, word_three, ← EReal.coe_mul]

/-! ## The norm of the second half -/

theorem v70_at : val_main_v70 (F := Ideal) x0 x1 x2 (ix2 t o) = (mean (I.lit t) : EReal) := by
  pointwise [val_main_v70, val_main_v69, val_main_v68, val_main_v67, val_main_cst_18, val_main_cst_19]
  simp only [v66_at H, sum_real, div_1024, mean]

theorem v72_at : val_main_v72 (F := Ideal) x0 x1 x2 (ix2 t d) = (dev (I.lit t) d : EReal) := by
  pointwise [val_main_v72, val_main_v71]
  rw [v66_at H, v70_at H, ← EReal.coe_sub, dev]

theorem v81_at : val_main_v81 (F := Ideal) x0 x1 x2 (ix2 t d) = (dev (I.lit t) d : EReal) := by
  pointwise [val_main_v81, val_main_v80]
  rw [v66_at H, v70_at H, ← EReal.coe_sub, dev]

theorem v83_at : val_main_v83 (F := Ideal) x0 x1 x2 (ix2 t o) = (meanSq (dev (I.lit t)) : EReal) := by
  pointwise [val_main_v83, val_main_v82, val_main_v79, val_main_v78, val_main_v77, val_main_v76, val_main_v73, val_main_cst_21, val_main_cst_22,
    val_main_cst_23]
  simp only [v72_at H, ← EReal.coe_mul, sum_real, div_1024, word_eps, ← EReal.coe_add, meanSq]

theorem v84_at : val_main_v84 (F := Ideal) x0 x1 x2 (ix2 t o) = (rinv (dev (I.lit t)) : EReal) := by
  pointwise [val_main_v84]
  rw [v83_at H, rsqrt_real (meanSq_pos _), rinv]

theorem v87_at : val_main_v87 (F := Ideal) x0 x1 x2 (ix2 t o) = ((-(1 / 2) * (rinv (dev (I.lit t)) / meanSq (dev (I.lit t))) : ℝ) : EReal) := by
  pointwise [val_main_v87, val_main_v86, val_main_v85, val_main_cst_24]
  rw [v83_at H, v84_at H, div_real (meanSq_pos _).ne', word_neg_half, ← EReal.coe_mul]

theorem v89_at : val_main_v89 (F := Ideal) x0 x1 x2 (ix2 t d) = (hat (I.lit t) d : EReal) := by
  pointwise [val_main_v89, val_main_v88]
  rw [v84_at H, v81_at H, ← EReal.coe_mul, hat]

theorem v93_at : val_main_v93 (F := Ideal) x0 x1 x2 x3 x4 (ix2 t d) = ((hat (I.lit t) d * I.lg d + I.lb d : ℝ) : EReal) := by
  pointwise [val_main_v93, val_main_v92, val_main_v91, val_main_v90]
  rw [v89_at H, H.lg, H.lb, ← EReal.coe_mul, ← EReal.coe_add]

end Cert.SguRefIdeal.Row

end
-- ==== Proof.SguHost.lean ====
/- What the gate's gradient call finds at a grid point, from the reals behind the arguments. -/
module

public import proofs.«01_k».proof.Proof.SguSum
public import proofs.«01_k».proof.Proof.SguRef
public import Idealize.ShloMosaic.Lib.StableHlo.RunRead
public import Idealize.ShloMosaic.Lib.StableHlo.ReadAt
public import Idealize.ShloMosaic.Lib.Pipeline.ValueKit

@[expose] public section

set_option maxRecDepth 16384

noncomputable section

namespace Cert.SguIdeal.Body

open Cert.SguIdeal Cert.SguIdeal.Gen Cert.Step Cert.Step.Sgu Cert.SguRefIdeal.Read Cert.SguRefIdeal.Row
open Idealize.ShloMosaic Idealize.ShloMosaic.TcCoe Idealize.ShloMosaic.Tactic Idealize.ShloMosaic.StableHlo Idealize.SL.Sem

variable (m : (ℓ : Loc nD τ sig) → Buf (Elt Ideal) ℓ) (c : Dev nD)

abbrev argX : FVec Ideal S8192x1024 .f32 := m ((c : Thread nD τ).loc main_arg0)
abbrev argG : FVec Ideal S1x1024 .f32 := m ((c : Thread nD τ).loc main_arg1)
abbrev argW : FVec Ideal S1024x5632 .f32 := m ((c : Thread nD τ).loc main_arg2)
abbrev argLg : FVec Ideal S1x1024 .f32 := m ((c : Thread nD τ).loc main_arg3)
abbrev argLb : FVec Ideal S1x1024 .f32 := m ((c : Thread nD τ).loc main_arg4)
abbrev argWs : FVec Ideal S8x128x128 .f32 := m ((c : Thread nD τ).loc main_arg5)
abbrev argBs : FVec Ideal S8x128 .f32 := m ((c : Thread nD τ).loc main_arg6)
abbrev argDx : FVec Ideal S8192x1024 .f32 := m ((c : Thread nD τ).loc main_arg7)
abbrev argA : FVec Ideal S8192x1024 .f32 := m ((c : Thread nD τ).loc main_arg8)
abbrev argQ : FVec Ideal S8192x1024 .f32 := m ((c : Thread nD τ).loc main_arg9)
abbrev argK : FVec Ideal S8192x256 .f32 := m ((c : Thread nD τ).loc main_arg10)
abbrev argV : FVec Ideal S8192x256 .f32 := m ((c : Thread nD τ).loc main_arg11)
abbrev argGa : FVec Ideal S8192x1024 .f32 := m ((c : Thread nD τ).loc main_arg12)
abbrev argGb : FVec Ideal S8192x1024 .f32 := m ((c : Thread nD τ).loc main_arg13)

/-- The first two parts of the projection, which the forward pass saves. -/
def saved : FVec Ideal S8192x2048 .f32 :=
  Host.dotGeneral (φ₁ := .f32) (φ₂ := .f32) dot_S8192x1024_S1024x2048_S8192x2048_1_0_0_1_n_n none (val_main_v15 (F := Ideal) (argX m c) (argG m c) : FVec Ideal S8192x1024 .f32)
    (extractStridedSlice S1024x2048 ![0, 0] (argW m c) slices_S1024x5632_S1024x2048_0_0 : FVec Ideal S1024x2048 .f32)

/-- A group's bias at each of its lanes. -/
def biases : FVec Ideal S128x1024 .f32 :=
  shapeCast S128x1024 (broadcastInDim S128x8x128 ![0, 1] bcast_S128x8_S128x8x128_0_1
    (transpose S128x8 [1, 0] (argBs m c) transposes_S8x128_S128x8_1_0)) shapeCasts_S128x8x128_S128x1024

theorem found_u : V m c main_v18 = (truncf .bf16 (extractStridedSlice S8192x1024 ![0, 0] (saved m c) slices_S8192x2048_S8192x1024_0_0)
    bitsLt_bf16_f32 : FVec Ideal S8192x1024 .bf16) := by
  show StableHlo.after _ _ (Proc.devRef .tc main_v18) = _
  after_reads_simp
  rfl

theorem found_v : V m c main_v20 = (truncf .bf16 (extractStridedSlice S8192x1024 ![0, 1024] (saved m c) slices_S8192x2048_S8192x1024_0_1024)
    bitsLt_bf16_f32 : FVec Ideal S8192x1024 .bf16) := by
  show StableHlo.after _ _ (Proc.devRef .tc main_v20) = _
  after_reads_simp
  rfl

theorem found_bs : V m c main_v16 = biases m c := by
  show StableHlo.after _ _ (Proc.devRef .tc main_v16) = _
  after_reads_simp
  rfl

theorem found_q : V m c main_v21 = (truncf .bf16 (argQ m c) bitsLt_bf16_f32 : FVec Ideal S8192x1024 .bf16) := by
  show StableHlo.after _ _ (Proc.devRef .tc main_v21) = _
  after_reads_simp

theorem found_k : V m c main_v22 = (truncf .bf16 (argK m c) bitsLt_bf16_f32 : FVec Ideal S8192x256 .bf16) := by
  show StableHlo.after _ _ (Proc.devRef .tc main_v22) = _
  after_reads_simp

theorem found_w : V m c main_v23 = (truncf .bf16 (argV m c) bitsLt_bf16_f32 : FVec Ideal S8192x256 .bf16) := by
  show StableHlo.after _ _ (Proc.devRef .tc main_v23) = _
  after_reads_simp

theorem found_ga : V m c main_v24 = (truncf .bf16 (argGa m c) bitsLt_bf16_f32 : FVec Ideal S8192x1024 .bf16) := by
  show StableHlo.after _ _ (Proc.devRef .tc main_v24) = _
  after_reads_simp

theorem found_gb : V m c main_v25 = (truncf .bf16 (argGb m c) bitsLt_bf16_f32 : FVec Ideal S8192x1024 .bf16) := by
  show StableHlo.after _ _ (Proc.devRef .tc main_v25) = _
  after_reads_simp

theorem found_wt : V m c main_v26 = (truncf .bf16 (argW m c) bitsLt_bf16_f32 : FVec Ideal S1024x5632 .bf16) := by
  show StableHlo.after _ _ (Proc.devRef .tc main_v26) = _
  after_reads_simp

theorem found_x : V m c main_arg0 = argX m c := by
  show StableHlo.after _ _ (Proc.devRef .tc main_arg0) = _
  after_reads_simp

theorem found_g : V m c main_arg1 = argG m c := by
  show StableHlo.after _ _ (Proc.devRef .tc main_arg1) = _
  after_reads_simp

theorem found_lg : V m c main_arg3 = argLg m c := by
  show StableHlo.after _ _ (Proc.devRef .tc main_arg3) = _
  after_reads_simp

theorem found_lb : V m c main_arg4 = argLb m c := by
  show StableHlo.after _ _ (Proc.devRef .tc main_arg4) = _
  after_reads_simp

theorem found_ws : V m c main_arg5 = argWs m c := by
  show StableHlo.after _ _ (Proc.devRef .tc main_arg5) = _
  after_reads_simp

theorem found_dx : V m c main_arg7 = argDx m c := by
  show StableHlo.after _ _ (Proc.devRef .tc main_arg7) = _
  after_reads_simp

theorem found_a : V m c main_arg8 = argA m c := by
  show StableHlo.after _ _ (Proc.devRef .tc main_arg8) = _
  after_reads_simp

/-! ## Read at a token -/

theorem lane_bias (x : FVec Ideal S8x128 .f32) (g : Fin 8) (i e : Fin 128) :
    shapeCast S128x1024 (broadcastInDim S128x8x128 ![0, 1] bcast_S128x8_S128x8x128_0_1
      (transpose S128x8 [1, 0] x transposes_S8x128_S128x8_1_0)) shapeCasts_S128x8x128_S128x1024 (ix2 i (lane g e)) = x (ix2 g i) := by
  pointwise [lane]

variable {m c} {I : Inputs} (H : Holds (argX m c) (argA m c) (argQ m c) (argGa m c) (argGb m c) (argG m c) (argLg m c) (argLb m c) (argW m c)
  (argWs m c) (argBs m c) (argK m c) (argV m c) I)
include H

theorem saved_at (t : Fin 8192) (j : Fin 2048) : saved m c (ix2 t j) = (I.proj t ⟨j.val, by omega⟩ : EReal) := by
  pointwise [saved]
  simp only [v15_at H, H.w, ← EReal.coe_mul, sum_real, Inputs.proj]

theorem host_u (t : Fin 8192) (d : Fin 1024) : V m c main_v18 (ix2 t d) = (I.first t d : EReal) := by
  rw [found_u]
  have h := fun j => saved_at H t j
  generalize saved m c = x at h ⊢
  pointwise []
  rw [h]; rfl

theorem host_v (t : Fin 8192) (d : Fin 1024) : V m c main_v20 (ix2 t d) = (I.second t d : EReal) := by
  rw [found_v]
  have h := fun j => saved_at H t j
  generalize saved m c = x at h ⊢
  pointwise []
  rw [h]; rfl

theorem host_bs (g : Fin 8) (i e : Fin 128) : V m c main_v16 (ix2 i (lane g e)) = (I.bs g i : EReal) := by
  rw [found_bs, ← H.bs]
  exact lane_bias _ g i e

theorem host_q (t : Fin 8192) (d : Fin 1024) : V m c main_v21 (ix2 t d) = (I.Q t d : EReal) := by
  rw [found_q, ← H.q]
  pointwise []

theorem host_k (t : Fin 8192) (d : Fin 256) : V m c main_v22 (ix2 t d) = (I.K t d : EReal) := by
  rw [found_k, ← H.k]
  pointwise []

theorem host_w (t : Fin 8192) (d : Fin 256) : V m c main_v23 (ix2 t d) = (I.V t d : EReal) := by
  rw [found_w, ← H.v]
  pointwise []

theorem host_ga (t : Fin 8192) (d : Fin 1024) : V m c main_v24 (ix2 t d) = (I.GA t d : EReal) := by
  rw [found_ga, ← H.ga]
  pointwise []

theorem host_gb (t : Fin 8192) (d : Fin 1024) : V m c main_v25 (ix2 t d) = (I.GB t d : EReal) := by
  rw [found_gb, ← H.gb]
  pointwise []

theorem host_wt (k : Fin 1024) (j : Fin 5632) : V m c main_v26 (ix2 k j) = (I.W k j : EReal) := by
  rw [found_wt, ← H.w]
  pointwise []

/-! ## The windows' blocks -/

omit H in
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![0, 0]
    ∧ win0_15.index t = ![0, 0] ∧ win0_16.index t = ![t.val, 0] ∧ win0_17.index t = ![t.val, 0] ∧ win0_18.index t = ![0, 0]
    ∧ win0_19.index t = ![0, 0, 0] ∧ win0_20.index t = ![0, 0] ∧ win0_21.index t = ![0, 0] ∧ win0_22.index t = ![0, 0] :=
  (by decide +kernel : ∀ t : Fin grid0.N, _)

/-- The token of row `r` of grid point `t`. -/
def place (t : Fin cfg0.N) (r : Fin 512) : Fin 8192 := ⟨t.val * 512 + r.val, by have := lt_of_lt_of_eq t.isLt (show cfg0.N = 16 from N_0); omega⟩

omit H in
theorem place_row (t : Fin cfg0.N) (q : Fin 4) (i : Fin 128) : place t (row q i) = tok (chunk t.val q) i := by
  have h := lt_of_lt_of_eq t.isLt (show cfg0.N = 16 from N_0)
  apply Fin.ext
  show t.val * 512 + (128 * q.val + i.val) = 128 * ((4 * t.val + q.val) % 64) + i.val
  omega

theorem blk_u (t : Fin cfg0.N) (r : Fin 512) (d : Fin 1024) : iblk m c 0 t (ix2 r d) = (I.first (place t r) d : EReal) := by
  rw [← host_u H]
  blk_point [iblk, idx t, place]

theorem blk_v (t : Fin cfg0.N) (r : Fin 512) (d : Fin 1024) : iblk m c 1 t (ix2 r d) = (I.second (place t r) d : EReal) := by
  rw [← host_v H]
  blk_point [iblk, idx t, place]

theorem blk_q (t : Fin cfg0.N) (r : Fin 512) (d : Fin 1024) : iblk m c 7 t (ix2 r d) = (I.Q (place t r) d : EReal) := by
  rw [← host_q H]
  blk_point [iblk, idx t, place]

theorem blk_k (t : Fin cfg0.N) (r : Fin 512) (d : Fin 256) : iblk m c 8 t (ix2 r d) = (I.K (place t r) d : EReal) := by
  rw [← host_k H]
  blk_point [iblk, idx t, place]

theorem blk_w (t : Fin cfg0.N) (r : Fin 512) (d : Fin 256) : iblk m c 9 t (ix2 r d) = (I.V (place t r) d : EReal) := by
  rw [← host_w H]
  blk_point [iblk, idx t, place]

theorem blk_ga (t : Fin cfg0.N) (r : Fin 512) (d : Fin 1024) : iblk m c 10 t (ix2 r d) = (I.GA (place t r) d : EReal) := by
  rw [← host_ga H]
  blk_point [iblk, idx t, place]

theorem blk_gb (t : Fin cfg0.N) (r : Fin 512) (d : Fin 1024) : iblk m c 11 t (ix2 r d) = (I.GB (place t r) d : EReal) := by
  rw [← host_gb H]
  blk_point [iblk, idx t, place]

theorem blk_a (t : Fin cfg0.N) (r : Fin 512) (d : Fin 1024) : iblk m c 2 t (ix2 r d) = (I.A (place t r) d : EReal) := by
  rw [← H.a]
  show _ = argA m c (ix2 (place t r) d)
  rw [← found_a m c]
  blk_point [iblk, idx t, place]

theorem blk_x (t : Fin cfg0.N) (r : Fin 512) (d : Fin 1024) : iblk m c 12 t (ix2 r d) = (I.X (place t r) d : EReal) := by
  rw [← H.x]
  show _ = argX m c (ix2 (place t r) d)
  rw [← found_x m c]
  blk_point [iblk, idx t, place]

omit H in
theorem blk_dx (t : Fin cfg0.N) (r : Fin 512) (d : Fin 1024) : iblk m c 13 t (ix2 r d) = argDx m c (ix2 (place t r) d) := by
  rw [← found_dx m c]
  blk_point [iblk, idx t, place]

theorem blk_lg (t : Fin cfg0.N) (d : Fin 1024) : iblk m c 3 t (ix2 0 d) = (I.lg d : EReal) := by
  rw [← H.lg 0]
  show _ = argLg m c (ix2 0 d)
  rw [← found_lg m c]
  blk_point [iblk, idx t]

theorem blk_lb (t : Fin cfg0.N) (d : Fin 1024) : iblk m c 4 t (ix2 0 d) = (I.lb d : EReal) := by
  rw [← H.lb 0]
  show _ = argLb m c (ix2 0 d)
  rw [← found_lb m c]
  blk_point [iblk, idx t]

theorem blk_g (t : Fin cfg0.N) (d : Fin 1024) : iblk m c 14 t (ix2 0 d) = (I.G d : EReal) := by
  rw [← H.g 0]
  show _ = argG m c (ix2 0 d)
  rw [← found_g m c]
  blk_point [iblk, idx t]

theorem blk_ws (t : Fin cfg0.N) (g : Fin 8) (i s : Fin 128) : iblk m c 5 t (ix3 g i s) = (I.ws g i s : EReal) := by
  rw [← H.ws]
  show _ = argWs m c (ix3 g i s)
  rw [← found_ws m c]
  blk_point [iblk, idx t]

theorem blk_bs (t : Fin cfg0.N) (g : Fin 8) (i e : Fin 128) : iblk m c 6 t (ix2 i (lane g e)) = (I.bs g i : EReal) := by
  rw [← host_bs H g i e]
  generalize lane g e = l
  blk_point [iblk, idx t]

theorem blk_wt (t : Fin cfg0.N) (k : Fin 1024) (j : Fin 5632) : iblk m c 15 t (ix2 k j) = (I.W k j : EReal) := by
  rw [← host_wt H]
  blk_point [iblk, idx t]

/-! ## The loads -/

omit H
theorem readBlock {e : EltTy} (b : Memref sig .tc .vmem S512x1024 e) (h : b.IsWhole) (X : Vec Ideal S512x1024 e) (r : Fin 512) (d : Fin 1024) :
    View.readAt (Elt Ideal) b.view rBlock.toLoadRect (h.unread X) (ix2 r d) = X (ix2 r d) := by
  rw [h.readAt_unread]
  refine congrArg X ?_
  funext a; apply Fin.ext; fin_cases a <;> simp [Rect.unit, ix2]

theorem readNarrow {e : EltTy} (b : Memref sig .tc .vmem S512x256 e) (h : b.IsWhole) (X : Vec Ideal S512x256 e) (r : Fin 512) (d : Fin 256) :
    View.readAt (Elt Ideal) b.view (Rect.unit (s := S512x256) ![0, 0] S512x256.size inb_S512x256_S512x256_0_0).toLoadRect (h.unread X) (ix2 r d)
      = X (ix2 r d) := by
  rw [h.readAt_unread]
  refine congrArg X ?_
  funext a; apply Fin.ext; fin_cases a <;> simp [Rect.unit, ix2]

theorem readBias (b : Memref sig .tc .vmem S128x1024 .f32) (h : b.IsWhole) (X : Vec Ideal S128x1024 .f32) (i : Fin 128) (d : Fin 1024) :
    View.readAt (Elt Ideal) b.view (Rect.unit (s := S128x1024) ![0, 0] S128x1024.size inb_S128x1024_S128x1024_0_0).toLoadRect (h.unread X) (ix2 i d)
      = X (ix2 i d) := by
  rw [h.readAt_unread]
  refine congrArg X ?_
  funext a; apply Fin.ext; fin_cases a <;> simp [Rect.unit, ix2]

theorem readCols0 (b : Memref sig .tc .vmem S1024x5632 .bf16) (h : b.IsWhole) (X : Vec Ideal S1024x5632 .bf16) (k : Fin 1024) (j : Fin 1024) :
    View.readAt (Elt Ideal) b.view (Rect.unit (s := S1024x5632) ![0, 0] S1024x1024.size inb_S1024x5632_S1024x1024_0_0).toLoadRect (h.unread X) (ix2 k j)
      = X (ix2 k ⟨j.val, first_lt j⟩) := by
  rw [h.readAt_unread]
  refine congrArg X ?_
  funext a; apply Fin.ext; fin_cases a <;> simp [Rect.unit, ix2]

theorem readCols1 (b : Memref sig .tc .vmem S1024x5632 .bf16) (h : b.IsWhole) (X : Vec Ideal S1024x5632 .bf16) (k : Fin 1024) (j : Fin 1024) :
    View.readAt (Elt Ideal) b.view (Rect.unit (s := S1024x5632) ![0, 1024] S1024x1024.size inb_S1024x5632_S1024x1024_0_1024).toLoadRect (h.unread X) (ix2 k j)
      = X (ix2 k ⟨1024 + j.val, second_lt j⟩) := by
  rw [h.readAt_unread]
  refine congrArg X ?_
  funext a; apply Fin.ext; fin_cases a <;> simp [Rect.unit, ix2]

theorem readCols2 (b : Memref sig .tc .vmem S1024x5632 .bf16) (h : b.IsWhole) (X : Vec Ideal S1024x5632 .bf16) (k : Fin 1024) (j : Fin 1792) :
    View.readAt (Elt Ideal) b.view (Rect.unit (s := S1024x5632) ![0, 2048] S1024x1792.size inb_S1024x5632_S1024x1792_0_2048).toLoadRect (h.unread X) (ix2 k j)
      = X (ix2 k ⟨2048 + j.val, third_lt j⟩) := by
  rw [h.readAt_unread]
  refine congrArg X ?_
  funext a; apply Fin.ext; fin_cases a <;> simp [Rect.unit, ix2]

theorem readCols3 (b : Memref sig .tc .vmem S1024x5632 .bf16) (h : b.IsWhole) (X : Vec Ideal S1024x5632 .bf16) (k : Fin 1024) (j : Fin 1792) :
    View.readAt (Elt Ideal) b.view (Rect.unit (s := S1024x5632) ![0, 3840] S1024x1792.size inb_S1024x5632_S1024x1792_0_3840).toLoadRect (h.unread X) (ix2 k j)
      = X (ix2 k ⟨3840 + j.val, fourth_lt j⟩) := by
  rw [h.readAt_unread]
  refine congrArg X ?_
  funext a; apply Fin.ext; fin_cases a <;> simp [Rect.unit, ix2]

theorem held_dx (t : Fin cfg0.N) (q : Fin 4) (i : Fin 128) (d : Fin 1024) :
    (held m c t).dx (ix2 (row q i) d) = argDx m c (ix2 (tok (chunk t.val q) i) d) := by
  unfold held
  rw [← place_row]
  exact (readBlock _ _ _ _ d).trans (blk_dx t _ d)

include H in
set_option maxHeartbeats 3200000 in
theorem point (t : Fin cfg0.N) : Point (held m c t) I (chunk t.val) := by
  unfold held
  constructor
  · intro q i d; refine (readBlock _ _ _ _ d).trans ((blk_u H t _ d).trans ?_); rw [place_row]; rfl
  · intro q i d; refine (readBlock _ _ _ _ d).trans ((blk_v H t _ d).trans ?_); rw [place_row]; rfl
  · intro q i d; refine (readBlock _ _ _ _ d).trans ((blk_a H t _ d).trans ?_); rw [place_row]; rfl
  · exact fun d => (readRow _ _ _ d).trans (blk_lg H t d)
  · exact fun d => (readRow _ _ _ d).trans (blk_lb H t d)
  · exact fun g i s => (readGroup _ _ _ g i s).trans (blk_ws H t g i s)
  · exact fun g i e => (readBias _ _ _ i _).trans (blk_bs H t g i e)
  · intro q i d; refine (readBlock _ _ _ _ d).trans ((blk_q H t _ d).trans ?_); rw [place_row]
  · intro q i d; refine (readNarrow _ _ _ _ d).trans ((blk_k H t _ d).trans ?_); rw [place_row]
  · intro q i d; refine (readNarrow _ _ _ _ d).trans ((blk_w H t _ d).trans ?_); rw [place_row]
  · intro q i d; refine (readBlock _ _ _ _ d).trans ((blk_ga H t _ d).trans ?_); rw [place_row]
  · intro q i d; refine (readBlock _ _ _ _ d).trans ((blk_gb H t _ d).trans ?_); rw [place_row]
  · intro q i d; refine (readBlock _ _ _ _ d).trans ((blk_x H t _ d).trans ?_); rw [place_row]
  · exact fun d => (readRow _ _ _ d).trans (blk_g H t d)
  · exact fun k j => (readCols0 _ _ _ k j).trans (blk_wt H t k _)
  · exact fun k j => (readCols1 _ _ _ k j).trans (blk_wt H t k _)
  · exact fun k j => (readCols2 _ _ _ k j).trans (blk_wt H t k _)
  · exact fun k j => (readCols3 _ _ _ k j).trans (blk_wt H t k _)

end Cert.SguIdeal.Body
-- ==== Proof.SguRefChunk.lean ====
/- What the gating unit's reference computes within a chunk: the mixed rows and the gradients through the mixing. -/
module

public import proofs.«01_k».proof.Proof.SguRef

@[expose] public section

set_option maxRecDepth 16384

noncomputable section

namespace Cert.SguRefIdeal.Row

open Cert.SguRefIdeal Cert.SguRefIdeal.Gen Cert.SguRefIdeal.Read Cert.Step Cert.Step.Sgu Idealize.ShloMosaic Idealize.ShloMosaic.TcCoe
  Idealize.ShloMosaic.StableHlo

variable {x0 x7 x8 x9 x12 x13 : FVec Ideal S8192x1024 .f32} {x1 x3 x4 : FVec Ideal S1x1024 .f32} {x2 : FVec Ideal S1024x5632 .f32}
  {x5 : FVec Ideal S8x128x128 .f32} {x6 : FVec Ideal S8x128 .f32} {x10 x11 : FVec Ideal S8192x256 .f32}
  {I : Inputs} (H : Holds x0 x8 x9 x12 x13 x1 x3 x4 x2 x5 x6 x10 x11 I) (n : Fin 64) (i s : Fin 128) (g : Fin 8) (e : Fin 128) (d : Fin 1024)

/-- A chunk of an array by groups of lanes, and back. -/
theorem grouped (x : FVec Ideal S8192x1024 .f32) :
    shapeCast S64x128x8x128 x shapeCasts_S8192x1024_S64x128x8x128 (ix4 n i g e) = x (ix2 (tok n i) (lane g e)) := by
  pointwise []
  exact congrArg x (congrArg₂ ix2 (Fin.ext (by show n.val * 128 + i.val = 128 * n.val + i.val; omega))
    (Fin.ext (by show g.val * 128 + e.val = 128 * g.val + e.val; omega)))

theorem ungrouped (x : FVec Ideal S64x128x8x128 .f32) :
    shapeCast S8192x1024 x shapeCasts_S64x128x8x128_S8192x1024 (ix2 (tok n i) (lane g e)) = x (ix4 n i g e) := by
  pointwise []
  refine congrArg x ?_
  rw [show (⟨(tok n i).val / 128, _⟩ : Fin 64) = n from chunkOf_tok n i, show (⟨(tok n i).val % 128, _⟩ : Fin 128) = i from placeOf_tok n i,
    show (⟨(lane g e).val / 128, _⟩ : Fin 8) = g from group_lane g e,
    show (⟨(lane g e).val % 128, _⟩ : Fin 128) = e from Fin.ext (by show (128 * g.val + e.val) % 128 = e.val; omega)]

include H

theorem v94_at : val_main_v94 (F := Ideal) x0 x1 x2 x3 x4 (ix4 n s g e) = (normed I.lg I.lb (I.v n) s (lane g e) : EReal) :=
  (grouped n s g e _).trans (v93_at H (tok n s) (lane g e))

omit H in
theorem mask_at : val_main_v96 (F := Ideal) (ix2 i s) = if s.val ≤ i.val then 1#1 else 0#1 := by
  pointwise [val_main_v96, val_main_v95, val_main_call0_v0, val_main_call0_c, val_main_call0_v1, val_main_call0_v2, val_main_call0_v3,
    val_main_call0_v4, val_main_call0_c_0, val_main_call0_v5, val_main_c]
  rw [show IntOp.addi (BitVec.ofNat 32 i.val) 0#32 = BitVec.ofNat 32 i.val from BitVec.add_zero _, word_order]
  split <;> rfl

omit H in
theorem mask3_at : val_main_v99_1 (F := Ideal) (ix3 g i s) = if s.val ≤ i.val then 1#1 else 0#1 := by
  rw [← mask_at]
  unfold val_main_v99_1 val_main_v97
  generalize val_main_v96 (F := Ideal) = x
  pointwise []

theorem v99_at : val_main_v99_0 (F := Ideal) x5 (ix3 g i s) = (causal I.ws g i s : EReal) := by
  have h := mask3_at i s g
  unfold val_main_v99_0 val_main_v98
  generalize val_main_v99_1 (F := Ideal) = x at h ⊢
  pointwise [val_main_cst_25]
  rw [h, H.ws, select_if, causal, apply_ite Real.toEReal, EReal.coe_zero]

theorem v100_at : val_main_v100 (F := Ideal) x0 x1 x2 x3 x4 x5 (ix4 g n e i) = ((∑ s, normed I.lg I.lb (I.v n) s (lane g e) * causal I.ws g i s : ℝ) : EReal) := by
  have h := fun s => v94_at H n s g e
  have h' := fun s => v99_at H i s g
  unfold val_main_v100
  generalize val_main_v94 (F := Ideal) x0 x1 x2 x3 x4 = x at h ⊢
  generalize val_main_v99_0 (F := Ideal) x5 = y at h' ⊢
  pointwise []
  simp only [h, h', ← EReal.coe_mul, sum_real]

theorem v105_at : val_main_v105 (F := Ideal) x0 x1 x2 x3 x4 x5 x6 (ix4 n i g e) = (mixed I.lg I.lb I.ws I.bs (I.v n) i (lane g e) : EReal) := by
  have h := v100_at H n i g e
  unfold val_main_v105 val_main_v104 val_main_v103 val_main_v102 val_main_v101
  generalize val_main_v100 (F := Ideal) x0 x1 x2 x3 x4 x5 = x at h ⊢
  pointwise []
  rw [h, H.bs, ← EReal.coe_add, mixed, group_lane]
  simp only [mul_comm]

theorem v106_at : val_main_v106 (F := Ideal) x0 x1 x2 x3 x4 x5 x6 (ix2 (tok n i) d) = (mixed I.lg I.lb I.ws I.bs (I.v n) i d : EReal) := by
  obtain ⟨g, e, rfl⟩ := lane_of d
  exact (ungrouped n i g e _).trans (v105_at H n i g e)

theorem v108_at : val_main_v108 (F := Ideal) x0 x1 x2 x8 (ix2 (tok n i) d) = (dmix (I.u n) (I.da n) i d : EReal) := by
  rw [val_main_v108_apply, v45_at H, H.a]
  exact (EReal.coe_mul _ _).symm.trans (congrArg _ (mul_comm _ _))

theorem v110_at : val_main_v110 (F := Ideal) x0 x1 x2 x8 (ix4 n i g e) = (dmix (I.u n) (I.da n) i (lane g e) : EReal) :=
  (grouped n i g e _).trans (v108_at H n i (lane g e))

theorem v109_at : val_main_v109 (F := Ideal) x0 x1 x2 x3 x4 x5 x6 x8 (ix2 (tok n i) d) = ((I.da n i d * mixed I.lg I.lb I.ws I.bs (I.v n) i d : ℝ) : EReal) := by
  rw [val_main_v109_apply, v106_at H, H.a]
  exact (EReal.coe_mul _ _).symm

/-! ## Through the mixing -/

theorem v115_at : val_main_v115 (F := Ideal) x0 x1 x2 x8 (ix4 g n e i) = (dmix (I.u n) (I.da n) i (lane g e) : EReal) := by
  have h := v110_at H n i g e
  unfold val_main_v115
  generalize val_main_v110 (F := Ideal) x0 x1 x2 x8 = x at h ⊢
  pointwise []
  exact h

theorem v117_at : val_main_v117 (F := Ideal) x0 x1 x2 x5 x8 (ix4 g n e s) = (dnormed I.ws (I.u n) (I.da n) s (lane g e) : EReal) := by
  have h := fun i => v115_at H n i g e
  have h' := fun i => v99_at H i s g
  unfold val_main_v117
  generalize val_main_v115 (F := Ideal) x0 x1 x2 x8 = x at h ⊢
  generalize val_main_v99_0 (F := Ideal) x5 = y at h' ⊢
  pointwise []
  simp only [h, h', ← EReal.coe_mul, sum_real, dnormed, group_lane, mul_comm]

theorem v120_at : val_main_v120 (F := Ideal) x0 x1 x2 x5 x8 (ix2 (tok n s) d) = (dnormed I.ws (I.u n) (I.da n) s d : EReal) := by
  obtain ⟨g, e, rfl⟩ := lane_of d
  have h := v117_at H n s g e
  refine (ungrouped n s g e _).trans ?_
  unfold val_main_v118
  generalize val_main_v117 (F := Ideal) x0 x1 x2 x5 x8 = x at h ⊢
  pointwise []
  exact h

theorem v116_at : val_main_v116 (F := Ideal) x0 x1 x2 x3 x4 x8 (ix3 g i s) = ((∑ n, Sgu.dws I.lg I.lb (I.u n) (I.v n) (I.da n) g i s : ℝ) : EReal) := by
  have h := fun n e => v115_at H n i g e
  have h' := fun n e => v94_at H n s g e
  unfold val_main_v116
  generalize val_main_v115 (F := Ideal) x0 x1 x2 x8 = x at h ⊢
  generalize val_main_v94 (F := Ideal) x0 x1 x2 x3 x4 = y at h' ⊢
  pointwise []
  simp only [h, h', ← EReal.coe_mul, sum_real, Sgu.dws]

theorem v119_at : val_main_v119 (F := Ideal) x0 x1 x2 x3 x4 x8 (ix3 g i s) = (I.dws g i s : EReal) := by
  have h := mask3_at i s g
  have h' := v116_at H i s g
  unfold val_main_v119 val_main_call2_v0
  generalize val_main_v99_1 (F := Ideal) = x at h ⊢
  generalize val_main_v116 (F := Ideal) x0 x1 x2 x3 x4 x8 = y at h' ⊢
  pointwise [val_main_call2_cst]
  rw [h, h', select_if, Inputs.dws, apply_ite Real.toEReal, EReal.coe_zero]

end Cert.SguRefIdeal.Row

end
-- ==== Proof.SguRefGrad.lean ====
/- What the gating unit's reference returns: the gradients at the projection, at its input and at the parameters. -/
module

public import proofs.«01_k».proof.Proof.SguRefChunk

@[expose] public section

set_option maxRecDepth 16384

noncomputable section

namespace Cert.SguRefIdeal.Row

open Cert.SguRefIdeal Cert.SguRefIdeal.Gen Cert.SguRefIdeal.Read Cert.Step Cert.Step.Sgu Idealize.ShloMosaic Idealize.ShloMosaic.TcCoe
  Idealize.ShloMosaic.StableHlo

/-- The derivative as it falls out of differentiating the rectification. -/
theorem slope_eq (u y : ℝ) : y * (1 / 2 * (1 + bend u)) + c₀ * (1 / 2 * (u * y) * ((1 + bend u) * (1 - bend u)))
    + c₁ * (c₀ * (1 / 2 * (u * y) * ((1 + bend u) * (1 - bend u)))) * (3 * (u * u)) = y * Sgu.slope u := by
  unfold Sgu.slope
  ring

variable {x0 x7 x8 x9 x12 x13 : FVec Ideal S8192x1024 .f32} {x1 x3 x4 : FVec Ideal S1x1024 .f32} {x2 : FVec Ideal S1024x5632 .f32}
  {x5 : FVec Ideal S8x128x128 .f32} {x6 : FVec Ideal S8x128 .f32} {x10 x11 : FVec Ideal S8192x256 .f32}
  {I : Inputs} (H : Holds x0 x8 x9 x12 x13 x1 x3 x4 x2 x5 x6 x10 x11 I) (n : Fin 64) (i s : Fin 128) (g : Fin 8) (e : Fin 128) (d : Fin 1024) (o : Fin 1)

include H

/-! ## At the two halves -/

theorem v127_at : val_main_v127 (F := Ideal) x0 x1 x2 x3 x5 x8 (ix2 (tok n s) d) = ((dnormed I.ws (I.u n) (I.da n) s d * I.lg d : ℝ) : EReal) := by
  have h := v120_at H n s d
  unfold val_main_v127 val_main_v126
  generalize val_main_v120 (F := Ideal) x0 x1 x2 x5 x8 = x at h ⊢
  pointwise []
  rw [h, H.lg, ← EReal.coe_mul]

theorem v139_at : val_main_v139 (F := Ideal) x0 x1 x2 x3 x5 x8 (ix1 (tok n s)) = (meanBack (dev (I.lit (tok n s))) (fun k => dnormed I.ws (I.u n) (I.da n) s k * I.lg k) : EReal) := by
  have h := v127_at H n s
  have h' := v81_at H (tok n s)
  have h'' := v87_at H (tok n s)
  unfold val_main_v139 val_main_v138 val_main_v137 val_main_v133 val_main_v130 val_main_v129 val_main_v128
  generalize val_main_v127 (F := Ideal) x0 x1 x2 x3 x5 x8 = x at h ⊢
  generalize val_main_v81 (F := Ideal) x0 x1 x2 = y at h' ⊢
  generalize val_main_v87 (F := Ideal) x0 x1 x2 = z at h'' ⊢
  pointwise [val_main_cst_30, val_main_cst_32, val_main_cst_33]
  simp only [h, h', h'', ← EReal.coe_mul, sum_real, div_1024, Fin.sum_univ_one, meanBack]

theorem v141_at : val_main_v141 (F := Ideal) x0 x1 x2 x3 x5 x8 (ix2 (tok n s) d) = ((meanBack (dev (I.lit (tok n s))) (fun k => dnormed I.ws (I.u n) (I.da n) s k * I.lg k)
    * (2 * dev (I.lit (tok n s)) d) : ℝ) : EReal) := by
  have h := v139_at H n s
  have h' := v72_at H (tok n s) d
  unfold val_main_v141 val_main_v140 val_main_v75 val_main_v74
  generalize val_main_v139 (F := Ideal) x0 x1 x2 x3 x5 x8 = x at h ⊢
  generalize val_main_v72 (F := Ideal) x0 x1 x2 = y at h' ⊢
  pointwise [val_main_cst_20]
  simp only [h, h', word_two, ← EReal.coe_mul]

theorem v132_at : val_main_v132 (F := Ideal) x0 x1 x2 x3 x5 x8 (ix2 (tok n s) d) = ((dnormed I.ws (I.u n) (I.da n) s d * I.lg d * rinv (dev (I.lit (tok n s))) : ℝ) : EReal) := by
  have h := v127_at H n s d
  have h' := v84_at H (tok n s) 0
  unfold val_main_v132 val_main_v131
  generalize val_main_v127 (F := Ideal) x0 x1 x2 x3 x5 x8 = x at h ⊢
  generalize val_main_v84 (F := Ideal) x0 x1 x2 = y at h' ⊢
  pointwise []
  rw [h, h', ← EReal.coe_mul]

theorem v151_at : val_main_v151 (F := Ideal) x0 x1 x2 x3 x5 x8 (ix2 (tok n s) d)
    = (back (I.lit (tok n s)) (fun k => dnormed I.ws (I.u n) (I.da n) s k * I.lg k) d : EReal) := by
  have h := v132_at H n s
  have h' := v141_at H n s
  unfold val_main_v151 val_main_v150 val_main_v149 val_main_v148 val_main_v147 val_main_v146 val_main_v145 val_main_v144 val_main_v143 val_main_v142 val_main_v136 val_main_v135 val_main_v134
  generalize val_main_v132 (F := Ideal) x0 x1 x2 x3 x5 x8 = x at h ⊢
  generalize val_main_v141 (F := Ideal) x0 x1 x2 x3 x5 x8 = y at h' ⊢
  pointwise [val_main_cst_31, val_main_cst_34, val_main_cst_35, val_main_cst_36]
  simp only [h, h', ← EReal.coe_neg, ← EReal.coe_add, sum_real, div_1024, Fin.sum_univ_one]
  exact congrArg _ (back_eq _ (fun k => dnormed I.ws (I.u n) (I.da n) s k * I.lg k) d)

theorem v163_at : val_main_v163 (F := Ideal) x0 x1 x2 x3 x5 x8 (ix2 (tok n s) d) = (I.dv n s d : EReal) := by
  have h := v151_at H n s d
  have h1 := v19_at H (tok n s) d
  have h2 := v65_at H (tok n s) d
  have h3 := v61_at H (tok n s) d
  have h4 := v50_at H (tok n s) d
  unfold val_main_v163 val_main_v162 val_main_v161 val_main_v160 val_main_v159 val_main_v158 val_main_v157 val_main_v156 val_main_v155 val_main_v154 val_main_v153 val_main_v152
  generalize val_main_v151 (F := Ideal) x0 x1 x2 x3 x5 x8 = x at h ⊢
  generalize val_main_v19 (F := Ideal) x0 x1 x2 = y1 at h1 ⊢
  generalize val_main_v65 (F := Ideal) x0 x1 x2 = y2 at h2 ⊢
  generalize val_main_v61 (F := Ideal) x0 x1 x2 = y3 at h3 ⊢
  generalize val_main_v50 (F := Ideal) x0 x1 x2 = y4 at h4 ⊢
  pointwise [val_main_cst_37, val_main_cst_38, val_main_cst_39]
  simp only [h, h1, h2, h3, h4, word_half, word_c₀, word_c₁, ← EReal.coe_mul, ← EReal.coe_add]
  exact congrArg _ (slope_eq _ _)

theorem v175_at : val_main_v175 (F := Ideal) x0 x1 x2 x3 x4 x5 x6 x8 (ix2 (tok n i) d) = (I.du n i d : EReal) := by
  have h := v109_at H n i d
  have h1 := v18_at H (tok n i) d
  have h2 := v44_at H (tok n i) d
  have h3 := v40_at H (tok n i) d
  have h4 := v29_at H (tok n i) d
  unfold val_main_v175 val_main_v174 val_main_v173 val_main_v172 val_main_v171 val_main_v170 val_main_v169 val_main_v168 val_main_v167 val_main_v166 val_main_v165 val_main_v164
  generalize val_main_v109 (F := Ideal) x0 x1 x2 x3 x4 x5 x6 x8 = x at h ⊢
  generalize val_main_v18 (F := Ideal) x0 x1 x2 = y1 at h1 ⊢
  generalize val_main_v44 (F := Ideal) x0 x1 x2 = y2 at h2 ⊢
  generalize val_main_v40 (F := Ideal) x0 x1 x2 = y3 at h3 ⊢
  generalize val_main_v29 (F := Ideal) x0 x1 x2 = y4 at h4 ⊢
  pointwise [val_main_cst_40, val_main_cst_41, val_main_cst_42]
  simp only [h, h1, h2, h3, h4, word_half, word_c₀, word_c₁, ← EReal.coe_mul, ← EReal.coe_add]
  exact congrArg _ (slope_eq _ _)

/-! ## At the projection -/

theorem v176_at (j : Fin 5632) : val_main_v176 (F := Ideal) x0 x1 x2 x3 x4 x5 x6 x8 x9 x10 x11 x12 x13 (ix2 (tok n i) j) = (I.dproj n i j : EReal) := by
  have h := v175_at H n i
  have h' := v163_at H n i
  unfold val_main_v176
  generalize val_main_v175 (F := Ideal) x0 x1 x2 x3 x4 x5 x6 x8 = x at h ⊢
  generalize val_main_v163 (F := Ideal) x0 x1 x2 x3 x5 x8 = y at h' ⊢
  pointwise []
  unfold Inputs.dproj
  by_cases c1 : j.val < 1024
  · rw [dif_pos c1, dif_pos c1]; exact h _
  rw [dif_neg c1, dif_neg c1]
  by_cases c2 : j.val < 2048
  · rw [dif_pos (show j.val - 1024 < 1024 by omega), dif_pos c2]
    exact (h' _).trans (congrArg Real.toEReal (congrArg _ (Fin.ext (show j.val - 1024 = j.val - 1024 by omega))))
  rw [dif_neg (show ¬ j.val - 1024 < 1024 by omega), dif_neg c2]
  by_cases c3 : j.val < 3072
  · rw [dif_pos (show j.val - 1024 - 1024 < 1024 by omega), dif_pos c3]
    exact (H.q (tok n i) _).trans (congrArg Real.toEReal (congrArg _ (Fin.ext (show j.val - 1024 - 1024 = j.val - 2048 by omega))))
  rw [dif_neg (show ¬ j.val - 1024 - 1024 < 1024 by omega), dif_neg c3]
  by_cases c4 : j.val < 3328
  · rw [dif_pos (show j.val - 1024 - 1024 - 1024 < 256 by omega), dif_pos c4]
    exact (H.k (tok n i) _).trans (congrArg Real.toEReal (congrArg _ (Fin.ext (show j.val - 1024 - 1024 - 1024 = j.val - 3072 by omega))))
  rw [dif_neg (show ¬ j.val - 1024 - 1024 - 1024 < 256 by omega), dif_neg c4]
  by_cases c5 : j.val < 3584
  · rw [dif_pos (show j.val - 1024 - 1024 - 1024 - 256 < 256 by omega), dif_pos c5]
    exact (H.v (tok n i) _).trans (congrArg Real.toEReal (congrArg _ (Fin.ext (show j.val - 1024 - 1024 - 1024 - 256 = j.val - 3328 by omega))))
  rw [dif_neg (show ¬ j.val - 1024 - 1024 - 1024 - 256 < 256 by omega), dif_neg c5]
  by_cases c6 : j.val < 4608
  · rw [dif_pos (show j.val - 1024 - 1024 - 1024 - 256 - 256 < 1024 by omega), dif_pos c6]
    exact (H.ga (tok n i) _).trans (congrArg Real.toEReal (congrArg _ (Fin.ext (show j.val - 1024 - 1024 - 1024 - 256 - 256 = j.val - 3584 by omega))))
  rw [dif_neg (show ¬ j.val - 1024 - 1024 - 1024 - 256 - 256 < 1024 by omega), dif_neg c6]
  exact (H.gb (tok n i) _).trans (congrArg Real.toEReal (congrArg _ (Fin.ext (show j.val - 1024 - 1024 - 1024 - 256 - 256 - 1024 = j.val - 4608 by omega))))

theorem v198_at (j : Fin 5632) : val_main_v198 (F := Ideal) x0 x1 x2 x3 x4 x5 x6 x8 x9 x10 x11 x12 x13 (ix2 (tok n i) j) = (I.dproj n i j : EReal) := v176_at H n i j

theorem v177_at : val_main_v177 (F := Ideal) x0 x1 x2 x3 x4 x5 x6 x8 x9 x10 x11 x12 x13 (ix2 (tok n i) d) = (I.dh n i d : EReal) := by
  have h := v176_at H n i
  unfold val_main_v177
  generalize val_main_v176 (F := Ideal) x0 x1 x2 x3 x4 x5 x6 x8 x9 x10 x11 x12 x13 = x at h ⊢
  pointwise []
  simp only [h, H.w, ← EReal.coe_mul, sum_real, Inputs.dh]

theorem v182_at : val_main_v182 (F := Ideal) x0 x1 x2 x3 x4 x5 x6 x8 x9 x10 x11 x12 x13 (ix2 (tok n i) d) = ((I.dh n i d * I.G d : ℝ) : EReal) := by
  have h := v177_at H n i d
  unfold val_main_v182 val_main_v181
  generalize val_main_v177 (F := Ideal) x0 x1 x2 x3 x4 x5 x6 x8 x9 x10 x11 x12 x13 = x at h ⊢
  pointwise []
  rw [h, H.g, ← EReal.coe_mul]

theorem v192_at : val_main_v192 (F := Ideal) x0 x1 x2 x3 x4 x5 x6 x8 x9 x10 x11 x12 x13 (ix1 (tok n i)) = (meanBack (I.X (tok n i)) (fun k => I.dh n i k * I.G k) : EReal) := by
  have h := v182_at H n i
  have h' := v11_at H (tok n i)
  unfold val_main_v192 val_main_v191 val_main_v190 val_main_v189 val_main_v185 val_main_v184 val_main_v183
  generalize val_main_v182 (F := Ideal) x0 x1 x2 x3 x4 x5 x6 x8 x9 x10 x11 x12 x13 = x at h ⊢
  generalize val_main_v11 (F := Ideal) x0 = y at h' ⊢
  pointwise [val_main_cst_44, val_main_cst_45, val_main_cst_46]
  simp only [h, h', H.x, ← EReal.coe_mul, sum_real, div_1024, Fin.sum_univ_one, meanBack]

theorem v197_at : val_main_v197 (F := Ideal) x0 x1 x2 x3 x4 x5 x6 x7 x8 x9 x10 x11 x12 x13 (ix2 (tok n i) d) = x7 (ix2 (tok n i) d) + (I.dx n i d : EReal) := by
  have h := v192_at H n i
  have h1 := v182_at H n i d
  have h2 := v8_at H (tok n i) 0
  unfold val_main_v197 val_main_v196 val_main_v195 val_main_v194 val_main_v193 val_main_v188 val_main_v187 val_main_v186
  generalize val_main_v192 (F := Ideal) x0 x1 x2 x3 x4 x5 x6 x8 x9 x10 x11 x12 x13 = x at h ⊢
  generalize val_main_v182 (F := Ideal) x0 x1 x2 x3 x4 x5 x6 x8 x9 x10 x11 x12 x13 = y at h1 ⊢
  generalize val_main_v8 (F := Ideal) x0 = z at h2 ⊢
  pointwise []
  simp only [h, h1, h2, H.x, ← EReal.coe_mul]
  rw [add_assoc, add_assoc, ← EReal.coe_add, ← EReal.coe_add, Inputs.dx, ← normBack_eq]
  congr 2
  ring

/-! ## The sums over the tokens -/

theorem v180_at : val_main_v180 (F := Ideal) x0 x1 x2 x3 x4 x5 x6 x8 x9 x10 x11 x12 x13 (ix2 o d) = (I.dg d : EReal) := by
  have h := fun t => v13_at H t d
  have h' := fun t : Fin 8192 => (congrArg (fun t => val_main_v177 (F := Ideal) x0 x1 x2 x3 x4 x5 x6 x8 x9 x10 x11 x12 x13 (ix2 t d)) (tok_of t)).symm.trans (v177_at H (chunkOf t) (placeOf t) d)
  unfold val_main_v180 val_main_v179 val_main_v178
  generalize val_main_v177 (F := Ideal) x0 x1 x2 x3 x4 x5 x6 x8 x9 x10 x11 x12 x13 = x at h' ⊢
  generalize val_main_v13 (F := Ideal) x0 = y at h ⊢
  pointwise [val_main_cst_43]
  simp only [h, h', ← EReal.coe_mul, sum_real]
  rw [sum_tokens, Inputs.dg]
  simp only [chunkOf_tok, placeOf_tok, mul_comm]

theorem v122_at : val_main_v122 (F := Ideal) x0 x1 x2 x5 x8 (ix2 o d) = (I.dlb d : EReal) := by
  have h' := fun t : Fin 8192 => (congrArg (fun t => val_main_v120 (F := Ideal) x0 x1 x2 x5 x8 (ix2 t d)) (tok_of t)).symm.trans (v120_at H (chunkOf t) (placeOf t) d)
  unfold val_main_v122 val_main_v121
  generalize val_main_v120 (F := Ideal) x0 x1 x2 x5 x8 = x at h' ⊢
  pointwise [val_main_cst_28]
  simp only [h', sum_real]
  rw [sum_tokens, Inputs.dlb]
  simp only [chunkOf_tok, placeOf_tok]

theorem v125_at : val_main_v125 (F := Ideal) x0 x1 x2 x5 x8 (ix2 o d) = (I.dlg d : EReal) := by
  have h := fun t => v89_at H t d
  have h' := fun t : Fin 8192 => (congrArg (fun t => val_main_v120 (F := Ideal) x0 x1 x2 x5 x8 (ix2 t d)) (tok_of t)).symm.trans (v120_at H (chunkOf t) (placeOf t) d)
  unfold val_main_v125 val_main_v124 val_main_v123
  generalize val_main_v120 (F := Ideal) x0 x1 x2 x5 x8 = x at h' ⊢
  generalize val_main_v89 (F := Ideal) x0 x1 x2 = y at h ⊢
  pointwise [val_main_cst_29]
  simp only [h, h', ← EReal.coe_mul, sum_real]
  rw [sum_tokens, Inputs.dlg]
  simp only [chunkOf_tok, placeOf_tok]
  exact congrArg _ (Finset.sum_congr rfl fun n _ => Finset.sum_congr rfl fun s _ => mul_comm _ _)

omit H in
theorem sum_lanes (x : FVec Ideal S64x128x8x128 .f32) :
    Host.reduceAdd x (constant S_ FTy.f32 0#32) reducesTo_S64x128x8x128_S128x8_d0_3 h_S_ (ix2 i g) = ∑ n, ∑ e, x (ix4 n i g e) := by
  show Ideal.ofBits .f32 0#32 + ∑ k ∈ Finset.univ.filter (fun k => reducesTo_S64x128x8x128_S128x8_d0_3.drop k = ix2 i g), x k = _
  rw [Finset.sum_filter_eq_sum_of_fiber (fun k => reducesTo_S64x128x8x128_S128x8_d0_3.drop k = ix2 i g)
    (fun k : Fin 64 × Fin 128 => ix4 k.1 i g k.2) ?_ ?_, Fintype.sum_prod_type]
  · simp [Ideal.ofBits, Ideal.ieee]
  · intro k k' h
    exact Prod.ext (congrFun h 0) (congrFun h 3)
  · intro k
    constructor
    · intro h
      refine ⟨(k 0, k 3), ?_⟩
      funext b
      apply Fin.ext
      match b with
      | ⟨0, _⟩ => rfl
      | ⟨1, _⟩ => exact (congrArg Fin.val (congrFun h ⟨0, by decide⟩)).symm
      | ⟨2, _⟩ => exact (congrArg Fin.val (congrFun h ⟨1, by decide⟩)).symm
      | ⟨3, _⟩ => rfl
    · rintro ⟨k, rfl⟩
      funext b
      apply Fin.ext
      match b with
      | ⟨0, _⟩ => rfl
      | ⟨1, _⟩ => rfl

omit H in
theorem sum_ones (x : FVec Ideal S1x128x8x1 .f32) :
    Host.reduceAdd x (constant S_ FTy.f32 0#32) reducesTo_S1x128x8x1_S128x8_d0_3 h_S_ (ix2 i g) = x (ix4 0 i g 0) := by
  show Ideal.ofBits .f32 0#32 + ∑ k ∈ Finset.univ.filter (fun k => reducesTo_S1x128x8x1_S128x8_d0_3.drop k = ix2 i g), x k = _
  rw [Finset.sum_filter_eq_sum_of_fiber (fun k => reducesTo_S1x128x8x1_S128x8_d0_3.drop k = ix2 i g) (fun _ : Unit => ix4 0 i g 0) ?_ ?_]
  · simp [Ideal.ofBits, Ideal.ieee]
  · intro k k' _
    rfl
  · intro k
    constructor
    · intro h
      refine ⟨(), ?_⟩
      funext b
      apply Fin.ext
      match b with
      | ⟨0, _⟩ => exact (Nat.lt_one_iff.mp (k 0).isLt).symm
      | ⟨1, _⟩ => exact (congrArg Fin.val (congrFun h ⟨0, by decide⟩)).symm
      | ⟨2, _⟩ => exact (congrArg Fin.val (congrFun h ⟨1, by decide⟩)).symm
      | ⟨3, _⟩ => exact (Nat.lt_one_iff.mp (k 3).isLt).symm
    · rintro ⟨k, rfl⟩
      funext b
      apply Fin.ext
      match b with
      | ⟨0, _⟩ => rfl
      | ⟨1, _⟩ => rfl

theorem v114_at : val_main_v114 (F := Ideal) x0 x1 x2 x8 (ix2 g i) = (I.dbs g i : EReal) := by
  have h : val_main_v111 (F := Ideal) x0 x1 x2 x8 (ix2 i g) = (I.dbs g i : EReal) := by
    refine (sum_lanes i g _).trans ?_
    simp only [v110_at H, sum_real, Inputs.dbs]
  have h' : val_main_v113 (F := Ideal) x0 x1 x2 x8 (ix2 i g) = val_main_v112 (F := Ideal) x0 x1 x2 x8 (ix4 0 i g 0) := sum_ones i g _
  have h'' : val_main_v112 (F := Ideal) x0 x1 x2 x8 (ix4 0 i g 0) = val_main_v111 (F := Ideal) x0 x1 x2 x8 (ix2 i g) := by
    unfold val_main_v112
    generalize val_main_v111 (F := Ideal) x0 x1 x2 x8 = x
    pointwise []
  have e : val_main_v114 (F := Ideal) x0 x1 x2 x8 (ix2 g i) = val_main_v113 (F := Ideal) x0 x1 x2 x8 (ix2 i g) := by
    unfold val_main_v114
    generalize val_main_v113 (F := Ideal) x0 x1 x2 x8 = x
    pointwise []
  rw [e, h', h'', h]

end Cert.SguRefIdeal.Row

end
-- ==== Proof.SguFinal.lean ====
/- What the gate's gradient call's result arrays hold after its run: the reference's results. -/
module

public import proofs.«01_k».proof.Proof.SguHost
public import proofs.«01_k».proof.Proof.SguRefGrad

@[expose] public section

set_option maxRecDepth 16384

noncomputable section

namespace Cert.SguIdeal.Body

open Cert.SguIdeal Cert.SguIdeal.Gen Cert.Step Cert.Step.Sgu Cert.SguRefIdeal.Read Cert.SguRefIdeal.Row
open Idealize.ShloMosaic Idealize.ShloMosaic.TcCoe Idealize.ShloMosaic.Tactic Idealize.ShloMosaic.StableHlo Idealize.SL.Sem

variable {m : (ℓ : Loc nD τ sig) → Buf (Elt Ideal) ℓ} {c : Dev nD}

/-- The last grid point. -/
def lastPt : Fin cfg0.N := ⟨15, lt_of_lt_of_eq (by omega) (show cfg0.N = 16 from N_0).symm⟩

theorem emb16 (t : Fin cfg0.N) (r : Fin 512) (d : Fin 1024) :
    (win0_16.blk t).view.emb (ix2 r d) = (ix2 (place t r) d : S8192x1024.Idx) := by
  funext a
  apply Fin.ext
  fin_cases a <;> blk_simp [idx t, place] <;> rfl

theorem emb17 (t : Fin cfg0.N) (r : Fin 512) (d : Fin 5632) :
    (win0_17.blk t).view.emb (ix2 r d) = (ix2 (place t r) d : S8192x5632.Idx) := by
  funext a
  apply Fin.ext
  fin_cases a <;> blk_simp [idx t, place] <;> rfl

variable {I : Inputs} (H : Holds (argX m c) (argA m c) (argQ m c) (argGa m c) (argGb m c) (argG m c) (argLg m c) (argLb m c) (argW m c)
  (argWs m c) (argBs m c) (argK m c) (argV m c) I)
include H

theorem final16 : (dats m 0 c).arrAt 16 (cfgs 0).N
    = val_main_v197 (F := Ideal) (argX m c) (argG m c) (argW m c) (argLg m c) (argLb m c) (argWs m c) (argBs m c) (argDx m c) (argA m c)
        (argQ m c) (argK m c) (argV m c) (argGa m c) (argGb m c) := by
  refine (dats m 0 c).arrAt_eq_of_covers 16 _ (by decide +kernel) fun t ht y => ?_
  have h : ∀ y : S512x1024.Idx, (left m c t).dx y
      = val_main_v197 (F := Ideal) (argX m c) (argG m c) (argW m c) (argLg m c) (argLb m c) (argWs m c) (argBs m c) (argDx m c) (argA m c)
        (argQ m c) (argK m c) (argV m c) (argGa m c) (argGb m c) ((win0_16.blk t).view.emb y) :=
    forall_ix2 fun r d => by
      obtain ⟨q, i, rfl⟩ := row_of r
      rw [emb16, place_row, ((rows_at m c (point H) t q i).1 d), held_dx, v197_at H]
  blk_simp
  exact h y

set_option maxHeartbeats 1600000 in
theorem final17 : (dats m 0 c).arrAt 17 (cfgs 0).N
    = val_main_v198 (F := Ideal) (argX m c) (argG m c) (argW m c) (argLg m c) (argLb m c) (argWs m c) (argBs m c) (argA m c)
        (argQ m c) (argK m c) (argV m c) (argGa m c) (argGb m c) := by
  refine (dats m 0 c).arrAt_eq_of_covers 17 _ (by decide +kernel) fun t ht y => ?_
  have h : ∀ y : S512x5632.Idx, (left m c t).dproj y
      = val_main_v198 (F := Ideal) (argX m c) (argG m c) (argW m c) (argLg m c) (argLb m c) (argWs m c) (argBs m c) (argA m c)
        (argQ m c) (argK m c) (argV m c) (argGa m c) (argGb m c) ((win0_17.blk t).view.emb y) :=
    forall_ix2 fun r d => by
      obtain ⟨q, i, rfl⟩ := row_of r
      rw [emb17, place_row, ((rows_at m c (point H) t q i).2 d), v198_at H]
  blk_simp
  exact h y

set_option maxHeartbeats 1600000 in
theorem final18 : (dats m 0 c).arrAt 18 (cfgs 0).N
    = val_main_v180 (F := Ideal) (argX m c) (argG m c) (argW m c) (argLg m c) (argLb m c) (argWs m c) (argBs m c) (argA m c) (argQ m c) (argK m c) (argV m c) (argGa m c) (argGb m c) := by
  refine (dats m 0 c).arrAt_eq_of_after_last 18 lastPt (by decide +kernel) _ fun y => ?_
  have S := sums_last m c (point H) lastPt rfl
  have h : ∀ y : S1x1024.Idx, (left m c lastPt).dg y
      = val_main_v180 (F := Ideal) (argX m c) (argG m c) (argW m c) (argLg m c) (argLb m c) (argWs m c) (argBs m c) (argA m c) (argQ m c) (argK m c) (argV m c) (argGa m c) (argGb m c) y :=
    forall_ix2 fun o d => by
      rw [Subsingleton.elim o 0, S.1 d, v180_at H]
  blk_simp
  exact h y

set_option maxHeartbeats 1600000 in
theorem final19 : (dats m 0 c).arrAt 19 (cfgs 0).N
    = val_main_v119 (F := Ideal) (argX m c) (argG m c) (argW m c) (argLg m c) (argLb m c) (argA m c) := by
  refine (dats m 0 c).arrAt_eq_of_after_last 19 lastPt (by decide +kernel) _ fun y => ?_
  have S := sums_last m c (point H) lastPt rfl
  have h : ∀ y : S8x128x128.Idx, (left m c lastPt).dws y
      = val_main_v119 (F := Ideal) (argX m c) (argG m c) (argW m c) (argLg m c) (argLb m c) (argA m c) y :=
    fun y => by
      obtain ⟨g, i, s, rfl⟩ : ∃ g i s, y = (ix3 g i s : S8x128x128.Idx) := ⟨y 0, y 1, y 2, eq_ix3 y⟩
      rw [S.2.1 g i s, v119_at H]
  blk_simp
  exact h y

set_option maxHeartbeats 1600000 in
theorem final20 : (dats m 0 c).arrAt 20 (cfgs 0).N
    = val_main_v114 (F := Ideal) (argX m c) (argG m c) (argW m c) (argA m c) := by
  refine (dats m 0 c).arrAt_eq_of_after_last 20 lastPt (by decide +kernel) _ fun y => ?_
  have S := sums_last m c (point H) lastPt rfl
  have h : ∀ y : S8x128.Idx, bias m c lastPt y
      = val_main_v114 (F := Ideal) (argX m c) (argG m c) (argW m c) (argA m c) y :=
    forall_ix2 fun g i => by
      rw [S.2.2.1 g i, v114_at H]
  blk_simp
  exact h y

set_option maxHeartbeats 1600000 in
theorem final21 : (dats m 0 c).arrAt 21 (cfgs 0).N
    = val_main_v125 (F := Ideal) (argX m c) (argG m c) (argW m c) (argWs m c) (argA m c) := by
  refine (dats m 0 c).arrAt_eq_of_after_last 21 lastPt (by decide +kernel) _ fun y => ?_
  have S := sums_last m c (point H) lastPt rfl
  have h : ∀ y : S1x1024.Idx, (left m c lastPt).dlg y
      = val_main_v125 (F := Ideal) (argX m c) (argG m c) (argW m c) (argWs m c) (argA m c) y :=
    forall_ix2 fun o d => by
      rw [Subsingleton.elim o 0, S.2.2.2.1 d, v125_at H]
  blk_simp
  exact h y

set_option maxHeartbeats 1600000 in
theorem final22 : (dats m 0 c).arrAt 22 (cfgs 0).N
    = val_main_v122 (F := Ideal) (argX m c) (argG m c) (argW m c) (argWs m c) (argA m c) := by
  refine (dats m 0 c).arrAt_eq_of_after_last 22 lastPt (by decide +kernel) _ fun y => ?_
  have S := sums_last m c (point H) lastPt rfl
  have h : ∀ y : S1x1024.Idx, (left m c lastPt).dlb y
      = val_main_v122 (F := Ideal) (argX m c) (argG m c) (argW m c) (argWs m c) (argA m c) y :=
    forall_ix2 fun o d => by
      rw [Subsingleton.elim o 0, S.2.2.2.2 d, v122_at H]
  blk_simp
  exact h y

end Cert.SguIdeal.Body

end
-- ==== Proof.SguClaim.lean ====
/- The gated unit's gradients: the claims about the backward kernel and its reference. -/
module

public import proofs.«01_k».proof.Defs
public import proofs.«01_k».proof.Proof.Gen.Sgu.Skeleton
public import proofs.«01_k».proof.Proof.Gen.SguRefIdeal.Read
public import proofs.«01_k».proof.Proof.SguFinal
public import proofs.«01_k».proof.Proof.Finite
public import Idealize.ShloMosaic.Lib.Claim
public import Idealize.ShloMosaic.Lib.Tactic

@[expose] public section

set_option maxRecDepth 16384

noncomputable section

namespace Cert.Proof.Sgu

open Idealize.ShloMosaic Idealize.ShloMosaic.Tactic Idealize.SL.Sem Cert.Step

instance facts_pre : Cert.Pre_finite_sgu.Facts := by
  constructor <;> decide

/-- At the machine's numbers a named constant is its word. -/
local instance named_bits : Named Bits where
  named _ _ w := Scalar.ofBits w

theorem frame_ideal : Cert.quiescent_SguIdeal := fun m ρ _ => Cert.SguIdeal.Body.frame_all m ρ

theorem frame_ideal_pre : Cert.quiescent_SguIdeal_pre_finite_sgu := fun m ρ _ => Cert.SguIdeal.Body.frame_all m ρ

theorem frame_kernel : Cert.quiescent_Sgu := by
  intro m ρ _
  have h := Cert.SguIdeal.Body.frame_all (F := Bits) m ρ
  exact cast (by sl_kernel_rfl) h

theorem frame_ref : Cert.quiescent_SguRefIdeal := fun m g _ =>
  (θ_run Cert.SguRefIdeal.defs _ _).mono
    (fun r h => ⟨fun c => (h c).2.2.2.2.2.2.2, sem_eq_zero_of_no_sems (by decide) r.2⟩)
    (Cert.SguRefIdeal.Value.run m g)

theorem frame_ref_pre : Cert.quiescent_SguRefIdeal_pre_finite_sgu := fun m g _ => frame_ref m g trivial

/-- The two words of the gelu's slope stand for products of the gelu's constants. -/
theorem preserves : Cert.preserves_Sgu_SguIdeal :=
  ⟨IdealRules.named_const.statement Cert.SguIdeal.κ "gelu_cube" .f32 0x3D122279#32 _ rfl,
    IdealRules.named_const.statement Cert.SguIdeal.κ "gelu_slope" .f32 0x3DDB33B6#32 _ rfl⟩

open Cert.SguIdeal.Body Cert.Step.Sgu in
/-- Under the precondition the arguments' reals are given. -/
theorem holds (m : (ℓ : Loc Cert.SguIdeal.nD Cert.SguIdeal.τ Cert.SguIdeal.sig) → Buf (Elt Ideal) ℓ)
    (hpre : Cert.Pre_SguIdeal_finite_sgu m) (c : Dev Cert.SguIdeal.nD) :
    ∃ I : Step.Sgu.Inputs, Holds (argX m c) (argA m c) (argQ m c) (argGa m c) (argGb m c) (argG m c) (argLg m c) (argLb m c) (argW m c)
      (argWs m c) (argBs m c) (argK m c) (argV m c) I := by
  obtain ⟨h0, h1, h2, h3, h4, h5, h6, h8, h9, h10, h11, h12, h13⟩ := hpre c
  obtain ⟨X, hX⟩ := matrix_real (argX m c) _ _ h0
  obtain ⟨G, hG⟩ := row_real (argG m c) _ _ h1
  obtain ⟨W, hW⟩ := matrix_real (argW m c) _ _ h2
  obtain ⟨lg, hlg⟩ := row_real (argLg m c) _ _ h3
  obtain ⟨lb, hlb⟩ := row_real (argLb m c) _ _ h4
  obtain ⟨bs, hbs⟩ := matrix_real (argBs m c) _ _ h6
  obtain ⟨A, hA⟩ := matrix_real (argA m c) _ _ h8
  obtain ⟨Q, hQ⟩ := matrix_real (argQ m c) _ _ h9
  obtain ⟨K, hK⟩ := matrix_real (argK m c) _ _ h10
  obtain ⟨V, hV⟩ := matrix_real (argV m c) _ _ h11
  obtain ⟨GA, hGA⟩ := matrix_real (argGa m c) _ _ h12
  obtain ⟨GB, hGB⟩ := matrix_real (argGb m c) _ _ h13
  exact ⟨⟨X, G, W, lg, lb, fun g i s => (argWs m c (ix3 g i s)).toReal, bs, A, Q, K, V, GA, GB⟩,
    ⟨hX, hG, hW, hlg, hlb, fun g i s => real_of_finite _ _ _ h5 _, hbs, hA, hQ, hK, hV, hGA, hGB⟩⟩

set_option maxHeartbeats 1600000 in
open Cert.SguIdeal Cert.SguIdeal.Gen Cert.SguIdeal.Body in
/-- The idealized kernel's run: each result holds its window's final array. -/
theorem results (m : (ℓ : Loc Cert.SguIdeal.nD Cert.SguIdeal.τ Cert.SguIdeal.sig) → Buf (Elt Ideal) ℓ)
    (ρ : Dev Cert.SguIdeal.nD → PrngReg) :
    θ_run (Cert.SguIdeal.defs (F := Ideal)) (onTc (τ := Cert.SguIdeal.τ) (Cert.SguIdeal.main (F := Ideal))) ⟨m, fun _ => 0, ρ⟩
      (fun r => ∀ c : Dev Cert.SguIdeal.nD,
        (r.2.mem ((c.tc : Thread Cert.SguIdeal.nD Cert.SguIdeal.τ).loc main_v27_0) = (dats m 0 c).arrAt 16 (cfgs 0).N
        ∧ r.2.mem ((c.tc : Thread Cert.SguIdeal.nD Cert.SguIdeal.τ).loc main_v27_1) = (dats m 0 c).arrAt 17 (cfgs 0).N
        ∧ r.2.mem ((c.tc : Thread Cert.SguIdeal.nD Cert.SguIdeal.τ).loc main_v27_2) = (dats m 0 c).arrAt 18 (cfgs 0).N
        ∧ r.2.mem ((c.tc : Thread Cert.SguIdeal.nD Cert.SguIdeal.τ).loc main_v27_3) = (dats m 0 c).arrAt 19 (cfgs 0).N
        ∧ r.2.mem ((c.tc : Thread Cert.SguIdeal.nD Cert.SguIdeal.τ).loc main_v27_4) = (dats m 0 c).arrAt 20 (cfgs 0).N
        ∧ r.2.mem ((c.tc : Thread Cert.SguIdeal.nD Cert.SguIdeal.τ).loc main_v27_5) = (dats m 0 c).arrAt 21 (cfgs 0).N
        ∧ r.2.mem ((c.tc : Thread Cert.SguIdeal.nD Cert.SguIdeal.τ).loc main_v27_6) = (dats m 0 c).arrAt 22 (cfgs 0).N)) :=
  (θ_run _ _ _).mono (fun r h c => ⟨(h c).1 16, (h c).1 17, (h c).1 18, (h c).1 19, (h c).1 20, (h c).1 21, (h c).1 22⟩) (run_main m ρ)

set_option maxHeartbeats 6400000 in
open Cert.SguIdeal.Body Cert.SguRefIdeal.Read in
theorem algebraic : Cert.algebraic_SguIdeal_SguRefIdeal_pre_finite_sgu := by
  intro m g m' g' hpre hagree
  refine ⟨fun c => (dats m 0 c).arrAt 16 (Cert.SguIdeal.cfgs 0).N, fun c => (dats m 0 c).arrAt 17 (Cert.SguIdeal.cfgs 0).N, fun c => (dats m 0 c).arrAt 18 (Cert.SguIdeal.cfgs 0).N, fun c => (dats m 0 c).arrAt 19 (Cert.SguIdeal.cfgs 0).N, fun c => (dats m 0 c).arrAt 20 (Cert.SguIdeal.cfgs 0).N, fun c => (dats m 0 c).arrAt 21 (Cert.SguIdeal.cfgs 0).N, fun c => (dats m 0 c).arrAt 22 (Cert.SguIdeal.cfgs 0).N, ?_, ?_⟩
  · exact θ_run_mono (θ_run_and (results m g) (Cert.SguIdeal.Body.frame_all m g))
      (fun r h c => ⟨(h.1 c).1, (h.1 c).2.1, (h.1 c).2.2.1, (h.1 c).2.2.2.1, (h.1 c).2.2.2.2.1, (h.1 c).2.2.2.2.2.1, (h.1 c).2.2.2.2.2.2, h.2.1 c⟩)
  · refine (θ_run Cert.SguRefIdeal.defs _ _).mono (fun r h c => ?_) (Cert.SguRefIdeal.Value.run m' g')
    obtain ⟨I, H⟩ := holds m hpre c
    obtain ⟨e0, e1, e2, e3, e4, e5, e6, e7, e8, e9, e10, e11, e12, e13⟩ := hagree c
    obtain ⟨q0, q1, q2, q3, q4, q5, q6, hargs⟩ := h c
    have e : ∀ {α : Sort 1} (f : _ → _ → _ → _ → _ → _ → _ → _ → _ → _ → _ → _ → _ → _ → α), f (m' ((c.tc : Thread Cert.SguRefIdeal.nD Cert.SguRefIdeal.τ).loc Cert.SguRefIdeal.main_arg0))
        (m' ((c.tc : Thread Cert.SguRefIdeal.nD Cert.SguRefIdeal.τ).loc Cert.SguRefIdeal.main_arg1))
        (m' ((c.tc : Thread Cert.SguRefIdeal.nD Cert.SguRefIdeal.τ).loc Cert.SguRefIdeal.main_arg2))
        (m' ((c.tc : Thread Cert.SguRefIdeal.nD Cert.SguRefIdeal.τ).loc Cert.SguRefIdeal.main_arg3))
        (m' ((c.tc : Thread Cert.SguRefIdeal.nD Cert.SguRefIdeal.τ).loc Cert.SguRefIdeal.main_arg4))
        (m' ((c.tc : Thread Cert.SguRefIdeal.nD Cert.SguRefIdeal.τ).loc Cert.SguRefIdeal.main_arg5))
        (m' ((c.tc : Thread Cert.SguRefIdeal.nD Cert.SguRefIdeal.τ).loc Cert.SguRefIdeal.main_arg6))
        (m' ((c.tc : Thread Cert.SguRefIdeal.nD Cert.SguRefIdeal.τ).loc Cert.SguRefIdeal.main_arg7))
        (m' ((c.tc : Thread Cert.SguRefIdeal.nD Cert.SguRefIdeal.τ).loc Cert.SguRefIdeal.main_arg8))
        (m' ((c.tc : Thread Cert.SguRefIdeal.nD Cert.SguRefIdeal.τ).loc Cert.SguRefIdeal.main_arg9))
        (m' ((c.tc : Thread Cert.SguRefIdeal.nD Cert.SguRefIdeal.τ).loc Cert.SguRefIdeal.main_arg10))
        (m' ((c.tc : Thread Cert.SguRefIdeal.nD Cert.SguRefIdeal.τ).loc Cert.SguRefIdeal.main_arg11))
        (m' ((c.tc : Thread Cert.SguRefIdeal.nD Cert.SguRefIdeal.τ).loc Cert.SguRefIdeal.main_arg12))
        (m' ((c.tc : Thread Cert.SguRefIdeal.nD Cert.SguRefIdeal.τ).loc Cert.SguRefIdeal.main_arg13))
        = f (argX m c) (argG m c) (argW m c) (argLg m c) (argLb m c) (argWs m c) (argBs m c) (argDx m c) (argA m c) (argQ m c) (argK m c) (argV m c) (argGa m c) (argGb m c) := fun f => by rw [e0, e1, e2, e3, e4, e5, e6, e7, e8, e9, e10, e11, e12, e13]
    exact ⟨((q0.trans (val_main_v197_eq _)).trans (e (val_main_v197 (F := Ideal)))).trans (final16 H).symm,
      ((q1.trans (val_main_v198_eq _)).trans (e (fun a0 a1 a2 a3 a4 a5 a6 _ a8 a9 a10 a11 a12 a13 => val_main_v198 (F := Ideal) a0 a1 a2 a3 a4 a5 a6 a8 a9 a10 a11 a12 a13))).trans (final17 H).symm,
      ((q2.trans (val_main_v180_eq _)).trans (e (fun a0 a1 a2 a3 a4 a5 a6 _ a8 a9 a10 a11 a12 a13 => val_main_v180 (F := Ideal) a0 a1 a2 a3 a4 a5 a6 a8 a9 a10 a11 a12 a13))).trans (final18 H).symm,
      ((q3.trans (val_main_v119_eq _)).trans (e (fun a0 a1 a2 a3 a4 _ _ _ a8 _ _ _ _ _ => val_main_v119 (F := Ideal) a0 a1 a2 a3 a4 a8))).trans (final19 H).symm,
      ((q4.trans (val_main_v114_eq _)).trans (e (fun a0 a1 a2 _ _ _ _ _ a8 _ _ _ _ _ => val_main_v114 (F := Ideal) a0 a1 a2 a8))).trans (final20 H).symm,
      ((q5.trans (val_main_v125_eq _)).trans (e (fun a0 a1 a2 _ _ a5 _ _ a8 _ _ _ _ _ => val_main_v125 (F := Ideal) a0 a1 a2 a5 a8))).trans (final21 H).symm,
      ((q6.trans (val_main_v122_eq _)).trans (e (fun a0 a1 a2 _ _ a5 _ _ a8 _ _ _ _ _ => val_main_v122 (F := Ideal) a0 a1 a2 a5 a8))).trans (final22 H).symm, hargs⟩

end Cert.Proof.Sgu

end
-- ==== Proof.MergeFrame.lean ====
/- The merge's backward frame: what each grid point leaves, the body's triple at every point, and the launch. -/
module

public import proofs.«01_k».proof.Proof.Gen.MergeIdeal.Frame.RunC
public import Idealize.ShloMosaic.Lib.Pipeline.FrameBody
public import Idealize.ShloMosaic.Lib.VecWindow
public import Idealize.ShloMosaic.Lib.Tactic
public import Idealize.ShloMosaic.Lib.Claim

@[expose] public section

set_option maxRecDepth 16384

noncomputable section

namespace Cert.MergeIdeal.Body

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each point leaves -/

/-- The four blocks a point writes back, the gain's sum so far, the three weight sums in the scratch, and the three results outside. -/
structure Left (F : FTy → Type) (c : Dev nD) where
  dga : Vec F S512x1024 .bf16
  dgb : Vec F S512x1024 .bf16
  da : Vec F S512x1024 .f32
  datt : Vec F S512x1024 .bf16
  dg : Vec F S1x1024 .f32
  sums : Vec F S3x1024x1024 .f32
  wa : HbBuf0 (F := F) c hbM0_0
  wb : HbBuf0 (F := F) c hbM0_1
  wo : HbBuf0 (F := F) c hbM0_2

/-- A buffer some stores were made into. -/
def stored (c : Dev nD) {s : Shape} {e : EltTy} (a : Memref sig .tc .vmem s e) (L : List (View.Piece (Elt F) s e)) : sProp 𝕄 :=
  iprop(∃ f, a.view.loc (c : Thread nD τ) ↦[a.view.set]{fullShare} a.view.writes (Elt F) f L)

/-- Stores that cover the buffer settle what it holds. -/
theorem settled (c : Dev nD) {s : Shape} {e : EltTy} (a : Memref sig .tc .vmem s e) (L : List (View.Piece (Elt F) s e))
    (h : ∀ y : s.Idx, ∃ p ∈ L, y ∈ p.1.set) : stored c a L ⊢ owns (c : Thread nD τ) a fullShare (View.canon L) := by
  unfold stored owns
  iintro ⟨%f, H⟩
  iexists _; isplitr
  swap; · iexact H
  ipureintro; exact View.read_writes_eq_canon _ _ _ h

/-- The stores into each of the six buffers, the last one first, and the results outside. -/
structure Stores (F : FTy → Type) (c : Dev nD) where
  dga : List (View.Piece (Elt F) S512x1024 .bf16)
  dgb : List (View.Piece (Elt F) S512x1024 .bf16)
  da : List (View.Piece (Elt F) S512x1024 .f32)
  datt : List (View.Piece (Elt F) S512x1024 .bf16)
  dg : List (View.Piece (Elt F) S1x1024 .f32)
  sums : List (View.Piece (Elt F) S3x1024x1024 .f32)
  wa : HbBuf0 (F := F) c hbM0_0
  wb : HbBuf0 (F := F) c hbM0_1
  wo : HbBuf0 (F := F) c hbM0_2

def Stores.left {c : Dev nD} (L : Stores F c) : Left F c :=
  ⟨View.canon L.dga, View.canon L.dgb, View.canon L.da, View.canon L.datt, View.canon L.dg, View.canon L.sums, L.wa, L.wb, L.wo⟩

/-- The stores cover each buffer. -/
structure Stores.Whole {c : Dev nD} (L : Stores F c) : Prop where
  dga : ∀ y, ∃ p ∈ L.dga, y ∈ p.1.set
  dgb : ∀ y, ∃ p ∈ L.dgb, y ∈ p.1.set
  da : ∀ y, ∃ p ∈ L.da, y ∈ p.1.set
  datt : ∀ y, ∃ p ∈ L.datt, y ∈ p.1.set
  dg : ∀ y, ∃ p ∈ L.dg, y ∈ p.1.set
  sums : ∀ y, ∃ p ∈ L.sums, y ∈ p.1.set

/-- A run's witnesses, as one record. -/
def packed {c : Dev nD} {P : List (View.Piece (Elt F) S512x1024 .bf16) → List (View.Piece (Elt F) S512x1024 .bf16) → List (View.Piece (Elt F) S512x1024 .f32)
      → List (View.Piece (Elt F) S512x1024 .bf16) → List (View.Piece (Elt F) S1x1024 .f32) → List (View.Piece (Elt F) S3x1024x1024 .f32)
      → HbBuf0 (F := F) c hbM0_0 → HbBuf0 (F := F) c hbM0_1 → HbBuf0 (F := F) c hbM0_2 → Prop}
    (r : Σ' a, Σ' b, Σ' d, Σ' e, Σ' g, Σ' s, Σ' u, Σ' v, { w // P a b d e g s u v w }) :
    { L : Stores F c // P L.dga L.dgb L.da L.datt L.dg L.sums L.wa L.wb L.wo } :=
  ⟨⟨r.1, r.2.1, r.2.2.1, r.2.2.2.1, r.2.2.2.2.1, r.2.2.2.2.2.1, r.2.2.2.2.2.2.1, r.2.2.2.2.2.2.2.1, r.2.2.2.2.2.2.2.2.1⟩, r.2.2.2.2.2.2.2.2.2⟩

/-- The body's run at the first point. -/
def runFirst (c : Dev nD) (t : Fin cfg0.N) (h0 : cond0_0 (grid0.coords t)) (h1 : ¬ cond0_1 (grid0.coords t)) :=
  packed (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v29_5) (V m c main_v29_6) (V m c main_v29_7))

/-- What it leaves. -/
def leftFirst (c : Dev nD) (t : Fin cfg0.N) (h0 : cond0_0 (grid0.coords t)) (h1 : ¬ cond0_1 (grid0.coords t)) : Left F c := (runFirst m c t h0 h1).1.left

/-- Its stores cover each buffer. -/
theorem wholeFirst (c : Dev nD) (t : Fin cfg0.N) (h0 : cond0_0 (grid0.coords t)) (h1 : ¬ cond0_1 (grid0.coords t)) : (runFirst m c t h0 h1).1.Whole where
  dga := View.cover_of_tiledL _ S512x1024.size (by sl_kernel_rfl)
  dgb := View.cover_of_tiledL _ S512x1024.size (by sl_kernel_rfl)
  da := View.cover_of_tiledL _ S512x1024.size (by sl_kernel_rfl)
  datt := View.cover_of_tiledL _ S512x1024.size (by sl_kernel_rfl)
  dg := View.cover_of_tiledL _ S1x1024.size (by sl_kernel_rfl)
  sums := View.cover_of_wholeMem _ (by sl_whole_mem)

/-- The body's run at a point between. -/
def runMid (c : Dev nD) (t : Fin cfg0.N) (h0 : ¬ cond0_0 (grid0.coords t)) (h1 : ¬ cond0_1 (grid0.coords t)) (l : Left F c) :=
  packed (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) l.dg l.sums l.wa l.wb l.wo)

/-- What it leaves. -/
def leftMid (c : Dev nD) (t : Fin cfg0.N) (h0 : ¬ cond0_0 (grid0.coords t)) (h1 : ¬ cond0_1 (grid0.coords t)) (l : Left F c) : Left F c := (runMid m c t h0 h1 l).1.left

/-- Its stores cover each buffer. -/
theorem wholeMid (c : Dev nD) (t : Fin cfg0.N) (h0 : ¬ cond0_0 (grid0.coords t)) (h1 : ¬ cond0_1 (grid0.coords t)) (l : Left F c) : (runMid m c t h0 h1 l).1.Whole where
  dga := View.cover_of_tiledL _ S512x1024.size (by sl_kernel_rfl)
  dgb := View.cover_of_tiledL _ S512x1024.size (by sl_kernel_rfl)
  da := View.cover_of_tiledL _ S512x1024.size (by sl_kernel_rfl)
  datt := View.cover_of_tiledL _ S512x1024.size (by sl_kernel_rfl)
  dg := View.cover_of_tiledL _ S1x1024.size (by sl_kernel_rfl)
  sums := View.cover_of_tiledL _ S1x1024x1024.size (by sl_kernel_rfl)

/-- The body's run at the last point. -/
def runLast (c : Dev nD) (t : Fin cfg0.N) (h0 : ¬ cond0_0 (grid0.coords t)) (h1 : cond0_1 (grid0.coords t)) (l : Left F c) :=
  packed (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) l.dg l.sums l.wa l.wb l.wo)

/-- What it leaves. -/
def leftLast (c : Dev nD) (t : Fin cfg0.N) (h0 : ¬ cond0_0 (grid0.coords t)) (h1 : cond0_1 (grid0.coords t)) (l : Left F c) : Left F c := (runLast m c t h0 h1 l).1.left

/-- Its stores cover each buffer. -/
theorem wholeLast (c : Dev nD) (t : Fin cfg0.N) (h0 : ¬ cond0_0 (grid0.coords t)) (h1 : cond0_1 (grid0.coords t)) (l : Left F c) : (runLast m c t h0 h1 l).1.Whole where
  dga := View.cover_of_tiledL _ S512x1024.size (by sl_kernel_rfl)
  dgb := View.cover_of_tiledL _ S512x1024.size (by sl_kernel_rfl)
  da := View.cover_of_tiledL _ S512x1024.size (by sl_kernel_rfl)
  datt := View.cover_of_tiledL _ S512x1024.size (by sl_kernel_rfl)
  dg := View.cover_of_tiledL _ S1x1024.size (by sl_kernel_rfl)
  sums := View.cover_of_tiledL _ S1x1024x1024.size (by sl_kernel_rfl)

theorem later (n : ℕ) (h : n + 1 < cfg0.N) : ¬ cond0_0 (grid0.coords ⟨n + 1, h⟩) := fun e => by
  have hN : n + 1 < 16 := lt_of_lt_of_eq h (show cfg0.N = 16 from N_0)
  have := (hcond0_0 ⟨n + 1, h⟩).mp e
  dsimp only at this; omega

theorem at_start (h : 0 < cfg0.N) : cond0_0 (grid0.coords ⟨0, h⟩) ∧ ¬ cond0_1 (grid0.coords ⟨0, h⟩) :=
  ⟨(hcond0_0 ⟨0, h⟩).mpr rfl, fun e => absurd ((hcond0_1 ⟨0, h⟩).mp e) (show ¬ 0 % 16 = 15 by decide)⟩

/-- What point `n` leaves. -/
def leftAt (c : Dev nD) : (n : ℕ) → n < cfg0.N → Left F c
  | 0, h => leftFirst m c ⟨0, h⟩ (at_start h).1 (at_start h).2
  | n + 1, h =>
    if e : cond0_1 (grid0.coords ⟨n + 1, h⟩) then leftLast m c ⟨n + 1, h⟩ (later n h) e (leftAt c n (Nat.lt_of_succ_lt h))
    else leftMid m c ⟨n + 1, h⟩ (later n h) e (leftAt c n (Nat.lt_of_succ_lt h))

def left (c : Dev nD) (t : Fin cfg0.N) : Left F c := leftAt m c t.val t.isLt

/-- The point before `t`. -/
abbrev prev (t : Fin cfg0.N) : Fin cfg0.N := ⟨t.val - 1, Nat.lt_of_le_of_lt (Nat.sub_le _ _) t.isLt⟩

section Cases

variable (c : Dev nD) (t : Fin cfg0.N)

theorem left_first (h0 : cond0_0 (grid0.coords t)) (h1 : ¬ cond0_1 (grid0.coords t)) : left m c t = leftFirst m c t h0 h1 := by
  obtain ⟨n, hn⟩ := t
  cases n with
  | zero => rfl
  | succ n => exact absurd h0 (later n hn)

theorem left_mid (h0 : ¬ cond0_0 (grid0.coords t)) (h1 : ¬ cond0_1 (grid0.coords t)) :
    left m c t = leftMid m c t h0 h1 (left m c (prev t)) := by
  obtain ⟨n, hn⟩ := t
  cases n with
  | zero => exact absurd (at_start hn).1 h0
  | succ n => exact dif_neg h1

theorem left_last (h0 : ¬ cond0_0 (grid0.coords t)) (h1 : cond0_1 (grid0.coords t)) :
    left m c t = leftLast m c t h0 h1 (left m c (prev t)) := by
  obtain ⟨n, hn⟩ := t
  cases n with
  | zero => exact absurd (at_start hn).1 h0
  | succ n => exact dif_pos h1

end Cases

/-! ## What is held between points -/

/-- The three cells of the copies, at zero. -/
def cells (c : Dev nD) : sProp 𝕄 :=
  iprop(semVal ((c : Thread nD τ), SemLoc.dma 27) 0 ∗ semVal ((c : Thread nD τ), SemLoc.dma 28) 0 ∗ semVal ((c : Thread nD τ), SemLoc.dma 29) 0)

/-- The three results outside, at what a point left there. -/
def outside (c : Dev nD) (a : HbBuf0 (F := F) c hbM0_0) (b : HbBuf0 (F := F) c hbM0_1) (o : HbBuf0 (F := F) c hbM0_2) : sProp 𝕄 :=
  iprop(hbPt0 c hbM0_0 a ∗ hbPt0 c hbM0_1 b ∗ hbPt0 c hbM0_2 o)

/-- After a point: the scratch and the results outside as left, the generator's register, the cells. -/
def kept (c : Dev nD) (l : Left F c) : sProp 𝕄 :=
  iprop(owns (c : Thread nD τ) scM0_0 fullShare l.sums ∗ (∃ r, prngReg c r) ∗ cells c ∗ emp ∗ outside c l.wa l.wb l.wo)

def PhiS (c : Dev nD) : (n : ℕ) → n ≤ cfg0.N → sProp 𝕄
  | 0, _ => Pipeline.ΦDRG osem0 spec0 H0 R0 (V m) (V m) c
  | n + 1, h => kept c (left m c ⟨n, h⟩)

theorem PhiS_pos (c : Dev nD) (t : Fin cfg0.N) (h : t.val ≠ 0) :
    PhiS m c t.val (Nat.le_of_lt t.isLt) = kept c (left m c (prev t)) := by
  obtain ⟨n, hn⟩ := t
  cases n with
  | zero => exact absurd rfl h
  | succ n => rfl

theorem PhiS_first (c : Dev nD) (t : Fin cfg0.N) (h : t.val = 0) :
    PhiS m c t.val (Nat.le_of_lt t.isLt) = Pipeline.ΦDRG osem0 spec0 H0 R0 (V m) (V m) c := by
  obtain ⟨n, hn⟩ := t
  cases n with
  | zero => rfl
  | succ n => exact absurd h (Nat.succ_ne_zero n)

/-- The proof data: an input's buffer keeps its block, an output's is left as above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (left m c t).dga
    | ⟨12, _⟩ => (left m c t).dgb
    | ⟨13, _⟩ => (left m c t).da
    | ⟨14, _⟩ => (left m c t).datt
    | ⟨15, _⟩ => (left m c t).dg
    | ⟨_ + 16, h⟩ => absurd h (Nat.not_lt.2 (Nat.le_add_left _ _))
  Φ t := PhiS m c t.val (Nat.le_of_lt_succ t.isLt)
  q _ := fullShare
  owed _ := 0

theorem A_eq (c : Dev nD) (w) : (dats m 0 c).A w = V m c (Pipeline.arrRef spec0 w) := by dsimp only [dats]

theorem before0 (c : Dev nD) (t : Fin cfg0.N) (d) : (dats m 0 c).before 0 t d = iblk m c 0 t :=
  before0_0_of m (dats m 0 c) (A_eq m c 0) (fun _ => by dsimp only [dats]) t d

theorem before1 (c : Dev nD) (t : Fin cfg0.N) (d) : (dats m 0 c).before 1 t d = iblk m c 1 t :=
  before0_1_of m (dats m 0 c) (A_eq m c 1) (fun _ => by dsimp only [dats]) t d

theorem before2 (c : Dev nD) (t : Fin cfg0.N) (d) : (dats m 0 c).before 2 t d = iblk m c 2 t :=
  before0_2_of m (dats m 0 c) (A_eq m c 2) (fun _ => by dsimp only [dats]) t d

theorem before3 (c : Dev nD) (t : Fin cfg0.N) (d) : (dats m 0 c).before 3 t d = iblk m c 3 t :=
  before0_3_of m (dats m 0 c) (A_eq m c 3) (fun _ => by dsimp only [dats]) t d

theorem before4 (c : Dev nD) (t : Fin cfg0.N) (d) : (dats m 0 c).before 4 t d = iblk m c 4 t :=
  before0_4_of m (dats m 0 c) (A_eq m c 4) (fun _ => by dsimp only [dats]) t d

theorem before5 (c : Dev nD) (t : Fin cfg0.N) (d) : (dats m 0 c).before 5 t d = iblk m c 5 t :=
  before0_5_of m (dats m 0 c) (A_eq m c 5) (fun _ => by dsimp only [dats]) t d

theorem before6 (c : Dev nD) (t : Fin cfg0.N) (d) : (dats m 0 c).before 6 t d = iblk m c 6 t :=
  before0_6_of m (dats m 0 c) (A_eq m c 6) (fun _ => by dsimp only [dats]) t d

theorem before7 (c : Dev nD) (t : Fin cfg0.N) (d) : (dats m 0 c).before 7 t d = iblk m c 7 t :=
  before0_7_of m (dats m 0 c) (A_eq m c 7) (fun _ => by dsimp only [dats]) t d

theorem before8 (c : Dev nD) (t : Fin cfg0.N) (d) : (dats m 0 c).before 8 t d = iblk m c 8 t :=
  before0_8_of m (dats m 0 c) (A_eq m c 8) (fun _ => by dsimp only [dats]) t d

theorem before9 (c : Dev nD) (t : Fin cfg0.N) (d) : (dats m 0 c).before 9 t d = iblk m c 9 t :=
  before0_9_of m (dats m 0 c) (A_eq m c 9) (fun _ => by dsimp only [dats]) t d

theorem before10 (c : Dev nD) (t : Fin cfg0.N) (d) : (dats m 0 c).before 10 t d = iblk m c 10 t :=
  before0_10_of m (dats m 0 c) (A_eq m c 10) (fun _ => by dsimp only [dats]) t d

/-- The gain's sum is found as the point before left it. -/
theorem before15 (c : Dev nD) (t : Fin cfg0.N) (ht : t.val ≠ 0) (d) : (dats m 0 c).before 15 t d = (left m c (prev t)).dg := by
  have hN : t.val < 16 := lt_of_lt_of_eq t.isLt (show cfg0.N = 16 from N_0)
  rw [Dat.before_out_kept _ 15 rfl t ht (Bool.eq_false_iff.mpr fun h => by have := (flush0_15 _).mp h; dsimp only at this; omega)
    (fun _ => rfl) (fun _ _ => rfl)]
  dsimp only [dats]

/-! ## The body's triple at a point -/

/-- The eleven arrays a point reads, in its buffers. -/
def ins (c : Dev nD) (t : Fin cfg0.N) : sProp 𝕄 :=
  iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t))

/-- What a point leaves, in its buffers. -/
def outs (c : Dev nD) (t : Fin cfg0.N) (l : Left F c) : sProp 𝕄 :=
  iprop(owns (c : Thread nD τ) (ms0_11 t) fullShare l.dga
    ∗ owns (c : Thread nD τ) (ms0_12 t) fullShare l.dgb
    ∗ owns (c : Thread nD τ) (ms0_13 t) fullShare l.da
    ∗ owns (c : Thread nD τ) (ms0_14 t) fullShare l.datt
    ∗ owns (c : Thread nD τ) (ms0_15 t) fullShare l.dg)

def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

/-- Before the body the inputs' buffers hold their blocks. -/
theorem pre_enter (c : Dev nD) (t : Fin cfg0.N) :
    pre m c t ⊢ iprop(ins m c t ∗ PhiS m c t.val (Nat.le_of_lt t.isLt) ∗ (∃ W, owes (c : Thread nD τ) 0 W)
      ∗ (∃ d, owns (c : Thread nD τ) (ms0_11 t) fullShare ((dats m 0 c).before 11 t d))
      ∗ (∃ d, owns (c : Thread nD τ) (ms0_12 t) fullShare ((dats m 0 c).before 12 t d))
      ∗ (∃ d, owns (c : Thread nD τ) (ms0_13 t) fullShare ((dats m 0 c).before 13 t d))
      ∗ (∃ d, owns (c : Thread nD τ) (ms0_14 t) fullShare ((dats m 0 c).before 14 t d))
      ∗ (∃ d, owns (c : Thread nD τ) (ms0_15 t) fullShare ((dats m 0 c).before 15 t d))) := by
  unfold pre ins Dat.owesAt Pipeline.owesWithin
  rw [show (dats m 0 c).Φ t.castSucc = PhiS m c t.val (Nat.le_of_lt t.isLt) from by dsimp only [dats]; exact Dat.Φ_castSucc (PhiS m c) t,
    show (dats m 0 c).owed t.castSucc = 0 from rfl]
  simp only [before0, before1, before2, before3, before4, before5, before6, before7, before8, before9, before10]
  iintro ⟨HP, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15⟩
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [HP]; · iexact HP
  isplitl [HW]; · iexists W; iexact HW
  isplitl [H11]; · iexact H11
  isplitl [H12]; · iexact H12
  isplitl [H13]; · iexact H13
  isplitl [H14]; · iexact H14
  iexact H15

set_option maxHeartbeats 1600000 in
/-- What the body leaves gives the postcondition. -/
theorem post_leave (c : Dev nD) (t : Fin cfg0.N) :
    iprop(ins m c t ∗ outs c t (left m c t) ∗ kept c (left m c t) ∗ (∃ W, owes (c : Thread nD τ) 0 W)) ⊢ post m c t := by
  unfold post ins outs Dat.owesAt Pipeline.owesWithin
  rw [show (dats m 0 c).owed t.succ = 0 from rfl, show (dats m 0 c).Φ t.succ = kept c (left m c t) from rfl]
  rw [show (dats m 0 c).after 0 t = iblk m c 0 t from by dsimp only [dats]]
  rw [show (dats m 0 c).after 1 t = iblk m c 1 t from by dsimp only [dats]]
  rw [show (dats m 0 c).after 2 t = iblk m c 2 t from by dsimp only [dats]]
  rw [show (dats m 0 c).after 3 t = iblk m c 3 t from by dsimp only [dats]]
  rw [show (dats m 0 c).after 4 t = iblk m c 4 t from by dsimp only [dats]]
  rw [show (dats m 0 c).after 5 t = iblk m c 5 t from by dsimp only [dats]]
  rw [show (dats m 0 c).after 6 t = iblk m c 6 t from by dsimp only [dats]]
  rw [show (dats m 0 c).after 7 t = iblk m c 7 t from by dsimp only [dats]]
  rw [show (dats m 0 c).after 8 t = iblk m c 8 t from by dsimp only [dats]]
  rw [show (dats m 0 c).after 9 t = iblk m c 9 t from by dsimp only [dats]]
  rw [show (dats m 0 c).after 10 t = iblk m c 10 t from by dsimp only [dats]]
  rw [show (dats m 0 c).after 11 t = (left m c t).dga from by dsimp only [dats]]
  rw [show (dats m 0 c).after 12 t = (left m c t).dgb from by dsimp only [dats]]
  rw [show (dats m 0 c).after 13 t = (left m c t).da from by dsimp only [dats]]
  rw [show (dats m 0 c).after 14 t = (left m c t).datt from by dsimp only [dats]]
  rw [show (dats m 0 c).after 15 t = (left m c t).dg from by dsimp only [dats]]
  iintro ⟨⟨H0, H1, H2, H3, H4, H5, H6, H7, H8, H9, H10⟩, ⟨H11, H12, H13, H14, H15⟩, HK, ⟨%W, HW⟩⟩
  isplitl [HK]; · iexact HK
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

set_option maxHeartbeats 3200000 in
/-- The body at the first point. -/
theorem bodyFirst (c : Dev nD) (t : Fin cfg0.N) (h0 : cond0_0 (grid0.coords t)) (h1 : ¬ cond0_1 (grid0.coords t)) (W : Waits sig Unit) :
    iprop(ins m c t
      ∗ (∃ d, owns (c : Thread nD τ) (ms0_11 t) fullShare d) ∗ (∃ d, owns (c : Thread nD τ) (ms0_12 t) fullShare d)
      ∗ (∃ d, owns (c : Thread nD τ) (ms0_13 t) fullShare d) ∗ (∃ d, owns (c : Thread nD τ) (ms0_14 t) fullShare d)
      ∗ (∃ d, owns (c : Thread nD τ) (ms0_15 t) fullShare d) ∗ (∃ d, owns (c : Thread nD τ) scM0_0 fullShare d) ∗ (∃ r, prngReg c r) ∗ cells c
      ∗ outside c (V m c main_v29_5) (V m c main_v29_6) (V m c main_v29_7) ∗ owes (c : Thread nD τ) 0 W)
    ⊢ wp frame (wpE (defs₀ (F := F)) Variants.none c none) Set.univ (bodyAt0 t) (fun _ =>
      iprop(ins m c t ∗ outs c t (leftFirst m c t h0 h1) ∗ kept c (leftFirst m c t h0 h1) ∗ (∃ W, owes (c : Thread nD τ) 0 W))) := by
  have hw := wholeFirst m c t h0 h1
  unfold leftFirst
  generalize runFirst m c t h0 h1 = s at hw ⊢
  obtain ⟨L, run⟩ := s
  unfold Stores.left ins outs kept cells outside bodyAt0
  iintro ⟨⟨H0, H1, H2, H3, H4, H5, H6, H7, H8, H9, H10⟩, H11, H12, H13, H14, H15, HS, Hg, ⟨Hq0, Hq1, Hq2⟩, ⟨Hh0, Hh1, Hh2⟩, HW⟩
  iapply (run W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS]; · iexact HS
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, H4, H5, H6, H7, H8, H9, H10, H11, H12, H13, H14, H15, HS, Hq0, Hq1, Hq2, Hh0, Hh1, Hh2, HW⟩
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13 H14 H15]
  · isplitl [H11]; · iapply (settled c _ _ hw.dga); unfold stored; iexact H11
    isplitl [H12]; · iapply (settled c _ _ hw.dgb); unfold stored; iexact H12
    isplitl [H13]; · iapply (settled c _ _ hw.da); unfold stored; iexact H13
    isplitl [H14]; · iapply (settled c _ _ hw.datt); unfold stored; iexact H14
    iapply (settled c _ _ hw.dg); unfold stored; iexact H15
  isplitl [HS Hg Hq0 Hq1 Hq2 Hh0 Hh1 Hh2]
  · isplitl [HS]; · iapply (settled c _ _ hw.sums); unfold stored; iexact HS
    isplitl [Hg]; · iexact Hg
    isplitl [Hq0 Hq1 Hq2]
    · isplitl [Hq0]; · iexact Hq0
      isplitl [Hq1]; · iexact Hq1
      iexact Hq2
    isplitr; · iempintro
    isplitl [Hh0]; · iexact Hh0
    isplitl [Hh1]; · iexact Hh1
    iexact Hh2
  iexact HW

set_option maxHeartbeats 3200000 in
/-- The body at a point between. -/
theorem bodyMid (c : Dev nD) (t : Fin cfg0.N) (h0 : ¬ cond0_0 (grid0.coords t)) (h1 : ¬ cond0_1 (grid0.coords t)) (l : Left F c) (W : Waits sig Unit) :
    iprop(ins m c t
      ∗ (∃ d, owns (c : Thread nD τ) (ms0_11 t) fullShare d) ∗ (∃ d, owns (c : Thread nD τ) (ms0_12 t) fullShare d)
      ∗ (∃ d, owns (c : Thread nD τ) (ms0_13 t) fullShare d) ∗ (∃ d, owns (c : Thread nD τ) (ms0_14 t) fullShare d)
      ∗ owns (c : Thread nD τ) (ms0_15 t) fullShare l.dg ∗ owns (c : Thread nD τ) scM0_0 fullShare l.sums ∗ (∃ r, prngReg c r) ∗ cells c
      ∗ outside c l.wa l.wb l.wo ∗ owes (c : Thread nD τ) 0 W)
    ⊢ wp frame (wpE (defs₀ (F := F)) Variants.none c none) Set.univ (bodyAt0 t) (fun _ =>
      iprop(ins m c t ∗ outs c t (leftMid m c t h0 h1 l) ∗ kept c (leftMid m c t h0 h1 l) ∗ (∃ W, owes (c : Thread nD τ) 0 W))) := by
  have hw := wholeMid m c t h0 h1 l
  unfold leftMid
  generalize runMid m c t h0 h1 l = s at hw ⊢
  obtain ⟨L, run⟩ := s
  unfold Stores.left ins outs kept cells outside bodyAt0
  iintro ⟨⟨H0, H1, H2, H3, H4, H5, H6, H7, H8, H9, H10⟩, H11, H12, H13, H14, H15, HS, Hg, ⟨Hq0, Hq1, Hq2⟩, ⟨Hh0, Hh1, Hh2⟩, HW⟩
  iapply (run W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS]; · iexact HS
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, H4, H5, H6, H7, H8, H9, H10, H11, H12, H13, H14, H15, HS, Hq0, Hq1, Hq2, Hh0, Hh1, Hh2, HW⟩
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13 H14 H15]
  · isplitl [H11]; · iapply (settled c _ _ hw.dga); unfold stored; iexact H11
    isplitl [H12]; · iapply (settled c _ _ hw.dgb); unfold stored; iexact H12
    isplitl [H13]; · iapply (settled c _ _ hw.da); unfold stored; iexact H13
    isplitl [H14]; · iapply (settled c _ _ hw.datt); unfold stored; iexact H14
    iapply (settled c _ _ hw.dg); unfold stored; iexact H15
  isplitl [HS Hg Hq0 Hq1 Hq2 Hh0 Hh1 Hh2]
  · isplitl [HS]; · iapply (settled c _ _ hw.sums); unfold stored; iexact HS
    isplitl [Hg]; · iexact Hg
    isplitl [Hq0 Hq1 Hq2]
    · isplitl [Hq0]; · iexact Hq0
      isplitl [Hq1]; · iexact Hq1
      iexact Hq2
    isplitr; · iempintro
    isplitl [Hh0]; · iexact Hh0
    isplitl [Hh1]; · iexact Hh1
    iexact Hh2
  iexact HW

set_option maxHeartbeats 3200000 in
/-- The body at the last point. -/
theorem bodyLast (c : Dev nD) (t : Fin cfg0.N) (h0 : ¬ cond0_0 (grid0.coords t)) (h1 : cond0_1 (grid0.coords t)) (l : Left F c) (W : Waits sig Unit) :
    iprop(ins m c t
      ∗ (∃ d, owns (c : Thread nD τ) (ms0_11 t) fullShare d) ∗ (∃ d, owns (c : Thread nD τ) (ms0_12 t) fullShare d)
      ∗ (∃ d, owns (c : Thread nD τ) (ms0_13 t) fullShare d) ∗ (∃ d, owns (c : Thread nD τ) (ms0_14 t) fullShare d)
      ∗ owns (c : Thread nD τ) (ms0_15 t) fullShare l.dg ∗ owns (c : Thread nD τ) scM0_0 fullShare l.sums ∗ (∃ r, prngReg c r) ∗ cells c
      ∗ outside c l.wa l.wb l.wo ∗ owes (c : Thread nD τ) 0 W)
    ⊢ wp frame (wpE (defs₀ (F := F)) Variants.none c none) Set.univ (bodyAt0 t) (fun _ =>
      iprop(ins m c t ∗ outs c t (leftLast m c t h0 h1 l) ∗ kept c (leftLast m c t h0 h1 l) ∗ (∃ W, owes (c : Thread nD τ) 0 W))) := by
  have hw := wholeLast m c t h0 h1 l
  unfold leftLast
  generalize runLast m c t h0 h1 l = s at hw ⊢
  obtain ⟨L, run⟩ := s
  unfold Stores.left ins outs kept cells outside bodyAt0
  iintro ⟨⟨H0, H1, H2, H3, H4, H5, H6, H7, H8, H9, H10⟩, H11, H12, H13, H14, H15, HS, Hg, ⟨Hq0, Hq1, Hq2⟩, ⟨Hh0, Hh1, Hh2⟩, HW⟩
  iapply (run W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS]; · iexact HS
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, H4, H5, H6, H7, H8, H9, H10, H11, H12, H13, H14, H15, HS, Hq0, Hq1, Hq2, Hh0, Hh1, Hh2, HW⟩
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13 H14 H15]
  · isplitl [H11]; · iapply (settled c _ _ hw.dga); unfold stored; iexact H11
    isplitl [H12]; · iapply (settled c _ _ hw.dgb); unfold stored; iexact H12
    isplitl [H13]; · iapply (settled c _ _ hw.da); unfold stored; iexact H13
    isplitl [H14]; · iapply (settled c _ _ hw.datt); unfold stored; iexact H14
    iapply (settled c _ _ hw.dg); unfold stored; iexact H15
  isplitl [HS Hg Hq0 Hq1 Hq2 Hh0 Hh1 Hh2]
  · isplitl [HS]; · iapply (settled c _ _ hw.sums); unfold stored; iexact HS
    isplitl [Hg]; · iexact Hg
    isplitl [Hq0 Hq1 Hq2]
    · isplitl [Hq0]; · iexact Hq0
      isplitl [Hq1]; · iexact Hq1
      iexact Hq2
    isplitr; · iempintro
    isplitl [Hh0]; · iexact Hh0
    isplitl [Hh1]; · iexact Hh1
    iexact Hh2
  iexact HW

set_option maxHeartbeats 1600000 in
/-- The body, at any point. -/
theorem body_triple (c : Dev nD) (t : Fin cfg0.N) :
    pre m c t ⊢ wp frame (wpE (defs₀ (F := F)) Variants.none c none) Set.univ (bodyAt0 t) (fun _ => post m c t) := by
  refine (pre_enter m c t).trans ?_
  have hN : t.val < 16 := lt_of_lt_of_eq t.isLt (show cfg0.N = 16 from N_0)
  have leave : ∀ l, left m c t = l → (iprop(ins m c t ∗ outs c t l ∗ kept c l ∗ (∃ W, owes (c : Thread nD τ) 0 W)) ⊢ post m c t) :=
    fun l e => e ▸ post_leave m c t
  by_cases h0 : cond0_0 (grid0.coords t)
  · have e0 := (hcond0_0 t).mp h0
    have h1 : ¬ cond0_1 (grid0.coords t) := fun e => by have := (hcond0_1 t).mp e; omega
    rw [PhiS_first m c t (by omega), PhiDRG0_in_eq]
    iintro ⟨HI, ⟨HS, Hg, Hq, -, Hh⟩, ⟨%W, HW⟩, ⟨%d11, H11⟩, ⟨%d12, H12⟩, ⟨%d13, H13⟩, ⟨%d14, H14⟩, ⟨%d15, H15⟩⟩
    iapply ((bodyFirst m c t h0 h1 W).trans (wp_mono _ _ _ fun _ => leave _ (left_first m c t h0 h1)))
    isplitl [HI]; · iexact HI
    isplitl [H11]; · iexists _; iexact H11
    isplitl [H12]; · iexists _; iexact H12
    isplitl [H13]; · iexists _; iexact H13
    isplitl [H14]; · iexists _; iexact H14
    isplitl [H15]; · iexists _; iexact H15
    isplitl [HS]; · iexact HS
    isplitl [Hg]; · iexact Hg
    isplitl [Hq]; · unfold cells; iexact Hq
    isplitl [Hh]; · unfold outside; iexact Hh
    iexact HW
  · have e0 := mt (hcond0_0 t).mpr h0
    have hz : t.val ≠ 0 := by omega
    rw [PhiS_pos m c t hz]
    simp only [before15 m c t hz]
    by_cases h1 : cond0_1 (grid0.coords t)
    · unfold kept
      iintro ⟨HI, ⟨HS, Hg, Hq, -, Hh⟩, ⟨%W, HW⟩, ⟨%d11, H11⟩, ⟨%d12, H12⟩, ⟨%d13, H13⟩, ⟨%d14, H14⟩, ⟨%d15, H15⟩⟩
      iapply ((bodyLast m c t h0 h1 (left m c (prev t)) W).trans (wp_mono _ _ _ fun _ => leave _ (left_last m c t h0 h1)))
      isplitl [HI]; · iexact HI
      isplitl [H11]; · iexists _; iexact H11
      isplitl [H12]; · iexists _; iexact H12
      isplitl [H13]; · iexists _; iexact H13
      isplitl [H14]; · iexists _; iexact H14
      isplitl [H15]; · iexact H15
      isplitl [HS]; · iexact HS
      isplitl [Hg]; · iexact Hg
      isplitl [Hq]; · iexact Hq
      isplitl [Hh]; · iexact Hh
      iexact HW
    · unfold kept
      iintro ⟨HI, ⟨HS, Hg, Hq, -, Hh⟩, ⟨%W, HW⟩, ⟨%d11, H11⟩, ⟨%d12, H12⟩, ⟨%d13, H13⟩, ⟨%d14, H14⟩, ⟨%d15, H15⟩⟩
      iapply ((bodyMid m c t h0 h1 (left m c (prev t)) W).trans (wp_mono _ _ _ fun _ => leave _ (left_mid m c t h0 h1)))
      isplitl [HI]; · iexact HI
      isplitl [H11]; · iexists _; iexact H11
      isplitl [H12]; · iexists _; iexact H12
      isplitl [H13]; · iexists _; iexact H13
      isplitl [H14]; · iexists _; iexact H14
      isplitl [H15]; · iexact H15
      isplitl [HS]; · iexact HS
      isplitl [Hg]; · iexact Hg
      isplitl [Hq]; · iexact Hq
      isplitl [Hh]; · iexact Hh
      iexact HW

/-! ## The launch -/

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_triple m c t) rfl .rfl fun _ => .rfl

/-- What the last point leaves. -/
abbrev final (c : Dev nD) : Left F c := left m c ⟨15, by decide⟩

/-- The buffers after the launch: the three results outside as the last point left them. -/
def ends (c : Dev nD) : (b : Ref sig .tc) → Buf (Elt F) ((c : Thread nD τ).loc b) :=
  Function.update (Function.update (Function.update (V m c) main_v29_5 (final m c).wa) main_v29_6 (final m c).wb) main_v29_7 (final m c).wo

theorem ends_wo (c : Dev nD) : ends m c main_v29_7 = (final m c).wo := Function.update_self _ _ _

theorem ends_wb (c : Dev nD) : ends m c main_v29_6 = (final m c).wb :=
  (Function.update_of_ne (by decide) _ _).trans (Function.update_self _ _ _)

theorem ends_wa (c : Dev nD) : ends m c main_v29_5 = (final m c).wa :=
  (Function.update_of_ne (by decide) _ _).trans ((Function.update_of_ne (by decide) _ _).trans (Function.update_self _ _ _))

theorem routed_ends (c : Dev nD) :
    (Pipeline.routed R0 c (ends m c) : sProp 𝕄) = outside c (final m c).wa (final m c).wb (final m c).wo := by
  unfold Pipeline.routed outside
  rw [BI.bigSep_eq_bigSepL_of_eq [main_v29_5, main_v29_6, main_v29_7] (by decide) (by decide)]
  simp only [BI.bigSepL_cons_cons, BI.bigSepL_singleton, ends_wa, ends_wb, ends_wo]
  rfl

theorem hin (c : Dev nD) : Pipeline.ΦDRG osem0 spec0 H0 R0 (V m) (V m) c ⊢ (dats m 0 c).Φ 0 := .rfl

theorem hout (c : Dev nD) : (dats m 0 c).Φ (Fin.last cfg0.N) ⊢ Pipeline.ΦDRG osem0 spec0 H0 R0 (V m) (ends m) c := by
  rw [show (dats m 0 c).Φ (Fin.last cfg0.N) = kept c (final m c) from rfl,
    Pipeline.ΦDRG_eq, scopedRest0_eq, ownSems00_eq, hbmPts0_eq, routed_ends]
  unfold kept cells
  simp only [scM0_0, owns_whole]
  iintro ⟨HS, Hg, Hq, He, Hh⟩
  isplitl [HS]
  · iexists _; iexact HS
  isplitl [Hg]; · iexact Hg
  isplitl [Hq]; · iexact Hq
  isplitl [He]; · iexact He
  iexact Hh

set_option backward.isDefEq.respectTransparency.types false in
theorem run_quiescent : θ_run defs (onTc (τ := τ) (main (F := F))) (s₀ m ρ)
    (fun r => (Pipeline.FramePostRG cfgs (dats m) 0 R0 (V m) (ends m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := ends m)
    (hin := hin m) (hout := hout m)

theorem run_main : θ_run defs (onTc (τ := τ) (main (F := F))) (s₀ m ρ) (Pipeline.FramePostRG cfgs (dats m) 0 R0 (V m) (ends m)) :=
  (θ_run defs _ _).mono (fun _ h => h.1) (run_quiescent m ρ)

/-- The argument arrays end unchanged, and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
    ∧ r.2.sem = fun _ => 0) :=
  θ_run_and (frame_of m ρ (dats m) (A_eq m) ((θ_run defs _ _).mono (fun _ h => h.toR) (run_main m ρ)))
    ((θ_run defs _ _).mono (fun _ h => h.2) (run_quiescent m ρ))

end Cert.MergeIdeal.Body

end
-- ==== Proof.MergeStore.lean ====
/- The stores of the merge's backward body, as lists of blocks of named values. -/
module

public import proofs.«01_k».proof.Proof.MergeFrame

@[expose] public section

set_option maxRecDepth 16384

noncomputable section

namespace Cert.MergeIdeal.Body

open Cert.MergeIdeal Cert.MergeIdeal.Gen
open Idealize.ShloMosaic Idealize.ShloMosaic.TcCoe Idealize.ShloMosaic.Tactic

variable {F : FTy → Type} [FloatOps F]

/-! ## What a point reads and what it computes -/

structure Loads (F : FTy → Type) where
  ct : Vec F S512x1024 .f32
  (mix ga gb pa pb a att : Vec F S512x1024 .bf16)
  (wa wb wo : Vec F S1024x1024 .bf16)
  g : Vec F S1x1024 .f32

section Values
variable (L : Loads F)

def dmixV : FVec F S512x1024 .bf16 := k0_pay9 L.mix L.g L.ct
def mergedV : FVec F S512x1024 .bf16 := k0_pay15 L.ga L.gb L.pa L.pb
def daoV : FVec F S512x1024 .bf16 := k0_pay16 (dmixV L) L.wo L.ga
def dboV : FVec F S512x1024 .bf16 := k0_pay17 (dmixV L) L.wo L.gb
def dgaV : FVec F S512x1024 .bf16 := k0_pay18 (dmixV L) L.wo L.ga L.pa
def dgbV : FVec F S512x1024 .bf16 := k0_pay19 (k0_pay10 (dmixV L) L.wo) (k0_pay12 L.gb) (k0_pay14 L.pb)
def daV : FVec F S512x1024 .f32 := k0_pay20 (daoV L) L.wa
def dattV : FVec F S512x1024 .bf16 := k0_pay21 (dboV L) L.wb
def dgV (acc : Vec F S1x1024 .f32) : FVec F S1x1024 .f32 := k0_pay8 L.mix L.ct acc

/-- A slab of the scratch, with this point's product added. -/
def slabV (j : Fin 3) (acc : Vec F S1x1024x1024 .f32) : FVec F S1x1024x1024 .f32 :=
  match j with
  | 0 => k0_pay22 (daoV L) acc L.a
  | 1 => k0_pay1 (dboV L) (k0_pay23 acc) L.att
  | 2 => k0_pay2 (dmixV L) (mergedV L) acc

end Values

/-! ## The lists -/

abbrev rBlock : Rect S512x1024 := Rect.unit (s := S512x1024) ![0, 0] S512x1024.size inb_S512x1024_S512x1024_0_0
abbrev rRow : Rect S1x1024 := Rect.unit (s := S1x1024) ![0, 0] S1x1024.size inb_S1x1024_S1x1024_0_0
abbrev rWeight : Rect S1024x1024 := Rect.unit (s := S1024x1024) ![0, 0] S1024x1024.size inb_S1024x1024_S1024x1024_0_0

theorem inb_slab (j : Fin 3) : ∀ a, (![j.val, 0, 0] : Fin 3 → ℕ) a + S1x1024x1024.size a ≤ S3x1024x1024.size a := by
  fin_cases j <;> decide
abbrev rSlab (j : Fin 3) : Rect S3x1024x1024 := Rect.unit (s := S3x1024x1024) ![j.val, 0, 0] S1x1024x1024.size (inb_slab j)

def rowFrom (b : Memref sig .tc .vmem S1x1024 .f32) (f : Vec F S1x1024 .f32 → FVec F S1x1024 .f32) :
    List (View.Piece (Elt F) S1x1024 .f32) :=
  [⟨rRow, f (b.view.readCov [⟨rRow, k0_pay3⟩] rRow.toLoadRect)⟩, ⟨rRow, k0_pay3⟩]

def slabStores (L : Loads F) (prev : Fin 3 → Vec F S1x1024x1024 .f32) : List (View.Piece (Elt F) S3x1024x1024 .f32) :=
  [2, 1, 0].map fun j => ⟨rSlab j, slabV L j (prev j)⟩

def startSlabs : List (View.Piece (Elt F) S3x1024x1024 .f32) :=
  [⟨Rect.unit (s := S3x1024x1024) ![0, 0, 0] S3x1024x1024.size inb_S3x1024x1024_S3x1024x1024_0_0_0, k0_pay4⟩]

/-- The first point's: each slab is read back from the zeros and the slabs before it. -/
def slabsFrom (L : Loads F) : List (View.Piece (Elt F) S3x1024x1024 .f32) :=
  [0, 1, 2].foldl (fun P j => ⟨rSlab j, slabV L j (scM0_0.view.readCov P (rSlab j).toLoadRect)⟩ :: P) startSlabs

/-! ## The runs' stores -/

variable (m : (ℓ : Loc nD τ sig) → Buf (Elt F) ℓ) (c : Dev nD) (t : Fin cfg0.N)

def loads : Loads F where
  ct := View.readAt (Elt F) (ms0_0 t).view rBlock.toLoadRect ((hs0_0 t).unread (iblk m c 0 t))
  mix := View.readAt (Elt F) (ms0_1 t).view rBlock.toLoadRect ((hs0_1 t).unread (iblk m c 1 t))
  ga := View.readAt (Elt F) (ms0_2 t).view rBlock.toLoadRect ((hs0_2 t).unread (iblk m c 2 t))
  gb := View.readAt (Elt F) (ms0_3 t).view rBlock.toLoadRect ((hs0_3 t).unread (iblk m c 3 t))
  pa := View.readAt (Elt F) (ms0_4 t).view (Rect.unit (s := S512x2048) ![0, 0] S512x1024.size inb_S512x2048_S512x1024_0_0).toLoadRect ((hs0_4 t).unread (iblk m c 4 t))
  pb := View.readAt (Elt F) (ms0_4 t).view (Rect.unit (s := S512x2048) ![0, 1024] S512x1024.size inb_S512x2048_S512x1024_0_1024).toLoadRect ((hs0_4 t).unread (iblk m c 4 t))
  a := View.readAt (Elt F) (ms0_5 t).view rBlock.toLoadRect ((hs0_5 t).unread (iblk m c 5 t))
  att := View.readAt (Elt F) (ms0_6 t).view rBlock.toLoadRect ((hs0_6 t).unread (iblk m c 6 t))
  wa := View.readAt (Elt F) (ms0_7 t).view rWeight.toLoadRect ((hs0_7 t).unread (iblk m c 7 t))
  wb := View.readAt (Elt F) (ms0_8 t).view rWeight.toLoadRect ((hs0_8 t).unread (iblk m c 8 t))
  wo := View.readAt (Elt F) (ms0_9 t).view rWeight.toLoadRect ((hs0_9 t).unread (iblk m c 9 t))
  g := View.readAt (Elt F) (ms0_10 t).view rRow.toLoadRect ((hs0_10 t).unread (iblk m c 10 t))

/-- The gain's sum as the point before left it. -/
def heldRow (l : Left F c) : Vec F S1x1024 .f32 := View.readAt (Elt F) (ms0_15 t).view rRow.toLoadRect ((hs0_15 t).unread l.dg)

theorem whole_scratch : (scM0_0 : Memref sig .tc .vmem S3x1024x1024 .f32).IsWhole := Memref.isWhole_whole _

/-- A slab as the point before left it. -/
def heldSlab (l : Left F c) (j : Fin 3) : Vec F S1x1024x1024 .f32 :=
  View.readAt (Elt F) scM0_0.view (rSlab j).toLoadRect (whole_scratch.unread l.sums)

/-- A slab as the last point's copy reads it. -/
def copied (l : Left F c) (P : List (View.Piece (Elt F) S3x1024x1024 .f32)) (j : Fin 3) : Vec F S1024x1024 .f32 :=
  ReadAs.same.apply (View.read (Elt F)
    (((scM0_0 : Memref sig .tc .vmem S3x1024x1024 .f32).slice (rSlab j) (fun _ => rfl)).squeeze S1024x1024 squeezes_S1x1024x1024_S1024x1024).view
    (scM0_0.view.writes (Elt F) (whole_scratch.unread l.sums) P))

/-- The stores a point makes, given its lists for the two sums and what it leaves outside. -/
def stores (L : Loads F) (dg : List (View.Piece (Elt F) S1x1024 .f32)) (sums : List (View.Piece (Elt F) S3x1024x1024 .f32))
    (wa : HbBuf0 (F := F) c hbM0_0) (wb : HbBuf0 (F := F) c hbM0_1) (wo : HbBuf0 (F := F) c hbM0_2) : Stores F c :=
  ⟨[⟨rBlock, dgaV L⟩], [⟨rBlock, dgbV L⟩], [⟨rBlock, daV L⟩], [⟨rBlock, dattV L⟩], dg, sums, wa, wb, wo⟩

set_option maxHeartbeats 4000000 in
theorem storesFirst_eq (h0 : cond0_0 (grid0.coords t)) (h1 : ¬ cond0_1 (grid0.coords t)) :
    (runFirst m c t h0 h1).1 = stores c (loads m c t) (rowFrom (ms0_15 t) (dgV (loads m c t))) (slabsFrom (loads m c t))
      (V m c main_v29_5) (V m c main_v29_6) (V m c main_v29_7) := by
  sl_kernel_rfl

set_option maxHeartbeats 4000000 in
theorem storesMid_eq (h0 : ¬ cond0_0 (grid0.coords t)) (h1 : ¬ cond0_1 (grid0.coords t)) (l : Left F c) :
    (runMid m c t h0 h1 l).1 = stores c (loads m c t) [⟨rRow, dgV (loads m c t) (heldRow c t l)⟩]
      (slabStores (loads m c t) (heldSlab c l)) l.wa l.wb l.wo := by
  sl_kernel_rfl

set_option maxHeartbeats 4000000 in
theorem storesLast_eq (h0 : ¬ cond0_0 (grid0.coords t)) (h1 : cond0_1 (grid0.coords t)) (l : Left F c) :
    (runLast m c t h0 h1 l).1 = stores c (loads m c t) [⟨rRow, dgV (loads m c t) (heldRow c t l)⟩]
      (slabStores (loads m c t) (heldSlab c l))
      (View.write (Elt F) (View.whole main_v29_5) l.wa (copied c l (slabStores (loads m c t) (heldSlab c l)) 0) Finset.univ)
      (View.write (Elt F) (View.whole main_v29_6) l.wb (copied c l (slabStores (loads m c t) (heldSlab c l)) 1) Finset.univ)
      (View.write (Elt F) (View.whole main_v29_7) l.wo (copied c l (slabStores (loads m c t) (heldSlab c l)) 2) Finset.univ) := by
  sl_kernel_rfl

end Cert.MergeIdeal.Body

end
-- ==== Proof.MergeRow.lean ====
/- The gated merge of the two branches over the reals, and its gradients, token by token. -/
module

public import proofs.«01_k».proof.Proof.Reals

@[expose] public section

noncomputable section

namespace Cert.Step.Merge

open Cert.Step Idealize.ShloMosaic

/-- The logistic function. -/
def sg (x : ℝ) : ℝ := 1 / (1 + Real.exp (-x))

theorem one_real : (1 : EReal) = ((1 : ℝ) : EReal) := rfl

theorem sg_real (x : ℝ) :
    Ideal.div ((1 : ℝ) : EReal) (((1 : ℝ) : EReal) + Ideal.exp (-(x : EReal))) = (sg x : EReal) := by
  rw [← EReal.coe_neg, Ideal.exp_coe, ← EReal.coe_add, div_real (by positivity), sg]

/-- The arguments, as real arrays. -/
structure Inputs where
  (A T GA GB : Fin 8192 → Fin 1024 → ℝ)
  (WA WB WO : Fin 1024 → Fin 1024 → ℝ)
  G : Fin 1024 → ℝ
  CT : Fin 8192 → Fin 1024 → ℝ

namespace Inputs

variable (I : Inputs) (r : Fin 8192)

def pa (k : Fin 1024) : ℝ := ∑ j, I.A r j * I.WA j k
def pb (k : Fin 1024) : ℝ := ∑ j, I.T r j * I.WB j k
def merged (k : Fin 1024) : ℝ := sg (I.GA r k) * I.pa r k + sg (I.GB r k) * I.pb r k
def mix (d : Fin 1024) : ℝ := ∑ k, I.merged r k * I.WO k d

/-- The gradient at the product before the norm. -/
def dmix (d : Fin 1024) : ℝ := normBack (I.mix r) (fun k => I.CT r k * I.G k) d
def dmerged (k : Fin 1024) : ℝ := ∑ d, I.dmix r d * I.WO k d
def dao (k : Fin 1024) : ℝ := I.dmerged r k * sg (I.GA r k)
def dbo (k : Fin 1024) : ℝ := I.dmerged r k * sg (I.GB r k)
def dga (k : Fin 1024) : ℝ := I.dmerged r k * I.pa r k * (sg (I.GA r k) * (1 - sg (I.GA r k)))
def dgb (k : Fin 1024) : ℝ := I.dmerged r k * I.pb r k * (sg (I.GB r k) * (1 - sg (I.GB r k)))
def da (j : Fin 1024) : ℝ := ∑ k, I.dao r k * I.WA j k
def dt (j : Fin 1024) : ℝ := ∑ k, I.dbo r k * I.WB j k

/-- One token's part of the gradient of the norm's gain. -/
def dg (d : Fin 1024) : ℝ := I.CT r d * (I.mix r d * rinv (I.mix r))

end Inputs

end Cert.Step.Merge

end
-- ==== Proof.MergeKernel.lean ====
/- What the merge's backward body computes at one token of a block, at finite blocks: the functions of MergeRow. -/
module

public import proofs.«01_k».proof.Proof.Gen.MergeIdeal.Skeleton
public import proofs.«01_k».proof.Proof.MergeRow
public import Idealize.ShloMosaic.Lib.Pipeline.ValueKit
public import Idealize.ShloMosaic.Lib.Pointwise

@[expose] public section

set_option maxRecDepth 16384

noncomputable section

namespace Cert.MergeIdeal.Block

open Cert.MergeIdeal Cert.MergeIdeal.Gen Cert.Step Cert.Step.Merge Idealize.ShloMosaic Idealize.ShloMosaic.TcCoe Idealize.SL.Sem

variable {x u : Vec Ideal S512x1024 .bf16} {ct : Vec Ideal S512x1024 .f32} {g : Vec Ideal S1x1024 .f32}
  {w : Vec Ideal S1024x1024 .bf16} {y z : FVec Ideal S512x1024 .bf16} {p q s : FVec Ideal S512x1024 .f32}
  {X U CT Y Z P Q S : Fin 512 → Fin 1024 → ℝ} {G : Fin 1024 → ℝ} {W : Fin 1024 → Fin 1024 → ℝ}

theorem pay6_real (hx : ∀ r k, x (ix2 r k) = (X r k : EReal)) (r : Fin 512) (o) :
    k0_pay6 x (ix2 r o) = (rinv (X r) : EReal) := by
  pointwise [k0_pay6, k0_pay5]
  simp only [hx, ← EReal.coe_mul, sum_real, div_1024, word_eps, ← EReal.coe_add, rsqrt_row]

theorem pay7_real (hx : ∀ r k, x (ix2 r k) = (X r k : EReal)) (r : Fin 512) (k : Fin 1024) :
    k0_pay7 x (ix2 r k) = ((X r k * rinv (X r) : ℝ) : EReal) := by
  pointwise [k0_pay7, k0_pay5]
  simp only [pay6_real hx, hx, ← EReal.coe_mul]

theorem pay8_real (hx : ∀ r k, x (ix2 r k) = (X r k : EReal)) (hc : ∀ r k, ct (ix2 r k) = (CT r k : EReal))
    (acc : Vec Ideal S1x1024 .f32) (o : Fin 1) (d : Fin 1024) :
    k0_pay8 x ct acc (ix2 o d) = acc (ix2 o d) + ((∑ r, CT r d * (X r d * rinv (X r)) : ℝ) : EReal) := by
  pointwise [k0_pay8]
  simp only [pay7_real hx, hc, ← EReal.coe_mul, sum_real]

theorem pay9_real (hx : ∀ r k, x (ix2 r k) = (X r k : EReal)) (hc : ∀ r k, ct (ix2 r k) = (CT r k : EReal))
    (hg : ∀ o k, g (ix2 o k) = (G k : EReal)) (r : Fin 512) (d : Fin 1024) :
    k0_pay9 x g ct (ix2 r d) = (normBack (X r) (fun k => CT r k * G k) d : EReal) := by
  pointwise [k0_pay9]
  simp only [pay7_real hx, pay6_real hx, hc, hg, ← EReal.coe_mul, sum_real, div_1024, ← EReal.coe_sub, normBack]

theorem pay10_real (hy : ∀ r k, y (ix2 r k) = (Y r k : EReal)) (hw : ∀ j k, w (ix2 j k) = (W j k : EReal))
    (r : Fin 512) (k : Fin 1024) : k0_pay10 y w (ix2 r k) = ((∑ d, Y r d * W k d : ℝ) : EReal) := by
  pointwise [k0_pay10]
  simp only [hy, hw, ← EReal.coe_mul, sum_real]

theorem pay11_real (hx : ∀ r k, x (ix2 r k) = (X r k : EReal)) (r : Fin 512) (k : Fin 1024) :
    k0_pay11 x (ix2 r k) = (sg (X r k) : EReal) := by
  pointwise [k0_pay11]
  simp only [hx, one_real, zero_sub, sg_real]

theorem pay12_real (hx : ∀ r k, x (ix2 r k) = (X r k : EReal)) (r : Fin 512) (k : Fin 1024) :
    k0_pay12 x (ix2 r k) = (sg (X r k) : EReal) := by
  pointwise [k0_pay12]
  simp only [hx, one_real, zero_sub, sg_real]

theorem pay13_real (hx : ∀ r k, x (ix2 r k) = (X r k : EReal)) (r : Fin 512) (k : Fin 1024) :
    k0_pay13 x (ix2 r k) = (X r k : EReal) := by
  pointwise [k0_pay13]
  exact hx r k

theorem pay14_real (hx : ∀ r k, x (ix2 r k) = (X r k : EReal)) (r : Fin 512) (k : Fin 1024) :
    k0_pay14 x (ix2 r k) = (X r k : EReal) := by
  pointwise [k0_pay14]
  exact hx r k

theorem pay15_real {ga gb pa pb : Vec Ideal S512x1024 .bf16} {GA GB PA PB : Fin 512 → Fin 1024 → ℝ}
    (h1 : ∀ r k, ga (ix2 r k) = (GA r k : EReal)) (h2 : ∀ r k, gb (ix2 r k) = (GB r k : EReal))
    (h3 : ∀ r k, pa (ix2 r k) = (PA r k : EReal)) (h4 : ∀ r k, pb (ix2 r k) = (PB r k : EReal))
    (r : Fin 512) (k : Fin 1024) :
    k0_pay15 ga gb pa pb (ix2 r k) = ((sg (GA r k) * PA r k + sg (GB r k) * PB r k : ℝ) : EReal) := by
  pointwise [k0_pay15]
  simp only [pay11_real h1, pay12_real h2, pay13_real h3, pay14_real h4, ← EReal.coe_mul, ← EReal.coe_add]

theorem pay16_real (hy : ∀ r k, y (ix2 r k) = (Y r k : EReal)) (hw : ∀ j k, w (ix2 j k) = (W j k : EReal))
    (hx : ∀ r k, x (ix2 r k) = (X r k : EReal)) (r : Fin 512) (k : Fin 1024) :
    k0_pay16 y w x (ix2 r k) = (((∑ d, Y r d * W k d) * sg (X r k) : ℝ) : EReal) := by
  pointwise [k0_pay16]
  simp only [pay10_real hy hw, pay11_real hx, ← EReal.coe_mul]

theorem pay17_real (hy : ∀ r k, y (ix2 r k) = (Y r k : EReal)) (hw : ∀ j k, w (ix2 j k) = (W j k : EReal))
    (hx : ∀ r k, x (ix2 r k) = (X r k : EReal)) (r : Fin 512) (k : Fin 1024) :
    k0_pay17 y w x (ix2 r k) = (((∑ d, Y r d * W k d) * sg (X r k) : ℝ) : EReal) := by
  pointwise [k0_pay17]
  simp only [pay10_real hy hw, pay12_real hx, ← EReal.coe_mul]

theorem pay18_real (hy : ∀ r k, y (ix2 r k) = (Y r k : EReal)) (hw : ∀ j k, w (ix2 j k) = (W j k : EReal))
    (hx : ∀ r k, x (ix2 r k) = (X r k : EReal)) (hu : ∀ r k, u (ix2 r k) = (U r k : EReal)) (r : Fin 512) (k : Fin 1024) :
    k0_pay18 y w x u (ix2 r k) = (((∑ d, Y r d * W k d) * U r k * (sg (X r k) * (1 - sg (X r k))) : ℝ) : EReal) := by
  pointwise [k0_pay18]
  simp only [pay10_real hy hw, pay11_real hx, pay13_real hu, one_real, ← EReal.coe_mul, ← EReal.coe_sub]

theorem pay19_real (hp : ∀ r k, p (ix2 r k) = (P r k : EReal)) (hq : ∀ r k, q (ix2 r k) = (Q r k : EReal))
    (hs : ∀ r k, s (ix2 r k) = (S r k : EReal)) (r : Fin 512) (k : Fin 1024) :
    k0_pay19 p q s (ix2 r k) = ((P r k * S r k * (Q r k * (1 - Q r k)) : ℝ) : EReal) := by
  pointwise [k0_pay19]
  simp only [hp, hq, hs, one_real, ← EReal.coe_mul, ← EReal.coe_sub]

theorem pay20_real (hy : ∀ r k, y (ix2 r k) = (Y r k : EReal)) (hw : ∀ j k, w (ix2 j k) = (W j k : EReal))
    (r : Fin 512) (j : Fin 1024) : k0_pay20 y w (ix2 r j) = ((∑ k, Y r k * W j k : ℝ) : EReal) := by
  pointwise [k0_pay20]
  simp only [hy, hw, ← EReal.coe_mul, sum_real]

theorem pay21_real (hy : ∀ r k, y (ix2 r k) = (Y r k : EReal)) (hw : ∀ j k, w (ix2 j k) = (W j k : EReal))
    (r : Fin 512) (j : Fin 1024) : k0_pay21 y w (ix2 r j) = ((∑ k, Y r k * W j k : ℝ) : EReal) := by
  pointwise [k0_pay21]
  simp only [hy, hw, ← EReal.coe_mul, sum_real]

/-! What a slab of the scratch adds. -/

theorem pay22_real (hy : ∀ r k, y (ix2 r k) = (Y r k : EReal)) (hx : ∀ r k, x (ix2 r k) = (X r k : EReal))
    (acc : Vec Ideal S1x1024x1024 .f32) (o : Fin 1) (j k : Fin 1024) :
    k0_pay22 y acc x (ix3 o j k) = acc (ix3 o j k) + ((∑ r, X r j * Y r k : ℝ) : EReal) := by
  obtain rfl : o = 0 := Subsingleton.elim _ _
  pointwise [k0_pay22]
  simp only [hy, hx, ← EReal.coe_mul, sum_real]

theorem pay1_real (hy : ∀ r k, y (ix2 r k) = (Y r k : EReal)) (hx : ∀ r k, x (ix2 r k) = (X r k : EReal))
    (acc : Vec Ideal S1x1024x1024 .f32) (o : Fin 1) (j k : Fin 1024) :
    k0_pay1 y (k0_pay23 acc) x (ix3 o j k) = acc (ix3 o j k) + ((∑ r, X r j * Y r k : ℝ) : EReal) := by
  obtain rfl : o = 0 := Subsingleton.elim _ _
  pointwise [k0_pay1, k0_pay23]
  simp only [hy, hx, ← EReal.coe_mul, sum_real]

theorem pay2_real (hy : ∀ r k, y (ix2 r k) = (Y r k : EReal)) (hz : ∀ r k, z (ix2 r k) = (Z r k : EReal))
    (acc : Vec Ideal S1x1024x1024 .f32) (o : Fin 1) (j k : Fin 1024) :
    k0_pay2 y z acc (ix3 o j k) = acc (ix3 o j k) + ((∑ r, Z r j * Y r k : ℝ) : EReal) := by
  obtain rfl : o = 0 := Subsingleton.elim _ _
  pointwise [k0_pay2]
  simp only [hy, hz, ← EReal.coe_mul, sum_real]

end Cert.MergeIdeal.Block

end
-- ==== Proof.MergeSum.lean ====
/- What the merge's grid points leave, over the reals: each row's gradients, and the sums along the grid. -/
module

public import proofs.«01_k».proof.Proof.MergeStore
public import proofs.«01_k».proof.Proof.MergeKernel
public import Idealize.ShloMosaic.Lib.WholeRead

@[expose] public section

set_option maxRecDepth 16384

noncomputable section

namespace Cert.MergeIdeal.Body

open Cert.MergeIdeal Cert.MergeIdeal.Gen Cert.MergeIdeal.Block Cert.Step Cert.Step.Merge
open Idealize.ShloMosaic Idealize.ShloMosaic.TcCoe Idealize.ShloMosaic.Tactic

/-! ## One point's values -/

/-- The point reads the tokens `n` of the given real arrays. -/
structure Point (L : Loads Ideal) (I : Inputs) (n : Fin 512 → Fin 8192) : Prop where
  ct : ∀ r k, L.ct (ix2 r k) = (I.CT (n r) k : EReal)
  mix : ∀ r k, L.mix (ix2 r k) = (I.mix (n r) k : EReal)
  ga : ∀ r k, L.ga (ix2 r k) = (I.GA (n r) k : EReal)
  gb : ∀ r k, L.gb (ix2 r k) = (I.GB (n r) k : EReal)
  pa : ∀ r k, L.pa (ix2 r k) = (I.pa (n r) k : EReal)
  pb : ∀ r k, L.pb (ix2 r k) = (I.pb (n r) k : EReal)
  a : ∀ r k, L.a (ix2 r k) = (I.A (n r) k : EReal)
  att : ∀ r k, L.att (ix2 r k) = (I.T (n r) k : EReal)
  wa : ∀ j k, L.wa (ix2 j k) = (I.WA j k : EReal)
  wb : ∀ j k, L.wb (ix2 j k) = (I.WB j k : EReal)
  wo : ∀ j k, L.wo (ix2 j k) = (I.WO j k : EReal)
  g : ∀ o k, L.g (ix2 o k) = (I.G k : EReal)

/-- One token's part of the gradient of the weights of slab `j`. -/
def part (I : Inputs) (j : Fin 3) (p q : Fin 1024) (n : Fin 8192) : ℝ :=
  match j with
  | 0 => I.A n p * I.dao n q
  | 1 => I.T n p * I.dbo n q
  | 2 => I.merged n p * I.dmix n q

section Values
variable {L : Loads Ideal} {I : Inputs} {n : Fin 512 → Fin 8192} (H : Point L I n)
include H

theorem dmixV_at (r : Fin 512) (k : Fin 1024) : dmixV L (ix2 r k) = (I.dmix (n r) k : EReal) := pay9_real H.mix H.ct H.g r k
theorem mergedV_at (r : Fin 512) (k : Fin 1024) : mergedV L (ix2 r k) = (I.merged (n r) k : EReal) :=
  pay15_real H.ga H.gb H.pa H.pb r k
theorem daoV_at (r : Fin 512) (k : Fin 1024) : daoV L (ix2 r k) = (I.dao (n r) k : EReal) := pay16_real (dmixV_at H) H.wo H.ga r k
theorem dboV_at (r : Fin 512) (k : Fin 1024) : dboV L (ix2 r k) = (I.dbo (n r) k : EReal) := pay17_real (dmixV_at H) H.wo H.gb r k
theorem dgaV_at (r : Fin 512) (k : Fin 1024) : dgaV L (ix2 r k) = (I.dga (n r) k : EReal) :=
  pay18_real (dmixV_at H) H.wo H.ga H.pa r k
theorem dgbV_at (r : Fin 512) (k : Fin 1024) : dgbV L (ix2 r k) = (I.dgb (n r) k : EReal) :=
  pay19_real (pay10_real (dmixV_at H) H.wo) (pay12_real H.gb) (pay14_real H.pb) r k
theorem daV_at (r : Fin 512) (k : Fin 1024) : daV L (ix2 r k) = (I.da (n r) k : EReal) := pay20_real (daoV_at H) H.wa r k
theorem dattV_at (r : Fin 512) (k : Fin 1024) : dattV L (ix2 r k) = (I.dt (n r) k : EReal) := pay21_real (dboV_at H) H.wb r k

theorem dgV_at {acc : Vec Ideal S1x1024 .f32} {a : ℝ} (d : Fin 1024) (h : acc (ix2 0 d) = (a : EReal)) :
    dgV L acc (ix2 0 d) = ((a + ∑ r, I.dg (n r) d : ℝ) : EReal) := by
  rw [EReal.coe_add, ← h]
  exact pay8_real H.mix H.ct acc 0 d

theorem slabV_at (j : Fin 3) {acc : Vec Ideal S1x1024x1024 .f32} {a : ℝ} (p q : Fin 1024) (h : acc (ix3 0 p q) = (a : EReal)) :
    slabV L j acc (ix3 0 p q) = ((a + ∑ r, part I j p q (n r) : ℝ) : EReal) := by
  rw [EReal.coe_add, ← h]
  fin_cases j
  · exact pay22_real (daoV_at H) H.a acc 0 p q
  · exact pay1_real (dboV_at H) H.att acc 0 p q
  · exact pay2_real (dmixV_at H) (mergedV_at H) acc 0 p q

end Values

/-! ## Sums over the tokens up to a point's -/

theorem tok_lt (t : ℕ) (r : Fin 512) : (t * 512 + r.val) % 8192 < 8192 := Nat.mod_lt _ (by omega)
/-- The token of row `r` of point `t`. -/
def tok (t : ℕ) (r : Fin 512) : Fin 8192 := ⟨(t * 512 + r.val) % 8192, tok_lt t r⟩

def upTo (f : Fin 8192 → ℝ) (t : ℕ) : ℝ := ∑ k ∈ Finset.range (t + 1), ∑ r, f (tok k r)

theorem upTo_zero (f : Fin 8192 → ℝ) : upTo f 0 = 0 + ∑ r, f (tok 0 r) := by simp [upTo]
theorem upTo_succ (f : Fin 8192 → ℝ) (t : ℕ) : upTo f (t + 1) = upTo f t + ∑ r, f (tok (t + 1) r) := Finset.sum_range_succ _ _

theorem upTo_all (f : Fin 8192 → ℝ) : upTo f 15 = ∑ n, f n := by
  unfold upTo
  rw [Finset.sum_range, ← Fintype.sum_prod_type' (f := fun (k : Fin 16) r => f (tok k.val r))]
  refine Fintype.sum_equiv (finProdFinEquiv (m := 16) (n := 512)) _ _ fun p => congrArg f (Fin.ext ?_)
  show (p.1.val * 512 + p.2.val) % 8192 = p.2.val + 512 * p.1.val
  omega

/-- What a point leaves of the sums. -/
structure Sums (I : Inputs) (dg : Vec Ideal S1x1024 .f32) (sums : Vec Ideal S3x1024x1024 .f32) (t : ℕ) : Prop where
  dg : ∀ d, dg (ix2 0 d) = (upTo (fun n => I.dg n d) t : EReal)
  slab : ∀ j p q, sums (ix3 j p q) = (upTo (part I j p q) t : EReal)

/-! ## The lists' pieces -/

theorem canon_row (v : Vec Ideal S1x1024 .f32) (P : List (View.Piece (Elt Ideal) S1x1024 .f32)) : View.canon (⟨rRow, v⟩ :: P) = v :=
  View.canon_cons_unit_lit _ _ _ (by decide)
theorem canon_block {e : EltTy} (v : Vec Ideal S512x1024 e) : View.canon [(⟨rBlock, v⟩ : View.Piece (Elt Ideal) S512x1024 e)] = v :=
  View.canon_cons_unit_lit _ _ _ (by decide)

theorem word_zero : Ideal.ofBits .f32 0x00000000#32 = ((0 : ℝ) : EReal) := by simp [Ideal.ofBits, Ideal.ieee]
theorem zeroRow_at (d : Fin 1024) : k0_pay3 (F := Ideal) (ix2 0 d) = ((0 : ℝ) : EReal) := word_zero
theorem zeroSlabs_at (x : S3x1024x1024.Idx) : k0_pay4 (F := Ideal) x = ((0 : ℝ) : EReal) := word_zero

theorem rowFrom_eq (b : Memref sig .tc .vmem S1x1024 .f32) (f : Vec Ideal S1x1024 .f32 → FVec Ideal S1x1024 .f32) :
    View.canon (rowFrom b f) = f (k0_pay3 (F := Ideal)) := by
  unfold rowFrom
  rw [canon_row, View.readCov_unit_lit _ _ _ (by decide)]

theorem slab_emb (j : Fin 3) (p q : Fin 1024) : (ix3 j p q : S3x1024x1024.Idx) = (rSlab j).emb (ix3 0 p q) := by
  funext a; apply Fin.ext; fin_cases a <;> simp [Rect.unit, Rect.emb, ix3]

theorem slab_apart (j j' : Fin 3) (h : j ≠ j') (x : (rSlab j).shape.Idx) : (rSlab j).emb x ∉ (rSlab j').set := by
  intro hm
  have h0 := (Rect.mem_set_unit (inb := inb_slab j')).mp hm 0
  have hx : (x 0).val < 1 := (x 0).isLt
  have hv : ((rSlab j).emb x 0).val = j.val + (x 0).val := by simp [Rect.unit, Rect.emb]
  have h1 : j'.val ≤ ((rSlab j).emb x 0).val := h0.1
  have h2 : ((rSlab j).emb x 0).val < j'.val + 1 := h0.2
  exact h (Fin.ext (by omega))

abbrev SlabPiece := View.Piece (Elt Ideal) S3x1024x1024 .f32

/-- A list of slabs holds, at a slab of it, that slab's values. -/
theorem canon_slabs (w : Fin 3 → Vec Ideal S1x1024x1024 .f32) (js : List (Fin 3)) (j : Fin 3) (hj : j ∈ js) (x : S1x1024x1024.Idx) :
    View.canon (js.map fun j => (⟨rSlab j, w j⟩ : SlabPiece)) ((rSlab j).emb x) = w j x := by
  induction js with
  | nil => exact absurd hj List.not_mem_nil
  | cons i js ih =>
    rw [List.map_cons]
    by_cases h : j = i
    · subst h
      exact View.canon_cons_emb _ _ _ _
    · have hm : j ∈ js := List.mem_of_ne_of_mem h hj
      refine (View.canon_cons_of_not_mem _ _ (slab_apart j i h x)).trans ?_
      exact ih hm

/-- Slabs stored one after the other, each computed from what it held at the start. -/
theorem canon_slabs_from (b : View sig .tc .vmem S3x1024x1024 .f32) (f : Fin 3 → Vec Ideal S1x1024x1024 .f32 → Vec Ideal S1x1024x1024 .f32)
    (js : List (Fin 3)) (hn : js.Nodup) (P : List SlabPiece) (j : Fin 3) (x : S1x1024x1024.Idx) :
    View.canon (js.foldl (fun P j => (⟨rSlab j, f j (b.readCov P (rSlab j).toLoadRect)⟩ : SlabPiece) :: P) P) ((rSlab j).emb x)
      = if j ∈ js then f j (fun y => View.canon P ((rSlab j).emb y)) x else View.canon P ((rSlab j).emb x) := by
  induction js generalizing P with
  | nil => simp
  | cons i js ih =>
    rw [List.foldl_cons, ih (List.nodup_cons.mp hn).2]
    by_cases h : j = i
    · subst h
      rw [if_neg (List.nodup_cons.mp hn).1, if_pos List.mem_cons_self, View.canon_cons_emb]
      exact congrFun (congrArg (f j) (View.readCov_eq_canon' b P (rSlab j).toLoadRect)) x
    · have ho : ∀ y, View.canon ((⟨rSlab i, f i (b.readCov P (rSlab i).toLoadRect)⟩ : SlabPiece) :: P) ((rSlab j).emb y)
          = View.canon P ((rSlab j).emb y) := fun y => View.canon_cons_of_not_mem _ _ (slab_apart j i h y)
      simp only [ho, List.mem_cons, h, false_or]

theorem all_three (j : Fin 3) : j ∈ ([2, 1, 0] : List (Fin 3)) ∧ j ∈ ([0, 1, 2] : List (Fin 3)) := by
  fin_cases j <;> decide

section Slabs
variable {L : Loads Ideal} {I : Inputs} {n : Fin 512 → Fin 8192} (H : Point L I n)
include H

theorem slabStores_at {prev : Fin 3 → Vec Ideal S1x1024x1024 .f32} {a : ℝ} (j : Fin 3) (p q : Fin 1024)
    (h : prev j (ix3 0 p q) = (a : EReal)) :
    View.canon (slabStores L prev) (ix3 j p q) = ((a + ∑ r, part I j p q (n r) : ℝ) : EReal) := by
  rw [slab_emb]
  exact (canon_slabs (fun j => slabV L j (prev j)) _ j (all_three j).1 _).trans (slabV_at H j p q h)

theorem slabsFrom_at (j : Fin 3) (p q : Fin 1024) :
    View.canon (slabsFrom L) (ix3 j p q) = ((0 + ∑ r, part I j p q (n r) : ℝ) : EReal) := by
  rw [slab_emb]
  refine (canon_slabs_from scM0_0.view (fun j => slabV L j) [0, 1, 2] (by decide) startSlabs j _).trans ?_
  rw [if_pos (all_three j).2]
  refine slabV_at H j p q ?_
  unfold startSlabs
  rw [View.canon_cons_unit_lit _ _ _ (by decide)]
  exact zeroSlabs_at _

end Slabs

theorem heldRow_at (c : Dev nD) (t : Fin cfg0.N) (l : Left Ideal c) (d : Fin 1024) : heldRow c t l (ix2 0 d) = l.dg (ix2 0 d) := by
  unfold heldRow
  rw [(hs0_15 t).readAt_unread]
  refine congrArg l.dg ?_
  funext a; apply Fin.ext; fin_cases a <;> simp [Rect.unit, ix2]

theorem heldSlab_at (c : Dev nD) (l : Left Ideal c) (j : Fin 3) (p q : Fin 1024) : heldSlab c l j (ix3 0 p q) = l.sums (ix3 j p q) := by
  unfold heldSlab
  rw [whole_scratch.readAt_unread]
  refine congrArg l.sums ?_
  funext a; apply Fin.ext; fin_cases a <;> simp [Rect.unit, ix3]

/-- A slab covered by the list is copied out as the list has it. -/
theorem copied_at (c : Dev nD) (l : Left Ideal c) (P : List SlabPiece) (j : Fin 3) (p q : Fin 1024)
    (h : ∃ z ∈ P, (ix3 j p q : S3x1024x1024.Idx) ∈ z.1.set) : copied c l P j (ix2 p q) = View.canon P (ix3 j p q) := by
  have e : (Shape.reshapeEquiv squeezes_S1x1024x1024_S1024x1024.numel_eq (ix2 p q : S1024x1024.Idx) : S1x1024x1024.Idx) = ix3 0 p q := by
    pointwise []
  show View.read (Elt Ideal) scM0_0.view _ ((rSlab j).emb (Shape.reshapeEquiv squeezes_S1x1024x1024_S1024x1024.numel_eq (ix2 p q))) = _
  rw [e, ← slab_emb]
  exact View.read_writes_apply_eq_canon _ _ _ P h

theorem covered (L : Loads Ideal) (prev : Fin 3 → Vec Ideal S1x1024x1024 .f32) (j : Fin 3) (p q : Fin 1024) :
    ∃ z ∈ slabStores L prev, (ix3 j p q : S3x1024x1024.Idx) ∈ z.1.set :=
  ⟨⟨rSlab j, slabV L j (prev j)⟩, List.mem_map.mpr ⟨j, (all_three j).1, rfl⟩, by rw [slab_emb]; exact (rSlab j).idx_mem _⟩

/-! ## The points of the run -/

section Run
variable (m : (ℓ : Loc nD τ sig) → Buf (Elt Ideal) ℓ) (c : Dev nD)

theorem first_eq (t : Fin cfg0.N) (h0 : cond0_0 (grid0.coords t)) (h1 : ¬ cond0_1 (grid0.coords t)) :
    left m c t = (stores c (loads m c t) (rowFrom (ms0_15 t) (dgV (loads m c t))) (slabsFrom (loads m c t))
      (V m c main_v29_5) (V m c main_v29_6) (V m c main_v29_7)).left :=
  (left_first m c t h0 h1).trans (congrArg Stores.left (storesFirst_eq m c t h0 h1))

theorem mid_eq (t : Fin cfg0.N) (h0 : ¬ cond0_0 (grid0.coords t)) (h1 : ¬ cond0_1 (grid0.coords t)) (l : Left Ideal c)
    (e : left m c (prev t) = l) :
    left m c t = (stores c (loads m c t) [⟨rRow, dgV (loads m c t) (heldRow c t l)⟩]
      (slabStores (loads m c t) (heldSlab c l)) l.wa l.wb l.wo).left := by
  subst e
  exact (left_mid m c t h0 h1).trans (congrArg Stores.left (storesMid_eq m c t h0 h1 _))

theorem last_eq (t : Fin cfg0.N) (h0 : ¬ cond0_0 (grid0.coords t)) (h1 : cond0_1 (grid0.coords t)) (l : Left Ideal c)
    (e : left m c (prev t) = l) :
    left m c t = (stores c (loads m c t) [⟨rRow, dgV (loads m c t) (heldRow c t l)⟩]
      (slabStores (loads m c t) (heldSlab c l))
      (View.write (Elt Ideal) (View.whole main_v29_5) l.wa (copied c l (slabStores (loads m c t) (heldSlab c l)) 0) Finset.univ)
      (View.write (Elt Ideal) (View.whole main_v29_6) l.wb (copied c l (slabStores (loads m c t) (heldSlab c l)) 1) Finset.univ)
      (View.write (Elt Ideal) (View.whole main_v29_7) l.wo (copied c l (slabStores (loads m c t) (heldSlab c l)) 2) Finset.univ)).left := by
  subst e
  exact (left_last m c t h0 h1).trans (congrArg Stores.left (storesLast_eq m c t h0 h1 _))

section Fields
variable (L : Loads Ideal) (dg : List (View.Piece (Elt Ideal) S1x1024 .f32)) (sums : List SlabPiece)
  (wa : HbBuf0 (F := Ideal) c hbM0_0) (wb : HbBuf0 (F := Ideal) c hbM0_1) (wo : HbBuf0 (F := Ideal) c hbM0_2)

theorem left_dg : (stores c L dg sums wa wb wo).left.dg = View.canon dg := by unfold stores Stores.left; with_reducible rfl
theorem left_sums : (stores c L dg sums wa wb wo).left.sums = View.canon sums := by unfold stores Stores.left; with_reducible rfl
theorem left_wa : (stores c L dg sums wa wb wo).left.wa = wa := by unfold stores Stores.left; with_reducible rfl
theorem left_wb : (stores c L dg sums wa wb wo).left.wb = wb := by unfold stores Stores.left; with_reducible rfl
theorem left_wo : (stores c L dg sums wa wb wo).left.wo = wo := by unfold stores Stores.left; with_reducible rfl
theorem left_dga : (stores c L dg sums wa wb wo).left.dga = dgaV L := by unfold stores Stores.left; dsimp only; rw [canon_block]
theorem left_dgb : (stores c L dg sums wa wb wo).left.dgb = dgbV L := by unfold stores Stores.left; dsimp only; rw [canon_block]
theorem left_da : (stores c L dg sums wa wb wo).left.da = daV L := by unfold stores Stores.left; dsimp only; rw [canon_block]
theorem left_datt : (stores c L dg sums wa wb wo).left.datt = dattV L := by unfold stores Stores.left; dsimp only; rw [canon_block]

end Fields

variable {I : Inputs} (hP : ∀ t : Fin cfg0.N, Point (loads m c t) I (tok t.val))
include hP

theorem next_sums (t : Fin cfg0.N) (k : ℕ) (ht : t.val = k + 1) (l : Left Ideal c) (S : Sums I l.dg l.sums k) :
    Sums I (View.canon [⟨rRow, dgV (loads m c t) (heldRow c t l)⟩]) (View.canon (slabStores (loads m c t) (heldSlab c l))) (k + 1) := by
  have H : Point (loads m c t) I (tok (k + 1)) := ht ▸ hP t
  refine ⟨fun d => ?_, fun j p q => ?_⟩
  · rw [canon_row, upTo_succ]
    exact dgV_at H d ((heldRow_at c t l d).trans (S.dg d))
  · rw [upTo_succ]
    exact slabStores_at H j p q ((heldSlab_at c l j p q).trans (S.slab j p q))

theorem sums_first (t : Fin cfg0.N) (ht : t.val = 0) : Sums I (left m c t).dg (left m c t).sums 0 := by
  have h0 : cond0_0 (grid0.coords t) := (hcond0_0 t).mpr (by omega)
  have h1 : ¬ cond0_1 (grid0.coords t) := fun e => by have := (hcond0_1 t).mp e; omega
  have H : Point (loads m c t) I (tok 0) := ht ▸ hP t
  rw [first_eq m c t h0 h1]
  refine ⟨fun d => ?_, fun j p q => ?_⟩
  · rw [left_dg, rowFrom_eq, upTo_zero]
    exact dgV_at H d (zeroRow_at d)
  · rw [left_sums, upTo_zero]
    exact slabsFrom_at H j p q

theorem sums_upTo (k : ℕ) (hk : k < 15) (hn : k < cfg0.N) : Sums I (left m c ⟨k, hn⟩).dg (left m c ⟨k, hn⟩).sums k := by
  induction k with
  | zero => exact sums_first m c hP ⟨0, hn⟩ rfl
  | succ k ih =>
    have S := ih (by omega) (by omega)
    have h0 : ¬ cond0_0 (grid0.coords ⟨k + 1, hn⟩) := fun e => by have := (hcond0_0 _).mp e; simp only at this; omega
    have h1 : ¬ cond0_1 (grid0.coords ⟨k + 1, hn⟩) := fun e => by have := (hcond0_1 _).mp e; simp only at this; omega
    rw [mid_eq m c _ h0 h1 _ rfl, left_dg, left_sums]
    exact next_sums m c hP ⟨k + 1, hn⟩ k rfl _ S

/-- At the last point the sums are whole, and the copies outside hold the slabs. -/
theorem sums_last (t : Fin cfg0.N) (ht : t.val = 15) :
    (∀ d, (left m c t).dg (ix2 0 d) = ((∑ n, I.dg n d : ℝ) : EReal))
      ∧ (∀ p q, (left m c t).wa (ix2 p q) = ((∑ n, part I 0 p q n : ℝ) : EReal))
      ∧ (∀ p q, (left m c t).wb (ix2 p q) = ((∑ n, part I 1 p q n : ℝ) : EReal))
      ∧ ∀ p q, (left m c t).wo (ix2 p q) = ((∑ n, part I 2 p q n : ℝ) : EReal) := by
  have h0 : ¬ cond0_0 (grid0.coords t) := fun e => by have := (hcond0_0 t).mp e; omega
  have h1 : cond0_1 (grid0.coords t) := (hcond0_1 t).mpr (by omega)
  have hp : prev t = ⟨14, by have := t.isLt; omega⟩ := Fin.ext (by show t.val - 1 = 14; omega)
  have S := sums_upTo m c hP 14 (by omega) (by have := t.isLt; omega)
  rw [← hp] at S
  rw [last_eq m c t h0 h1 _ rfl]
  generalize left m c (prev t) = l at S ⊢
  have N := next_sums m c hP t 14 ht l S
  have C : ∀ j p q, copied c l (slabStores (loads m c t) (heldSlab c l)) j (ix2 p q) = ((∑ n, part I j p q n : ℝ) : EReal) := fun j p q =>
    (copied_at c l _ j p q (covered _ _ j p q)).trans ((N.slab j p q).trans (congrArg _ (upTo_all _)))
  rw [left_dg, left_wa, left_wb, left_wo]
  refine ⟨fun d => (N.dg d).trans (congrArg _ (upTo_all _)), fun p q => ?_, fun p q => ?_, fun p q => ?_⟩
  · refine Eq.trans ?_ (C 0 p q)
    show View.write (Elt Ideal) (View.whole main_v29_5) _ _ Finset.univ _ = _
    rw [View.write_whole_univ]
  · refine Eq.trans ?_ (C 1 p q)
    show View.write (Elt Ideal) (View.whole main_v29_6) _ _ Finset.univ _ = _
    rw [View.write_whole_univ]
  · refine Eq.trans ?_ (C 2 p q)
    show View.write (Elt Ideal) (View.whole main_v29_7) _ _ Finset.univ _ = _
    rw [View.write_whole_univ]

omit hP in
theorem stores_rows (L : Loads Ideal) (n : Fin 512 → Fin 8192) (H : Point L I n) (dg : List (View.Piece (Elt Ideal) S1x1024 .f32))
    (sums : List SlabPiece) (wa : HbBuf0 (F := Ideal) c hbM0_0) (wb : HbBuf0 (F := Ideal) c hbM0_1) (wo : HbBuf0 (F := Ideal) c hbM0_2)
    (r : Fin 512) (k : Fin 1024) :
    (stores c L dg sums wa wb wo).left.dga (ix2 r k) = (I.dga (n r) k : EReal)
      ∧ (stores c L dg sums wa wb wo).left.dgb (ix2 r k) = (I.dgb (n r) k : EReal)
      ∧ (stores c L dg sums wa wb wo).left.da (ix2 r k) = (I.da (n r) k : EReal)
      ∧ (stores c L dg sums wa wb wo).left.datt (ix2 r k) = (I.dt (n r) k : EReal) :=
  ⟨(congrFun (left_dga c L dg sums wa wb wo) _).trans (dgaV_at H r k), (congrFun (left_dgb c L dg sums wa wb wo) _).trans (dgbV_at H r k),
    (congrFun (left_da c L dg sums wa wb wo) _).trans (daV_at H r k), (congrFun (left_datt c L dg sums wa wb wo) _).trans (dattV_at H r k)⟩

/-- At every point: the blocks of rows it writes. -/
theorem rows_at (t : Fin cfg0.N) (r : Fin 512) (k : Fin 1024) :
    (left m c t).dga (ix2 r k) = (I.dga (tok t.val r) k : EReal) ∧ (left m c t).dgb (ix2 r k) = (I.dgb (tok t.val r) k : EReal)
      ∧ (left m c t).da (ix2 r k) = (I.da (tok t.val r) k : EReal) ∧ (left m c t).datt (ix2 r k) = (I.dt (tok t.val r) k : EReal) := by
  by_cases h0 : cond0_0 (grid0.coords t)
  · have h1 : ¬ cond0_1 (grid0.coords t) := fun e => by have := (hcond0_1 t).mp e; have := (hcond0_0 t).mp h0; omega
    rw [first_eq m c t h0 h1]
    exact stores_rows c _ _ (hP t) _ _ _ _ _ r k
  · by_cases h1 : cond0_1 (grid0.coords t)
    · rw [last_eq m c t h0 h1 _ rfl]
      exact stores_rows c _ _ (hP t) _ _ _ _ _ r k
    · rw [mid_eq m c t h0 h1 _ rfl]
      exact stores_rows c _ _ (hP t) _ _ _ _ _ r k

end Run

end Cert.MergeIdeal.Body

end
-- ==== Proof.MergeRef.lean ====
/- The merge's reference: its list of operations, read at an entry. -/
module

public import proofs.«01_k».proof.Proof.Gen.MergeRefIdeal.Read
public import proofs.«01_k».proof.Proof.MergeRow
public import Idealize.ShloMosaic.Lib.Pipeline.ValueKit
public import Idealize.ShloMosaic.Lib.Pointwise

@[expose] public section

set_option maxRecDepth 16384

noncomputable section

namespace Cert.MergeRefIdeal.Row

open Cert.MergeRefIdeal Cert.MergeRefIdeal.Gen Cert.MergeRefIdeal.Read Cert.Step Cert.Step.Merge Idealize.ShloMosaic
  Idealize.ShloMosaic.TcCoe Idealize.SL.Sem

variable {a0 a1 a2 a3 : Vec Ideal S8192x1024 .f32} {a4 a5 a6 : Vec Ideal S1024x1024 .f32} {a7 : Vec Ideal S1x1024 .f32}
  {a8 : Vec Ideal S8192x1024 .f32} {I : Inputs}

/-- The arguments are the given real arrays. -/
structure Holds (a0 a1 a2 a3 : Vec Ideal S8192x1024 .f32) (a4 a5 a6 : Vec Ideal S1024x1024 .f32) (a7 : Vec Ideal S1x1024 .f32)
    (a8 : Vec Ideal S8192x1024 .f32) (I : Inputs) : Prop where
  a : ∀ r k, a0 (ix2 r k) = (I.A r k : EReal)
  t : ∀ r k, a1 (ix2 r k) = (I.T r k : EReal)
  ga : ∀ r k, a2 (ix2 r k) = (I.GA r k : EReal)
  gb : ∀ r k, a3 (ix2 r k) = (I.GB r k : EReal)
  wa : ∀ j k, a4 (ix2 j k) = (I.WA j k : EReal)
  wb : ∀ j k, a5 (ix2 j k) = (I.WB j k : EReal)
  wo : ∀ j k, a6 (ix2 j k) = (I.WO j k : EReal)
  g : ∀ o k, a7 (ix2 o k) = (I.G k : EReal)
  ct : ∀ r k, a8 (ix2 r k) = (I.CT r k : EReal)

variable (H : Holds a0 a1 a2 a3 a4 a5 a6 a7 a8 I)
include H

theorem v5_real (r : Fin 8192) (k : Fin 1024) : val_main_v5 a2 (ix2 r k) = (sg (I.GA r k) : EReal) := by
  pointwise [val_main_v5, val_main_v4, val_main_v3, val_main_v2, val_main_v1, val_main_v0, val_main_cst, val_main_cst_0]
  simp only [H.ga, one_real, sg_real]

theorem v16_real (r : Fin 8192) (k : Fin 1024) : val_main_v16 a3 (ix2 r k) = (sg (I.GB r k) : EReal) := by
  pointwise [val_main_v16, val_main_v15, val_main_v14, val_main_v13, val_main_v12, val_main_v11, val_main_cst_2, val_main_cst_3]
  simp only [H.gb, one_real, sg_real]

theorem v8_real (r : Fin 8192) (k : Fin 1024) : val_main_v8 a2 (ix2 r k) = ((sg (I.GA r k) * (1 - sg (I.GA r k)) : ℝ) : EReal) := by
  pointwise [val_main_v8, val_main_v7, val_main_v6, val_main_cst_1]
  simp only [v5_real H, one_real, ← EReal.coe_mul, ← EReal.coe_sub]

theorem v19_real (r : Fin 8192) (k : Fin 1024) : val_main_v19 a3 (ix2 r k) = ((sg (I.GB r k) * (1 - sg (I.GB r k)) : ℝ) : EReal) := by
  pointwise [val_main_v19, val_main_v18, val_main_v17, val_main_cst_4]
  simp only [v16_real H, one_real, ← EReal.coe_mul, ← EReal.coe_sub]

theorem v9_real (r : Fin 8192) (k : Fin 1024) : val_main_v9 a0 a4 (ix2 r k) = (I.pa r k : EReal) := by
  pointwise [val_main_v9]
  simp only [H.a, H.wa, ← EReal.coe_mul, sum_real, Inputs.pa]

theorem v20_real (r : Fin 8192) (k : Fin 1024) : val_main_v20 a1 a5 (ix2 r k) = (I.pb r k : EReal) := by
  pointwise [val_main_v20]
  simp only [H.t, H.wb, ← EReal.coe_mul, sum_real, Inputs.pb]

theorem v22_real (r : Fin 8192) (k : Fin 1024) : val_main_v22 a0 a1 a2 a3 a4 a5 (ix2 r k) = (I.merged r k : EReal) := by
  pointwise [val_main_v22, val_main_v21, val_main_v10]
  simp only [v5_real H, v16_real H, v9_real H, v20_real H, ← EReal.coe_mul, ← EReal.coe_add, Inputs.merged]

theorem v23_real (r : Fin 8192) (k : Fin 1024) : val_main_v23 a0 a1 a2 a3 a4 a5 a6 (ix2 r k) = (I.mix r k : EReal) := by
  pointwise [val_main_v23]
  simp only [v22_real H, H.wo, ← EReal.coe_mul, sum_real, Inputs.mix]

theorem v30_real (r : Fin 8192) (o) : val_main_v30 a0 a1 a2 a3 a4 a5 a6 (ix2 r o) = (meanSq (I.mix r) : EReal) := by
  pointwise [val_main_v30, val_main_v29, val_main_v28, val_main_v27, val_main_v26, val_main_v25, val_main_v24, val_main_cst_5, val_main_cst_6, val_main_cst_7]
  simp only [v23_real H, ← EReal.coe_mul, sum_real, div_1024, word_eps, ← EReal.coe_add, meanSq]

theorem v31_real (r : Fin 8192) (o) : val_main_v31 a0 a1 a2 a3 a4 a5 a6 (ix2 r o) = (rinv (I.mix r) : EReal) := by
  pointwise [val_main_v31]
  rw [v30_real H, rsqrt_real (meanSq_pos _), rinv]

theorem v34_real (r : Fin 8192) (o) : val_main_v34 a0 a1 a2 a3 a4 a5 a6 (ix2 r o) = ((-(1 / 2) * (rinv (I.mix r) / meanSq (I.mix r)) : ℝ) : EReal) := by
  pointwise [val_main_v34, val_main_v33, val_main_v32, val_main_cst_8]
  rw [v30_real H, v31_real H, div_real (meanSq_pos _).ne', word_neg_half, ← EReal.coe_mul]

theorem v36_real (r : Fin 8192) (k : Fin 1024) : val_main_v36 a0 a1 a2 a3 a4 a5 a6 (ix2 r k) = ((I.mix r k * rinv (I.mix r) : ℝ) : EReal) := by
  pointwise [val_main_v36, val_main_v35]
  rw [v23_real H, v31_real H, ← EReal.coe_mul]

theorem v41_real (o : Fin 1) (d : Fin 1024) : val_main_v41 a0 a1 a2 a3 a4 a5 a6 a8 (ix2 o d) = ((∑ r, I.dg r d : ℝ) : EReal) := by
  pointwise [val_main_v41, val_main_v40, val_main_v39, val_main_cst_9]
  simp only [v36_real H, H.ct, ← EReal.coe_mul, sum_real, Inputs.dg, mul_comm]

theorem v43_real (r : Fin 8192) (k : Fin 1024) : val_main_v43 a7 a8 (ix2 r k) = ((I.CT r k * I.G k : ℝ) : EReal) := by
  pointwise [val_main_v43, val_main_v42]
  rw [H.ct, H.g, ← EReal.coe_mul]

theorem v53_real (r : Fin 8192) (k : Fin 1024) : val_main_v53 a0 a1 a2 a3 a4 a5 a6 a7 a8 (ix2 r k) = (meanBack (I.mix r) (fun k => I.CT r k * I.G k) : EReal) := by
  pointwise [val_main_v53, val_main_v52, val_main_v51, val_main_v50, val_main_v49, val_main_v46, val_main_v45, val_main_v44, val_main_cst_10, val_main_cst_11, val_main_cst_12]
  simp only [v43_real H, v23_real H, v34_real H, ← EReal.coe_mul, sum_real, div_1024, Fin.sum_univ_one, meanBack]

theorem v57_real (r : Fin 8192) (k : Fin 1024) : val_main_v57 a0 a1 a2 a3 a4 a5 a6 a7 a8 (ix2 r k) = (I.dmix r k : EReal) := by
  pointwise [val_main_v57, val_main_v56, val_main_v55, val_main_v54, val_main_v48, val_main_v47]
  simp only [v53_real H, v43_real H, v23_real H, v31_real H, ← EReal.coe_mul, ← EReal.coe_add]
  exact congrArg _ (normBack_eq _ (fun k => I.CT r k * I.G k) k)

theorem v60_real (r : Fin 8192) (k : Fin 1024) : val_main_v60 a0 a1 a2 a3 a4 a5 a6 a7 a8 (ix2 r k) = (I.dmerged r k : EReal) := by
  pointwise [val_main_v60]
  simp only [v57_real H, H.wo, ← EReal.coe_mul, sum_real, Inputs.dmerged]

theorem v61_real (r : Fin 8192) (k : Fin 1024) : val_main_v61 a0 a1 a2 a3 a4 a5 a6 a7 a8 (ix2 r k) = (I.dbo r k : EReal) := by
  pointwise [val_main_v61]
  rw [v16_real H, v60_real H, ← EReal.coe_mul, mul_comm, Inputs.dbo]

theorem v67_real (r : Fin 8192) (k : Fin 1024) : val_main_v67 a0 a1 a2 a3 a4 a5 a6 a7 a8 (ix2 r k) = (I.dao r k : EReal) := by
  pointwise [val_main_v67]
  rw [v5_real H, v60_real H, ← EReal.coe_mul, mul_comm, Inputs.dao]

theorem v73_real (r : Fin 8192) (k : Fin 1024) : val_main_v73 a0 a1 a2 a3 a4 a5 a6 a7 a8 (ix2 r k) = (I.dga r k : EReal) := by
  pointwise [val_main_v73, val_main_v72, val_main_v68]
  rw [v60_real H, v9_real H, v8_real H, ← EReal.coe_mul, ← EReal.coe_mul, Inputs.dga]

theorem v74_real (r : Fin 8192) (k : Fin 1024) : val_main_v74 a0 a1 a2 a3 a4 a5 a6 a7 a8 (ix2 r k) = (I.dgb r k : EReal) := by
  pointwise [val_main_v74, val_main_v66, val_main_v62]
  rw [v60_real H, v20_real H, v19_real H, ← EReal.coe_mul, ← EReal.coe_mul, Inputs.dgb]

theorem v71_real (r : Fin 8192) (k : Fin 1024) : val_main_v71 a0 a1 a2 a3 a4 a5 a6 a7 a8 (ix2 r k) = (I.da r k : EReal) := by
  pointwise [val_main_v71]
  simp only [v67_real H, H.wa, ← EReal.coe_mul, sum_real, Inputs.da]

theorem v75_real (r : Fin 8192) (k : Fin 1024) : val_main_v75 a0 a1 a2 a3 a4 a5 a6 a7 a8 (ix2 r k) = (I.dt r k : EReal) := by
  pointwise [val_main_v75, val_main_v65]
  simp only [v61_real H, H.wb, ← EReal.coe_mul, sum_real, Inputs.dt]

theorem v70_real (j k : Fin 1024) : val_main_v70 a0 a1 a2 a3 a4 a5 a6 a7 a8 (ix2 j k) = ((∑ r, I.A r j * I.dao r k : ℝ) : EReal) := by
  pointwise [val_main_v70, val_main_v69]
  simp only [v67_real H, H.a, ← EReal.coe_mul, sum_real, mul_comm]

theorem v64_real (j k : Fin 1024) : val_main_v64 a0 a1 a2 a3 a4 a5 a6 a7 a8 (ix2 j k) = ((∑ r, I.T r j * I.dbo r k : ℝ) : EReal) := by
  pointwise [val_main_v64, val_main_v63]
  simp only [v61_real H, H.t, ← EReal.coe_mul, sum_real, mul_comm]

theorem v59_real (j k : Fin 1024) : val_main_v59 a0 a1 a2 a3 a4 a5 a6 a7 a8 (ix2 j k) = ((∑ r, I.merged r j * I.dmix r k : ℝ) : EReal) := by
  pointwise [val_main_v59, val_main_v58]
  simp only [v57_real H, v22_real H, ← EReal.coe_mul, sum_real, mul_comm]

end Cert.MergeRefIdeal.Row

end
-- ==== Proof.MergeHost.lean ====
/- What the merge's gradient call finds at a grid point, from the reals behind the arguments. -/
module

public import proofs.«01_k».proof.Proof.MergeSum
public import proofs.«01_k».proof.Proof.MergeRef
public import Idealize.ShloMosaic.Lib.StableHlo.RunRead
public import Idealize.ShloMosaic.Lib.StableHlo.ReadAt
public import Idealize.ShloMosaic.Lib.Pipeline.ValueKit

@[expose] public section

set_option maxRecDepth 16384

noncomputable section

namespace Cert.MergeIdeal.Body

open Cert.MergeIdeal Cert.MergeIdeal.Gen Cert.Step Cert.Step.Merge Cert.MergeRefIdeal.Read Cert.MergeRefIdeal.Row
open Idealize.ShloMosaic Idealize.ShloMosaic.TcCoe Idealize.ShloMosaic.Tactic Idealize.ShloMosaic.StableHlo Idealize.SL.Sem

variable (m : (ℓ : Loc nD τ sig) → Buf (Elt Ideal) ℓ) (c : Dev nD)

abbrev argA : FVec Ideal S8192x1024 .f32 := m ((c : Thread nD τ).loc main_arg0)
abbrev argT : FVec Ideal S8192x1024 .f32 := m ((c : Thread nD τ).loc main_arg1)
abbrev argGa : FVec Ideal S8192x1024 .f32 := m ((c : Thread nD τ).loc main_arg2)
abbrev argGb : FVec Ideal S8192x1024 .f32 := m ((c : Thread nD τ).loc main_arg3)
abbrev argWa : FVec Ideal S1024x1024 .f32 := m ((c : Thread nD τ).loc main_arg4)
abbrev argWb : FVec Ideal S1024x1024 .f32 := m ((c : Thread nD τ).loc main_arg5)
abbrev argWo : FVec Ideal S1024x1024 .f32 := m ((c : Thread nD τ).loc main_arg6)
abbrev argG : FVec Ideal S1x1024 .f32 := m ((c : Thread nD τ).loc main_arg7)
abbrev argCt : FVec Ideal S8192x1024 .f32 := m ((c : Thread nD τ).loc main_arg8)

/-- The saved products, one beside the other. -/
def beside (x y : FVec Ideal S8192x1024 .f32) : FVec Ideal S8192x2048 .bf16 :=
  concatenate S8192x2048 1 [⟨S8192x1024, (truncf .bf16 x bitsLt_bf16_f32 : FVec Ideal S8192x1024 .bf16)⟩,
    ⟨S8192x1024, (truncf .bf16 y bitsLt_bf16_f32 : FVec Ideal S8192x1024 .bf16)⟩] concatenates_S8192x1024_S8192x1024_S8192x2048_d1

theorem found_ct : V m c main_arg8 = argCt m c := by
  show StableHlo.after _ _ (Proc.devRef .tc main_arg8) = _
  after_reads_simp

theorem found_g : V m c main_arg7 = argG m c := by
  show StableHlo.after _ _ (Proc.devRef .tc main_arg7) = _
  after_reads_simp

theorem found_mix : V m c main_v21 = (truncf .bf16 (val_main_v23 (F := Ideal) (argA m c) (argT m c) (argGa m c) (argGb m c) (argWa m c) (argWb m c) (argWo m c)
    : FVec Ideal S8192x1024 .f32) bitsLt_bf16_f32 : FVec Ideal S8192x1024 .bf16) := by
  show StableHlo.after _ _ (Proc.devRef .tc main_v21) = _
  after_reads_simp
  rfl

theorem found_ab : V m c main_v20 = beside (val_main_v9 (F := Ideal) (argA m c) (argWa m c)) (val_main_v20 (F := Ideal) (argT m c) (argWb m c)) := by
  show StableHlo.after _ _ (Proc.devRef .tc main_v20) = _
  after_reads_simp
  rfl

theorem found_ga : V m c main_v22 = (truncf .bf16 (argGa m c) bitsLt_bf16_f32 : FVec Ideal S8192x1024 .bf16) := by
  show StableHlo.after _ _ (Proc.devRef .tc main_v22) = _
  after_reads_simp

theorem found_gb : V m c main_v23 = (truncf .bf16 (argGb m c) bitsLt_bf16_f32 : FVec Ideal S8192x1024 .bf16) := by
  show StableHlo.after _ _ (Proc.devRef .tc main_v23) = _
  after_reads_simp

theorem found_a : V m c main_v24 = (truncf .bf16 (argA m c) bitsLt_bf16_f32 : FVec Ideal S8192x1024 .bf16) := by
  show StableHlo.after _ _ (Proc.devRef .tc main_v24) = _
  after_reads_simp

theorem found_t : V m c main_v25 = (truncf .bf16 (argT m c) bitsLt_bf16_f32 : FVec Ideal S8192x1024 .bf16) := by
  show StableHlo.after _ _ (Proc.devRef .tc main_v25) = _
  after_reads_simp

theorem found_wa : V m c main_v26 = (truncf .bf16 (argWa m c) bitsLt_bf16_f32 : FVec Ideal S1024x1024 .bf16) := by
  show StableHlo.after _ _ (Proc.devRef .tc main_v26) = _
  after_reads_simp

theorem found_wb : V m c main_v27 = (truncf .bf16 (argWb m c) bitsLt_bf16_f32 : FVec Ideal S1024x1024 .bf16) := by
  show StableHlo.after _ _ (Proc.devRef .tc main_v27) = _
  after_reads_simp

theorem found_wo : V m c main_v28 = (truncf .bf16 (argWo m c) bitsLt_bf16_f32 : FVec Ideal S1024x1024 .bf16) := by
  show StableHlo.after _ _ (Proc.devRef .tc main_v28) = _
  after_reads_simp

/-! ## Read at a token -/

theorem low_lt (k : Fin 1024) : k.val < 2048 := by omega
theorem high_lt (k : Fin 1024) : 1024 + k.val < 2048 := by omega

theorem beside_low (x y : FVec Ideal S8192x1024 .f32) (r : Fin 8192) (k : Fin 1024) :
    beside x y (ix2 r ⟨k.val, low_lt k⟩) = x (ix2 r k) := by
  pointwise [beside]

theorem beside_high (x y : FVec Ideal S8192x1024 .f32) (r : Fin 8192) (k : Fin 1024) :
    beside x y (ix2 r ⟨1024 + k.val, high_lt k⟩) = y (ix2 r k) := by
  pointwise [beside]

variable {m c} {I : Inputs} (H : Holds (argA m c) (argT m c) (argGa m c) (argGb m c) (argWa m c) (argWb m c) (argWo m c) (argG m c) (argCt m c) I)
include H

theorem host_mix (r : Fin 8192) (k : Fin 1024) : V m c main_v21 (ix2 r k) = (I.mix r k : EReal) := by
  rw [found_mix, ← v23_real H r k]
  pointwise []

theorem host_pa (r : Fin 8192) (k : Fin 1024) : V m c main_v20 (ix2 r ⟨k.val, low_lt k⟩) = (I.pa r k : EReal) := by
  rw [found_ab, beside_low]
  exact v9_real H r k

theorem host_pb (r : Fin 8192) (k : Fin 1024) : V m c main_v20 (ix2 r ⟨1024 + k.val, high_lt k⟩) = (I.pb r k : EReal) := by
  rw [found_ab, beside_high]
  exact v20_real H r k

theorem host_ga (r : Fin 8192) (k : Fin 1024) : V m c main_v22 (ix2 r k) = (I.GA r k : EReal) := by
  rw [found_ga, ← H.ga]
  pointwise []

theorem host_gb (r : Fin 8192) (k : Fin 1024) : V m c main_v23 (ix2 r k) = (I.GB r k : EReal) := by
  rw [found_gb, ← H.gb]
  pointwise []

theorem host_a (r : Fin 8192) (k : Fin 1024) : V m c main_v24 (ix2 r k) = (I.A r k : EReal) := by
  rw [found_a, ← H.a]
  pointwise []

theorem host_t (r : Fin 8192) (k : Fin 1024) : V m c main_v25 (ix2 r k) = (I.T r k : EReal) := by
  rw [found_t, ← H.t]
  pointwise []

theorem host_wa (j k : Fin 1024) : V m c main_v26 (ix2 j k) = (I.WA j k : EReal) := by
  rw [found_wa, ← H.wa]
  pointwise []

theorem host_wb (j k : Fin 1024) : V m c main_v27 (ix2 j k) = (I.WB j k : EReal) := by
  rw [found_wb, ← H.wb]
  pointwise []

theorem host_wo (j k : Fin 1024) : V m c main_v28 (ix2 j k) = (I.WO j k : EReal) := by
  rw [found_wo, ← H.wo]
  pointwise []

/-! ## The windows' blocks -/

omit H in
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0]
    ∧ win0_15.index t = ![0, 0] :=
  (by decide +kernel : ∀ t : Fin grid0.N, _)

/-- The token of row `r` of grid point `t`. -/
def place (t : Fin cfg0.N) (r : Fin 512) : Fin 8192 := ⟨t.val * 512 + r.val, by have := lt_of_lt_of_eq t.isLt (show cfg0.N = 16 from N_0); omega⟩

omit H in
theorem place_tok (t : Fin cfg0.N) (r : Fin 512) : tok t.val r = place t r := by
  have h := lt_of_lt_of_eq t.isLt (show cfg0.N = 16 from N_0)
  apply Fin.ext
  show (t.val * 512 + r.val) % 8192 = t.val * 512 + r.val
  omega

theorem blk_ct (t : Fin cfg0.N) (r : Fin 512) (d : Fin 1024) : iblk m c 0 t (ix2 r d) = (I.CT (place t r) d : EReal) := by
  rw [← H.ct]
  show _ = argCt m c (ix2 (place t r) d)
  rw [← found_ct m c]
  blk_point [iblk, idx t, place]

theorem blk_mix (t : Fin cfg0.N) (r : Fin 512) (d : Fin 1024) : iblk m c 1 t (ix2 r d) = (I.mix (place t r) d : EReal) := by
  rw [← host_mix H]
  blk_point [iblk, idx t, place]

theorem blk_ga (t : Fin cfg0.N) (r : Fin 512) (d : Fin 1024) : iblk m c 2 t (ix2 r d) = (I.GA (place t r) d : EReal) := by
  rw [← host_ga H]
  blk_point [iblk, idx t, place]

theorem blk_gb (t : Fin cfg0.N) (r : Fin 512) (d : Fin 1024) : iblk m c 3 t (ix2 r d) = (I.GB (place t r) d : EReal) := by
  rw [← host_gb H]
  blk_point [iblk, idx t, place]

omit H in
theorem blk_ab (t : Fin cfg0.N) (r : Fin 512) (d : Fin 2048) : iblk m c 4 t (ix2 r d) = V m c main_v20 (ix2 (place t r) d) := by
  blk_point [iblk, idx t, place]

theorem blk_a (t : Fin cfg0.N) (r : Fin 512) (d : Fin 1024) : iblk m c 5 t (ix2 r d) = (I.A (place t r) d : EReal) := by
  rw [← host_a H]
  blk_point [iblk, idx t, place]

theorem blk_t (t : Fin cfg0.N) (r : Fin 512) (d : Fin 1024) : iblk m c 6 t (ix2 r d) = (I.T (place t r) d : EReal) := by
  rw [← host_t H]
  blk_point [iblk, idx t, place]

theorem blk_wa (t : Fin cfg0.N) (j k : Fin 1024) : iblk m c 7 t (ix2 j k) = (I.WA j k : EReal) := by
  rw [← host_wa H]
  blk_point [iblk, idx t]

theorem blk_wb (t : Fin cfg0.N) (j k : Fin 1024) : iblk m c 8 t (ix2 j k) = (I.WB j k : EReal) := by
  rw [← host_wb H]
  blk_point [iblk, idx t]

theorem blk_wo (t : Fin cfg0.N) (j k : Fin 1024) : iblk m c 9 t (ix2 j k) = (I.WO j k : EReal) := by
  rw [← host_wo H]
  blk_point [iblk, idx t]

theorem blk_g (t : Fin cfg0.N) (d : Fin 1024) : iblk m c 10 t (ix2 0 d) = (I.G d : EReal) := by
  rw [← H.g 0]
  show _ = argG m c (ix2 0 d)
  rw [← found_g m c]
  blk_point [iblk, idx t]

/-! ## The loads -/

omit H
theorem readBlock {e : EltTy} (b : Memref sig .tc .vmem S512x1024 e) (h : b.IsWhole) (X : Vec Ideal S512x1024 e) (r : Fin 512) (d : Fin 1024) :
    View.readAt (Elt Ideal) b.view rBlock.toLoadRect (h.unread X) (ix2 r d) = X (ix2 r d) := by
  rw [h.readAt_unread]
  refine congrArg X ?_
  funext a; apply Fin.ext; fin_cases a <;> simp [Rect.unit, ix2]

theorem readLow (b : Memref sig .tc .vmem S512x2048 .bf16) (h : b.IsWhole) (X : Vec Ideal S512x2048 .bf16) (r : Fin 512) (d : Fin 1024) :
    View.readAt (Elt Ideal) b.view (Rect.unit (s := S512x2048) ![0, 0] S512x1024.size inb_S512x2048_S512x1024_0_0).toLoadRect (h.unread X) (ix2 r d)
      = X (ix2 r ⟨d.val, low_lt d⟩) := by
  rw [h.readAt_unread]
  refine congrArg X ?_
  funext a; apply Fin.ext; fin_cases a <;> simp [Rect.unit, ix2]

theorem readHigh (b : Memref sig .tc .vmem S512x2048 .bf16) (h : b.IsWhole) (X : Vec Ideal S512x2048 .bf16) (r : Fin 512) (d : Fin 1024) :
    View.readAt (Elt Ideal) b.view (Rect.unit (s := S512x2048) ![0, 1024] S512x1024.size inb_S512x2048_S512x1024_0_1024).toLoadRect (h.unread X) (ix2 r d)
      = X (ix2 r ⟨1024 + d.val, high_lt d⟩) := by
  rw [h.readAt_unread]
  refine congrArg X ?_
  funext a; apply Fin.ext; fin_cases a <;> simp [Rect.unit, ix2]

theorem readWeight (b : Memref sig .tc .vmem S1024x1024 .bf16) (h : b.IsWhole) (X : Vec Ideal S1024x1024 .bf16) (j k : Fin 1024) :
    View.readAt (Elt Ideal) b.view rWeight.toLoadRect (h.unread X) (ix2 j k) = X (ix2 j k) := by
  rw [h.readAt_unread]
  refine congrArg X ?_
  funext a; apply Fin.ext; fin_cases a <;> simp [Rect.unit, ix2]

theorem readRow (b : Memref sig .tc .vmem S1x1024 .f32) (h : b.IsWhole) (X : Vec Ideal S1x1024 .f32) (d : Fin 1024) :
    View.readAt (Elt Ideal) b.view rRow.toLoadRect (h.unread X) (ix2 0 d) = X (ix2 0 d) := by
  rw [h.readAt_unread]
  refine congrArg X ?_
  funext a; apply Fin.ext; fin_cases a <;> simp [Rect.unit, ix2]

include H in
set_option maxHeartbeats 1600000 in
theorem point (t : Fin cfg0.N) : Point (loads m c t) I (tok t.val) := by
  have e : tok t.val = place t := funext (place_tok t)
  rw [e]
  unfold loads
  constructor
  · exact fun r d => (readBlock _ _ _ r d).trans (blk_ct H t r d)
  · exact fun r d => (readBlock _ _ _ r d).trans (blk_mix H t r d)
  · exact fun r d => (readBlock _ _ _ r d).trans (blk_ga H t r d)
  · exact fun r d => (readBlock _ _ _ r d).trans (blk_gb H t r d)
  · exact fun r d => (readLow _ _ _ r d).trans ((blk_ab t r _).trans (host_pa H _ d))
  · exact fun r d => (readHigh _ _ _ r d).trans ((blk_ab t r _).trans (host_pb H _ d))
  · exact fun r d => (readBlock _ _ _ r d).trans (blk_a H t r d)
  · exact fun r d => (readBlock _ _ _ r d).trans (blk_t H t r d)
  · exact fun j k => (readWeight _ _ _ j k).trans (blk_wa H t j k)
  · exact fun j k => (readWeight _ _ _ j k).trans (blk_wb H t j k)
  · exact fun j k => (readWeight _ _ _ j k).trans (blk_wo H t j k)
  · intro o d
    obtain rfl : o = 0 := Subsingleton.elim _ _
    exact (readRow _ _ _ d).trans (blk_g H t d)

end Cert.MergeIdeal.Body

end
-- ==== Proof.MergeFinal.lean ====
/- What the merge's gradient call's result arrays hold after its run: the reference's results. -/
module

public import proofs.«01_k».proof.Proof.MergeHost

@[expose] public section

set_option maxRecDepth 16384

noncomputable section

namespace Cert.MergeIdeal.Body

open Cert.MergeIdeal Cert.MergeIdeal.Gen Cert.Step Cert.Step.Merge Cert.MergeRefIdeal.Read Cert.MergeRefIdeal.Row
open Idealize.ShloMosaic Idealize.ShloMosaic.TcCoe Idealize.ShloMosaic.Tactic Idealize.ShloMosaic.StableHlo Idealize.SL.Sem

variable {m : (ℓ : Loc nD τ sig) → Buf (Elt Ideal) ℓ} {c : Dev nD}

/-- The last grid point. -/
def lastPt : Fin cfg0.N := ⟨15, lt_of_lt_of_eq (by omega) (show cfg0.N = 16 from N_0).symm⟩

theorem emb11 (t : Fin cfg0.N) (r : Fin 512) (d : Fin 1024) :
    (win0_11.blk t).view.emb (ix2 r d) = (ix2 (place t r) d : S8192x1024.Idx) := by
  funext a
  apply Fin.ext
  fin_cases a <;> blk_simp [idx t, place] <;> rfl

theorem emb12 (t : Fin cfg0.N) (r : Fin 512) (d : Fin 1024) :
    (win0_12.blk t).view.emb (ix2 r d) = (ix2 (place t r) d : S8192x1024.Idx) := by
  funext a
  apply Fin.ext
  fin_cases a <;> blk_simp [idx t, place] <;> rfl

theorem emb13 (t : Fin cfg0.N) (r : Fin 512) (d : Fin 1024) :
    (win0_13.blk t).view.emb (ix2 r d) = (ix2 (place t r) d : S8192x1024.Idx) := by
  funext a
  apply Fin.ext
  fin_cases a <;> blk_simp [idx t, place] <;> rfl

theorem emb14 (t : Fin cfg0.N) (r : Fin 512) (d : Fin 1024) :
    (win0_14.blk t).view.emb (ix2 r d) = (ix2 (place t r) d : S8192x1024.Idx) := by
  funext a
  apply Fin.ext
  fin_cases a <;> blk_simp [idx t, place] <;> rfl

variable {I : Inputs} (H : Holds (argA m c) (argT m c) (argGa m c) (argGb m c) (argWa m c) (argWb m c) (argWo m c) (argG m c) (argCt m c) I)
include H

set_option maxHeartbeats 1600000 in
theorem final11 : (dats m 0 c).arrAt 11 (cfgs 0).N
    = val_main_v73 (F := Ideal) (argA m c) (argT m c) (argGa m c) (argGb m c) (argWa m c) (argWb m c) (argWo m c) (argG m c) (argCt m c) := by
  refine (dats m 0 c).arrAt_eq_of_covers 11 _ (by decide +kernel) fun t ht y => ?_
  have h : ∀ y : S512x1024.Idx, (left m c t).dga y
      = val_main_v73 (F := Ideal) (argA m c) (argT m c) (argGa m c) (argGb m c) (argWa m c) (argWb m c) (argWo m c) (argG m c) (argCt m c) ((win0_11.blk t).view.emb y) :=
    forall_ix2 fun r d => by
      rw [emb11, (rows_at m c (point H) t r d).1, place_tok, v73_real H]
  blk_simp
  exact h y

set_option maxHeartbeats 1600000 in
theorem final12 : (dats m 0 c).arrAt 12 (cfgs 0).N
    = val_main_v74 (F := Ideal) (argA m c) (argT m c) (argGa m c) (argGb m c) (argWa m c) (argWb m c) (argWo m c) (argG m c) (argCt m c) := by
  refine (dats m 0 c).arrAt_eq_of_covers 12 _ (by decide +kernel) fun t ht y => ?_
  have h : ∀ y : S512x1024.Idx, (left m c t).dgb y
      = val_main_v74 (F := Ideal) (argA m c) (argT m c) (argGa m c) (argGb m c) (argWa m c) (argWb m c) (argWo m c) (argG m c) (argCt m c) ((win0_12.blk t).view.emb y) :=
    forall_ix2 fun r d => by
      rw [emb12, (rows_at m c (point H) t r d).2.1, place_tok, v74_real H]
  blk_simp
  exact h y

set_option maxHeartbeats 1600000 in
theorem final13 : (dats m 0 c).arrAt 13 (cfgs 0).N
    = val_main_v71 (F := Ideal) (argA m c) (argT m c) (argGa m c) (argGb m c) (argWa m c) (argWb m c) (argWo m c) (argG m c) (argCt m c) := by
  refine (dats m 0 c).arrAt_eq_of_covers 13 _ (by decide +kernel) fun t ht y => ?_
  have h : ∀ y : S512x1024.Idx, (left m c t).da y
      = val_main_v71 (F := Ideal) (argA m c) (argT m c) (argGa m c) (argGb m c) (argWa m c) (argWb m c) (argWo m c) (argG m c) (argCt m c) ((win0_13.blk t).view.emb y) :=
    forall_ix2 fun r d => by
      rw [emb13, (rows_at m c (point H) t r d).2.2.1, place_tok, v71_real H]
  blk_simp
  exact h y

set_option maxHeartbeats 1600000 in
theorem final14 : (dats m 0 c).arrAt 14 (cfgs 0).N
    = val_main_v75 (F := Ideal) (argA m c) (argT m c) (argGa m c) (argGb m c) (argWa m c) (argWb m c) (argWo m c) (argG m c) (argCt m c) := by
  refine (dats m 0 c).arrAt_eq_of_covers 14 _ (by decide +kernel) fun t ht y => ?_
  have h : ∀ y : S512x1024.Idx, (left m c t).datt y
      = val_main_v75 (F := Ideal) (argA m c) (argT m c) (argGa m c) (argGb m c) (argWa m c) (argWb m c) (argWo m c) (argG m c) (argCt m c) ((win0_14.blk t).view.emb y) :=
    forall_ix2 fun r d => by
      rw [emb14, (rows_at m c (point H) t r d).2.2.2, place_tok, v75_real H]
  blk_simp
  exact h y

set_option maxHeartbeats 1600000 in
theorem final15 : (dats m 0 c).arrAt 15 (cfgs 0).N
    = val_main_v41 (F := Ideal) (argA m c) (argT m c) (argGa m c) (argGb m c) (argWa m c) (argWb m c) (argWo m c) (argCt m c) := by
  refine (dats m 0 c).arrAt_eq_of_after_last 15 lastPt (by decide +kernel) _ fun y => ?_
  have S := sums_last m c (point H) lastPt rfl
  have h : ∀ y : S1x1024.Idx, (left m c lastPt).dg y
      = val_main_v41 (F := Ideal) (argA m c) (argT m c) (argGa m c) (argGb m c) (argWa m c) (argWb m c) (argWo m c) (argCt m c) y :=
    forall_ix2 fun o d => by
      rw [Subsingleton.elim o 0, S.1 d, v41_real H]
  blk_simp
  exact h y

theorem final_wa : ends m c main_v29_5 = val_main_v70 (F := Ideal) (argA m c) (argT m c) (argGa m c) (argGb m c) (argWa m c) (argWb m c) (argWo m c) (argG m c) (argCt m c) := by
  have S := sums_last m c (point H) lastPt rfl
  have h : ∀ y : S1024x1024.Idx, (left m c lastPt).wa y = val_main_v70 (F := Ideal) (argA m c) (argT m c) (argGa m c) (argGb m c) (argWa m c) (argWb m c) (argWo m c) (argG m c) (argCt m c) y :=
    forall_ix2 fun p q => (S.2.1 p q).trans (v70_real H p q).symm
  rw [ends_wa]
  exact funext h

theorem final_wb : ends m c main_v29_6 = val_main_v64 (F := Ideal) (argA m c) (argT m c) (argGa m c) (argGb m c) (argWa m c) (argWb m c) (argWo m c) (argG m c) (argCt m c) := by
  have S := sums_last m c (point H) lastPt rfl
  have h : ∀ y : S1024x1024.Idx, (left m c lastPt).wb y = val_main_v64 (F := Ideal) (argA m c) (argT m c) (argGa m c) (argGb m c) (argWa m c) (argWb m c) (argWo m c) (argG m c) (argCt m c) y :=
    forall_ix2 fun p q => (S.2.2.1 p q).trans (v64_real H p q).symm
  rw [ends_wb]
  exact funext h

theorem final_wo : ends m c main_v29_7 = val_main_v59 (F := Ideal) (argA m c) (argT m c) (argGa m c) (argGb m c) (argWa m c) (argWb m c) (argWo m c) (argG m c) (argCt m c) := by
  have S := sums_last m c (point H) lastPt rfl
  have h : ∀ y : S1024x1024.Idx, (left m c lastPt).wo y = val_main_v59 (F := Ideal) (argA m c) (argT m c) (argGa m c) (argGb m c) (argWa m c) (argWb m c) (argWo m c) (argG m c) (argCt m c) y :=
    forall_ix2 fun p q => (S.2.2.2 p q).trans (v59_real H p q).symm
  rw [ends_wo]
  exact funext h

end Cert.MergeIdeal.Body

end
-- ==== Proof.MergeClaim.lean ====
/- The gated merge's gradients: the claims about the backward kernel and its reference. -/
module

public import proofs.«01_k».proof.Defs
public import proofs.«01_k».proof.Proof.Gen.Merge.Skeleton
public import proofs.«01_k».proof.Proof.Gen.MergeRefIdeal.Read
public import proofs.«01_k».proof.Proof.MergeFinal
public import proofs.«01_k».proof.Proof.Finite
public import Idealize.ShloMosaic.Lib.Claim
public import Idealize.ShloMosaic.Lib.Tactic

@[expose] public section

set_option maxRecDepth 16384

noncomputable section

namespace Cert.Proof.Merge

open Idealize.ShloMosaic Idealize.ShloMosaic.Tactic Idealize.SL.Sem Cert.Step

instance facts_pre : Cert.Pre_finite_merge.Facts := by
  constructor <;> decide

theorem frame_ideal : Cert.quiescent_MergeIdeal := fun m ρ _ => Cert.MergeIdeal.Body.frame_all m ρ

theorem frame_ideal_pre : Cert.quiescent_MergeIdeal_pre_finite_merge := fun m ρ _ => Cert.MergeIdeal.Body.frame_all m ρ

theorem frame_kernel : Cert.quiescent_Merge := by
  intro m ρ _
  have h := Cert.MergeIdeal.Body.frame_all (F := Bits) m ρ
  exact cast (by sl_kernel_rfl) h

theorem frame_ref : Cert.quiescent_MergeRefIdeal := fun m g _ =>
  (θ_run Cert.MergeRefIdeal.defs _ _).mono
    (fun r h => ⟨fun c => (h c).2.2.2.2.2.2.2.2, sem_eq_zero_of_no_sems (by decide) r.2⟩)
    (Cert.MergeRefIdeal.Value.run m g)

theorem frame_ref_pre : Cert.quiescent_MergeRefIdeal_pre_finite_merge := fun m g _ => frame_ref m g trivial

open Cert.MergeIdeal.Body Cert.MergeRefIdeal.Row in
/-- Under the precondition the arguments' reals are given. -/
theorem holds (m : (ℓ : Loc Cert.MergeIdeal.nD Cert.MergeIdeal.τ Cert.MergeIdeal.sig) → Buf (Elt Ideal) ℓ)
    (hpre : Cert.Pre_MergeIdeal_finite_merge m) (c : Dev Cert.MergeIdeal.nD) :
    ∃ I : Step.Merge.Inputs, Holds (argA m c) (argT m c) (argGa m c) (argGb m c) (argWa m c) (argWb m c) (argWo m c) (argG m c) (argCt m c) I := by
  obtain ⟨h0, h1, h2, h3, h4, h5, h6, h7, h8⟩ := hpre c
  obtain ⟨A, hA⟩ := matrix_real (argA m c) _ _ h0
  obtain ⟨T, hT⟩ := matrix_real (argT m c) _ _ h1
  obtain ⟨GA, hGA⟩ := matrix_real (argGa m c) _ _ h2
  obtain ⟨GB, hGB⟩ := matrix_real (argGb m c) _ _ h3
  obtain ⟨WA, hWA⟩ := matrix_real (argWa m c) _ _ h4
  obtain ⟨WB, hWB⟩ := matrix_real (argWb m c) _ _ h5
  obtain ⟨WO, hWO⟩ := matrix_real (argWo m c) _ _ h6
  obtain ⟨G, hG⟩ := row_real (argG m c) _ _ h7
  obtain ⟨CT, hCT⟩ := matrix_real (argCt m c) _ _ h8
  exact ⟨⟨A, T, GA, GB, WA, WB, WO, G, CT⟩, ⟨hA, hT, hGA, hGB, hWA, hWB, hWO, hG, hCT⟩⟩

set_option maxHeartbeats 1600000 in
open Cert.MergeIdeal.Body in
/-- The idealized kernel's run: the blocked results hold their windows' final arrays, the others what the last point copies out. -/
theorem results (m : (ℓ : Loc Cert.MergeIdeal.nD Cert.MergeIdeal.τ Cert.MergeIdeal.sig) → Buf (Elt Ideal) ℓ)
    (ρ : Dev Cert.MergeIdeal.nD → PrngReg) :
    θ_run (Cert.MergeIdeal.defs (F := Ideal)) (onTc (τ := Cert.MergeIdeal.τ) (Cert.MergeIdeal.main (F := Ideal))) ⟨m, fun _ => 0, ρ⟩
      (fun r => ∀ c : Dev Cert.MergeIdeal.nD,
        (r.2.mem ((c.tc : Thread Cert.MergeIdeal.nD Cert.MergeIdeal.τ).loc Cert.MergeIdeal.main_v29_0) = (dats m 0 c).arrAt 11 (Cert.MergeIdeal.cfgs 0).N
        ∧ r.2.mem ((c.tc : Thread Cert.MergeIdeal.nD Cert.MergeIdeal.τ).loc Cert.MergeIdeal.main_v29_1) = (dats m 0 c).arrAt 12 (Cert.MergeIdeal.cfgs 0).N
        ∧ r.2.mem ((c.tc : Thread Cert.MergeIdeal.nD Cert.MergeIdeal.τ).loc Cert.MergeIdeal.main_v29_2) = (dats m 0 c).arrAt 13 (Cert.MergeIdeal.cfgs 0).N
        ∧ r.2.mem ((c.tc : Thread Cert.MergeIdeal.nD Cert.MergeIdeal.τ).loc Cert.MergeIdeal.main_v29_3) = (dats m 0 c).arrAt 14 (Cert.MergeIdeal.cfgs 0).N
        ∧ r.2.mem ((c.tc : Thread Cert.MergeIdeal.nD Cert.MergeIdeal.τ).loc Cert.MergeIdeal.main_v29_4) = (dats m 0 c).arrAt 15 (Cert.MergeIdeal.cfgs 0).N
        ∧ r.2.mem ((c.tc : Thread Cert.MergeIdeal.nD Cert.MergeIdeal.τ).loc Cert.MergeIdeal.main_v29_5) = ends m c Cert.MergeIdeal.main_v29_5
        ∧ r.2.mem ((c.tc : Thread Cert.MergeIdeal.nD Cert.MergeIdeal.τ).loc Cert.MergeIdeal.main_v29_6) = ends m c Cert.MergeIdeal.main_v29_6
        ∧ r.2.mem ((c.tc : Thread Cert.MergeIdeal.nD Cert.MergeIdeal.τ).loc Cert.MergeIdeal.main_v29_7) = ends m c Cert.MergeIdeal.main_v29_7)) :=
  (θ_run _ _ _).mono (fun r h c => ⟨(h.1 c).1 11, (h.1 c).1 12, (h.1 c).1 13, (h.1 c).1 14, (h.1 c).1 15,
    h.2 c Cert.MergeIdeal.main_v29_5 (by decide), h.2 c Cert.MergeIdeal.main_v29_6 (by decide), h.2 c Cert.MergeIdeal.main_v29_7 (by decide)⟩) (run_main m ρ)

set_option maxHeartbeats 6400000 in
open Cert.MergeIdeal.Body Cert.MergeRefIdeal.Read in
theorem algebraic : Cert.algebraic_MergeIdeal_MergeRefIdeal_pre_finite_merge := by
  intro m g m' g' hpre hagree
  refine ⟨fun c => (dats m 0 c).arrAt 11 (Cert.MergeIdeal.cfgs 0).N, fun c => (dats m 0 c).arrAt 12 (Cert.MergeIdeal.cfgs 0).N, fun c => (dats m 0 c).arrAt 13 (Cert.MergeIdeal.cfgs 0).N, fun c => (dats m 0 c).arrAt 14 (Cert.MergeIdeal.cfgs 0).N, fun c => (dats m 0 c).arrAt 15 (Cert.MergeIdeal.cfgs 0).N, fun c => ends m c Cert.MergeIdeal.main_v29_5, fun c => ends m c Cert.MergeIdeal.main_v29_6, fun c => ends m c Cert.MergeIdeal.main_v29_7, ?_, ?_⟩
  · exact θ_run_mono (θ_run_and (results m g) (Cert.MergeIdeal.Body.frame_all m g))
      (fun r h c => by
        obtain ⟨q0, q1, q2, q3, q4, q5, q6, q7⟩ := h.1 c
        exact ⟨q0, q1, q2, q3, q4, q5, q6, q7, h.2.1 c⟩)
  · refine (θ_run Cert.MergeRefIdeal.defs _ _).mono (fun r h c => ?_) (Cert.MergeRefIdeal.Value.run m' g')
    obtain ⟨I, H⟩ := holds m hpre c
    obtain ⟨e0, e1, e2, e3, e4, e5, e6, e7, e8⟩ := hagree c
    obtain ⟨q0, q1, q2, q3, q4, q5, q6, q7, hargs⟩ := h c
    have e : ∀ {α : Sort 1} (f : _ → _ → _ → _ → _ → _ → _ → _ → _ → α), f (m' ((c.tc : Thread Cert.MergeRefIdeal.nD Cert.MergeRefIdeal.τ).loc Cert.MergeRefIdeal.main_arg0))
        (m' ((c.tc : Thread Cert.MergeRefIdeal.nD Cert.MergeRefIdeal.τ).loc Cert.MergeRefIdeal.main_arg1))
        (m' ((c.tc : Thread Cert.MergeRefIdeal.nD Cert.MergeRefIdeal.τ).loc Cert.MergeRefIdeal.main_arg2))
        (m' ((c.tc : Thread Cert.MergeRefIdeal.nD Cert.MergeRefIdeal.τ).loc Cert.MergeRefIdeal.main_arg3))
        (m' ((c.tc : Thread Cert.MergeRefIdeal.nD Cert.MergeRefIdeal.τ).loc Cert.MergeRefIdeal.main_arg4))
        (m' ((c.tc : Thread Cert.MergeRefIdeal.nD Cert.MergeRefIdeal.τ).loc Cert.MergeRefIdeal.main_arg5))
        (m' ((c.tc : Thread Cert.MergeRefIdeal.nD Cert.MergeRefIdeal.τ).loc Cert.MergeRefIdeal.main_arg6))
        (m' ((c.tc : Thread Cert.MergeRefIdeal.nD Cert.MergeRefIdeal.τ).loc Cert.MergeRefIdeal.main_arg7))
        (m' ((c.tc : Thread Cert.MergeRefIdeal.nD Cert.MergeRefIdeal.τ).loc Cert.MergeRefIdeal.main_arg8))
        = f (argA m c) (argT m c) (argGa m c) (argGb m c) (argWa m c) (argWb m c) (argWo m c) (argG m c) (argCt m c) := fun f => by
      rw [e0, e1, e2, e3, e4, e5, e6, e7, e8]
    exact ⟨((q0.trans (val_main_v73_eq _ _)).trans (e (val_main_v73 (F := Ideal)))).trans (final11 H).symm,
      ((q1.trans (val_main_v74_eq _ _)).trans (e (val_main_v74 (F := Ideal)))).trans (final12 H).symm,
      ((q2.trans (val_main_v71_eq _ _)).trans (e (val_main_v71 (F := Ideal)))).trans (final13 H).symm,
      ((q3.trans (val_main_v75_eq _ _)).trans (e (val_main_v75 (F := Ideal)))).trans (final14 H).symm,
      ((q4.trans (val_main_v41_eq _ _ _ _ _ _ _ _)).trans (e (fun a0 a1 a2 a3 a4 a5 a6 _ a8 => val_main_v41 (F := Ideal) a0 a1 a2 a3 a4 a5 a6 a8))).trans (final15 H).symm,
      ((q5.trans (val_main_v70_eq _ _)).trans (e (val_main_v70 (F := Ideal)))).trans (final_wa H).symm,
      ((q6.trans (val_main_v64_eq _ _)).trans (e (val_main_v64 (F := Ideal)))).trans (final_wb H).symm,
      ((q7.trans (val_main_v59_eq _ _)).trans (e (val_main_v59 (F := Ideal)))).trans (final_wo H).symm, hargs⟩

end Cert.Proof.Merge

end
-- ==== Proof.lean ====
module

public import proofs.«01_k».proof.Defs
public import proofs.«01_k».proof.Proof.Gen.Ffn
public import proofs.«01_k».proof.Proof.Gen.FfnIdeal
public import proofs.«01_k».proof.Proof.Gen.FfnIdeal.Value
public import proofs.«01_k».proof.Proof.Gen.FfnRefIdeal
public import proofs.«01_k».proof.Proof.Gen.FfnRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Read
public import proofs.«01_k».proof.Proof.Gen.Sgu
public import proofs.«01_k».proof.Proof.Gen.Sgu.Skeleton
public import proofs.«01_k».proof.Proof.Gen.Sgu.Launch
public import proofs.«01_k».proof.Proof.Gen.Sgu.Points
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame.Runs
public import proofs.«01_k».proof.Proof.Gen.SguRefIdeal
public import proofs.«01_k».proof.Proof.Gen.SguRefIdeal.Read
public import proofs.«01_k».proof.Proof.Gen.Merge
public import proofs.«01_k».proof.Proof.Gen.Merge.Skeleton
public import proofs.«01_k».proof.Proof.Gen.MergeIdeal
public import proofs.«01_k».proof.Proof.Gen.MergeIdeal.Skeleton
public import proofs.«01_k».proof.Proof.Gen.MergeRefIdeal
public import proofs.«01_k».proof.Proof.Gen.MergeRefIdeal.Read
public import proofs.«01_k».proof.Proof.FfnClaim
public import proofs.«01_k».proof.Proof.AttnClaim
public import proofs.«01_k».proof.Proof.SguClaim
public import proofs.«01_k».proof.Proof.MergeClaim

@[expose] public section

noncomputable section

namespace Cert.Proof

open Idealize.ShloMosaic Idealize.SL.Sem

theorem claim : Cert.Claim :=
  ⟨Cert.Ffn.Gen.facts, Cert.FfnIdeal.Gen.facts, Cert.FfnRefIdeal.Gen.facts,
    Cert.Attn.Gen.facts, Cert.AttnIdeal.Gen.facts, Cert.AttnRefIdeal.Gen.facts,
    Cert.Sgu.Gen.facts, Cert.SguIdeal.Gen.facts, Cert.SguRefIdeal.Gen.facts,
    Cert.Merge.Gen.facts, Cert.MergeIdeal.Gen.facts, Cert.MergeRefIdeal.Gen.facts, Ffn.facts_pre, Attn.facts_pre, Sgu.facts_pre, Merge.facts_pre,
    Ffn.frame_kernel, Ffn.frame_ideal, Ffn.frame_ideal_pre, Ffn.frame_ref, Ffn.frame_ref_pre,
    Attn.frame_kernel, Attn.frame_ideal, Attn.frame_ideal_pre, Attn.frame_ref, Attn.frame_ref_pre,
    Sgu.frame_kernel, Sgu.frame_ideal, Sgu.frame_ideal_pre, Sgu.frame_ref, Sgu.frame_ref_pre,
    Merge.frame_kernel, Merge.frame_ideal, Merge.frame_ideal_pre, Merge.frame_ref, Merge.frame_ref_pre,
    trivial, Ffn.algebraic, Attn.preserves, Attn.algebraic, Sgu.preserves, Sgu.algebraic, trivial, Merge.algebraic⟩

end Cert.Proof

end
